-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.PackStatement Cert.KernelIdeal.S256x128
  ∧ IdealRules.bf16_pair.Statement Cert.KernelIdeal.S1x1x256x2x128 Cert.KernelIdeal.S1x1x256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x14336 : Shape := ⟨3, ![2, 128, 14336]⟩
abbrev S2x128x112 : Shape := ⟨3, ![2, 128, 112]⟩
abbrev S14336x3584 : Shape := ⟨2, ![14336, 3584]⟩
abbrev S112x28 : Shape := ⟨2, ![112, 28]⟩
abbrev S2x128x3584 : Shape := ⟨3, ![2, 128, 3584]⟩
abbrev S3584 : Shape := ⟨1, ![3584]⟩
abbrev S3584x8192 : Shape := ⟨2, ![3584, 8192]⟩
abbrev S28x64 : Shape := ⟨2, ![28, 64]⟩
abbrev S2x128 : Shape := ⟨2, ![2, 128]⟩
abbrev S128 : Shape := ⟨1, ![128]⟩
abbrev S_ : Shape := ⟨0, ![]⟩
abbrev S256x14336 : Shape := ⟨2, ![256, 14336]⟩
abbrev S256x112 : Shape := ⟨2, ![256, 112]⟩
abbrev S256x3584 : Shape := ⟨2, ![256, 3584]⟩
abbrev S28x128 : Shape := ⟨2, ![28, 128]⟩
abbrev S1x128 : Shape := ⟨2, ![1, 128]⟩
abbrev S256x16x256 : Shape := ⟨3, ![256, 16, 256]⟩
abbrev S256x8x256 : Shape := ⟨3, ![256, 8, 256]⟩
abbrev S256x28 : Shape := ⟨2, ![256, 28]⟩
abbrev S12x512x2048 : Shape := ⟨3, ![12, 512, 2048]⟩
abbrev S28x256x512 : Shape := ⟨3, ![28, 256, 512]⟩
abbrev S256x128 : Shape := ⟨2, ![256, 128]⟩
abbrev S56x256x256 : Shape := ⟨3, ![56, 256, 256]⟩
abbrev S14x256x256 : Shape := ⟨3, ![14, 256, 256]⟩
abbrev S4x2x256x8x128 : Shape := ⟨5, ![4, 2, 256, 8, 128]⟩
abbrev S12 : Shape := ⟨1, ![12]⟩
abbrev S28 : Shape := ⟨1, ![28]⟩
abbrev S5 : Shape := ⟨1, ![5]⟩
abbrev S7 : Shape := ⟨1, ![7]⟩
abbrev S1 : Shape := ⟨1, ![1]⟩
abbrev S1x256x512 : Shape := ⟨3, ![1, 256, 512]⟩
abbrev S256x512 : Shape := ⟨2, ![256, 512]⟩
abbrev S1x512x2048 : Shape := ⟨3, ![1, 512, 2048]⟩
abbrev S512x2048 : Shape := ⟨2, ![512, 2048]⟩
abbrev S1x256x128 : Shape := ⟨3, ![1, 256, 128]⟩
abbrev S256x1 : Shape := ⟨2, ![256, 1]⟩
abbrev S1x128x128 : Shape := ⟨3, ![1, 128, 128]⟩
abbrev S128x128 : Shape := ⟨2, ![128, 128]⟩
abbrev S1x1 : Shape := ⟨2, ![1, 1]⟩
abbrev S128x256 : Shape := ⟨2, ![128, 256]⟩
abbrev S256x256 : Shape := ⟨2, ![256, 256]⟩
abbrev S1x512x1536 : Shape := ⟨3, ![1, 512, 1536]⟩
abbrev S512x1536 : Shape := ⟨2, ![512, 1536]⟩
abbrev S1x256x256 : Shape := ⟨3, ![1, 256, 256]⟩
abbrev S256 : Shape := ⟨1, ![256]⟩
abbrev S1x1x256x8x128 : Shape := ⟨5, ![1, 1, 256, 8, 128]⟩
abbrev S256x8x128 : Shape := ⟨3, ![256, 8, 128]⟩
abbrev S2048x128 : Shape := ⟨2, ![2048, 128]⟩
abbrev S1024x128 : Shape := ⟨2, ![1024, 128]⟩
abbrev S1x1x256x2x128 : Shape := ⟨5, ![1, 1, 256, 2, 128]⟩
abbrev S1x1x256x1x128 : Shape := ⟨5, ![1, 1, 256, 1, 128]⟩

abbrev nBuf : Space → Nat
  | .hbm => 36
  | .vmem => 18
  | .smem => 2
  | _ => 0

abbrev bufTy : (tb : Table) → Fin (tcTables nBuf tb) → BufTy
  | .hbm, ⟨0, _⟩ => ⟨S2x128x14336, .fp8e4m3⟩
  | .hbm, ⟨1, _⟩ => ⟨S2x128x112, .f32⟩
  | .hbm, ⟨2, _⟩ => ⟨S14336x3584, .fp8e4m3⟩
  | .hbm, ⟨3, _⟩ => ⟨S112x28, .f32⟩
  | .hbm, ⟨4, _⟩ => ⟨S2x128x3584, .bf16⟩
  | .hbm, ⟨5, _⟩ => ⟨S3584, .f32⟩
  | .hbm, ⟨6, _⟩ => ⟨S3584x8192, .fp8e4m3⟩
  | .hbm, ⟨7, _⟩ => ⟨S28x64, .f32⟩
  | .hbm, ⟨8, _⟩ => ⟨S2x128, .i32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S256x14336, .fp8e4m3⟩
  | .hbm, ⟨26, _⟩ => ⟨S256x112, .f32⟩
  | .hbm, ⟨27, _⟩ => ⟨S256x3584, .bf16⟩
  | .hbm, ⟨28, _⟩ => ⟨S28x128, .f32⟩
  | .hbm, ⟨29, _⟩ => ⟨S1x128, .f32⟩
  | .hbm, ⟨30, _⟩ => ⟨S256x3584, .bf16⟩
  | .hbm, ⟨31, _⟩ => ⟨S256x16x256, .bf16⟩
  | .hbm, ⟨32, _⟩ => ⟨S256x8x256, .bf16⟩
  | .hbm, ⟨33, _⟩ => ⟨S256x8x256, .bf16⟩
  | .hbm, ⟨34, _⟩ => ⟨S256x3584, .fp8e4m3⟩
  | .hbm, ⟨35, _⟩ => ⟨S256x28, .f32⟩
  | .local _ .vmem, ⟨0, _⟩ => ⟨S12x512x2048, .fp8e4m3⟩
  | .local _ .vmem, ⟨1, _⟩ => ⟨S28x256x512, .fp8e4m3⟩
  | .local _ .vmem, ⟨2, _⟩ => ⟨S256x112, .f32⟩
  | .local _ .vmem, ⟨3, _⟩ => ⟨S256x128, .f32⟩
  | .local _ .vmem, ⟨4, _⟩ => ⟨S56x256x256, .bf16⟩
  | .local _ .vmem, ⟨5, _⟩ => ⟨S256x3584, .bf16⟩
  | .local _ .vmem, ⟨6, _⟩ => ⟨S28x128, .f32⟩
  | .local _ .vmem, ⟨7, _⟩ => ⟨S2x128, .i32⟩
  | .local _ .vmem, ⟨8, _⟩ => ⟨S1x128, .f32⟩
  | .local _ .vmem, ⟨9, _⟩ => ⟨S14x256x256, .bf16⟩
  | .local _ .vmem, ⟨10, _⟩ => ⟨S256x128, .f32⟩
  | .local _ .vmem, ⟨11, _⟩ => ⟨S256x128, .f32⟩
  | .local _ .vmem, ⟨12, _⟩ => ⟨S14x256x256, .fp8e4m3⟩
  | .local _ .vmem, ⟨13, _⟩ => ⟨S14x256x256, .bf16⟩
  | .local _ .vmem, ⟨14, _⟩ => ⟨S256x28, .f32⟩
  | .local _ .vmem, ⟨15, _⟩ => ⟨S256x128, .f32⟩
  | .local _ .vmem, ⟨16, _⟩ => ⟨S256x128, .f32⟩
  | .local _ .vmem, ⟨17, _⟩ => ⟨S4x2x256x8x128, .bf16⟩
  | .local _ .smem, ⟨0, _⟩ => ⟨S112x28, .f32⟩
  | .local _ .smem, ⟨1, _⟩ => ⟨S28x64, .f32⟩
  | _, _ => ⟨S2x128x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [BitOps F]

abbrev grid0 : Pipeline.Grid := .none

def k0_mult1 : BitVec 32 :=
  let c0_i32_0_r0 : BitVec 32 := 0#32
  c0_i32_0_r0
def k0_off1 (c0_i32_6_r0 : BitVec 32) : Fin 1 → Nat :=
  let c12_i32_r0 : BitVec 32 := 12#32
  let v8_r0 : BitVec 32 := Scalar.remsi c0_i32_6_r0 c12_i32_r0
  ![v8_r0.toNat]
def k0_off1_at (r : Fin 17) : BitVec 32 :=
  if r.val < 8 then
    if r.val < 4 then
      if r.val < 2 then
        if r.val < 1 then
          0#32
        else
          1#32
      else
        if r.val < 3 then
          2#32
        else
          3#32
    else
      if r.val < 6 then
        if r.val < 5 then
          4#32
        else
          5#32
      else
        if r.val < 7 then
          6#32
        else
          7#32
  else
    if r.val < 12 then
      if r.val < 10 then
        if r.val < 9 then
          8#32
        else
          9#32
      else
        if r.val < 11 then
          10#32
        else
          28#32
    else
      if r.val < 14 then
        if r.val < 13 then
          38#32
        else
          29#32
      else
        if r.val < 15 then
          39#32
        else
          if r.val < 16 then
            56#32
          else
            66#32
def k0_off2 (c0_i32_6_r0 : BitVec 32) : Fin 3 → Nat :=
  let c12_i32_r0 : BitVec 32 := 12#32
  let v8_r0 : BitVec 32 := Scalar.remsi c0_i32_6_r0 c12_i32_r0
  let c0_i32_7_r0 : BitVec 32 := 0#32
  let c0_i32_8_r0 : BitVec 32 := 0#32
  ![v8_r0.toNat, 0, 0]
def k0_off2_at (r : Fin 13) : BitVec 32 :=
  if r.val < 6 then
    if r.val < 3 then
      if r.val < 1 then
        0#32
      else
        if r.val < 2 then
          1#32
        else
          2#32
    else
      if r.val < 4 then
        3#32
      else
        if r.val < 5 then
          4#32
        else
          5#32
  else
    if r.val < 9 then
      if r.val < 7 then
        6#32
      else
        if r.val < 8 then
          7#32
        else
          8#32
    else
      if r.val < 11 then
        if r.val < 10 then
          9#32
        else
          10#32
      else
        if r.val < 12 then
          56#32
        else
          66#32
def k0_mult2 : BitVec 32 :=
  let c512_i32_r0 : BitVec 32 := 512#32
  c512_i32_r0
def k0_mult3 : BitVec 32 :=
  let c1024_i32_r0 : BitVec 32 := 1024#32
  c1024_i32_r0
def k0_mult4 : BitVec 32 :=
  let c1536_i32_r0 : BitVec 32 := 1536#32
  c1536_i32_r0
def k0_mult5 : BitVec 32 :=
  let c2048_i32_r0 : BitVec 32 := 2048#32
  c2048_i32_r0
def k0_mult6 : BitVec 32 :=
  let c2560_i32_r0 : BitVec 32 := 2560#32
  c2560_i32_r0
def k0_mult7 : BitVec 32 :=
  let c3072_i32_r0 : BitVec 32 := 3072#32
  c3072_i32_r0
def k0_mult8 : BitVec 32 :=
  let c3584_i32_r0 : BitVec 32 := 3584#32
  c3584_i32_r0
def k0_mult9 : BitVec 32 :=
  let c4096_i32_r0 : BitVec 32 := 4096#32
  c4096_i32_r0
def k0_mult10 : BitVec 32 :=
  let c4608_i32_r0 : BitVec 32 := 4608#32
  c4608_i32_r0
def k0_mult11 : BitVec 32 :=
  let c5120_i32_r0 : BitVec 32 := 5120#32
  c5120_i32_r0
def k0_mult12 : BitVec 32 :=
  let c5632_i32_r0 : BitVec 32 := 5632#32
  c5632_i32_r0
def k0_mult13 : BitVec 32 :=
  let c6144_i32_r0 : BitVec 32 := 6144#32
  c6144_i32_r0
def k0_mult14 : BitVec 32 :=
  let c6656_i32_r0 : BitVec 32 := 6656#32
  c6656_i32_r0
def k0_mult15 : BitVec 32 :=
  let c7168_i32_r0 : BitVec 32 := 7168#32
  c7168_i32_r0
def k0_mult16 : BitVec 32 :=
  let c7680_i32_r0 : BitVec 32 := 7680#32
  c7680_i32_r0
def k0_mult17 : BitVec 32 :=
  let c8192_i32_r0 : BitVec 32 := 8192#32
  c8192_i32_r0
def k0_mult18 : BitVec 32 :=
  let c8704_i32_r0 : BitVec 32 := 8704#32
  c8704_i32_r0
def k0_mult19 : BitVec 32 :=
  let c9216_i32_r0 : BitVec 32 := 9216#32
  c9216_i32_r0
def k0_mult20 : BitVec 32 :=
  let c9728_i32_r0 : BitVec 32 := 9728#32
  c9728_i32_r0
def k0_mult21 : BitVec 32 :=
  let c10240_i32_r0 : BitVec 32 := 10240#32
  c10240_i32_r0
def k0_mult22 : BitVec 32 :=
  let c10752_i32_r0 : BitVec 32 := 10752#32
  c10752_i32_r0
def k0_mult23 : BitVec 32 :=
  let c11264_i32_r0 : BitVec 32 := 11264#32
  c11264_i32_r0
def k0_mult24 : BitVec 32 :=
  let c11776_i32_r0 : BitVec 32 := 11776#32
  c11776_i32_r0
def k0_mult25 : BitVec 32 :=
  let c12288_i32_r0 : BitVec 32 := 12288#32
  c12288_i32_r0
def k0_mult26 : BitVec 32 :=
  let c12800_i32_r0 : BitVec 32 := 12800#32
  c12800_i32_r0
def k0_mult27 : BitVec 32 :=
  let c13312_i32_r0 : BitVec 32 := 13312#32
  c13312_i32_r0
def k0_mult28 : BitVec 32 :=
  let c13824_i32_r0 : BitVec 32 := 13824#32
  c13824_i32_r0
def k0_mult29 : BitVec 32 :=
  let c0_i32_190_r0 : BitVec 32 := 0#32
  c0_i32_190_r0
def k0_off3 (c0_i32_232_r0 : BitVec 32) : Fin 3 → Nat :=
  let c12_i32_233_r0 : BitVec 32 := 12#32
  let v315_r0 : BitVec 32 := Scalar.remsi c0_i32_232_r0 c12_i32_233_r0
  let v316_r0 : Index := Scalar.indexCast v315_r0
  let c0_234_r0 : Index := 0#32
  let c0_235_r0 : Index := 0#32
  ![v316_r0.toNat, 0, 0]
def k0_off3_at (r : Fin 4) : BitVec 32 :=
  if r.val < 2 then
    if r.val < 1 then
      0#32
    else
      28#32
  else
    if r.val < 3 then
      29#32
    else
      56#32
def k0_off4 (c0_i32_232_r0 : BitVec 32) : Fin 3 → Nat :=
  let c12_i32_233_r0 : BitVec 32 := 12#32
  let v315_r0 : BitVec 32 := Scalar.remsi c0_i32_232_r0 c12_i32_233_r0
  let v324_r0 : Index := Scalar.indexCast v315_r0
  let c0_238_r0 : Index := 0#32
  let c128_239_r0 : Index := 128#32
  ![v324_r0.toNat, 0, 128]
def k0_off4_at (r : Fin 4) : BitVec 32 :=
  if r.val < 2 then
    if r.val < 1 then
      0#32
    else
      28#32
  else
    if r.val < 3 then
      29#32
    else
      56#32
def k0_off5 (c0_i32_232_r0 : BitVec 32) : Fin 3 → Nat :=
  let c12_i32_233_r0 : BitVec 32 := 12#32
  let v315_r0 : BitVec 32 := Scalar.remsi c0_i32_232_r0 c12_i32_233_r0
  let v333_r0 : Index := Scalar.indexCast v315_r0
  let c128_242_r0 : Index := 128#32
  let c0_243_r0 : Index := 0#32
  ![v333_r0.toNat, 128, 0]
def k0_off5_at (r : Fin 4) : BitVec 32 :=
  if r.val < 2 then
    if r.val < 1 then
      0#32
    else
      28#32
  else
    if r.val < 3 then
      29#32
    else
      56#32
def k0_off6 (c0_i32_232_r0 : BitVec 32) : Fin 3 → Nat :=
  let c12_i32_233_r0 : BitVec 32 := 12#32
  let v315_r0 : BitVec 32 := Scalar.remsi c0_i32_232_r0 c12_i32_233_r0
  let v341_r0 : Index := Scalar.indexCast v315_r0
  let c128_246_r0 : Index := 128#32
  let c128_247_r0 : Index := 128#32
  ![v341_r0.toNat, 128, 128]
def k0_off6_at (r : Fin 4) : BitVec 32 :=
  if r.val < 2 then
    if r.val < 1 then
      0#32
    else
      28#32
  else
    if r.val < 3 then
      29#32
    else
      56#32
def k0_off7 (c0_i32_232_r0 : BitVec 32) : Fin 3 → Nat :=
  let c12_i32_233_r0 : BitVec 32 := 12#32
  let v315_r0 : BitVec 32 := Scalar.remsi c0_i32_232_r0 c12_i32_233_r0
  let v351_r0 : Index := Scalar.indexCast v315_r0
  let c0_250_r0 : Index := 0#32
  let c256_251_r0 : Index := 256#32
  ![v351_r0.toNat, 0, 256]
def k0_off7_at (r : Fin 4) : BitVec 32 :=
  if r.val < 2 then
    if r.val < 1 then
      0#32
    else
      28#32
  else
    if r.val < 3 then
      29#32
    else
      56#32
def k0_off8 (c0_i32_232_r0 : BitVec 32) : Fin 3 → Nat :=
  let c12_i32_233_r0 : BitVec 32 := 12#32
  let v315_r0 : BitVec 32 := Scalar.remsi c0_i32_232_r0 c12_i32_233_r0
  let v359_r0 : Index := Scalar.indexCast v315_r0
  let c0_254_r0 : Index := 0#32
  let c384_255_r0 : Index := 384#32
  ![v359_r0.toNat, 0, 384]
def k0_off8_at (r : Fin 4) : BitVec 32 :=
  if r.val < 2 then
    if r.val < 1 then
      0#32
    else
      28#32
  else
    if r.val < 3 then
      29#32
    else
      56#32
def k0_off9 (c0_i32_232_r0 : BitVec 32) : Fin 3 → Nat :=
  let c12_i32_233_r0 : BitVec 32 := 12#32
  let v315_r0 : BitVec 32 := Scalar.remsi c0_i32_232_r0 c12_i32_233_r0
  let v368_r0 : Index := Scalar.indexCast v315_r0
  let c128_258_r0 : Index := 128#32
  let c256_259_r0 : Index := 256#32
  ![v368_r0.toNat, 128, 256]
def k0_off9_at (r : Fin 4) : BitVec 32 :=
  if r.val < 2 then
    if r.val < 1 then
      0#32
    else
      28#32
  else
    if r.val < 3 then
      29#32
    else
      56#32
def k0_off10 (c0_i32_232_r0 : BitVec 32) : Fin 3 → Nat :=
  let c12_i32_233_r0 : BitVec 32 := 12#32
  let v315_r0 : BitVec 32 := Scalar.remsi c0_i32_232_r0 c12_i32_233_r0
  let v376_r0 : Index := Scalar.indexCast v315_r0
  let c128_262_r0 : Index := 128#32
  let c384_263_r0 : Index := 384#32
  ![v376_r0.toNat, 128, 384]
def k0_off10_at (r : Fin 4) : BitVec 32 :=
  if r.val < 2 then
    if r.val < 1 then
      0#32
    else
      28#32
  else
    if r.val < 3 then
      29#32
    else
      56#32
@[reducible] def k0_t1_loop : Scf.Loop 32 :=
  let c0_i32_267_r0 : BitVec 32 := 0#32
  let c27_i32_268_r0 : BitVec 32 := 27#32
  let v386_r0 : BitVec 32 := Scalar.addi c0_i32_267_r0 c27_i32_268_r0
  let c1_i32_269_r0 : BitVec 32 := 1#32
  ⟨c0_i32_267_r0, v386_r0, c1_i32_269_r0⟩
def k0_mult30 (k0_t1 : Fin k0_t1_loop.trips) : BitVec 32 :=
  let c0_i32_267_r0 : BitVec 32 := 0#32
  let c1_i32_269_r0 : BitVec 32 := 1#32
  let arg38_r0 : BitVec 32 := Scf.iv c0_i32_267_r0 c1_i32_269_r0 k0_t1
  let c1_i32_2300_r0 : BitVec 32 := 1#32
  let v3864_r0 : BitVec 32 := Scalar.addi arg38_r0 c1_i32_2300_r0
  let c512_i32_2301_r0 : BitVec 32 := 512#32
  let v3865_r0 : BitVec 32 := Scalar.muli v3864_r0 c512_i32_2301_r0
  v3865_r0
def k0_off11 (k0_t1 : Fin k0_t1_loop.trips) : Fin 1 → Nat :=
  let c0_i32_267_r0 : BitVec 32 := 0#32
  let c1_i32_269_r0 : BitVec 32 := 1#32
  let arg38_r0 : BitVec 32 := Scf.iv c0_i32_267_r0 c1_i32_269_r0 k0_t1
  let c1_i32_2300_r0 : BitVec 32 := 1#32
  let v3864_r0 : BitVec 32 := Scalar.addi arg38_r0 c1_i32_2300_r0
  ![v3864_r0.toNat]
def k0_off12 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2300_r0 : BitVec 32 := 1#32
  let v3864_r0 : BitVec 32 := Scalar.addi arg38_r0 c1_i32_2300_r0
  let c0_i32_2302_r0 : BitVec 32 := 0#32
  let c0_i32_2303_r0 : BitVec 32 := 0#32
  ![v3864_r0.toNat, 0, 0]
def k0_off13 (k0_t1 : Fin k0_t1_loop.trips) : Fin 2 → Nat :=
  let c0_i32_2304_r0 : BitVec 32 := 0#32
  let c0_i32_267_r0 : BitVec 32 := 0#32
  let c1_i32_269_r0 : BitVec 32 := 1#32
  let arg38_r0 : BitVec 32 := Scf.iv c0_i32_267_r0 c1_i32_269_r0 k0_t1
  let c1_i32_2300_r0 : BitVec 32 := 1#32
  let v3864_r0 : BitVec 32 := Scalar.addi arg38_r0 c1_i32_2300_r0
  let c512_i32_2301_r0 : BitVec 32 := 512#32
  let v3865_r0 : BitVec 32 := Scalar.muli v3864_r0 c512_i32_2301_r0
  let v3866_r0 : BitVec 32 := v3865_r0
  ![0, v3866_r0.toNat]
def k0_off14 (k0_t1 : Fin k0_t1_loop.trips) : Fin 1 → Nat :=
  let c0_i32_267_r0 : BitVec 32 := 0#32
  let c1_i32_269_r0 : BitVec 32 := 1#32
  let arg38_r0 : BitVec 32 := Scf.iv c0_i32_267_r0 c1_i32_269_r0 k0_t1
  let c1_i32_2305_r0 : BitVec 32 := 1#32
  let v3872_r0 : BitVec 32 := Scalar.addi arg38_r0 c1_i32_2305_r0
  let c12_i32_2306_r0 : BitVec 32 := 12#32
  let v3873_r0 : BitVec 32 := Scalar.remsi v3872_r0 c12_i32_2306_r0
  ![v3873_r0.toNat]
def k0_off15 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2305_r0 : BitVec 32 := 1#32
  let v3872_r0 : BitVec 32 := Scalar.addi arg38_r0 c1_i32_2305_r0
  let c12_i32_2306_r0 : BitVec 32 := 12#32
  let v3873_r0 : BitVec 32 := Scalar.remsi v3872_r0 c12_i32_2306_r0
  let c0_i32_2308_r0 : BitVec 32 := 0#32
  let c0_i32_2309_r0 : BitVec 32 := 0#32
  ![v3873_r0.toNat, 0, 0]
def k0_off16 (k0_t1 : Fin k0_t1_loop.trips) : Fin 2 → Nat :=
  let c0_i32_267_r0 : BitVec 32 := 0#32
  let c1_i32_269_r0 : BitVec 32 := 1#32
  let arg38_r0 : BitVec 32 := Scf.iv c0_i32_267_r0 c1_i32_269_r0 k0_t1
  let c1_i32_2305_r0 : BitVec 32 := 1#32
  let v3872_r0 : BitVec 32 := Scalar.addi arg38_r0 c1_i32_2305_r0
  let c512_i32_2307_r0 : BitVec 32 := 512#32
  let v3874_r0 : BitVec 32 := Scalar.muli v3872_r0 c512_i32_2307_r0
  let c0_i32_2310_r0 : BitVec 32 := 0#32
  ![v3874_r0.toNat, 0]
def k0_cond1 (k0_t1 : Fin k0_t1_loop.trips) : BitVec 1 :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c28_i32_2312_r0 : BitVec 32 := 28#32
  let v3881_r0 : BitVec 1 := Scalar.cmpi .slt v3880_r0 c28_i32_2312_r0
  let v3882_r0 : BitVec 32 := Scalar.extui v3881_r0
  let c0_i32_2313_r0 : BitVec 32 := 0#32
  let v3883_r0 : BitVec 1 := Scalar.cmpi .ne v3882_r0 c0_i32_2313_r0
  v3883_r0

def k0_off17 (k0_t1 : Fin k0_t1_loop.trips) : Fin 1 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  ![v4827_r0.toNat]
def k0_off18 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  let c0_i32_2778_r0 : BitVec 32 := 0#32
  let c0_i32_2779_r0 : BitVec 32 := 0#32
  ![v4827_r0.toNat, 0, 0]
def k0_off19 (k0_t1 : Fin k0_t1_loop.trips) : Fin 2 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c512_i32_2777_r0 : BitVec 32 := 512#32
  let v4828_r0 : BitVec 32 := Scalar.muli v3880_r0 c512_i32_2777_r0
  let c0_i32_2780_r0 : BitVec 32 := 0#32
  ![v4828_r0.toNat, 0]
def k0_cond2 (k0_t1 : Fin k0_t1_loop.trips) : BitVec 1 :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c28_i32_2314_r0 : BitVec 32 := 28#32
  let v3884_r0 : BitVec 1 := Scalar.cmpi .sge v3880_r0 c28_i32_2314_r0
  let c56_i32_2315_r0 : BitVec 32 := 56#32
  let v3885_r0 : BitVec 1 := Scalar.cmpi .slt v3880_r0 c56_i32_2315_r0
  let v3886_r0 : BitVec 1 := Scalar.andi v3884_r0 v3885_r0
  let v3887_r0 : BitVec 32 := Scalar.extui v3886_r0
  let c0_i32_2316_r0 : BitVec 32 := 0#32
  let v3888_r0 : BitVec 1 := Scalar.cmpi .ne v3887_r0 c0_i32_2316_r0
  v3888_r0

def k0_off20 (k0_t1 : Fin k0_t1_loop.trips) : Fin 1 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  ![v4827_r0.toNat]
def k0_off21 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  let c0_i32_2779_r0 : BitVec 32 := 0#32
  let c0_i32_2780_r0 : BitVec 32 := 0#32
  ![v4827_r0.toNat, 0, 0]
def k0_off22 (k0_t1 : Fin k0_t1_loop.trips) : Fin 2 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c28_i32_2777_r0 : BitVec 32 := 28#32
  let v4828_r0 : BitVec 32 := Scalar.subi v3880_r0 c28_i32_2777_r0
  let c512_i32_2778_r0 : BitVec 32 := 512#32
  let v4829_r0 : BitVec 32 := Scalar.muli v4828_r0 c512_i32_2778_r0
  let c2048_i32_2781_r0 : BitVec 32 := 2048#32
  ![v4829_r0.toNat, 2048]
def k0_cond3 (k0_t1 : Fin k0_t1_loop.trips) : BitVec 1 :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c56_i32_2317_r0 : BitVec 32 := 56#32
  let v3889_r0 : BitVec 1 := Scalar.cmpi .sge v3880_r0 c56_i32_2317_r0
  let c84_i32_r0 : BitVec 32 := 84#32
  let v3890_r0 : BitVec 1 := Scalar.cmpi .slt v3880_r0 c84_i32_r0
  let v3891_r0 : BitVec 1 := Scalar.andi v3889_r0 v3890_r0
  let v3892_r0 : BitVec 32 := Scalar.extui v3891_r0
  let c0_i32_2318_r0 : BitVec 32 := 0#32
  let v3893_r0 : BitVec 1 := Scalar.cmpi .ne v3892_r0 c0_i32_2318_r0
  v3893_r0

def k0_mult31 (k0_t1 : Fin k0_t1_loop.trips) : BitVec 32 :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c56_i32_2777_r0 : BitVec 32 := 56#32
  let v4828_r0 : BitVec 32 := Scalar.subi v3880_r0 c56_i32_2777_r0
  let c7_i32_2780_r0 : BitVec 32 := 7#32
  let v4831_r0 : BitVec 32 := Scalar.divsi v4828_r0 c7_i32_2780_r0
  let c2048_i32_2781_r0 : BitVec 32 := 2048#32
  let v4832_r0 : BitVec 32 := Scalar.muli v4831_r0 c2048_i32_2781_r0
  v4832_r0
def k0_off23 (k0_t1 : Fin k0_t1_loop.trips) : Fin 1 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  ![v4827_r0.toNat]
def k0_off24 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c12_i32_2776_r0 : BitVec 32 := 12#32
  let v4827_r0 : BitVec 32 := Scalar.remsi v3880_r0 c12_i32_2776_r0
  let c0_i32_2782_r0 : BitVec 32 := 0#32
  let c0_i32_2783_r0 : BitVec 32 := 0#32
  ![v4827_r0.toNat, 0, 0]
def k0_off25 (k0_t1 : Fin k0_t1_loop.trips) : Fin 2 → Nat :=
  let c0_i32_267_r0 : BitVec 32 := 0#32
  let c1_i32_269_r0 : BitVec 32 := 1#32
  let arg38_r0 : BitVec 32 := Scf.iv c0_i32_267_r0 c1_i32_269_r0 k0_t1
  let c11_i32_2311_r0 : BitVec 32 := 11#32
  let v3880_r0 : BitVec 32 := Scalar.addi arg38_r0 c11_i32_2311_r0
  let c56_i32_2777_r0 : BitVec 32 := 56#32
  let v4828_r0 : BitVec 32 := Scalar.subi v3880_r0 c56_i32_2777_r0
  let c7_i32_2778_r0 : BitVec 32 := 7#32
  let v4829_r0 : BitVec 32 := Scalar.remsi v4828_r0 c7_i32_2778_r0
  let c512_i32_2779_r0 : BitVec 32 := 512#32
  let v4830_r0 : BitVec 32 := Scalar.muli v4829_r0 c512_i32_2779_r0
  let c7_i32_2780_r0 : BitVec 32 := 7#32
  let v4831_r0 : BitVec 32 := Scalar.divsi v4828_r0 c7_i32_2780_r0
  let c2048_i32_2781_r0 : BitVec 32 := 2048#32
  let v4832_r0 : BitVec 32 := Scalar.muli v4831_r0 c2048_i32_2781_r0
  let v4833_r0 : BitVec 32 := v4832_r0
  ![v4830_r0.toNat, v4833_r0.toNat]
def k0_off26 (k0_t1 : Fin k0_t1_loop.trips) (c0_i32_2323_r0 : BitVec 32) : Fin 3 → Nat :=
  let c0_i32_267_r0 : BitVec 32 := 0#32
  let c1_i32_269_r0 : BitVec 32 := 1#32
  let arg38_r0 : BitVec 32 := Scf.iv c0_i32_267_r0 c1_i32_269_r0 k0_t1
  let c2_i32_2322_r0 : BitVec 32 := 2#32
  let v3897_r0 : BitVec 32 := Scalar.muli arg38_r0 c2_i32_2322_r0
  let v3898_r0 : BitVec 32 := Scalar.addi v3897_r0 c0_i32_2323_r0
  let v3899_r0 : Index := Scalar.indexCast v3898_r0
  let c0_2324_r0 : Index := 0#32
  let c0_2325_r0 : Index := 0#32
  ![v3899_r0.toNat, 0, 0]
def k0_off27 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3909_r0 : Index := Scalar.indexCast v3896_r0
  let c0_2332_r0 : Index := 0#32
  let c512_2333_r0 : Index := 512#32
  ![v3909_r0.toNat, 0, 512]
def k0_off28 (k0_t1 : Fin k0_t1_loop.trips) (c0_i32_2334_r0 : BitVec 32) (c0_i32_2335_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2330_r0 : BitVec 32 := 2#32
  let v3907_r0 : BitVec 32 := Scalar.muli arg38_r0 c2_i32_2330_r0
  let c2_i32_2331_r0 : BitVec 32 := 2#32
  let v3908_r0 : BitVec 32 := Scalar.muli v3907_r0 c2_i32_2331_r0
  let v3913_r0 : BitVec 32 := Scalar.addi v3908_r0 c0_i32_2334_r0
  let v3914_r0 : BitVec 32 := Scalar.addi v3913_r0 c0_i32_2335_r0
  let v3915_r0 : Index := Scalar.indexCast v3914_r0
  let c4_2336_r0 : Index := 4#32
  ![v3915_r0.toNat, 4]
def k0_off29 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3920_r0 : Index := Scalar.indexCast v3896_r0
  let c0_2337_r0 : Index := 0#32
  let c640_2338_r0 : Index := 640#32
  ![v3920_r0.toNat, 0, 640]
def k0_off30 (k0_t1 : Fin k0_t1_loop.trips) (c0_i32_2339_r0 : BitVec 32) (c0_i32_2340_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2330_r0 : BitVec 32 := 2#32
  let v3907_r0 : BitVec 32 := Scalar.muli arg38_r0 c2_i32_2330_r0
  let c2_i32_2331_r0 : BitVec 32 := 2#32
  let v3908_r0 : BitVec 32 := Scalar.muli v3907_r0 c2_i32_2331_r0
  let v3924_r0 : BitVec 32 := Scalar.addi v3908_r0 c0_i32_2339_r0
  let v3925_r0 : BitVec 32 := Scalar.addi v3924_r0 c0_i32_2340_r0
  let v3926_r0 : Index := Scalar.indexCast v3925_r0
  let c5_2341_r0 : Index := 5#32
  ![v3926_r0.toNat, 5]
def k0_off31 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3932_r0 : Index := Scalar.indexCast v3896_r0
  let c128_2342_r0 : Index := 128#32
  let c512_2343_r0 : Index := 512#32
  ![v3932_r0.toNat, 128, 512]
def k0_off32 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3943_r0 : Index := Scalar.indexCast v3896_r0
  let c128_2347_r0 : Index := 128#32
  let c640_2348_r0 : Index := 640#32
  ![v3943_r0.toNat, 128, 640]
def k0_off33 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3958_r0 : Index := Scalar.indexCast v3896_r0
  let c0_2354_r0 : Index := 0#32
  let c768_2355_r0 : Index := 768#32
  ![v3958_r0.toNat, 0, 768]
def k0_off34 (k0_t1 : Fin k0_t1_loop.trips) (c0_i32_2356_r0 : BitVec 32) (c0_i32_2357_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2352_r0 : BitVec 32 := 2#32
  let v3956_r0 : BitVec 32 := Scalar.muli arg38_r0 c2_i32_2352_r0
  let c2_i32_2353_r0 : BitVec 32 := 2#32
  let v3957_r0 : BitVec 32 := Scalar.muli v3956_r0 c2_i32_2353_r0
  let v3962_r0 : BitVec 32 := Scalar.addi v3957_r0 c0_i32_2356_r0
  let v3963_r0 : BitVec 32 := Scalar.addi v3962_r0 c0_i32_2357_r0
  let v3964_r0 : Index := Scalar.indexCast v3963_r0
  let c6_2358_r0 : Index := 6#32
  ![v3964_r0.toNat, 6]
def k0_off35 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3969_r0 : Index := Scalar.indexCast v3896_r0
  let c0_2359_r0 : Index := 0#32
  let c896_2360_r0 : Index := 896#32
  ![v3969_r0.toNat, 0, 896]
def k0_off36 (k0_t1 : Fin k0_t1_loop.trips) (c0_i32_2361_r0 : BitVec 32) (c0_i32_2362_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2352_r0 : BitVec 32 := 2#32
  let v3956_r0 : BitVec 32 := Scalar.muli arg38_r0 c2_i32_2352_r0
  let c2_i32_2353_r0 : BitVec 32 := 2#32
  let v3957_r0 : BitVec 32 := Scalar.muli v3956_r0 c2_i32_2353_r0
  let v3973_r0 : BitVec 32 := Scalar.addi v3957_r0 c0_i32_2361_r0
  let v3974_r0 : BitVec 32 := Scalar.addi v3973_r0 c0_i32_2362_r0
  let v3975_r0 : Index := Scalar.indexCast v3974_r0
  let c7_2363_r0 : Index := 7#32
  ![v3975_r0.toNat, 7]
def k0_off37 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3981_r0 : Index := Scalar.indexCast v3896_r0
  let c128_2364_r0 : Index := 128#32
  let c768_2365_r0 : Index := 768#32
  ![v3981_r0.toNat, 128, 768]
def k0_off38 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v3992_r0 : Index := Scalar.indexCast v3896_r0
  let c128_2369_r0 : Index := 128#32
  let c896_2370_r0 : Index := 896#32
  ![v3992_r0.toNat, 128, 896]
def k0_off39 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4017_r0 : Index := Scalar.indexCast v3896_r0
  let c0_2384_r0 : Index := 0#32
  let c1024_2385_r0 : Index := 1024#32
  ![v4017_r0.toNat, 0, 1024]
def k0_off40 (k0_t1 : Fin k0_t1_loop.trips) (c0_i32_2386_r0 : BitVec 32) (c0_i32_2387_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2382_r0 : BitVec 32 := 2#32
  let v4015_r0 : BitVec 32 := Scalar.muli arg38_r0 c2_i32_2382_r0
  let c2_i32_2383_r0 : BitVec 32 := 2#32
  let v4016_r0 : BitVec 32 := Scalar.muli v4015_r0 c2_i32_2383_r0
  let v4021_r0 : BitVec 32 := Scalar.addi v4016_r0 c0_i32_2386_r0
  let v4022_r0 : BitVec 32 := Scalar.addi v4021_r0 c0_i32_2387_r0
  let v4023_r0 : Index := Scalar.indexCast v4022_r0
  let c8_2388_r0 : Index := 8#32
  ![v4023_r0.toNat, 8]
def k0_off41 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4028_r0 : Index := Scalar.indexCast v3896_r0
  let c0_2389_r0 : Index := 0#32
  let c1152_2390_r0 : Index := 1152#32
  ![v4028_r0.toNat, 0, 1152]
def k0_off42 (k0_t1 : Fin k0_t1_loop.trips) (c0_i32_2391_r0 : BitVec 32) (c0_i32_2392_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2382_r0 : BitVec 32 := 2#32
  let v4015_r0 : BitVec 32 := Scalar.muli arg38_r0 c2_i32_2382_r0
  let c2_i32_2383_r0 : BitVec 32 := 2#32
  let v4016_r0 : BitVec 32 := Scalar.muli v4015_r0 c2_i32_2383_r0
  let v4032_r0 : BitVec 32 := Scalar.addi v4016_r0 c0_i32_2391_r0
  let v4033_r0 : BitVec 32 := Scalar.addi v4032_r0 c0_i32_2392_r0
  let v4034_r0 : Index := Scalar.indexCast v4033_r0
  let c9_2393_r0 : Index := 9#32
  ![v4034_r0.toNat, 9]
def k0_off43 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4040_r0 : Index := Scalar.indexCast v3896_r0
  let c128_2394_r0 : Index := 128#32
  let c1024_2395_r0 : Index := 1024#32
  ![v4040_r0.toNat, 128, 1024]
def k0_off44 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4051_r0 : Index := Scalar.indexCast v3896_r0
  let c128_2399_r0 : Index := 128#32
  let c1152_2400_r0 : Index := 1152#32
  ![v4051_r0.toNat, 128, 1152]
def k0_off45 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4066_r0 : Index := Scalar.indexCast v3896_r0
  let c0_2406_r0 : Index := 0#32
  let c1280_2407_r0 : Index := 1280#32
  ![v4066_r0.toNat, 0, 1280]
def k0_off46 (k0_t1 : Fin k0_t1_loop.trips) (c0_i32_2408_r0 : BitVec 32) (c0_i32_2409_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2404_r0 : BitVec 32 := 2#32
  let v4064_r0 : BitVec 32 := Scalar.muli arg38_r0 c2_i32_2404_r0
  let c2_i32_2405_r0 : BitVec 32 := 2#32
  let v4065_r0 : BitVec 32 := Scalar.muli v4064_r0 c2_i32_2405_r0
  let v4070_r0 : BitVec 32 := Scalar.addi v4065_r0 c0_i32_2408_r0
  let v4071_r0 : BitVec 32 := Scalar.addi v4070_r0 c0_i32_2409_r0
  let v4072_r0 : Index := Scalar.indexCast v4071_r0
  let c10_2410_r0 : Index := 10#32
  ![v4072_r0.toNat, 10]
def k0_off47 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4077_r0 : Index := Scalar.indexCast v3896_r0
  let c0_2411_r0 : Index := 0#32
  let c1408_2412_r0 : Index := 1408#32
  ![v4077_r0.toNat, 0, 1408]
def k0_off48 (k0_t1 : Fin k0_t1_loop.trips) (c0_i32_2413_r0 : BitVec 32) (c0_i32_2414_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2404_r0 : BitVec 32 := 2#32
  let v4064_r0 : BitVec 32 := Scalar.muli arg38_r0 c2_i32_2404_r0
  let c2_i32_2405_r0 : BitVec 32 := 2#32
  let v4065_r0 : BitVec 32 := Scalar.muli v4064_r0 c2_i32_2405_r0
  let v4081_r0 : BitVec 32 := Scalar.addi v4065_r0 c0_i32_2413_r0
  let v4082_r0 : BitVec 32 := Scalar.addi v4081_r0 c0_i32_2414_r0
  let v4083_r0 : Index := Scalar.indexCast v4082_r0
  let c11_2415_r0 : Index := 11#32
  ![v4083_r0.toNat, 11]
def k0_off49 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4089_r0 : Index := Scalar.indexCast v3896_r0
  let c128_2416_r0 : Index := 128#32
  let c1280_2417_r0 : Index := 1280#32
  ![v4089_r0.toNat, 128, 1280]
def k0_off50 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4100_r0 : Index := Scalar.indexCast v3896_r0
  let c128_2421_r0 : Index := 128#32
  let c1408_2422_r0 : Index := 1408#32
  ![v4100_r0.toNat, 128, 1408]
def k0_off51 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4125_r0 : Index := Scalar.indexCast v3896_r0
  let c0_2436_r0 : Index := 0#32
  let c1536_2437_r0 : Index := 1536#32
  ![v4125_r0.toNat, 0, 1536]
def k0_off52 (k0_t1 : Fin k0_t1_loop.trips) (c0_i32_2438_r0 : BitVec 32) (c0_i32_2439_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2434_r0 : BitVec 32 := 2#32
  let v4123_r0 : BitVec 32 := Scalar.muli arg38_r0 c2_i32_2434_r0
  let c2_i32_2435_r0 : BitVec 32 := 2#32
  let v4124_r0 : BitVec 32 := Scalar.muli v4123_r0 c2_i32_2435_r0
  let v4129_r0 : BitVec 32 := Scalar.addi v4124_r0 c0_i32_2438_r0
  let v4130_r0 : BitVec 32 := Scalar.addi v4129_r0 c0_i32_2439_r0
  let v4131_r0 : Index := Scalar.indexCast v4130_r0
  let c12_2440_r0 : Index := 12#32
  ![v4131_r0.toNat, 12]
def k0_off53 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4136_r0 : Index := Scalar.indexCast v3896_r0
  let c0_2441_r0 : Index := 0#32
  let c1664_2442_r0 : Index := 1664#32
  ![v4136_r0.toNat, 0, 1664]
def k0_off54 (k0_t1 : Fin k0_t1_loop.trips) (c0_i32_2443_r0 : BitVec 32) (c0_i32_2444_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2434_r0 : BitVec 32 := 2#32
  let v4123_r0 : BitVec 32 := Scalar.muli arg38_r0 c2_i32_2434_r0
  let c2_i32_2435_r0 : BitVec 32 := 2#32
  let v4124_r0 : BitVec 32 := Scalar.muli v4123_r0 c2_i32_2435_r0
  let v4140_r0 : BitVec 32 := Scalar.addi v4124_r0 c0_i32_2443_r0
  let v4141_r0 : BitVec 32 := Scalar.addi v4140_r0 c0_i32_2444_r0
  let v4142_r0 : Index := Scalar.indexCast v4141_r0
  let c13_2445_r0 : Index := 13#32
  ![v4142_r0.toNat, 13]
def k0_off55 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4148_r0 : Index := Scalar.indexCast v3896_r0
  let c128_2446_r0 : Index := 128#32
  let c1536_2447_r0 : Index := 1536#32
  ![v4148_r0.toNat, 128, 1536]
def k0_off56 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4159_r0 : Index := Scalar.indexCast v3896_r0
  let c128_2451_r0 : Index := 128#32
  let c1664_2452_r0 : Index := 1664#32
  ![v4159_r0.toNat, 128, 1664]
def k0_off57 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4174_r0 : Index := Scalar.indexCast v3896_r0
  let c0_2458_r0 : Index := 0#32
  let c1792_2459_r0 : Index := 1792#32
  ![v4174_r0.toNat, 0, 1792]
def k0_off58 (k0_t1 : Fin k0_t1_loop.trips) (c0_i32_2460_r0 : BitVec 32) (c0_i32_2461_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2456_r0 : BitVec 32 := 2#32
  let v4172_r0 : BitVec 32 := Scalar.muli arg38_r0 c2_i32_2456_r0
  let c2_i32_2457_r0 : BitVec 32 := 2#32
  let v4173_r0 : BitVec 32 := Scalar.muli v4172_r0 c2_i32_2457_r0
  let v4178_r0 : BitVec 32 := Scalar.addi v4173_r0 c0_i32_2460_r0
  let v4179_r0 : BitVec 32 := Scalar.addi v4178_r0 c0_i32_2461_r0
  let v4180_r0 : Index := Scalar.indexCast v4179_r0
  let c14_2462_r0 : Index := 14#32
  ![v4180_r0.toNat, 14]
def k0_off59 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4185_r0 : Index := Scalar.indexCast v3896_r0
  let c0_2463_r0 : Index := 0#32
  let c1920_2464_r0 : Index := 1920#32
  ![v4185_r0.toNat, 0, 1920]
def k0_off60 (k0_t1 : Fin k0_t1_loop.trips) (c0_i32_2465_r0 : BitVec 32) (c0_i32_2466_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2456_r0 : BitVec 32 := 2#32
  let v4172_r0 : BitVec 32 := Scalar.muli arg38_r0 c2_i32_2456_r0
  let c2_i32_2457_r0 : BitVec 32 := 2#32
  let v4173_r0 : BitVec 32 := Scalar.muli v4172_r0 c2_i32_2457_r0
  let v4189_r0 : BitVec 32 := Scalar.addi v4173_r0 c0_i32_2465_r0
  let v4190_r0 : BitVec 32 := Scalar.addi v4189_r0 c0_i32_2466_r0
  let v4191_r0 : Index := Scalar.indexCast v4190_r0
  let c15_2467_r0 : Index := 15#32
  ![v4191_r0.toNat, 15]
def k0_off61 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4197_r0 : Index := Scalar.indexCast v3896_r0
  let c128_2468_r0 : Index := 128#32
  let c1792_2469_r0 : Index := 1792#32
  ![v4197_r0.toNat, 128, 1792]
def k0_off62 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4208_r0 : Index := Scalar.indexCast v3896_r0
  let c128_2473_r0 : Index := 128#32
  let c1920_2474_r0 : Index := 1920#32
  ![v4208_r0.toNat, 128, 1920]
def k0_off63 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4233_r0 : Index := Scalar.indexCast v3896_r0
  let c256_2488_r0 : Index := 256#32
  let c0_2489_r0 : Index := 0#32
  ![v4233_r0.toNat, 256, 0]
def k0_off64 (k0_t1 : Fin k0_t1_loop.trips) (c0_i32_2491_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2486_r0 : BitVec 32 := 2#32
  let v4231_r0 : BitVec 32 := Scalar.muli arg38_r0 c2_i32_2486_r0
  let c2_i32_2487_r0 : BitVec 32 := 2#32
  let v4232_r0 : BitVec 32 := Scalar.muli v4231_r0 c2_i32_2487_r0
  let c2_i32_2490_r0 : BitVec 32 := 2#32
  let v4237_r0 : BitVec 32 := Scalar.addi v4232_r0 c2_i32_2490_r0
  let v4238_r0 : BitVec 32 := Scalar.addi v4237_r0 c0_i32_2491_r0
  let v4239_r0 : Index := Scalar.indexCast v4238_r0
  let c0_2492_r0 : Index := 0#32
  ![v4239_r0.toNat, 0]
def k0_off65 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4244_r0 : Index := Scalar.indexCast v3896_r0
  let c256_2493_r0 : Index := 256#32
  let c128_2494_r0 : Index := 128#32
  ![v4244_r0.toNat, 256, 128]
def k0_off66 (k0_t1 : Fin k0_t1_loop.trips) (c0_i32_2496_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2486_r0 : BitVec 32 := 2#32
  let v4231_r0 : BitVec 32 := Scalar.muli arg38_r0 c2_i32_2486_r0
  let c2_i32_2487_r0 : BitVec 32 := 2#32
  let v4232_r0 : BitVec 32 := Scalar.muli v4231_r0 c2_i32_2487_r0
  let c2_i32_2495_r0 : BitVec 32 := 2#32
  let v4248_r0 : BitVec 32 := Scalar.addi v4232_r0 c2_i32_2495_r0
  let v4249_r0 : BitVec 32 := Scalar.addi v4248_r0 c0_i32_2496_r0
  let v4250_r0 : Index := Scalar.indexCast v4249_r0
  let c1_2497_r0 : Index := 1#32
  ![v4250_r0.toNat, 1]
def k0_off67 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4256_r0 : Index := Scalar.indexCast v3896_r0
  let c384_2498_r0 : Index := 384#32
  let c0_2499_r0 : Index := 0#32
  ![v4256_r0.toNat, 384, 0]
def k0_off68 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4267_r0 : Index := Scalar.indexCast v3896_r0
  let c384_2503_r0 : Index := 384#32
  let c128_2504_r0 : Index := 128#32
  ![v4267_r0.toNat, 384, 128]
def k0_off69 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4282_r0 : Index := Scalar.indexCast v3896_r0
  let c256_2510_r0 : Index := 256#32
  let c256_2511_r0 : Index := 256#32
  ![v4282_r0.toNat, 256, 256]
def k0_off70 (k0_t1 : Fin k0_t1_loop.trips) (c0_i32_2513_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2508_r0 : BitVec 32 := 2#32
  let v4280_r0 : BitVec 32 := Scalar.muli arg38_r0 c2_i32_2508_r0
  let c2_i32_2509_r0 : BitVec 32 := 2#32
  let v4281_r0 : BitVec 32 := Scalar.muli v4280_r0 c2_i32_2509_r0
  let c2_i32_2512_r0 : BitVec 32 := 2#32
  let v4286_r0 : BitVec 32 := Scalar.addi v4281_r0 c2_i32_2512_r0
  let v4287_r0 : BitVec 32 := Scalar.addi v4286_r0 c0_i32_2513_r0
  let v4288_r0 : Index := Scalar.indexCast v4287_r0
  let c2_2514_r0 : Index := 2#32
  ![v4288_r0.toNat, 2]
def k0_off71 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4293_r0 : Index := Scalar.indexCast v3896_r0
  let c256_2515_r0 : Index := 256#32
  let c384_2516_r0 : Index := 384#32
  ![v4293_r0.toNat, 256, 384]
def k0_off72 (k0_t1 : Fin k0_t1_loop.trips) (c0_i32_2518_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c2_i32_2508_r0 : BitVec 32 := 2#32
  let v4280_r0 : BitVec 32 := Scalar.muli arg38_r0 c2_i32_2508_r0
  let c2_i32_2509_r0 : BitVec 32 := 2#32
  let v4281_r0 : BitVec 32 := Scalar.muli v4280_r0 c2_i32_2509_r0
  let c2_i32_2517_r0 : BitVec 32 := 2#32
  let v4297_r0 : BitVec 32 := Scalar.addi v4281_r0 c2_i32_2517_r0
  let v4298_r0 : BitVec 32 := Scalar.addi v4297_r0 c0_i32_2518_r0
  let v4299_r0 : Index := Scalar.indexCast v4298_r0
  let c3_2519_r0 : Index := 3#32
  ![v4299_r0.toNat, 3]
def k0_off73 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4305_r0 : Index := Scalar.indexCast v3896_r0
  let c384_2520_r0 : Index := 384#32
  let c256_2521_r0 : Index := 256#32
  ![v4305_r0.toNat, 384, 256]
def k0_off74 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4316_r0 : Index := Scalar.indexCast v3896_r0
  let c384_2525_r0 : Index := 384#32
  let c384_2526_r0 : Index := 384#32
  ![v4316_r0.toNat, 384, 384]
def k0_off75 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4341_r0 : Index := Scalar.indexCast v3896_r0
  let c256_2540_r0 : Index := 256#32
  let c512_2541_r0 : Index := 512#32
  ![v4341_r0.toNat, 256, 512]
def k0_off76 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4352_r0 : Index := Scalar.indexCast v3896_r0
  let c256_2545_r0 : Index := 256#32
  let c640_2546_r0 : Index := 640#32
  ![v4352_r0.toNat, 256, 640]
def k0_off77 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4364_r0 : Index := Scalar.indexCast v3896_r0
  let c384_2550_r0 : Index := 384#32
  let c512_2551_r0 : Index := 512#32
  ![v4364_r0.toNat, 384, 512]
def k0_off78 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4375_r0 : Index := Scalar.indexCast v3896_r0
  let c384_2555_r0 : Index := 384#32
  let c640_2556_r0 : Index := 640#32
  ![v4375_r0.toNat, 384, 640]
def k0_off79 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4390_r0 : Index := Scalar.indexCast v3896_r0
  let c256_2562_r0 : Index := 256#32
  let c768_2563_r0 : Index := 768#32
  ![v4390_r0.toNat, 256, 768]
def k0_off80 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4401_r0 : Index := Scalar.indexCast v3896_r0
  let c256_2567_r0 : Index := 256#32
  let c896_2568_r0 : Index := 896#32
  ![v4401_r0.toNat, 256, 896]
def k0_off81 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4413_r0 : Index := Scalar.indexCast v3896_r0
  let c384_2572_r0 : Index := 384#32
  let c768_2573_r0 : Index := 768#32
  ![v4413_r0.toNat, 384, 768]
def k0_off82 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4424_r0 : Index := Scalar.indexCast v3896_r0
  let c384_2577_r0 : Index := 384#32
  let c896_2578_r0 : Index := 896#32
  ![v4424_r0.toNat, 384, 896]
def k0_off83 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4449_r0 : Index := Scalar.indexCast v3896_r0
  let c256_2592_r0 : Index := 256#32
  let c1024_2593_r0 : Index := 1024#32
  ![v4449_r0.toNat, 256, 1024]
def k0_off84 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4460_r0 : Index := Scalar.indexCast v3896_r0
  let c256_2597_r0 : Index := 256#32
  let c1152_2598_r0 : Index := 1152#32
  ![v4460_r0.toNat, 256, 1152]
def k0_off85 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4472_r0 : Index := Scalar.indexCast v3896_r0
  let c384_2602_r0 : Index := 384#32
  let c1024_2603_r0 : Index := 1024#32
  ![v4472_r0.toNat, 384, 1024]
def k0_off86 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4483_r0 : Index := Scalar.indexCast v3896_r0
  let c384_2607_r0 : Index := 384#32
  let c1152_2608_r0 : Index := 1152#32
  ![v4483_r0.toNat, 384, 1152]
def k0_off87 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4498_r0 : Index := Scalar.indexCast v3896_r0
  let c256_2614_r0 : Index := 256#32
  let c1280_2615_r0 : Index := 1280#32
  ![v4498_r0.toNat, 256, 1280]
def k0_off88 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4509_r0 : Index := Scalar.indexCast v3896_r0
  let c256_2619_r0 : Index := 256#32
  let c1408_2620_r0 : Index := 1408#32
  ![v4509_r0.toNat, 256, 1408]
def k0_off89 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4521_r0 : Index := Scalar.indexCast v3896_r0
  let c384_2624_r0 : Index := 384#32
  let c1280_2625_r0 : Index := 1280#32
  ![v4521_r0.toNat, 384, 1280]
def k0_off90 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4532_r0 : Index := Scalar.indexCast v3896_r0
  let c384_2629_r0 : Index := 384#32
  let c1408_2630_r0 : Index := 1408#32
  ![v4532_r0.toNat, 384, 1408]
def k0_off91 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4557_r0 : Index := Scalar.indexCast v3896_r0
  let c256_2644_r0 : Index := 256#32
  let c1536_2645_r0 : Index := 1536#32
  ![v4557_r0.toNat, 256, 1536]
def k0_off92 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4568_r0 : Index := Scalar.indexCast v3896_r0
  let c256_2649_r0 : Index := 256#32
  let c1664_2650_r0 : Index := 1664#32
  ![v4568_r0.toNat, 256, 1664]
def k0_off93 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4580_r0 : Index := Scalar.indexCast v3896_r0
  let c384_2654_r0 : Index := 384#32
  let c1536_2655_r0 : Index := 1536#32
  ![v4580_r0.toNat, 384, 1536]
def k0_off94 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4591_r0 : Index := Scalar.indexCast v3896_r0
  let c384_2659_r0 : Index := 384#32
  let c1664_2660_r0 : Index := 1664#32
  ![v4591_r0.toNat, 384, 1664]
def k0_off95 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4606_r0 : Index := Scalar.indexCast v3896_r0
  let c256_2666_r0 : Index := 256#32
  let c1792_2667_r0 : Index := 1792#32
  ![v4606_r0.toNat, 256, 1792]
def k0_off96 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4617_r0 : Index := Scalar.indexCast v3896_r0
  let c256_2671_r0 : Index := 256#32
  let c1920_2672_r0 : Index := 1920#32
  ![v4617_r0.toNat, 256, 1920]
def k0_off97 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4629_r0 : Index := Scalar.indexCast v3896_r0
  let c384_2676_r0 : Index := 384#32
  let c1792_2677_r0 : Index := 1792#32
  ![v4629_r0.toNat, 384, 1792]
def k0_off98 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c12_i32_2321_r0 : BitVec 32 := 12#32
  let v3896_r0 : BitVec 32 := Scalar.remsi arg38_r0 c12_i32_2321_r0
  let v4640_r0 : Index := Scalar.indexCast v3896_r0
  let c384_2681_r0 : Index := 384#32
  let c1920_2682_r0 : Index := 1920#32
  ![v4640_r0.toNat, 384, 1920]
def k0_off99 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4665_r0 : Index := Scalar.indexCast v3895_r0
  let c0_2696_r0 : Index := 0#32
  let c0_2697_r0 : Index := 0#32
  ![v4665_r0.toNat, 0, 0]
def k0_off100 (k0_t1 : Fin k0_t1_loop.trips) (c0_i32_2699_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c2_i32_2694_r0 : BitVec 32 := 2#32
  let v4663_r0 : BitVec 32 := Scalar.muli v3894_r0 c2_i32_2694_r0
  let c2_i32_2695_r0 : BitVec 32 := 2#32
  let v4664_r0 : BitVec 32 := Scalar.muli v4663_r0 c2_i32_2695_r0
  let c0_i32_2698_r0 : BitVec 32 := 0#32
  let v4669_r0 : BitVec 32 := Scalar.addi v4664_r0 c0_i32_2698_r0
  let v4670_r0 : BitVec 32 := Scalar.addi v4669_r0 c0_i32_2699_r0
  let v4671_r0 : Index := Scalar.indexCast v4670_r0
  let c0_2700_r0 : Index := 0#32
  ![v4671_r0.toNat, 0]
def k0_off101 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4676_r0 : Index := Scalar.indexCast v3895_r0
  let c0_2701_r0 : Index := 0#32
  let c128_2702_r0 : Index := 128#32
  ![v4676_r0.toNat, 0, 128]
def k0_off102 (k0_t1 : Fin k0_t1_loop.trips) (c0_i32_2704_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c2_i32_2694_r0 : BitVec 32 := 2#32
  let v4663_r0 : BitVec 32 := Scalar.muli v3894_r0 c2_i32_2694_r0
  let c2_i32_2695_r0 : BitVec 32 := 2#32
  let v4664_r0 : BitVec 32 := Scalar.muli v4663_r0 c2_i32_2695_r0
  let c0_i32_2703_r0 : BitVec 32 := 0#32
  let v4680_r0 : BitVec 32 := Scalar.addi v4664_r0 c0_i32_2703_r0
  let v4681_r0 : BitVec 32 := Scalar.addi v4680_r0 c0_i32_2704_r0
  let v4682_r0 : Index := Scalar.indexCast v4681_r0
  let c1_2705_r0 : Index := 1#32
  ![v4682_r0.toNat, 1]
def k0_off103 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4688_r0 : Index := Scalar.indexCast v3895_r0
  let c128_2706_r0 : Index := 128#32
  let c0_2707_r0 : Index := 0#32
  ![v4688_r0.toNat, 128, 0]
def k0_off104 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4699_r0 : Index := Scalar.indexCast v3895_r0
  let c128_2711_r0 : Index := 128#32
  let c128_2712_r0 : Index := 128#32
  ![v4699_r0.toNat, 128, 128]
def k0_off105 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4714_r0 : Index := Scalar.indexCast v3895_r0
  let c0_2718_r0 : Index := 0#32
  let c256_2719_r0 : Index := 256#32
  ![v4714_r0.toNat, 0, 256]
def k0_off106 (k0_t1 : Fin k0_t1_loop.trips) (c0_i32_2721_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c2_i32_2716_r0 : BitVec 32 := 2#32
  let v4712_r0 : BitVec 32 := Scalar.muli v3894_r0 c2_i32_2716_r0
  let c2_i32_2717_r0 : BitVec 32 := 2#32
  let v4713_r0 : BitVec 32 := Scalar.muli v4712_r0 c2_i32_2717_r0
  let c0_i32_2720_r0 : BitVec 32 := 0#32
  let v4718_r0 : BitVec 32 := Scalar.addi v4713_r0 c0_i32_2720_r0
  let v4719_r0 : BitVec 32 := Scalar.addi v4718_r0 c0_i32_2721_r0
  let v4720_r0 : Index := Scalar.indexCast v4719_r0
  let c2_2722_r0 : Index := 2#32
  ![v4720_r0.toNat, 2]
def k0_off107 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4725_r0 : Index := Scalar.indexCast v3895_r0
  let c0_2723_r0 : Index := 0#32
  let c384_2724_r0 : Index := 384#32
  ![v4725_r0.toNat, 0, 384]
def k0_off108 (k0_t1 : Fin k0_t1_loop.trips) (c0_i32_2726_r0 : BitVec 32) : Fin 2 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c2_i32_2716_r0 : BitVec 32 := 2#32
  let v4712_r0 : BitVec 32 := Scalar.muli v3894_r0 c2_i32_2716_r0
  let c2_i32_2717_r0 : BitVec 32 := 2#32
  let v4713_r0 : BitVec 32 := Scalar.muli v4712_r0 c2_i32_2717_r0
  let c0_i32_2725_r0 : BitVec 32 := 0#32
  let v4729_r0 : BitVec 32 := Scalar.addi v4713_r0 c0_i32_2725_r0
  let v4730_r0 : BitVec 32 := Scalar.addi v4729_r0 c0_i32_2726_r0
  let v4731_r0 : Index := Scalar.indexCast v4730_r0
  let c3_2727_r0 : Index := 3#32
  ![v4731_r0.toNat, 3]
def k0_off109 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4737_r0 : Index := Scalar.indexCast v3895_r0
  let c128_2728_r0 : Index := 128#32
  let c256_2729_r0 : Index := 256#32
  ![v4737_r0.toNat, 128, 256]
def k0_off110 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2319_r0 : BitVec 32 := 1#32
  let v3894_r0 : BitVec 32 := Scalar.addi arg38_r0 c1_i32_2319_r0
  let c12_i32_2320_r0 : BitVec 32 := 12#32
  let v3895_r0 : BitVec 32 := Scalar.remsi v3894_r0 c12_i32_2320_r0
  let v4748_r0 : Index := Scalar.indexCast v3895_r0
  let c128_2733_r0 : Index := 128#32
  let c384_2734_r0 : Index := 384#32
  ![v4748_r0.toNat, 128, 384]
def k0_off111 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let v4762_r0 : Index := Scalar.indexCast v4761_r0
  let c0_2739_r0 : Index := 0#32
  let c0_2740_r0 : Index := 0#32
  ![v4762_r0.toNat, 0, 0]
def k0_off112 (k0_t1 : Fin k0_t1_loop.trips) (c0_i32_2744_r0 : BitVec 32) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let c2_i32_2743_r0 : BitVec 32 := 2#32
  let v4771_r0 : BitVec 32 := Scalar.muli v4761_r0 c2_i32_2743_r0
  let v4772_r0 : BitVec 32 := Scalar.addi v4771_r0 c0_i32_2744_r0
  let v4773_r0 : Index := Scalar.indexCast v4772_r0
  let c0_2745_r0 : Index := 0#32
  let c0_2746_r0 : Index := 0#32
  ![v4773_r0.toNat, 0, 0]
def k0_off113 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let v4777_r0 : Index := Scalar.indexCast v4761_r0
  let c0_2747_r0 : Index := 0#32
  let c128_2748_r0 : Index := 128#32
  ![v4777_r0.toNat, 0, 128]
def k0_off114 (k0_t1 : Fin k0_t1_loop.trips) (c0_i32_2752_r0 : BitVec 32) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let c2_i32_2751_r0 : BitVec 32 := 2#32
  let v4786_r0 : BitVec 32 := Scalar.muli v4761_r0 c2_i32_2751_r0
  let v4787_r0 : BitVec 32 := Scalar.addi v4786_r0 c0_i32_2752_r0
  let v4788_r0 : Index := Scalar.indexCast v4787_r0
  let c0_2753_r0 : Index := 0#32
  let c128_2754_r0 : Index := 128#32
  ![v4788_r0.toNat, 0, 128]
def k0_off115 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let v4792_r0 : Index := Scalar.indexCast v4761_r0
  let c0_2755_r0 : Index := 0#32
  let c256_2756_r0 : Index := 256#32
  ![v4792_r0.toNat, 0, 256]
def k0_off116 (k0_t1 : Fin k0_t1_loop.trips) : Fin 3 → Nat :=
  let c0_i32_267_r0 : BitVec 32 := 0#32
  let c1_i32_269_r0 : BitVec 32 := 1#32
  let arg38_r0 : BitVec 32 := Scf.iv c0_i32_267_r0 c1_i32_269_r0 k0_t1
  let c1_i32_2738_r0 : BitVec 32 := 1#32
  let v4761_r0 : BitVec 32 := Scalar.addi arg38_r0 c1_i32_2738_r0
  let v4807_r0 : Index := Scalar.indexCast v4761_r0
  let c0_2763_r0 : Index := 0#32
  let c384_2764_r0 : Index := 384#32
  ![v4807_r0.toNat, 0, 384]
def k0_off117 (c28_i32_r0 : BitVec 32) : Fin 3 → Nat :=
  let c12_i32_275_r0 : BitVec 32 := 12#32
  let v395_r0 : BitVec 32 := Scalar.remsi c28_i32_r0 c12_i32_275_r0
  let c0_i32_276_r0 : BitVec 32 := 0#32
  let c0_i32_277_r0 : BitVec 32 := 0#32
  ![v395_r0.toNat, 0, 0]
def k0_off117_at (r : Fin 4) : BitVec 32 :=
  if r.val < 2 then
    if r.val < 1 then
      28#32
    else
      38#32
  else
    if r.val < 3 then
      29#32
    else
      39#32
def k0_off118 (c27_i32_287_r0 : BitVec 32) : Fin 3 → Nat :=
  let c12_i32_288_r0 : BitVec 32 := 12#32
  let v408_r0 : BitVec 32 := Scalar.remsi c27_i32_287_r0 c12_i32_288_r0
  let v413_r0 : Index := Scalar.indexCast v408_r0
  let c0_294_r0 : Index := 0#32
  let c512_r0 : Index := 512#32
  ![v413_r0.toNat, 0, 512]
def k0_off118_at (r : Fin 4) : BitVec 32 :=
  if r.val < 2 then
    if r.val < 1 then
      27#32
    else
      28#32
  else
    if r.val < 3 then
      55#32
    else
      83#32
def k0_off119 (c27_i32_287_r0 : BitVec 32) : Fin 3 → Nat :=
  let c12_i32_288_r0 : BitVec 32 := 12#32
  let v408_r0 : BitVec 32 := Scalar.remsi c27_i32_287_r0 c12_i32_288_r0
  let v421_r0 : Index := Scalar.indexCast v408_r0
  let c0_295_r0 : Index := 0#32
  let c640_r0 : Index := 640#32
  ![v421_r0.toNat, 0, 640]
def k0_off119_at (r : Fin 4) : BitVec 32 :=
  if r.val < 2 then
    if r.val < 1 then
      27#32
    else
      28#32
  else
    if r.val < 3 then
      55#32
    else
      83#32
def k0_off120 (c27_i32_287_r0 : BitVec 32) : Fin 3 → Nat :=
  let c12_i32_288_r0 : BitVec 32 := 12#32
  let v408_r0 : BitVec 32 := Scalar.remsi c27_i32_287_r0 c12_i32_288_r0
  let v430_r0 : Index := Scalar.indexCast v408_r0
  let c128_297_r0 : Index := 128#32
  let c512_298_r0 : Index := 512#32
  ![v430_r0.toNat, 128, 512]
def k0_off120_at (r : Fin 4) : BitVec 32 :=
  if r.val < 2 then
    if r.val < 1 then
      27#32
    else
      28#32
  else
    if r.val < 3 then
      55#32
    else
      83#32
def k0_off121 (c27_i32_287_r0 : BitVec 32) : Fin 3 → Nat :=
  let c12_i32_288_r0 : BitVec 32 := 12#32
  let v408_r0 : BitVec 32 := Scalar.remsi c27_i32_287_r0 c12_i32_288_r0
  let v438_r0 : Index := Scalar.indexCast v408_r0
  let c128_300_r0 : Index := 128#32
  let c640_301_r0 : Index := 640#32
  ![v438_r0.toNat, 128, 640]
def k0_off121_at (r : Fin 4) : BitVec 32 :=
  if r.val < 2 then
    if r.val < 1 then
      27#32
    else
      28#32
  else
    if r.val < 3 then
      55#32
    else
      83#32
def k0_off122 (c27_i32_287_r0 : BitVec 32) : Fin 3 → Nat :=
  let c12_i32_288_r0 : BitVec 32 := 12#32
  let v408_r0 : BitVec 32 := Scalar.remsi c27_i32_287_r0 c12_i32_288_r0
  let v448_r0 : Index := Scalar.indexCast v408_r0
  let c0_304_r0 : Index := 0#32
  let c768_r0 : Index := 768#32
  ![v448_r0.toNat, 0, 768]
def k0_off122_at (r : Fin 4) : BitVec 32 :=
  if r.val < 2 then
    if r.val < 1 then
      27#32
    else
      28#32
  else
    if r.val < 3 then
      55#32
    else
      83#32
def k0_off123 (c27_i32_287_r0 : BitVec 32) : Fin 3 → Nat :=
  let c12_i32_288_r0 : BitVec 32 := 12#32
  let v408_r0 : BitVec 32 := Scalar.remsi c27_i32_287_r0 c12_i32_288_r0
  let v456_r0 : Index := Scalar.indexCast v408_r0
  let c0_306_r0 : Index := 0#32
  let c896_r0 : Index := 896#32
  ![v456_r0.toNat, 0, 896]
def k0_off123_at (r : Fin 4) : BitVec 32 :=
  if r.val < 2 then
    if r.val < 1 then
      27#32
    else
      28#32
  else
    if r.val < 3 then
      55#32
    else
      83#32
def k0_off124 (c27_i32_287_r0 : BitVec 32) : Fin 3 → Nat :=
  let c12_i32_288_r0 : BitVec 32 := 12#32
  let v408_r0 : BitVec 32 := Scalar.remsi c27_i32_287_r0 c12_i32_288_r0
  let v465_r0 : Index := Scalar.indexCast v408_r0
  let c128_308_r0 : Index := 128#32
  let c768_309_r0 : Index := 768#32
  ![v465_r0.toNat, 128, 768]
def k0_off124_at (r : Fin 4) : BitVec 32 :=
  if r.val < 2 then
    if r.val < 1 then
      27#32
    else
      28#32
  else
    if r.val < 3 then
      55#32
    else
      83#32
def k0_off125 (c27_i32_287_r0 : BitVec 32) : Fin 3 → Nat :=
  let c12_i32_288_r0 : BitVec 32 := 12#32
  let v408_r0 : BitVec 32 := Scalar.remsi c27_i32_287_r0 c12_i32_288_r0
  let v473_r0 : Index := Scalar.indexCast v408_r0
  let c128_312_r0 : Index := 128#32
  let c896_313_r0 : Index := 896#32
  ![v473_r0.toNat, 128, 896]
def k0_off125_at (r : Fin 4) : BitVec 32 :=
  if r.val < 2 then
    if r.val < 1 then
      27#32
    else
      28#32
  else
    if r.val < 3 then
      55#32
    else
      83#32
def k0_off126 (c27_i32_287_r0 : BitVec 32) : Fin 3 → Nat :=
  let c12_i32_288_r0 : BitVec 32 := 12#32
  let v408_r0 : BitVec 32 := Scalar.remsi c27_i32_287_r0 c12_i32_288_r0
  let v487_r0 : Index := Scalar.indexCast v408_r0
  let c0_322_r0 : Index := 0#32
  let c1024_r0 : Index := 1024#32
  ![v487_r0.toNat, 0, 1024]
def k0_off126_at (r : Fin 4) : BitVec 32 :=
  if r.val < 2 then
    if r.val < 1 then
      27#32
    else
      28#32
  else
    if r.val < 3 then
      55#32
    else
      83#32
def k0_off127 (c27_i32_287_r0 : BitVec 32) : Fin 3 → Nat :=
  let c12_i32_288_r0 : BitVec 32 := 12#32
  let v408_r0 : BitVec 32 := Scalar.remsi c27_i32_287_r0 c12_i32_288_r0
  let v495_r0 : Index := Scalar.indexCast v408_r0
  let c0_324_r0 : Index := 0#32
  let c1152_r0 : Index := 1152#32
  ![v495_r0.toNat, 0, 1152]
def k0_off127_at (r : Fin 4) : BitVec 32 :=
  if r.val < 2 then
    if r.val < 1 then
      27#32
    else
      28#32
  else
    if r.val < 3 then
      55#32
    else
      83#32
def k0_off128 (c27_i32_287_r0 : BitVec 32) : Fin 3 → Nat :=
  let c12_i32_288_r0 : BitVec 32 := 12#32
  let v408_r0 : BitVec 32 := Scalar.remsi c27_i32_287_r0 c12_i32_288_r0
  let v504_r0 : Index := Scalar.indexCast v408_r0
  let c128_326_r0 : Index := 128#32
  let c1024_327_r0 : Index := 1024#32
  ![v504_r0.toNat, 128, 1024]
def k0_off128_at (r : Fin 4) : BitVec 32 :=
  if r.val < 2 then
    if r.val < 1 then
      27#32
    else
      28#32
  else
    if r.val < 3 then
      55#32
    else
      83#32
def k0_off129 (c27_i32_287_r0 : BitVec 32) : Fin 3 → Nat :=
  let c12_i32_288_r0 : BitVec 32 := 12#32
  let v408_r0 : BitVec 32 := Scalar.remsi c27_i32_287_r0 c12_i32_288_r0
  let v512_r0 : Index := Scalar.indexCast v408_r0
  let c128_330_r0 : Index := 128#32
  let c1152_331_r0 : Index := 1152#32
  ![v512_r0.toNat, 128, 1152]
def k0_off129_at (r : Fin 4) : BitVec 32 :=
  if r.val < 2 then
    if r.val < 1 then
      27#32
    else
      28#32
  else
    if r.val < 3 then
      55#32
    else
      83#32
def k0_off130 (c27_i32_287_r0 : BitVec 32) : Fin 3 → Nat :=
  let c12_i32_288_r0 : BitVec 32 := 12#32
  let v408_r0 : BitVec 32 := Scalar.remsi c27_i32_287_r0 c12_i32_288_r0
  let v522_r0 : Index := Scalar.indexCast v408_r0
  let c0_334_r0 : Index := 0#32
  let c1280_r0 : Index := 1280#32
  ![v522_r0.toNat, 0, 1280]
def k0_off130_at (r : Fin 4) : BitVec 32 :=
  if r.val < 2 then
    if r.val < 1 then
      27#32
    else
      28#32
  else
    if r.val < 3 then
      55#32
    else
      83#32
def k0_off131 (c27_i32_287_r0 : BitVec 32) : Fin 3 → Nat :=
  let c12_i32_288_r0 : BitVec 32 := 12#32
  let v408_r0 : BitVec 32 := Scalar.remsi c27_i32_287_r0 c12_i32_288_r0
  let v530_r0 : Index := Scalar.indexCast v408_r0
  let c0_336_r0 : Index := 0#32
  let c1408_r0 : Index := 1408#32
  ![v530_r0.toNat, 0, 1408]
def k0_off131_at (r : Fin 4) : BitVec 32 :=
  if r.val < 2 then
    if r.val < 1 then
      27#32
    else
      28#32
  else
    if r.val < 3 then
      55#32
    else
      83#32
def k0_off132 (c27_i32_287_r0 : BitVec 32) : Fin 3 → Nat :=
  let c12_i32_288_r0 : BitVec 32 := 12#32
  let v408_r0 : BitVec 32 := Scalar.remsi c27_i32_287_r0 c12_i32_288_r0
  let v539_r0 : Index := Scalar.indexCast v408_r0
  let c128_338_r0 : Index := 128#32
  let c1280_339_r0 : Index := 1280#32
  ![v539_r0.toNat, 128, 1280]
def k0_off132_at (r : Fin 4) : BitVec 32 :=
  if r.val < 2 then
    if r.val < 1 then
      27#32
    else
      28#32
  else
    if r.val < 3 then
      55#32
    else
      83#32
def k0_off133 (c27_i32_287_r0 : BitVec 32) : Fin 3 → Nat :=
  let c12_i32_288_r0 : BitVec 32 := 12#32
  let v408_r0 : BitVec 32 := Scalar.remsi c27_i32_287_r0 c12_i32_288_r0
  let v547_r0 : Index := Scalar.indexCast v408_r0
  let c128_342_r0 : Index := 128#32
  let c1408_343_r0 : Index := 1408#32
  ![v547_r0.toNat, 128, 1408]
def k0_off133_at (r : Fin 4) : BitVec 32 :=
  if r.val < 2 then
    if r.val < 1 then
      27#32
    else
      28#32
  else
    if r.val < 3 then
      55#32
    else
      83#32
def k0_off134 (c27_i32_287_r0 : BitVec 32) : Fin 3 → Nat :=
  let c12_i32_288_r0 : BitVec 32 := 12#32
  let v408_r0 : BitVec 32 := Scalar.remsi c27_i32_287_r0 c12_i32_288_r0
  let v561_r0 : Index := Scalar.indexCast v408_r0
  let c0_352_r0 : Index := 0#32
  let c1536_r0 : Index := 1536#32
  ![v561_r0.toNat, 0, 1536]
def k0_off135 (c27_i32_287_r0 : BitVec 32) : Fin 3 → Nat :=
  let c12_i32_288_r0 : BitVec 32 := 12#32
  let v408_r0 : BitVec 32 := Scalar.remsi c27_i32_287_r0 c12_i32_288_r0
  let v569_r0 : Index := Scalar.indexCast v408_r0
  let c0_354_r0 : Index := 0#32
  let c1664_r0 : Index := 1664#32
  ![v569_r0.toNat, 0, 1664]
def k0_off136 (c27_i32_287_r0 : BitVec 32) : Fin 3 → Nat :=
  let c12_i32_288_r0 : BitVec 32 := 12#32
  let v408_r0 : BitVec 32 := Scalar.remsi c27_i32_287_r0 c12_i32_288_r0
  let v578_r0 : Index := Scalar.indexCast v408_r0
  let c128_356_r0 : Index := 128#32
  let c1536_357_r0 : Index := 1536#32
  ![v578_r0.toNat, 128, 1536]
def k0_off137 (c27_i32_287_r0 : BitVec 32) : Fin 3 → Nat :=
  let c12_i32_288_r0 : BitVec 32 := 12#32
  let v408_r0 : BitVec 32 := Scalar.remsi c27_i32_287_r0 c12_i32_288_r0
  let v586_r0 : Index := Scalar.indexCast v408_r0
  let c128_360_r0 : Index := 128#32
  let c1664_361_r0 : Index := 1664#32
  ![v586_r0.toNat, 128, 1664]
def k0_off138 (c27_i32_287_r0 : BitVec 32) : Fin 3 → Nat :=
  let c12_i32_288_r0 : BitVec 32 := 12#32
  let v408_r0 : BitVec 32 := Scalar.remsi c27_i32_287_r0 c12_i32_288_r0
  let v596_r0 : Index := Scalar.indexCast v408_r0
  let c0_364_r0 : Index := 0#32
  let c1792_r0 : Index := 1792#32
  ![v596_r0.toNat, 0, 1792]
def k0_off139 (c27_i32_287_r0 : BitVec 32) : Fin 3 → Nat :=
  let c12_i32_288_r0 : BitVec 32 := 12#32
  let v408_r0 : BitVec 32 := Scalar.remsi c27_i32_287_r0 c12_i32_288_r0
  let v604_r0 : Index := Scalar.indexCast v408_r0
  let c0_366_r0 : Index := 0#32
  let c1920_r0 : Index := 1920#32
  ![v604_r0.toNat, 0, 1920]
def k0_off140 (c27_i32_287_r0 : BitVec 32) : Fin 3 → Nat :=
  let c12_i32_288_r0 : BitVec 32 := 12#32
  let v408_r0 : BitVec 32 := Scalar.remsi c27_i32_287_r0 c12_i32_288_r0
  let v613_r0 : Index := Scalar.indexCast v408_r0
  let c128_368_r0 : Index := 128#32
  let c1792_369_r0 : Index := 1792#32
  ![v613_r0.toNat, 128, 1792]
def k0_off141 (c27_i32_287_r0 : BitVec 32) : Fin 3 → Nat :=
  let c12_i32_288_r0 : BitVec 32 := 12#32
  let v408_r0 : BitVec 32 := Scalar.remsi c27_i32_287_r0 c12_i32_288_r0
  let v621_r0 : Index := Scalar.indexCast v408_r0
  let c128_372_r0 : Index := 128#32
  let c1920_373_r0 : Index := 1920#32
  ![v621_r0.toNat, 128, 1920]
def k0_off142 (c27_i32_287_r0 : BitVec 32) : Fin 3 → Nat :=
  let c12_i32_288_r0 : BitVec 32 := 12#32
  let v408_r0 : BitVec 32 := Scalar.remsi c27_i32_287_r0 c12_i32_288_r0
  let v635_r0 : Index := Scalar.indexCast v408_r0
  let c256_382_r0 : Index := 256#32
  let c0_383_r0 : Index := 0#32
  ![v635_r0.toNat, 256, 0]
def k0_off142_at (r : Fin 4) : BitVec 32 :=
  if r.val < 2 then
    if r.val < 1 then
      27#32
    else
      28#32
  else
    if r.val < 3 then
      55#32
    else
      83#32
def k0_off143 (c27_i32_287_r0 : BitVec 32) : Fin 3 → Nat :=
  let c12_i32_288_r0 : BitVec 32 := 12#32
  let v408_r0 : BitVec 32 := Scalar.remsi c27_i32_287_r0 c12_i32_288_r0
  let v643_r0 : Index := Scalar.indexCast v408_r0
  let c256_385_r0 : Index := 256#32
  let c128_386_r0 : Index := 128#32
  ![v643_r0.toNat, 256, 128]
def k0_off143_at (r : Fin 4) : BitVec 32 :=
  if r.val < 2 then
    if r.val < 1 then
      27#32
    else
      28#32
  else
    if r.val < 3 then
      55#32
    else
      83#32
def k0_off144 (c27_i32_287_r0 : BitVec 32) : Fin 3 → Nat :=
  let c12_i32_288_r0 : BitVec 32 := 12#32
  let v408_r0 : BitVec 32 := Scalar.remsi c27_i32_287_r0 c12_i32_288_r0
  let v652_r0 : Index := Scalar.indexCast v408_r0
  let c384_389_r0 : Index := 384#32
  let c0_390_r0 : Index := 0#32
  ![v652_r0.toNat, 384, 0]
def k0_off144_at (r : Fin 4) : BitVec 32 :=
  if r.val < 2 then
    if r.val < 1 then
      27#32
    else
      28#32
  else
    if r.val < 3 then
      55#32
    else
      83#32
def k0_off145 (c27_i32_287_r0 : BitVec 32) : Fin 3 → Nat :=
  let c12_i32_288_r0 : BitVec 32 := 12#32
  let v408_r0 : BitVec 32 := Scalar.remsi c27_i32_287_r0 c12_i32_288_r0
  let v660_r0 : Index := Scalar.indexCast v408_r0
  let c384_392_r0 : Index := 384#32
  let c128_393_r0 : Index := 128#32
  ![v660_r0.toNat, 384, 128]
def k0_off145_at (r : Fin 4) : BitVec 32 :=
  if r.val < 2 then
    if r.val < 1 then
      27#32
    else
      28#32
  else
    if r.val < 3 then
      55#32
    else
      83#32
def k0_off146 (c27_i32_287_r0 : BitVec 32) : Fin 3 → Nat :=
  let c12_i32_288_r0 : BitVec 32 := 12#32
  let v408_r0 : BitVec 32 := Scalar.remsi c27_i32_287_r0 c12_i32_288_r0
  let v670_r0 : Index := Scalar.indexCast v408_r0
  let c256_396_r0 : Index := 256#32
  let c256_397_r0 : Index := 256#32
  ![v670_r0.toNat, 256, 256]
def k0_off146_at (r : Fin 4) : BitVec 32 :=
  if r.val < 2 then
    if r.val < 1 then
      27#32
    else
      28#32
  else
    if r.val < 3 then
      55#32
    else
      83#32
def k0_off147 (c27_i32_287_r0 : BitVec 32) : Fin 3 → Nat :=
  let c12_i32_288_r0 : BitVec 32 := 12#32
  let v408_r0 : BitVec 32 := Scalar.remsi c27_i32_287_r0 c12_i32_288_r0
  let v678_r0 : Index := Scalar.indexCast v408_r0
  let c256_400_r0 : Index := 256#32
  let c384_401_r0 : Index := 384#32
  ![v678_r0.toNat, 256, 384]
def k0_off147_at (r : Fin 4) : BitVec 32 :=
  if r.val < 2 then
    if r.val < 1 then
      27#32
    else
      28#32
  else
    if r.val < 3 then
      55#32
    else
      83#32
def k0_off148 (c27_i32_287_r0 : BitVec 32) : Fin 3 → Nat :=
  let c12_i32_288_r0 : BitVec 32 := 12#32
  let v408_r0 : BitVec 32 := Scalar.remsi c27_i32_287_r0 c12_i32_288_r0
  let v687_r0 : Index := Scalar.indexCast v408_r0
  let c384_404_r0 : Index := 384#32
  let c256_405_r0 : Index := 256#32
  ![v687_r0.toNat, 384, 256]
def k0_off148_at (r : Fin 4) : BitVec 32 :=
  if r.val < 2 then
    if r.val < 1 then
      27#32
    else
      28#32
  else
    if r.val < 3 then
      55#32
    else
      83#32
def k0_off149 (c27_i32_287_r0 : BitVec 32) : Fin 3 → Nat :=
  let c12_i32_288_r0 : BitVec 32 := 12#32
  let v408_r0 : BitVec 32 := Scalar.remsi c27_i32_287_r0 c12_i32_288_r0
  let v695_r0 : Index := Scalar.indexCast v408_r0
  let c384_408_r0 : Index := 384#32
  let c384_409_r0 : Index := 384#32
  ![v695_r0.toNat, 384, 384]
def k0_off149_at (r : Fin 4) : BitVec 32 :=
  if r.val < 2 then
    if r.val < 1 then
      27#32
    else
      28#32
  else
    if r.val < 3 then
      55#32
    else
      83#32
def k0_off150 (c27_i32_287_r0 : BitVec 32) : Fin 3 → Nat :=
  let c12_i32_288_r0 : BitVec 32 := 12#32
  let v408_r0 : BitVec 32 := Scalar.remsi c27_i32_287_r0 c12_i32_288_r0
  let v709_r0 : Index := Scalar.indexCast v408_r0
  let c256_417_r0 : Index := 256#32
  let c512_418_r0 : Index := 512#32
  ![v709_r0.toNat, 256, 512]
def k0_off150_at (r : Fin 4) : BitVec 32 :=
  if r.val < 2 then
    if r.val < 1 then
      27#32
    else
      28#32
  else
    if r.val < 3 then
      55#32
    else
      83#32
def k0_off151 (c27_i32_287_r0 : BitVec 32) : Fin 3 → Nat :=
  let c12_i32_288_r0 : BitVec 32 := 12#32
  let v408_r0 : BitVec 32 := Scalar.remsi c27_i32_287_r0 c12_i32_288_r0
  let v717_r0 : Index := Scalar.indexCast v408_r0
  let c256_421_r0 : Index := 256#32
  let c640_422_r0 : Index := 640#32
  ![v717_r0.toNat, 256, 640]
def k0_off151_at (r : Fin 4) : BitVec 32 :=
  if r.val < 2 then
    if r.val < 1 then
      27#32
    else
      28#32
  else
    if r.val < 3 then
      55#32
    else
      83#32
def k0_off152 (c27_i32_287_r0 : BitVec 32) : Fin 3 → Nat :=
  let c12_i32_288_r0 : BitVec 32 := 12#32
  let v408_r0 : BitVec 32 := Scalar.remsi c27_i32_287_r0 c12_i32_288_r0
  let v726_r0 : Index := Scalar.indexCast v408_r0
  let c384_425_r0 : Index := 384#32
  let c512_426_r0 : Index := 512#32
  ![v726_r0.toNat, 384, 512]
def k0_off152_at (r : Fin 4) : BitVec 32 :=
  if r.val < 2 then
    if r.val < 1 then
      27#32
    else
      28#32
  else
    if r.val < 3 then
      55#32
    else
      83#32
def k0_off153 (c27_i32_287_r0 : BitVec 32) : Fin 3 → Nat :=
  let c12_i32_288_r0 : BitVec 32 := 12#32
  let v408_r0 : BitVec 32 := Scalar.remsi c27_i32_287_r0 c12_i32_288_r0
  let v734_r0 : Index := Scalar.indexCast v408_r0
  let c384_429_r0 : Index := 384#32
  let c640_430_r0 : Index := 640#32
  ![v734_r0.toNat, 384, 640]
def k0_off153_at (r : Fin 4) : BitVec 32 :=
  if r.val < 2 then
    if r.val < 1 then
      27#32
    else
      28#32
  else
    if r.val < 3 then
      55#32
    else
      83#32
def k0_off154 (c27_i32_287_r0 : BitVec 32) : Fin 3 → Nat :=
  let c12_i32_288_r0 : BitVec 32 := 12#32
  let v408_r0 : BitVec 32 := Scalar.remsi c27_i32_287_r0 c12_i32_288_r0
  let v744_r0 : Index := Scalar.indexCast v408_r0
  let c256_433_r0 : Index := 256#32
  let c768_434_r0 : Index := 768#32
  ![v744_r0.toNat, 256, 768]
def k0_off154_at (r : Fin 4) : BitVec 32 :=
  if r.val < 2 then
    if r.val < 1 then
      27#32
    else
      28#32
  else
    if r.val < 3 then
      55#32
    else
      83#32
def k0_off155 (c27_i32_287_r0 : BitVec 32) : Fin 3 → Nat :=
  let c12_i32_288_r0 : BitVec 32 := 12#32
  let v408_r0 : BitVec 32 := Scalar.remsi c27_i32_287_r0 c12_i32_288_r0
  let v752_r0 : Index := Scalar.indexCast v408_r0
  let c256_437_r0 : Index := 256#32
  let c896_438_r0 : Index := 896#32
  ![v752_r0.toNat, 256, 896]
def k0_off155_at (r : Fin 4) : BitVec 32 :=
  if r.val < 2 then
    if r.val < 1 then
      27#32
    else
      28#32
  else
    if r.val < 3 then
      55#32
    else
      83#32
def k0_off156 (c27_i32_287_r0 : BitVec 32) : Fin 3 → Nat :=
  let c12_i32_288_r0 : BitVec 32 := 12#32
  let v408_r0 : BitVec 32 := Scalar.remsi c27_i32_287_r0 c12_i32_288_r0
  let v761_r0 : Index := Scalar.indexCast v408_r0
  let c384_441_r0 : Index := 384#32
  let c768_442_r0 : Index := 768#32
  ![v761_r0.toNat, 384, 768]
def k0_off156_at (r : Fin 4) : BitVec 32 :=
  if r.val < 2 then
    if r.val < 1 then
      27#32
    else
      28#32
  else
    if r.val < 3 then
      55#32
    else
      83#32
def k0_off157 (c27_i32_287_r0 : BitVec 32) : Fin 3 → Nat :=
  let c12_i32_288_r0 : BitVec 32 := 12#32
  let v408_r0 : BitVec 32 := Scalar.remsi c27_i32_287_r0 c12_i32_288_r0
  let v769_r0 : Index := Scalar.indexCast v408_r0
  let c384_445_r0 : Index := 384#32
  let c896_446_r0 : Index := 896#32
  ![v769_r0.toNat, 384, 896]
def k0_off157_at (r : Fin 4) : BitVec 32 :=
  if r.val < 2 then
    if r.val < 1 then
      27#32
    else
      28#32
  else
    if r.val < 3 then
      55#32
    else
      83#32
def k0_off158 (c27_i32_287_r0 : BitVec 32) : Fin 3 → Nat :=
  let c12_i32_288_r0 : BitVec 32 := 12#32
  let v408_r0 : BitVec 32 := Scalar.remsi c27_i32_287_r0 c12_i32_288_r0
  let v783_r0 : Index := Scalar.indexCast v408_r0
  let c256_455_r0 : Index := 256#32
  let c1024_456_r0 : Index := 1024#32
  ![v783_r0.toNat, 256, 1024]
def k0_off158_at (r : Fin 4) : BitVec 32 :=
  if r.val < 2 then
    if r.val < 1 then
      27#32
    else
      28#32
  else
    if r.val < 3 then
      55#32
    else
      83#32
def k0_off159 (c27_i32_287_r0 : BitVec 32) : Fin 3 → Nat :=
  let c12_i32_288_r0 : BitVec 32 := 12#32
  let v408_r0 : BitVec 32 := Scalar.remsi c27_i32_287_r0 c12_i32_288_r0
  let v791_r0 : Index := Scalar.indexCast v408_r0
  let c256_459_r0 : Index := 256#32
  let c1152_460_r0 : Index := 1152#32
  ![v791_r0.toNat, 256, 1152]
def k0_off159_at (r : Fin 4) : BitVec 32 :=
  if r.val < 2 then
    if r.val < 1 then
      27#32
    else
      28#32
  else
    if r.val < 3 then
      55#32
    else
      83#32
def k0_off160 (c27_i32_287_r0 : BitVec 32) : Fin 3 → Nat :=
  let c12_i32_288_r0 : BitVec 32 := 12#32
  let v408_r0 : BitVec 32 := Scalar.remsi c27_i32_287_r0 c12_i32_288_r0
  let v800_r0 : Index := Scalar.indexCast v408_r0
  let c384_463_r0 : Index := 384#32
  let c1024_464_r0 : Index := 1024#32
  ![v800_r0.toNat, 384, 1024]
def k0_off160_at (r : Fin 4) : BitVec 32 :=
  if r.val < 2 then
    if r.val < 1 then
      27#32
    else
      28#32
  else
    if r.val < 3 then
      55#32
    else
      83#32
def k0_off161 (c27_i32_287_r0 : BitVec 32) : Fin 3 → Nat :=
  let c12_i32_288_r0 : BitVec 32 := 12#32
  let v408_r0 : BitVec 32 := Scalar.remsi c27_i32_287_r0 c12_i32_288_r0
  let v808_r0 : Index := Scalar.indexCast v408_r0
  let c384_467_r0 : Index := 384#32
  let c1152_468_r0 : Index := 1152#32
  ![v808_r0.toNat, 384, 1152]
def k0_off161_at (r : Fin 4) : BitVec 32 :=
  if r.val < 2 then
    if r.val < 1 then
      27#32
    else
      28#32
  else
    if r.val < 3 then
      55#32
    else
      83#32
def k0_off162 (c27_i32_287_r0 : BitVec 32) : Fin 3 → Nat :=
  let c12_i32_288_r0 : BitVec 32 := 12#32
  let v408_r0 : BitVec 32 := Scalar.remsi c27_i32_287_r0 c12_i32_288_r0
  let v818_r0 : Index := Scalar.indexCast v408_r0
  let c256_471_r0 : Index := 256#32
  let c1280_472_r0 : Index := 1280#32
  ![v818_r0.toNat, 256, 1280]
def k0_off162_at (r : Fin 4) : BitVec 32 :=
  if r.val < 2 then
    if r.val < 1 then
      27#32
    else
      28#32
  else
    if r.val < 3 then
      55#32
    else
      83#32
def k0_off163 (c27_i32_287_r0 : BitVec 32) : Fin 3 → Nat :=
  let c12_i32_288_r0 : BitVec 32 := 12#32
  let v408_r0 : BitVec 32 := Scalar.remsi c27_i32_287_r0 c12_i32_288_r0
  let v826_r0 : Index := Scalar.indexCast v408_r0
  let c256_475_r0 : Index := 256#32
  let c1408_476_r0 : Index := 1408#32
  ![v826_r0.toNat, 256, 1408]
def k0_off163_at (r : Fin 4) : BitVec 32 :=
  if r.val < 2 then
    if r.val < 1 then
      27#32
    else
      28#32
  else
    if r.val < 3 then
      55#32
    else
      83#32
def k0_off164 (c27_i32_287_r0 : BitVec 32) : Fin 3 → Nat :=
  let c12_i32_288_r0 : BitVec 32 := 12#32
  let v408_r0 : BitVec 32 := Scalar.remsi c27_i32_287_r0 c12_i32_288_r0
  let v835_r0 : Index := Scalar.indexCast v408_r0
  let c384_479_r0 : Index := 384#32
  let c1280_480_r0 : Index := 1280#32
  ![v835_r0.toNat, 384, 1280]
def k0_off164_at (r : Fin 4) : BitVec 32 :=
  if r.val < 2 then
    if r.val < 1 then
      27#32
    else
      28#32
  else
    if r.val < 3 then
      55#32
    else
      83#32
def k0_off165 (c27_i32_287_r0 : BitVec 32) : Fin 3 → Nat :=
  let c12_i32_288_r0 : BitVec 32 := 12#32
  let v408_r0 : BitVec 32 := Scalar.remsi c27_i32_287_r0 c12_i32_288_r0
  let v843_r0 : Index := Scalar.indexCast v408_r0
  let c384_483_r0 : Index := 384#32
  let c1408_484_r0 : Index := 1408#32
  ![v843_r0.toNat, 384, 1408]
def k0_off165_at (r : Fin 4) : BitVec 32 :=
  if r.val < 2 then
    if r.val < 1 then
      27#32
    else
      28#32
  else
    if r.val < 3 then
      55#32
    else
      83#32
def k0_off166 (c27_i32_287_r0 : BitVec 32) : Fin 3 → Nat :=
  let c12_i32_288_r0 : BitVec 32 := 12#32
  let v408_r0 : BitVec 32 := Scalar.remsi c27_i32_287_r0 c12_i32_288_r0
  let v857_r0 : Index := Scalar.indexCast v408_r0
  let c256_493_r0 : Index := 256#32
  let c1536_494_r0 : Index := 1536#32
  ![v857_r0.toNat, 256, 1536]
def k0_off167 (c27_i32_287_r0 : BitVec 32) : Fin 3 → Nat :=
  let c12_i32_288_r0 : BitVec 32 := 12#32
  let v408_r0 : BitVec 32 := Scalar.remsi c27_i32_287_r0 c12_i32_288_r0
  let v865_r0 : Index := Scalar.indexCast v408_r0
  let c256_497_r0 : Index := 256#32
  let c1664_498_r0 : Index := 1664#32
  ![v865_r0.toNat, 256, 1664]
def k0_off168 (c27_i32_287_r0 : BitVec 32) : Fin 3 → Nat :=
  let c12_i32_288_r0 : BitVec 32 := 12#32
  let v408_r0 : BitVec 32 := Scalar.remsi c27_i32_287_r0 c12_i32_288_r0
  let v874_r0 : Index := Scalar.indexCast v408_r0
  let c384_501_r0 : Index := 384#32
  let c1536_502_r0 : Index := 1536#32
  ![v874_r0.toNat, 384, 1536]
def k0_off169 (c27_i32_287_r0 : BitVec 32) : Fin 3 → Nat :=
  let c12_i32_288_r0 : BitVec 32 := 12#32
  let v408_r0 : BitVec 32 := Scalar.remsi c27_i32_287_r0 c12_i32_288_r0
  let v882_r0 : Index := Scalar.indexCast v408_r0
  let c384_505_r0 : Index := 384#32
  let c1664_506_r0 : Index := 1664#32
  ![v882_r0.toNat, 384, 1664]
def k0_off170 (c27_i32_287_r0 : BitVec 32) : Fin 3 → Nat :=
  let c12_i32_288_r0 : BitVec 32 := 12#32
  let v408_r0 : BitVec 32 := Scalar.remsi c27_i32_287_r0 c12_i32_288_r0
  let v892_r0 : Index := Scalar.indexCast v408_r0
  let c256_509_r0 : Index := 256#32
  let c1792_510_r0 : Index := 1792#32
  ![v892_r0.toNat, 256, 1792]
def k0_off171 (c27_i32_287_r0 : BitVec 32) : Fin 3 → Nat :=
  let c12_i32_288_r0 : BitVec 32 := 12#32
  let v408_r0 : BitVec 32 := Scalar.remsi c27_i32_287_r0 c12_i32_288_r0
  let v900_r0 : Index := Scalar.indexCast v408_r0
  let c256_513_r0 : Index := 256#32
  let c1920_514_r0 : Index := 1920#32
  ![v900_r0.toNat, 256, 1920]
def k0_off172 (c27_i32_287_r0 : BitVec 32) : Fin 3 → Nat :=
  let c12_i32_288_r0 : BitVec 32 := 12#32
  let v408_r0 : BitVec 32 := Scalar.remsi c27_i32_287_r0 c12_i32_288_r0
  let v909_r0 : Index := Scalar.indexCast v408_r0
  let c384_517_r0 : Index := 384#32
  let c1792_518_r0 : Index := 1792#32
  ![v909_r0.toNat, 384, 1792]
def k0_off173 (c27_i32_287_r0 : BitVec 32) : Fin 3 → Nat :=
  let c12_i32_288_r0 : BitVec 32 := 12#32
  let v408_r0 : BitVec 32 := Scalar.remsi c27_i32_287_r0 c12_i32_288_r0
  let v917_r0 : Index := Scalar.indexCast v408_r0
  let c384_521_r0 : Index := 384#32
  let c1920_522_r0 : Index := 1920#32
  ![v917_r0.toNat, 384, 1920]
@[reducible] def k0_t2_loop : Scf.Loop 32 :=
  let c29_i32_925_r0 : BitVec 32 := 29#32
  let c26_i32_926_r0 : BitVec 32 := 26#32
  let v1677_r0 : BitVec 32 := Scalar.addi c29_i32_925_r0 c26_i32_926_r0
  let c1_i32_927_r0 : BitVec 32 := 1#32
  ⟨c29_i32_925_r0, v1677_r0, c1_i32_927_r0⟩
def k0_off174 (k0_t2 : Fin k0_t2_loop.trips) : Fin 1 → Nat :=
  let c29_i32_925_r0 : BitVec 32 := 29#32
  let c1_i32_927_r0 : BitVec 32 := 1#32
  let arg38_r0 : BitVec 32 := Scf.iv c29_i32_925_r0 c1_i32_927_r0 k0_t2
  let c1_i32_2301_r0 : BitVec 32 := 1#32
  let v3865_r0 : BitVec 32 := Scalar.addi arg38_r0 c1_i32_2301_r0
  let c12_i32_2302_r0 : BitVec 32 := 12#32
  let v3866_r0 : BitVec 32 := Scalar.remsi v3865_r0 c12_i32_2302_r0
  ![v3866_r0.toNat]
def k0_off175 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2301_r0 : BitVec 32 := 1#32
  let v3865_r0 : BitVec 32 := Scalar.addi arg38_r0 c1_i32_2301_r0
  let c12_i32_2302_r0 : BitVec 32 := 12#32
  let v3866_r0 : BitVec 32 := Scalar.remsi v3865_r0 c12_i32_2302_r0
  let c0_i32_2305_r0 : BitVec 32 := 0#32
  let c0_i32_2306_r0 : BitVec 32 := 0#32
  ![v3866_r0.toNat, 0, 0]
def k0_off176 (k0_t2 : Fin k0_t2_loop.trips) : Fin 2 → Nat :=
  let c29_i32_925_r0 : BitVec 32 := 29#32
  let c1_i32_927_r0 : BitVec 32 := 1#32
  let arg38_r0 : BitVec 32 := Scf.iv c29_i32_925_r0 c1_i32_927_r0 k0_t2
  let c1_i32_2301_r0 : BitVec 32 := 1#32
  let v3865_r0 : BitVec 32 := Scalar.addi arg38_r0 c1_i32_2301_r0
  let c28_i32_2303_r0 : BitVec 32 := 28#32
  let v3867_r0 : BitVec 32 := Scalar.subi v3865_r0 c28_i32_2303_r0
  let c512_i32_2304_r0 : BitVec 32 := 512#32
  let v3868_r0 : BitVec 32 := Scalar.muli v3867_r0 c512_i32_2304_r0
  let c2048_i32_2307_r0 : BitVec 32 := 2048#32
  ![v3868_r0.toNat, 2048]
def k0_cond4 (k0_t2 : Fin k0_t2_loop.trips) : BitVec 1 :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c28_i32_2309_r0 : BitVec 32 := 28#32
  let v3875_r0 : BitVec 1 := Scalar.cmpi .slt v3874_r0 c28_i32_2309_r0
  let v3876_r0 : BitVec 32 := Scalar.extui v3875_r0
  let c0_i32_2310_r0 : BitVec 32 := 0#32
  let v3877_r0 : BitVec 1 := Scalar.cmpi .ne v3876_r0 c0_i32_2310_r0
  v3877_r0

def k0_off177 (k0_t2 : Fin k0_t2_loop.trips) : Fin 1 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  ![v4551_r0.toNat]
def k0_off178 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  let c0_i32_2645_r0 : BitVec 32 := 0#32
  let c0_i32_2646_r0 : BitVec 32 := 0#32
  ![v4551_r0.toNat, 0, 0]
def k0_off179 (k0_t2 : Fin k0_t2_loop.trips) : Fin 2 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c512_i32_2644_r0 : BitVec 32 := 512#32
  let v4552_r0 : BitVec 32 := Scalar.muli v3874_r0 c512_i32_2644_r0
  let c0_i32_2647_r0 : BitVec 32 := 0#32
  ![v4552_r0.toNat, 0]
def k0_cond5 (k0_t2 : Fin k0_t2_loop.trips) : BitVec 1 :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c28_i32_2311_r0 : BitVec 32 := 28#32
  let v3878_r0 : BitVec 1 := Scalar.cmpi .sge v3874_r0 c28_i32_2311_r0
  let c56_i32_2312_r0 : BitVec 32 := 56#32
  let v3879_r0 : BitVec 1 := Scalar.cmpi .slt v3874_r0 c56_i32_2312_r0
  let v3880_r0 : BitVec 1 := Scalar.andi v3878_r0 v3879_r0
  let v3881_r0 : BitVec 32 := Scalar.extui v3880_r0
  let c0_i32_2313_r0 : BitVec 32 := 0#32
  let v3882_r0 : BitVec 1 := Scalar.cmpi .ne v3881_r0 c0_i32_2313_r0
  v3882_r0

def k0_off180 (k0_t2 : Fin k0_t2_loop.trips) : Fin 1 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  ![v4551_r0.toNat]
def k0_off181 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  let c0_i32_2646_r0 : BitVec 32 := 0#32
  let c0_i32_2647_r0 : BitVec 32 := 0#32
  ![v4551_r0.toNat, 0, 0]
def k0_off182 (k0_t2 : Fin k0_t2_loop.trips) : Fin 2 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c28_i32_2644_r0 : BitVec 32 := 28#32
  let v4552_r0 : BitVec 32 := Scalar.subi v3874_r0 c28_i32_2644_r0
  let c512_i32_2645_r0 : BitVec 32 := 512#32
  let v4553_r0 : BitVec 32 := Scalar.muli v4552_r0 c512_i32_2645_r0
  let c2048_i32_2648_r0 : BitVec 32 := 2048#32
  ![v4553_r0.toNat, 2048]
def k0_cond6 (k0_t2 : Fin k0_t2_loop.trips) : BitVec 1 :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c56_i32_2314_r0 : BitVec 32 := 56#32
  let v3883_r0 : BitVec 1 := Scalar.cmpi .sge v3874_r0 c56_i32_2314_r0
  let c84_i32_r0 : BitVec 32 := 84#32
  let v3884_r0 : BitVec 1 := Scalar.cmpi .slt v3874_r0 c84_i32_r0
  let v3885_r0 : BitVec 1 := Scalar.andi v3883_r0 v3884_r0
  let v3886_r0 : BitVec 32 := Scalar.extui v3885_r0
  let c0_i32_2315_r0 : BitVec 32 := 0#32
  let v3887_r0 : BitVec 1 := Scalar.cmpi .ne v3886_r0 c0_i32_2315_r0
  v3887_r0

def k0_mult32 (k0_t2 : Fin k0_t2_loop.trips) : BitVec 32 :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c56_i32_2644_r0 : BitVec 32 := 56#32
  let v4552_r0 : BitVec 32 := Scalar.subi v3874_r0 c56_i32_2644_r0
  let c7_i32_2647_r0 : BitVec 32 := 7#32
  let v4555_r0 : BitVec 32 := Scalar.divsi v4552_r0 c7_i32_2647_r0
  let c2048_i32_2648_r0 : BitVec 32 := 2048#32
  let v4556_r0 : BitVec 32 := Scalar.muli v4555_r0 c2048_i32_2648_r0
  v4556_r0
def k0_off183 (k0_t2 : Fin k0_t2_loop.trips) : Fin 1 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  ![v4551_r0.toNat]
def k0_off184 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c12_i32_2643_r0 : BitVec 32 := 12#32
  let v4551_r0 : BitVec 32 := Scalar.remsi v3874_r0 c12_i32_2643_r0
  let c0_i32_2649_r0 : BitVec 32 := 0#32
  let c0_i32_2650_r0 : BitVec 32 := 0#32
  ![v4551_r0.toNat, 0, 0]
def k0_off185 (k0_t2 : Fin k0_t2_loop.trips) : Fin 2 → Nat :=
  let c29_i32_925_r0 : BitVec 32 := 29#32
  let c1_i32_927_r0 : BitVec 32 := 1#32
  let arg38_r0 : BitVec 32 := Scf.iv c29_i32_925_r0 c1_i32_927_r0 k0_t2
  let c11_i32_2308_r0 : BitVec 32 := 11#32
  let v3874_r0 : BitVec 32 := Scalar.addi arg38_r0 c11_i32_2308_r0
  let c56_i32_2644_r0 : BitVec 32 := 56#32
  let v4552_r0 : BitVec 32 := Scalar.subi v3874_r0 c56_i32_2644_r0
  let c7_i32_2645_r0 : BitVec 32 := 7#32
  let v4553_r0 : BitVec 32 := Scalar.remsi v4552_r0 c7_i32_2645_r0
  let c512_i32_2646_r0 : BitVec 32 := 512#32
  let v4554_r0 : BitVec 32 := Scalar.muli v4553_r0 c512_i32_2646_r0
  let c7_i32_2647_r0 : BitVec 32 := 7#32
  let v4555_r0 : BitVec 32 := Scalar.divsi v4552_r0 c7_i32_2647_r0
  let c2048_i32_2648_r0 : BitVec 32 := 2048#32
  let v4556_r0 : BitVec 32 := Scalar.muli v4555_r0 c2048_i32_2648_r0
  let v4557_r0 : BitVec 32 := v4556_r0
  ![v4554_r0.toNat, v4557_r0.toNat]
def k0_off186 (k0_t2 : Fin k0_t2_loop.trips) (c0_i32_2320_r0 : BitVec 32) : Fin 3 → Nat :=
  let c29_i32_925_r0 : BitVec 32 := 29#32
  let c1_i32_927_r0 : BitVec 32 := 1#32
  let arg38_r0 : BitVec 32 := Scf.iv c29_i32_925_r0 c1_i32_927_r0 k0_t2
  let c28_i32_2300_r0 : BitVec 32 := 28#32
  let v3864_r0 : BitVec 32 := Scalar.subi arg38_r0 c28_i32_2300_r0
  let c2_i32_2319_r0 : BitVec 32 := 2#32
  let v3891_r0 : BitVec 32 := Scalar.muli v3864_r0 c2_i32_2319_r0
  let v3892_r0 : BitVec 32 := Scalar.addi v3891_r0 c0_i32_2320_r0
  let v3893_r0 : Index := Scalar.indexCast v3892_r0
  let c0_2321_r0 : Index := 0#32
  let c0_2322_r0 : Index := 0#32
  ![v3893_r0.toNat, 0, 0]
def k0_off187 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3904_r0 : Index := Scalar.indexCast v3890_r0
  let c0_2330_r0 : Index := 0#32
  let c512_2331_r0 : Index := 512#32
  ![v3904_r0.toNat, 0, 512]
def k0_off188 (k0_t2 : Fin k0_t2_loop.trips) (c0_i32_2332_r0 : BitVec 32) (c0_i32_2333_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2327_r0 : BitVec 32 := 28#32
  let v3901_r0 : BitVec 32 := Scalar.subi arg38_r0 c28_i32_2327_r0
  let c2_i32_2328_r0 : BitVec 32 := 2#32
  let v3902_r0 : BitVec 32 := Scalar.muli v3901_r0 c2_i32_2328_r0
  let c2_i32_2329_r0 : BitVec 32 := 2#32
  let v3903_r0 : BitVec 32 := Scalar.muli v3902_r0 c2_i32_2329_r0
  let v3908_r0 : BitVec 32 := Scalar.addi v3903_r0 c0_i32_2332_r0
  let v3909_r0 : BitVec 32 := Scalar.addi v3908_r0 c0_i32_2333_r0
  let v3910_r0 : Index := Scalar.indexCast v3909_r0
  let c20_2334_r0 : Index := 20#32
  ![v3910_r0.toNat, 20]
def k0_off189 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3915_r0 : Index := Scalar.indexCast v3890_r0
  let c0_2335_r0 : Index := 0#32
  let c640_2336_r0 : Index := 640#32
  ![v3915_r0.toNat, 0, 640]
def k0_off190 (k0_t2 : Fin k0_t2_loop.trips) (c0_i32_2337_r0 : BitVec 32) (c0_i32_2338_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2327_r0 : BitVec 32 := 28#32
  let v3901_r0 : BitVec 32 := Scalar.subi arg38_r0 c28_i32_2327_r0
  let c2_i32_2328_r0 : BitVec 32 := 2#32
  let v3902_r0 : BitVec 32 := Scalar.muli v3901_r0 c2_i32_2328_r0
  let c2_i32_2329_r0 : BitVec 32 := 2#32
  let v3903_r0 : BitVec 32 := Scalar.muli v3902_r0 c2_i32_2329_r0
  let v3919_r0 : BitVec 32 := Scalar.addi v3903_r0 c0_i32_2337_r0
  let v3920_r0 : BitVec 32 := Scalar.addi v3919_r0 c0_i32_2338_r0
  let v3921_r0 : Index := Scalar.indexCast v3920_r0
  let c21_2339_r0 : Index := 21#32
  ![v3921_r0.toNat, 21]
def k0_off191 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3927_r0 : Index := Scalar.indexCast v3890_r0
  let c128_2340_r0 : Index := 128#32
  let c512_2341_r0 : Index := 512#32
  ![v3927_r0.toNat, 128, 512]
def k0_off192 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3938_r0 : Index := Scalar.indexCast v3890_r0
  let c128_2345_r0 : Index := 128#32
  let c640_2346_r0 : Index := 640#32
  ![v3938_r0.toNat, 128, 640]
def k0_off193 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3954_r0 : Index := Scalar.indexCast v3890_r0
  let c0_2353_r0 : Index := 0#32
  let c768_2354_r0 : Index := 768#32
  ![v3954_r0.toNat, 0, 768]
def k0_off194 (k0_t2 : Fin k0_t2_loop.trips) (c0_i32_2355_r0 : BitVec 32) (c0_i32_2356_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2350_r0 : BitVec 32 := 28#32
  let v3951_r0 : BitVec 32 := Scalar.subi arg38_r0 c28_i32_2350_r0
  let c2_i32_2351_r0 : BitVec 32 := 2#32
  let v3952_r0 : BitVec 32 := Scalar.muli v3951_r0 c2_i32_2351_r0
  let c2_i32_2352_r0 : BitVec 32 := 2#32
  let v3953_r0 : BitVec 32 := Scalar.muli v3952_r0 c2_i32_2352_r0
  let v3958_r0 : BitVec 32 := Scalar.addi v3953_r0 c0_i32_2355_r0
  let v3959_r0 : BitVec 32 := Scalar.addi v3958_r0 c0_i32_2356_r0
  let v3960_r0 : Index := Scalar.indexCast v3959_r0
  let c22_2357_r0 : Index := 22#32
  ![v3960_r0.toNat, 22]
def k0_off195 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3965_r0 : Index := Scalar.indexCast v3890_r0
  let c0_2358_r0 : Index := 0#32
  let c896_2359_r0 : Index := 896#32
  ![v3965_r0.toNat, 0, 896]
def k0_off196 (k0_t2 : Fin k0_t2_loop.trips) (c0_i32_2360_r0 : BitVec 32) (c0_i32_2361_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2350_r0 : BitVec 32 := 28#32
  let v3951_r0 : BitVec 32 := Scalar.subi arg38_r0 c28_i32_2350_r0
  let c2_i32_2351_r0 : BitVec 32 := 2#32
  let v3952_r0 : BitVec 32 := Scalar.muli v3951_r0 c2_i32_2351_r0
  let c2_i32_2352_r0 : BitVec 32 := 2#32
  let v3953_r0 : BitVec 32 := Scalar.muli v3952_r0 c2_i32_2352_r0
  let v3969_r0 : BitVec 32 := Scalar.addi v3953_r0 c0_i32_2360_r0
  let v3970_r0 : BitVec 32 := Scalar.addi v3969_r0 c0_i32_2361_r0
  let v3971_r0 : Index := Scalar.indexCast v3970_r0
  let c23_2362_r0 : Index := 23#32
  ![v3971_r0.toNat, 23]
def k0_off197 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3977_r0 : Index := Scalar.indexCast v3890_r0
  let c128_2363_r0 : Index := 128#32
  let c768_2364_r0 : Index := 768#32
  ![v3977_r0.toNat, 128, 768]
def k0_off198 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v3988_r0 : Index := Scalar.indexCast v3890_r0
  let c128_2368_r0 : Index := 128#32
  let c896_2369_r0 : Index := 896#32
  ![v3988_r0.toNat, 128, 896]
def k0_off199 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4014_r0 : Index := Scalar.indexCast v3890_r0
  let c0_2384_r0 : Index := 0#32
  let c1024_2385_r0 : Index := 1024#32
  ![v4014_r0.toNat, 0, 1024]
def k0_off200 (k0_t2 : Fin k0_t2_loop.trips) (c0_i32_2386_r0 : BitVec 32) (c0_i32_2387_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2381_r0 : BitVec 32 := 28#32
  let v4011_r0 : BitVec 32 := Scalar.subi arg38_r0 c28_i32_2381_r0
  let c2_i32_2382_r0 : BitVec 32 := 2#32
  let v4012_r0 : BitVec 32 := Scalar.muli v4011_r0 c2_i32_2382_r0
  let c2_i32_2383_r0 : BitVec 32 := 2#32
  let v4013_r0 : BitVec 32 := Scalar.muli v4012_r0 c2_i32_2383_r0
  let v4018_r0 : BitVec 32 := Scalar.addi v4013_r0 c0_i32_2386_r0
  let v4019_r0 : BitVec 32 := Scalar.addi v4018_r0 c0_i32_2387_r0
  let v4020_r0 : Index := Scalar.indexCast v4019_r0
  let c24_2388_r0 : Index := 24#32
  ![v4020_r0.toNat, 24]
def k0_off201 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4025_r0 : Index := Scalar.indexCast v3890_r0
  let c0_2389_r0 : Index := 0#32
  let c1152_2390_r0 : Index := 1152#32
  ![v4025_r0.toNat, 0, 1152]
def k0_off202 (k0_t2 : Fin k0_t2_loop.trips) (c0_i32_2391_r0 : BitVec 32) (c0_i32_2392_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2381_r0 : BitVec 32 := 28#32
  let v4011_r0 : BitVec 32 := Scalar.subi arg38_r0 c28_i32_2381_r0
  let c2_i32_2382_r0 : BitVec 32 := 2#32
  let v4012_r0 : BitVec 32 := Scalar.muli v4011_r0 c2_i32_2382_r0
  let c2_i32_2383_r0 : BitVec 32 := 2#32
  let v4013_r0 : BitVec 32 := Scalar.muli v4012_r0 c2_i32_2383_r0
  let v4029_r0 : BitVec 32 := Scalar.addi v4013_r0 c0_i32_2391_r0
  let v4030_r0 : BitVec 32 := Scalar.addi v4029_r0 c0_i32_2392_r0
  let v4031_r0 : Index := Scalar.indexCast v4030_r0
  let c25_2393_r0 : Index := 25#32
  ![v4031_r0.toNat, 25]
def k0_off203 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4037_r0 : Index := Scalar.indexCast v3890_r0
  let c128_2394_r0 : Index := 128#32
  let c1024_2395_r0 : Index := 1024#32
  ![v4037_r0.toNat, 128, 1024]
def k0_off204 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4048_r0 : Index := Scalar.indexCast v3890_r0
  let c128_2399_r0 : Index := 128#32
  let c1152_2400_r0 : Index := 1152#32
  ![v4048_r0.toNat, 128, 1152]
def k0_off205 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4064_r0 : Index := Scalar.indexCast v3890_r0
  let c0_2407_r0 : Index := 0#32
  let c1280_2408_r0 : Index := 1280#32
  ![v4064_r0.toNat, 0, 1280]
def k0_off206 (k0_t2 : Fin k0_t2_loop.trips) (c0_i32_2409_r0 : BitVec 32) (c0_i32_2410_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2404_r0 : BitVec 32 := 28#32
  let v4061_r0 : BitVec 32 := Scalar.subi arg38_r0 c28_i32_2404_r0
  let c2_i32_2405_r0 : BitVec 32 := 2#32
  let v4062_r0 : BitVec 32 := Scalar.muli v4061_r0 c2_i32_2405_r0
  let c2_i32_2406_r0 : BitVec 32 := 2#32
  let v4063_r0 : BitVec 32 := Scalar.muli v4062_r0 c2_i32_2406_r0
  let v4068_r0 : BitVec 32 := Scalar.addi v4063_r0 c0_i32_2409_r0
  let v4069_r0 : BitVec 32 := Scalar.addi v4068_r0 c0_i32_2410_r0
  let v4070_r0 : Index := Scalar.indexCast v4069_r0
  let c26_2411_r0 : Index := 26#32
  ![v4070_r0.toNat, 26]
def k0_off207 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4075_r0 : Index := Scalar.indexCast v3890_r0
  let c0_2412_r0 : Index := 0#32
  let c1408_2413_r0 : Index := 1408#32
  ![v4075_r0.toNat, 0, 1408]
def k0_off208 (k0_t2 : Fin k0_t2_loop.trips) (c0_i32_2414_r0 : BitVec 32) (c0_i32_2415_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2404_r0 : BitVec 32 := 28#32
  let v4061_r0 : BitVec 32 := Scalar.subi arg38_r0 c28_i32_2404_r0
  let c2_i32_2405_r0 : BitVec 32 := 2#32
  let v4062_r0 : BitVec 32 := Scalar.muli v4061_r0 c2_i32_2405_r0
  let c2_i32_2406_r0 : BitVec 32 := 2#32
  let v4063_r0 : BitVec 32 := Scalar.muli v4062_r0 c2_i32_2406_r0
  let v4079_r0 : BitVec 32 := Scalar.addi v4063_r0 c0_i32_2414_r0
  let v4080_r0 : BitVec 32 := Scalar.addi v4079_r0 c0_i32_2415_r0
  let v4081_r0 : Index := Scalar.indexCast v4080_r0
  let c27_2416_r0 : Index := 27#32
  ![v4081_r0.toNat, 27]
def k0_off209 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4087_r0 : Index := Scalar.indexCast v3890_r0
  let c128_2417_r0 : Index := 128#32
  let c1280_2418_r0 : Index := 1280#32
  ![v4087_r0.toNat, 128, 1280]
def k0_off210 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4098_r0 : Index := Scalar.indexCast v3890_r0
  let c128_2422_r0 : Index := 128#32
  let c1408_2423_r0 : Index := 1408#32
  ![v4098_r0.toNat, 128, 1408]
def k0_off211 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4124_r0 : Index := Scalar.indexCast v3890_r0
  let c256_2438_r0 : Index := 256#32
  let c0_2439_r0 : Index := 0#32
  ![v4124_r0.toNat, 256, 0]
def k0_off212 (k0_t2 : Fin k0_t2_loop.trips) (c0_i32_2441_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2435_r0 : BitVec 32 := 28#32
  let v4121_r0 : BitVec 32 := Scalar.subi arg38_r0 c28_i32_2435_r0
  let c2_i32_2436_r0 : BitVec 32 := 2#32
  let v4122_r0 : BitVec 32 := Scalar.muli v4121_r0 c2_i32_2436_r0
  let c2_i32_2437_r0 : BitVec 32 := 2#32
  let v4123_r0 : BitVec 32 := Scalar.muli v4122_r0 c2_i32_2437_r0
  let c2_i32_2440_r0 : BitVec 32 := 2#32
  let v4128_r0 : BitVec 32 := Scalar.addi v4123_r0 c2_i32_2440_r0
  let v4129_r0 : BitVec 32 := Scalar.addi v4128_r0 c0_i32_2441_r0
  let v4130_r0 : Index := Scalar.indexCast v4129_r0
  let c16_2442_r0 : Index := 16#32
  ![v4130_r0.toNat, 16]
def k0_off213 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4135_r0 : Index := Scalar.indexCast v3890_r0
  let c256_2443_r0 : Index := 256#32
  let c128_2444_r0 : Index := 128#32
  ![v4135_r0.toNat, 256, 128]
def k0_off214 (k0_t2 : Fin k0_t2_loop.trips) (c0_i32_2446_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2435_r0 : BitVec 32 := 28#32
  let v4121_r0 : BitVec 32 := Scalar.subi arg38_r0 c28_i32_2435_r0
  let c2_i32_2436_r0 : BitVec 32 := 2#32
  let v4122_r0 : BitVec 32 := Scalar.muli v4121_r0 c2_i32_2436_r0
  let c2_i32_2437_r0 : BitVec 32 := 2#32
  let v4123_r0 : BitVec 32 := Scalar.muli v4122_r0 c2_i32_2437_r0
  let c2_i32_2445_r0 : BitVec 32 := 2#32
  let v4139_r0 : BitVec 32 := Scalar.addi v4123_r0 c2_i32_2445_r0
  let v4140_r0 : BitVec 32 := Scalar.addi v4139_r0 c0_i32_2446_r0
  let v4141_r0 : Index := Scalar.indexCast v4140_r0
  let c17_2447_r0 : Index := 17#32
  ![v4141_r0.toNat, 17]
def k0_off215 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4147_r0 : Index := Scalar.indexCast v3890_r0
  let c384_2448_r0 : Index := 384#32
  let c0_2449_r0 : Index := 0#32
  ![v4147_r0.toNat, 384, 0]
def k0_off216 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4158_r0 : Index := Scalar.indexCast v3890_r0
  let c384_2453_r0 : Index := 384#32
  let c128_2454_r0 : Index := 128#32
  ![v4158_r0.toNat, 384, 128]
def k0_off217 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4174_r0 : Index := Scalar.indexCast v3890_r0
  let c256_2461_r0 : Index := 256#32
  let c256_2462_r0 : Index := 256#32
  ![v4174_r0.toNat, 256, 256]
def k0_off218 (k0_t2 : Fin k0_t2_loop.trips) (c0_i32_2464_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2458_r0 : BitVec 32 := 28#32
  let v4171_r0 : BitVec 32 := Scalar.subi arg38_r0 c28_i32_2458_r0
  let c2_i32_2459_r0 : BitVec 32 := 2#32
  let v4172_r0 : BitVec 32 := Scalar.muli v4171_r0 c2_i32_2459_r0
  let c2_i32_2460_r0 : BitVec 32 := 2#32
  let v4173_r0 : BitVec 32 := Scalar.muli v4172_r0 c2_i32_2460_r0
  let c2_i32_2463_r0 : BitVec 32 := 2#32
  let v4178_r0 : BitVec 32 := Scalar.addi v4173_r0 c2_i32_2463_r0
  let v4179_r0 : BitVec 32 := Scalar.addi v4178_r0 c0_i32_2464_r0
  let v4180_r0 : Index := Scalar.indexCast v4179_r0
  let c18_2465_r0 : Index := 18#32
  ![v4180_r0.toNat, 18]
def k0_off219 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4185_r0 : Index := Scalar.indexCast v3890_r0
  let c256_2466_r0 : Index := 256#32
  let c384_2467_r0 : Index := 384#32
  ![v4185_r0.toNat, 256, 384]
def k0_off220 (k0_t2 : Fin k0_t2_loop.trips) (c0_i32_2469_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c28_i32_2458_r0 : BitVec 32 := 28#32
  let v4171_r0 : BitVec 32 := Scalar.subi arg38_r0 c28_i32_2458_r0
  let c2_i32_2459_r0 : BitVec 32 := 2#32
  let v4172_r0 : BitVec 32 := Scalar.muli v4171_r0 c2_i32_2459_r0
  let c2_i32_2460_r0 : BitVec 32 := 2#32
  let v4173_r0 : BitVec 32 := Scalar.muli v4172_r0 c2_i32_2460_r0
  let c2_i32_2468_r0 : BitVec 32 := 2#32
  let v4189_r0 : BitVec 32 := Scalar.addi v4173_r0 c2_i32_2468_r0
  let v4190_r0 : BitVec 32 := Scalar.addi v4189_r0 c0_i32_2469_r0
  let v4191_r0 : Index := Scalar.indexCast v4190_r0
  let c19_2470_r0 : Index := 19#32
  ![v4191_r0.toNat, 19]
def k0_off221 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4197_r0 : Index := Scalar.indexCast v3890_r0
  let c384_2471_r0 : Index := 384#32
  let c256_2472_r0 : Index := 256#32
  ![v4197_r0.toNat, 384, 256]
def k0_off222 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4208_r0 : Index := Scalar.indexCast v3890_r0
  let c384_2476_r0 : Index := 384#32
  let c384_2477_r0 : Index := 384#32
  ![v4208_r0.toNat, 384, 384]
def k0_off223 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4234_r0 : Index := Scalar.indexCast v3890_r0
  let c256_2492_r0 : Index := 256#32
  let c512_2493_r0 : Index := 512#32
  ![v4234_r0.toNat, 256, 512]
def k0_off224 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4245_r0 : Index := Scalar.indexCast v3890_r0
  let c256_2497_r0 : Index := 256#32
  let c640_2498_r0 : Index := 640#32
  ![v4245_r0.toNat, 256, 640]
def k0_off225 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4257_r0 : Index := Scalar.indexCast v3890_r0
  let c384_2502_r0 : Index := 384#32
  let c512_2503_r0 : Index := 512#32
  ![v4257_r0.toNat, 384, 512]
def k0_off226 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4268_r0 : Index := Scalar.indexCast v3890_r0
  let c384_2507_r0 : Index := 384#32
  let c640_2508_r0 : Index := 640#32
  ![v4268_r0.toNat, 384, 640]
def k0_off227 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4284_r0 : Index := Scalar.indexCast v3890_r0
  let c256_2515_r0 : Index := 256#32
  let c768_2516_r0 : Index := 768#32
  ![v4284_r0.toNat, 256, 768]
def k0_off228 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4295_r0 : Index := Scalar.indexCast v3890_r0
  let c256_2520_r0 : Index := 256#32
  let c896_2521_r0 : Index := 896#32
  ![v4295_r0.toNat, 256, 896]
def k0_off229 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4307_r0 : Index := Scalar.indexCast v3890_r0
  let c384_2525_r0 : Index := 384#32
  let c768_2526_r0 : Index := 768#32
  ![v4307_r0.toNat, 384, 768]
def k0_off230 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4318_r0 : Index := Scalar.indexCast v3890_r0
  let c384_2530_r0 : Index := 384#32
  let c896_2531_r0 : Index := 896#32
  ![v4318_r0.toNat, 384, 896]
def k0_off231 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4344_r0 : Index := Scalar.indexCast v3890_r0
  let c256_2546_r0 : Index := 256#32
  let c1024_2547_r0 : Index := 1024#32
  ![v4344_r0.toNat, 256, 1024]
def k0_off232 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4355_r0 : Index := Scalar.indexCast v3890_r0
  let c256_2551_r0 : Index := 256#32
  let c1152_2552_r0 : Index := 1152#32
  ![v4355_r0.toNat, 256, 1152]
def k0_off233 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4367_r0 : Index := Scalar.indexCast v3890_r0
  let c384_2556_r0 : Index := 384#32
  let c1024_2557_r0 : Index := 1024#32
  ![v4367_r0.toNat, 384, 1024]
def k0_off234 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4378_r0 : Index := Scalar.indexCast v3890_r0
  let c384_2561_r0 : Index := 384#32
  let c1152_2562_r0 : Index := 1152#32
  ![v4378_r0.toNat, 384, 1152]
def k0_off235 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4394_r0 : Index := Scalar.indexCast v3890_r0
  let c256_2569_r0 : Index := 256#32
  let c1280_2570_r0 : Index := 1280#32
  ![v4394_r0.toNat, 256, 1280]
def k0_off236 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4405_r0 : Index := Scalar.indexCast v3890_r0
  let c256_2574_r0 : Index := 256#32
  let c1408_2575_r0 : Index := 1408#32
  ![v4405_r0.toNat, 256, 1408]
def k0_off237 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4417_r0 : Index := Scalar.indexCast v3890_r0
  let c384_2579_r0 : Index := 384#32
  let c1280_2580_r0 : Index := 1280#32
  ![v4417_r0.toNat, 384, 1280]
def k0_off238 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c12_i32_2318_r0 : BitVec 32 := 12#32
  let v3890_r0 : BitVec 32 := Scalar.remsi arg38_r0 c12_i32_2318_r0
  let v4428_r0 : Index := Scalar.indexCast v3890_r0
  let c384_2584_r0 : Index := 384#32
  let c1408_2585_r0 : Index := 1408#32
  ![v4428_r0.toNat, 384, 1408]
def k0_off239 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4454_r0 : Index := Scalar.indexCast v3889_r0
  let c0_2600_r0 : Index := 0#32
  let c0_2601_r0 : Index := 0#32
  ![v4454_r0.toNat, 0, 0]
def k0_off240 (k0_t2 : Fin k0_t2_loop.trips) (c0_i32_2603_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c28_i32_2597_r0 : BitVec 32 := 28#32
  let v4451_r0 : BitVec 32 := Scalar.subi v3888_r0 c28_i32_2597_r0
  let c2_i32_2598_r0 : BitVec 32 := 2#32
  let v4452_r0 : BitVec 32 := Scalar.muli v4451_r0 c2_i32_2598_r0
  let c2_i32_2599_r0 : BitVec 32 := 2#32
  let v4453_r0 : BitVec 32 := Scalar.muli v4452_r0 c2_i32_2599_r0
  let c0_i32_2602_r0 : BitVec 32 := 0#32
  let v4458_r0 : BitVec 32 := Scalar.addi v4453_r0 c0_i32_2602_r0
  let v4459_r0 : BitVec 32 := Scalar.addi v4458_r0 c0_i32_2603_r0
  let v4460_r0 : Index := Scalar.indexCast v4459_r0
  let c16_2604_r0 : Index := 16#32
  ![v4460_r0.toNat, 16]
def k0_off241 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4465_r0 : Index := Scalar.indexCast v3889_r0
  let c0_2605_r0 : Index := 0#32
  let c128_2606_r0 : Index := 128#32
  ![v4465_r0.toNat, 0, 128]
def k0_off242 (k0_t2 : Fin k0_t2_loop.trips) (c0_i32_2608_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c28_i32_2597_r0 : BitVec 32 := 28#32
  let v4451_r0 : BitVec 32 := Scalar.subi v3888_r0 c28_i32_2597_r0
  let c2_i32_2598_r0 : BitVec 32 := 2#32
  let v4452_r0 : BitVec 32 := Scalar.muli v4451_r0 c2_i32_2598_r0
  let c2_i32_2599_r0 : BitVec 32 := 2#32
  let v4453_r0 : BitVec 32 := Scalar.muli v4452_r0 c2_i32_2599_r0
  let c0_i32_2607_r0 : BitVec 32 := 0#32
  let v4469_r0 : BitVec 32 := Scalar.addi v4453_r0 c0_i32_2607_r0
  let v4470_r0 : BitVec 32 := Scalar.addi v4469_r0 c0_i32_2608_r0
  let v4471_r0 : Index := Scalar.indexCast v4470_r0
  let c17_2609_r0 : Index := 17#32
  ![v4471_r0.toNat, 17]
def k0_off243 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4477_r0 : Index := Scalar.indexCast v3889_r0
  let c128_2610_r0 : Index := 128#32
  let c0_2611_r0 : Index := 0#32
  ![v4477_r0.toNat, 128, 0]
def k0_off244 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4488_r0 : Index := Scalar.indexCast v3889_r0
  let c128_2615_r0 : Index := 128#32
  let c128_2616_r0 : Index := 128#32
  ![v4488_r0.toNat, 128, 128]
def k0_off245 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4504_r0 : Index := Scalar.indexCast v3889_r0
  let c0_2623_r0 : Index := 0#32
  let c256_2624_r0 : Index := 256#32
  ![v4504_r0.toNat, 0, 256]
def k0_off246 (k0_t2 : Fin k0_t2_loop.trips) (c0_i32_2626_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c28_i32_2620_r0 : BitVec 32 := 28#32
  let v4501_r0 : BitVec 32 := Scalar.subi v3888_r0 c28_i32_2620_r0
  let c2_i32_2621_r0 : BitVec 32 := 2#32
  let v4502_r0 : BitVec 32 := Scalar.muli v4501_r0 c2_i32_2621_r0
  let c2_i32_2622_r0 : BitVec 32 := 2#32
  let v4503_r0 : BitVec 32 := Scalar.muli v4502_r0 c2_i32_2622_r0
  let c0_i32_2625_r0 : BitVec 32 := 0#32
  let v4508_r0 : BitVec 32 := Scalar.addi v4503_r0 c0_i32_2625_r0
  let v4509_r0 : BitVec 32 := Scalar.addi v4508_r0 c0_i32_2626_r0
  let v4510_r0 : Index := Scalar.indexCast v4509_r0
  let c18_2627_r0 : Index := 18#32
  ![v4510_r0.toNat, 18]
def k0_off247 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4515_r0 : Index := Scalar.indexCast v3889_r0
  let c0_2628_r0 : Index := 0#32
  let c384_2629_r0 : Index := 384#32
  ![v4515_r0.toNat, 0, 384]
def k0_off248 (k0_t2 : Fin k0_t2_loop.trips) (c0_i32_2631_r0 : BitVec 32) : Fin 2 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c28_i32_2620_r0 : BitVec 32 := 28#32
  let v4501_r0 : BitVec 32 := Scalar.subi v3888_r0 c28_i32_2620_r0
  let c2_i32_2621_r0 : BitVec 32 := 2#32
  let v4502_r0 : BitVec 32 := Scalar.muli v4501_r0 c2_i32_2621_r0
  let c2_i32_2622_r0 : BitVec 32 := 2#32
  let v4503_r0 : BitVec 32 := Scalar.muli v4502_r0 c2_i32_2622_r0
  let c0_i32_2630_r0 : BitVec 32 := 0#32
  let v4519_r0 : BitVec 32 := Scalar.addi v4503_r0 c0_i32_2630_r0
  let v4520_r0 : BitVec 32 := Scalar.addi v4519_r0 c0_i32_2631_r0
  let v4521_r0 : Index := Scalar.indexCast v4520_r0
  let c19_2632_r0 : Index := 19#32
  ![v4521_r0.toNat, 19]
def k0_off249 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4527_r0 : Index := Scalar.indexCast v3889_r0
  let c128_2633_r0 : Index := 128#32
  let c256_2634_r0 : Index := 256#32
  ![v4527_r0.toNat, 128, 256]
def k0_off250 (k0_t2 : Fin k0_t2_loop.trips) : Fin 3 → Nat :=
  let c29_i32_925_r0 : BitVec 32 := 29#32
  let c1_i32_927_r0 : BitVec 32 := 1#32
  let arg38_r0 : BitVec 32 := Scf.iv c29_i32_925_r0 c1_i32_927_r0 k0_t2
  let c1_i32_2316_r0 : BitVec 32 := 1#32
  let v3888_r0 : BitVec 32 := Scalar.addi arg38_r0 c1_i32_2316_r0
  let c12_i32_2317_r0 : BitVec 32 := 12#32
  let v3889_r0 : BitVec 32 := Scalar.remsi v3888_r0 c12_i32_2317_r0
  let v4538_r0 : Index := Scalar.indexCast v3889_r0
  let c128_2638_r0 : Index := 128#32
  let c384_2639_r0 : Index := 384#32
  ![v4538_r0.toNat, 128, 384]
def k0_mult33 : BitVec 32 :=
  let c0_i32_933_r0 : BitVec 32 := 0#32
  let c7_i32_934_r0 : BitVec 32 := 7#32
  let v1681_r0 : BitVec 32 := Scalar.divsi c0_i32_933_r0 c7_i32_934_r0
  let c2048_i32_935_r0 : BitVec 32 := 2048#32
  let v1682_r0 : BitVec 32 := Scalar.muli v1681_r0 c2048_i32_935_r0
  v1682_r0
def k0_off251 (c0_i32_930_r0 : BitVec 32) (c0_i32_933_r0 : BitVec 32) : Fin 2 → Nat :=
  let c7_i32_931_r0 : BitVec 32 := 7#32
  let v1679_r0 : BitVec 32 := Scalar.remsi c0_i32_930_r0 c7_i32_931_r0
  let c512_i32_932_r0 : BitVec 32 := 512#32
  let v1680_r0 : BitVec 32 := Scalar.muli v1679_r0 c512_i32_932_r0
  let c7_i32_934_r0 : BitVec 32 := 7#32
  let v1681_r0 : BitVec 32 := Scalar.divsi c0_i32_933_r0 c7_i32_934_r0
  let c2048_i32_935_r0 : BitVec 32 := 2048#32
  let v1682_r0 : BitVec 32 := Scalar.muli v1681_r0 c2048_i32_935_r0
  let v1683_r0 : BitVec 32 := v1682_r0
  ![v1680_r0.toNat, v1683_r0.toNat]
def k0_off251_at (r : Fin 2) : BitVec 32 × BitVec 32 :=
  if r.val < 1 then
    (0#32, 0#32)
  else
    (10#32, 10#32)
def k0_mult34 : BitVec 32 :=
  let c10_i32_942_r0 : BitVec 32 := 10#32
  let c7_i32_943_r0 : BitVec 32 := 7#32
  let v1692_r0 : BitVec 32 := Scalar.divsi c10_i32_942_r0 c7_i32_943_r0
  let c2048_i32_944_r0 : BitVec 32 := 2048#32
  let v1693_r0 : BitVec 32 := Scalar.muli v1692_r0 c2048_i32_944_r0
  v1693_r0
def k0_off252 (c0_i32_1146_r0 : BitVec 32) (c0_i32_1155_r0 : BitVec 32) (c0_i32_1156_r0 : BitVec 32) (c0_i32_1150_r0 : BitVec 32) (c0_i32_1157_r0 : BitVec 32) (c0_i32_1158_r0 : BitVec 32) : Fin 2 → Nat :=
  let c7_i32_1147_r0 : BitVec 32 := 7#32
  let v2076_r0 : BitVec 32 := Scalar.remsi c0_i32_1146_r0 c7_i32_1147_r0
  let c2_i32_1148_r0 : BitVec 32 := 2#32
  let v2077_r0 : BitVec 32 := Scalar.muli v2076_r0 c2_i32_1148_r0
  let c2_i32_1149_r0 : BitVec 32 := 2#32
  let v2078_r0 : BitVec 32 := Scalar.muli v2077_r0 c2_i32_1149_r0
  let v2085_r0 : BitVec 32 := Scalar.addi v2078_r0 c0_i32_1155_r0
  let v2086_r0 : BitVec 32 := Scalar.addi v2085_r0 c0_i32_1156_r0
  let v2089_r0 : Index := Scalar.indexCast v2086_r0
  let c7_i32_1151_r0 : BitVec 32 := 7#32
  let v2079_r0 : BitVec 32 := Scalar.divsi c0_i32_1150_r0 c7_i32_1151_r0
  let c16_i32_1152_r0 : BitVec 32 := 16#32
  let v2080_r0 : BitVec 32 := Scalar.muli v2079_r0 c16_i32_1152_r0
  let v2087_r0 : BitVec 32 := Scalar.addi v2080_r0 c0_i32_1157_r0
  let v2088_r0 : BitVec 32 := Scalar.addi v2087_r0 c0_i32_1158_r0
  let v2090_r0 : Index := Scalar.indexCast v2088_r0
  ![v2089_r0.toNat, v2090_r0.toNat]
def k0_off252_at (r : Fin 64) : BitVec 32 × BitVec 32 × BitVec 32 × BitVec 32 × BitVec 32 × BitVec 32 :=
  if r.val < 32 then
    if r.val < 16 then
      if r.val < 8 then
        if r.val < 4 then
          if r.val < 2 then
            if r.val < 1 then
              (0#32, 0#32, 0#32, 0#32, 0#32, 0#32)
            else
              (0#32, 0#32, 0#32, 0#32, 0#32, 1#32)
          else
            if r.val < 3 then
              (0#32, 0#32, 1#32, 0#32, 0#32, 0#32)
            else
              (0#32, 0#32, 1#32, 0#32, 0#32, 1#32)
        else
          if r.val < 6 then
            if r.val < 5 then
              (0#32, 0#32, 0#32, 0#32, 2#32, 0#32)
            else
              (0#32, 0#32, 0#32, 0#32, 2#32, 1#32)
          else
            if r.val < 7 then
              (0#32, 0#32, 1#32, 0#32, 2#32, 0#32)
            else
              (0#32, 0#32, 1#32, 0#32, 2#32, 1#32)
      else
        if r.val < 12 then
          if r.val < 10 then
            if r.val < 9 then
              (27#32, 0#32, 0#32, 27#32, 4#32, 0#32)
            else
              (27#32, 0#32, 0#32, 27#32, 4#32, 1#32)
          else
            if r.val < 11 then
              (27#32, 0#32, 1#32, 27#32, 4#32, 0#32)
            else
              (27#32, 0#32, 1#32, 27#32, 4#32, 1#32)
        else
          if r.val < 14 then
            if r.val < 13 then
              (27#32, 0#32, 0#32, 27#32, 6#32, 0#32)
            else
              (27#32, 0#32, 0#32, 27#32, 6#32, 1#32)
          else
            if r.val < 15 then
              (27#32, 0#32, 1#32, 27#32, 6#32, 0#32)
            else
              (27#32, 0#32, 1#32, 27#32, 6#32, 1#32)
    else
      if r.val < 24 then
        if r.val < 20 then
          if r.val < 18 then
            if r.val < 17 then
              (27#32, 0#32, 0#32, 27#32, 8#32, 0#32)
            else
              (27#32, 0#32, 0#32, 27#32, 8#32, 1#32)
          else
            if r.val < 19 then
              (27#32, 0#32, 1#32, 27#32, 8#32, 0#32)
            else
              (27#32, 0#32, 1#32, 27#32, 8#32, 1#32)
        else
          if r.val < 22 then
            if r.val < 21 then
              (27#32, 0#32, 0#32, 27#32, 10#32, 0#32)
            else
              (27#32, 0#32, 0#32, 27#32, 10#32, 1#32)
          else
            if r.val < 23 then
              (27#32, 0#32, 1#32, 27#32, 10#32, 0#32)
            else
              (27#32, 0#32, 1#32, 27#32, 10#32, 1#32)
      else
        if r.val < 28 then
          if r.val < 26 then
            if r.val < 25 then
              (27#32, 0#32, 0#32, 27#32, 12#32, 0#32)
            else
              (27#32, 0#32, 0#32, 27#32, 12#32, 1#32)
          else
            if r.val < 27 then
              (27#32, 0#32, 1#32, 27#32, 12#32, 0#32)
            else
              (27#32, 0#32, 1#32, 27#32, 12#32, 1#32)
        else
          if r.val < 30 then
            if r.val < 29 then
              (27#32, 0#32, 0#32, 27#32, 14#32, 0#32)
            else
              (27#32, 0#32, 0#32, 27#32, 14#32, 1#32)
          else
            if r.val < 31 then
              (27#32, 0#32, 1#32, 27#32, 14#32, 0#32)
            else
              (27#32, 0#32, 1#32, 27#32, 14#32, 1#32)
  else
    if r.val < 48 then
      if r.val < 40 then
        if r.val < 36 then
          if r.val < 34 then
            if r.val < 33 then
              (27#32, 2#32, 0#32, 27#32, 0#32, 0#32)
            else
              (27#32, 2#32, 0#32, 27#32, 0#32, 1#32)
          else
            if r.val < 35 then
              (27#32, 2#32, 1#32, 27#32, 0#32, 0#32)
            else
              (27#32, 2#32, 1#32, 27#32, 0#32, 1#32)
        else
          if r.val < 38 then
            if r.val < 37 then
              (27#32, 2#32, 0#32, 27#32, 2#32, 0#32)
            else
              (27#32, 2#32, 0#32, 27#32, 2#32, 1#32)
          else
            if r.val < 39 then
              (27#32, 2#32, 1#32, 27#32, 2#32, 0#32)
            else
              (27#32, 2#32, 1#32, 27#32, 2#32, 1#32)
      else
        if r.val < 44 then
          if r.val < 42 then
            if r.val < 41 then
              (27#32, 2#32, 0#32, 27#32, 4#32, 0#32)
            else
              (27#32, 2#32, 0#32, 27#32, 4#32, 1#32)
          else
            if r.val < 43 then
              (27#32, 2#32, 1#32, 27#32, 4#32, 0#32)
            else
              (27#32, 2#32, 1#32, 27#32, 4#32, 1#32)
        else
          if r.val < 46 then
            if r.val < 45 then
              (27#32, 2#32, 0#32, 27#32, 6#32, 0#32)
            else
              (27#32, 2#32, 0#32, 27#32, 6#32, 1#32)
          else
            if r.val < 47 then
              (27#32, 2#32, 1#32, 27#32, 6#32, 0#32)
            else
              (27#32, 2#32, 1#32, 27#32, 6#32, 1#32)
    else
      if r.val < 56 then
        if r.val < 52 then
          if r.val < 50 then
            if r.val < 49 then
              (27#32, 2#32, 0#32, 27#32, 8#32, 0#32)
            else
              (27#32, 2#32, 0#32, 27#32, 8#32, 1#32)
          else
            if r.val < 51 then
              (27#32, 2#32, 1#32, 27#32, 8#32, 0#32)
            else
              (27#32, 2#32, 1#32, 27#32, 8#32, 1#32)
        else
          if r.val < 54 then
            if r.val < 53 then
              (27#32, 2#32, 0#32, 27#32, 10#32, 0#32)
            else
              (27#32, 2#32, 0#32, 27#32, 10#32, 1#32)
          else
            if r.val < 55 then
              (27#32, 2#32, 1#32, 27#32, 10#32, 0#32)
            else
              (27#32, 2#32, 1#32, 27#32, 10#32, 1#32)
      else
        if r.val < 60 then
          if r.val < 58 then
            if r.val < 57 then
              (27#32, 2#32, 0#32, 27#32, 12#32, 0#32)
            else
              (27#32, 2#32, 0#32, 27#32, 12#32, 1#32)
          else
            if r.val < 59 then
              (27#32, 2#32, 1#32, 27#32, 12#32, 0#32)
            else
              (27#32, 2#32, 1#32, 27#32, 12#32, 1#32)
        else
          if r.val < 62 then
            if r.val < 61 then
              (27#32, 2#32, 0#32, 27#32, 14#32, 0#32)
            else
              (27#32, 2#32, 0#32, 27#32, 14#32, 1#32)
          else
            if r.val < 63 then
              (27#32, 2#32, 1#32, 27#32, 14#32, 0#32)
            else
              (27#32, 2#32, 1#32, 27#32, 14#32, 1#32)
@[reducible] def k0_t3_loop : Scf.Loop 32 :=
  let c0_i32_1409_r0 : BitVec 32 := 0#32
  let c6_i32_1410_r0 : BitVec 32 := 6#32
  let v2581_r0 : BitVec 32 := Scalar.addi c0_i32_1409_r0 c6_i32_1410_r0
  let c1_i32_1411_r0 : BitVec 32 := 1#32
  ⟨c0_i32_1409_r0, v2581_r0, c1_i32_1411_r0⟩
def k0_mult35 (k0_t3 : Fin k0_t3_loop.trips) : BitVec 32 :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2301_r0 : BitVec 32 := 1#32
  let v3865_r0 : BitVec 32 := Scalar.addi v3864_r0 c1_i32_2301_r0
  let c56_i32_2303_r0 : BitVec 32 := 56#32
  let v3867_r0 : BitVec 32 := Scalar.subi v3865_r0 c56_i32_2303_r0
  let c7_i32_2306_r0 : BitVec 32 := 7#32
  let v3870_r0 : BitVec 32 := Scalar.divsi v3867_r0 c7_i32_2306_r0
  let c2048_i32_2307_r0 : BitVec 32 := 2048#32
  let v3871_r0 : BitVec 32 := Scalar.muli v3870_r0 c2048_i32_2307_r0
  v3871_r0
def k0_off253 (k0_t3 : Fin k0_t3_loop.trips) : Fin 1 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2301_r0 : BitVec 32 := 1#32
  let v3865_r0 : BitVec 32 := Scalar.addi v3864_r0 c1_i32_2301_r0
  let c12_i32_2302_r0 : BitVec 32 := 12#32
  let v3866_r0 : BitVec 32 := Scalar.remsi v3865_r0 c12_i32_2302_r0
  ![v3866_r0.toNat]
def k0_off254 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2301_r0 : BitVec 32 := 1#32
  let v3865_r0 : BitVec 32 := Scalar.addi v3864_r0 c1_i32_2301_r0
  let c12_i32_2302_r0 : BitVec 32 := 12#32
  let v3866_r0 : BitVec 32 := Scalar.remsi v3865_r0 c12_i32_2302_r0
  let c0_i32_2308_r0 : BitVec 32 := 0#32
  let c0_i32_2309_r0 : BitVec 32 := 0#32
  ![v3866_r0.toNat, 0, 0]
def k0_off255 (k0_t3 : Fin k0_t3_loop.trips) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2301_r0 : BitVec 32 := 1#32
  let v3865_r0 : BitVec 32 := Scalar.addi v3864_r0 c1_i32_2301_r0
  let c56_i32_2303_r0 : BitVec 32 := 56#32
  let v3867_r0 : BitVec 32 := Scalar.subi v3865_r0 c56_i32_2303_r0
  let c7_i32_2304_r0 : BitVec 32 := 7#32
  let v3868_r0 : BitVec 32 := Scalar.remsi v3867_r0 c7_i32_2304_r0
  let c512_i32_2305_r0 : BitVec 32 := 512#32
  let v3869_r0 : BitVec 32 := Scalar.muli v3868_r0 c512_i32_2305_r0
  let c7_i32_2306_r0 : BitVec 32 := 7#32
  let v3870_r0 : BitVec 32 := Scalar.divsi v3867_r0 c7_i32_2306_r0
  let c2048_i32_2307_r0 : BitVec 32 := 2048#32
  let v3871_r0 : BitVec 32 := Scalar.muli v3870_r0 c2048_i32_2307_r0
  let v3872_r0 : BitVec 32 := v3871_r0
  ![v3869_r0.toNat, v3872_r0.toNat]
def k0_cond7 (k0_t3 : Fin k0_t3_loop.trips) : BitVec 1 :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c28_i32_2311_r0 : BitVec 32 := 28#32
  let v3879_r0 : BitVec 1 := Scalar.cmpi .slt v3878_r0 c28_i32_2311_r0
  let v3880_r0 : BitVec 32 := Scalar.extui v3879_r0
  let c0_i32_2312_r0 : BitVec 32 := 0#32
  let v3881_r0 : BitVec 1 := Scalar.cmpi .ne v3880_r0 c0_i32_2312_r0
  v3881_r0

def k0_off256 (k0_t3 : Fin k0_t3_loop.trips) : Fin 1 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  ![v5265_r0.toNat]
def k0_off257 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  let c0_i32_2967_r0 : BitVec 32 := 0#32
  let c0_i32_2968_r0 : BitVec 32 := 0#32
  ![v5265_r0.toNat, 0, 0]
def k0_off258 (k0_t3 : Fin k0_t3_loop.trips) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c512_i32_2966_r0 : BitVec 32 := 512#32
  let v5266_r0 : BitVec 32 := Scalar.muli v3878_r0 c512_i32_2966_r0
  let c0_i32_2969_r0 : BitVec 32 := 0#32
  ![v5266_r0.toNat, 0]
def k0_cond8 (k0_t3 : Fin k0_t3_loop.trips) : BitVec 1 :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c28_i32_2313_r0 : BitVec 32 := 28#32
  let v3882_r0 : BitVec 1 := Scalar.cmpi .sge v3878_r0 c28_i32_2313_r0
  let c56_i32_2314_r0 : BitVec 32 := 56#32
  let v3883_r0 : BitVec 1 := Scalar.cmpi .slt v3878_r0 c56_i32_2314_r0
  let v3884_r0 : BitVec 1 := Scalar.andi v3882_r0 v3883_r0
  let v3885_r0 : BitVec 32 := Scalar.extui v3884_r0
  let c0_i32_2315_r0 : BitVec 32 := 0#32
  let v3886_r0 : BitVec 1 := Scalar.cmpi .ne v3885_r0 c0_i32_2315_r0
  v3886_r0

def k0_off259 (k0_t3 : Fin k0_t3_loop.trips) : Fin 1 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  ![v5265_r0.toNat]
def k0_off260 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  let c0_i32_2968_r0 : BitVec 32 := 0#32
  let c0_i32_2969_r0 : BitVec 32 := 0#32
  ![v5265_r0.toNat, 0, 0]
def k0_off261 (k0_t3 : Fin k0_t3_loop.trips) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c28_i32_2966_r0 : BitVec 32 := 28#32
  let v5266_r0 : BitVec 32 := Scalar.subi v3878_r0 c28_i32_2966_r0
  let c512_i32_2967_r0 : BitVec 32 := 512#32
  let v5267_r0 : BitVec 32 := Scalar.muli v5266_r0 c512_i32_2967_r0
  let c2048_i32_2970_r0 : BitVec 32 := 2048#32
  ![v5267_r0.toNat, 2048]
def k0_cond9 (k0_t3 : Fin k0_t3_loop.trips) : BitVec 1 :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c56_i32_2316_r0 : BitVec 32 := 56#32
  let v3887_r0 : BitVec 1 := Scalar.cmpi .sge v3878_r0 c56_i32_2316_r0
  let c84_i32_r0 : BitVec 32 := 84#32
  let v3888_r0 : BitVec 1 := Scalar.cmpi .slt v3878_r0 c84_i32_r0
  let v3889_r0 : BitVec 1 := Scalar.andi v3887_r0 v3888_r0
  let v3890_r0 : BitVec 32 := Scalar.extui v3889_r0
  let c0_i32_2317_r0 : BitVec 32 := 0#32
  let v3891_r0 : BitVec 1 := Scalar.cmpi .ne v3890_r0 c0_i32_2317_r0
  v3891_r0

def k0_mult36 (k0_t3 : Fin k0_t3_loop.trips) : BitVec 32 :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c56_i32_2966_r0 : BitVec 32 := 56#32
  let v5266_r0 : BitVec 32 := Scalar.subi v3878_r0 c56_i32_2966_r0
  let c7_i32_2969_r0 : BitVec 32 := 7#32
  let v5269_r0 : BitVec 32 := Scalar.divsi v5266_r0 c7_i32_2969_r0
  let c2048_i32_2970_r0 : BitVec 32 := 2048#32
  let v5270_r0 : BitVec 32 := Scalar.muli v5269_r0 c2048_i32_2970_r0
  v5270_r0
def k0_off262 (k0_t3 : Fin k0_t3_loop.trips) : Fin 1 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  ![v5265_r0.toNat]
def k0_off263 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c12_i32_2965_r0 : BitVec 32 := 12#32
  let v5265_r0 : BitVec 32 := Scalar.remsi v3878_r0 c12_i32_2965_r0
  let c0_i32_2971_r0 : BitVec 32 := 0#32
  let c0_i32_2972_r0 : BitVec 32 := 0#32
  ![v5265_r0.toNat, 0, 0]
def k0_off264 (k0_t3 : Fin k0_t3_loop.trips) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c11_i32_2310_r0 : BitVec 32 := 11#32
  let v3878_r0 : BitVec 32 := Scalar.addi v3864_r0 c11_i32_2310_r0
  let c56_i32_2966_r0 : BitVec 32 := 56#32
  let v5266_r0 : BitVec 32 := Scalar.subi v3878_r0 c56_i32_2966_r0
  let c7_i32_2967_r0 : BitVec 32 := 7#32
  let v5267_r0 : BitVec 32 := Scalar.remsi v5266_r0 c7_i32_2967_r0
  let c512_i32_2968_r0 : BitVec 32 := 512#32
  let v5268_r0 : BitVec 32 := Scalar.muli v5267_r0 c512_i32_2968_r0
  let c7_i32_2969_r0 : BitVec 32 := 7#32
  let v5269_r0 : BitVec 32 := Scalar.divsi v5266_r0 c7_i32_2969_r0
  let c2048_i32_2970_r0 : BitVec 32 := 2048#32
  let v5270_r0 : BitVec 32 := Scalar.muli v5269_r0 c2048_i32_2970_r0
  let v5271_r0 : BitVec 32 := v5270_r0
  ![v5268_r0.toNat, v5271_r0.toNat]
def k0_off265 (k0_t3 : Fin k0_t3_loop.trips) (c0_i32_2324_r0 : BitVec 32) : Fin 3 → Nat :=
  let c0_i32_1409_r0 : BitVec 32 := 0#32
  let c1_i32_1411_r0 : BitVec 32 := 1#32
  let arg38_r0 : BitVec 32 := Scf.iv c0_i32_1409_r0 c1_i32_1411_r0 k0_t3
  let c2_i32_2323_r0 : BitVec 32 := 2#32
  let v3897_r0 : BitVec 32 := Scalar.muli arg38_r0 c2_i32_2323_r0
  let v3898_r0 : BitVec 32 := Scalar.addi v3897_r0 c0_i32_2324_r0
  let v3899_r0 : Index := Scalar.indexCast v3898_r0
  let c0_2325_r0 : Index := 0#32
  let c0_2326_r0 : Index := 0#32
  ![v3899_r0.toNat, 0, 0]
def k0_off266 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3912_r0 : Index := Scalar.indexCast v3895_r0
  let c0_2336_r0 : Index := 0#32
  let c512_2337_r0 : Index := 512#32
  ![v3912_r0.toNat, 0, 512]
def k0_off267 (k0_t3 : Fin k0_t3_loop.trips) (c0_i32_2338_r0 : BitVec 32) (c0_i32_2339_r0 : BitVec 32) (c4_i32_2340_r0 : BitVec 32) (c0_i32_2341_r0 : BitVec 32) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c56_i32_2322_r0 : BitVec 32 := 56#32
  let v3896_r0 : BitVec 32 := Scalar.subi v3864_r0 c56_i32_2322_r0
  let c7_i32_2331_r0 : BitVec 32 := 7#32
  let v3907_r0 : BitVec 32 := Scalar.remsi v3896_r0 c7_i32_2331_r0
  let c2_i32_2332_r0 : BitVec 32 := 2#32
  let v3908_r0 : BitVec 32 := Scalar.muli v3907_r0 c2_i32_2332_r0
  let c2_i32_2333_r0 : BitVec 32 := 2#32
  let v3909_r0 : BitVec 32 := Scalar.muli v3908_r0 c2_i32_2333_r0
  let v3916_r0 : BitVec 32 := Scalar.addi v3909_r0 c0_i32_2338_r0
  let v3917_r0 : BitVec 32 := Scalar.addi v3916_r0 c0_i32_2339_r0
  let v3920_r0 : Index := Scalar.indexCast v3917_r0
  let c7_i32_2334_r0 : BitVec 32 := 7#32
  let v3910_r0 : BitVec 32 := Scalar.divsi v3896_r0 c7_i32_2334_r0
  let c16_i32_2335_r0 : BitVec 32 := 16#32
  let v3911_r0 : BitVec 32 := Scalar.muli v3910_r0 c16_i32_2335_r0
  let v3918_r0 : BitVec 32 := Scalar.addi v3911_r0 c4_i32_2340_r0
  let v3919_r0 : BitVec 32 := Scalar.addi v3918_r0 c0_i32_2341_r0
  let v3921_r0 : Index := Scalar.indexCast v3919_r0
  ![v3920_r0.toNat, v3921_r0.toNat]
def k0_off267_at (r : Fin 56) : BitVec 32 × BitVec 32 × BitVec 32 × BitVec 32 :=
  if r.val < 28 then
    if r.val < 14 then
      if r.val < 7 then
        if r.val < 3 then
          if r.val < 1 then
            (0#32, 0#32, 4#32, 0#32)
          else
            if r.val < 2 then
              (0#32, 0#32, 4#32, 1#32)
            else
              (0#32, 1#32, 4#32, 0#32)
        else
          if r.val < 5 then
            if r.val < 4 then
              (0#32, 1#32, 4#32, 1#32)
            else
              (0#32, 0#32, 6#32, 0#32)
          else
            if r.val < 6 then
              (0#32, 0#32, 6#32, 1#32)
            else
              (0#32, 1#32, 6#32, 0#32)
      else
        if r.val < 10 then
          if r.val < 8 then
            (0#32, 1#32, 6#32, 1#32)
          else
            if r.val < 9 then
              (0#32, 0#32, 8#32, 0#32)
            else
              (0#32, 0#32, 8#32, 1#32)
        else
          if r.val < 12 then
            if r.val < 11 then
              (0#32, 1#32, 8#32, 0#32)
            else
              (0#32, 1#32, 8#32, 1#32)
          else
            if r.val < 13 then
              (0#32, 0#32, 10#32, 0#32)
            else
              (0#32, 0#32, 10#32, 1#32)
    else
      if r.val < 21 then
        if r.val < 17 then
          if r.val < 15 then
            (0#32, 1#32, 10#32, 0#32)
          else
            if r.val < 16 then
              (0#32, 1#32, 10#32, 1#32)
            else
              (0#32, 0#32, 12#32, 0#32)
        else
          if r.val < 19 then
            if r.val < 18 then
              (0#32, 0#32, 12#32, 1#32)
            else
              (0#32, 1#32, 12#32, 0#32)
          else
            if r.val < 20 then
              (0#32, 1#32, 12#32, 1#32)
            else
              (0#32, 0#32, 14#32, 0#32)
      else
        if r.val < 24 then
          if r.val < 22 then
            (0#32, 0#32, 14#32, 1#32)
          else
            if r.val < 23 then
              (0#32, 1#32, 14#32, 0#32)
            else
              (0#32, 1#32, 14#32, 1#32)
        else
          if r.val < 26 then
            if r.val < 25 then
              (2#32, 0#32, 0#32, 0#32)
            else
              (2#32, 0#32, 0#32, 1#32)
          else
            if r.val < 27 then
              (2#32, 1#32, 0#32, 0#32)
            else
              (2#32, 1#32, 0#32, 1#32)
  else
    if r.val < 42 then
      if r.val < 35 then
        if r.val < 31 then
          if r.val < 29 then
            (2#32, 0#32, 2#32, 0#32)
          else
            if r.val < 30 then
              (2#32, 0#32, 2#32, 1#32)
            else
              (2#32, 1#32, 2#32, 0#32)
        else
          if r.val < 33 then
            if r.val < 32 then
              (2#32, 1#32, 2#32, 1#32)
            else
              (2#32, 0#32, 4#32, 0#32)
          else
            if r.val < 34 then
              (2#32, 0#32, 4#32, 1#32)
            else
              (2#32, 1#32, 4#32, 0#32)
      else
        if r.val < 38 then
          if r.val < 36 then
            (2#32, 1#32, 4#32, 1#32)
          else
            if r.val < 37 then
              (2#32, 0#32, 6#32, 0#32)
            else
              (2#32, 0#32, 6#32, 1#32)
        else
          if r.val < 40 then
            if r.val < 39 then
              (2#32, 1#32, 6#32, 0#32)
            else
              (2#32, 1#32, 6#32, 1#32)
          else
            if r.val < 41 then
              (2#32, 0#32, 8#32, 0#32)
            else
              (2#32, 0#32, 8#32, 1#32)
    else
      if r.val < 49 then
        if r.val < 45 then
          if r.val < 43 then
            (2#32, 1#32, 8#32, 0#32)
          else
            if r.val < 44 then
              (2#32, 1#32, 8#32, 1#32)
            else
              (2#32, 0#32, 10#32, 0#32)
        else
          if r.val < 47 then
            if r.val < 46 then
              (2#32, 0#32, 10#32, 1#32)
            else
              (2#32, 1#32, 10#32, 0#32)
          else
            if r.val < 48 then
              (2#32, 1#32, 10#32, 1#32)
            else
              (2#32, 0#32, 12#32, 0#32)
      else
        if r.val < 52 then
          if r.val < 50 then
            (2#32, 0#32, 12#32, 1#32)
          else
            if r.val < 51 then
              (2#32, 1#32, 12#32, 0#32)
            else
              (2#32, 1#32, 12#32, 1#32)
        else
          if r.val < 54 then
            if r.val < 53 then
              (2#32, 0#32, 14#32, 0#32)
            else
              (2#32, 0#32, 14#32, 1#32)
          else
            if r.val < 55 then
              (2#32, 1#32, 14#32, 0#32)
            else
              (2#32, 1#32, 14#32, 1#32)
def k0_off268 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3926_r0 : Index := Scalar.indexCast v3895_r0
  let c0_2342_r0 : Index := 0#32
  let c640_2343_r0 : Index := 640#32
  ![v3926_r0.toNat, 0, 640]
def k0_off269 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3941_r0 : Index := Scalar.indexCast v3895_r0
  let c128_2348_r0 : Index := 128#32
  let c512_2349_r0 : Index := 512#32
  ![v3941_r0.toNat, 128, 512]
def k0_off270 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3955_r0 : Index := Scalar.indexCast v3895_r0
  let c128_2354_r0 : Index := 128#32
  let c640_2355_r0 : Index := 640#32
  ![v3955_r0.toNat, 128, 640]
def k0_off271 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3976_r0 : Index := Scalar.indexCast v3895_r0
  let c0_2365_r0 : Index := 0#32
  let c768_2366_r0 : Index := 768#32
  ![v3976_r0.toNat, 0, 768]
def k0_off272 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v3990_r0 : Index := Scalar.indexCast v3895_r0
  let c0_2371_r0 : Index := 0#32
  let c896_2372_r0 : Index := 896#32
  ![v3990_r0.toNat, 0, 896]
def k0_off273 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4005_r0 : Index := Scalar.indexCast v3895_r0
  let c128_2377_r0 : Index := 128#32
  let c768_2378_r0 : Index := 768#32
  ![v4005_r0.toNat, 128, 768]
def k0_off274 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4019_r0 : Index := Scalar.indexCast v3895_r0
  let c128_2383_r0 : Index := 128#32
  let c896_2384_r0 : Index := 896#32
  ![v4019_r0.toNat, 128, 896]
def k0_off275 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4050_r0 : Index := Scalar.indexCast v3895_r0
  let c0_2402_r0 : Index := 0#32
  let c1024_2403_r0 : Index := 1024#32
  ![v4050_r0.toNat, 0, 1024]
def k0_off276 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4064_r0 : Index := Scalar.indexCast v3895_r0
  let c0_2408_r0 : Index := 0#32
  let c1152_2409_r0 : Index := 1152#32
  ![v4064_r0.toNat, 0, 1152]
def k0_off277 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4079_r0 : Index := Scalar.indexCast v3895_r0
  let c128_2414_r0 : Index := 128#32
  let c1024_2415_r0 : Index := 1024#32
  ![v4079_r0.toNat, 128, 1024]
def k0_off278 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4093_r0 : Index := Scalar.indexCast v3895_r0
  let c128_2420_r0 : Index := 128#32
  let c1152_2421_r0 : Index := 1152#32
  ![v4093_r0.toNat, 128, 1152]
def k0_off279 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4114_r0 : Index := Scalar.indexCast v3895_r0
  let c0_2431_r0 : Index := 0#32
  let c1280_2432_r0 : Index := 1280#32
  ![v4114_r0.toNat, 0, 1280]
def k0_off280 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4128_r0 : Index := Scalar.indexCast v3895_r0
  let c0_2437_r0 : Index := 0#32
  let c1408_2438_r0 : Index := 1408#32
  ![v4128_r0.toNat, 0, 1408]
def k0_off281 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4143_r0 : Index := Scalar.indexCast v3895_r0
  let c128_2443_r0 : Index := 128#32
  let c1280_2444_r0 : Index := 1280#32
  ![v4143_r0.toNat, 128, 1280]
def k0_off282 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4157_r0 : Index := Scalar.indexCast v3895_r0
  let c128_2449_r0 : Index := 128#32
  let c1408_2450_r0 : Index := 1408#32
  ![v4157_r0.toNat, 128, 1408]
def k0_off283 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4188_r0 : Index := Scalar.indexCast v3895_r0
  let c0_2468_r0 : Index := 0#32
  let c1536_2469_r0 : Index := 1536#32
  ![v4188_r0.toNat, 0, 1536]
def k0_off284 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4202_r0 : Index := Scalar.indexCast v3895_r0
  let c0_2474_r0 : Index := 0#32
  let c1664_2475_r0 : Index := 1664#32
  ![v4202_r0.toNat, 0, 1664]
def k0_off285 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4217_r0 : Index := Scalar.indexCast v3895_r0
  let c128_2480_r0 : Index := 128#32
  let c1536_2481_r0 : Index := 1536#32
  ![v4217_r0.toNat, 128, 1536]
def k0_off286 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4231_r0 : Index := Scalar.indexCast v3895_r0
  let c128_2486_r0 : Index := 128#32
  let c1664_2487_r0 : Index := 1664#32
  ![v4231_r0.toNat, 128, 1664]
def k0_off287 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4252_r0 : Index := Scalar.indexCast v3895_r0
  let c0_2497_r0 : Index := 0#32
  let c1792_2498_r0 : Index := 1792#32
  ![v4252_r0.toNat, 0, 1792]
def k0_off288 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4266_r0 : Index := Scalar.indexCast v3895_r0
  let c0_2503_r0 : Index := 0#32
  let c1920_2504_r0 : Index := 1920#32
  ![v4266_r0.toNat, 0, 1920]
def k0_off289 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4281_r0 : Index := Scalar.indexCast v3895_r0
  let c128_2509_r0 : Index := 128#32
  let c1792_2510_r0 : Index := 1792#32
  ![v4281_r0.toNat, 128, 1792]
def k0_off290 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4295_r0 : Index := Scalar.indexCast v3895_r0
  let c128_2515_r0 : Index := 128#32
  let c1920_2516_r0 : Index := 1920#32
  ![v4295_r0.toNat, 128, 1920]
def k0_off291 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4326_r0 : Index := Scalar.indexCast v3895_r0
  let c256_2534_r0 : Index := 256#32
  let c0_2535_r0 : Index := 0#32
  ![v4326_r0.toNat, 256, 0]
def k0_off292 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4340_r0 : Index := Scalar.indexCast v3895_r0
  let c256_2540_r0 : Index := 256#32
  let c128_2541_r0 : Index := 128#32
  ![v4340_r0.toNat, 256, 128]
def k0_off293 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4355_r0 : Index := Scalar.indexCast v3895_r0
  let c384_2546_r0 : Index := 384#32
  let c0_2547_r0 : Index := 0#32
  ![v4355_r0.toNat, 384, 0]
def k0_off294 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4369_r0 : Index := Scalar.indexCast v3895_r0
  let c384_2552_r0 : Index := 384#32
  let c128_2553_r0 : Index := 128#32
  ![v4369_r0.toNat, 384, 128]
def k0_off295 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4390_r0 : Index := Scalar.indexCast v3895_r0
  let c256_2563_r0 : Index := 256#32
  let c256_2564_r0 : Index := 256#32
  ![v4390_r0.toNat, 256, 256]
def k0_off296 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4404_r0 : Index := Scalar.indexCast v3895_r0
  let c256_2569_r0 : Index := 256#32
  let c384_2570_r0 : Index := 384#32
  ![v4404_r0.toNat, 256, 384]
def k0_off297 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4419_r0 : Index := Scalar.indexCast v3895_r0
  let c384_2575_r0 : Index := 384#32
  let c256_2576_r0 : Index := 256#32
  ![v4419_r0.toNat, 384, 256]
def k0_off298 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4433_r0 : Index := Scalar.indexCast v3895_r0
  let c384_2581_r0 : Index := 384#32
  let c384_2582_r0 : Index := 384#32
  ![v4433_r0.toNat, 384, 384]
def k0_off299 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4464_r0 : Index := Scalar.indexCast v3895_r0
  let c256_2600_r0 : Index := 256#32
  let c512_2601_r0 : Index := 512#32
  ![v4464_r0.toNat, 256, 512]
def k0_off300 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4478_r0 : Index := Scalar.indexCast v3895_r0
  let c256_2606_r0 : Index := 256#32
  let c640_2607_r0 : Index := 640#32
  ![v4478_r0.toNat, 256, 640]
def k0_off301 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4493_r0 : Index := Scalar.indexCast v3895_r0
  let c384_2612_r0 : Index := 384#32
  let c512_2613_r0 : Index := 512#32
  ![v4493_r0.toNat, 384, 512]
def k0_off302 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4507_r0 : Index := Scalar.indexCast v3895_r0
  let c384_2618_r0 : Index := 384#32
  let c640_2619_r0 : Index := 640#32
  ![v4507_r0.toNat, 384, 640]
def k0_off303 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4528_r0 : Index := Scalar.indexCast v3895_r0
  let c256_2629_r0 : Index := 256#32
  let c768_2630_r0 : Index := 768#32
  ![v4528_r0.toNat, 256, 768]
def k0_off304 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4542_r0 : Index := Scalar.indexCast v3895_r0
  let c256_2635_r0 : Index := 256#32
  let c896_2636_r0 : Index := 896#32
  ![v4542_r0.toNat, 256, 896]
def k0_off305 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4557_r0 : Index := Scalar.indexCast v3895_r0
  let c384_2641_r0 : Index := 384#32
  let c768_2642_r0 : Index := 768#32
  ![v4557_r0.toNat, 384, 768]
def k0_off306 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4571_r0 : Index := Scalar.indexCast v3895_r0
  let c384_2647_r0 : Index := 384#32
  let c896_2648_r0 : Index := 896#32
  ![v4571_r0.toNat, 384, 896]
def k0_off307 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4602_r0 : Index := Scalar.indexCast v3895_r0
  let c256_2666_r0 : Index := 256#32
  let c1024_2667_r0 : Index := 1024#32
  ![v4602_r0.toNat, 256, 1024]
def k0_off308 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4616_r0 : Index := Scalar.indexCast v3895_r0
  let c256_2672_r0 : Index := 256#32
  let c1152_2673_r0 : Index := 1152#32
  ![v4616_r0.toNat, 256, 1152]
def k0_off309 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4631_r0 : Index := Scalar.indexCast v3895_r0
  let c384_2678_r0 : Index := 384#32
  let c1024_2679_r0 : Index := 1024#32
  ![v4631_r0.toNat, 384, 1024]
def k0_off310 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4645_r0 : Index := Scalar.indexCast v3895_r0
  let c384_2684_r0 : Index := 384#32
  let c1152_2685_r0 : Index := 1152#32
  ![v4645_r0.toNat, 384, 1152]
def k0_off311 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4666_r0 : Index := Scalar.indexCast v3895_r0
  let c256_2695_r0 : Index := 256#32
  let c1280_2696_r0 : Index := 1280#32
  ![v4666_r0.toNat, 256, 1280]
def k0_off312 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4680_r0 : Index := Scalar.indexCast v3895_r0
  let c256_2701_r0 : Index := 256#32
  let c1408_2702_r0 : Index := 1408#32
  ![v4680_r0.toNat, 256, 1408]
def k0_off313 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4695_r0 : Index := Scalar.indexCast v3895_r0
  let c384_2707_r0 : Index := 384#32
  let c1280_2708_r0 : Index := 1280#32
  ![v4695_r0.toNat, 384, 1280]
def k0_off314 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4709_r0 : Index := Scalar.indexCast v3895_r0
  let c384_2713_r0 : Index := 384#32
  let c1408_2714_r0 : Index := 1408#32
  ![v4709_r0.toNat, 384, 1408]
def k0_off315 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4740_r0 : Index := Scalar.indexCast v3895_r0
  let c256_2732_r0 : Index := 256#32
  let c1536_2733_r0 : Index := 1536#32
  ![v4740_r0.toNat, 256, 1536]
def k0_off316 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4754_r0 : Index := Scalar.indexCast v3895_r0
  let c256_2738_r0 : Index := 256#32
  let c1664_2739_r0 : Index := 1664#32
  ![v4754_r0.toNat, 256, 1664]
def k0_off317 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4769_r0 : Index := Scalar.indexCast v3895_r0
  let c384_2744_r0 : Index := 384#32
  let c1536_2745_r0 : Index := 1536#32
  ![v4769_r0.toNat, 384, 1536]
def k0_off318 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4783_r0 : Index := Scalar.indexCast v3895_r0
  let c384_2750_r0 : Index := 384#32
  let c1664_2751_r0 : Index := 1664#32
  ![v4783_r0.toNat, 384, 1664]
def k0_off319 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4804_r0 : Index := Scalar.indexCast v3895_r0
  let c256_2761_r0 : Index := 256#32
  let c1792_2762_r0 : Index := 1792#32
  ![v4804_r0.toNat, 256, 1792]
def k0_off320 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4818_r0 : Index := Scalar.indexCast v3895_r0
  let c256_2767_r0 : Index := 256#32
  let c1920_2768_r0 : Index := 1920#32
  ![v4818_r0.toNat, 256, 1920]
def k0_off321 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4833_r0 : Index := Scalar.indexCast v3895_r0
  let c384_2773_r0 : Index := 384#32
  let c1792_2774_r0 : Index := 1792#32
  ![v4833_r0.toNat, 384, 1792]
def k0_off322 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c12_i32_2321_r0 : BitVec 32 := 12#32
  let v3895_r0 : BitVec 32 := Scalar.remsi v3864_r0 c12_i32_2321_r0
  let v4847_r0 : Index := Scalar.indexCast v3895_r0
  let c384_2779_r0 : Index := 384#32
  let c1920_2780_r0 : Index := 1920#32
  ![v4847_r0.toNat, 384, 1920]
def k0_off323 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4878_r0 : Index := Scalar.indexCast v3893_r0
  let c0_2798_r0 : Index := 0#32
  let c0_2799_r0 : Index := 0#32
  ![v4878_r0.toNat, 0, 0]
def k0_off324 (k0_t3 : Fin k0_t3_loop.trips) (c0_i32_2801_r0 : BitVec 32) (c0_i32_2802_r0 : BitVec 32) (c0_i32_2803_r0 : BitVec 32) : Fin 2 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c56_i32_2320_r0 : BitVec 32 := 56#32
  let v3894_r0 : BitVec 32 := Scalar.subi v3892_r0 c56_i32_2320_r0
  let c7_i32_2793_r0 : BitVec 32 := 7#32
  let v4873_r0 : BitVec 32 := Scalar.remsi v3894_r0 c7_i32_2793_r0
  let c2_i32_2794_r0 : BitVec 32 := 2#32
  let v4874_r0 : BitVec 32 := Scalar.muli v4873_r0 c2_i32_2794_r0
  let c2_i32_2795_r0 : BitVec 32 := 2#32
  let v4875_r0 : BitVec 32 := Scalar.muli v4874_r0 c2_i32_2795_r0
  let c0_i32_2800_r0 : BitVec 32 := 0#32
  let v4882_r0 : BitVec 32 := Scalar.addi v4875_r0 c0_i32_2800_r0
  let v4883_r0 : BitVec 32 := Scalar.addi v4882_r0 c0_i32_2801_r0
  let v4886_r0 : Index := Scalar.indexCast v4883_r0
  let c7_i32_2796_r0 : BitVec 32 := 7#32
  let v4876_r0 : BitVec 32 := Scalar.divsi v3894_r0 c7_i32_2796_r0
  let c16_i32_2797_r0 : BitVec 32 := 16#32
  let v4877_r0 : BitVec 32 := Scalar.muli v4876_r0 c16_i32_2797_r0
  let v4884_r0 : BitVec 32 := Scalar.addi v4877_r0 c0_i32_2802_r0
  let v4885_r0 : BitVec 32 := Scalar.addi v4884_r0 c0_i32_2803_r0
  let v4887_r0 : Index := Scalar.indexCast v4885_r0
  ![v4886_r0.toNat, v4887_r0.toNat]
def k0_off325 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4892_r0 : Index := Scalar.indexCast v3893_r0
  let c0_2804_r0 : Index := 0#32
  let c128_2805_r0 : Index := 128#32
  ![v4892_r0.toNat, 0, 128]
def k0_off326 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4907_r0 : Index := Scalar.indexCast v3893_r0
  let c128_2810_r0 : Index := 128#32
  let c0_2811_r0 : Index := 0#32
  ![v4907_r0.toNat, 128, 0]
def k0_off327 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4921_r0 : Index := Scalar.indexCast v3893_r0
  let c128_2816_r0 : Index := 128#32
  let c128_2817_r0 : Index := 128#32
  ![v4921_r0.toNat, 128, 128]
def k0_off328 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4942_r0 : Index := Scalar.indexCast v3893_r0
  let c0_2827_r0 : Index := 0#32
  let c256_2828_r0 : Index := 256#32
  ![v4942_r0.toNat, 0, 256]
def k0_off329 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4956_r0 : Index := Scalar.indexCast v3893_r0
  let c0_2833_r0 : Index := 0#32
  let c384_2834_r0 : Index := 384#32
  ![v4956_r0.toNat, 0, 384]
def k0_off330 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4971_r0 : Index := Scalar.indexCast v3893_r0
  let c128_2839_r0 : Index := 128#32
  let c256_2840_r0 : Index := 256#32
  ![v4971_r0.toNat, 128, 256]
def k0_off331 (k0_t3 : Fin k0_t3_loop.trips) : Fin 3 → Nat :=
  let c56_i32_2300_r0 : BitVec 32 := 56#32
  let c0_i32_1409_r0 : BitVec 32 := 0#32
  let c1_i32_1411_r0 : BitVec 32 := 1#32
  let arg38_r0 : BitVec 32 := Scf.iv c0_i32_1409_r0 c1_i32_1411_r0 k0_t3
  let v3864_r0 : BitVec 32 := Scalar.addi c56_i32_2300_r0 arg38_r0
  let c1_i32_2318_r0 : BitVec 32 := 1#32
  let v3892_r0 : BitVec 32 := Scalar.addi v3864_r0 c1_i32_2318_r0
  let c12_i32_2319_r0 : BitVec 32 := 12#32
  let v3893_r0 : BitVec 32 := Scalar.remsi v3892_r0 c12_i32_2319_r0
  let v4985_r0 : Index := Scalar.indexCast v3893_r0
  let c128_2845_r0 : Index := 128#32
  let c384_2846_r0 : Index := 384#32
  ![v4985_r0.toNat, 128, 384]
def k0_off332 (k0_t3 : Fin k0_t3_loop.trips) (c0_i32_2853_r0 : BitVec 32) : Fin 3 → Nat :=
  let c0_i32_1409_r0 : BitVec 32 := 0#32
  let c1_i32_1411_r0 : BitVec 32 := 1#32
  let arg38_r0 : BitVec 32 := Scf.iv c0_i32_1409_r0 c1_i32_1411_r0 k0_t3
  let c1_i32_2851_r0 : BitVec 32 := 1#32
  let v5001_r0 : BitVec 32 := Scalar.addi arg38_r0 c1_i32_2851_r0
  let c2_i32_2852_r0 : BitVec 32 := 2#32
  let v5002_r0 : BitVec 32 := Scalar.muli v5001_r0 c2_i32_2852_r0
  let v5003_r0 : BitVec 32 := Scalar.addi v5002_r0 c0_i32_2853_r0
  let v5005_r0 : Index := Scalar.indexCast v5003_r0
  let c0_2854_r0 : Index := 0#32
  let c0_2855_r0 : Index := 0#32
  ![v5005_r0.toNat, 0, 0]
def k0_off333 (k0_t3 : Fin k0_t3_loop.trips) (c0_i32_2853_r0 : BitVec 32) (c0_i32_2859_r0 : BitVec 32) : Fin 2 → Nat :=
  let c0_i32_1409_r0 : BitVec 32 := 0#32
  let c1_i32_1411_r0 : BitVec 32 := 1#32
  let arg38_r0 : BitVec 32 := Scf.iv c0_i32_1409_r0 c1_i32_1411_r0 k0_t3
  let c1_i32_2851_r0 : BitVec 32 := 1#32
  let v5001_r0 : BitVec 32 := Scalar.addi arg38_r0 c1_i32_2851_r0
  let c2_i32_2852_r0 : BitVec 32 := 2#32
  let v5002_r0 : BitVec 32 := Scalar.muli v5001_r0 c2_i32_2852_r0
  let v5003_r0 : BitVec 32 := Scalar.addi v5002_r0 c0_i32_2853_r0
  let c2_i32_2858_r0 : BitVec 32 := 2#32
  let v5011_r0 : BitVec 32 := Scalar.muli v5003_r0 c2_i32_2858_r0
  let v5012_r0 : BitVec 32 := Scalar.addi v5011_r0 c0_i32_2859_r0
  let v5013_r0 : Index := Scalar.indexCast v5012_r0
  let c0_2860_r0 : Index := 0#32
  ![v5013_r0.toNat, 0]
def k0_off334 (k0_t3 : Fin k0_t3_loop.trips) (c0_i32_2853_r0 : BitVec 32) : Fin 3 → Nat :=
  let c0_i32_1409_r0 : BitVec 32 := 0#32
  let c1_i32_1411_r0 : BitVec 32 := 1#32
  let arg38_r0 : BitVec 32 := Scf.iv c0_i32_1409_r0 c1_i32_1411_r0 k0_t3
  let c1_i32_2851_r0 : BitVec 32 := 1#32
  let v5001_r0 : BitVec 32 := Scalar.addi arg38_r0 c1_i32_2851_r0
  let c2_i32_2852_r0 : BitVec 32 := 2#32
  let v5002_r0 : BitVec 32 := Scalar.muli v5001_r0 c2_i32_2852_r0
  let v5003_r0 : BitVec 32 := Scalar.addi v5002_r0 c0_i32_2853_r0
  let v5069_r0 : Index := Scalar.indexCast v5003_r0
  let c0_2881_r0 : Index := 0#32
  let c128_2882_r0 : Index := 128#32
  ![v5069_r0.toNat, 0, 128]
@[reducible] def k0_t4_loop : Scf.Loop 32 :=
  let c0_i32_1499_r0 : BitVec 32 := 0#32
  let c3_i32_1500_r0 : BitVec 32 := 3#32
  let v2654_r0 : BitVec 32 := Scalar.addi c0_i32_1499_r0 c3_i32_1500_r0
  let c1_i32_1501_r0 : BitVec 32 := 1#32
  ⟨c0_i32_1499_r0, v2654_r0, c1_i32_1501_r0⟩
def k0_mult37 (k0_t4 : Fin k0_t4_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2304_r0 : BitVec 32 := 1#32
  let v3868_r0 : BitVec 32 := Scalar.addi v3867_r0 c1_i32_2304_r0
  let c56_i32_2306_r0 : BitVec 32 := 56#32
  let v3870_r0 : BitVec 32 := Scalar.subi v3868_r0 c56_i32_2306_r0
  let c7_i32_2309_r0 : BitVec 32 := 7#32
  let v3873_r0 : BitVec 32 := Scalar.divsi v3870_r0 c7_i32_2309_r0
  let c2048_i32_2310_r0 : BitVec 32 := 2048#32
  let v3874_r0 : BitVec 32 := Scalar.muli v3873_r0 c2048_i32_2310_r0
  v3874_r0
def k0_off335 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2304_r0 : BitVec 32 := 1#32
  let v3868_r0 : BitVec 32 := Scalar.addi v3867_r0 c1_i32_2304_r0
  let c12_i32_2305_r0 : BitVec 32 := 12#32
  let v3869_r0 : BitVec 32 := Scalar.remsi v3868_r0 c12_i32_2305_r0
  ![v3869_r0.toNat]
def k0_off336 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2304_r0 : BitVec 32 := 1#32
  let v3868_r0 : BitVec 32 := Scalar.addi v3867_r0 c1_i32_2304_r0
  let c12_i32_2305_r0 : BitVec 32 := 12#32
  let v3869_r0 : BitVec 32 := Scalar.remsi v3868_r0 c12_i32_2305_r0
  let c0_i32_2311_r0 : BitVec 32 := 0#32
  let c0_i32_2312_r0 : BitVec 32 := 0#32
  ![v3869_r0.toNat, 0, 0]
def k0_off337 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2304_r0 : BitVec 32 := 1#32
  let v3868_r0 : BitVec 32 := Scalar.addi v3867_r0 c1_i32_2304_r0
  let c56_i32_2306_r0 : BitVec 32 := 56#32
  let v3870_r0 : BitVec 32 := Scalar.subi v3868_r0 c56_i32_2306_r0
  let c7_i32_2307_r0 : BitVec 32 := 7#32
  let v3871_r0 : BitVec 32 := Scalar.remsi v3870_r0 c7_i32_2307_r0
  let c512_i32_2308_r0 : BitVec 32 := 512#32
  let v3872_r0 : BitVec 32 := Scalar.muli v3871_r0 c512_i32_2308_r0
  let c7_i32_2309_r0 : BitVec 32 := 7#32
  let v3873_r0 : BitVec 32 := Scalar.divsi v3870_r0 c7_i32_2309_r0
  let c2048_i32_2310_r0 : BitVec 32 := 2048#32
  let v3874_r0 : BitVec 32 := Scalar.muli v3873_r0 c2048_i32_2310_r0
  let v3875_r0 : BitVec 32 := v3874_r0
  ![v3872_r0.toNat, v3875_r0.toNat]
def k0_cond10 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c28_i32_2314_r0 : BitVec 32 := 28#32
  let v3882_r0 : BitVec 1 := Scalar.cmpi .slt v3881_r0 c28_i32_2314_r0
  let v3883_r0 : BitVec 32 := Scalar.extui v3882_r0
  let c0_i32_2315_r0 : BitVec 32 := 0#32
  let v3884_r0 : BitVec 1 := Scalar.cmpi .ne v3883_r0 c0_i32_2315_r0
  v3884_r0

def k0_off338 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  ![v6207_r0.toNat]
def k0_off339 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  let c0_i32_3467_r0 : BitVec 32 := 0#32
  let c0_i32_3468_r0 : BitVec 32 := 0#32
  ![v6207_r0.toNat, 0, 0]
def k0_off340 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c512_i32_3466_r0 : BitVec 32 := 512#32
  let v6208_r0 : BitVec 32 := Scalar.muli v3881_r0 c512_i32_3466_r0
  let c0_i32_3469_r0 : BitVec 32 := 0#32
  ![v6208_r0.toNat, 0]
def k0_cond11 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c28_i32_2316_r0 : BitVec 32 := 28#32
  let v3885_r0 : BitVec 1 := Scalar.cmpi .sge v3881_r0 c28_i32_2316_r0
  let c56_i32_2317_r0 : BitVec 32 := 56#32
  let v3886_r0 : BitVec 1 := Scalar.cmpi .slt v3881_r0 c56_i32_2317_r0
  let v3887_r0 : BitVec 1 := Scalar.andi v3885_r0 v3886_r0
  let v3888_r0 : BitVec 32 := Scalar.extui v3887_r0
  let c0_i32_2318_r0 : BitVec 32 := 0#32
  let v3889_r0 : BitVec 1 := Scalar.cmpi .ne v3888_r0 c0_i32_2318_r0
  v3889_r0

def k0_off341 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  ![v6207_r0.toNat]
def k0_off342 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  let c0_i32_3468_r0 : BitVec 32 := 0#32
  let c0_i32_3469_r0 : BitVec 32 := 0#32
  ![v6207_r0.toNat, 0, 0]
def k0_off343 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c28_i32_3466_r0 : BitVec 32 := 28#32
  let v6208_r0 : BitVec 32 := Scalar.subi v3881_r0 c28_i32_3466_r0
  let c512_i32_3467_r0 : BitVec 32 := 512#32
  let v6209_r0 : BitVec 32 := Scalar.muli v6208_r0 c512_i32_3467_r0
  let c2048_i32_3470_r0 : BitVec 32 := 2048#32
  ![v6209_r0.toNat, 2048]
def k0_cond12 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c56_i32_2319_r0 : BitVec 32 := 56#32
  let v3890_r0 : BitVec 1 := Scalar.cmpi .sge v3881_r0 c56_i32_2319_r0
  let c84_i32_r0 : BitVec 32 := 84#32
  let v3891_r0 : BitVec 1 := Scalar.cmpi .slt v3881_r0 c84_i32_r0
  let v3892_r0 : BitVec 1 := Scalar.andi v3890_r0 v3891_r0
  let v3893_r0 : BitVec 32 := Scalar.extui v3892_r0
  let c0_i32_2320_r0 : BitVec 32 := 0#32
  let v3894_r0 : BitVec 1 := Scalar.cmpi .ne v3893_r0 c0_i32_2320_r0
  v3894_r0

def k0_mult38 (k0_t4 : Fin k0_t4_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c56_i32_3466_r0 : BitVec 32 := 56#32
  let v6208_r0 : BitVec 32 := Scalar.subi v3881_r0 c56_i32_3466_r0
  let c7_i32_3469_r0 : BitVec 32 := 7#32
  let v6211_r0 : BitVec 32 := Scalar.divsi v6208_r0 c7_i32_3469_r0
  let c2048_i32_3470_r0 : BitVec 32 := 2048#32
  let v6212_r0 : BitVec 32 := Scalar.muli v6211_r0 c2048_i32_3470_r0
  v6212_r0
def k0_off344 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  ![v6207_r0.toNat]
def k0_off345 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c12_i32_3465_r0 : BitVec 32 := 12#32
  let v6207_r0 : BitVec 32 := Scalar.remsi v3881_r0 c12_i32_3465_r0
  let c0_i32_3471_r0 : BitVec 32 := 0#32
  let c0_i32_3472_r0 : BitVec 32 := 0#32
  ![v6207_r0.toNat, 0, 0]
def k0_off346 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c11_i32_2313_r0 : BitVec 32 := 11#32
  let v3881_r0 : BitVec 32 := Scalar.addi v3867_r0 c11_i32_2313_r0
  let c56_i32_3466_r0 : BitVec 32 := 56#32
  let v6208_r0 : BitVec 32 := Scalar.subi v3881_r0 c56_i32_3466_r0
  let c7_i32_3467_r0 : BitVec 32 := 7#32
  let v6209_r0 : BitVec 32 := Scalar.remsi v6208_r0 c7_i32_3467_r0
  let c512_i32_3468_r0 : BitVec 32 := 512#32
  let v6210_r0 : BitVec 32 := Scalar.muli v6209_r0 c512_i32_3468_r0
  let c7_i32_3469_r0 : BitVec 32 := 7#32
  let v6211_r0 : BitVec 32 := Scalar.divsi v6208_r0 c7_i32_3469_r0
  let c2048_i32_3470_r0 : BitVec 32 := 2048#32
  let v6212_r0 : BitVec 32 := Scalar.muli v6211_r0 c2048_i32_3470_r0
  let v6213_r0 : BitVec 32 := v6212_r0
  ![v6210_r0.toNat, v6213_r0.toNat]
def k0_off347 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3909_r0 : Index := Scalar.indexCast v3898_r0
  let c0_2337_r0 : Index := 0#32
  let c512_2338_r0 : Index := 512#32
  ![v3909_r0.toNat, 0, 512]
def k0_off348 (k0_t4 : Fin k0_t4_loop.trips) (c0_i32_2339_r0 : BitVec 32) (c0_i32_2340_r0 : BitVec 32) (c4_i32_2341_r0 : BitVec 32) (c0_i32_2342_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c56_i32_2325_r0 : BitVec 32 := 56#32
  let v3899_r0 : BitVec 32 := Scalar.subi v3867_r0 c56_i32_2325_r0
  let c7_i32_2332_r0 : BitVec 32 := 7#32
  let v3904_r0 : BitVec 32 := Scalar.remsi v3899_r0 c7_i32_2332_r0
  let c2_i32_2333_r0 : BitVec 32 := 2#32
  let v3905_r0 : BitVec 32 := Scalar.muli v3904_r0 c2_i32_2333_r0
  let c2_i32_2334_r0 : BitVec 32 := 2#32
  let v3906_r0 : BitVec 32 := Scalar.muli v3905_r0 c2_i32_2334_r0
  let v3913_r0 : BitVec 32 := Scalar.addi v3906_r0 c0_i32_2339_r0
  let v3914_r0 : BitVec 32 := Scalar.addi v3913_r0 c0_i32_2340_r0
  let v3917_r0 : Index := Scalar.indexCast v3914_r0
  let c7_i32_2335_r0 : BitVec 32 := 7#32
  let v3907_r0 : BitVec 32 := Scalar.divsi v3899_r0 c7_i32_2335_r0
  let c16_i32_2336_r0 : BitVec 32 := 16#32
  let v3908_r0 : BitVec 32 := Scalar.muli v3907_r0 c16_i32_2336_r0
  let v3915_r0 : BitVec 32 := Scalar.addi v3908_r0 c4_i32_2341_r0
  let v3916_r0 : BitVec 32 := Scalar.addi v3915_r0 c0_i32_2342_r0
  let v3918_r0 : Index := Scalar.indexCast v3916_r0
  ![v3917_r0.toNat, v3918_r0.toNat]
def k0_off348_at (r : Fin 56) : BitVec 32 × BitVec 32 × BitVec 32 × BitVec 32 :=
  if r.val < 28 then
    if r.val < 14 then
      if r.val < 7 then
        if r.val < 3 then
          if r.val < 1 then
            (0#32, 0#32, 4#32, 0#32)
          else
            if r.val < 2 then
              (0#32, 0#32, 4#32, 1#32)
            else
              (0#32, 1#32, 4#32, 0#32)
        else
          if r.val < 5 then
            if r.val < 4 then
              (0#32, 1#32, 4#32, 1#32)
            else
              (0#32, 0#32, 6#32, 0#32)
          else
            if r.val < 6 then
              (0#32, 0#32, 6#32, 1#32)
            else
              (0#32, 1#32, 6#32, 0#32)
      else
        if r.val < 10 then
          if r.val < 8 then
            (0#32, 1#32, 6#32, 1#32)
          else
            if r.val < 9 then
              (0#32, 0#32, 8#32, 0#32)
            else
              (0#32, 0#32, 8#32, 1#32)
        else
          if r.val < 12 then
            if r.val < 11 then
              (0#32, 1#32, 8#32, 0#32)
            else
              (0#32, 1#32, 8#32, 1#32)
          else
            if r.val < 13 then
              (0#32, 0#32, 10#32, 0#32)
            else
              (0#32, 0#32, 10#32, 1#32)
    else
      if r.val < 21 then
        if r.val < 17 then
          if r.val < 15 then
            (0#32, 1#32, 10#32, 0#32)
          else
            if r.val < 16 then
              (0#32, 1#32, 10#32, 1#32)
            else
              (0#32, 0#32, 12#32, 0#32)
        else
          if r.val < 19 then
            if r.val < 18 then
              (0#32, 0#32, 12#32, 1#32)
            else
              (0#32, 1#32, 12#32, 0#32)
          else
            if r.val < 20 then
              (0#32, 1#32, 12#32, 1#32)
            else
              (0#32, 0#32, 14#32, 0#32)
      else
        if r.val < 24 then
          if r.val < 22 then
            (0#32, 0#32, 14#32, 1#32)
          else
            if r.val < 23 then
              (0#32, 1#32, 14#32, 0#32)
            else
              (0#32, 1#32, 14#32, 1#32)
        else
          if r.val < 26 then
            if r.val < 25 then
              (2#32, 0#32, 0#32, 0#32)
            else
              (2#32, 0#32, 0#32, 1#32)
          else
            if r.val < 27 then
              (2#32, 1#32, 0#32, 0#32)
            else
              (2#32, 1#32, 0#32, 1#32)
  else
    if r.val < 42 then
      if r.val < 35 then
        if r.val < 31 then
          if r.val < 29 then
            (2#32, 0#32, 2#32, 0#32)
          else
            if r.val < 30 then
              (2#32, 0#32, 2#32, 1#32)
            else
              (2#32, 1#32, 2#32, 0#32)
        else
          if r.val < 33 then
            if r.val < 32 then
              (2#32, 1#32, 2#32, 1#32)
            else
              (2#32, 0#32, 4#32, 0#32)
          else
            if r.val < 34 then
              (2#32, 0#32, 4#32, 1#32)
            else
              (2#32, 1#32, 4#32, 0#32)
      else
        if r.val < 38 then
          if r.val < 36 then
            (2#32, 1#32, 4#32, 1#32)
          else
            if r.val < 37 then
              (2#32, 0#32, 6#32, 0#32)
            else
              (2#32, 0#32, 6#32, 1#32)
        else
          if r.val < 40 then
            if r.val < 39 then
              (2#32, 1#32, 6#32, 0#32)
            else
              (2#32, 1#32, 6#32, 1#32)
          else
            if r.val < 41 then
              (2#32, 0#32, 8#32, 0#32)
            else
              (2#32, 0#32, 8#32, 1#32)
    else
      if r.val < 49 then
        if r.val < 45 then
          if r.val < 43 then
            (2#32, 1#32, 8#32, 0#32)
          else
            if r.val < 44 then
              (2#32, 1#32, 8#32, 1#32)
            else
              (2#32, 0#32, 10#32, 0#32)
        else
          if r.val < 47 then
            if r.val < 46 then
              (2#32, 0#32, 10#32, 1#32)
            else
              (2#32, 1#32, 10#32, 0#32)
          else
            if r.val < 48 then
              (2#32, 1#32, 10#32, 1#32)
            else
              (2#32, 0#32, 12#32, 0#32)
      else
        if r.val < 52 then
          if r.val < 50 then
            (2#32, 0#32, 12#32, 1#32)
          else
            if r.val < 51 then
              (2#32, 1#32, 12#32, 0#32)
            else
              (2#32, 1#32, 12#32, 1#32)
        else
          if r.val < 54 then
            if r.val < 53 then
              (2#32, 0#32, 14#32, 0#32)
            else
              (2#32, 0#32, 14#32, 1#32)
          else
            if r.val < 55 then
              (2#32, 1#32, 14#32, 0#32)
            else
              (2#32, 1#32, 14#32, 1#32)
def k0_off349 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3923_r0 : Index := Scalar.indexCast v3898_r0
  let c0_2343_r0 : Index := 0#32
  let c640_2344_r0 : Index := 640#32
  ![v3923_r0.toNat, 0, 640]
def k0_off350 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3938_r0 : Index := Scalar.indexCast v3898_r0
  let c128_2349_r0 : Index := 128#32
  let c512_2350_r0 : Index := 512#32
  ![v3938_r0.toNat, 128, 512]
def k0_off351 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3952_r0 : Index := Scalar.indexCast v3898_r0
  let c128_2355_r0 : Index := 128#32
  let c640_2356_r0 : Index := 640#32
  ![v3952_r0.toNat, 128, 640]
def k0_off352 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3973_r0 : Index := Scalar.indexCast v3898_r0
  let c0_2366_r0 : Index := 0#32
  let c768_2367_r0 : Index := 768#32
  ![v3973_r0.toNat, 0, 768]
def k0_off353 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v3987_r0 : Index := Scalar.indexCast v3898_r0
  let c0_2372_r0 : Index := 0#32
  let c896_2373_r0 : Index := 896#32
  ![v3987_r0.toNat, 0, 896]
def k0_off354 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4002_r0 : Index := Scalar.indexCast v3898_r0
  let c128_2378_r0 : Index := 128#32
  let c768_2379_r0 : Index := 768#32
  ![v4002_r0.toNat, 128, 768]
def k0_off355 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4016_r0 : Index := Scalar.indexCast v3898_r0
  let c128_2384_r0 : Index := 128#32
  let c896_2385_r0 : Index := 896#32
  ![v4016_r0.toNat, 128, 896]
def k0_off356 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4041_r0 : Index := Scalar.indexCast v3898_r0
  let c0_2401_r0 : Index := 0#32
  let c1024_2402_r0 : Index := 1024#32
  ![v4041_r0.toNat, 0, 1024]
def k0_off357 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4055_r0 : Index := Scalar.indexCast v3898_r0
  let c0_2407_r0 : Index := 0#32
  let c1152_2408_r0 : Index := 1152#32
  ![v4055_r0.toNat, 0, 1152]
def k0_off358 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4070_r0 : Index := Scalar.indexCast v3898_r0
  let c128_2413_r0 : Index := 128#32
  let c1024_2414_r0 : Index := 1024#32
  ![v4070_r0.toNat, 128, 1024]
def k0_off359 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4084_r0 : Index := Scalar.indexCast v3898_r0
  let c128_2419_r0 : Index := 128#32
  let c1152_2420_r0 : Index := 1152#32
  ![v4084_r0.toNat, 128, 1152]
def k0_off360 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4105_r0 : Index := Scalar.indexCast v3898_r0
  let c0_2430_r0 : Index := 0#32
  let c1280_2431_r0 : Index := 1280#32
  ![v4105_r0.toNat, 0, 1280]
def k0_off361 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4119_r0 : Index := Scalar.indexCast v3898_r0
  let c0_2436_r0 : Index := 0#32
  let c1408_2437_r0 : Index := 1408#32
  ![v4119_r0.toNat, 0, 1408]
def k0_off362 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4134_r0 : Index := Scalar.indexCast v3898_r0
  let c128_2442_r0 : Index := 128#32
  let c1280_2443_r0 : Index := 1280#32
  ![v4134_r0.toNat, 128, 1280]
def k0_off363 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4148_r0 : Index := Scalar.indexCast v3898_r0
  let c128_2448_r0 : Index := 128#32
  let c1408_2449_r0 : Index := 1408#32
  ![v4148_r0.toNat, 128, 1408]
def k0_off364 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4173_r0 : Index := Scalar.indexCast v3898_r0
  let c0_2465_r0 : Index := 0#32
  let c1536_2466_r0 : Index := 1536#32
  ![v4173_r0.toNat, 0, 1536]
def k0_off365 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4187_r0 : Index := Scalar.indexCast v3898_r0
  let c0_2471_r0 : Index := 0#32
  let c1664_2472_r0 : Index := 1664#32
  ![v4187_r0.toNat, 0, 1664]
def k0_off366 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4202_r0 : Index := Scalar.indexCast v3898_r0
  let c128_2477_r0 : Index := 128#32
  let c1536_2478_r0 : Index := 1536#32
  ![v4202_r0.toNat, 128, 1536]
def k0_off367 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4216_r0 : Index := Scalar.indexCast v3898_r0
  let c128_2483_r0 : Index := 128#32
  let c1664_2484_r0 : Index := 1664#32
  ![v4216_r0.toNat, 128, 1664]
def k0_off368 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4237_r0 : Index := Scalar.indexCast v3898_r0
  let c0_2494_r0 : Index := 0#32
  let c1792_2495_r0 : Index := 1792#32
  ![v4237_r0.toNat, 0, 1792]
def k0_off369 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4251_r0 : Index := Scalar.indexCast v3898_r0
  let c0_2500_r0 : Index := 0#32
  let c1920_2501_r0 : Index := 1920#32
  ![v4251_r0.toNat, 0, 1920]
def k0_off370 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4266_r0 : Index := Scalar.indexCast v3898_r0
  let c128_2506_r0 : Index := 128#32
  let c1792_2507_r0 : Index := 1792#32
  ![v4266_r0.toNat, 128, 1792]
def k0_off371 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4280_r0 : Index := Scalar.indexCast v3898_r0
  let c128_2512_r0 : Index := 128#32
  let c1920_2513_r0 : Index := 1920#32
  ![v4280_r0.toNat, 128, 1920]
def k0_off372 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4305_r0 : Index := Scalar.indexCast v3898_r0
  let c256_2529_r0 : Index := 256#32
  let c0_2530_r0 : Index := 0#32
  ![v4305_r0.toNat, 256, 0]
def k0_off373 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4319_r0 : Index := Scalar.indexCast v3898_r0
  let c256_2535_r0 : Index := 256#32
  let c128_2536_r0 : Index := 128#32
  ![v4319_r0.toNat, 256, 128]
def k0_off374 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4334_r0 : Index := Scalar.indexCast v3898_r0
  let c384_2541_r0 : Index := 384#32
  let c0_2542_r0 : Index := 0#32
  ![v4334_r0.toNat, 384, 0]
def k0_off375 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4348_r0 : Index := Scalar.indexCast v3898_r0
  let c384_2547_r0 : Index := 384#32
  let c128_2548_r0 : Index := 128#32
  ![v4348_r0.toNat, 384, 128]
def k0_off376 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4369_r0 : Index := Scalar.indexCast v3898_r0
  let c256_2558_r0 : Index := 256#32
  let c256_2559_r0 : Index := 256#32
  ![v4369_r0.toNat, 256, 256]
def k0_off377 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4383_r0 : Index := Scalar.indexCast v3898_r0
  let c256_2564_r0 : Index := 256#32
  let c384_2565_r0 : Index := 384#32
  ![v4383_r0.toNat, 256, 384]
def k0_off378 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4398_r0 : Index := Scalar.indexCast v3898_r0
  let c384_2570_r0 : Index := 384#32
  let c256_2571_r0 : Index := 256#32
  ![v4398_r0.toNat, 384, 256]
def k0_off379 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4412_r0 : Index := Scalar.indexCast v3898_r0
  let c384_2576_r0 : Index := 384#32
  let c384_2577_r0 : Index := 384#32
  ![v4412_r0.toNat, 384, 384]
def k0_off380 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4437_r0 : Index := Scalar.indexCast v3898_r0
  let c256_2593_r0 : Index := 256#32
  let c512_2594_r0 : Index := 512#32
  ![v4437_r0.toNat, 256, 512]
def k0_off381 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4451_r0 : Index := Scalar.indexCast v3898_r0
  let c256_2599_r0 : Index := 256#32
  let c640_2600_r0 : Index := 640#32
  ![v4451_r0.toNat, 256, 640]
def k0_off382 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4466_r0 : Index := Scalar.indexCast v3898_r0
  let c384_2605_r0 : Index := 384#32
  let c512_2606_r0 : Index := 512#32
  ![v4466_r0.toNat, 384, 512]
def k0_off383 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4480_r0 : Index := Scalar.indexCast v3898_r0
  let c384_2611_r0 : Index := 384#32
  let c640_2612_r0 : Index := 640#32
  ![v4480_r0.toNat, 384, 640]
def k0_off384 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4501_r0 : Index := Scalar.indexCast v3898_r0
  let c256_2622_r0 : Index := 256#32
  let c768_2623_r0 : Index := 768#32
  ![v4501_r0.toNat, 256, 768]
def k0_off385 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4515_r0 : Index := Scalar.indexCast v3898_r0
  let c256_2628_r0 : Index := 256#32
  let c896_2629_r0 : Index := 896#32
  ![v4515_r0.toNat, 256, 896]
def k0_off386 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4530_r0 : Index := Scalar.indexCast v3898_r0
  let c384_2634_r0 : Index := 384#32
  let c768_2635_r0 : Index := 768#32
  ![v4530_r0.toNat, 384, 768]
def k0_off387 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4544_r0 : Index := Scalar.indexCast v3898_r0
  let c384_2640_r0 : Index := 384#32
  let c896_2641_r0 : Index := 896#32
  ![v4544_r0.toNat, 384, 896]
def k0_off388 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4569_r0 : Index := Scalar.indexCast v3898_r0
  let c256_2657_r0 : Index := 256#32
  let c1024_2658_r0 : Index := 1024#32
  ![v4569_r0.toNat, 256, 1024]
def k0_off389 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4583_r0 : Index := Scalar.indexCast v3898_r0
  let c256_2663_r0 : Index := 256#32
  let c1152_2664_r0 : Index := 1152#32
  ![v4583_r0.toNat, 256, 1152]
def k0_off390 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4598_r0 : Index := Scalar.indexCast v3898_r0
  let c384_2669_r0 : Index := 384#32
  let c1024_2670_r0 : Index := 1024#32
  ![v4598_r0.toNat, 384, 1024]
def k0_off391 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4612_r0 : Index := Scalar.indexCast v3898_r0
  let c384_2675_r0 : Index := 384#32
  let c1152_2676_r0 : Index := 1152#32
  ![v4612_r0.toNat, 384, 1152]
def k0_off392 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4633_r0 : Index := Scalar.indexCast v3898_r0
  let c256_2686_r0 : Index := 256#32
  let c1280_2687_r0 : Index := 1280#32
  ![v4633_r0.toNat, 256, 1280]
def k0_off393 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4647_r0 : Index := Scalar.indexCast v3898_r0
  let c256_2692_r0 : Index := 256#32
  let c1408_2693_r0 : Index := 1408#32
  ![v4647_r0.toNat, 256, 1408]
def k0_off394 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4662_r0 : Index := Scalar.indexCast v3898_r0
  let c384_2698_r0 : Index := 384#32
  let c1280_2699_r0 : Index := 1280#32
  ![v4662_r0.toNat, 384, 1280]
def k0_off395 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4676_r0 : Index := Scalar.indexCast v3898_r0
  let c384_2704_r0 : Index := 384#32
  let c1408_2705_r0 : Index := 1408#32
  ![v4676_r0.toNat, 384, 1408]
def k0_off396 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4701_r0 : Index := Scalar.indexCast v3898_r0
  let c256_2721_r0 : Index := 256#32
  let c1536_2722_r0 : Index := 1536#32
  ![v4701_r0.toNat, 256, 1536]
def k0_off397 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4715_r0 : Index := Scalar.indexCast v3898_r0
  let c256_2727_r0 : Index := 256#32
  let c1664_2728_r0 : Index := 1664#32
  ![v4715_r0.toNat, 256, 1664]
def k0_off398 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4730_r0 : Index := Scalar.indexCast v3898_r0
  let c384_2733_r0 : Index := 384#32
  let c1536_2734_r0 : Index := 1536#32
  ![v4730_r0.toNat, 384, 1536]
def k0_off399 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4744_r0 : Index := Scalar.indexCast v3898_r0
  let c384_2739_r0 : Index := 384#32
  let c1664_2740_r0 : Index := 1664#32
  ![v4744_r0.toNat, 384, 1664]
def k0_off400 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4765_r0 : Index := Scalar.indexCast v3898_r0
  let c256_2750_r0 : Index := 256#32
  let c1792_2751_r0 : Index := 1792#32
  ![v4765_r0.toNat, 256, 1792]
def k0_off401 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4779_r0 : Index := Scalar.indexCast v3898_r0
  let c256_2756_r0 : Index := 256#32
  let c1920_2757_r0 : Index := 1920#32
  ![v4779_r0.toNat, 256, 1920]
def k0_off402 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4794_r0 : Index := Scalar.indexCast v3898_r0
  let c384_2762_r0 : Index := 384#32
  let c1792_2763_r0 : Index := 1792#32
  ![v4794_r0.toNat, 384, 1792]
def k0_off403 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c12_i32_2324_r0 : BitVec 32 := 12#32
  let v3898_r0 : BitVec 32 := Scalar.remsi v3867_r0 c12_i32_2324_r0
  let v4808_r0 : Index := Scalar.indexCast v3898_r0
  let c384_2768_r0 : Index := 384#32
  let c1920_2769_r0 : Index := 1920#32
  ![v4808_r0.toNat, 384, 1920]
def k0_off404 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4833_r0 : Index := Scalar.indexCast v3896_r0
  let c0_2785_r0 : Index := 0#32
  let c0_2786_r0 : Index := 0#32
  ![v4833_r0.toNat, 0, 0]
def k0_off405 (k0_t4 : Fin k0_t4_loop.trips) (c0_i32_2788_r0 : BitVec 32) (c0_i32_2789_r0 : BitVec 32) (c0_i32_2790_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c56_i32_2323_r0 : BitVec 32 := 56#32
  let v3897_r0 : BitVec 32 := Scalar.subi v3895_r0 c56_i32_2323_r0
  let c7_i32_2780_r0 : BitVec 32 := 7#32
  let v4828_r0 : BitVec 32 := Scalar.remsi v3897_r0 c7_i32_2780_r0
  let c2_i32_2781_r0 : BitVec 32 := 2#32
  let v4829_r0 : BitVec 32 := Scalar.muli v4828_r0 c2_i32_2781_r0
  let c2_i32_2782_r0 : BitVec 32 := 2#32
  let v4830_r0 : BitVec 32 := Scalar.muli v4829_r0 c2_i32_2782_r0
  let c0_i32_2787_r0 : BitVec 32 := 0#32
  let v4837_r0 : BitVec 32 := Scalar.addi v4830_r0 c0_i32_2787_r0
  let v4838_r0 : BitVec 32 := Scalar.addi v4837_r0 c0_i32_2788_r0
  let v4841_r0 : Index := Scalar.indexCast v4838_r0
  let c7_i32_2783_r0 : BitVec 32 := 7#32
  let v4831_r0 : BitVec 32 := Scalar.divsi v3897_r0 c7_i32_2783_r0
  let c16_i32_2784_r0 : BitVec 32 := 16#32
  let v4832_r0 : BitVec 32 := Scalar.muli v4831_r0 c16_i32_2784_r0
  let v4839_r0 : BitVec 32 := Scalar.addi v4832_r0 c0_i32_2789_r0
  let v4840_r0 : BitVec 32 := Scalar.addi v4839_r0 c0_i32_2790_r0
  let v4842_r0 : Index := Scalar.indexCast v4840_r0
  ![v4841_r0.toNat, v4842_r0.toNat]
def k0_off406 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4847_r0 : Index := Scalar.indexCast v3896_r0
  let c0_2791_r0 : Index := 0#32
  let c128_2792_r0 : Index := 128#32
  ![v4847_r0.toNat, 0, 128]
def k0_off407 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4862_r0 : Index := Scalar.indexCast v3896_r0
  let c128_2797_r0 : Index := 128#32
  let c0_2798_r0 : Index := 0#32
  ![v4862_r0.toNat, 128, 0]
def k0_off408 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4876_r0 : Index := Scalar.indexCast v3896_r0
  let c128_2803_r0 : Index := 128#32
  let c128_2804_r0 : Index := 128#32
  ![v4876_r0.toNat, 128, 128]
def k0_off409 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4897_r0 : Index := Scalar.indexCast v3896_r0
  let c0_2814_r0 : Index := 0#32
  let c256_2815_r0 : Index := 256#32
  ![v4897_r0.toNat, 0, 256]
def k0_off410 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4911_r0 : Index := Scalar.indexCast v3896_r0
  let c0_2820_r0 : Index := 0#32
  let c384_2821_r0 : Index := 384#32
  ![v4911_r0.toNat, 0, 384]
def k0_off411 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4926_r0 : Index := Scalar.indexCast v3896_r0
  let c128_2826_r0 : Index := 128#32
  let c256_2827_r0 : Index := 256#32
  ![v4926_r0.toNat, 128, 256]
def k0_off412 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2302_r0 : BitVec 32 := 7#32
  let v3866_r0 : BitVec 32 := Scalar.addi v3865_r0 c7_i32_2302_r0
  let c1_i32_2303_r0 : BitVec 32 := 1#32
  let v3867_r0 : BitVec 32 := Scalar.subi v3866_r0 c1_i32_2303_r0
  let c1_i32_2321_r0 : BitVec 32 := 1#32
  let v3895_r0 : BitVec 32 := Scalar.addi v3867_r0 c1_i32_2321_r0
  let c12_i32_2322_r0 : BitVec 32 := 12#32
  let v3896_r0 : BitVec 32 := Scalar.remsi v3895_r0 c12_i32_2322_r0
  let v4940_r0 : Index := Scalar.indexCast v3896_r0
  let c128_2832_r0 : Index := 128#32
  let c384_2833_r0 : Index := 384#32
  ![v4940_r0.toNat, 128, 384]
def k0_mult39 (k0_t4 : Fin k0_t4_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2839_r0 : BitVec 32 := 1#32
  let v4957_r0 : BitVec 32 := Scalar.addi v4956_r0 c1_i32_2839_r0
  let c56_i32_2841_r0 : BitVec 32 := 56#32
  let v4959_r0 : BitVec 32 := Scalar.subi v4957_r0 c56_i32_2841_r0
  let c7_i32_2844_r0 : BitVec 32 := 7#32
  let v4962_r0 : BitVec 32 := Scalar.divsi v4959_r0 c7_i32_2844_r0
  let c2048_i32_2845_r0 : BitVec 32 := 2048#32
  let v4963_r0 : BitVec 32 := Scalar.muli v4962_r0 c2048_i32_2845_r0
  v4963_r0
def k0_off413 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2839_r0 : BitVec 32 := 1#32
  let v4957_r0 : BitVec 32 := Scalar.addi v4956_r0 c1_i32_2839_r0
  let c12_i32_2840_r0 : BitVec 32 := 12#32
  let v4958_r0 : BitVec 32 := Scalar.remsi v4957_r0 c12_i32_2840_r0
  ![v4958_r0.toNat]
def k0_off414 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2839_r0 : BitVec 32 := 1#32
  let v4957_r0 : BitVec 32 := Scalar.addi v4956_r0 c1_i32_2839_r0
  let c12_i32_2840_r0 : BitVec 32 := 12#32
  let v4958_r0 : BitVec 32 := Scalar.remsi v4957_r0 c12_i32_2840_r0
  let c0_i32_2846_r0 : BitVec 32 := 0#32
  let c0_i32_2847_r0 : BitVec 32 := 0#32
  ![v4958_r0.toNat, 0, 0]
def k0_off415 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2839_r0 : BitVec 32 := 1#32
  let v4957_r0 : BitVec 32 := Scalar.addi v4956_r0 c1_i32_2839_r0
  let c56_i32_2841_r0 : BitVec 32 := 56#32
  let v4959_r0 : BitVec 32 := Scalar.subi v4957_r0 c56_i32_2841_r0
  let c7_i32_2842_r0 : BitVec 32 := 7#32
  let v4960_r0 : BitVec 32 := Scalar.remsi v4959_r0 c7_i32_2842_r0
  let c512_i32_2843_r0 : BitVec 32 := 512#32
  let v4961_r0 : BitVec 32 := Scalar.muli v4960_r0 c512_i32_2843_r0
  let c7_i32_2844_r0 : BitVec 32 := 7#32
  let v4962_r0 : BitVec 32 := Scalar.divsi v4959_r0 c7_i32_2844_r0
  let c2048_i32_2845_r0 : BitVec 32 := 2048#32
  let v4963_r0 : BitVec 32 := Scalar.muli v4962_r0 c2048_i32_2845_r0
  let v4964_r0 : BitVec 32 := v4963_r0
  ![v4961_r0.toNat, v4964_r0.toNat]
def k0_cond13 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c28_i32_2849_r0 : BitVec 32 := 28#32
  let v4971_r0 : BitVec 1 := Scalar.cmpi .slt v4970_r0 c28_i32_2849_r0
  let v4972_r0 : BitVec 32 := Scalar.extui v4971_r0
  let c0_i32_2850_r0 : BitVec 32 := 0#32
  let v4973_r0 : BitVec 1 := Scalar.cmpi .ne v4972_r0 c0_i32_2850_r0
  v4973_r0

def k0_off416 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  ![v6207_r0.toNat]
def k0_off417 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  let c0_i32_3467_r0 : BitVec 32 := 0#32
  let c0_i32_3468_r0 : BitVec 32 := 0#32
  ![v6207_r0.toNat, 0, 0]
def k0_off418 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c512_i32_3466_r0 : BitVec 32 := 512#32
  let v6208_r0 : BitVec 32 := Scalar.muli v4970_r0 c512_i32_3466_r0
  let c0_i32_3469_r0 : BitVec 32 := 0#32
  ![v6208_r0.toNat, 0]
def k0_cond14 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c28_i32_2851_r0 : BitVec 32 := 28#32
  let v4974_r0 : BitVec 1 := Scalar.cmpi .sge v4970_r0 c28_i32_2851_r0
  let c56_i32_2852_r0 : BitVec 32 := 56#32
  let v4975_r0 : BitVec 1 := Scalar.cmpi .slt v4970_r0 c56_i32_2852_r0
  let v4976_r0 : BitVec 1 := Scalar.andi v4974_r0 v4975_r0
  let v4977_r0 : BitVec 32 := Scalar.extui v4976_r0
  let c0_i32_2853_r0 : BitVec 32 := 0#32
  let v4978_r0 : BitVec 1 := Scalar.cmpi .ne v4977_r0 c0_i32_2853_r0
  v4978_r0

def k0_off419 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  ![v6207_r0.toNat]
def k0_off420 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  let c0_i32_3468_r0 : BitVec 32 := 0#32
  let c0_i32_3469_r0 : BitVec 32 := 0#32
  ![v6207_r0.toNat, 0, 0]
def k0_off421 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c28_i32_3466_r0 : BitVec 32 := 28#32
  let v6208_r0 : BitVec 32 := Scalar.subi v4970_r0 c28_i32_3466_r0
  let c512_i32_3467_r0 : BitVec 32 := 512#32
  let v6209_r0 : BitVec 32 := Scalar.muli v6208_r0 c512_i32_3467_r0
  let c2048_i32_3470_r0 : BitVec 32 := 2048#32
  ![v6209_r0.toNat, 2048]
def k0_cond15 (k0_t4 : Fin k0_t4_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c56_i32_2854_r0 : BitVec 32 := 56#32
  let v4979_r0 : BitVec 1 := Scalar.cmpi .sge v4970_r0 c56_i32_2854_r0
  let c84_i32_2855_r0 : BitVec 32 := 84#32
  let v4980_r0 : BitVec 1 := Scalar.cmpi .slt v4970_r0 c84_i32_2855_r0
  let v4981_r0 : BitVec 1 := Scalar.andi v4979_r0 v4980_r0
  let v4982_r0 : BitVec 32 := Scalar.extui v4981_r0
  let c0_i32_2856_r0 : BitVec 32 := 0#32
  let v4983_r0 : BitVec 1 := Scalar.cmpi .ne v4982_r0 c0_i32_2856_r0
  v4983_r0

def k0_mult40 (k0_t4 : Fin k0_t4_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c56_i32_3466_r0 : BitVec 32 := 56#32
  let v6208_r0 : BitVec 32 := Scalar.subi v4970_r0 c56_i32_3466_r0
  let c7_i32_3469_r0 : BitVec 32 := 7#32
  let v6211_r0 : BitVec 32 := Scalar.divsi v6208_r0 c7_i32_3469_r0
  let c2048_i32_3470_r0 : BitVec 32 := 2048#32
  let v6212_r0 : BitVec 32 := Scalar.muli v6211_r0 c2048_i32_3470_r0
  v6212_r0
def k0_off422 (k0_t4 : Fin k0_t4_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  ![v6207_r0.toNat]
def k0_off423 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c12_i32_3465_r0 : BitVec 32 := 12#32
  let v6207_r0 : BitVec 32 := Scalar.remsi v4970_r0 c12_i32_3465_r0
  let c0_i32_3471_r0 : BitVec 32 := 0#32
  let c0_i32_3472_r0 : BitVec 32 := 0#32
  ![v6207_r0.toNat, 0, 0]
def k0_off424 (k0_t4 : Fin k0_t4_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c11_i32_2848_r0 : BitVec 32 := 11#32
  let v4970_r0 : BitVec 32 := Scalar.addi v4956_r0 c11_i32_2848_r0
  let c56_i32_3466_r0 : BitVec 32 := 56#32
  let v6208_r0 : BitVec 32 := Scalar.subi v4970_r0 c56_i32_3466_r0
  let c7_i32_3467_r0 : BitVec 32 := 7#32
  let v6209_r0 : BitVec 32 := Scalar.remsi v6208_r0 c7_i32_3467_r0
  let c512_i32_3468_r0 : BitVec 32 := 512#32
  let v6210_r0 : BitVec 32 := Scalar.muli v6209_r0 c512_i32_3468_r0
  let c7_i32_3469_r0 : BitVec 32 := 7#32
  let v6211_r0 : BitVec 32 := Scalar.divsi v6208_r0 c7_i32_3469_r0
  let c2048_i32_3470_r0 : BitVec 32 := 2048#32
  let v6212_r0 : BitVec 32 := Scalar.muli v6211_r0 c2048_i32_3470_r0
  let v6213_r0 : BitVec 32 := v6212_r0
  ![v6210_r0.toNat, v6213_r0.toNat]
def k0_off425 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c0_i32_2870_r0 : BitVec 32 := 0#32
  let c0_i32_2871_r0 : BitVec 32 := 0#32
  let c0_i32_2872_r0 : BitVec 32 := 0#32
  let c0_i32_2873_r0 : BitVec 32 := 0#32
  ![arg38_r0.toNat, 0, 0, 0, 0]
def k0_off426 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c0_i32_2870_r0 : BitVec 32 := 0#32
  let c0_i32_2871_r0 : BitVec 32 := 0#32
  let c0_i32_2872_r0 : BitVec 32 := 0#32
  let c0_i32_2873_r0 : BitVec 32 := 0#32
  ![arg38_r0.toNat, 0, 0, 0, 0]
def k0_off427 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c1_i32_2876_r0 : BitVec 32 := 1#32
  let c0_i32_2877_r0 : BitVec 32 := 0#32
  let c0_i32_2878_r0 : BitVec 32 := 0#32
  let c0_i32_2879_r0 : BitVec 32 := 0#32
  ![arg38_r0.toNat, 1, 0, 0, 0]
def k0_off428 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c1_i32_2876_r0 : BitVec 32 := 1#32
  let c0_i32_2877_r0 : BitVec 32 := 0#32
  let c0_i32_2878_r0 : BitVec 32 := 0#32
  let c0_i32_2879_r0 : BitVec 32 := 0#32
  ![arg38_r0.toNat, 1, 0, 0, 0]
def k0_off429 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5036_r0 : Index := Scalar.indexCast v4987_r0
  let c0_2893_r0 : Index := 0#32
  let c512_2894_r0 : Index := 512#32
  ![v5036_r0.toNat, 0, 512]
def k0_off430 (k0_t4 : Fin k0_t4_loop.trips) (c0_i32_2895_r0 : BitVec 32) (c0_i32_2896_r0 : BitVec 32) (c4_i32_2897_r0 : BitVec 32) (c0_i32_2898_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c56_i32_2861_r0 : BitVec 32 := 56#32
  let v4988_r0 : BitVec 32 := Scalar.subi v4956_r0 c56_i32_2861_r0
  let c7_i32_2888_r0 : BitVec 32 := 7#32
  let v5031_r0 : BitVec 32 := Scalar.remsi v4988_r0 c7_i32_2888_r0
  let c2_i32_2889_r0 : BitVec 32 := 2#32
  let v5032_r0 : BitVec 32 := Scalar.muli v5031_r0 c2_i32_2889_r0
  let c2_i32_2890_r0 : BitVec 32 := 2#32
  let v5033_r0 : BitVec 32 := Scalar.muli v5032_r0 c2_i32_2890_r0
  let v5040_r0 : BitVec 32 := Scalar.addi v5033_r0 c0_i32_2895_r0
  let v5041_r0 : BitVec 32 := Scalar.addi v5040_r0 c0_i32_2896_r0
  let v5044_r0 : Index := Scalar.indexCast v5041_r0
  let c7_i32_2891_r0 : BitVec 32 := 7#32
  let v5034_r0 : BitVec 32 := Scalar.divsi v4988_r0 c7_i32_2891_r0
  let c16_i32_2892_r0 : BitVec 32 := 16#32
  let v5035_r0 : BitVec 32 := Scalar.muli v5034_r0 c16_i32_2892_r0
  let v5042_r0 : BitVec 32 := Scalar.addi v5035_r0 c4_i32_2897_r0
  let v5043_r0 : BitVec 32 := Scalar.addi v5042_r0 c0_i32_2898_r0
  let v5045_r0 : Index := Scalar.indexCast v5043_r0
  ![v5044_r0.toNat, v5045_r0.toNat]
def k0_off430_at (r : Fin 56) : BitVec 32 × BitVec 32 × BitVec 32 × BitVec 32 :=
  if r.val < 28 then
    if r.val < 14 then
      if r.val < 7 then
        if r.val < 3 then
          if r.val < 1 then
            (0#32, 0#32, 4#32, 0#32)
          else
            if r.val < 2 then
              (0#32, 0#32, 4#32, 1#32)
            else
              (0#32, 1#32, 4#32, 0#32)
        else
          if r.val < 5 then
            if r.val < 4 then
              (0#32, 1#32, 4#32, 1#32)
            else
              (0#32, 0#32, 6#32, 0#32)
          else
            if r.val < 6 then
              (0#32, 0#32, 6#32, 1#32)
            else
              (0#32, 1#32, 6#32, 0#32)
      else
        if r.val < 10 then
          if r.val < 8 then
            (0#32, 1#32, 6#32, 1#32)
          else
            if r.val < 9 then
              (0#32, 0#32, 8#32, 0#32)
            else
              (0#32, 0#32, 8#32, 1#32)
        else
          if r.val < 12 then
            if r.val < 11 then
              (0#32, 1#32, 8#32, 0#32)
            else
              (0#32, 1#32, 8#32, 1#32)
          else
            if r.val < 13 then
              (0#32, 0#32, 10#32, 0#32)
            else
              (0#32, 0#32, 10#32, 1#32)
    else
      if r.val < 21 then
        if r.val < 17 then
          if r.val < 15 then
            (0#32, 1#32, 10#32, 0#32)
          else
            if r.val < 16 then
              (0#32, 1#32, 10#32, 1#32)
            else
              (0#32, 0#32, 12#32, 0#32)
        else
          if r.val < 19 then
            if r.val < 18 then
              (0#32, 0#32, 12#32, 1#32)
            else
              (0#32, 1#32, 12#32, 0#32)
          else
            if r.val < 20 then
              (0#32, 1#32, 12#32, 1#32)
            else
              (0#32, 0#32, 14#32, 0#32)
      else
        if r.val < 24 then
          if r.val < 22 then
            (0#32, 0#32, 14#32, 1#32)
          else
            if r.val < 23 then
              (0#32, 1#32, 14#32, 0#32)
            else
              (0#32, 1#32, 14#32, 1#32)
        else
          if r.val < 26 then
            if r.val < 25 then
              (2#32, 0#32, 0#32, 0#32)
            else
              (2#32, 0#32, 0#32, 1#32)
          else
            if r.val < 27 then
              (2#32, 1#32, 0#32, 0#32)
            else
              (2#32, 1#32, 0#32, 1#32)
  else
    if r.val < 42 then
      if r.val < 35 then
        if r.val < 31 then
          if r.val < 29 then
            (2#32, 0#32, 2#32, 0#32)
          else
            if r.val < 30 then
              (2#32, 0#32, 2#32, 1#32)
            else
              (2#32, 1#32, 2#32, 0#32)
        else
          if r.val < 33 then
            if r.val < 32 then
              (2#32, 1#32, 2#32, 1#32)
            else
              (2#32, 0#32, 4#32, 0#32)
          else
            if r.val < 34 then
              (2#32, 0#32, 4#32, 1#32)
            else
              (2#32, 1#32, 4#32, 0#32)
      else
        if r.val < 38 then
          if r.val < 36 then
            (2#32, 1#32, 4#32, 1#32)
          else
            if r.val < 37 then
              (2#32, 0#32, 6#32, 0#32)
            else
              (2#32, 0#32, 6#32, 1#32)
        else
          if r.val < 40 then
            if r.val < 39 then
              (2#32, 1#32, 6#32, 0#32)
            else
              (2#32, 1#32, 6#32, 1#32)
          else
            if r.val < 41 then
              (2#32, 0#32, 8#32, 0#32)
            else
              (2#32, 0#32, 8#32, 1#32)
    else
      if r.val < 49 then
        if r.val < 45 then
          if r.val < 43 then
            (2#32, 1#32, 8#32, 0#32)
          else
            if r.val < 44 then
              (2#32, 1#32, 8#32, 1#32)
            else
              (2#32, 0#32, 10#32, 0#32)
        else
          if r.val < 47 then
            if r.val < 46 then
              (2#32, 0#32, 10#32, 1#32)
            else
              (2#32, 1#32, 10#32, 0#32)
          else
            if r.val < 48 then
              (2#32, 1#32, 10#32, 1#32)
            else
              (2#32, 0#32, 12#32, 0#32)
      else
        if r.val < 52 then
          if r.val < 50 then
            (2#32, 0#32, 12#32, 1#32)
          else
            if r.val < 51 then
              (2#32, 1#32, 12#32, 0#32)
            else
              (2#32, 1#32, 12#32, 1#32)
        else
          if r.val < 54 then
            if r.val < 53 then
              (2#32, 0#32, 14#32, 0#32)
            else
              (2#32, 0#32, 14#32, 1#32)
          else
            if r.val < 55 then
              (2#32, 1#32, 14#32, 0#32)
            else
              (2#32, 1#32, 14#32, 1#32)
def k0_off431 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5050_r0 : Index := Scalar.indexCast v4987_r0
  let c0_2899_r0 : Index := 0#32
  let c640_2900_r0 : Index := 640#32
  ![v5050_r0.toNat, 0, 640]
def k0_off432 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5065_r0 : Index := Scalar.indexCast v4987_r0
  let c128_2905_r0 : Index := 128#32
  let c512_2906_r0 : Index := 512#32
  ![v5065_r0.toNat, 128, 512]
def k0_off433 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5079_r0 : Index := Scalar.indexCast v4987_r0
  let c128_2911_r0 : Index := 128#32
  let c640_2912_r0 : Index := 640#32
  ![v5079_r0.toNat, 128, 640]
def k0_off434 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5100_r0 : Index := Scalar.indexCast v4987_r0
  let c0_2922_r0 : Index := 0#32
  let c768_2923_r0 : Index := 768#32
  ![v5100_r0.toNat, 0, 768]
def k0_off435 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5114_r0 : Index := Scalar.indexCast v4987_r0
  let c0_2928_r0 : Index := 0#32
  let c896_2929_r0 : Index := 896#32
  ![v5114_r0.toNat, 0, 896]
def k0_off436 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5129_r0 : Index := Scalar.indexCast v4987_r0
  let c128_2934_r0 : Index := 128#32
  let c768_2935_r0 : Index := 768#32
  ![v5129_r0.toNat, 128, 768]
def k0_off437 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5143_r0 : Index := Scalar.indexCast v4987_r0
  let c128_2940_r0 : Index := 128#32
  let c896_2941_r0 : Index := 896#32
  ![v5143_r0.toNat, 128, 896]
def k0_off438 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c0_i32_2954_r0 : BitVec 32 := 0#32
  let c0_i32_2955_r0 : BitVec 32 := 0#32
  let c0_i32_2957_r0 : BitVec 32 := 0#32
  ![arg38_r0.toNat, 0, 0, 2, 0]
def k0_off439 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c1_i32_2960_r0 : BitVec 32 := 1#32
  let c0_i32_2961_r0 : BitVec 32 := 0#32
  let c0_i32_2963_r0 : BitVec 32 := 0#32
  ![arg38_r0.toNat, 1, 0, 2, 0]
def k0_off440 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5206_r0 : Index := Scalar.indexCast v4987_r0
  let c0_2977_r0 : Index := 0#32
  let c1024_2978_r0 : Index := 1024#32
  ![v5206_r0.toNat, 0, 1024]
def k0_off441 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5220_r0 : Index := Scalar.indexCast v4987_r0
  let c0_2983_r0 : Index := 0#32
  let c1152_2984_r0 : Index := 1152#32
  ![v5220_r0.toNat, 0, 1152]
def k0_off442 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5235_r0 : Index := Scalar.indexCast v4987_r0
  let c128_2989_r0 : Index := 128#32
  let c1024_2990_r0 : Index := 1024#32
  ![v5235_r0.toNat, 128, 1024]
def k0_off443 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5249_r0 : Index := Scalar.indexCast v4987_r0
  let c128_2995_r0 : Index := 128#32
  let c1152_2996_r0 : Index := 1152#32
  ![v5249_r0.toNat, 128, 1152]
def k0_off444 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5270_r0 : Index := Scalar.indexCast v4987_r0
  let c0_3006_r0 : Index := 0#32
  let c1280_3007_r0 : Index := 1280#32
  ![v5270_r0.toNat, 0, 1280]
def k0_off445 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5284_r0 : Index := Scalar.indexCast v4987_r0
  let c0_3012_r0 : Index := 0#32
  let c1408_3013_r0 : Index := 1408#32
  ![v5284_r0.toNat, 0, 1408]
def k0_off446 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5299_r0 : Index := Scalar.indexCast v4987_r0
  let c128_3018_r0 : Index := 128#32
  let c1280_3019_r0 : Index := 1280#32
  ![v5299_r0.toNat, 128, 1280]
def k0_off447 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5313_r0 : Index := Scalar.indexCast v4987_r0
  let c128_3024_r0 : Index := 128#32
  let c1408_3025_r0 : Index := 1408#32
  ![v5313_r0.toNat, 128, 1408]
def k0_off448 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c0_i32_3038_r0 : BitVec 32 := 0#32
  let c0_i32_3039_r0 : BitVec 32 := 0#32
  let c0_i32_3041_r0 : BitVec 32 := 0#32
  ![arg38_r0.toNat, 0, 0, 4, 0]
def k0_off449 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c1_i32_3044_r0 : BitVec 32 := 1#32
  let c0_i32_3045_r0 : BitVec 32 := 0#32
  let c0_i32_3047_r0 : BitVec 32 := 0#32
  ![arg38_r0.toNat, 1, 0, 4, 0]
def k0_off450 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5376_r0 : Index := Scalar.indexCast v4987_r0
  let c0_3061_r0 : Index := 0#32
  let c1536_3062_r0 : Index := 1536#32
  ![v5376_r0.toNat, 0, 1536]
def k0_off451 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5390_r0 : Index := Scalar.indexCast v4987_r0
  let c0_3067_r0 : Index := 0#32
  let c1664_3068_r0 : Index := 1664#32
  ![v5390_r0.toNat, 0, 1664]
def k0_off452 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5405_r0 : Index := Scalar.indexCast v4987_r0
  let c128_3073_r0 : Index := 128#32
  let c1536_3074_r0 : Index := 1536#32
  ![v5405_r0.toNat, 128, 1536]
def k0_off453 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5419_r0 : Index := Scalar.indexCast v4987_r0
  let c128_3079_r0 : Index := 128#32
  let c1664_3080_r0 : Index := 1664#32
  ![v5419_r0.toNat, 128, 1664]
def k0_off454 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5440_r0 : Index := Scalar.indexCast v4987_r0
  let c0_3090_r0 : Index := 0#32
  let c1792_3091_r0 : Index := 1792#32
  ![v5440_r0.toNat, 0, 1792]
def k0_off455 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5454_r0 : Index := Scalar.indexCast v4987_r0
  let c0_3096_r0 : Index := 0#32
  let c1920_3097_r0 : Index := 1920#32
  ![v5454_r0.toNat, 0, 1920]
def k0_off456 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5469_r0 : Index := Scalar.indexCast v4987_r0
  let c128_3102_r0 : Index := 128#32
  let c1792_3103_r0 : Index := 1792#32
  ![v5469_r0.toNat, 128, 1792]
def k0_off457 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5483_r0 : Index := Scalar.indexCast v4987_r0
  let c128_3108_r0 : Index := 128#32
  let c1920_3109_r0 : Index := 1920#32
  ![v5483_r0.toNat, 128, 1920]
def k0_off458 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c0_i32_3122_r0 : BitVec 32 := 0#32
  let c0_i32_3123_r0 : BitVec 32 := 0#32
  let c0_i32_3125_r0 : BitVec 32 := 0#32
  ![arg38_r0.toNat, 0, 0, 6, 0]
def k0_off459 (k0_t4 : Fin k0_t4_loop.trips) : Fin 5 → Nat :=
  let c0_i32_1499_r0 : BitVec 32 := 0#32
  let c1_i32_1501_r0 : BitVec 32 := 1#32
  let arg38_r0 : BitVec 32 := Scf.iv c0_i32_1499_r0 c1_i32_1501_r0 k0_t4
  let c1_i32_3128_r0 : BitVec 32 := 1#32
  let c0_i32_3129_r0 : BitVec 32 := 0#32
  let c0_i32_3131_r0 : BitVec 32 := 0#32
  ![arg38_r0.toNat, 1, 0, 6, 0]
def k0_off460 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5546_r0 : Index := Scalar.indexCast v4987_r0
  let c256_3145_r0 : Index := 256#32
  let c0_3146_r0 : Index := 0#32
  ![v5546_r0.toNat, 256, 0]
def k0_off461 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5560_r0 : Index := Scalar.indexCast v4987_r0
  let c256_3151_r0 : Index := 256#32
  let c128_3152_r0 : Index := 128#32
  ![v5560_r0.toNat, 256, 128]
def k0_off462 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5575_r0 : Index := Scalar.indexCast v4987_r0
  let c384_3157_r0 : Index := 384#32
  let c0_3158_r0 : Index := 0#32
  ![v5575_r0.toNat, 384, 0]
def k0_off463 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5589_r0 : Index := Scalar.indexCast v4987_r0
  let c384_3163_r0 : Index := 384#32
  let c128_3164_r0 : Index := 128#32
  ![v5589_r0.toNat, 384, 128]
def k0_off464 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5610_r0 : Index := Scalar.indexCast v4987_r0
  let c256_3174_r0 : Index := 256#32
  let c256_3175_r0 : Index := 256#32
  ![v5610_r0.toNat, 256, 256]
def k0_off465 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5624_r0 : Index := Scalar.indexCast v4987_r0
  let c256_3180_r0 : Index := 256#32
  let c384_3181_r0 : Index := 384#32
  ![v5624_r0.toNat, 256, 384]
def k0_off466 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5639_r0 : Index := Scalar.indexCast v4987_r0
  let c384_3186_r0 : Index := 384#32
  let c256_3187_r0 : Index := 256#32
  ![v5639_r0.toNat, 384, 256]
def k0_off467 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5653_r0 : Index := Scalar.indexCast v4987_r0
  let c384_3192_r0 : Index := 384#32
  let c384_3193_r0 : Index := 384#32
  ![v5653_r0.toNat, 384, 384]
def k0_off468 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5678_r0 : Index := Scalar.indexCast v4987_r0
  let c256_3209_r0 : Index := 256#32
  let c512_3210_r0 : Index := 512#32
  ![v5678_r0.toNat, 256, 512]
def k0_off469 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5692_r0 : Index := Scalar.indexCast v4987_r0
  let c256_3215_r0 : Index := 256#32
  let c640_3216_r0 : Index := 640#32
  ![v5692_r0.toNat, 256, 640]
def k0_off470 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5707_r0 : Index := Scalar.indexCast v4987_r0
  let c384_3221_r0 : Index := 384#32
  let c512_3222_r0 : Index := 512#32
  ![v5707_r0.toNat, 384, 512]
def k0_off471 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5721_r0 : Index := Scalar.indexCast v4987_r0
  let c384_3227_r0 : Index := 384#32
  let c640_3228_r0 : Index := 640#32
  ![v5721_r0.toNat, 384, 640]
def k0_off472 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5742_r0 : Index := Scalar.indexCast v4987_r0
  let c256_3238_r0 : Index := 256#32
  let c768_3239_r0 : Index := 768#32
  ![v5742_r0.toNat, 256, 768]
def k0_off473 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5756_r0 : Index := Scalar.indexCast v4987_r0
  let c256_3244_r0 : Index := 256#32
  let c896_3245_r0 : Index := 896#32
  ![v5756_r0.toNat, 256, 896]
def k0_off474 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5771_r0 : Index := Scalar.indexCast v4987_r0
  let c384_3250_r0 : Index := 384#32
  let c768_3251_r0 : Index := 768#32
  ![v5771_r0.toNat, 384, 768]
def k0_off475 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5785_r0 : Index := Scalar.indexCast v4987_r0
  let c384_3256_r0 : Index := 384#32
  let c896_3257_r0 : Index := 896#32
  ![v5785_r0.toNat, 384, 896]
def k0_off476 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5810_r0 : Index := Scalar.indexCast v4987_r0
  let c256_3273_r0 : Index := 256#32
  let c1024_3274_r0 : Index := 1024#32
  ![v5810_r0.toNat, 256, 1024]
def k0_off477 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5824_r0 : Index := Scalar.indexCast v4987_r0
  let c256_3279_r0 : Index := 256#32
  let c1152_3280_r0 : Index := 1152#32
  ![v5824_r0.toNat, 256, 1152]
def k0_off478 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5839_r0 : Index := Scalar.indexCast v4987_r0
  let c384_3285_r0 : Index := 384#32
  let c1024_3286_r0 : Index := 1024#32
  ![v5839_r0.toNat, 384, 1024]
def k0_off479 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5853_r0 : Index := Scalar.indexCast v4987_r0
  let c384_3291_r0 : Index := 384#32
  let c1152_3292_r0 : Index := 1152#32
  ![v5853_r0.toNat, 384, 1152]
def k0_off480 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5874_r0 : Index := Scalar.indexCast v4987_r0
  let c256_3302_r0 : Index := 256#32
  let c1280_3303_r0 : Index := 1280#32
  ![v5874_r0.toNat, 256, 1280]
def k0_off481 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5888_r0 : Index := Scalar.indexCast v4987_r0
  let c256_3308_r0 : Index := 256#32
  let c1408_3309_r0 : Index := 1408#32
  ![v5888_r0.toNat, 256, 1408]
def k0_off482 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5903_r0 : Index := Scalar.indexCast v4987_r0
  let c384_3314_r0 : Index := 384#32
  let c1280_3315_r0 : Index := 1280#32
  ![v5903_r0.toNat, 384, 1280]
def k0_off483 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5917_r0 : Index := Scalar.indexCast v4987_r0
  let c384_3320_r0 : Index := 384#32
  let c1408_3321_r0 : Index := 1408#32
  ![v5917_r0.toNat, 384, 1408]
def k0_off484 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5942_r0 : Index := Scalar.indexCast v4987_r0
  let c256_3337_r0 : Index := 256#32
  let c1536_3338_r0 : Index := 1536#32
  ![v5942_r0.toNat, 256, 1536]
def k0_off485 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5956_r0 : Index := Scalar.indexCast v4987_r0
  let c256_3343_r0 : Index := 256#32
  let c1664_3344_r0 : Index := 1664#32
  ![v5956_r0.toNat, 256, 1664]
def k0_off486 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5971_r0 : Index := Scalar.indexCast v4987_r0
  let c384_3349_r0 : Index := 384#32
  let c1536_3350_r0 : Index := 1536#32
  ![v5971_r0.toNat, 384, 1536]
def k0_off487 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v5985_r0 : Index := Scalar.indexCast v4987_r0
  let c384_3355_r0 : Index := 384#32
  let c1664_3356_r0 : Index := 1664#32
  ![v5985_r0.toNat, 384, 1664]
def k0_off488 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v6006_r0 : Index := Scalar.indexCast v4987_r0
  let c256_3366_r0 : Index := 256#32
  let c1792_3367_r0 : Index := 1792#32
  ![v6006_r0.toNat, 256, 1792]
def k0_off489 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v6020_r0 : Index := Scalar.indexCast v4987_r0
  let c256_3372_r0 : Index := 256#32
  let c1920_3373_r0 : Index := 1920#32
  ![v6020_r0.toNat, 256, 1920]
def k0_off490 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v6035_r0 : Index := Scalar.indexCast v4987_r0
  let c384_3378_r0 : Index := 384#32
  let c1792_3379_r0 : Index := 1792#32
  ![v6035_r0.toNat, 384, 1792]
def k0_off491 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c12_i32_2860_r0 : BitVec 32 := 12#32
  let v4987_r0 : BitVec 32 := Scalar.remsi v4956_r0 c12_i32_2860_r0
  let v6049_r0 : Index := Scalar.indexCast v4987_r0
  let c384_3384_r0 : Index := 384#32
  let c1920_3385_r0 : Index := 1920#32
  ![v6049_r0.toNat, 384, 1920]
def k0_off492 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6074_r0 : Index := Scalar.indexCast v4985_r0
  let c0_3401_r0 : Index := 0#32
  let c0_3402_r0 : Index := 0#32
  ![v6074_r0.toNat, 0, 0]
def k0_off493 (k0_t4 : Fin k0_t4_loop.trips) (c0_i32_3404_r0 : BitVec 32) (c0_i32_3405_r0 : BitVec 32) (c0_i32_3406_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c56_i32_2859_r0 : BitVec 32 := 56#32
  let v4986_r0 : BitVec 32 := Scalar.subi v4984_r0 c56_i32_2859_r0
  let c7_i32_3396_r0 : BitVec 32 := 7#32
  let v6069_r0 : BitVec 32 := Scalar.remsi v4986_r0 c7_i32_3396_r0
  let c2_i32_3397_r0 : BitVec 32 := 2#32
  let v6070_r0 : BitVec 32 := Scalar.muli v6069_r0 c2_i32_3397_r0
  let c2_i32_3398_r0 : BitVec 32 := 2#32
  let v6071_r0 : BitVec 32 := Scalar.muli v6070_r0 c2_i32_3398_r0
  let c0_i32_3403_r0 : BitVec 32 := 0#32
  let v6078_r0 : BitVec 32 := Scalar.addi v6071_r0 c0_i32_3403_r0
  let v6079_r0 : BitVec 32 := Scalar.addi v6078_r0 c0_i32_3404_r0
  let v6082_r0 : Index := Scalar.indexCast v6079_r0
  let c7_i32_3399_r0 : BitVec 32 := 7#32
  let v6072_r0 : BitVec 32 := Scalar.divsi v4986_r0 c7_i32_3399_r0
  let c16_i32_3400_r0 : BitVec 32 := 16#32
  let v6073_r0 : BitVec 32 := Scalar.muli v6072_r0 c16_i32_3400_r0
  let v6080_r0 : BitVec 32 := Scalar.addi v6073_r0 c0_i32_3405_r0
  let v6081_r0 : BitVec 32 := Scalar.addi v6080_r0 c0_i32_3406_r0
  let v6083_r0 : Index := Scalar.indexCast v6081_r0
  ![v6082_r0.toNat, v6083_r0.toNat]
def k0_off494 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6088_r0 : Index := Scalar.indexCast v4985_r0
  let c0_3407_r0 : Index := 0#32
  let c128_3408_r0 : Index := 128#32
  ![v6088_r0.toNat, 0, 128]
def k0_off495 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6103_r0 : Index := Scalar.indexCast v4985_r0
  let c128_3413_r0 : Index := 128#32
  let c0_3414_r0 : Index := 0#32
  ![v6103_r0.toNat, 128, 0]
def k0_off496 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6117_r0 : Index := Scalar.indexCast v4985_r0
  let c128_3419_r0 : Index := 128#32
  let c128_3420_r0 : Index := 128#32
  ![v6117_r0.toNat, 128, 128]
def k0_off497 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6138_r0 : Index := Scalar.indexCast v4985_r0
  let c0_3430_r0 : Index := 0#32
  let c256_3431_r0 : Index := 256#32
  ![v6138_r0.toNat, 0, 256]
def k0_off498 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6152_r0 : Index := Scalar.indexCast v4985_r0
  let c0_3436_r0 : Index := 0#32
  let c384_3437_r0 : Index := 384#32
  ![v6152_r0.toNat, 0, 384]
def k0_off499 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6167_r0 : Index := Scalar.indexCast v4985_r0
  let c128_3442_r0 : Index := 128#32
  let c256_3443_r0 : Index := 256#32
  ![v6167_r0.toNat, 128, 256]
def k0_off500 (k0_t4 : Fin k0_t4_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_2838_r0 : BitVec 32 := 7#32
  let v4956_r0 : BitVec 32 := Scalar.addi v3865_r0 c7_i32_2838_r0
  let c1_i32_2857_r0 : BitVec 32 := 1#32
  let v4984_r0 : BitVec 32 := Scalar.addi v4956_r0 c1_i32_2857_r0
  let c12_i32_2858_r0 : BitVec 32 := 12#32
  let v4985_r0 : BitVec 32 := Scalar.remsi v4984_r0 c12_i32_2858_r0
  let v6181_r0 : Index := Scalar.indexCast v4985_r0
  let c128_3448_r0 : Index := 128#32
  let c384_3449_r0 : Index := 384#32
  ![v6181_r0.toNat, 128, 384]
@[reducible] def k0_t5_loop : Scf.Loop 32 :=
  let c1_i32_3461_r0 : BitVec 32 := 1#32
  let c5_i32_3462_r0 : BitVec 32 := 5#32
  let v6206_r0 : BitVec 32 := Scalar.addi c1_i32_3461_r0 c5_i32_3462_r0
  let c1_i32_3463_r0 : BitVec 32 := 1#32
  ⟨c1_i32_3461_r0, v6206_r0, c1_i32_3463_r0⟩
def k0_mult41 (k0_t4 : Fin k0_t4_loop.trips) (k0_t5 : Fin k0_t5_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3466_r0 : BitVec 32 := 1#32
  let v6209_r0 : BitVec 32 := Scalar.addi v6208_r0 c1_i32_3466_r0
  let c56_i32_3468_r0 : BitVec 32 := 56#32
  let v6211_r0 : BitVec 32 := Scalar.subi v6209_r0 c56_i32_3468_r0
  let c7_i32_3471_r0 : BitVec 32 := 7#32
  let v6214_r0 : BitVec 32 := Scalar.divsi v6211_r0 c7_i32_3471_r0
  let c2048_i32_3472_r0 : BitVec 32 := 2048#32
  let v6215_r0 : BitVec 32 := Scalar.muli v6214_r0 c2048_i32_3472_r0
  v6215_r0
def k0_off501 (k0_t4 : Fin k0_t4_loop.trips) (k0_t5 : Fin k0_t5_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3466_r0 : BitVec 32 := 1#32
  let v6209_r0 : BitVec 32 := Scalar.addi v6208_r0 c1_i32_3466_r0
  let c12_i32_3467_r0 : BitVec 32 := 12#32
  let v6210_r0 : BitVec 32 := Scalar.remsi v6209_r0 c12_i32_3467_r0
  ![v6210_r0.toNat]
def k0_off502 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3466_r0 : BitVec 32 := 1#32
  let v6209_r0 : BitVec 32 := Scalar.addi v6208_r0 c1_i32_3466_r0
  let c12_i32_3467_r0 : BitVec 32 := 12#32
  let v6210_r0 : BitVec 32 := Scalar.remsi v6209_r0 c12_i32_3467_r0
  let c0_i32_3473_r0 : BitVec 32 := 0#32
  let c0_i32_3474_r0 : BitVec 32 := 0#32
  ![v6210_r0.toNat, 0, 0]
def k0_off503 (k0_t4 : Fin k0_t4_loop.trips) (k0_t5 : Fin k0_t5_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3466_r0 : BitVec 32 := 1#32
  let v6209_r0 : BitVec 32 := Scalar.addi v6208_r0 c1_i32_3466_r0
  let c56_i32_3468_r0 : BitVec 32 := 56#32
  let v6211_r0 : BitVec 32 := Scalar.subi v6209_r0 c56_i32_3468_r0
  let c7_i32_3469_r0 : BitVec 32 := 7#32
  let v6212_r0 : BitVec 32 := Scalar.remsi v6211_r0 c7_i32_3469_r0
  let c512_i32_3470_r0 : BitVec 32 := 512#32
  let v6213_r0 : BitVec 32 := Scalar.muli v6212_r0 c512_i32_3470_r0
  let c7_i32_3471_r0 : BitVec 32 := 7#32
  let v6214_r0 : BitVec 32 := Scalar.divsi v6211_r0 c7_i32_3471_r0
  let c2048_i32_3472_r0 : BitVec 32 := 2048#32
  let v6215_r0 : BitVec 32 := Scalar.muli v6214_r0 c2048_i32_3472_r0
  let v6216_r0 : BitVec 32 := v6215_r0
  ![v6213_r0.toNat, v6216_r0.toNat]
def k0_cond19 (k0_t4 : Fin k0_t4_loop.trips) (k0_t5 : Fin k0_t5_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c28_i32_3476_r0 : BitVec 32 := 28#32
  let v6223_r0 : BitVec 1 := Scalar.cmpi .slt v6222_r0 c28_i32_3476_r0
  let v6224_r0 : BitVec 32 := Scalar.extui v6223_r0
  let c0_i32_3477_r0 : BitVec 32 := 0#32
  let v6225_r0 : BitVec 1 := Scalar.cmpi .ne v6224_r0 c0_i32_3477_r0
  v6225_r0

def k0_off504 (k0_t4 : Fin k0_t4_loop.trips) (k0_t5 : Fin k0_t5_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  ![v7345_r0.toNat]
def k0_off505 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  let c0_i32_4019_r0 : BitVec 32 := 0#32
  let c0_i32_4020_r0 : BitVec 32 := 0#32
  ![v7345_r0.toNat, 0, 0]
def k0_off506 (k0_t4 : Fin k0_t4_loop.trips) (k0_t5 : Fin k0_t5_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c512_i32_4018_r0 : BitVec 32 := 512#32
  let v7346_r0 : BitVec 32 := Scalar.muli v6222_r0 c512_i32_4018_r0
  let c0_i32_4021_r0 : BitVec 32 := 0#32
  ![v7346_r0.toNat, 0]
def k0_cond20 (k0_t4 : Fin k0_t4_loop.trips) (k0_t5 : Fin k0_t5_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c28_i32_3478_r0 : BitVec 32 := 28#32
  let v6226_r0 : BitVec 1 := Scalar.cmpi .sge v6222_r0 c28_i32_3478_r0
  let c56_i32_3479_r0 : BitVec 32 := 56#32
  let v6227_r0 : BitVec 1 := Scalar.cmpi .slt v6222_r0 c56_i32_3479_r0
  let v6228_r0 : BitVec 1 := Scalar.andi v6226_r0 v6227_r0
  let v6229_r0 : BitVec 32 := Scalar.extui v6228_r0
  let c0_i32_3480_r0 : BitVec 32 := 0#32
  let v6230_r0 : BitVec 1 := Scalar.cmpi .ne v6229_r0 c0_i32_3480_r0
  v6230_r0

def k0_off507 (k0_t4 : Fin k0_t4_loop.trips) (k0_t5 : Fin k0_t5_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  ![v7345_r0.toNat]
def k0_off508 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  let c0_i32_4020_r0 : BitVec 32 := 0#32
  let c0_i32_4021_r0 : BitVec 32 := 0#32
  ![v7345_r0.toNat, 0, 0]
def k0_off509 (k0_t4 : Fin k0_t4_loop.trips) (k0_t5 : Fin k0_t5_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c28_i32_4018_r0 : BitVec 32 := 28#32
  let v7346_r0 : BitVec 32 := Scalar.subi v6222_r0 c28_i32_4018_r0
  let c512_i32_4019_r0 : BitVec 32 := 512#32
  let v7347_r0 : BitVec 32 := Scalar.muli v7346_r0 c512_i32_4019_r0
  let c2048_i32_4022_r0 : BitVec 32 := 2048#32
  ![v7347_r0.toNat, 2048]
def k0_cond21 (k0_t4 : Fin k0_t4_loop.trips) (k0_t5 : Fin k0_t5_loop.trips) : BitVec 1 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c56_i32_3481_r0 : BitVec 32 := 56#32
  let v6231_r0 : BitVec 1 := Scalar.cmpi .sge v6222_r0 c56_i32_3481_r0
  let c84_i32_3482_r0 : BitVec 32 := 84#32
  let v6232_r0 : BitVec 1 := Scalar.cmpi .slt v6222_r0 c84_i32_3482_r0
  let v6233_r0 : BitVec 1 := Scalar.andi v6231_r0 v6232_r0
  let v6234_r0 : BitVec 32 := Scalar.extui v6233_r0
  let c0_i32_3483_r0 : BitVec 32 := 0#32
  let v6235_r0 : BitVec 1 := Scalar.cmpi .ne v6234_r0 c0_i32_3483_r0
  v6235_r0

def k0_mult42 (k0_t4 : Fin k0_t4_loop.trips) (k0_t5 : Fin k0_t5_loop.trips) : BitVec 32 :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c56_i32_4018_r0 : BitVec 32 := 56#32
  let v7346_r0 : BitVec 32 := Scalar.subi v6222_r0 c56_i32_4018_r0
  let c7_i32_4021_r0 : BitVec 32 := 7#32
  let v7349_r0 : BitVec 32 := Scalar.divsi v7346_r0 c7_i32_4021_r0
  let c2048_i32_4022_r0 : BitVec 32 := 2048#32
  let v7350_r0 : BitVec 32 := Scalar.muli v7349_r0 c2048_i32_4022_r0
  v7350_r0
def k0_off510 (k0_t4 : Fin k0_t4_loop.trips) (k0_t5 : Fin k0_t5_loop.trips) : Fin 1 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  ![v7345_r0.toNat]
def k0_off511 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c12_i32_4017_r0 : BitVec 32 := 12#32
  let v7345_r0 : BitVec 32 := Scalar.remsi v6222_r0 c12_i32_4017_r0
  let c0_i32_4023_r0 : BitVec 32 := 0#32
  let c0_i32_4024_r0 : BitVec 32 := 0#32
  ![v7345_r0.toNat, 0, 0]
def k0_off512 (k0_t4 : Fin k0_t4_loop.trips) (k0_t5 : Fin k0_t5_loop.trips) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c11_i32_3475_r0 : BitVec 32 := 11#32
  let v6222_r0 : BitVec 32 := Scalar.addi v6208_r0 c11_i32_3475_r0
  let c56_i32_4018_r0 : BitVec 32 := 56#32
  let v7346_r0 : BitVec 32 := Scalar.subi v6222_r0 c56_i32_4018_r0
  let c7_i32_4019_r0 : BitVec 32 := 7#32
  let v7347_r0 : BitVec 32 := Scalar.remsi v7346_r0 c7_i32_4019_r0
  let c512_i32_4020_r0 : BitVec 32 := 512#32
  let v7348_r0 : BitVec 32 := Scalar.muli v7347_r0 c512_i32_4020_r0
  let c7_i32_4021_r0 : BitVec 32 := 7#32
  let v7349_r0 : BitVec 32 := Scalar.divsi v7346_r0 c7_i32_4021_r0
  let c2048_i32_4022_r0 : BitVec 32 := 2048#32
  let v7350_r0 : BitVec 32 := Scalar.muli v7349_r0 c2048_i32_4022_r0
  let v7351_r0 : BitVec 32 := v7350_r0
  ![v7348_r0.toNat, v7351_r0.toNat]
def k0_off513 (k0_t5 : Fin k0_t5_loop.trips) (c0_i32_3490_r0 : BitVec 32) : Fin 3 → Nat :=
  let c1_i32_3461_r0 : BitVec 32 := 1#32
  let c1_i32_3463_r0 : BitVec 32 := 1#32
  let arg39_r0 : BitVec 32 := Scf.iv c1_i32_3461_r0 c1_i32_3463_r0 k0_t5
  let c2_i32_3489_r0 : BitVec 32 := 2#32
  let v6241_r0 : BitVec 32 := Scalar.muli arg39_r0 c2_i32_3489_r0
  let v6242_r0 : BitVec 32 := Scalar.addi v6241_r0 c0_i32_3490_r0
  let v6243_r0 : Index := Scalar.indexCast v6242_r0
  let c0_3491_r0 : Index := 0#32
  let c0_3492_r0 : Index := 0#32
  ![v6243_r0.toNat, 0, 0]
def k0_off514 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6256_r0 : Index := Scalar.indexCast v6239_r0
  let c0_3502_r0 : Index := 0#32
  let c512_3503_r0 : Index := 512#32
  ![v6256_r0.toNat, 0, 512]
def k0_off515 (k0_t4 : Fin k0_t4_loop.trips) (k0_t5 : Fin k0_t5_loop.trips) (c0_i32_3504_r0 : BitVec 32) (c0_i32_3505_r0 : BitVec 32) (c4_i32_3506_r0 : BitVec 32) (c0_i32_3507_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c56_i32_3488_r0 : BitVec 32 := 56#32
  let v6240_r0 : BitVec 32 := Scalar.subi v6208_r0 c56_i32_3488_r0
  let c7_i32_3497_r0 : BitVec 32 := 7#32
  let v6251_r0 : BitVec 32 := Scalar.remsi v6240_r0 c7_i32_3497_r0
  let c2_i32_3498_r0 : BitVec 32 := 2#32
  let v6252_r0 : BitVec 32 := Scalar.muli v6251_r0 c2_i32_3498_r0
  let c2_i32_3499_r0 : BitVec 32 := 2#32
  let v6253_r0 : BitVec 32 := Scalar.muli v6252_r0 c2_i32_3499_r0
  let v6260_r0 : BitVec 32 := Scalar.addi v6253_r0 c0_i32_3504_r0
  let v6261_r0 : BitVec 32 := Scalar.addi v6260_r0 c0_i32_3505_r0
  let v6264_r0 : Index := Scalar.indexCast v6261_r0
  let c7_i32_3500_r0 : BitVec 32 := 7#32
  let v6254_r0 : BitVec 32 := Scalar.divsi v6240_r0 c7_i32_3500_r0
  let c16_i32_3501_r0 : BitVec 32 := 16#32
  let v6255_r0 : BitVec 32 := Scalar.muli v6254_r0 c16_i32_3501_r0
  let v6262_r0 : BitVec 32 := Scalar.addi v6255_r0 c4_i32_3506_r0
  let v6263_r0 : BitVec 32 := Scalar.addi v6262_r0 c0_i32_3507_r0
  let v6265_r0 : Index := Scalar.indexCast v6263_r0
  ![v6264_r0.toNat, v6265_r0.toNat]
def k0_off515_at (r : Fin 56) : BitVec 32 × BitVec 32 × BitVec 32 × BitVec 32 :=
  if r.val < 28 then
    if r.val < 14 then
      if r.val < 7 then
        if r.val < 3 then
          if r.val < 1 then
            (0#32, 0#32, 4#32, 0#32)
          else
            if r.val < 2 then
              (0#32, 0#32, 4#32, 1#32)
            else
              (0#32, 1#32, 4#32, 0#32)
        else
          if r.val < 5 then
            if r.val < 4 then
              (0#32, 1#32, 4#32, 1#32)
            else
              (0#32, 0#32, 6#32, 0#32)
          else
            if r.val < 6 then
              (0#32, 0#32, 6#32, 1#32)
            else
              (0#32, 1#32, 6#32, 0#32)
      else
        if r.val < 10 then
          if r.val < 8 then
            (0#32, 1#32, 6#32, 1#32)
          else
            if r.val < 9 then
              (0#32, 0#32, 8#32, 0#32)
            else
              (0#32, 0#32, 8#32, 1#32)
        else
          if r.val < 12 then
            if r.val < 11 then
              (0#32, 1#32, 8#32, 0#32)
            else
              (0#32, 1#32, 8#32, 1#32)
          else
            if r.val < 13 then
              (0#32, 0#32, 10#32, 0#32)
            else
              (0#32, 0#32, 10#32, 1#32)
    else
      if r.val < 21 then
        if r.val < 17 then
          if r.val < 15 then
            (0#32, 1#32, 10#32, 0#32)
          else
            if r.val < 16 then
              (0#32, 1#32, 10#32, 1#32)
            else
              (0#32, 0#32, 12#32, 0#32)
        else
          if r.val < 19 then
            if r.val < 18 then
              (0#32, 0#32, 12#32, 1#32)
            else
              (0#32, 1#32, 12#32, 0#32)
          else
            if r.val < 20 then
              (0#32, 1#32, 12#32, 1#32)
            else
              (0#32, 0#32, 14#32, 0#32)
      else
        if r.val < 24 then
          if r.val < 22 then
            (0#32, 0#32, 14#32, 1#32)
          else
            if r.val < 23 then
              (0#32, 1#32, 14#32, 0#32)
            else
              (0#32, 1#32, 14#32, 1#32)
        else
          if r.val < 26 then
            if r.val < 25 then
              (2#32, 0#32, 0#32, 0#32)
            else
              (2#32, 0#32, 0#32, 1#32)
          else
            if r.val < 27 then
              (2#32, 1#32, 0#32, 0#32)
            else
              (2#32, 1#32, 0#32, 1#32)
  else
    if r.val < 42 then
      if r.val < 35 then
        if r.val < 31 then
          if r.val < 29 then
            (2#32, 0#32, 2#32, 0#32)
          else
            if r.val < 30 then
              (2#32, 0#32, 2#32, 1#32)
            else
              (2#32, 1#32, 2#32, 0#32)
        else
          if r.val < 33 then
            if r.val < 32 then
              (2#32, 1#32, 2#32, 1#32)
            else
              (2#32, 0#32, 4#32, 0#32)
          else
            if r.val < 34 then
              (2#32, 0#32, 4#32, 1#32)
            else
              (2#32, 1#32, 4#32, 0#32)
      else
        if r.val < 38 then
          if r.val < 36 then
            (2#32, 1#32, 4#32, 1#32)
          else
            if r.val < 37 then
              (2#32, 0#32, 6#32, 0#32)
            else
              (2#32, 0#32, 6#32, 1#32)
        else
          if r.val < 40 then
            if r.val < 39 then
              (2#32, 1#32, 6#32, 0#32)
            else
              (2#32, 1#32, 6#32, 1#32)
          else
            if r.val < 41 then
              (2#32, 0#32, 8#32, 0#32)
            else
              (2#32, 0#32, 8#32, 1#32)
    else
      if r.val < 49 then
        if r.val < 45 then
          if r.val < 43 then
            (2#32, 1#32, 8#32, 0#32)
          else
            if r.val < 44 then
              (2#32, 1#32, 8#32, 1#32)
            else
              (2#32, 0#32, 10#32, 0#32)
        else
          if r.val < 47 then
            if r.val < 46 then
              (2#32, 0#32, 10#32, 1#32)
            else
              (2#32, 1#32, 10#32, 0#32)
          else
            if r.val < 48 then
              (2#32, 1#32, 10#32, 1#32)
            else
              (2#32, 0#32, 12#32, 0#32)
      else
        if r.val < 52 then
          if r.val < 50 then
            (2#32, 0#32, 12#32, 1#32)
          else
            if r.val < 51 then
              (2#32, 1#32, 12#32, 0#32)
            else
              (2#32, 1#32, 12#32, 1#32)
        else
          if r.val < 54 then
            if r.val < 53 then
              (2#32, 0#32, 14#32, 0#32)
            else
              (2#32, 0#32, 14#32, 1#32)
          else
            if r.val < 55 then
              (2#32, 1#32, 14#32, 0#32)
            else
              (2#32, 1#32, 14#32, 1#32)
def k0_off516 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6270_r0 : Index := Scalar.indexCast v6239_r0
  let c0_3508_r0 : Index := 0#32
  let c640_3509_r0 : Index := 640#32
  ![v6270_r0.toNat, 0, 640]
def k0_off517 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6285_r0 : Index := Scalar.indexCast v6239_r0
  let c128_3514_r0 : Index := 128#32
  let c512_3515_r0 : Index := 512#32
  ![v6285_r0.toNat, 128, 512]
def k0_off518 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6299_r0 : Index := Scalar.indexCast v6239_r0
  let c128_3520_r0 : Index := 128#32
  let c640_3521_r0 : Index := 640#32
  ![v6299_r0.toNat, 128, 640]
def k0_off519 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6320_r0 : Index := Scalar.indexCast v6239_r0
  let c0_3531_r0 : Index := 0#32
  let c768_3532_r0 : Index := 768#32
  ![v6320_r0.toNat, 0, 768]
def k0_off520 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6334_r0 : Index := Scalar.indexCast v6239_r0
  let c0_3537_r0 : Index := 0#32
  let c896_3538_r0 : Index := 896#32
  ![v6334_r0.toNat, 0, 896]
def k0_off521 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6349_r0 : Index := Scalar.indexCast v6239_r0
  let c128_3543_r0 : Index := 128#32
  let c768_3544_r0 : Index := 768#32
  ![v6349_r0.toNat, 128, 768]
def k0_off522 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6363_r0 : Index := Scalar.indexCast v6239_r0
  let c128_3549_r0 : Index := 128#32
  let c896_3550_r0 : Index := 896#32
  ![v6363_r0.toNat, 128, 896]
def k0_off523 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6394_r0 : Index := Scalar.indexCast v6239_r0
  let c0_3568_r0 : Index := 0#32
  let c1024_3569_r0 : Index := 1024#32
  ![v6394_r0.toNat, 0, 1024]
def k0_off524 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6408_r0 : Index := Scalar.indexCast v6239_r0
  let c0_3574_r0 : Index := 0#32
  let c1152_3575_r0 : Index := 1152#32
  ![v6408_r0.toNat, 0, 1152]
def k0_off525 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6423_r0 : Index := Scalar.indexCast v6239_r0
  let c128_3580_r0 : Index := 128#32
  let c1024_3581_r0 : Index := 1024#32
  ![v6423_r0.toNat, 128, 1024]
def k0_off526 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6437_r0 : Index := Scalar.indexCast v6239_r0
  let c128_3586_r0 : Index := 128#32
  let c1152_3587_r0 : Index := 1152#32
  ![v6437_r0.toNat, 128, 1152]
def k0_off527 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6458_r0 : Index := Scalar.indexCast v6239_r0
  let c0_3597_r0 : Index := 0#32
  let c1280_3598_r0 : Index := 1280#32
  ![v6458_r0.toNat, 0, 1280]
def k0_off528 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6472_r0 : Index := Scalar.indexCast v6239_r0
  let c0_3603_r0 : Index := 0#32
  let c1408_3604_r0 : Index := 1408#32
  ![v6472_r0.toNat, 0, 1408]
def k0_off529 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6487_r0 : Index := Scalar.indexCast v6239_r0
  let c128_3609_r0 : Index := 128#32
  let c1280_3610_r0 : Index := 1280#32
  ![v6487_r0.toNat, 128, 1280]
def k0_off530 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6501_r0 : Index := Scalar.indexCast v6239_r0
  let c128_3615_r0 : Index := 128#32
  let c1408_3616_r0 : Index := 1408#32
  ![v6501_r0.toNat, 128, 1408]
def k0_off531 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6532_r0 : Index := Scalar.indexCast v6239_r0
  let c0_3634_r0 : Index := 0#32
  let c1536_3635_r0 : Index := 1536#32
  ![v6532_r0.toNat, 0, 1536]
def k0_off532 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6546_r0 : Index := Scalar.indexCast v6239_r0
  let c0_3640_r0 : Index := 0#32
  let c1664_3641_r0 : Index := 1664#32
  ![v6546_r0.toNat, 0, 1664]
def k0_off533 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6561_r0 : Index := Scalar.indexCast v6239_r0
  let c128_3646_r0 : Index := 128#32
  let c1536_3647_r0 : Index := 1536#32
  ![v6561_r0.toNat, 128, 1536]
def k0_off534 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6575_r0 : Index := Scalar.indexCast v6239_r0
  let c128_3652_r0 : Index := 128#32
  let c1664_3653_r0 : Index := 1664#32
  ![v6575_r0.toNat, 128, 1664]
def k0_off535 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6596_r0 : Index := Scalar.indexCast v6239_r0
  let c0_3663_r0 : Index := 0#32
  let c1792_3664_r0 : Index := 1792#32
  ![v6596_r0.toNat, 0, 1792]
def k0_off536 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6610_r0 : Index := Scalar.indexCast v6239_r0
  let c0_3669_r0 : Index := 0#32
  let c1920_3670_r0 : Index := 1920#32
  ![v6610_r0.toNat, 0, 1920]
def k0_off537 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6625_r0 : Index := Scalar.indexCast v6239_r0
  let c128_3675_r0 : Index := 128#32
  let c1792_3676_r0 : Index := 1792#32
  ![v6625_r0.toNat, 128, 1792]
def k0_off538 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6639_r0 : Index := Scalar.indexCast v6239_r0
  let c128_3681_r0 : Index := 128#32
  let c1920_3682_r0 : Index := 1920#32
  ![v6639_r0.toNat, 128, 1920]
def k0_off539 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6670_r0 : Index := Scalar.indexCast v6239_r0
  let c256_3700_r0 : Index := 256#32
  let c0_3701_r0 : Index := 0#32
  ![v6670_r0.toNat, 256, 0]
def k0_off540 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6684_r0 : Index := Scalar.indexCast v6239_r0
  let c256_3706_r0 : Index := 256#32
  let c128_3707_r0 : Index := 128#32
  ![v6684_r0.toNat, 256, 128]
def k0_off541 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6699_r0 : Index := Scalar.indexCast v6239_r0
  let c384_3712_r0 : Index := 384#32
  let c0_3713_r0 : Index := 0#32
  ![v6699_r0.toNat, 384, 0]
def k0_off542 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6713_r0 : Index := Scalar.indexCast v6239_r0
  let c384_3718_r0 : Index := 384#32
  let c128_3719_r0 : Index := 128#32
  ![v6713_r0.toNat, 384, 128]
def k0_off543 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6734_r0 : Index := Scalar.indexCast v6239_r0
  let c256_3729_r0 : Index := 256#32
  let c256_3730_r0 : Index := 256#32
  ![v6734_r0.toNat, 256, 256]
def k0_off544 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6748_r0 : Index := Scalar.indexCast v6239_r0
  let c256_3735_r0 : Index := 256#32
  let c384_3736_r0 : Index := 384#32
  ![v6748_r0.toNat, 256, 384]
def k0_off545 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6763_r0 : Index := Scalar.indexCast v6239_r0
  let c384_3741_r0 : Index := 384#32
  let c256_3742_r0 : Index := 256#32
  ![v6763_r0.toNat, 384, 256]
def k0_off546 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6777_r0 : Index := Scalar.indexCast v6239_r0
  let c384_3747_r0 : Index := 384#32
  let c384_3748_r0 : Index := 384#32
  ![v6777_r0.toNat, 384, 384]
def k0_off547 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6808_r0 : Index := Scalar.indexCast v6239_r0
  let c256_3766_r0 : Index := 256#32
  let c512_3767_r0 : Index := 512#32
  ![v6808_r0.toNat, 256, 512]
def k0_off548 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6822_r0 : Index := Scalar.indexCast v6239_r0
  let c256_3772_r0 : Index := 256#32
  let c640_3773_r0 : Index := 640#32
  ![v6822_r0.toNat, 256, 640]
def k0_off549 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6837_r0 : Index := Scalar.indexCast v6239_r0
  let c384_3778_r0 : Index := 384#32
  let c512_3779_r0 : Index := 512#32
  ![v6837_r0.toNat, 384, 512]
def k0_off550 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6851_r0 : Index := Scalar.indexCast v6239_r0
  let c384_3784_r0 : Index := 384#32
  let c640_3785_r0 : Index := 640#32
  ![v6851_r0.toNat, 384, 640]
def k0_off551 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6872_r0 : Index := Scalar.indexCast v6239_r0
  let c256_3795_r0 : Index := 256#32
  let c768_3796_r0 : Index := 768#32
  ![v6872_r0.toNat, 256, 768]
def k0_off552 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6886_r0 : Index := Scalar.indexCast v6239_r0
  let c256_3801_r0 : Index := 256#32
  let c896_3802_r0 : Index := 896#32
  ![v6886_r0.toNat, 256, 896]
def k0_off553 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6901_r0 : Index := Scalar.indexCast v6239_r0
  let c384_3807_r0 : Index := 384#32
  let c768_3808_r0 : Index := 768#32
  ![v6901_r0.toNat, 384, 768]
def k0_off554 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6915_r0 : Index := Scalar.indexCast v6239_r0
  let c384_3813_r0 : Index := 384#32
  let c896_3814_r0 : Index := 896#32
  ![v6915_r0.toNat, 384, 896]
def k0_off555 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6946_r0 : Index := Scalar.indexCast v6239_r0
  let c256_3832_r0 : Index := 256#32
  let c1024_3833_r0 : Index := 1024#32
  ![v6946_r0.toNat, 256, 1024]
def k0_off556 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6960_r0 : Index := Scalar.indexCast v6239_r0
  let c256_3838_r0 : Index := 256#32
  let c1152_3839_r0 : Index := 1152#32
  ![v6960_r0.toNat, 256, 1152]
def k0_off557 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6975_r0 : Index := Scalar.indexCast v6239_r0
  let c384_3844_r0 : Index := 384#32
  let c1024_3845_r0 : Index := 1024#32
  ![v6975_r0.toNat, 384, 1024]
def k0_off558 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v6989_r0 : Index := Scalar.indexCast v6239_r0
  let c384_3850_r0 : Index := 384#32
  let c1152_3851_r0 : Index := 1152#32
  ![v6989_r0.toNat, 384, 1152]
def k0_off559 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7010_r0 : Index := Scalar.indexCast v6239_r0
  let c256_3861_r0 : Index := 256#32
  let c1280_3862_r0 : Index := 1280#32
  ![v7010_r0.toNat, 256, 1280]
def k0_off560 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7024_r0 : Index := Scalar.indexCast v6239_r0
  let c256_3867_r0 : Index := 256#32
  let c1408_3868_r0 : Index := 1408#32
  ![v7024_r0.toNat, 256, 1408]
def k0_off561 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7039_r0 : Index := Scalar.indexCast v6239_r0
  let c384_3873_r0 : Index := 384#32
  let c1280_3874_r0 : Index := 1280#32
  ![v7039_r0.toNat, 384, 1280]
def k0_off562 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7053_r0 : Index := Scalar.indexCast v6239_r0
  let c384_3879_r0 : Index := 384#32
  let c1408_3880_r0 : Index := 1408#32
  ![v7053_r0.toNat, 384, 1408]
def k0_off563 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7084_r0 : Index := Scalar.indexCast v6239_r0
  let c256_3898_r0 : Index := 256#32
  let c1536_3899_r0 : Index := 1536#32
  ![v7084_r0.toNat, 256, 1536]
def k0_off564 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7098_r0 : Index := Scalar.indexCast v6239_r0
  let c256_3904_r0 : Index := 256#32
  let c1664_3905_r0 : Index := 1664#32
  ![v7098_r0.toNat, 256, 1664]
def k0_off565 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7113_r0 : Index := Scalar.indexCast v6239_r0
  let c384_3910_r0 : Index := 384#32
  let c1536_3911_r0 : Index := 1536#32
  ![v7113_r0.toNat, 384, 1536]
def k0_off566 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7127_r0 : Index := Scalar.indexCast v6239_r0
  let c384_3916_r0 : Index := 384#32
  let c1664_3917_r0 : Index := 1664#32
  ![v7127_r0.toNat, 384, 1664]
def k0_off567 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7148_r0 : Index := Scalar.indexCast v6239_r0
  let c256_3927_r0 : Index := 256#32
  let c1792_3928_r0 : Index := 1792#32
  ![v7148_r0.toNat, 256, 1792]
def k0_off568 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7162_r0 : Index := Scalar.indexCast v6239_r0
  let c256_3933_r0 : Index := 256#32
  let c1920_3934_r0 : Index := 1920#32
  ![v7162_r0.toNat, 256, 1920]
def k0_off569 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7177_r0 : Index := Scalar.indexCast v6239_r0
  let c384_3939_r0 : Index := 384#32
  let c1792_3940_r0 : Index := 1792#32
  ![v7177_r0.toNat, 384, 1792]
def k0_off570 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c12_i32_3487_r0 : BitVec 32 := 12#32
  let v6239_r0 : BitVec 32 := Scalar.remsi v6208_r0 c12_i32_3487_r0
  let v7191_r0 : Index := Scalar.indexCast v6239_r0
  let c384_3945_r0 : Index := 384#32
  let c1920_3946_r0 : Index := 1920#32
  ![v7191_r0.toNat, 384, 1920]
def k0_off571 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7222_r0 : Index := Scalar.indexCast v6237_r0
  let c0_3964_r0 : Index := 0#32
  let c0_3965_r0 : Index := 0#32
  ![v7222_r0.toNat, 0, 0]
def k0_off572 (k0_t4 : Fin k0_t4_loop.trips) (k0_t5 : Fin k0_t5_loop.trips) (c0_i32_3967_r0 : BitVec 32) (c0_i32_3968_r0 : BitVec 32) (c0_i32_3969_r0 : BitVec 32) : Fin 2 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c56_i32_3486_r0 : BitVec 32 := 56#32
  let v6238_r0 : BitVec 32 := Scalar.subi v6236_r0 c56_i32_3486_r0
  let c7_i32_3959_r0 : BitVec 32 := 7#32
  let v7217_r0 : BitVec 32 := Scalar.remsi v6238_r0 c7_i32_3959_r0
  let c2_i32_3960_r0 : BitVec 32 := 2#32
  let v7218_r0 : BitVec 32 := Scalar.muli v7217_r0 c2_i32_3960_r0
  let c2_i32_3961_r0 : BitVec 32 := 2#32
  let v7219_r0 : BitVec 32 := Scalar.muli v7218_r0 c2_i32_3961_r0
  let c0_i32_3966_r0 : BitVec 32 := 0#32
  let v7226_r0 : BitVec 32 := Scalar.addi v7219_r0 c0_i32_3966_r0
  let v7227_r0 : BitVec 32 := Scalar.addi v7226_r0 c0_i32_3967_r0
  let v7230_r0 : Index := Scalar.indexCast v7227_r0
  let c7_i32_3962_r0 : BitVec 32 := 7#32
  let v7220_r0 : BitVec 32 := Scalar.divsi v6238_r0 c7_i32_3962_r0
  let c16_i32_3963_r0 : BitVec 32 := 16#32
  let v7221_r0 : BitVec 32 := Scalar.muli v7220_r0 c16_i32_3963_r0
  let v7228_r0 : BitVec 32 := Scalar.addi v7221_r0 c0_i32_3968_r0
  let v7229_r0 : BitVec 32 := Scalar.addi v7228_r0 c0_i32_3969_r0
  let v7231_r0 : Index := Scalar.indexCast v7229_r0
  ![v7230_r0.toNat, v7231_r0.toNat]
def k0_off573 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7236_r0 : Index := Scalar.indexCast v6237_r0
  let c0_3970_r0 : Index := 0#32
  let c128_3971_r0 : Index := 128#32
  ![v7236_r0.toNat, 0, 128]
def k0_off574 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7251_r0 : Index := Scalar.indexCast v6237_r0
  let c128_3976_r0 : Index := 128#32
  let c0_3977_r0 : Index := 0#32
  ![v7251_r0.toNat, 128, 0]
def k0_off575 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7265_r0 : Index := Scalar.indexCast v6237_r0
  let c128_3982_r0 : Index := 128#32
  let c128_3983_r0 : Index := 128#32
  ![v7265_r0.toNat, 128, 128]
def k0_off576 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7286_r0 : Index := Scalar.indexCast v6237_r0
  let c0_3993_r0 : Index := 0#32
  let c256_3994_r0 : Index := 256#32
  ![v7286_r0.toNat, 0, 256]
def k0_off577 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7300_r0 : Index := Scalar.indexCast v6237_r0
  let c0_3999_r0 : Index := 0#32
  let c384_4000_r0 : Index := 384#32
  ![v7300_r0.toNat, 0, 384]
def k0_off578 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7315_r0 : Index := Scalar.indexCast v6237_r0
  let c128_4005_r0 : Index := 128#32
  let c256_4006_r0 : Index := 256#32
  ![v7315_r0.toNat, 128, 256]
def k0_off579 (k0_t4 : Fin k0_t4_loop.trips) (k0_t5 : Fin k0_t5_loop.trips) : Fin 3 → Nat :=
  let c56_i32_2301_r0 : BitVec 32 := 56#32
  let c0_i32_1499_r0 : BitVec 32 := 0#32
  let c1_i32_1501_r0 : BitVec 32 := 1#32
  let arg38_r0 : BitVec 32 := Scf.iv c0_i32_1499_r0 c1_i32_1501_r0 k0_t4
  let c7_i32_2300_r0 : BitVec 32 := 7#32
  let v3864_r0 : BitVec 32 := Scalar.muli arg38_r0 c7_i32_2300_r0
  let v3865_r0 : BitVec 32 := Scalar.addi c56_i32_2301_r0 v3864_r0
  let c7_i32_3465_r0 : BitVec 32 := 7#32
  let v6207_r0 : BitVec 32 := Scalar.addi v3865_r0 c7_i32_3465_r0
  let c1_i32_3461_r0 : BitVec 32 := 1#32
  let c1_i32_3463_r0 : BitVec 32 := 1#32
  let arg39_r0 : BitVec 32 := Scf.iv c1_i32_3461_r0 c1_i32_3463_r0 k0_t5
  let v6208_r0 : BitVec 32 := Scalar.addi v6207_r0 arg39_r0
  let c1_i32_3484_r0 : BitVec 32 := 1#32
  let v6236_r0 : BitVec 32 := Scalar.addi v6208_r0 c1_i32_3484_r0
  let c12_i32_3485_r0 : BitVec 32 := 12#32
  let v6237_r0 : BitVec 32 := Scalar.remsi v6236_r0 c12_i32_3485_r0
  let v7329_r0 : Index := Scalar.indexCast v6237_r0
  let c128_4011_r0 : Index := 128#32
  let c384_4012_r0 : Index := 384#32
  ![v7329_r0.toNat, 128, 384]
abbrev stage0_0 : Fin 1 → Memref sig .tc .smem S112x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S28x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F]
-- ==== ReferenceIdeal.lean ====
abbrev S2x128x14336 : Shape := ⟨3, ![2, 128, 14336]⟩
abbrev S2x128x112 : Shape := ⟨3, ![2, 128, 112]⟩
abbrev S14336x3584 : Shape := ⟨2, ![14336, 3584]⟩
abbrev S112x28 : Shape := ⟨2, ![112, 28]⟩
abbrev S2x128x3584 : Shape := ⟨3, ![2, 128, 3584]⟩
abbrev S3584 : Shape := ⟨1, ![3584]⟩
abbrev S3584x8192 : Shape := ⟨2, ![3584, 8192]⟩
abbrev S28x64 : Shape := ⟨2, ![28, 64]⟩
abbrev S2x128 : Shape := ⟨2, ![2, 128]⟩
abbrev S256x14336 : Shape := ⟨2, ![256, 14336]⟩
abbrev S256x112 : Shape := ⟨2, ![256, 112]⟩
abbrev S256x3584 : Shape := ⟨2, ![256, 3584]⟩
abbrev S256x112x128 : Shape := ⟨3, ![256, 112, 128]⟩
abbrev S256x112x1 : Shape := ⟨3, ![256, 112, 1]⟩
abbrev S112x128x28x128 : Shape := ⟨4, ![112, 128, 28, 128]⟩
abbrev S112x1x28x1 : Shape := ⟨4, ![112, 1, 28, 1]⟩

abbrev nBuf : Space → Nat
  | .hbm => 13
  | .vmem => 6
  | .smem => 0
  | _ => 0

abbrev bufTy : (tb : Table) → Fin (tcTables nBuf tb) → BufTy
  | .hbm, ⟨0, _⟩ => ⟨S2x128x14336, .fp8e4m3⟩
  | .hbm, ⟨1, _⟩ => ⟨S2x128x112, .f32⟩
  | .hbm, ⟨2, _⟩ => ⟨S14336x3584, .fp8e4m3⟩
  | .hbm, ⟨3, _⟩ => ⟨S112x28, .f32⟩
  | .hbm, ⟨4, _⟩ => ⟨S2x128x3584, .bf16⟩
  | .hbm, ⟨5, _⟩ => ⟨S3584, .f32⟩
  | .hbm, ⟨6, _⟩ => ⟨S3584x8192, .fp8e4m3⟩
  | .hbm, ⟨7, _⟩ => ⟨S28x64, .f32⟩
  | .hbm, ⟨8, _⟩ => ⟨S2x128, .i32⟩
  | .hbm, ⟨9, _⟩ => ⟨S256x14336, .fp8e4m3⟩
  | .hbm, ⟨10, _⟩ => ⟨S256x112, .f32⟩
  | .hbm, ⟨11, _⟩ => ⟨S256x3584, .bf16⟩
  | .hbm, ⟨12, _⟩ => ⟨S256x3584, .bf16⟩
  | .local _ .vmem, ⟨0, _⟩ => ⟨S256x14336, .fp8e4m3⟩
  | .local _ .vmem, ⟨1, _⟩ => ⟨S256x112, .f32⟩
  | .local _ .vmem, ⟨2, _⟩ => ⟨S14336x3584, .fp8e4m3⟩
  | .local _ .vmem, ⟨3, _⟩ => ⟨S112x28, .f32⟩
  | .local _ .vmem, ⟨4, _⟩ => ⟨S256x3584, .bf16⟩
  | .local _ .vmem, ⟨5, _⟩ => ⟨S256x3584, .bf16⟩
  | _, _ => ⟨S2x128x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x14336 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
module

public import proofs.«01_k».proof.Proof.Gen.Kernel

/-! The kernel's body as a short structured program over its concrete buffers: the pieces every
chunk repeats (start and await a weight block's copy, load and scale a weight tile, push it,
accumulate the activations against the tile held) and the chunks and stages made of them. -/

@[expose] public section
noncomputable section

namespace Cert.Kernel.Hand
open Idealize.ShloMosaic Idealize.ShloMosaic.TcCoe
open Idealize.SL Idealize.SL.Sem
open Cert.Kernel
open K0.Facts₀ Shapes1.Facts₀

open TcCoe
variable {F : FTy → Type} [BitOps F]

abbrev W := BitVec 32
/-- The kernel's programs. -/
abbrev PR (F : FTy → Type) (α : Type) := Prog (TpuEff nD τ sig (Elt F) Λ₀ .tc) α

/-! ### The buffers -/
abbrev b0 : Memref sig .tc .hbm S256x14336 .fp8e4m3 := Memref.whole main_v11
abbrev b1 : Memref sig .tc .hbm S256x112 .f32 := Memref.whole main_v12
abbrev b2 : Memref sig .tc .hbm S14336x3584 .fp8e4m3 := Memref.whole main_arg2
abbrev b3 : Memref sig .tc .smem S112x28 .f32 := Memref.whole cc0_stg0_0
abbrev b4 : Memref sig .tc .hbm S256x3584 .bf16 := Memref.whole main_v13
abbrev b5 : Memref sig .tc .hbm S28x128 .f32 := Memref.whole main_v14
abbrev b6 : Memref sig .tc .hbm S3584x8192 .fp8e4m3 := Memref.whole main_arg6
abbrev b7 : Memref sig .tc .smem S28x64 .f32 := Memref.whole cc0_stg1_0
abbrev b8 : Memref sig .tc .hbm S2x128 .i32 := Memref.whole main_arg8
abbrev b9 : Memref sig .tc .hbm S1x128 .f32 := Memref.whole main_v15
abbrev b10 : Memref sig .tc .hbm S256x3584 .bf16 := Memref.whole main_v16_0
abbrev b11 : Memref sig .tc .hbm S256x16x256 .bf16 := Memref.whole main_v16_1
abbrev b12 : Memref sig .tc .hbm S256x8x256 .bf16 := Memref.whole main_v16_2
abbrev b13 : Memref sig .tc .hbm S256x8x256 .bf16 := Memref.whole main_v16_3
abbrev b14 : Memref sig .tc .hbm S256x3584 .fp8e4m3 := Memref.whole main_v16_4
abbrev b15 : Memref sig .tc .hbm S256x28 .f32 := Memref.whole main_v16_5
abbrev b16 : Memref sig .tc .vmem S12x512x2048 .fp8e4m3 := Memref.whole cc0_scratch0
abbrev b17 : Memref sig .tc .vmem S28x256x512 .fp8e4m3 := Memref.whole cc0_scratch1
abbrev b18 : Memref sig .tc .vmem S256x112 .f32 := Memref.whole cc0_scratch2
abbrev b19 : Memref sig .tc .vmem S256x128 .f32 := Memref.whole cc0_scratch3
abbrev b20 : Memref sig .tc .vmem S56x256x256 .bf16 := Memref.whole cc0_scratch4
abbrev b21 : Memref sig .tc .vmem S256x3584 .bf16 := Memref.whole cc0_scratch5
abbrev b22 : Memref sig .tc .vmem S28x128 .f32 := Memref.whole cc0_scratch6
abbrev b23 : Memref sig .tc .vmem S2x128 .i32 := Memref.whole cc0_scratch7
abbrev b24 : Memref sig .tc .vmem S1x128 .f32 := Memref.whole cc0_scratch8
abbrev b25 : Memref sig .tc .vmem S14x256x256 .bf16 := Memref.whole cc0_scratch9
abbrev b26 : Memref sig .tc .vmem S256x128 .f32 := Memref.whole cc0_scratch10
abbrev b27 : Memref sig .tc .vmem S256x128 .f32 := Memref.whole cc0_scratch11
abbrev b28 : Memref sig .tc .vmem S14x256x256 .fp8e4m3 := Memref.whole cc0_scratch12
abbrev b29 : Memref sig .tc .vmem S14x256x256 .bf16 := Memref.whole cc0_scratch13
abbrev b30 : Memref sig .tc .vmem S256x28 .f32 := Memref.whole cc0_scratch14
abbrev b31 : Memref sig .tc .vmem S256x128 .f32 := Memref.whole cc0_scratch15
abbrev b32 : Memref sig .tc .vmem S256x128 .f32 := Memref.whole cc0_scratch16
abbrev b33 : Memref sig .tc .vmem S4x2x256x8x128 .bf16 := Memref.whole cc0_scratch17

/-! ### Facts about the words -/
theorem allWords (N : ℕ) (P : W → Prop) (h : ∀ n : Fin N, P (BitVec.ofNat 32 n)) {x : W}
    (hx : x.toNat < N) : P x := by
  have := h ⟨x.toNat, hx⟩; simpa using this

abbrev rem12 (x : W) : ℕ := (Scalar.remsi x 12#32).toNat
theorem rem12_lt {x : W} (hx : x.toNat < 84) : rem12 x < 12 :=
  allWords 84 (fun x => rem12 x < 12) (by decide +kernel) hx

/-- The first weight row of a block of the first product's first pass. -/
abbrev rowA (x : W) : ℕ := (Scalar.muli x 512#32).toNat
abbrev rowB (x : W) : ℕ := (Scalar.muli (Scalar.subi x 28#32) 512#32).toNat
abbrev rowC (x : W) : ℕ := (Scalar.muli (Scalar.remsi (Scalar.subi x 56#32) 7#32) 512#32).toNat
abbrev colC (x : W) : ℕ := (Scalar.muli (Scalar.divsi (Scalar.subi x 56#32) 7#32) 2048#32).toNat

/-- The range of chunk numbers of each of the three passes. -/
def K0 (x : W) : Prop := x.toNat < 28
def K1 (x : W) : Prop := 28 ≤ x.toNat ∧ x.toNat < 56
def K2 (x : W) : Prop := 56 ≤ x.toNat ∧ x.toNat < 84
theorem K0.lt {x : W} (h : K0 x) : x.toNat < 84 := by unfold K0 at h; omega
theorem K1.lt {x : W} (h : K1 x) : x.toNat < 84 := by unfold K1 at h; omega
theorem K2.lt {x : W} (h : K2 x) : x.toNat < 84 := h.2

theorem inbCell {s : ℕ} (h : s < 12) : ∀ a, (![s] : Fin 1 → ℕ) a + S1.size a ≤ S12.size a := by
  intro a; fin_cases a; show s + 1 ≤ 12; omega
theorem inbSlot {s : ℕ} (h : s < 12) :
    ∀ a, (![s, 0, 0] : Fin 3 → ℕ) a + S1x512x2048.size a ≤ S12x512x2048.size a := by
  intro a; fin_cases a
  · show s + 1 ≤ 12; omega
  · show 0 + 512 ≤ 512; omega
  · show 0 + 2048 ≤ 2048; omega
theorem inbSlot1 {s : ℕ} (h : s < 12) :
    ∀ a, (![s, 0, 0] : Fin 3 → ℕ) a + S1x512x1536.size a ≤ S12x512x2048.size a := by
  intro a; fin_cases a
  · show s + 1 ≤ 12; omega
  · show 0 + 512 ≤ 512; omega
  · show 0 + 1536 ≤ 2048; omega
theorem wwSlot {s : ℕ} (h : s < 12) :
    (Rect.unit (s := S12x512x2048) ![s, 0, 0] S1x512x2048.size (inbSlot h)).WholeWords (EltTy.packing .fp8e4m3) := by
  have : ∀ n : Fin 12, (Rect.unit (s := S12x512x2048) ![n.val, 0, 0] S1x512x2048.size (inbSlot n.2)).WholeWords (EltTy.packing .fp8e4m3) := by decide +kernel
  exact this ⟨s, h⟩
theorem wwSlot1 {s : ℕ} (h : s < 12) :
    (Rect.unit (s := S12x512x2048) ![s, 0, 0] S1x512x1536.size (inbSlot1 h)).WholeWords (EltTy.packing .fp8e4m3) := by
  have : ∀ n : Fin 12, (Rect.unit (s := S12x512x2048) ![n.val, 0, 0] S1x512x1536.size (inbSlot1 n.2)).WholeWords (EltTy.packing .fp8e4m3) := by decide +kernel
  exact this ⟨s, h⟩

theorem rowA_eq {x : W} (h : K0 x) : rowA x = 512 * x.toNat :=
  allWords 28 (fun x => rowA x = 512 * x.toNat) (by decide +kernel) h
theorem rowB_eq {x : W} (h : K1 x) : rowB x = 512 * (x.toNat - 28) :=
  allWords 56 (fun x => 28 ≤ x.toNat → rowB x = 512 * (x.toNat - 28)) (by decide +kernel) h.2 h.1
theorem rowC_eq {x : W} (h : K2 x) : rowC x = 512 * ((x.toNat - 56) % 7) :=
  allWords 84 (fun x => 56 ≤ x.toNat → rowC x = 512 * ((x.toNat - 56) % 7)) (by decide +kernel) h.2 h.1
theorem colC_eq {x : W} (h : K2 x) : colC x = 2048 * ((x.toNat - 56) / 7) :=
  allWords 84 (fun x => 56 ≤ x.toNat → colC x = 2048 * ((x.toNat - 56) / 7)) (by decide +kernel) h.2 h.1

theorem inbA {x : W} (h : K0 x) :
    ∀ a, (![rowA x, 0] : Fin 2 → ℕ) a + S512x2048.size a ≤ S14336x3584.size a := by
  have e := rowA_eq h; have := h; unfold K0 at this
  intro a; fin_cases a
  · show rowA x + 512 ≤ 14336; omega
  · show 0 + 2048 ≤ 3584; omega
theorem inbB {x : W} (h : K1 x) :
    ∀ a, (![rowB x, 2048] : Fin 2 → ℕ) a + S512x1536.size a ≤ S14336x3584.size a := by
  have e := rowB_eq h; have := h.1; have := h.2
  intro a; fin_cases a
  · show rowB x + 512 ≤ 14336; omega
  · show 2048 + 1536 ≤ 3584; omega
theorem inbC {x : W} (h : K2 x) :
    ∀ a, (![rowC x, colC x] : Fin 2 → ℕ) a + S512x2048.size a ≤ S3584x8192.size a := by
  have e := rowC_eq h; have e' := colC_eq h; have := h.1; have := h.2
  intro a; fin_cases a
  · show rowC x + 512 ≤ 3584; omega
  · show colC x + 2048 ≤ 8192; omega
theorem wwA {x : W} (h : K0 x) :
    (Rect.unit (s := S14336x3584) ![rowA x, 0] S512x2048.size (inbA h)).WholeWords (EltTy.packing .fp8e4m3) := by
  have := allWords 28 (fun x => ∀ h : K0 x, (Rect.unit (s := S14336x3584) ![rowA x, 0] S512x2048.size (inbA h)).WholeWords (EltTy.packing .fp8e4m3))
    (by
      have : ∀ n : Fin 28, ∀ hh, (Rect.unit (s := S14336x3584) ![rowA (BitVec.ofNat 32 n), 0] S512x2048.size hh).WholeWords (EltTy.packing .fp8e4m3) := by decide +kernel
      exact fun n h => this n _) h
  exact this h
theorem wwB {x : W} (h : K1 x) :
    (Rect.unit (s := S14336x3584) ![rowB x, 2048] S512x1536.size (inbB h)).WholeWords (EltTy.packing .fp8e4m3) := by
  have := allWords 56 (fun x => ∀ h : K1 x, (Rect.unit (s := S14336x3584) ![rowB x, 2048] S512x1536.size (inbB h)).WholeWords (EltTy.packing .fp8e4m3))
    (by
      have : ∀ n : Fin 56, ∀ hh, (Rect.unit (s := S14336x3584) ![rowB (BitVec.ofNat 32 n), 2048] S512x1536.size hh).WholeWords (EltTy.packing .fp8e4m3) := by decide +kernel
      exact fun n h => this n _) h.2
  exact this h
theorem wwC {x : W} (h : K2 x) :
    (Rect.unit (s := S3584x8192) ![rowC x, colC x] S512x2048.size (inbC h)).WholeWords (EltTy.packing .fp8e4m3) := by
  have := allWords 84 (fun x => ∀ h : K2 x, (Rect.unit (s := S3584x8192) ![rowC x, colC x] S512x2048.size (inbC h)).WholeWords (EltTy.packing .fp8e4m3))
    (by
      have : ∀ n : Fin 84, ∀ hh, (Rect.unit (s := S3584x8192) ![rowC (BitVec.ofNat 32 n), colC (BitVec.ofNat 32 n)] S512x2048.size hh).WholeWords (EltTy.packing .fp8e4m3) := by decide +kernel
      exact fun n h => this n _) h.2
  exact this h

/-! ### The copies of the weight blocks -/

/-- The semaphore cell of slot `s` of the ring. -/
def wSem (s : ℕ) (h : s < 12) : DmaSem sig :=
  ((cc0_scratch18.slice (Rect.unit (s := S12) ![s] S1.size (inbCell h))).squeeze S_ squeezes_S1_S_).sem
/-- Slot `s` of the ring, whole and by its first 1536 columns. -/
def slotV (s : ℕ) (h : s < 12) : Memref sig .tc .vmem S512x2048 .fp8e4m3 :=
  (b16.slice (Rect.unit (s := S12x512x2048) ![s, 0, 0] S1x512x2048.size (inbSlot h)) (fun _ => rfl)).squeeze S512x2048 squeezes_S1x512x2048_S512x2048
def slotV1 (s : ℕ) (h : s < 12) : Memref sig .tc .vmem S512x1536 .fp8e4m3 :=
  (b16.slice (Rect.unit (s := S12x512x2048) ![s, 0, 0] S1x512x1536.size (inbSlot1 h)) (fun _ => rfl)).squeeze S512x1536 squeezes_S1x512x1536_S512x1536
theorem weSlot (s : ℕ) (h : s < 12) : (slotV s h).view.WordExact :=
  ((Memref.isWhole_whole _).wordExact_slice rfl _ (wwSlot h)).reshape _ _
theorem weSlot1 (s : ℕ) (h : s < 12) : (slotV1 s h).view.WordExact :=
  ((Memref.isWhole_whole _).wordExact_slice rfl _ (wwSlot1 h)).reshape _ _
/-- The weight blocks in HBM. -/
def blkA (x : W) (h : K0 x) : Memref sig .tc .hbm S512x2048 .fp8e4m3 :=
  b2.slice (Rect.unit (s := S14336x3584) ![rowA x, 0] S512x2048.size (inbA h)) (fun _ => rfl)
def blkB (x : W) (h : K1 x) : Memref sig .tc .hbm S512x1536 .fp8e4m3 :=
  b2.slice (Rect.unit (s := S14336x3584) ![rowB x, 2048] S512x1536.size (inbB h)) (fun _ => rfl)
def blkC (x : W) (h : K2 x) : Memref sig .tc .hbm S512x2048 .fp8e4m3 :=
  b6.slice (Rect.unit (s := S3584x8192) ![rowC x, colC x] S512x2048.size (inbC h)) (fun _ => rfl)
theorem weA (x : W) (h : K0 x) : (blkA x h).view.WordExact := (Memref.isWhole_whole _).wordExact_slice rfl _ (wwA h)
theorem weB (x : W) (h : K1 x) : (blkB x h).view.WordExact := (Memref.isWhole_whole _).wordExact_slice rfl _ (wwB h)
theorem weC (x : W) (h : K2 x) : (blkC x h).view.WordExact := (Memref.isWhole_whole _).wordExact_slice rfl _ (wwC h)

def startA (x : W) (h : K0 x) : PR F PUnit :=
  Prog.lift (.enqueueDma (blkA x h) (.here (slotV (rem12 x) (rem12_lt h.lt))) (.dma (wSem (rem12 x) (rem12_lt h.lt))) (weA x h) (weSlot (rem12 x) (rem12_lt h.lt)) ⟨Or.inl rfl, trivial⟩)
def startB (x : W) (h : K1 x) : PR F PUnit :=
  Prog.lift (.enqueueDma (blkB x h) (.here (slotV1 (rem12 x) (rem12_lt h.lt))) (.dma (wSem (rem12 x) (rem12_lt h.lt))) (weB x h) (weSlot1 (rem12 x) (rem12_lt h.lt)) ⟨Or.inl rfl, trivial⟩)
def startC (x : W) (h : K2 x) : PR F PUnit :=
  Prog.lift (.enqueueDma (blkC x h) (.here (slotV (rem12 x) (rem12_lt h.lt))) (.dma (wSem (rem12 x) (rem12_lt h.lt))) (weC x h) (weSlot (rem12 x) (rem12_lt h.lt)) ⟨Or.inl rfl, trivial⟩)
def waitA (x : W) (h : K0 x) : PR F PUnit :=
  Prog.lift (.waitDma2 (wSem (rem12 x) (rem12_lt h.lt)) (blkA x h) (slotV (rem12 x) (rem12_lt h.lt)) (weA x h) (weSlot (rem12 x) (rem12_lt h.lt)))
def waitB (x : W) (h : K1 x) : PR F PUnit :=
  Prog.lift (.waitDma2 (wSem (rem12 x) (rem12_lt h.lt)) (blkB x h) (slotV1 (rem12 x) (rem12_lt h.lt)) (weB x h) (weSlot1 (rem12 x) (rem12_lt h.lt)))
def waitC (x : W) (h : K2 x) : PR F PUnit :=
  Prog.lift (.waitDma2 (wSem (rem12 x) (rem12_lt h.lt)) (blkC x h) (slotV (rem12 x) (rem12_lt h.lt)) (weC x h) (weSlot (rem12 x) (rem12_lt h.lt)))

abbrev cnd0 (x : W) : BitVec 1 := Scalar.cmpi .ne (Scalar.extui (Scalar.cmpi .slt x 28#32)) 0#32
abbrev cnd1 (x : W) : BitVec 1 :=
  Scalar.cmpi .ne (Scalar.extui (Scalar.andi (Scalar.cmpi .sge x 28#32) (Scalar.cmpi .slt x 56#32))) 0#32
abbrev cnd2 (x : W) : BitVec 1 :=
  Scalar.cmpi .ne (Scalar.extui (Scalar.andi (Scalar.cmpi .sge x 56#32) (Scalar.cmpi .slt x 84#32))) 0#32
theorem cnd0_iff {x : W} (hx : x.toNat < 96) : cnd0 x = 1#1 ↔ K0 x :=
  allWords 96 (fun x => cnd0 x = 1#1 ↔ x.toNat < 28) (by decide +kernel) hx
theorem cnd1_iff {x : W} (hx : x.toNat < 96) : cnd1 x = 1#1 ↔ K1 x :=
  allWords 96 (fun x => cnd1 x = 1#1 ↔ 28 ≤ x.toNat ∧ x.toNat < 56) (by decide +kernel) hx
theorem cnd2_iff {x : W} (hx : x.toNat < 96) : cnd2 x = 1#1 ↔ K2 x :=
  allWords 96 (fun x => cnd2 x = 1#1 ↔ 56 ≤ x.toNat ∧ x.toNat < 84) (by decide +kernel) hx

/-- Start the copy of block `x` if it belongs to the first, the second, the third pass. -/
def startW0 (x : W) (hx : x.toNat < 96) : PR F PUnit := do
  if h : cnd0 x = 1#1 then do startA x ((cnd0_iff hx).1 h); pure ⟨⟩ else do pure ⟨⟩
  pure ⟨⟩
def startW1 (x : W) (hx : x.toNat < 96) : PR F PUnit := do
  if h : cnd1 x = 1#1 then do startB x ((cnd1_iff hx).1 h); pure ⟨⟩ else do pure ⟨⟩
  pure ⟨⟩
def startW2 (x : W) (hx : x.toNat < 96) : PR F PUnit := do
  if h : cnd2 x = 1#1 then do startC x ((cnd2_iff hx).1 h); pure ⟨⟩ else do pure ⟨⟩
  pure ⟨⟩
/-- The copy of block `x` started, whichever pass it belongs to (none past the last), then `k`. -/
def startW {α : Type} (x : W) (hx : x.toNat < 96) (k : PR F α) : PR F α :=
  startW0 x hx >>= fun _ => startW1 x hx >>= fun _ => startW2 x hx >>= fun _ => k
theorem startW_bind {α β : Type} (x : W) (hx : x.toNat < 96) (k : PR F α) (f : α → PR F β) :
    startW x hx k >>= f = startW x hx (k >>= f) := by
  simp only [startW, bind_assoc]

/-! ### Tiles of weights -/
theorem inbTile {s r c : ℕ} (h : s < 12) (hr : r + 128 ≤ 512) (hc : c + 128 ≤ 2048) :
    ∀ a, (![s, r, c] : Fin 3 → ℕ) a + S1x128x128.size a ≤ S12x512x2048.size a := by
  intro a; fin_cases a
  · show s + 1 ≤ 12; omega
  · show r + 128 ≤ 512; omega
  · show c + 128 ≤ 2048; omega
/-- A 128×128 block of codes of slot `s`. -/
def ringLoad (s : ℕ) (h : s < 12) (r c : ℕ) (hr : r + 128 ≤ 512) (hc : c + 128 ≤ 2048) : PR F (Vec F S1x128x128 .fp8e4m3) :=
  Prog.lift (.load b16 (Rect.unit (s := S12x512x2048) ![s, r, c] S1x128x128.size (inbTile h hr hc)).toLoadRect (View.loadsAt_vmem h_S1x128x128))

/-- The scaled block. -/
def scaled (v : Vec F S1x128x128 .fp8e4m3) (s : Elt F .f32) : FVec F S128x128 .bf16 :=
  mulf (extf .bf16 (shapeCast S128x128 v shapeCasts_S1x128x128_S128x128) bitsLt_fp8e4m3_bf16)
    (truncf .bf16 (broadcast S128x128 s) bitsLt_bf16_f32)
/-- Four scaled blocks as one 256×256 tile. -/
def quad (v00 v01 v10 v11 : FVec F S128x128 .bf16) : FVec F S256x256 .bf16 :=
  concatenate S256x256 0
    [⟨S128x256, concatenate S128x256 1 [⟨S128x128, v00⟩, ⟨S128x128, v01⟩] concatenates_S128x128_S128x128_S128x256_d1⟩,
     ⟨S128x256, concatenate S128x256 1 [⟨S128x128, v10⟩, ⟨S128x128, v11⟩] concatenates_S128x128_S128x128_S128x256_d1⟩]
    concatenates_S128x256_S128x256_S256x256_d0

/-- Where a chunk's weights lie: its slot of the ring, and how its scales are read. -/
structure Src (F : FTy → Type) where
  slot : ℕ
  hs : slot < 12
  /-- the scale at row block `2 kt + a` and column block `2 t + b` of the chunk -/
  sc : (kt a : Fin 2) → (t : Fin 8) → (b : Fin 2) → PR F (Elt F .f32)

theorem krow (kt a : Fin 2) : (256 * kt.val + 128 * a.val) + 128 ≤ 512 := by omega
theorem tcol (t : Fin 8) (b : Fin 2) : (256 * t.val + 128 * b.val) + 128 ≤ 2048 := by omega

def blk (S : Src F) (kt : Fin 2) (t : Fin 8) (a b : Fin 2) : PR F (FVec F S128x128 .bf16) := do
  let v ← ringLoad S.slot S.hs (256 * kt.val + 128 * a.val) (256 * t.val + 128 * b.val) (krow kt a) (tcol t b)
  let s ← S.sc kt a t b
  pure (scaled v s)
def tile (S : Src F) (kt : Fin 2) (t : Fin 8) : PR F (FVec F S256x256 .bf16) := do
  let v00 ← blk S kt t 0 0
  let v01 ← blk S kt t 0 1
  let v10 ← blk S kt t 1 0
  let v11 ← blk S kt t 1 1
  pure (quad v00 v01 v10 v11)
def pushTile (S : Src F) (kt : Fin 2) (t : Fin 8) (q : Fin 2) (s : Mxu F) : PR F (Mxu F) := do
  let v ← tile S kt t
  s.pushRhs q 0 false v
/-- Column tiles `2 j` and `2 j + 1`, one into each unit. -/
def pushPair (S : Src F) (kt : Fin 2) (j : Fin 4) (s : Mxu F) : PR F (Mxu F) := do
  let s ← pushTile S kt ⟨2 * j.val, by omega⟩ 0 s
  pushTile S kt ⟨2 * j.val + 1, by omega⟩ 1 s

/-! The scale words of the three passes. -/
abbrev rs0 (x : W) (kt a : Fin 2) : ℕ :=
  (Scalar.addi (Scalar.addi (Scalar.muli (Scalar.muli x 2#32) 2#32) (BitVec.ofNat 32 (2 * kt.val))) (BitVec.ofNat 32 a.val)).toNat
theorem rs0_eq {x : W} (h : x.toNat < 28) (kt a : Fin 2) : rs0 x kt a = 4 * x.toNat + 2 * kt.val + a.val :=
  allWords 28 (fun x => ∀ kt a : Fin 2, rs0 x kt a = 4 * x.toNat + 2 * kt.val + a.val) (by decide +kernel) h kt a
theorem inbS0 {x : W} (h : x.toNat < 28) (kt a : Fin 2) {c : ℕ} (hc : c < 28) :
    ∀ i, (![rs0 x kt a, c] : Fin 2 → ℕ) i + S1x1.size i ≤ S112x28.size i := by
  have := rs0_eq h kt a
  intro i; fin_cases i
  · show rs0 x kt a + 1 ≤ 112; omega
  · show c + 1 ≤ 28; omega
def scA (x : W) (h : x.toNat < 28) (c : Fin 8 → Fin 2 → ℕ) (hc : ∀ t b, c t b < 28) (kt a : Fin 2) (t : Fin 8) (b : Fin 2) : PR F (Elt F .f32) :=
  smemLoad b3 (Rect.unit (s := S112x28) ![rs0 x kt a, c t b] S1x1.size (inbS0 h kt a (hc t b))) numel1_S1x1 rfl
def srcA (x : W) (h : K0 x) : Src F where
  slot := rem12 x
  hs := rem12_lt h.lt
  sc := scA x h (fun t b => 2 * t.val + b.val) (fun t b => by omega)
theorem K1.sub {x : W} (h : K1 x) : (Scalar.subi x 28#32).toNat < 28 :=
  allWords 56 (fun x => 28 ≤ x.toNat → (Scalar.subi x 28#32).toNat < 28) (by decide +kernel) h.2 h.1
/-- The second pass has six column tiles; the last two of the eight are never asked for. -/
def srcB (x : W) (h : K1 x) : Src F where
  slot := rem12 x
  hs := rem12_lt h.lt
  sc := scA (Scalar.subi x 28#32) h.sub (fun t b => if t.val < 6 then 16 + (2 * t.val + b.val) else 0)
    (fun t b => by split <;> omega)

abbrev rs2 (x : W) (kt a : Fin 2) : ℕ := rs0 (Scalar.remsi (Scalar.subi x 56#32) 7#32) kt a
abbrev cs2 (x : W) (t : Fin 8) (b : Fin 2) : ℕ :=
  (Scalar.addi (Scalar.addi (Scalar.muli (Scalar.divsi (Scalar.subi x 56#32) 7#32) 16#32) (BitVec.ofNat 32 (2 * t.val))) (BitVec.ofNat 32 b.val)).toNat
theorem rs2_lt {x : W} (h : K2 x) (kt a : Fin 2) : rs2 x kt a < 28 :=
  allWords 84 (fun x => 56 ≤ x.toNat → ∀ kt a : Fin 2, rs2 x kt a < 28) (by decide +kernel) h.2 h.1 kt a
theorem cs2_lt {x : W} (h : K2 x) (t : Fin 8) (b : Fin 2) : cs2 x t b < 64 :=
  allWords 84 (fun x => 56 ≤ x.toNat → ∀ (t : Fin 8) (b : Fin 2), cs2 x t b < 64) (by decide +kernel) h.2 h.1 t b
theorem inbS2 {r c : ℕ} (hr : r < 28) (hc : c < 64) : ∀ i, (![r, c] : Fin 2 → ℕ) i + S1x1.size i ≤ S28x64.size i := by
  intro i; fin_cases i
  · show r + 1 ≤ 28; omega
  · show c + 1 ≤ 64; omega
def srcC (x : W) (h : K2 x) : Src F where
  slot := rem12 x
  hs := rem12_lt h.lt
  sc kt a t b := smemLoad b7 (Rect.unit (s := S28x64) ![rs2 x kt a, cs2 x t b] S1x1.size (inbS2 (rs2_lt h kt a) (cs2_lt h t b))) numel1_S1x1 rfl

/-! ### Accumulation -/
abbrev lhsRow (x : W) (kt : Fin 2) : ℕ := (Scalar.addi (Scalar.muli x 2#32) (BitVec.ofNat 32 kt.val)).toNat
theorem lhsRow_eq {x : W} (h : x.toNat < 28) (kt : Fin 2) : lhsRow x kt = 2 * x.toNat + kt.val :=
  allWords 28 (fun x => ∀ kt : Fin 2, lhsRow x kt = 2 * x.toNat + kt.val) (by decide +kernel) h kt
theorem inbLhs {r : ℕ} (h : r < 56) : ∀ a, (![r, 0, 0] : Fin 3 → ℕ) a + S1x256x256.size a ≤ S56x256x256.size a := by
  intro a; fin_cases a
  · show r + 1 ≤ 56; omega
  · show 0 + 256 ≤ 256; omega
  · show 0 + 256 ≤ 256; omega
theorem inbX {r : ℕ} (h : r < 14) : ∀ a, (![r, 0, 0] : Fin 3 → ℕ) a + S1x256x256.size a ≤ S14x256x256.size a := by
  intro a; fin_cases a
  · show r + 1 ≤ 14; omega
  · show 0 + 256 ≤ 256; omega
  · show 0 + 256 ≤ 256; omega
theorem lhsRow_lt {x : W} (h : x.toNat < 28) (kt : Fin 2) : lhsRow x kt < 56 := by
  have := lhsRow_eq h kt; omega
theorem lhsRow_lt' {x : W} (h : x.toNat < 7) (kt : Fin 2) : lhsRow x kt < 14 := by
  have := lhsRow_eq (by omega : x.toNat < 28) kt; omega
def lhsD (x : W) (h : x.toNat < 28) (kt : Fin 2) : PR F (Vec F S1x256x256 .bf16) :=
  Prog.lift (.load b20 (Rect.unit (s := S56x256x256) ![lhsRow x kt, 0, 0] S1x256x256.size (inbLhs (lhsRow_lt h kt))).toLoadRect (View.loadsAt_vmem h_S1x256x256))
def lhsQ (x : W) (h : x.toNat < 7) (kt : Fin 2) : PR F (Vec F S1x256x256 .bf16) :=
  Prog.lift (.load b29 (Rect.unit (s := S14x256x256) ![lhsRow x kt, 0, 0] S1x256x256.size (inbX (lhsRow_lt' h kt))).toLoadRect (View.loadsAt_vmem h_S1x256x256))

theorem fitsJ (j : Fin 4) : Mxu.Fits (64 * j.val) 256 := by unfold Mxu.Fits; omega
def accOne (ld : Fin 2 → PR F (Vec F S1x256x256 .bf16)) (kt : Fin 2) (j : Fin 4) (q : Fin 2) (s : Mxu F) : PR F (Mxu F) := do
  let v ← ld kt
  pure (s.accLhs q 0 (64 * j.val) (shapeCast S256x256 v shapeCasts_S1x256x256_S256x256) (fitsJ j))
def accPair (ld : Fin 2 → PR F (Vec F S1x256x256 .bf16)) (kt : Fin 2) (j : Fin 4) (s : Mxu F) : PR F (Mxu F) := do
  let s ← accOne ld kt j 0 s
  accOne ld kt j 1 s
def stepP (ld : Fin 2 → PR F (Vec F S1x256x256 .bf16)) (kt : Fin 2) (j : Fin 4) (S : Src F) (kt' : Fin 2) (j' : Fin 4) (s : Mxu F) : PR F (Mxu F) := do
  let s ← accPair ld kt j s
  pushPair S kt' j' s

/-- The eight steps of a chunk of four column pairs; the next chunk's first tiles last. -/
def steps4 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 0 3 s
  let s ← stepP ld 0 3 S 1 0 s
  let s ← stepP ld 1 0 S 1 1 s
  let s ← stepP ld 1 1 S 1 2 s
  let s ← stepP ld 1 2 S 1 3 s
  stepP ld 1 3 N 0 0 s
/-- The six steps of a chunk of three column pairs. -/
def steps3 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 1 0 s
  let s ← stepP ld 1 0 S 1 1 s
  let s ← stepP ld 1 1 S 1 2 s
  stepP ld 1 2 N 0 0 s

/-! ### The activations -/
theorem inbCell28 {s : ℕ} (h : s < 28) : ∀ a, (![s] : Fin 1 → ℕ) a + S1.size a ≤ S28.size a := by
  intro a; fin_cases a; show s + 1 ≤ 28; omega
theorem inbH {s : ℕ} (h : s < 28) : ∀ a, (![s, 0, 0] : Fin 3 → ℕ) a + S1x256x512.size a ≤ S28x256x512.size a := by
  intro a; fin_cases a
  · show s + 1 ≤ 28; omega
  · show 0 + 256 ≤ 256; omega
  · show 0 + 512 ≤ 512; omega
theorem inbHs {c : ℕ} (h : c + 512 ≤ 14336) : ∀ a, (![0, c] : Fin 2 → ℕ) a + S256x512.size a ≤ S256x14336.size a := by
  intro a; fin_cases a
  · show 0 + 256 ≤ 256; omega
  · show c + 512 ≤ 14336; omega
theorem rowA_lt {x : W} (h : K0 x) : rowA x + 512 ≤ 14336 := by
  have := rowA_eq h; unfold K0 at h; omega
theorem wwH {s : ℕ} (h : s < 28) :
    (Rect.unit (s := S28x256x512) ![s, 0, 0] S1x256x512.size (inbH h)).WholeWords (EltTy.packing .fp8e4m3) := by
  have : ∀ n : Fin 28, (Rect.unit (s := S28x256x512) ![n.val, 0, 0] S1x256x512.size (inbH n.2)).WholeWords (EltTy.packing .fp8e4m3) := by decide +kernel
  exact this ⟨s, h⟩
theorem wwHs {x : W} (h : K0 x) :
    (Rect.unit (s := S256x14336) ![0, rowA x] S256x512.size (inbHs (rowA_lt h))).WholeWords (EltTy.packing .fp8e4m3) := by
  have := allWords 28 (fun x => ∀ h : K0 x, (Rect.unit (s := S256x14336) ![0, rowA x] S256x512.size (inbHs (rowA_lt h))).WholeWords (EltTy.packing .fp8e4m3))
    (by
      have : ∀ n : Fin 28, ∀ hh, (Rect.unit (s := S256x14336) ![0, rowA (BitVec.ofNat 32 n)] S256x512.size hh).WholeWords (EltTy.packing .fp8e4m3) := by decide +kernel
      exact fun n h => this n _) h
  exact this h
def hSem (s : ℕ) (h : s < 28) : DmaSem sig :=
  ((cc0_scratch19.slice (Rect.unit (s := S28) ![s] S1.size (inbCell28 h))).squeeze S_ squeezes_S1_S_).sem
def hV (s : ℕ) (h : s < 28) : Memref sig .tc .vmem S256x512 .fp8e4m3 :=
  (b17.slice (Rect.unit (s := S28x256x512) ![s, 0, 0] S1x256x512.size (inbH h)) (fun _ => rfl)).squeeze S256x512 squeezes_S1x256x512_S256x512
def hSrc (x : W) (h : K0 x) : Memref sig .tc .hbm S256x512 .fp8e4m3 :=
  b0.slice (Rect.unit (s := S256x14336) ![0, rowA x] S256x512.size (inbHs (rowA_lt h))) (fun _ => rfl)
theorem weH (s : ℕ) (h : s < 28) : (hV s h).view.WordExact :=
  ((Memref.isWhole_whole _).wordExact_slice rfl _ (wwH h)).reshape _ _
theorem weHs (x : W) (h : K0 x) : (hSrc x h).view.WordExact := (Memref.isWhole_whole _).wordExact_slice rfl _ (wwHs h)
def startH (x : W) (h : K0 x) : PR F PUnit :=
  Prog.lift (.enqueueDma (hSrc x h) (.here (hV x.toNat h)) (.dma (hSem x.toNat h)) (weHs x h) (weH x.toNat h) ⟨Or.inl rfl, trivial⟩)
def waitH (x : W) (h : K0 x) : PR F PUnit :=
  Prog.lift (.waitDma2 (hSem x.toNat h) (hSrc x h) (hV x.toNat h) (weHs x h) (weH x.toNat h))

theorem inbHt {s c : ℕ} (h : s < 28) (hc : c + 128 ≤ 512) : ∀ a, (![s, 0, c] : Fin 3 → ℕ) a + S1x256x128.size a ≤ S28x256x512.size a := by
  intro a; fin_cases a
  · show s + 1 ≤ 28; omega
  · show 0 + 256 ≤ 256; omega
  · show c + 128 ≤ 512; omega
theorem inbLt {s c : ℕ} (h : s < 56) (hc : c + 128 ≤ 256) : ∀ a, (![s, 0, c] : Fin 3 → ℕ) a + S1x256x128.size a ≤ S56x256x256.size a := by
  intro a; fin_cases a
  · show s + 1 ≤ 56; omega
  · show 0 + 256 ≤ 256; omega
  · show c + 128 ≤ 256; omega
theorem inbHr {c : ℕ} (hc : c < 128) : ∀ a, (![0, c] : Fin 2 → ℕ) a + S256x1.size a ≤ S256x128.size a := by
  intro a; fin_cases a
  · show 0 + 256 ≤ 256; omega
  · show c + 1 ≤ 128; omega
theorem prLt {s : ℕ} (h : s < 56) (a : Fin 2) :
    (Rect.unit (s := S56x256x256) ![s, 0, 128 * a.val] S1x256x128.size (inbLt h (by omega))).PackedRows (EltTy.packing .bf16) := by
  have : ∀ (n : Fin 56) (b : Fin 2), ∀ hh, (Rect.unit (s := S56x256x256) ![n.val, 0, 128 * b.val] S1x256x128.size hh).PackedRows (EltTy.packing .bf16) := by decide +kernel
  exact this ⟨s, h⟩ a _
/-- One scaled 256×128 block of activations. -/
def widenVal (v : Vec F S1x256x128 .fp8e4m3) (s : Vec F S256x1 .f32) : FVec F S256x128 .bf16 :=
  mulf (extf .bf16 (shapeCast S256x128 v shapeCasts_S1x256x128_S256x128) bitsLt_fp8e4m3_bf16)
    (truncf .bf16 (broadcastTo S256x128 (shapeCast S256x1 s shapeCasts_S256x1_S256x1) broadcasts_S256x1_S256x128) bitsLt_bf16_f32)
theorem ktCol (kt a : Fin 2) : 256 * kt.val + 128 * a.val + 128 ≤ 512 := by omega
def widenHead (x : W) (h : K0 x) (kt a : Fin 2) : PR F (FVec F S256x128 .bf16) := do
  let v ← Prog.lift (.load b17 (Rect.unit (s := S28x256x512) ![x.toNat, 0, 256 * kt.val + 128 * a.val] S1x256x128.size (inbHt h (ktCol kt a))).toLoadRect (View.loadsAt_vmem h_S1x256x128))
  let s ← Prog.lift (.load b19 (Rect.unit (s := S256x128) ![0, 2 * kt.val + a.val] S256x1.size (inbHr (by omega))).toLoadRect (View.loadsAt_vmem h_S256x1))
  pure (widenVal v s)
def widenOne (x : W) (h : K0 x) (kt a : Fin 2) : PR F PUnit := do
  let w ← widenHead x h kt a
  let _ ← Prog.lift (.load b20 (Rect.unit (s := S56x256x256) ![lhsRow x kt, 0, 128 * a.val] S1x256x128.size (inbLt (lhsRow_lt h kt) (by omega))).toLoadRect (View.loadsAt_vmem h_S1x256x128))
  Prog.lift (.store b20 (Rect.unit (s := S56x256x256) ![lhsRow x kt, 0, 128 * a.val] S1x256x128.size (inbLt (lhsRow_lt h kt) (by omega)))
    (shapeCast S1x256x128 w shapeCasts_S256x128_S1x256x128) Finset.univ
    (View.stores_vmem h_S1x256x128 ((Memref.isWhole_whole _).storeExact_slice rfl _ (prLt (lhsRow_lt h kt) a)) (fun _ => rfl)) (.inl rfl))
def widenH (x : W) (h : K0 x) : PR F PUnit := do
  widenOne x h 0 0
  widenOne x h 0 1
  widenOne x h 1 0
  widenOne x h 1 1
  let v : Vec F S256x128 .f32 ← Prog.lift (.load b19 (Rect.unit (s := S256x128) ![0, 0] S256x128.size inb_S256x128_S256x128_0_0).toLoadRect (View.loadsAt_vmem h_S256x128))
  let _ ← Prog.lift (.load b19 (Rect.unit (s := S256x128) ![0, 0] S256x128.size inb_S256x128_S256x128_0_0).toLoadRect (View.loadsAt_vmem h_S256x128))
  Prog.lift (.store b19 (Rect.unit (s := S256x128) ![0, 0] S256x128.size inb_S256x128_S256x128_0_0)
    (shapeCast S256x128 (dynamicRotate 1 124#32 none v rotates_S256x128_d1 : FVec F S256x128 .f32) shapeCasts_S256x128_S256x128) Finset.univ
    (View.stores_vmem_bits_univ h_S256x128 rfl) (.inl rfl))

/-! ### The chunks -/
theorem addi_lt {x : W} {N : ℕ} (k : W) (h : x.toNat < N) (hk : N + k.toNat ≤ 2 ^ 32) :
    (Scalar.addi x k).toNat = x.toNat + k.toNat := by
  have := x.isLt
  show (x + k).toNat = _
  rw [BitVec.toNat_add]; omega
theorem lt96 {x : W} (h : x.toNat < 84) : (Scalar.addi x 11#32).toNat < 96 := by
  rw [addi_lt (N := 84) _ h (by decide)]; show _ + 11 < 96; omega

/-- A chunk of the first pass, the next one's tiles and activations at its end. -/
def chunkA (x : W) (h : K0 x) (h' : K0 (Scalar.addi x 1#32)) (s : Mxu F) : PR F (Mxu F) := do
  waitH (Scalar.addi x 1#32) h'
  waitA (Scalar.addi x 1#32) h'
  startW (Scalar.addi x 11#32) (lt96 h.lt) do
    let s ← steps4 (lhsD x h) (srcA x h) (srcA (Scalar.addi x 1#32) h') s
    widenH (Scalar.addi x 1#32) h'
    pure s
def chunkB (x : W) (h : K1 x) (h' : K1 (Scalar.addi x 1#32)) (s : Mxu F) : PR F (Mxu F) := do
  waitB (Scalar.addi x 1#32) h'
  startW (Scalar.addi x 11#32) (lt96 h.lt) <|
    steps3 (lhsD (Scalar.subi x 28#32) h.sub) (srcB x h) (srcB (Scalar.addi x 1#32) h') s

theorem iv1 : ∀ t : Fin k0_t1_loop.trips, Scf.iv 0#32 1#32 t.val = BitVec.ofNat 32 t.val ∧ t.val < 27 := by decide +kernel
theorem iv1K (t : Fin k0_t1_loop.trips) : K0 (Scf.iv 0#32 1#32 t.val) := by
  unfold K0; have : ∀ t : Fin k0_t1_loop.trips, (Scf.iv 0#32 1#32 t.val : W).toNat < 28 := by decide +kernel
  exact this t
theorem iv1K' (t : Fin k0_t1_loop.trips) : K0 (Scalar.addi (Scf.iv 0#32 1#32 t.val) 1#32) := by
  unfold K0; have : ∀ t : Fin k0_t1_loop.trips, (Scalar.addi (Scf.iv 0#32 1#32 t.val) 1#32 : W).toNat < 28 := by decide +kernel
  exact this t
theorem iv2K (t : Fin k0_t2_loop.trips) : K1 (Scf.iv 29#32 1#32 t.val) := by
  unfold K1; have : ∀ t : Fin k0_t2_loop.trips, 28 ≤ (Scf.iv 29#32 1#32 t.val : W).toNat ∧ (Scf.iv 29#32 1#32 t.val : W).toNat < 56 := by decide +kernel
  exact this t
theorem iv2K' (t : Fin k0_t2_loop.trips) : K1 (Scalar.addi (Scf.iv 29#32 1#32 t.val) 1#32) := by
  unfold K1; have : ∀ t : Fin k0_t2_loop.trips, 28 ≤ (Scalar.addi (Scf.iv 29#32 1#32 t.val) 1#32 : W).toNat ∧ (Scalar.addi (Scf.iv 29#32 1#32 t.val) 1#32 : W).toNat < 56 := by decide +kernel
  exact this t
def loop1 (s : Mxu F) : PR F (Mxu F) :=
  Scf.Loop.for k0_t1_loop k0_t1_ok s fun t s => chunkA (Scf.iv 0#32 1#32 t.val) (iv1K t) (iv1K' t) s
def loop2 (s : Mxu F) : PR F (Mxu F) :=
  Scf.Loop.for k0_t2_loop k0_t2_ok s fun t s => chunkB (Scf.iv 29#32 1#32 t.val) (iv2K t) (iv2K' t) s

end Cert.Kernel.Hand
-- ==== Proof.Stages.lean ====
module

public import proofs.«01_k».proof.Proof.Body

/-! The stages between the products: the residual sum written out, the quantiser, the heads packed
and written out, and the whole kernel as a sequence of segments and loops. -/

@[expose] public section
noncomputable section

namespace Cert.Kernel.Hand
open Idealize.ShloMosaic Idealize.ShloMosaic.TcCoe
open Idealize.SL Idealize.SL.Sem
open Cert.Kernel
open K0.Facts₀ Shapes1.Facts₀
variable {F : FTy → Type} [BitOps F]

/-! ### The residual sum -/
theorem inbRes {c : ℕ} (hc : c + 256 ≤ 3584) : ∀ a, (![0, c] : Fin 2 → ℕ) a + S256x256.size a ≤ S256x3584.size a := by
  intro a; fin_cases a
  · show 0 + 256 ≤ 256; omega
  · show c + 256 ≤ 3584; omega
theorem prX (t : Fin 14) : (Rect.unit (s := S14x256x256) ![t.val, 0, 0] S1x256x256.size (inbX t.2)).PackedRows (EltTy.packing .bf16) := by
  revert t; decide +kernel
theorem wwX (t : Fin 14) : (Rect.unit (s := S14x256x256) ![t.val, 0, 0] S1x256x256.size (inbX t.2)).WholeWords (EltTy.packing .bf16) := by
  revert t; decide +kernel
theorem wwX8 (t : Fin 14) : (Rect.unit (s := S14x256x256) ![t.val, 0, 0] S1x256x256.size (inbX t.2)).WholeWords (EltTy.packing .fp8e4m3) := by
  revert t; decide +kernel
theorem tc256 (t : Fin 14) : 256 * t.val + 256 ≤ 3584 := by omega
theorem wwR (t : Fin 14) : (Rect.unit (s := S256x3584) ![0, 256 * t.val] S256x256.size (inbRes (tc256 t))).WholeWords (EltTy.packing .bf16) := by
  have : ∀ t : Fin 14, ∀ hh, (Rect.unit (s := S256x3584) ![0, 256 * t.val] S256x256.size hh).WholeWords (EltTy.packing .bf16) := by decide +kernel
  exact this t _
theorem wwR8 (t : Fin 14) : (Rect.unit (s := S256x3584) ![0, 256 * t.val] S256x256.size (inbRes (tc256 t))).WholeWords (EltTy.packing .fp8e4m3) := by
  have : ∀ t : Fin 14, ∀ hh, (Rect.unit (s := S256x3584) ![0, 256 * t.val] S256x256.size hh).WholeWords (EltTy.packing .fp8e4m3) := by decide +kernel
  exact this t _
theorem inbCell7 {s : ℕ} (h : s < 7) : ∀ a, (![s] : Fin 1 → ℕ) a + S1.size a ≤ S7.size a := by
  intro a; fin_cases a; show s + 1 ≤ 7; omega
theorem inbCell5 {s : ℕ} (h : s < 5) : ∀ a, (![s] : Fin 1 → ℕ) a + S1.size a ≤ S5.size a := by
  intro a; fin_cases a; show s + 1 ≤ 5; omega
def oSem (s : ℕ) (h : s < 7) : DmaSem sig :=
  ((cc0_scratch21.slice (Rect.unit (s := S7) ![s] S1.size (inbCell7 h))).squeeze S_ squeezes_S1_S_).sem
def iSem (s : ℕ) (h : s < 5) : DmaSem sig :=
  ((cc0_scratch20.slice (Rect.unit (s := S5) ![s] S1.size (inbCell5 h))).squeeze S_ squeezes_S1_S_).sem

/-- A tile of the residual sum, and where it goes. -/
def rTile (t : Fin 14) : Memref sig .tc .vmem S256x256 .bf16 :=
  (b25.slice (Rect.unit (s := S14x256x256) ![t.val, 0, 0] S1x256x256.size (inbX t.2)) (fun _ => rfl)).squeeze S256x256 squeezes_S1x256x256_S256x256
def roDst (t : Fin 14) : Memref sig .tc .hbm S256x256 .bf16 :=
  b10.slice (Rect.unit (s := S256x3584) ![0, 256 * t.val] S256x256.size (inbRes (tc256 t))) (fun _ => rfl)
theorem weRT (t : Fin 14) : (rTile t).view.WordExact := ((Memref.isWhole_whole _).wordExact_slice rfl _ (wwX t)).reshape _ _
theorem weRo (t : Fin 14) : (roDst t).view.WordExact := (Memref.isWhole_whole _).wordExact_slice rfl _ (wwR t)
def startRo (t : Fin 14) : PR F PUnit :=
  Prog.lift (.enqueueDma (rTile t) (.here (roDst t)) (.dma (oSem 0 (by decide))) (weRT t) (weRo t) ⟨Or.inl rfl, trivial⟩)
def waitRo (t : Fin 14) : PR F PUnit :=
  Prog.lift (.waitDma2 (oSem 0 (by decide)) (rTile t) (roDst t) (weRT t) (weRo t))
/-- A tile of the codes, and where it goes. -/
def cTile (t : Fin 14) : Memref sig .tc .vmem S256x256 .fp8e4m3 :=
  (b28.slice (Rect.unit (s := S14x256x256) ![t.val, 0, 0] S1x256x256.size (inbX t.2)) (fun _ => rfl)).squeeze S256x256 squeezes_S1x256x256_S256x256
def xcDst (t : Fin 14) : Memref sig .tc .hbm S256x256 .fp8e4m3 :=
  b14.slice (Rect.unit (s := S256x3584) ![0, 256 * t.val] S256x256.size (inbRes (tc256 t))) (fun _ => rfl)
theorem weCT (t : Fin 14) : (cTile t).view.WordExact := ((Memref.isWhole_whole _).wordExact_slice rfl _ (wwX8 t)).reshape _ _
theorem weXc (t : Fin 14) : (xcDst t).view.WordExact := (Memref.isWhole_whole _).wordExact_slice rfl _ (wwR8 t)
def startXc (t : Fin 14) : PR F PUnit :=
  Prog.lift (.enqueueDma (cTile t) (.here (xcDst t)) (.dma (oSem 1 (by decide))) (weCT t) (weXc t) ⟨Or.inl rfl, trivial⟩)
def waitXc (t : Fin 14) : PR F PUnit :=
  Prog.lift (.waitDma2 (oSem 1 (by decide)) (cTile t) (xcDst t) (weCT t) (weXc t))
def startXs : PR F PUnit :=
  Prog.lift (.enqueueDma b30 (.here b15) (.dma (oSem 2 (by decide))) (Memref.isWhole_whole _).wordExact (Memref.isWhole_whole _).wordExact ⟨Or.inl rfl, trivial⟩)
def waitXs : PR F PUnit :=
  Prog.lift (.waitDma2 (oSem 2 (by decide)) b30 b15 (Memref.isWhole_whole _).wordExact (Memref.isWhole_whole _).wordExact)

/-- A whole 256×128 f32 buffer read, and written. -/
def ldW (b : Memref sig .tc .vmem S256x128 .f32) : PR F (Vec F S256x128 .f32) :=
  Prog.lift (.load b (Rect.unit (s := S256x128) ![0, 0] S256x128.size inb_S256x128_S256x128_0_0).toLoadRect (View.loadsAt_vmem h_S256x128))
def stW (b : Memref sig .tc .vmem S256x128 .f32) (v : FVec F S256x128 .f32) : PR F PUnit :=
  Prog.lift (.store b (Rect.unit (s := S256x128) ![0, 0] S256x128.size inb_S256x128_S256x128_0_0)
    (shapeCast S256x128 v shapeCasts_S256x128_S256x128) Finset.univ (View.stores_vmem_bits_univ h_S256x128 rfl) (.inl rfl))

/-- The residual added and rounded. -/
def resSum (res : Vec F S256x256 .bf16) (v : FVec F S256x256 .f32) : FVec F S256x256 .bf16 :=
  truncf .bf16 (addf (extf .f32 res bitsLt_bf16_f32) v) bitsLt_bf16_f32
/-- The squares, the tile's two column halves added. -/
def sqHalf (r : FVec F S256x256 .bf16) : FVec F S256x128 .f32 :=
  addf (extractStridedSlice S256x128 ![0, 0] (mulf (extf .f32 r bitsLt_bf16_f32) (extf .f32 r bitsLt_bf16_f32)) slices_S256x256_o0_0_S256x128)
    (extractStridedSlice S256x128 ![0, 128] (mulf (extf .f32 r bitsLt_bf16_f32) (extf .f32 r bitsLt_bf16_f32)) slices_S256x256_o0_128_S256x128)
def ldRes (t : Fin 14) : PR F (Vec F S256x256 .bf16) :=
  Prog.lift (.load b21 (Rect.unit (s := S256x3584) ![0, 256 * t.val] S256x256.size (inbRes (tc256 t))).toLoadRect (View.loadsAt_vmem h_S256x256))
def ldR (t : Fin 14) : PR F (Vec F S1x256x256 .bf16) :=
  Prog.lift (.load b25 (Rect.unit (s := S14x256x256) ![t.val, 0, 0] S1x256x256.size (inbX t.2)).toLoadRect (View.loadsAt_vmem h_S1x256x256))
def stR (t : Fin 14) (r : FVec F S256x256 .bf16) : PR F PUnit :=
  Prog.lift (.store b25 (Rect.unit (s := S14x256x256) ![t.val, 0, 0] S1x256x256.size (inbX t.2))
    (shapeCast S1x256x256 r shapeCasts_S256x256_S1x256x256) Finset.univ
    (View.stores_vmem h_S1x256x256 ((Memref.isWhole_whole _).storeExact_slice rfl _ (prX t)) (fun _ => rfl)) (.inl rfl))

def popDown0 (s : Mxu F) : PR F (Mxu F) := do
  let res ← ldRes 0
  let _ ← ldR 0
  stR 0 (resSum res (s.read 0 0 (fitsJ 0)))
  let _ ← ldW b26
  stW b26 (sqHalf (resSum res (s.read 0 0 (fitsJ 0))))
  startRo 0
  pure (s.pop 0 0 256 (fitsJ 0))
/-- Pop column tile `t` out of unit `q`, add the residual, write the tile out, gather its squares. -/
def popDown (t : Fin 14) (q : Fin 2) (j : Fin 4) (s : Mxu F) : PR F (Mxu F) := do
  let res ← ldRes t
  let _ ← ldR t
  stR t (resSum res (s.read q (64 * j.val) (fitsJ j)))
  let v ← ldW b26
  let _ ← ldW b26
  stW b26 (addf v (sqHalf (resSum res (s.read q (64 * j.val) (fitsJ j)))))
  startRo t
  pure (s.pop q (64 * j.val) 256 (fitsJ j))

/-! ### The quantiser -/
def rsVal (v : Vec F S256x128 .f32) : FVec F S256x128 .f32 :=
  broadcastTo S256x128
    (shapeCast S256x1
      (rsqrt (addf (mulf (shapeCast S256x1 (multiReduction .add [1] S256 v 0x00000000#32 reduces_S256x128_S256 (.inl rfl) rfl) shapeCasts_S256_S256x1)
        (broadcast S256x1 (Scalar.ofBits .f32 0x39924925#32))) (broadcast S256x1 (Scalar.ofBits .f32 0x358637BD#32))))
      shapeCasts_S256x1_S256x1) broadcasts_S256x1_S256x128
def rsStage : PR F PUnit := do
  let v ← ldW b26
  let _ ← ldW b27
  stW b27 (rsVal v)

theorem inbXh {s c : ℕ} (h : s < 14) (hc : c + 128 ≤ 256) : ∀ a, (![s, 0, c] : Fin 3 → ℕ) a + S1x256x128.size a ≤ S14x256x256.size a := by
  intro a; fin_cases a
  · show s + 1 ≤ 14; omega
  · show 0 + 256 ≤ 256; omega
  · show c + 128 ≤ 256; omega
theorem inbNw {r : ℕ} (h : r < 28) : ∀ a, (![r, 0] : Fin 2 → ℕ) a + S1x128.size a ≤ S28x128.size a := by
  intro a; fin_cases a
  · show r + 1 ≤ 28; omega
  · show 0 + 128 ≤ 128; omega
theorem prXh {s : ℕ} (h : s < 14) (a : Fin 2) :
    (Rect.unit (s := S14x256x256) ![s, 0, 128 * a.val] S1x256x128.size (inbXh h (by omega))).PackedRows (EltTy.packing .bf16) := by
  have : ∀ (n : Fin 14) (b : Fin 2), ∀ hh, (Rect.unit (s := S14x256x256) ![n.val, 0, 128 * b.val] S1x256x128.size hh).PackedRows (EltTy.packing .bf16) := by decide +kernel
  exact this ⟨s, h⟩ a _
theorem prXh8 {s : ℕ} (h : s < 14) (a : Fin 2) :
    (Rect.unit (s := S14x256x256) ![s, 0, 128 * a.val] S1x256x128.size (inbXh h (by omega))).PackedRows (EltTy.packing .fp8e4m3) := by
  have : ∀ (n : Fin 14) (b : Fin 2), ∀ hh, (Rect.unit (s := S14x256x256) ![n.val, 0, 128 * b.val] S1x256x128.size hh).PackedRows (EltTy.packing .fp8e4m3) := by decide +kernel
  exact this ⟨s, h⟩ a _
abbrev grpW (x : W) (a : Fin 2) : W := Scalar.addi (Scalar.muli x 2#32) (BitVec.ofNat 32 a.val)
theorem grpW_lt {x : W} (h : x.toNat < 14) (a : Fin 2) : (grpW x a).toNat < 28 :=
  allWords 14 (fun x => ∀ a : Fin 2, (grpW x a).toNat < 28) (by decide +kernel) h a

/-- The normalised values of one group of columns. -/
def normed (r : Vec F S1x256x128 .bf16) (rs : Vec F S256x128 .f32) (w : Vec F S1x128 .f32) : FVec F S256x128 .f32 :=
  mulf (mulf (extf .f32 (shapeCast S256x128 r shapeCasts_S1x256x128_S256x128) bitsLt_bf16_f32) rs)
    (broadcastTo S256x128 w broadcasts_S1x128_S256x128)
def amaxOf (v : FVec F S256x128 .f32) : FVec F S256x1 .f32 :=
  mulf (shapeCast S256x1 (multiReduction .maximumf [1] S256 (absf v) 0xFF800000#32 reduces_S256x128_S256 (.inl rfl) rfl) shapeCasts_S256_S256x1)
    (broadcast S256x1 (Scalar.ofBits .f32 0x3B124925#32))
def isZero (a : FVec F S256x1 .f32) : IVec S256x1 1 := cmpf .oeq a (broadcast S256x1 (Scalar.ofBits .f32 0x00000000#32))
def expOf (a : FVec F S256x1 .f32) : FVec F S256x1 .f32 :=
  addf (floor (mulf (log a) (broadcast S256x1 (Scalar.ofBits .f32 0x3FB8AA3B#32)))) (broadcast S256x1 (Scalar.ofBits .f32 0x3F800000#32))
def scaleOf (a : FVec F S256x1 .f32) : FVec F S256x1 .f32 :=
  select (isZero a) (broadcast S256x1 (Scalar.ofBits .f32 0x3F800000#32)) (exp2 (expOf a))
def invOf (a : FVec F S256x1 .f32) : FVec F S256x1 .f32 :=
  select (isZero a) (broadcast S256x1 (Scalar.ofBits .f32 0x3F800000#32)) (exp2 (subf (broadcast S256x1 (Scalar.ofBits .f32 0x00000000#32)) (expOf a)))
def codesOf (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf v (broadcastTo S256x128 (invOf (amaxOf v)) broadcasts_S256x1_S256x128)))) bitsLt_fp8e4m3_f32
def deqOf (v : FVec F S256x128 .f32) : FVec F S256x128 .bf16 :=
  mulf (extf .bf16 (codesOf v) bitsLt_fp8e4m3_bf16)
    (truncf .bf16 (broadcastTo S256x128 (shapeCast S256x1 (scaleOf (amaxOf v)) shapeCasts_S256x1_S256x1) broadcasts_S256x1_S256x128) bitsLt_bf16_f32)
def scalesWith (g : W) (v : FVec F S256x128 .f32) (old : Vec F S256x28 .f32) : FVec F S256x28 .f32 :=
  select (cmpi .eq (iota .tc S256x28 32 [1] iota_S256x28_d1_w32) (broadcast S256x28 g))
    (broadcastTo S256x28 (shapeCast S256x1 (scaleOf (amaxOf v)) shapeCasts_S256x1_S256x1) broadcasts_S256x1_S256x28) old
def ldXs : PR F (Vec F S256x28 .f32) :=
  Prog.lift (.load b30 (Rect.unit (s := S256x28) ![0, 0] S256x28.size inb_S256x28_S256x28_0_0).toLoadRect (View.loadsAt_vmem h_S256x28))
def stXs (v : FVec F S256x28 .f32) : PR F PUnit :=
  Prog.lift (.store b30 (Rect.unit (s := S256x28) ![0, 0] S256x28.size inb_S256x28_S256x28_0_0)
    (shapeCast S256x28 v shapeCasts_S256x28_S256x28) Finset.univ (View.stores_vmem_bits_univ h_S256x28 rfl) (.inl rfl))
def quantHead (x : W) (h : x.toNat < 14) (a : Fin 2) : PR F (FVec F S256x28 .f32) := do
  let r ← Prog.lift (.load b25 (Rect.unit (s := S14x256x256) ![x.toNat, 0, 128 * a.val] S1x256x128.size (inbXh h (by omega))).toLoadRect (View.loadsAt_vmem h_S1x256x128))
  let rs ← ldW b27
  let w ← Prog.lift (.load b22 (Rect.unit (s := S28x128) ![(grpW x a).toNat, 0] S1x128.size (inbNw (grpW_lt h a))).toLoadRect (View.loadsAt_vmem h_S1x128))
  let _ ← Prog.lift (.load b28 (Rect.unit (s := S14x256x256) ![x.toNat, 0, 128 * a.val] S1x256x128.size (inbXh h (by omega))).toLoadRect (View.loadsAt_vmem h_S1x256x128))
  Prog.lift (.store b28 (Rect.unit (s := S14x256x256) ![x.toNat, 0, 128 * a.val] S1x256x128.size (inbXh h (by omega)))
    (shapeCast S1x256x128 (codesOf (normed r rs w)) shapeCasts_S256x128_S1x256x128) Finset.univ
    (View.stores_vmem h_S1x256x128 ((Memref.isWhole_whole _).storeExact_slice rfl _ (prXh8 h a)) (fun _ => rfl)) (.inl rfl))
  let _ ← Prog.lift (.load b29 (Rect.unit (s := S14x256x256) ![x.toNat, 0, 128 * a.val] S1x256x128.size (inbXh h (by omega))).toLoadRect (View.loadsAt_vmem h_S1x256x128))
  Prog.lift (.store b29 (Rect.unit (s := S14x256x256) ![x.toNat, 0, 128 * a.val] S1x256x128.size (inbXh h (by omega)))
    (shapeCast S1x256x128 (deqOf (normed r rs w)) shapeCasts_S256x128_S1x256x128) Finset.univ
    (View.stores_vmem h_S1x256x128 ((Memref.isWhole_whole _).storeExact_slice rfl _ (prXh h a)) (fun _ => rfl)) (.inl rfl))
  let old ← ldXs
  pure (scalesWith (grpW x a) (normed r rs w) old)
def quantOne (x : W) (h : x.toNat < 14) (a : Fin 2) : PR F PUnit := do
  let v ← quantHead x h a
  let _ ← ldXs
  stXs v
/-- Quantise the two groups of tile `x`. -/
def quantise (x : W) (h : x.toNat < 14) : PR F PUnit := do
  quantOne x h 0
  quantOne x h 1

/-! ### The rotary tables -/
theorem inbHalf {r : ℕ} (h : r + 128 ≤ 256) : ∀ a, (![r, 0] : Fin 2 → ℕ) a + S128x128.size a ≤ S256x128.size a := by
  intro a; fin_cases a
  · show r + 128 ≤ 256; omega
  · show 0 + 128 ≤ 128; omega
def ldHalf (b : Memref sig .tc .vmem S256x128 .f32) (r : ℕ) (h : r + 128 ≤ 256) : PR F (Vec F S128x128 .f32) :=
  Prog.lift (.load b (Rect.unit (s := S256x128) ![r, 0] S128x128.size (inbHalf h)).toLoadRect (View.loadsAt_vmem h_S128x128))
def stHalf (b : Memref sig .tc .vmem S256x128 .f32) (r : ℕ) (h : r + 128 ≤ 256) (v : FVec F S128x128 .f32) : PR F PUnit :=
  Prog.lift (.store b (Rect.unit (s := S256x128) ![r, 0] S128x128.size (inbHalf h))
    (shapeCast S128x128 v shapeCasts_S128x128_S128x128) Finset.univ (View.stores_vmem_bits_univ h_S128x128 rfl) (.inl rfl))
def ldFreq : PR F (Vec F S1x128 .f32) :=
  Prog.lift (.load b24 (Rect.unit (s := S1x128) ![0, 0] S1x128.size inb_S1x128_S1x128_0_0).toLoadRect (View.loadsAt_vmem h_S1x128))
def theta (p : FVec F S1x128 .f32) (f : Vec F S1x128 .f32) : FVec F S128x128 .f32 :=
  mulf (transpose S128x128 [1, 0] (broadcastTo S128x128 (shapeCast S1x128 p shapeCasts_S1x128_S1x128) broadcasts_S1x128_S128x128) transposes_S128x128_p1_0_S128x128)
    (broadcastTo S128x128 f broadcasts_S1x128_S128x128)
def cosSin : PR F PUnit := do
  let p ← Prog.lift (.load b23 (Rect.unit (s := S2x128) ![0, 0] S2x128.size inb_S2x128_S2x128_0_0).toLoadRect (View.loadsAt_vmem h_S2x128))
  let f ← ldFreq
  let _ ← ldHalf b31 0 (by decide)
  stHalf b31 0 (by decide) (cos (theta (extractStridedSlice S1x128 ![0, 0] (sitofp .f32 (p : Vec F S2x128 .i32) : FVec F S2x128 .f32) slices_S2x128_o0_0_S1x128) f))
  let _ ← ldHalf b32 0 (by decide)
  stHalf b32 0 (by decide) (sin (theta (extractStridedSlice S1x128 ![0, 0] (sitofp .f32 (p : Vec F S2x128 .i32) : FVec F S2x128 .f32) slices_S2x128_o0_0_S1x128) f))
  let f' ← ldFreq
  let _ ← ldHalf b31 128 (by decide)
  stHalf b31 128 (by decide) (cos (theta (extractStridedSlice S1x128 ![1, 0] (sitofp .f32 (p : Vec F S2x128 .i32) : FVec F S2x128 .f32) slices_S2x128_o1_0_S1x128) f'))
  let _ ← ldHalf b32 128 (by decide)
  stHalf b32 128 (by decide) (sin (theta (extractStridedSlice S1x128 ![1, 0] (sitofp .f32 (p : Vec F S2x128 .i32) : FVec F S2x128 .f32) slices_S2x128_o1_0_S1x128) f'))
  let _ ← ldXs
  stXs (broadcast S256x28 (Scalar.ofBits .f32 0x00000000#32))

/-! ### The heads -/
theorem inbO {g l j : ℕ} (hg : g < 4) (hl : l < 2) (hj : j + 2 ≤ 8) :
    ∀ a, (![g, l, 0, j, 0] : Fin 5 → ℕ) a + S1x1x256x2x128.size a ≤ S4x2x256x8x128.size a := by
  intro a; fin_cases a
  · show g + 1 ≤ 4; omega
  · show l + 1 ≤ 2; omega
  · show 0 + 256 ≤ 256; omega
  · show j + 2 ≤ 8; omega
  · show 0 + 128 ≤ 128; omega
theorem prO (g : Fin 4) (l : Fin 2) (j : Fin 4) :
    (Rect.unit (s := S4x2x256x8x128) ![g.val, l.val, 0, 2 * j.val, 0] S1x1x256x2x128.size (inbO g.2 l.2 (by omega))).PackedRows (EltTy.packing .bf16) := by
  have : ∀ (g : Fin 4) (l : Fin 2) (j : Fin 4), ∀ hh, (Rect.unit (s := S4x2x256x8x128) ![g.val, l.val, 0, 2 * j.val, 0] S1x1x256x2x128.size hh).PackedRows (EltTy.packing .bf16) := by decide +kernel
  exact this g l j _
/-- The packed words as rows of two heads. -/
def packRows (u v : FVec F S256x128 .f32) : Vec F S1x1x256x2x128 .bf16 :=
  bitcastToFloat .bf16 (bitcast S1x1x256x2x128 16 (shapeCast S1x1x256x1x128 (shapeCast S256x128 (packElementwise u v : IVec S256x128 32) shapeCasts_S256x128_S256x128) shapeCasts_S256x128_S1x1x256x1x128) bitcasts_S1x1x256x1x128_w32_S1x1x256x2x128_w16)
def packStore (g : ℕ) (hg : g < 4) (l : Fin 2) (j : Fin 4) (u v : FVec F S256x128 .f32) : PR F PUnit := do
  let _ ← Prog.lift (.load b33 (Rect.unit (s := S4x2x256x8x128) ![g, l.val, 0, 2 * j.val, 0] S1x1x256x2x128.size (inbO hg l.2 (by omega))).toLoadRect (View.loadsAt_vmem h_S1x1x256x2x128))
  Prog.lift (.store b33 (Rect.unit (s := S4x2x256x8x128) ![g, l.val, 0, 2 * j.val, 0] S1x1x256x2x128.size (inbO hg l.2 (by omega)))
    (packRows u v) Finset.univ
    (View.stores_vmem h_S1x1x256x2x128 ((Memref.isWhole_whole _).storeExact_slice rfl _ (prO ⟨g, hg⟩ l j)) (fun _ => rfl)) (.inl rfl))
def loH (t : FVec F S256x256 .f32) : FVec F S256x128 .f32 := extractStridedSlice S256x128 ![0, 0] t slices_S256x256_o0_0_S256x128
def hiH (t : FVec F S256x256 .f32) : FVec F S256x128 .f32 := extractStridedSlice S256x128 ![0, 128] t slices_S256x256_o0_128_S256x128
def ropeLo (t : FVec F S256x256 .f32) (c s : Vec F S256x128 .f32) : FVec F S256x128 .f32 := subf (mulf (loH t) c) (mulf (hiH t) s)
def ropeHi (t : FVec F S256x256 .f32) (c s : Vec F S256x128 .f32) : FVec F S256x128 .f32 := addf (mulf (hiH t) c) (mulf (loH t) s)
/-- Pop the pair of heads `j` of a group, rotated. -/
def popRope (g : ℕ) (hg : g < 4) (j : Fin 4) (s : Mxu F) : PR F (Mxu F) := do
  let c0 ← ldW b31
  let s0 ← ldW b32
  let c1 ← ldW b31
  let s1 ← ldW b32
  packStore g hg 0 j (ropeLo (s.read 0 (64 * j.val) (fitsJ j)) c0 s0) (ropeLo ((s.pop 0 (64 * j.val) 256 (fitsJ j)).read 1 (64 * j.val) (fitsJ j)) c1 s1)
  packStore g hg 1 j (ropeHi (s.read 0 (64 * j.val) (fitsJ j)) c0 s0) (ropeHi ((s.pop 0 (64 * j.val) 256 (fitsJ j)).read 1 (64 * j.val) (fitsJ j)) c1 s1)
  pure ((s.pop 0 (64 * j.val) 256 (fitsJ j)).pop 1 (64 * j.val) 256 (fitsJ j))
/-- The last group, not rotated. -/
def popLast (j : Fin 4) (s : Mxu F) : PR F (Mxu F) := do
  packStore 3 (by decide) 0 j (loH (s.read 0 (64 * j.val) (fitsJ j))) (loH ((s.pop 0 (64 * j.val) 256 (fitsJ j)).read 1 (64 * j.val) (fitsJ j)))
  packStore 3 (by decide) 1 j (hiH (s.read 0 (64 * j.val) (fitsJ j))) (hiH ((s.pop 0 (64 * j.val) 256 (fitsJ j)).read 1 (64 * j.val) (fitsJ j)))
  pure ((s.pop 0 (64 * j.val) 256 (fitsJ j)).pop 1 (64 * j.val) 256 (fitsJ j))

theorem inbOb {g l : ℕ} (hg : g < 4) (hl : l < 2) : ∀ a, (![g, l, 0, 0, 0] : Fin 5 → ℕ) a + S1x1x256x8x128.size a ≤ S4x2x256x8x128.size a := by
  intro a; fin_cases a
  · show g + 1 ≤ 4; omega
  · show l + 1 ≤ 2; omega
  · show 0 + 256 ≤ 256; omega
  · show 0 + 8 ≤ 8; omega
  · show 0 + 128 ≤ 128; omega
theorem wwOb (g : Fin 4) (l : Fin 2) :
    (Rect.unit (s := S4x2x256x8x128) ![g.val, l.val, 0, 0, 0] S1x1x256x8x128.size (inbOb g.2 l.2)).WholeWords (EltTy.packing .bf16) := by
  have : ∀ (g : Fin 4) (l : Fin 2), ∀ hh, (Rect.unit (s := S4x2x256x8x128) ![g.val, l.val, 0, 0, 0] S1x1x256x8x128.size hh).WholeWords (EltTy.packing .bf16) := by decide +kernel
  exact this g l _
def obV (g : Fin 4) (l : Fin 2) : Memref sig .tc .vmem S256x8x128 .bf16 :=
  (b33.slice (Rect.unit (s := S4x2x256x8x128) ![g.val, l.val, 0, 0, 0] S1x1x256x8x128.size (inbOb g.2 l.2)) (fun _ => rfl)).squeeze S256x8x128 squeezes_S1x1x256x8x128_S256x8x128
theorem weOb (g : Fin 4) (l : Fin 2) : (obV g l).view.WordExact := ((Memref.isWhole_whole _).wordExact_slice rfl _ (wwOb g l)).reshape _ _
theorem inbQ {h c : ℕ} (hh : h + 8 ≤ 16) (hc : c + 128 ≤ 256) : ∀ a, (![0, h, c] : Fin 3 → ℕ) a + S256x8x128.size a ≤ S256x16x256.size a := by
  intro a; fin_cases a
  · show 0 + 256 ≤ 256; omega
  · show h + 8 ≤ 16; omega
  · show c + 128 ≤ 256; omega
theorem inbK {c : ℕ} (hc : c + 128 ≤ 256) : ∀ a, (![0, 0, c] : Fin 3 → ℕ) a + S256x8x128.size a ≤ S256x8x256.size a := by
  intro a; fin_cases a
  · show 0 + 256 ≤ 256; omega
  · show 0 + 8 ≤ 8; omega
  · show c + 128 ≤ 256; omega
theorem wwQ (h : Fin 2) (l : Fin 2) :
    (Rect.unit (s := S256x16x256) ![0, 8 * h.val, 128 * l.val] S256x8x128.size (inbQ (by omega) (by omega))).WholeWords (EltTy.packing .bf16) := by
  have : ∀ (h : Fin 2) (l : Fin 2), ∀ hh, (Rect.unit (s := S256x16x256) ![0, 8 * h.val, 128 * l.val] S256x8x128.size hh).WholeWords (EltTy.packing .bf16) := by decide +kernel
  exact this h l _
theorem wwK (l : Fin 2) :
    (Rect.unit (s := S256x8x256) ![0, 0, 128 * l.val] S256x8x128.size (inbK (by omega))).WholeWords (EltTy.packing .bf16) := by
  have : ∀ (l : Fin 2), ∀ hh, (Rect.unit (s := S256x8x256) ![0, 0, 128 * l.val] S256x8x128.size hh).WholeWords (EltTy.packing .bf16) := by decide +kernel
  exact this l _
/-- Where half `l` of group `g`'s heads goes. -/
def hdDst : Fin 4 → Fin 2 → Memref sig .tc .hbm S256x8x128 .bf16
  | 0, l => b11.slice (Rect.unit (s := S256x16x256) ![0, 8 * (0 : Fin 2).val, 128 * l.val] S256x8x128.size (inbQ (by decide) (by omega))) (fun _ => rfl)
  | 1, l => b11.slice (Rect.unit (s := S256x16x256) ![0, 8 * (1 : Fin 2).val, 128 * l.val] S256x8x128.size (inbQ (by decide) (by omega))) (fun _ => rfl)
  | 2, l => b12.slice (Rect.unit (s := S256x8x256) ![0, 0, 128 * l.val] S256x8x128.size (inbK (by omega))) (fun _ => rfl)
  | 3, l => b13.slice (Rect.unit (s := S256x8x256) ![0, 0, 128 * l.val] S256x8x128.size (inbK (by omega))) (fun _ => rfl)
theorem weHd : ∀ (g : Fin 4) (l : Fin 2), (hdDst g l).view.WordExact
  | 0, l => (Memref.isWhole_whole _).wordExact_slice rfl _ (wwQ 0 l)
  | 1, l => (Memref.isWhole_whole _).wordExact_slice rfl _ (wwQ 1 l)
  | 2, l => (Memref.isWhole_whole _).wordExact_slice rfl _ (wwK l)
  | 3, l => (Memref.isWhole_whole _).wordExact_slice rfl _ (wwK l)
def startHd (g : Fin 4) (l : Fin 2) : PR F PUnit :=
  Prog.lift (.enqueueDma (obV g l) (.here (hdDst g l)) (.dma (oSem (3 + g.val) (by omega))) (weOb g l) (weHd g l) ⟨Or.inl rfl, trivial⟩)
def waitHd (g : Fin 4) (l : Fin 2) : PR F PUnit :=
  Prog.lift (.waitDma2 (oSem (3 + g.val) (by omega)) (obV g l) (hdDst g l) (weOb g l) (weHd g l))
/-- Start group `g`'s two copies if it is `w`'s turn. -/
def startIf (w : W) (k : W) (g : Fin 4) : PR F PUnit := do
  if h : Scalar.cmpi .ne (Scalar.extui (Scalar.cmpi .eq w k) : W) 0#32 = 1#1 then do startHd g 0; startHd g 1; pure ⟨⟩ else do pure ⟨⟩
  pure ⟨⟩

/-! ### The third pass's chunks -/
theorem iv3 : ∀ t : Fin k0_t3_loop.trips, (Scf.iv 0#32 1#32 t.val : W).toNat < 7 ∧ (56 ≤ (Scalar.addi 56#32 (Scf.iv 0#32 1#32 t.val) : W).toNat ∧ (Scalar.addi 56#32 (Scf.iv 0#32 1#32 t.val) : W).toNat < 84)
    ∧ (56 ≤ (Scalar.addi (Scalar.addi 56#32 (Scf.iv 0#32 1#32 t.val)) 1#32 : W).toNat ∧ (Scalar.addi (Scalar.addi 56#32 (Scf.iv 0#32 1#32 t.val)) 1#32 : W).toNat < 84)
    ∧ ∀ kt : Fin 2, (Scalar.addi (Scalar.muli (Scalar.addi (Scf.iv 0#32 1#32 t.val) 1#32) 2#32) (BitVec.ofNat 32 kt.val) : W).toNat < 14 := by decide +kernel
abbrev qW (c : W) (kt : Fin 2) : W := Scalar.addi (Scalar.muli (Scalar.addi c 1#32) 2#32) (BitVec.ofNat 32 kt.val)
/-- A chunk of the third pass's first group; the next activations quantised at its end. -/
def chunkC (c : W) (hc : c.toNat < 7) (h : K2 (Scalar.addi 56#32 c)) (h' : K2 (Scalar.addi (Scalar.addi 56#32 c) 1#32))
    (hq : ∀ kt, (qW c kt).toNat < 14) (s : Mxu F) : PR F (Mxu F) := do
  waitC (Scalar.addi (Scalar.addi 56#32 c) 1#32) h'
  startW (Scalar.addi (Scalar.addi 56#32 c) 11#32) (lt96 h.lt) do
    let s ← steps4 (lhsQ c hc) (srcC (Scalar.addi 56#32 c) h) (srcC (Scalar.addi (Scalar.addi 56#32 c) 1#32) h') s
    quantise (qW c 0) (hq 0)
    quantise (qW c 1) (hq 1)
    pure s
def loop3 (s : Mxu F) : PR F (Mxu F) :=
  Scf.Loop.for k0_t3_loop k0_t3_ok s fun t s =>
    chunkC (Scf.iv 0#32 1#32 t.val) (iv3 t).1 (iv3 t).2.1 (iv3 t).2.2.1 (iv3 t).2.2.2 s

/-- The eight steps of a chunk, the heads of the group before popped as their places are needed. -/
def steps4Pop (g : ℕ) (hg : g < 4) (ld : Fin 2 → PR F (Vec F S1x256x256 .bf16)) (S N : Src F) (s : Mxu F) : PR F (Mxu F) := do
  let s ← popRope g hg 0 s
  let s ← stepP ld 0 0 S 0 1 s
  let s ← popRope g hg 1 s
  let s ← stepP ld 0 1 S 0 2 s
  let s ← popRope g hg 2 s
  let s ← stepP ld 0 2 S 0 3 s
  let s ← popRope g hg 3 s
  let s ← stepP ld 0 3 S 1 0 s
  let s ← stepP ld 1 0 S 1 1 s
  let s ← stepP ld 1 1 S 1 2 s
  let s ← stepP ld 1 2 S 1 3 s
  stepP ld 1 3 N 0 0 s

/-- A plain chunk `x` of the third pass, over activation chunk `c`. -/
def chunkD (x c : W) (hc : c.toNat < 7) (h : K2 x) (h' : K2 (Scalar.addi x 1#32)) (s : Mxu F) : PR F (Mxu F) := do
  waitC (Scalar.addi x 1#32) h'
  startW (Scalar.addi x 11#32) (lt96 h.lt) <|
    steps4 (lhsQ c hc) (srcC x h) (srcC (Scalar.addi x 1#32) h') s

abbrev bW (g : W) : W := Scalar.addi (Scalar.addi 56#32 (Scalar.muli g 7#32)) 7#32
abbrev gW (t : ℕ) : W := Scf.iv 0#32 1#32 t
theorem iv4 : ∀ t : Fin k0_t4_loop.trips, (gW t.val).toNat < 4 ∧ (56 ≤ (Scalar.subi (bW (gW t.val)) 1#32).toNat ∧ (Scalar.subi (bW (gW t.val)) 1#32).toNat < 84)
   ∧ (56 ≤ (Scalar.addi (Scalar.subi (bW (gW t.val)) 1#32) 1#32).toNat ∧ (Scalar.addi (Scalar.subi (bW (gW t.val)) 1#32) 1#32).toNat < 84)
   ∧ (56 ≤ (bW (gW t.val)).toNat ∧ (bW (gW t.val)).toNat < 84)
   ∧ (56 ≤ (Scalar.addi (bW (gW t.val)) 1#32).toNat ∧ (Scalar.addi (bW (gW t.val)) 1#32).toNat < 84) := by decide +kernel
theorem iv5 : ∀ (t : Fin k0_t4_loop.trips) (u : Fin k0_t5_loop.trips), (Scf.iv 1#32 1#32 u.val : W).toNat < 7 ∧
   (56 ≤ (Scalar.addi (bW (gW t.val)) (Scf.iv 1#32 1#32 u.val)).toNat ∧ (Scalar.addi (bW (gW t.val)) (Scf.iv 1#32 1#32 u.val)).toNat < 84)
   ∧ (56 ≤ (Scalar.addi (Scalar.addi (bW (gW t.val)) (Scf.iv 1#32 1#32 u.val)) 1#32).toNat ∧ (Scalar.addi (Scalar.addi (bW (gW t.val)) (Scf.iv 1#32 1#32 u.val)) 1#32).toNat < 84) := by decide +kernel
def loop5 (t : Fin k0_t4_loop.trips) (s : Mxu F) : PR F (Mxu F) :=
  Scf.Loop.for k0_t5_loop k0_t5_ok s fun u s =>
    chunkD (Scalar.addi (bW (gW t.val)) (Scf.iv 1#32 1#32 u.val)) (Scf.iv 1#32 1#32 u.val) (iv5 t u).1 (iv5 t u).2.1 (iv5 t u).2.2 s
/-- The last chunk of a group, and the first of the next with the group's heads popped. -/
def group (t : Fin k0_t4_loop.trips) (s : Mxu F) : PR F (Mxu F) :=
  waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) <|
  (steps4 (lhsQ 6#32 (by decide)) (srcC (Scalar.subi (bW (gW t.val)) 1#32) (iv4 t).2.1) (srcC (Scalar.addi (Scalar.subi (bW (gW t.val)) 1#32) 1#32) (iv4 t).2.2.1) s) >>= fun s =>
  waitC (Scalar.addi (bW (gW t.val)) 1#32) (iv4 t).2.2.2.2 >>= fun _ =>
  startW (Scalar.addi (bW (gW t.val)) 11#32) (lt96 (K2.lt (iv4 t).2.2.2.1)) <|
  steps4Pop (gW t.val).toNat (iv4 t).1 (lhsQ 0#32 (by decide)) (srcC (bW (gW t.val)) (iv4 t).2.2.2.1) (srcC (Scalar.addi (bW (gW t.val)) 1#32) (iv4 t).2.2.2.2) s >>= fun s =>
  startIf (gW t.val) 0#32 0 >>= fun _ =>
  startIf (gW t.val) 1#32 1 >>= fun _ =>
  startIf (gW t.val) 2#32 2 >>= fun _ =>
  loop5 t s
def loop4 (s : Mxu F) : PR F (Mxu F) :=
  Scf.Loop.for k0_t4_loop k0_t4_ok s fun t s => group t s

/-! ### The segments between the loops -/
abbrev nW (n : ℕ) : W := BitVec.ofNat 32 n
theorem K0n {n : ℕ} (h : n < 28) : K0 (nW n) := by
  unfold K0; rw [BitVec.toNat_ofNat]; omega
theorem K1n {n : ℕ} (h : 28 ≤ n) (h' : n < 56) : K1 (nW n) := by
  unfold K1; rw [BitVec.toNat_ofNat]; omega
theorem K2n {n : ℕ} (h : 56 ≤ n) (h' : n < 84) : K2 (nW n) := by
  unfold K2; rw [BitVec.toNat_ofNat]; omega

/-- The copies of activation and weight chunks `i, …, i + n - 1` started, then `k`. -/
def startsHW {α : Type} (k : PR F α) : (n i : ℕ) → (i + n ≤ 28) → PR F α
  | 0, _, _ => k
  | n + 1, i, h => startH (nW i) (K0n (by omega)) >>= fun _ => startA (nW i) (K0n (by omega)) >>= fun _ => startsHW k n (i + 1) (by omega)
def startsH {α : Type} (k : PR F α) : (n i : ℕ) → (i + n ≤ 28) → PR F α
  | 0, _, _ => k
  | n + 1, i, h => startH (nW i) (K0n (by omega)) >>= fun _ => startsH k n (i + 1) (by omega)

def copyIn {S : Shape} {e : EltTy} (i : ℕ) (h : i < 5) (src : Memref sig .tc .hbm S e) (dst : Memref sig .tc .vmem S e)
    (hs : src.view.WordExact) (hd : dst.view.WordExact) : PR F PUnit :=
  Prog.lift (.enqueueDma src (.here dst) (.dma (iSem i h)) hs hd ⟨Or.inl rfl, trivial⟩)
def waitIn {S : Shape} {e : EltTy} (i : ℕ) (h : i < 5) (src : Memref sig .tc .hbm S e) (dst : Memref sig .tc .vmem S e)
    (hs : src.view.WordExact) (hd : dst.view.WordExact) : PR F PUnit :=
  Prog.lift (.waitDma2 (iSem i h) src dst hs hd)
abbrev we {sp : Space} {S : Shape} {e : EltTy} {b : Memref sig .tc sp S e} (h : b.IsWhole) : b.view.WordExact := h.wordExact

def hsRoll : PR F PUnit := do
  let _ ← ldW b19
  stW b19 (broadcast S256x128 (Scalar.ofBits .f32 0x00000000#32))
  let v ← Prog.lift (.load b18 (Rect.unit (s := S256x112) ![0, 0] S256x112.size inb_S256x112_S256x112_0_0).toLoadRect (View.loadsAt_vmem h_S256x112))
  let _ ← Prog.lift (.load b19 (Rect.unit (s := S256x128) ![0, 0] S256x112.size inb_S256x128_S256x112_0_0).toLoadRect (View.loadsAt_vmem h_S256x112))
  Prog.lift (.store b19 (Rect.unit (s := S256x128) ![0, 0] S256x112.size inb_S256x128_S256x112_0_0)
    (shapeCast S256x112 (v : Vec F S256x112 .f32) shapeCasts_S256x112_S256x112) Finset.univ (View.stores_vmem_bits_univ h_S256x112 rfl) (.inl rfl))

/-- Everything up to the first loop. -/
def segA : PR F (Mxu F) :=
  copyIn 0 (by decide) b1 b18 (Memref.isWhole_whole _).wordExact (Memref.isWhole_whole _).wordExact >>= fun _ =>
  startsHW (
    copyIn 1 (by decide) b4 b21 (Memref.isWhole_whole _).wordExact (Memref.isWhole_whole _).wordExact >>= fun _ =>
    copyIn 2 (by decide) b5 b22 (Memref.isWhole_whole _).wordExact (Memref.isWhole_whole _).wordExact >>= fun _ =>
    copyIn 3 (by decide) b8 b23 (Memref.isWhole_whole _).wordExact (Memref.isWhole_whole _).wordExact >>= fun _ =>
    copyIn 4 (by decide) b9 b24 (Memref.isWhole_whole _).wordExact (Memref.isWhole_whole _).wordExact >>= fun _ =>
    startsH (do
      waitIn 0 (by decide) b1 b18 (Memref.isWhole_whole _).wordExact (Memref.isWhole_whole _).wordExact
      hsRoll
      waitH (nW 0) (K0n (by decide))
      widenH (nW 0) (K0n (by decide))
      waitA (nW 0) (K0n (by decide))
      pushPair (srcA (nW 0) (K0n (by decide))) 0 0 Mxu.init) 17 11 (by decide)) 11 0 (by decide)

/-- The first product's first pass ended and its second begun, the first eight tiles popped; the
rotary tables. -/
def segB (s : Mxu F) : PR F (Mxu F) := do
  waitIn 1 (by decide) b4 b21 (Memref.isWhole_whole _).wordExact (Memref.isWhole_whole _).wordExact
  waitIn 2 (by decide) b5 b22 (Memref.isWhole_whole _).wordExact (Memref.isWhole_whole _).wordExact
  waitIn 3 (by decide) b8 b23 (Memref.isWhole_whole _).wordExact (Memref.isWhole_whole _).wordExact
  waitIn 4 (by decide) b9 b24 (Memref.isWhole_whole _).wordExact (Memref.isWhole_whole _).wordExact
  waitB (nW 28) (K1n (by decide) (by decide))
  startB (nW 38) (K1n (by decide) (by decide))
  let s ← steps4 (lhsD (nW 27) (by decide)) (srcA (nW 27) (K0n (by decide))) (srcB (nW 28) (K1n (by decide) (by decide))) s
  waitB (nW 29) (K1n (by decide) (by decide))
  startB (nW 39) (K1n (by decide) (by decide))
  let s ← popDown0 s
  let s ← popDown 1 1 0 s
  let s ← stepP (lhsD (nW 0) (by decide)) 0 0 (srcB (nW 28) (K1n (by decide) (by decide))) 0 1 s
  let s ← popDown 2 0 1 s
  let s ← popDown 3 1 1 s
  let s ← stepP (lhsD (nW 0) (by decide)) 0 1 (srcB (nW 28) (K1n (by decide) (by decide))) 0 2 s
  let s ← popDown 4 0 2 s
  let s ← popDown 5 1 2 s
  let s ← popDown 6 0 3 s
  let s ← popDown 7 1 3 s
  let s ← stepP (lhsD (nW 0) (by decide)) 0 2 (srcB (nW 28) (K1n (by decide) (by decide))) 1 0 s
  let s ← stepP (lhsD (nW 0) (by decide)) 1 0 (srcB (nW 28) (K1n (by decide) (by decide))) 1 1 s
  let s ← stepP (lhsD (nW 0) (by decide)) 1 1 (srcB (nW 28) (K1n (by decide) (by decide))) 1 2 s
  let s ← stepP (lhsD (nW 0) (by decide)) 1 2 (srcB (nW 29) (K1n (by decide) (by decide))) 0 0 s
  cosSin
  pure s

def segD (s : Mxu F) : PR F (Mxu F) := do
  waitC (nW 56) (K2n (by decide) (by decide))
  startC (nW 66) (K2n (by decide) (by decide))
  let s ← steps3 (lhsD (nW 27) (by decide)) (srcB (nW 55) (K1n (by decide) (by decide))) (srcC (nW 56) (K2n (by decide) (by decide))) s
  let s ← popDown 8 0 0 s
  let s ← popDown 9 1 0 s
  let s ← popDown 10 0 1 s
  let s ← popDown 11 1 1 s
  let s ← popDown 12 0 2 s
  let s ← popDown 13 1 2 s
  rsStage
  quantise (nW 0) (by decide)
  quantise (nW 1) (by decide)
  pure s

def startsXc {α : Type} (k : PR F α) : (n i : ℕ) → (i + n ≤ 14) → PR F α
  | 0, _, _ => k
  | n + 1, i, h => startXc ⟨i, by omega⟩ >>= fun _ => startsXc k n (i + 1) (by omega)
def segF (s : Mxu F) : PR F (Mxu F) :=
  startXs >>= fun _ => startsXc (pure s) 14 0 (by decide)

def waitsRoXc {α : Type} (k : PR F α) : (n i : ℕ) → (i + n ≤ 14) → PR F α
  | 0, _, _ => k
  | n + 1, i, h => waitRo ⟨i, by omega⟩ >>= fun _ => waitXc ⟨i, by omega⟩ >>= fun _ => waitsRoXc k n (i + 1) (by omega)

def segH (s : Mxu F) : PR F PUnit := do
  let s ← stepP (lhsQ (nW 6) (by decide)) 0 0 (srcC (nW 83) (K2n (by decide) (by decide))) 0 1 s
  let s ← stepP (lhsQ (nW 6) (by decide)) 0 1 (srcC (nW 83) (K2n (by decide) (by decide))) 0 2 s
  let s ← stepP (lhsQ (nW 6) (by decide)) 0 2 (srcC (nW 83) (K2n (by decide) (by decide))) 0 3 s
  let s ← stepP (lhsQ (nW 6) (by decide)) 0 3 (srcC (nW 83) (K2n (by decide) (by decide))) 1 0 s
  let s ← stepP (lhsQ (nW 6) (by decide)) 1 0 (srcC (nW 83) (K2n (by decide) (by decide))) 1 1 s
  let s ← stepP (lhsQ (nW 6) (by decide)) 1 1 (srcC (nW 83) (K2n (by decide) (by decide))) 1 2 s
  let s ← stepP (lhsQ (nW 6) (by decide)) 1 2 (srcC (nW 83) (K2n (by decide) (by decide))) 1 3 s
  let s ← accPair (lhsQ (nW 6) (by decide)) 1 3 s
  let s ← popLast 0 s
  let s ← popLast 1 s
  let s ← popLast 2 s
  let s ← popLast 3 s
  startHd 3 0
  startHd 3 1
  waitsRoXc (do
    waitXs
    waitHd 0 0
    waitHd 0 1
    waitHd 1 0
    waitHd 1 1
    waitHd 2 0
    waitHd 2 1
    waitHd 3 0
    waitHd 3 1
    s.exit
    pure ⟨⟩) 14 0 (by decide)

/-- The kernel's body. -/
def body : PR F PUnit :=
  segA >>= fun s => loop1 s >>= fun s => segB s >>= fun s => loop2 s >>= fun s => segD s >>= fun s =>
    loop3 s >>= fun s => segF s >>= fun s => loop4 s >>= fun s => segH s

end Cert.Kernel.Hand
-- ==== Proof.Logic.lean ====
module

public import proofs.«01_k».proof.Proof.Stages
public import Idealize.ShloMosaic.Lib.Pipeline.FrameBody
public import Idealize.ShloMosaic.Lib.MixedBatch
public import Idealize.ShloMosaic.Lib.Ring
public import Idealize.ShloMosaic.Lib.Tactic

/-! Triples for the kernel's programs: what is held before a program, the program, and what is held
after it, with the rules that compose them and one rule for each effect. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

/-- The counters of the kernel's own transfers. -/
abbrev EC : UEmb Counters (MT nD τ sig Unit (Elt F) ℕ (Pipeline.UD sig nD τ) ℕ) := countersEmb (U := Pipeline.UD sig nD τ)

/-- From `P`, the program `p` runs without fault and ends in `Q` of its value. -/
def T (c : Dev nD) {α : Type} (P : sProp 𝕄) (p : PR F α) (Q : α → sProp 𝕄) : Prop :=
  P ⊢ wp frame (wpE (defs₀ (F := F)) Variants.none (c : Thread nD τ) none) Set.univ p Q

theorem T.bind {α β : Type} {P : sProp 𝕄} {p : PR F α} {Q : α → sProp 𝕄} {k : α → PR F β} {R : β → sProp 𝕄}
    (h : T c P p Q) (hk : ∀ a, T c (Q a) (k a) R) : T c P (p >>= k) R := by
  unfold T at *; rw [wp_bind]; exact h.trans (wp_mono _ _ _ hk)
theorem T.ret {α : Type} {Q : α → sProp 𝕄} (a : α) : T c (Q a) (pure a : PR F α) Q := by
  unfold T; show _ ⊢ wp _ _ _ (.ret a) _; rw [wp_ret]; iintro H; imodintro; iexact H
theorem T.pre {α : Type} {P P' : sProp 𝕄} {p : PR F α} {Q : α → sProp 𝕄} (h : P ⊢ P') (ht : T c P' p Q) : T c P p Q := h.trans ht
theorem T.post {α : Type} {P : sProp 𝕄} {p : PR F α} {Q Q' : α → sProp 𝕄} (ht : T c P p Q) (h : ∀ a, Q a ⊢ Q' a) : T c P p Q' := by
  unfold T at *; exact ht.trans (wp_mono _ _ _ h)
theorem T.frame {α : Type} {P : sProp 𝕄} {p : PR F α} {Q : α → sProp 𝕄} (X : sProp 𝕄) (ht : T c P p Q) :
    T c iprop(P ∗ X) p (fun a => iprop(Q a ∗ X)) := by
  unfold T at *; exact (sep_mono ht .rfl).trans (wp_frame_r _ _ _)
theorem T.fact {α : Type} {φ : Prop} {P : sProp 𝕄} {p : PR F α} {Q : α → sProp 𝕄} (h : φ → T c P p Q) : T c iprop(⌜φ⌝ ∗ P) p Q := by
  unfold T at *; iintro ⟨%hφ, H⟩; iapply (h hφ); iexact H
theorem T.ex {α β : Type} {P : β → sProp 𝕄} {p : PR F α} {Q : α → sProp 𝕄} (h : ∀ b, T c (P b) p Q) : T c iprop(∃ b, P b) p Q := by
  unfold T at *; iintro ⟨%b, H⟩; iapply (h b); iexact H
/-- A program that keeps `R` and answers with a value satisfying `V`, then the rest. -/
theorem T.seq {α β : Type} {R : sProp 𝕄} {p : PR F α} {V : α → Prop} {k : α → PR F β} {Q : β → sProp 𝕄}
    (h : T c R p (fun a => iprop(⌜V a⌝ ∗ R))) (hk : ∀ a, V a → T c R (k a) Q) : T c R (p >>= k) Q :=
  h.bind fun a => T.fact (hk a)
theorem T.fupd {α : Type} {P P' : sProp 𝕄} {p : PR F α} {Q : α → sProp 𝕄} (h : P ⊢ iprop(|={Set.univ}=> P')) (ht : T c P' p Q) : T c P p Q := by
  unfold T at *
  iintro H
  imod h $$ H with H
  iapply ht; iexact H

/-! ### Buffers -/
/-- Elements `S` of `b`'s buffer held at share `q`, their contents satisfying `P`. -/
def Own (c : Dev nD) {sp : Space} {s : Shape} {e : EltTy} (b : Memref sig .tc sp s e) (S : Finset (Idx (b.view.loc (c : Thread nD τ))))
    (q : PosShare TreeShare) (P : Buf (Elt F) (b.view.loc (c : Thread nD τ)) → Prop) : sProp 𝕄 :=
  iprop(∃ f, ⌜P f⌝ ∗ (b.view.loc (c : Thread nD τ) ↦[S]{q} f))
/-- The same at any contents, at the full share. -/
abbrev Any (c : Dev nD) {sp : Space} {s : Shape} {e : EltTy} (b : Memref sig .tc sp s e) (S : Finset (Idx (b.view.loc (c : Thread nD τ)))) : sProp 𝕄 :=
  Own (F := F) c b S fullShare (fun _ => True)

/-- `R` lends elements `S` of `b`'s buffer for reading. -/
class Rd (c : Dev nD) (R : sProp 𝕄) {sp : Space} {s : Shape} {e : EltTy} (b : Memref sig .tc sp s e) (S : Finset (Idx (b.view.loc (c : Thread nD τ))))
    (P : outParam (Buf (Elt F) (b.view.loc (c : Thread nD τ)) → Prop)) : Prop where
  acc : R ⊢ iprop(∃ q f, ⌜P f⌝ ∗ (b.view.loc (c : Thread nD τ) ↦[S]{q} f) ∗ ((b.view.loc (c : Thread nD τ) ↦[S]{q} f) -∗ R))
/-- `R` lends elements `S` of `b`'s buffer for writing. -/
class Wr (c : Dev nD) (R : sProp 𝕄) {sp : Space} {s : Shape} {e : EltTy} (b : Memref sig .tc sp s e) (S : Finset (Idx (b.view.loc (c : Thread nD τ)))) : Prop where
  acc : R ⊢ iprop(∃ f, (b.view.loc (c : Thread nD τ) ↦[S]{fullShare} f) ∗ (∀ f', (b.view.loc (c : Thread nD τ) ↦[S]{fullShare} f') -∗ R))

section
variable {sp : Space} {s : Shape} {e : EltTy} {b : Memref sig .tc sp s e} {S : Finset (Idx (b.view.loc (c : Thread nD τ)))}
  {P : Buf (Elt F) (b.view.loc (c : Thread nD τ)) → Prop} {q : PosShare TreeShare}
instance Rd.own : Rd c (Own c b S q P) b S P where
  acc := by
    unfold Own; iintro ⟨%f, %h, H⟩; iexists q, f
    isplitr; · ipureintro; exact h
    isplitl [H]; · iexact H
    iintro H; iexists f; isplitr; · ipureintro; exact h
    iexact H
instance Wr.own : Wr c (Any (F := F) c b S) b S where
  acc := by
    unfold Any Own; iintro ⟨%f, -, H⟩; iexists f
    isplitl [H]; · iexact H
    iintro %f' H; iexists f'; isplitr; · ipureintro; trivial
    iexact H
instance (priority := 900) Rd.left {R R' : sProp 𝕄} [h : Rd (F := F) c R b S P] : Rd (F := F) c iprop(R ∗ R') b S P where
  acc := by
    refine (sep_mono h.acc .rfl).trans ?_
    iintro ⟨H, H'⟩
    icases H with ⟨%q, %f, %hp, H, Hk⟩
    iexists q, f; isplitr; · ipureintro; exact hp
    isplitl [H]; · iexact H
    iintro H; isplitl [H Hk]; · iapply Hk; iexact H
    iexact H'
instance (priority := 800) Rd.right {R R' : sProp 𝕄} [h : Rd (F := F) c R' b S P] : Rd (F := F) c iprop(R ∗ R') b S P where
  acc := by
    refine (sep_mono .rfl h.acc).trans ?_
    iintro ⟨H', H⟩
    icases H with ⟨%q, %f, %hp, H, Hk⟩
    iexists q, f; isplitr; · ipureintro; exact hp
    isplitl [H]; · iexact H
    iintro H; isplitl [H']; · iexact H'
    iapply Hk; iexact H
instance (priority := 900) Wr.left {R R' : sProp 𝕄} [h : Wr (F := F) c R b S] : Wr (F := F) c iprop(R ∗ R') b S where
  acc := by
    refine (sep_mono h.acc .rfl).trans ?_
    iintro ⟨H, H'⟩
    icases H with ⟨%f, H, Hk⟩
    iexists f
    isplitl [H]; · iexact H
    iintro %f' H; isplitl [H Hk]; · iapply Hk; iexact H
    iexact H'
instance (priority := 800) Wr.right {R R' : sProp 𝕄} [h : Wr (F := F) c R' b S] : Wr (F := F) c iprop(R ∗ R') b S where
  acc := by
    refine (sep_mono .rfl h.acc).trans ?_
    iintro ⟨H', H⟩
    icases H with ⟨%f, H, Hk⟩
    iexists f
    isplitl [H]; · iexact H
    iintro %f' H; isplitl [H']; · iexact H'
    iapply Hk; iexact H
end

/-- A load keeps what it is lent, and answers what the rectangle reads. -/
theorem T.load {cs : CoreSpace} {s : Shape} {e : EltTy} {b : Memref sig .tc cs s e} (S : Finset (Idx (b.view.loc (c : Thread nD τ))))
    {P : Buf (Elt F) (b.view.loc (c : Thread nD τ)) → Prop} {R : sProp 𝕄} {r : LoadRect s} {hl : b.view.LoadsAt r}
    [h : Rd c R b S P] (hS : b.view.setOn r.set ⊆ S) :
    T c R (Prog.lift (.load b r hl)) (fun v => iprop(⌜∃ f, P f ∧ v = b.view.readAt (Elt F) r f⌝ ∗ R)) := by
  unfold T
  iintro H
  have ha := h.acc
  icases ha $$ H with ⟨%q, %f, %hp, H, Hk⟩
  iapply (wp_load Variants.none (c : Thread nD τ) none Set.univ hS) $$ H
  iintro H
  rw [wp_ret]; imodintro
  isplitr; · ipureintro; exact ⟨f, hp, rfl⟩
  iapply Hk; iexact H
/-- A store through what it is lent. -/
theorem T.store {cs : CoreSpace} {s : Shape} {e : EltTy} {b : Memref sig .tc cs s e} {S : Finset (Idx (b.view.loc (c : Thread nD τ)))}
    {R : sProp 𝕄} {r : Rect s} {w : r.shape.Idx → Elt F e} {Mk : Finset r.shape.Idx} {hx : (b.access r).Stores Mk} {hm : Mk = Finset.univ ∨ ∀ a, r.stride a = 1}
    [h : Wr c R b S] (hS : (b.access r).setOn Mk ⊆ S) :
    T c R (Prog.lift (.store b r w Mk hx hm)) (fun _ => R) := by
  unfold T
  iintro H
  have ha := h.acc
  icases ha $$ H with ⟨%f, H, Hk⟩
  iapply (wp_store (m := b) (r := r) (f := f) Variants.none (c : Thread nD τ) none Set.univ (S := S) hS) $$ H
  iintro H
  rw [wp_ret]; imodintro
  iapply Hk; iexact H
/-- A store into elements held alone, with what they then hold. -/
theorem T.storeOwn {cs : CoreSpace} {s : Shape} {e : EltTy} {b : Memref sig .tc cs s e} {S : Finset (Idx (b.view.loc (c : Thread nD τ)))}
    {P P' : Buf (Elt F) (b.view.loc (c : Thread nD τ)) → Prop} {r : Rect s} {w : r.shape.Idx → Elt F e} {Mk : Finset r.shape.Idx} {hx : (b.access r).Stores Mk} {hm : Mk = Finset.univ ∨ ∀ a, r.stride a = 1}
    (hS : (b.access r).setOn Mk ⊆ S) (hP : ∀ f, P f → P' ((b.access r).write (Elt F) f w Mk)) :
    T c (Own c b S fullShare P) (Prog.lift (.store b r w Mk hx hm)) (fun _ => Own c b S fullShare P') := by
  unfold T Own
  iintro ⟨%f, %hf, H⟩
  iapply (wp_store (m := b) (r := r) (f := f) Variants.none (c : Thread nD τ) none Set.univ (S := S) hS) $$ H
  iintro H
  rw [wp_ret]; imodintro
  iexists _; isplitr; · ipureintro; exact hP f hf
  iexact H
/-- A scalar read. -/
theorem T.sload {s : Shape} {e : EltTy} {b : Memref sig .tc .smem s e} (S : Finset (Idx (b.view.loc (c : Thread nD τ))))
    {P : Buf (Elt F) (b.view.loc (c : Thread nD τ)) → Prop} {R : sProp 𝕄} {r : Rect s} {hn : r.shape.numel = 1} {hl : e.packing = 1}
    [h : Rd c R b S P] (hS : (b.access r).set ⊆ S) :
    T c R (smemLoad b r hn hl) (fun v => iprop(⌜∃ f, P f ∧ ∃ x, v = (b.access r).read (Elt F) f x⌝ ∗ R)) := by
  unfold T
  iintro H
  have ha := h.acc
  icases ha $$ H with ⟨%q, %f, %hp, H, Hk⟩
  iapply (wp_load_rect (m := b) (r := r) (f := f) (q := q) Variants.none (c : Thread nD τ) none Set.univ (S := S) hS) $$ H
  iintro H
  rw [wp_ret]; imodintro
  isplitr; · ipureintro; exact ⟨f, hp, _, rfl⟩
  iapply Hk; iexact H

/-! ### Transfers -/
/-- A transfer in flight on cell `sm` which, once waited for, gives `B`. -/
def Fly (c : Dev nD) (sm : SemLoc sig) (N : ℕ) (B : sProp 𝕄) : sProp 𝕄 :=
  iprop(∃ D X, Transfers.Flight EC (c : Thread nD τ) sm () N D ∗ X ∗ ⌜iprop(D ∗ X) ⊢ B⌝)
/-- The waits so far. -/
def Owes (c : Dev nD) : sProp 𝕄 := iprop(∃ W, owes (c : Thread nD τ) 0 W)

theorem T.start {sp sp' : Space} {s : Shape} {e : EltTy} {src : Memref sig .tc sp s e} {dst : Memref sig .tc sp' s e} {sm : DmaSem sig}
    {hs : src.view.WordExact} {hd : dst.view.WordExact} {ht : DmaTarget.Typed (nD := nD) sp (.dma sm) (DmaTarget.here (p := Proc.tc) dst)}
    {q : PosShare TreeShare} {fs : Buf (Elt F) (src.view.loc (c : Thread nD τ))} {Ss : Finset (Idx (src.view.loc (c : Thread nD τ)))}
    {Sd : Finset (Idx (dst.view.loc (c : Thread nD τ)))} {B : sProp 𝕄} {N : ℕ} (hN : dst.view.dmaCredit = N) (hN0 : 0 < s.numel) (hSs : src.view.set ⊆ Ss) (hSd : dst.view.set ⊆ Sd)
    (hB : ∀ fd, iprop((dst.view.loc (c : Thread nD τ) ↦[Sd]{fullShare} (dst.view.write (Elt F) fd (src.view.read (Elt F) fs) Finset.univ))
        ∗ (src.view.loc (c : Thread nD τ) ↦[Ss]{q} fs)) ⊢ B) :
    T c iprop((src.view.loc (c : Thread nD τ) ↦[Ss]{q} fs) ∗ (∃ fd, dst.view.loc (c : Thread nD τ) ↦[Sd]{fullShare} fd) ∗ semVal ((c : Thread nD τ), SemLoc.dma sm) 0)
      (Prog.lift (.enqueueDma src (.here dst) (.dma sm) hs hd ht)) (fun _ => Fly c (.dma sm) N B) := by
  unfold T Fly
  iintro ⟨Hs, ⟨%fd, Hd⟩, Hv⟩
  icases (pointsTo_split_subset hSs).1 $$ Hs with ⟨Hs, Hr⟩
  iapply (Transfers.wp_dmaLocal (src := src) (dst := dst) (sm := SemLoc.dma sm) EC Variants.none (c : Thread nD τ) none () N hN (hN ▸ View.dmaCredit_pos _ hN0) hSd) $$ [Hs Hd Hv]
  · isplitl [Hs]; · iexact Hs
    isplitl [Hd]; · iexact Hd
    iexact Hv
  iintro HF
  rw [wp_ret]; imodintro
  iexists _, _
  isplitl [HF]; · iexact HF
  isplitl [Hr]; · iexact Hr
  ipureintro
  iintro ⟨⟨Hd, Hs⟩, Hr⟩
  iapply (hB fd)
  isplitl [Hd]; · iexact Hd
  iapply (pointsTo_split_subset hSs).2
  isplitl [Hs]; · iexact Hs
  iexact Hr

theorem T.await {sp sp' : Space} {s : Shape} {e : EltTy} {src : Memref sig .tc sp s e} {dst : Memref sig .tc sp' s e} {sm : DmaSem sig}
    {hs : src.view.WordExact} {hd : dst.view.WordExact} {B : sProp 𝕄} {N : ℕ} (hN : dst.view.dmaCredit = N) :
    T c iprop(Fly c (.dma sm) N B ∗ Owes (F := F) c)
      (Prog.lift (.waitDma2 sm src dst hs hd)) (fun _ => iprop((B ∗ semVal ((c : Thread nD τ), SemLoc.dma sm) 0) ∗ Owes c)) := by
  unfold T Fly Owes
  iintro ⟨⟨%D, %X, HF, HX, %hB⟩, ⟨%W, HW⟩⟩
  iapply (Transfers.wp_waitLocal EC Variants.none (c : Thread nD τ) none () hN) $$ [HF HW]
  · isplitl [HF]; · iexact HF
    iexact HW
  iintro ⟨HD, Hv, HW⟩
  rw [wp_ret]; imodintro
  isplitl [HD HX Hv]
  · isplitl [HD HX]
    · iapply hB; isplitl [HD]; · iexact HD
      iexact HX
    iexact Hv
  iexists _; iexact HW

/-- The next transfer of a batch. -/
theorem T.startB {n : ℕ} {sp sp' : Space} {s : Shape} {e : EltTy} {src : Memref sig .tc sp s e} {dst : Memref sig .tc sp' s e} {sm : DmaSem sig}
    {hs : src.view.WordExact} {hd : dst.view.WordExact} {ht : DmaTarget.Typed (nD := nD) sp (.dma sm) (DmaTarget.here (p := Proc.tc) dst)}
    {D : Fin n → sProp 𝕄} {j : ℕ} {q : PosShare TreeShare} {fs : Buf (Elt F) (src.view.loc (c : Thread nD τ))} {fd : Buf (Elt F) (dst.view.loc (c : Thread nD τ))}
    (N : ℕ) (hN : dst.view.dmaCredit = N) (hj : j < n)
    (hD : iprop((dst.view.loc (c : Thread nD τ) ↦[dst.view.set]{fullShare} (dst.view.write (Elt F) fd (src.view.read (Elt F) fs) Finset.univ))
              ∗ (src.view.loc (c : Thread nD τ) ↦[src.view.set]{q} fs)) ⊢ D ⟨j, hj⟩) :
    T c iprop((src.view.loc (c : Thread nD τ) ↦[src.view.set]{q} fs) ∗ (dst.view.loc (c : Thread nD τ) ↦[dst.view.set]{fullShare} fd)
        ∗ Transfers.Batch EC (c : Thread nD τ) (.dma sm) () N D j 0)
      (Prog.lift (.enqueueDma src (.here dst) (.dma sm) hs hd ht)) (fun _ => Transfers.Batch EC (c : Thread nD τ) (.dma sm) () N D (j + 1) 0) := by
  unfold T
  have key := Transfers.wp_dmaBatch (src := src) (dst := dst) (sm := SemLoc.dma sm) (hsrc := hs) (hdst := hd) (hsem := ht) (via := .same) (k := fun _ => Prog.ret PUnit.unit)
    (Q := fun _ : PUnit => (Transfers.Batch EC (c : Thread nD τ) (.dma sm) () N D (j + 1) 0 : sProp 𝕄))
    EC Variants.none (c : Thread nD τ) (defs := defs₀ (F := F)) none () N hN (Finset.Subset.refl _) hj (Nat.zero_le _) hD
  refine key.trans ?_
  iintro Hk
  iapply Hk
  iintro HB
  rw [wp_ret]; imodintro
  iexact HB
/-- A wait on a batch all issued, not the last. -/
theorem T.awaitB {n : ℕ} {sp sp' : Space} {s : Shape} {e : EltTy} {src : Memref sig .tc sp s e} {dst : Memref sig .tc sp' s e} {sm : DmaSem sig}
    {hs : src.view.WordExact} {hd : dst.view.WordExact} {D : Fin n → sProp 𝕄} {N : ℕ} (hN : dst.view.dmaCredit = N) {u : ℕ} (hu : u + N < N * n) :
    T c iprop(Transfers.Batch EC (c : Thread nD τ) (.dma sm) () N D n u ∗ Owes (F := F) c)
      (Prog.lift (.waitDma2 sm src dst hs hd)) (fun _ => iprop(Transfers.Batch EC (c : Thread nD τ) (.dma sm) () N D n (u + N) ∗ Owes c)) := by
  unfold T Owes
  iintro ⟨HB, ⟨%W, HW⟩⟩
  iapply (Transfers.wp_waitBatch EC Variants.none (c : Thread nD τ) none () hN hu) $$ [HB HW]
  · isplitl [HB]; · iexact HB
    iexact HW
  iintro ⟨HD, HW⟩
  rw [wp_ret]; imodintro
  isplitl [HD]; · iexact HD
  iexists _; iexact HW
/-- The last. -/
theorem T.awaitLast {n : ℕ} {sp sp' : Space} {s : Shape} {e : EltTy} {src : Memref sig .tc sp s e} {dst : Memref sig .tc sp' s e} {sm : DmaSem sig}
    {hs : src.view.WordExact} {hd : dst.view.WordExact} {D : Fin n → sProp 𝕄} {N : ℕ} (hN : dst.view.dmaCredit = N) (hN0 : 0 < N) {u : ℕ} (hu : u + N = N * n) :
    T c iprop(Transfers.Batch EC (c : Thread nD τ) (.dma sm) () N D n u ∗ Owes (F := F) c)
      (Prog.lift (.waitDma2 sm src dst hs hd)) (fun _ => iprop((bigSep Finset.univ D ∗ semVal ((c : Thread nD τ), SemLoc.dma sm) 0) ∗ Owes c)) := by
  unfold T Owes
  iintro ⟨HB, ⟨%W, HW⟩⟩
  iapply (Transfers.wp_waitBatchLast EC Variants.none (c : Thread nD τ) none () hN hN0 hu) $$ [HB HW]
  · isplitl [HB]; · iexact HB
    iexact HW
  iintro ⟨HD, Hv, HW⟩
  rw [wp_ret]; imodintro
  isplitl [HD Hv]
  · isplitl [HD]; · iexact HD
    iexact Hv
  iexists _; iexact HW

end Cert.Kernel.Hand
-- ==== Proof.Vals.lean ====
module

public import proofs.«01_k».proof.Proof.Logic

/-! What is known of the values at each stage, as predicates with the laws that carry them from one
stage to the next: the proof of the body is stated over any such family. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

/-- The first half chunk of a pass of accumulation (`2 i + kt` numbers the halves of chunk `i`). -/
def first (m : ℕ) : Prop := m = 0 ∨ m = 56 ∨ 112 ≤ m

theorem sc28 (t : Fin 8) (b : Fin 2) : 2 * t.val + b.val < 28 := by omega
theorem half256 (a : Fin 2) : 128 * a.val + 128 ≤ 256 := by omega
theorem ka128 (kt a : Fin 2) : 2 * kt.val + a.val < 128 := by omega

/-- The contents of the arguments and what is known at each stage. -/
structure Vals0 (F : FTy → Type) [BitOps F] (c : Dev nD) where
  w2 : Buf (Elt F) (b2.view.loc (c : Thread nD τ))
  w6 : Buf (Elt F) (b6.view.loc (c : Thread nD τ))
  s3 : Buf (Elt F) (b3.view.loc (c : Thread nD τ))
  s7 : Buf (Elt F) (b7.view.loc (c : Thread nD τ))
  h0 : Buf (Elt F) (b0.view.loc (c : Thread nD τ))
  hs1 : Buf (Elt F) (b1.view.loc (c : Thread nD τ))
  res4 : Buf (Elt F) (b4.view.loc (c : Thread nD τ))
  nw5 : Buf (Elt F) (b5.view.loc (c : Thread nD τ))
  pos8 : Buf (Elt F) (b8.view.loc (c : Thread nD τ))
  fr9 : Buf (Elt F) (b9.view.loc (c : Thread nD τ))
  /-- the ring once chunk `i` is in its slot -/
  HW : ℕ → Buf (Elt F) (b16.view.loc (c : Thread nD τ)) → Prop
  /-- a scale -/
  SC : ℕ → Fin 2 → Fin 2 → Fin 8 → Fin 2 → Elt F .f32 → Prop
  /-- a scaled block, a tile, a tile of activations, an accumulator -/
  BK : ℕ → Fin 2 → Fin 8 → Fin 2 → Fin 2 → FVec F S128x128 .bf16 → Prop
  Tl : ℕ → Fin 8 → FVec F S256x256 .bf16 → Prop
  LH : ℕ → FVec F S256x256 .bf16 → Prop
  Acc : ℕ → Fin 8 → FVec F S256x256 .f32 → Prop
  /-- the activations' codes and scales, and the scaled activations, `n` groups of columns in -/
  HH : ℕ → Buf (Elt F) (b17.view.loc (c : Thread nD τ)) → Prop
  HS : Buf (Elt F) (b18.view.loc (c : Thread nD τ)) → Prop
  HR : ℕ → Buf (Elt F) (b19.view.loc (c : Thread nD τ)) → Prop
  HL : ℕ → Buf (Elt F) (b20.view.loc (c : Thread nD τ)) → Prop
  /-- the residual, its sum's tiles, the result's tiles -/
  HRes : Buf (Elt F) (b21.view.loc (c : Thread nD τ)) → Prop
  HRt : Fin 14 → Buf (Elt F) (b25.view.loc (c : Thread nD τ)) → Prop
  RO : Fin 14 → Buf (Elt F) (b10.view.loc (c : Thread nD τ)) → Prop

variable (V : Vals0 F c)
namespace Vals0
abbrev hwA' : Prop := ∀ (x : W) (h : K0 x) (fd : Buf (Elt F) (b16.view.loc (c : Thread nD τ))), V.HW x.toNat ((slotV (rem12 x) (rem12_lt h.lt)).view.write (Elt F) fd ((blkA x h).view.read (Elt F) V.w2) Finset.univ)
abbrev hwB' : Prop := ∀ (x : W) (h : K1 x) (fd : Buf (Elt F) (b16.view.loc (c : Thread nD τ))), V.HW x.toNat ((slotV1 (rem12 x) (rem12_lt h.lt)).view.write (Elt F) fd ((blkB x h).view.read (Elt F) V.w2) Finset.univ)
abbrev hwC' : Prop := ∀ (x : W) (h : K2 x) (fd : Buf (Elt F) (b16.view.loc (c : Thread nD τ))), V.HW x.toNat ((slotV (rem12 x) (rem12_lt h.lt)).view.write (Elt F) fd ((blkC x h).view.read (Elt F) V.w6) Finset.univ)
abbrev scA' : Prop := ∀ (x : W) (h : K0 x) (kt a : Fin 2) (t : Fin 8) (b : Fin 2) y, V.SC x.toNat kt a t b ((b3.access (Rect.unit (s := S112x28) ![rs0 x kt a, 2 * t.val + b.val] S1x1.size (inbS0 h kt a (sc28 t b)))).read (Elt F) V.s3 y)
abbrev scB' : Prop := ∀ (x : W) (h : K1 x) (kt a : Fin 2) (t : Fin 8) (b : Fin 2) (hc : (if t.val < 6 then 16 + (2 * t.val + b.val) else 0) < 28) y, V.SC x.toNat kt a t b ((b3.access (Rect.unit (s := S112x28) ![rs0 (Scalar.subi x 28#32) kt a, if t.val < 6 then 16 + (2 * t.val + b.val) else 0] S1x1.size (inbS0 h.sub kt a hc))).read (Elt F) V.s3 y)
abbrev scC' : Prop := ∀ (x : W) (h : K2 x) (kt a : Fin 2) (t : Fin 8) (b : Fin 2) y, V.SC x.toNat kt a t b ((b7.access (Rect.unit (s := S28x64) ![rs2 x kt a, cs2 x t b] S1x1.size (inbS2 (rs2_lt h kt a) (cs2_lt h t b)))).read (Elt F) V.s7 y)
abbrev bk' : Prop := ∀ (i : ℕ) (h : i % 12 < 12) (kt : Fin 2) (t : Fin 8) (a b : Fin 2) (f : Buf (Elt F) (b16.view.loc (c : Thread nD τ))) y, V.HW i f → V.SC i kt a t b y → V.BK i kt t a b
    (scaled (b16.view.readAt (Elt F) (Rect.unit (s := S12x512x2048) ![i % 12, 256 * kt.val + 128 * a.val, 256 * t.val + 128 * b.val] S1x128x128.size (inbTile h (krow kt a) (tcol t b))).toLoadRect f) y)
abbrev tl' : Prop := ∀ (i : ℕ) (kt : Fin 2) (t : Fin 8) v00 v01 v10 v11, V.BK i kt t 0 0 v00 → V.BK i kt t 0 1 v01 → V.BK i kt t 1 0 v10 → V.BK i kt t 1 1 v11 → V.Tl (2 * i + kt.val) t (quad v00 v01 v10 v11)
abbrev acc0' : Prop := ∀ (m : ℕ) (t : Fin 8) (v w : FVec F S256x256 .bf16), first m → V.LH m v → V.Tl m t w → V.Acc m t (Mxu.Staged.pass ⟨.bf16, false, w⟩ v)
abbrev accS' : Prop := ∀ (m : ℕ) (t : Fin 8) (v w : FVec F S256x256 .bf16) (r : FVec F S256x256 .f32), m + 1 ≠ 56 → V.Acc m t r → V.LH (m + 1) v → V.Tl (m + 1) t w → V.Acc (m + 1) t (addf r (Mxu.Staged.pass ⟨.bf16, false, w⟩ v))
abbrev lhD' : Prop := ∀ (x : W) (h : x.toNat < 28) (kt : Fin 2) (n : ℕ) (f : Buf (Elt F) (b20.view.loc (c : Thread nD τ))), V.HL n f → 4 * (x.toNat + 1) ≤ n →
    V.LH (2 * x.toNat + kt.val) (shapeCast S256x256 (b20.view.readAt (Elt F) (Rect.unit (s := S56x256x256) ![lhsRow x kt, 0, 0] S1x256x256.size (inbLhs (lhsRow_lt h kt))).toLoadRect f) shapeCasts_S1x256x256_S256x256)
    ∧ V.LH (56 + (2 * x.toNat + kt.val)) (shapeCast S256x256 (b20.view.readAt (Elt F) (Rect.unit (s := S56x256x256) ![lhsRow x kt, 0, 0] S1x256x256.size (inbLhs (lhsRow_lt h kt))).toLoadRect f) shapeCasts_S1x256x256_S256x256)
abbrev lhC' : Prop := ∀ m v, 112 ≤ m → V.LH m v
abbrev hh' : Prop := ∀ (x : W) (h : K0 x) (fd : Buf (Elt F) (b17.view.loc (c : Thread nD τ))), V.HH x.toNat ((hV x.toNat h).view.write (Elt F) fd ((hSrc x h).view.read (Elt F) V.h0) Finset.univ)
abbrev hsL' : Prop := ∀ (fd : Buf (Elt F) (b18.view.loc (c : Thread nD τ))), V.HS (b18.view.write (Elt F) fd (b1.view.read (Elt F) V.hs1) Finset.univ)
abbrev hr0' : Prop := ∀ (f : Buf (Elt F) (b19.view.loc (c : Thread nD τ))) (g : Buf (Elt F) (b18.view.loc (c : Thread nD τ))), V.HS g → V.HR 0 ((b19.access (Rect.unit (s := S256x128) ![0, 0] S256x112.size inb_S256x128_S256x112_0_0)).write (Elt F) f
    (shapeCast S256x112 (b18.view.readAt (Elt F) (Rect.unit (s := S256x112) ![0, 0] S256x112.size inb_S256x112_S256x112_0_0).toLoadRect g) shapeCasts_S256x112_S256x112) Finset.univ)
abbrev hrS' : Prop := ∀ (i : ℕ) (f g : Buf (Elt F) (b19.view.loc (c : Thread nD τ))), V.HR i g → V.HR (i + 1) ((b19.access (Rect.unit (s := S256x128) ![0, 0] S256x128.size inb_S256x128_S256x128_0_0)).write (Elt F) f
    (shapeCast S256x128 (dynamicRotate 1 124#32 none (b19.view.readAt (Elt F) (Rect.unit (s := S256x128) ![0, 0] S256x128.size inb_S256x128_S256x128_0_0).toLoadRect g) rotates_S256x128_d1 : FVec F S256x128 .f32) shapeCasts_S256x128_S256x128) Finset.univ)
abbrev hl' : Prop := ∀ (x : W) (h : K0 x) (kt a : Fin 2) (f : Buf (Elt F) (b20.view.loc (c : Thread nD τ))) (g : Buf (Elt F) (b17.view.loc (c : Thread nD τ))) (r : Buf (Elt F) (b19.view.loc (c : Thread nD τ))), V.HL (4 * x.toNat + 2 * kt.val + a.val) f → V.HH x.toNat g → V.HR x.toNat r → V.HL (4 * x.toNat + 2 * kt.val + a.val + 1)
    ((b20.access (Rect.unit (s := S56x256x256) ![lhsRow x kt, 0, 128 * a.val] S1x256x128.size (inbLt (lhsRow_lt h kt) (half256 a)))).write (Elt F) f
      (shapeCast S1x256x128 (widenVal (b17.view.readAt (Elt F) (Rect.unit (s := S28x256x512) ![x.toNat, 0, 256 * kt.val + 128 * a.val] S1x256x128.size (inbHt h (ktCol kt a))).toLoadRect g)
        (b19.view.readAt (Elt F) (Rect.unit (s := S256x128) ![0, 2 * kt.val + a.val] S256x1.size (inbHr (ka128 kt a))).toLoadRect r)) shapeCasts_S256x128_S1x256x128) Finset.univ)
abbrev hl0' : Prop := ∀ f, V.HL 0 f
abbrev resL' : Prop := ∀ (fd : Buf (Elt F) (b21.view.loc (c : Thread nD τ))), V.HRes (b21.view.write (Elt F) fd (b4.view.read (Elt F) V.res4) Finset.univ)
abbrev rt' : Prop := ∀ (t : Fin 14) (tt : Fin 8) (m : ℕ) (f : Buf (Elt F) (b21.view.loc (c : Thread nD τ))) (g : Buf (Elt F) (b25.view.loc (c : Thread nD τ))) r, (m = 55 ∧ t.val = tt.val ∨ m = 111 ∧ t.val = 8 + tt.val) → V.HRes f → V.Acc m tt r →
    V.HRt t ((b25.access (Rect.unit (s := S14x256x256) ![t.val, 0, 0] S1x256x256.size (inbX t.2))).write (Elt F) g
      (shapeCast S1x256x256 (resSum (b21.view.readAt (Elt F) (Rect.unit (s := S256x3584) ![0, 256 * t.val] S256x256.size (inbRes (tc256 t))).toLoadRect f) r) shapeCasts_S256x256_S1x256x256) Finset.univ)
abbrev ro' : Prop := ∀ (t : Fin 14) (f : Buf (Elt F) (b25.view.loc (c : Thread nD τ))) (fd : Buf (Elt F) (b10.view.loc (c : Thread nD τ))), V.HRt t f → V.RO t ((roDst t).view.write (Elt F) fd ((rTile t).view.read (Elt F) f) Finset.univ)
end Vals0

/-- The laws. -/
structure Vals (F : FTy → Type) [BitOps F] (c : Dev nD) extends Vals0 F c where
  hwA : toVals0.hwA'
  hwB : toVals0.hwB'
  hwC : toVals0.hwC'
  scA : toVals0.scA'
  scB : toVals0.scB'
  scC : toVals0.scC'
  bk : toVals0.bk'
  tl : toVals0.tl'
  acc0 : toVals0.acc0'
  accS : toVals0.accS'
  lhD : toVals0.lhD'
  lhC : toVals0.lhC'
  hh : toVals0.hh'
  hsL : toVals0.hsL'
  hr0 : toVals0.hr0'
  hrS : toVals0.hrS'
  hl : toVals0.hl'
  hl0 : toVals0.hl0'
  resL : toVals0.resL'
  rt : toVals0.rt'
  ro : toVals0.ro'

end Cert.Kernel.Hand
-- ==== Proof.Mx.lean ====
module

public import proofs.«01_k».proof.Proof.Vals

/-! The two matrix units through the body: what their registers and accumulators hold, and the triples of
a push, an accumulation, a step and a chunk of steps. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable (V : Vals F c)

def tix (j : Fin 4) (q : Fin 2) : Fin 8 := ⟨2 * j.val + q.val, by omega⟩

/-- Unit `q`'s register holds column pair `j`'s tile of half chunk `m` or nothing; accumulator `j` has taken in half
chunks up to `m` or nothing. -/
def Mx (s : Mxu F) (Wt : Fin 2 → Option (ℕ × Fin 4)) (A : Fin 2 → Fin 4 → Option ℕ) : Prop :=
  (∀ q, match Wt q with
    | none => s.reg q 0 = none
    | some p => ∃ v, V.Tl p.1 (tix p.2 q) v ∧ s.reg q 0 = some ⟨.bf16, false, v⟩)
  ∧ (∀ q, s.reg q 1 = none)
  ∧ ∀ q j, match A q j with
    | none => ∀ r : Fin 256, s.live q (Mxu.row (fitsJ j) r) = false
    | some m => (∀ r : Fin 256, s.live q (Mxu.row (fitsJ j) r) = true) ∧ V.Acc m (tix j q) (s.read q (64 * j.val) (fitsJ j))

def upW (Wt : Fin 2 → Option (ℕ × Fin 4)) (q : Fin 2) (v : Option (ℕ × Fin 4)) : Fin 2 → Option (ℕ × Fin 4) := fun q' => if q' = q then v else Wt q'
def upA (A : Fin 2 → Fin 4 → Option ℕ) (q : Fin 2) (j : Fin 4) (v : Option ℕ) : Fin 2 → Fin 4 → Option ℕ := fun q' j' => if q' = q ∧ j' = j then v else A q' j'
/-- Accumulators `j` of both units. -/
def setJ (A : Fin 2 → Fin 4 → Option ℕ) (j : Fin 4) (v : Option ℕ) : Fin 2 → Fin 4 → Option ℕ := fun q' j' => if j' = j then v else A q' j'
theorem upA_pair (A : Fin 2 → Fin 4 → Option ℕ) (j : Fin 4) (v : Option ℕ) : upA (upA A 0 j v) 1 j v = setJ A j v := by
  funext q' j'; unfold upA setJ; fin_cases q' <;> simp
theorem upW_pair (Wt : Fin 2 → Option (ℕ × Fin 4)) (v : Option (ℕ × Fin 4)) : upW (upW Wt 0 v) 1 v = fun _ => v := by
  funext q'; unfold upW; fin_cases q' <;> simp

/-- When a half chunk `m` may be accumulated over what is there. -/
def okc (e : Option ℕ) (m : ℕ) : Prop := match e with
  | none => first m
  | some m0 => m = m0 + 1 ∧ m ≠ 56

variable {V}
theorem Mx.init : Mx V Mxu.init (fun _ => none) (fun _ _ => none) :=
  ⟨fun q => by simp, fun q => by simp, fun q j => by simp⟩
theorem Mx.pushOk {s : Mxu F} {Wt A} (h : Mx V s Wt A) {q : Fin 2} (hq : Wt q = none) : s.PushOk q 0 false := by
  have := h.1 q; rw [hq] at this; exact Mxu.pushOk_of_none s q 0 _ this
theorem Mx.push {s : Mxu F} {Wt A} (h : Mx V s Wt A) {q : Fin 2} (hq : Wt q = none) {m : ℕ} {j : Fin 4} {v : FVec F S256x256 .bf16} (hv : V.Tl m (tix j q) v) :
    Mx V (s.pushed q 0 false v) (upW Wt q (some (m, j))) A := by
  have hn : s.reg q 0 = none := by have := h.1 q; rw [hq] at this; exact this
  refine ⟨fun q' => ?_, fun q' => ?_, fun q' j' => ?_⟩
  · unfold upW
    by_cases e : q' = q
    · subst e; simp only [if_true]; exact ⟨v, hv, Mxu.reg_pushed_of_none s _ 0 _ _ hn⟩
    · rw [if_neg e, Mxu.reg_pushed_ne s q 0 _ _ q' 0 (fun hh => e hh.1)]; exact h.1 q'
  · rw [Mxu.reg_pushed_ne s q 0 _ _ q' 1 (by simp)]; exact h.2.1 q'
  · rw [Mxu.live_pushed, Mxu.read_pushed]; exact h.2.2 q' j'
theorem Mx.acc {s : Mxu F} {Wt A} (h : Mx V s Wt A) {q : Fin 2} {m : ℕ} {j : Fin 4} (hq : Wt q = some (m, j)) {v : FVec F S256x256 .bf16} (hv : V.LH m v) (ho : okc (A q j) m) :
    Mx V (s.accLhs q 0 (64 * j.val) v (fitsJ j)) (upW Wt q none) (upA A q j (some m)) := by
  have hw := h.1 q; rw [hq] at hw; obtain ⟨w, hw, hr⟩ := hw
  have hst : s.staged q 0 = ⟨.bf16, false, w⟩ := by rw [Mxu.staged_eq, hr]; rfl
  refine ⟨fun q' => ?_, fun q' => ?_, fun q' j' => ?_⟩
  · unfold upW
    by_cases e : q' = q
    · subst e; simp only [if_true]; exact Mxu.reg_accLhs s _ 0 _ _ _
    · rw [if_neg e, Mxu.reg_accLhs_ne s q 0 _ _ _ q' 0 (fun hh => e hh.1)]; exact h.1 q'
  · rw [Mxu.reg_accLhs_ne s q 0 _ _ _ q' 1 (by simp)]; exact h.2.1 q'
  · unfold upA
    by_cases e : q' = q ∧ j' = j
    · obtain ⟨rfl, rfl⟩ := e
      simp only [and_self, if_true]
      refine ⟨fun r => Mxu.live_accLhs_row s _ 0 _ _ _ r, ?_⟩
      have ha := h.2.2 q' j'
      cases hA : A q' j' with
      | none =>
        rw [hA] at ha ho
        rw [Mxu.read_accLhs_of_not_live s _ 0 _ _ _ ha, hst]
        exact V.acc0 _ _ _ _ ho hv hw
      | some m0 =>
        rw [hA] at ha ho
        obtain ⟨rfl, h56⟩ := ho
        rw [Mxu.read_accLhs_of_live s _ 0 _ _ _ ha.1, hst]
        exact V.accS _ _ _ _ _ h56 ha.2 hv hw
    · rw [if_neg e]
      have hne : q' ≠ q ∨ 4 * (64 * j'.val) + 256 ≤ 4 * (64 * j.val) ∨ 4 * (64 * j.val) + 256 ≤ 4 * (64 * j'.val) := by
        by_cases e1 : q' = q
        · have : j'.val ≠ j.val := fun hh => e ⟨e1, Fin.ext hh⟩
          right; omega
        · exact .inl e1
      have hl : ∀ r : Fin 256, (s.accLhs q 0 (64 * j.val) v (fitsJ j)).live q' (Mxu.row (fitsJ j') r) = s.live q' (Mxu.row (fitsJ j') r) := by
        intro r; rw [Mxu.live_accLhs]; refine if_neg ?_
        have := r.2
        rintro ⟨rfl, h1, h2⟩
        simp only [Mxu.row] at h1 h2
        rcases hne with h | h | h
        · exact h rfl
        · omega
        · omega
      have ha := h.2.2 q' j'
      cases hA : A q' j' with
      | none => rw [hA] at ha; exact fun r => (hl r).trans (ha r)
      | some m0 => rw [hA] at ha; exact ⟨fun r => (hl r).trans (ha.1 r), by rw [Mxu.read_accLhs_ne s q 0 _ _ _ q' _ _ hne]; exact ha.2⟩
theorem Mx.pop {s : Mxu F} {Wt A} (h : Mx V s Wt A) (q : Fin 2) (j : Fin 4) : Mx V (s.pop q (64 * j.val) 256 (fitsJ j)) Wt (upA A q j none) := by
  refine ⟨fun q' => by rw [Mxu.reg_pop]; exact h.1 q', fun q' => by rw [Mxu.reg_pop]; exact h.2.1 q', fun q' j' => ?_⟩
  unfold upA
  by_cases e : q' = q ∧ j' = j
  · obtain ⟨rfl, rfl⟩ := e
    simp only [and_self, if_true]
    exact fun r => Mxu.live_pop_row s _ _ _ r
  · rw [if_neg e]
    have hne : q' ≠ q ∨ 4 * (64 * j'.val) + 256 ≤ 4 * (64 * j.val) ∨ 4 * (64 * j.val) + 256 ≤ 4 * (64 * j'.val) := by
      by_cases e1 : q' = q
      · have : j'.val ≠ j.val := fun hh => e ⟨e1, Fin.ext hh⟩
        right; omega
      · exact .inl e1
    have hl : ∀ r : Fin 256, (s.pop q (64 * j.val) 256 (fitsJ j)).live q' (Mxu.row (fitsJ j') r) = s.live q' (Mxu.row (fitsJ j') r) := by
      intro r; rw [Mxu.live_pop]; refine if_neg ?_
      have := r.2
      rintro ⟨rfl, h1, h2⟩
      simp only [Mxu.row] at h1 h2
      rcases hne with h | h | h
      · exact h rfl
      · omega
      · omega
    have ha := h.2.2 q' j'
    cases hA : A q' j' with
    | none => rw [hA] at ha; exact fun r => (hl r).trans (ha r)
    | some m0 => rw [hA] at ha; exact ⟨fun r => (hl r).trans (ha.1 r), by rw [Mxu.read_pop_ne s q _ _ q' _ _ hne]; exact ha.2⟩
theorem Mx.drained {s : Mxu F} (h : Mx V s (fun _ => none) (fun _ _ => none)) : s.Drained := by
  refine ⟨fun q r => ?_, fun q R => ?_⟩
  · fin_cases r
    · show (s.reg q 0).isNone = true; have := h.1 q; simp only at this; rw [this]; rfl
    · show (s.reg q 1).isNone = true; rw [h.2.1 q]; rfl
  · have h' := h.2.2 q ⟨R.val / 256, by omega⟩ ⟨R.val % 256, by omega⟩
    have : R = Mxu.row (fitsJ ⟨R.val / 256, by omega⟩) (⟨R.val % 256, by omega⟩ : Fin 256) := by
      apply Fin.ext; simp only [Mxu.row]; omega
    rw [this]; exact h'

/-! ### Triples -/
theorem T.pushRhs {R : sProp 𝕄} {s : Mxu F} {q : Fin 2} (v : FVec F S256x256 .bf16) (h : s.PushOk q 0 false) :
    T c R (s.pushRhs q 0 false v : PR F (Mxu F)) (fun s' => iprop(⌜s' = s.pushed q 0 false v⌝ ∗ R)) := by
  unfold T
  have key := Mxu.wp_pushRhs (defs := defs₀ (F := F)) (Q := fun s' => iprop(⌜s' = s.pushed q 0 false v⌝ ∗ R)) (𝒱 := Variants.none) (c := (c : Thread nD τ)) (bd := none) (E := Set.univ) v h (k := fun s' => .ret s')
  refine .trans ?_ key
  iintro H; rw [wp_ret]; imodintro
  isplitr; · ipureintro; rfl
  iexact H

/-- The slot of chunk `i` in the ring. -/
def slotSet (i : ℕ) : Finset S12x512x2048.Idx :=
  (Rect.unit (s := S12x512x2048) ![i % 12, 0, 0] S1x512x2048.size (inbSlot (Nat.mod_lt _ (by decide)))).set
/-- Chunk `i`'s codes and scales can be read. -/
structure SrcOK (V : Vals F c) (R : sProp 𝕄) (S : Src F) (i : ℕ) : Prop where
  slot : S.slot = i % 12
  sc : ∀ kt a t b, T c R (S.sc kt a t b) (fun y => iprop(⌜V.SC i kt a t b y⌝ ∗ R))
  ring : Rd c R b16 (slotSet i) (V.HW i)
/-- The activations of half chunks `m0`, `m0 + 1` can be read. -/
def LhsOK (V : Vals F c) (R : sProp 𝕄) (ld : Fin 2 → PR F (Vec F S1x256x256 .bf16)) (m0 : ℕ) : Prop :=
  ∀ kt : Fin 2, T c R (ld kt) (fun v => iprop(⌜V.LH (m0 + kt.val) (shapeCast S256x256 v shapeCasts_S1x256x256_S256x256)⌝ ∗ R))

theorem setOn_whole {b : Ref sig .tc} (M : Finset b.ty.shape.Idx) : (View.whole b : View sig .tc _ _ _).setOn M = M := by
  ext i; simp only [View.setOn, Finset.mem_map]
  exact ⟨fun ⟨a, ha, e⟩ => e ▸ ha, fun h => ⟨i, h, rfl⟩⟩
theorem slotV_set (s : ℕ) (h : s < 12) : (slotV s h).view.set = (Rect.unit (s := S12x512x2048) ![s, 0, 0] S1x512x2048.size (inbSlot h)).set :=
  (View.set_reshape _ _).trans (View.set_slice_whole _ _)
theorem ring_sub {s r col : ℕ} (h : s < 12) (hr : r + 128 ≤ 512) (hc : col + 128 ≤ 2048) :
    b16.view.setOn (Rect.unit (s := S12x512x2048) ![s, r, col] S1x128x128.size (inbTile h hr hc)).toLoadRect.set ⊆ (slotV s h).view.set := by
  rw [slotV_set]; refine (subset_of_eq (setOn_whole _)).trans ?_
  refine Rect.set_subset_of_span _ _ (fun _ => rfl) fun a => ?_
  fin_cases a <;> simp <;> omega

theorem T.ringLoad {R : sProp 𝕄} {i : ℕ} (h3 : Rd c R b16 (slotSet i) (V.HW i)) (hs : i % 12 < 12) {r col : ℕ} (hr : r + 128 ≤ 512) (hc : col + 128 ≤ 2048) :
    T c R (ringLoad (i % 12) hs r col hr hc) (fun v => iprop(⌜∃ f, V.HW i f ∧ v = b16.view.readAt (Elt F) (Rect.unit (s := S12x512x2048) ![i % 12, r, col] S1x128x128.size (inbTile hs hr hc)).toLoadRect f⌝ ∗ R)) := by
  have hsub := ring_sub hs hr hc
  rw [slotV_set] at hsub
  unfold Hand.ringLoad
  exact T.load (c := c) (b := b16) (h := h3) (slotSet i) hsub
theorem T.blk {R : sProp 𝕄} {S : Src F} {i : ℕ} (hS : SrcOK V R S i) (kt : Fin 2) (t : Fin 8) (a b : Fin 2) :
    T c R (blk S kt t a b) (fun v => iprop(⌜V.BK i kt t a b v⌝ ∗ R)) := by
  obtain ⟨slot, hs, sc⟩ := S
  obtain ⟨h1, h2, h3⟩ := hS
  dsimp only at h1; subst h1
  unfold Hand.blk
  refine T.seq (T.ringLoad h3 hs (krow kt a) (tcol t b)) fun v hv => ?_
  obtain ⟨f, hf, rfl⟩ := hv
  refine T.seq (h2 kt a t b) fun y hy => ?_
  refine T.pre ?_ (T.ret _)
  iintro H; isplitr
  · ipureintro; exact V.bk i hs kt t a b f y hf hy
  · iexact H
theorem T.tile {R : sProp 𝕄} {S : Src F} {i : ℕ} (hS : SrcOK V R S i) (kt : Fin 2) (t : Fin 8) :
    T c R (tile S kt t) (fun v => iprop(⌜V.Tl (2 * i + kt.val) t v⌝ ∗ R)) := by
  have hb := fun a b : Fin 2 => T.blk hS kt t a b
  unfold Hand.tile
  refine T.seq (hb 0 0) fun v0 h0 => T.seq (hb 0 1) fun v1 h1 => T.seq (hb 1 0) fun v2 h2 => T.seq (hb 1 1) fun v3 h3 => ?_
  refine T.pre ?_ (T.ret _)
  iintro H; isplitr
  · ipureintro; exact V.tl i kt t _ _ _ _ h0 h1 h2 h3
  · iexact H
theorem T.pushTile {R : sProp 𝕄} {S : Src F} {i : ℕ} (hS : SrcOK V R S i) (kt : Fin 2) (j : Fin 4) (q : Fin 2) {t : Fin 8} (ht : t = tix j q) {s : Mxu F} {Wt A} (h : Mx V s Wt A) (hq : Wt q = none) :
    T c R (pushTile S kt t q s) (fun s' => iprop(⌜Mx V s' (upW Wt q (some (2 * i + kt.val, j))) A⌝ ∗ R)) := by
  subst ht
  unfold Hand.pushTile
  refine T.seq (T.tile hS kt _) fun v hv => ?_
  refine (T.pushRhs v (h.pushOk hq)).post fun s' => ?_
  iintro ⟨%e, H⟩; isplitr
  · ipureintro; rw [e]; exact h.push hq hv
  · iexact H
theorem T.pushPair {R : sProp 𝕄} {S : Src F} {i : ℕ} (hS : SrcOK V R S i) (kt : Fin 2) (j : Fin 4) {s : Mxu F} {A} (h : Mx V s (fun _ => none) A) :
    T c R (pushPair S kt j s) (fun s' => iprop(⌜Mx V s' (fun _ => some (2 * i + kt.val, j)) A⌝ ∗ R)) := by
  unfold Hand.pushPair
  refine T.seq (T.pushTile hS kt j 0 (Fin.ext rfl) h rfl) fun s1 h1 => ?_
  refine (T.pushTile hS kt j 1 (Fin.ext rfl) h1 (by simp [upW])).post fun s' => ?_
  rw [upW_pair]
theorem T.accOne {R : sProp 𝕄} {ld : Fin 2 → PR F (Vec F S1x256x256 .bf16)} {m0 : ℕ} (hl : LhsOK V R ld m0) (kt : Fin 2) (j : Fin 4) (q : Fin 2) {s : Mxu F} {Wt A} (h : Mx V s Wt A)
    (hq : Wt q = some (m0 + kt.val, j)) (ho : okc (A q j) (m0 + kt.val)) :
    T c R (accOne ld kt j q s) (fun s' => iprop(⌜Mx V s' (upW Wt q none) (upA A q j (some (m0 + kt.val)))⌝ ∗ R)) := by
  unfold Hand.accOne
  refine T.seq (hl kt) fun v hv => ?_
  refine T.pre ?_ (T.ret _)
  iintro H; isplitr
  · ipureintro; exact h.acc hq hv ho
  · iexact H
theorem T.accPair {R : sProp 𝕄} {ld : Fin 2 → PR F (Vec F S1x256x256 .bf16)} {m0 : ℕ} (hl : LhsOK V R ld m0) (kt : Fin 2) (j : Fin 4) {s : Mxu F} {A} (h : Mx V s (fun _ => some (m0 + kt.val, j)) A)
    (ho : ∀ q, okc (A q j) (m0 + kt.val)) :
    T c R (accPair ld kt j s) (fun s' => iprop(⌜Mx V s' (fun _ => none) (setJ A j (some (m0 + kt.val)))⌝ ∗ R)) := by
  unfold Hand.accPair
  refine T.seq (T.accOne hl kt j 0 h rfl (ho 0)) fun s1 h1 => ?_
  refine (T.accOne hl kt j 1 h1 (by simp [upW]) (by simpa [upA] using ho 1)).post fun s' => ?_
  rw [upW_pair, upA_pair]
theorem T.stepP {R : sProp 𝕄} {ld : Fin 2 → PR F (Vec F S1x256x256 .bf16)} {m0 : ℕ} (hl : LhsOK V R ld m0) {S : Src F} {i : ℕ} (hS : SrcOK V R S i) (kt : Fin 2) (j : Fin 4) (kt' : Fin 2) (j' : Fin 4)
    {s : Mxu F} {A A'} (h : Mx V s (fun _ => some (m0 + kt.val, j)) A) (ho : ∀ q, okc (A q j) (m0 + kt.val)) (hA : setJ A j (some (m0 + kt.val)) = A') :
    T c R (stepP ld kt j S kt' j' s) (fun s' => iprop(⌜Mx V s' (fun _ => some (2 * i + kt'.val, j')) A'⌝ ∗ R)) := by
  subst hA
  unfold Hand.stepP
  exact T.seq (T.accPair hl kt j h ho) fun s1 h1 => T.pushPair hS kt' j' h1

/-- The accumulators by column pair. -/
def Ac (a b d e : Option ℕ) : Fin 2 → Fin 4 → Option ℕ := fun _ j => ![a, b, d, e] j
theorem Ac0 (a b d e v : Option ℕ) : setJ (Ac a b d e) 0 v = Ac v b d e := by funext q j; fin_cases j <;> rfl
theorem Ac1 (a b d e v : Option ℕ) : setJ (Ac a b d e) 1 v = Ac a v d e := by funext q j; fin_cases j <;> rfl
theorem Ac2 (a b d e v : Option ℕ) : setJ (Ac a b d e) 2 v = Ac a b v e := by funext q j; fin_cases j <;> rfl
theorem Ac3 (a b d e v : Option ℕ) : setJ (Ac a b d e) 3 v = Ac a b d v := by funext q j; fin_cases j <;> rfl

theorem T.steps4 {R : sProp 𝕄} {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e e)) (ho : okc e (2 * i)) (h56 : 2 * i + 1 ≠ 56) :
    T c R (steps4 ld S N s) (fun s' => iprop(⌜Mx V s' (fun _ => some (2 * i', 0)) (Ac (some (2 * i + 1)) (some (2 * i + 1)) (some (2 * i + 1)) (some (2 * i + 1)))⌝ ∗ R)) := by
  unfold Hand.steps4
  have h' : okc (some (2 * i)) (2 * i + 1) := ⟨rfl, h56⟩
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 0 3 h (fun _ => ho) (Ac2 ..)) fun s h => ?_
  refine T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  exact T.stepP hl hN 1 3 0 0 h (fun _ => h') (Ac3 ..)
theorem T.steps3 {R : sProp 𝕄} {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e none)) (ho : okc e (2 * i)) (h56 : 2 * i + 1 ≠ 56) :
    T c R (steps3 ld S N s) (fun s' => iprop(⌜Mx V s' (fun _ => some (2 * i', 0)) (Ac (some (2 * i + 1)) (some (2 * i + 1)) (some (2 * i + 1)) none)⌝ ∗ R)) := by
  unfold Hand.steps3
  have h' : okc (some (2 * i)) (2 * i + 1) := ⟨rfl, h56⟩
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 1 0 h (fun _ => ho) (Ac2 ..)) fun s h => ?_
  refine T.seq (T.stepP hl hS 1 0 1 1 h (fun _ => h') (Ac0 ..)) fun s h => ?_
  refine T.seq (T.stepP hl hS 1 1 1 2 h (fun _ => h') (Ac1 ..)) fun s h => ?_
  exact T.stepP hl hN 1 2 0 0 h (fun _ => h') (Ac2 ..)

end Cert.Kernel.Hand
-- ==== Proof.Ring.lean ====
module

public import proofs.«01_k».proof.Proof.Mx

/-! The ring of twelve weight slots: a slot idle, its copy in flight, its chunk landed; what a start and a
wait do to it, and the step every chunk takes. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

/-- The weakest precondition of the body's programs. -/
abbrev WP (c : Dev nD) {α : Type} (p : PR F α) (Q : α → sProp 𝕄) : sProp 𝕄 :=
  wp frame (wpE (defs₀ (F := F)) Variants.none (c : Thread nD τ) none) Set.univ p Q
theorem T.use {α β : Type} {P : sProp 𝕄} {p : PR F α} {Q : α → sProp 𝕄} {k : α → PR F β} {R : β → sProp 𝕄} (h : T c P p Q) :
    P ⊢ iprop((∀ a, Q a -∗ WP c (k a) R) -∗ WP c (p >>= k) R) := by
  unfold T at h; unfold WP; rw [wp_bind]; exact h.trans (wp_wand _ _ _)
theorem T.done {α : Type} {P : sProp 𝕄} {p : PR F α} {Q R : α → sProp 𝕄} (h : T c P p Q) :
    P ⊢ iprop((∀ a, Q a -∗ R a) -∗ WP c p R) := by
  unfold T at h; exact h.trans (wp_wand _ _ _)
theorem T.mk {α : Type} {P : sProp 𝕄} {p : PR F α} {Q : α → sProp 𝕄} (h : P ⊢ WP c p Q) : T c P p Q := h
/-- A counted loop by its invariant. -/
theorem loopT {σ : Type} {l : Scf.Loop 32} {hok : l.OK} {init : σ} {body : Fin l.trips → σ → PR F σ} (I : ℕ → σ → sProp 𝕄)
    (hb : ∀ (k : Fin l.trips) (a : σ), T c (I k.val a) (body k a) (I (k.val + 1))) : T c (I 0 init) (Scf.Loop.for l hok init body) (I l.trips) := by
  unfold T
  have := Scf.wp_for frame (wpE (defs₀ (F := F)) Variants.none (c : Thread nD τ) none) Set.univ l.lb l.ub l.st hok init body I (fun k a => hb k a) (Q := I l.trips)
  refine .trans ?_ this
  iintro H; isplitl [H]; · iexact H
  iintro %a H; iexact H

/-- `f a`, …, `f (a + k - 1)`. -/
def Sq (f : ℕ → sProp 𝕄) : ℕ → ℕ → sProp 𝕄
  | _, 0 => iprop(emp)
  | a, k + 1 => iprop(f a ∗ Sq f (a + 1) k)
theorem Sq_cons (f : ℕ → sProp 𝕄) (a k : ℕ) : Sq f a (k + 1) = iprop(f a ∗ Sq f (a + 1) k) := rfl
theorem Sq_snoc (f : ℕ → sProp 𝕄) (a k : ℕ) : iprop(Sq f a k ∗ f (a + k)) ⊣⊢ Sq f a (k + 1) := by
  induction k generalizing a with
  | zero =>
    simp only [Sq, Nat.add_zero]
    constructor
    · iintro ⟨-, H⟩; isplitl [H]; · iexact H
      iempintro
    · iintro ⟨H, -⟩; isplitr; · iempintro
      iexact H
  | succ k ih =>
    have e : a + (k + 1) = a + 1 + k := by omega
    rw [Sq_cons, Sq_cons f a (k + 1), e]
    constructor
    · iintro ⟨⟨H, H'⟩, H''⟩; isplitl [H]; · iexact H
      iapply (ih (a + 1)).1; isplitl [H']; · iexact H'
      iexact H''
    · iintro ⟨H, H'⟩
      icases (ih (a + 1)).2 $$ H' with ⟨H', H''⟩
      isplitl [H H']
      · isplitl [H]; · iexact H
        iexact H'
      iexact H''
theorem Sq_mono {f g : ℕ → sProp 𝕄} (h : ∀ i, f i ⊢ g i) (a k : ℕ) : Sq f a k ⊢ Sq g a k := by
  induction k generalizing a with
  | zero => exact .rfl
  | succ k ih =>
    show iprop(f a ∗ Sq f (a + 1) k) ⊢ iprop(g a ∗ Sq g (a + 1) k)
    exact BIClass.sep_mono (h a) (ih _)
theorem Sq_shift {f g : ℕ → sProp 𝕄} (n : ℕ) (h : ∀ i, f (i + n) ⊢ g i) (a k : ℕ) : Sq f (a + n) k ⊢ Sq g a k := by
  induction k generalizing a with
  | zero => exact .rfl
  | succ k ih =>
    have := ih (a + 1)
    rw [show a + 1 + n = a + n + 1 by omega] at this
    show iprop(f (a + n) ∗ Sq f (a + n + 1) k) ⊢ iprop(g a ∗ Sq g (a + 1) k)
    exact BIClass.sep_mono (h a) this

theorem Fly.frame {sm : SemLoc sig} {N : ℕ} {B : sProp 𝕄} (X : sProp 𝕄) : iprop(Fly c sm N B ∗ X) ⊢ Fly c sm N iprop(B ∗ X) := by
  unfold Fly
  iintro ⟨⟨%D, %X', HF, HX, %hB⟩, H⟩
  iexists D, iprop(X' ∗ X)
  isplitl [HF]; · iexact HF
  isplitl [HX H]
  · isplitl [HX]; · iexact HX
    iexact H
  ipureintro
  iintro ⟨HD, HX, H⟩
  isplitl [HD HX]
  · iapply hB; isplitl [HD]; · iexact HD
    iexact HX
  iexact H

theorem Fly.mono {sm : SemLoc sig} {N : ℕ} {B B' : sProp 𝕄} (h : B ⊢ B') : Fly c sm N B ⊢ Fly c sm N B' := by
  unfold Fly
  iintro ⟨%D, %X', HF, HX, %hB⟩
  iexists D, X'
  isplitl [HF]; · iexact HF
  isplitl [HX]; · iexact HX
  ipureintro; exact hB.trans h

/-! ### Slots -/
variable (V : Vals F c)
/-- Read share `s` of the two weight arrays. -/
def TK (s : ℕ) : sProp 𝕄 :=
  iprop((b2.view.loc (c : Thread nD τ) ↦[Finset.univ]{Transfers.shareTokN fullShare s} V.w2) ∗ (b6.view.loc (c : Thread nD τ) ↦[Finset.univ]{Transfers.shareTokN fullShare s} V.w6))
abbrev wSemI (i : ℕ) : DmaSem sig := wSem (i % 12) (Nat.mod_lt _ (by decide))
def cred (i : ℕ) : ℕ := if 28 ≤ i ∧ i < 56 then (slotV1 0 (by decide)).view.dmaCredit else (slotV 0 (by decide)).view.dmaCredit
/-- Slot of chunk `i` free. -/
def Idle (i : ℕ) : sProp 𝕄 := iprop(Any c b16 (slotSet i) ∗ semVal ((c : Thread nD τ), SemLoc.dma (wSemI i)) 0 ∗ TK V (i % 12))
/-- Chunk `i` in its slot. -/
abbrev Landed (i : ℕ) : sProp 𝕄 := iprop(Own c b16 (slotSet i) fullShare (V.HW i) ∗ semVal ((c : Thread nD τ), SemLoc.dma (wSemI i)) 0 ∗ TK V (i % 12))
/-- Chunk `i` on its way, or nothing past the last. -/
def Fl (i : ℕ) : sProp 𝕄 :=
  if i < 84 then Fly c (.dma (wSemI i)) (cred i) iprop(Own c b16 (slotSet i) fullShare (V.HW i) ∗ TK V (i % 12)) else Idle V i
def Ring (n : ℕ) : sProp 𝕄 := iprop(Landed V n ∗ Sq (Fl V) (n + 1) 10 ∗ Idle V (n + 11))

variable {V}
theorem slotSet_congr {i j : ℕ} (h : i % 12 = j % 12) : slotSet i = slotSet j := by unfold slotSet; simp only [h]
theorem Idle_congr {i j : ℕ} (h : i % 12 = j % 12) : Idle V i = Idle V j := by unfold Idle wSemI; rw [slotSet_congr h]; simp only [h]
theorem Any_of {sp : Space} {s : Shape} {e : EltTy} {b : Memref sig .tc sp s e} {S : Finset (Idx (b.view.loc (c : Thread nD τ)))} {P : Buf (Elt F) (b.view.loc (c : Thread nD τ)) → Prop} :
    Own (F := F) c b S fullShare P ⊢ Any c b S := by
  unfold Any Own; iintro ⟨%f, -, H⟩; iexists f; isplitr; · ipureintro; trivial
  iexact H
theorem Landed_idle (n : ℕ) : Landed V n ⊢ Idle V (n + 12) := by
  rw [Idle_congr (show (n + 12) % 12 = n % 12 by omega)]
  exact sep_mono Any_of .rfl
theorem Ring_next (n : ℕ) : iprop(Landed V n ∗ Landed V (n + 1) ∗ Sq (Fl V) (n + 2) 10) ⊢ Ring V (n + 1) := by
  unfold Ring
  iintro ⟨H1, H2, H3⟩
  isplitl [H2]; · iexact H2
  isplitl [H3]; · iexact H3
  iapply (Landed_idle n); iexact H1

theorem rem12_eq {x : W} (h : x.toNat < 96) : rem12 x = x.toNat % 12 :=
  allWords 96 (fun x => rem12 x = x.toNat % 12) (by decide +kernel) h
theorem slot1_sub (s : ℕ) (h : s < 12) : (slotV1 s h).view.set ⊆ (Rect.unit (s := S12x512x2048) ![s, 0, 0] S1x512x2048.size (inbSlot h)).set := by
  refine (subset_of_eq ((View.set_reshape _ _).trans (View.set_slice_whole _ _))).trans ?_
  refine Rect.set_subset_of_span _ _ (fun _ => rfl) fun a => ?_
  fin_cases a <;> simp

/-- The start of a copy into slot `s`. -/
theorem startAux {i s : ℕ} (hs : s < 12) (e : s = i % 12) {S : Shape} {dst : Memref sig .tc .vmem S .fp8e4m3} {src : Memref sig .tc .hbm S .fp8e4m3}
    {h1 : src.view.WordExact} {h2 : dst.view.WordExact} {h3 : DmaTarget.Typed (nD := nD) .hbm (.dma (wSem s hs)) (DmaTarget.here (p := Proc.tc) dst)}
    (Sd : Finset (Idx (dst.view.loc (c : Thread nD τ)))) (hsub : dst.view.set ⊆ Sd)
    (w : Buf (Elt F) (src.view.loc (c : Thread nD τ))) (q : PosShare TreeShare) (B : sProp 𝕄) (Pre : sProp 𝕄) {N : ℕ} (hN : dst.view.dmaCredit = N) (hN0 : 0 < S.numel)
    (hP : Pre ⊢ iprop((∃ fd, dst.view.loc (c : Thread nD τ) ↦[Sd]{fullShare} fd)))
    (hB : ∀ fd, iprop((dst.view.loc (c : Thread nD τ) ↦[Sd]{fullShare} (dst.view.write (Elt F) fd (src.view.read (Elt F) w) Finset.univ))
        ∗ (src.view.loc (c : Thread nD τ) ↦[Finset.univ]{q} w)) ⊢ B) :
    T c iprop(Pre ∗ semVal ((c : Thread nD τ), SemLoc.dma (wSemI i)) 0 ∗ (src.view.loc (c : Thread nD τ) ↦[Finset.univ]{q} w))
      (Prog.lift (.enqueueDma src (.here dst) (.dma (wSem s hs)) h1 h2 h3)) (fun _ => Fly c (.dma (wSemI i)) N B) := by
  subst e
  refine T.pre ?_ (T.start hN hN0 (Finset.subset_univ _) hsub hB)
  iintro ⟨HP, Hv, Hs⟩
  isplitl [Hs]; · iexact Hs
  isplitl [HP]; · iapply hP; iexact HP
  iexact Hv

theorem Own_intro {sp : Space} {s : Shape} {e : EltTy} {b : Memref sig .tc sp s e} {S : Finset (Idx (b.view.loc (c : Thread nD τ)))} {q : PosShare TreeShare} {P : Buf (Elt F) (b.view.loc (c : Thread nD τ)) → Prop}
    {f : Buf (Elt F) (b.view.loc (c : Thread nD τ))} (h : P f) : (b.view.loc (c : Thread nD τ) ↦[S]{q} f) ⊢ Own (F := F) c b S q P := by
  unfold Own; iintro H; iexists f; isplitr; · ipureintro; exact h
  iexact H
theorem Any_elim {sp : Space} {s : Shape} {e : EltTy} {b : Memref sig .tc sp s e} {S : Finset (Idx (b.view.loc (c : Thread nD τ)))} {q : PosShare TreeShare} {P : Buf (Elt F) (b.view.loc (c : Thread nD τ)) → Prop} :
    Own (F := F) c b S q P ⊢ iprop(∃ f, b.view.loc (c : Thread nD τ) ↦[S]{q} f) := by
  unfold Own; iintro ⟨%f, -, H⟩; iexists f; iexact H

theorem numel_pos2 : 0 < S512x2048.numel := by decide +kernel
theorem numel_pos1 : 0 < S512x1536.numel := by decide +kernel

theorem T.goA (x : W) (h : K0 x) : T c (Idle V x.toNat) (startA x h) (fun _ => Fl V x.toNat) := by
  have e : rem12 x = x.toNat % 12 := rem12_eq (by have := h.lt; omega)
  unfold Fl; rw [if_pos h.lt]
  have hc : cred x.toNat = (slotV 0 (by decide)).view.dmaCredit := by unfold cred; rw [if_neg (by have := h; unfold K0 at this; omega)]
  have hset : (slotV (rem12 x) (rem12_lt h.lt)).view.set ⊆ slotSet x.toNat := by
    rw [slotV_set]; unfold slotSet; simp only [e]; exact fun _ h => h
  unfold Hand.startA
  refine T.pre ?_ ((T.frame (b6.view.loc (c : Thread nD τ) ↦[Finset.univ]{Transfers.shareTokN fullShare (x.toNat % 12)} V.w6)
    (startAux (dst := slotV (rem12 x) (rem12_lt h.lt)) (src := blkA x h) (rem12_lt h.lt) e (slotSet x.toNat) hset V.w2 (Transfers.shareTokN fullShare (x.toNat % 12))
      iprop(Own c b16 (slotSet x.toNat) fullShare (V.HW x.toNat) ∗ (b2.view.loc (c : Thread nD τ) ↦[Finset.univ]{Transfers.shareTokN fullShare (x.toNat % 12)} V.w2)) (Any c b16 (slotSet x.toNat)) hc.symm numel_pos2 Any_elim
      (fun fd => sep_mono (Own_intro (b := b16) (V.hwA x h fd)) .rfl))).post fun _ => ?_)
  · unfold Idle TK
    iintro ⟨HA, Hv, H2, H6⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H2]; · iexact H2
    iexact H3
theorem T.goB (x : W) (h : K1 x) : T c (Idle V x.toNat) (Hand.startB x h) (fun _ => Fl V x.toNat) := by
  have e : rem12 x = x.toNat % 12 := rem12_eq (by have := h.lt; omega)
  unfold Fl; rw [if_pos h.lt]
  have hc : cred x.toNat = (slotV1 0 (by decide)).view.dmaCredit := by unfold cred; rw [if_pos ⟨h.1, h.2⟩]
  have hset : (slotV1 (rem12 x) (rem12_lt h.lt)).view.set ⊆ slotSet x.toNat := by
    refine (slot1_sub _ _).trans ?_; unfold slotSet; simp only [e]; exact fun _ h => h
  unfold Hand.startB
  refine T.pre ?_ ((T.frame (b6.view.loc (c : Thread nD τ) ↦[Finset.univ]{Transfers.shareTokN fullShare (x.toNat % 12)} V.w6)
    (startAux (dst := slotV1 (rem12 x) (rem12_lt h.lt)) (src := blkB x h) (rem12_lt h.lt) e (slotSet x.toNat) hset V.w2 (Transfers.shareTokN fullShare (x.toNat % 12))
      iprop(Own c b16 (slotSet x.toNat) fullShare (V.HW x.toNat) ∗ (b2.view.loc (c : Thread nD τ) ↦[Finset.univ]{Transfers.shareTokN fullShare (x.toNat % 12)} V.w2)) (Any c b16 (slotSet x.toNat)) hc.symm numel_pos1 Any_elim
      (fun fd => sep_mono (Own_intro (b := b16) (V.hwB x h fd)) .rfl))).post fun _ => ?_)
  · unfold Idle TK
    iintro ⟨HA, Hv, H2, H6⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H2]; · iexact H2
    iexact H3
theorem T.goC (x : W) (h : K2 x) : T c (Idle V x.toNat) (startC x h) (fun _ => Fl V x.toNat) := by
  have e : rem12 x = x.toNat % 12 := rem12_eq (by have := h.lt; omega)
  unfold Fl; rw [if_pos h.lt]
  have hc : cred x.toNat = (slotV 0 (by decide)).view.dmaCredit := by unfold cred; rw [if_neg (by have := h.1; omega)]
  have hset : (slotV (rem12 x) (rem12_lt h.lt)).view.set ⊆ slotSet x.toNat := by
    rw [slotV_set]; unfold slotSet; simp only [e]; exact fun _ h => h
  unfold Hand.startC
  refine T.pre ?_ ((T.frame (b2.view.loc (c : Thread nD τ) ↦[Finset.univ]{Transfers.shareTokN fullShare (x.toNat % 12)} V.w2)
    (startAux (dst := slotV (rem12 x) (rem12_lt h.lt)) (src := blkC x h) (rem12_lt h.lt) e (slotSet x.toNat) hset V.w6 (Transfers.shareTokN fullShare (x.toNat % 12))
      iprop(Own c b16 (slotSet x.toNat) fullShare (V.HW x.toNat) ∗ (b6.view.loc (c : Thread nD τ) ↦[Finset.univ]{Transfers.shareTokN fullShare (x.toNat % 12)} V.w6)) (Any c b16 (slotSet x.toNat)) hc.symm numel_pos2 Any_elim
      (fun fd => sep_mono (Own_intro (b := b16) (V.hwC x h fd)) .rfl))).post fun _ => ?_)
  · unfold Idle TK
    iintro ⟨HA, Hv, H6, H2⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H3]; · iexact H3
    iexact H2
theorem T.waitA (x : W) (h : K0 x) : T c iprop(Fl V x.toNat ∗ Owes (F := F) c) (waitA x h) (fun _ => iprop(Landed V x.toNat ∗ Owes c)) := by
  have e : rem12 x = x.toNat % 12 := rem12_eq (by have := h.lt; omega)
  have hc : cred x.toNat = (slotV 0 (by decide)).view.dmaCredit := by unfold cred; rw [if_neg (by have := h; unfold K0 at this; omega)]
  have hsm : wSem (rem12 x) (rem12_lt h.lt) = wSemI x.toNat := by unfold wSemI; simp only [e]
  unfold Fl; rw [if_pos h.lt]
  unfold Hand.waitA
  rw [hsm]
  refine (T.await (src := blkA x h) (dst := slotV (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4
theorem T.waitB (x : W) (h : K1 x) : T c iprop(Fl V x.toNat ∗ Owes (F := F) c) (waitB x h) (fun _ => iprop(Landed V x.toNat ∗ Owes c)) := by
  have e : rem12 x = x.toNat % 12 := rem12_eq (by have := h.lt; omega)
  have hc : cred x.toNat = (slotV1 0 (by decide)).view.dmaCredit := by unfold cred; rw [if_pos ⟨h.1, h.2⟩]
  have hsm : wSem (rem12 x) (rem12_lt h.lt) = wSemI x.toNat := by unfold wSemI; simp only [e]
  unfold Fl; rw [if_pos h.lt]
  unfold Hand.waitB
  rw [hsm]
  refine (T.await (src := blkB x h) (dst := slotV1 (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4
theorem T.waitC (x : W) (h : K2 x) : T c iprop(Fl V x.toNat ∗ Owes (F := F) c) (waitC x h) (fun _ => iprop(Landed V x.toNat ∗ Owes c)) := by
  have e : rem12 x = x.toNat % 12 := rem12_eq (by have := h.lt; omega)
  have hc : cred x.toNat = (slotV 0 (by decide)).view.dmaCredit := by unfold cred; rw [if_neg (by have := h.1; omega)]
  have hsm : wSem (rem12 x) (rem12_lt h.lt) = wSemI x.toNat := by unfold wSemI; simp only [e]
  unfold Fl; rw [if_pos h.lt]
  unfold Hand.waitC
  rw [hsm]
  refine (T.await (src := blkC x h) (dst := slotV (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4

/-- The start of whichever chunk `x` is (none past the last). -/
theorem T.startW {α : Type} {x : W} {hx : x.toNat < 96} {X : sProp 𝕄} {k : PR F α} {Q : α → sProp 𝕄} (hk : T c iprop(Fl V x.toNat ∗ X) k Q) :
    T c iprop(Idle V x.toNat ∗ X) (Hand.startW x hx k) Q := by
  have n0 : ∀ P : sProp 𝕄, ¬ K0 x → T c P (startW0 x hx : PR F PUnit) (fun _ => P) := fun P hn => by
    unfold Hand.startW0; rw [dif_neg (fun hh => hn ((cnd0_iff hx).1 hh))]; exact T.ret (Q := fun _ => P) PUnit.unit
  have n1 : ∀ P : sProp 𝕄, ¬ K1 x → T c P (startW1 x hx : PR F PUnit) (fun _ => P) := fun P hn => by
    unfold Hand.startW1; rw [dif_neg (fun hh => hn ((cnd1_iff hx).1 hh))]; exact T.ret (Q := fun _ => P) PUnit.unit
  have n2 : ∀ P : sProp 𝕄, ¬ K2 x → T c P (startW2 x hx : PR F PUnit) (fun _ => P) := fun P hn => by
    unfold Hand.startW2; rw [dif_neg (fun hh => hn ((cnd2_iff hx).1 hh))]; exact T.ret (Q := fun _ => P) PUnit.unit
  unfold Hand.startW
  by_cases h0 : K0 x
  · have p0 : T c (Idle V x.toNat) (startW0 x hx) (fun _ => Fl V x.toNat) := by
      unfold Hand.startW0; rw [dif_pos ((cnd0_iff hx).2 h0)]
      exact ((T.goA x _).bind fun _ => T.ret (Q := fun _ => Fl V x.toNat) PUnit.unit)
    have h1 : ¬ K1 x := by unfold K0 at h0; unfold K1; omega
    have h2 : ¬ K2 x := by unfold K0 at h0; unfold K2; omega
    exact (p0.frame X).bind fun _ => (n1 _ h1).bind fun _ => (n2 _ h2).bind fun _ => hk
  by_cases h1 : K1 x
  · have p1 : T c (Idle V x.toNat) (startW1 x hx) (fun _ => Fl V x.toNat) := by
      unfold Hand.startW1; rw [dif_pos ((cnd1_iff hx).2 h1)]
      exact ((T.goB x _).bind fun _ => T.ret (Q := fun _ => Fl V x.toNat) PUnit.unit)
    have h2 : ¬ K2 x := by unfold K1 at h1; unfold K2; omega
    exact (n0 _ h0).bind fun _ => (p1.frame X).bind fun _ => (n2 _ h2).bind fun _ => hk
  by_cases h2 : K2 x
  · have p2 : T c (Idle V x.toNat) (startW2 x hx) (fun _ => Fl V x.toNat) := by
      unfold Hand.startW2; rw [dif_pos ((cnd2_iff hx).2 h2)]
      exact ((T.goC x _).bind fun _ => T.ret (Q := fun _ => Fl V x.toNat) PUnit.unit)
    exact (n0 _ h0).bind fun _ => (n1 _ h1).bind fun _ => (p2.frame X).bind fun _ => hk
  · have hF : Fl V x.toNat = Idle V x.toNat := by
      unfold Fl; rw [if_neg]; unfold K0 at h0; unfold K1 at h1; unfold K2 at h2; omega
    rw [hF] at hk
    exact (n0 _ h0).bind fun _ => (n1 _ h1).bind fun _ => (n2 _ h2).bind fun _ => hk

/-- Chunk `n` and the next at hand, the ten after on their way. -/
abbrev Ring2 (V : Vals F c) (n : ℕ) : sProp 𝕄 := iprop(Landed V n ∗ Landed V (n + 1) ∗ Sq (Fl V) (n + 2) 10)
/-- The next chunk awaited, the one eleven on not yet started. -/
def Mid (V : Vals F c) (n : ℕ) : sProp 𝕄 := iprop(Landed V n ∗ Landed V (n + 1) ∗ Sq (Fl V) (n + 2) 9 ∗ Idle V (n + 11))
theorem T.ringWait {n : ℕ} {X : sProp 𝕄} {w : PR F PUnit} (hw : T c iprop(Fl V (n + 1) ∗ Owes (F := F) c) w (fun _ => iprop(Landed V (n + 1) ∗ Owes c))) :
    T c iprop((Ring V n ∗ Owes (F := F) c) ∗ X) w (fun _ => iprop((Mid V n ∗ Owes c) ∗ X)) := by
  refine T.pre ?_ ((hw.frame iprop(Sq (Fl V) (n + 2) 9 ∗ Idle V (n + 11) ∗ Landed V n ∗ X)).post fun _ => ?_)
  · unfold Ring
    rw [Sq_cons]
    iintro ⟨⟨⟨HL, ⟨HF, HS⟩, HI⟩, HO⟩, HX⟩
    isplitl [HF HO]
    · isplitl [HF]; · iexact HF
      iexact HO
    isplitl [HS]; · iexact HS
    isplitl [HI]; · iexact HI
    isplitl [HL]; · iexact HL
    iexact HX
  · unfold Mid
    iintro ⟨⟨HL', HO⟩, HS, HI, HL, HX⟩
    isplitr [HX]
    · isplitr [HO]
      · isplitl [HL]; · iexact HL
        isplitl [HL']; · iexact HL'
        isplitl [HS]; · iexact HS
        iexact HI
      iexact HO
    iexact HX
theorem Ring2_of (n : ℕ) : iprop(Fl V (n + 11) ∗ Landed V n ∗ Landed V (n + 1) ∗ Sq (Fl V) (n + 2) 9) ⊢ Ring2 V n := by
  iintro ⟨HF, H1, H2, HS⟩
  isplitl [H1]; · iexact H1
  isplitl [H2]; · iexact H2
  have e : n + 11 = n + 2 + 9 := by omega
  rw [e]
  iapply (Sq_snoc (Fl V) (n + 2) 9).1
  isplitl [HS]; · iexact HS
  iexact HF
theorem T.ringGo {α : Type} {n : ℕ} {x : W} {hx : x.toNat < 96} (e : x.toNat = n + 11) {k : PR F α} {X : sProp 𝕄} {Q : α → sProp 𝕄}
    (hk : T c iprop((Ring2 V n ∗ Owes (F := F) c) ∗ X) k Q) : T c iprop((Mid V n ∗ Owes (F := F) c) ∗ X) (Hand.startW x hx k) Q := by
  have hk' : T c iprop(Fl V x.toNat ∗ ((Landed V n ∗ Landed V (n + 1) ∗ Sq (Fl V) (n + 2) 9) ∗ Owes (F := F) c ∗ X)) k Q := by
    refine T.pre ?_ hk
    rw [e]
    iintro ⟨HF, HL, HO, HX⟩
    isplitr [HX]
    · isplitr [HO]
      · iapply (Ring2_of n); isplitl [HF]; · iexact HF
        iexact HL
      iexact HO
    iexact HX
  refine T.pre ?_ (T.startW hk')
  rw [e]; unfold Mid
  iintro ⟨⟨⟨H1, H2, HS, HI⟩, HO⟩, HX⟩
  isplitl [HI]; · iexact HI
  isplitl [H1 H2 HS]
  · isplitl [H1]; · iexact H1
    isplitl [H2]; · iexact H2
    iexact HS
  isplitl [HO]; · iexact HO
  iexact HX
theorem T.ringGo' {n : ℕ} {X : sProp 𝕄} {w : PR F PUnit} (hw : T c (Idle V (n + 11)) w (fun _ => Fl V (n + 11))) :
    T c iprop((Mid V n ∗ Owes (F := F) c) ∗ X) w (fun _ => iprop((Ring2 V n ∗ Owes c) ∗ X)) := by
  refine T.pre ?_ ((hw.frame iprop((Landed V n ∗ Landed V (n + 1) ∗ Sq (Fl V) (n + 2) 9) ∗ Owes (F := F) c ∗ X)).post fun _ => ?_)
  · unfold Mid
    iintro ⟨⟨⟨H1, H2, HS, HI⟩, HO⟩, HX⟩
    isplitl [HI]; · iexact HI
    isplitl [H1 H2 HS]
    · isplitl [H1]; · iexact H1
      isplitl [H2]; · iexact H2
      iexact HS
    isplitl [HO]; · iexact HO
    iexact HX
  · iintro ⟨HF, HL, HO, HX⟩
    isplitr [HX]
    · isplitr [HO]
      · iapply (Ring2_of n); isplitl [HF]; · iexact HF
        iexact HL
      iexact HO
    iexact HX

/-! ### What the steps read -/
theorem srcA_ok {R : sProp 𝕄} {i : ℕ} {x : W} (h : K0 x) (e : x.toNat = i) [hr : Rd c R b16 (slotSet i) (V.HW i)] [h3 : Rd c R b3 Finset.univ (fun f => f = V.s3)] : SrcOK V R (srcA x h) i := by
  subst e
  refine ⟨rem12_eq (by have := h.lt; omega), fun kt a t b => ?_, hr⟩
  show T c R (scA x h (fun t b => 2 * t.val + b.val) (fun t b => by omega) kt a t b) _
  unfold scA
  refine T.post (T.sload (c := c) (b := b3) (h := h3) Finset.univ (by exact fun _ _ => Finset.mem_univ _)) fun y => ?_
  iintro ⟨%hy, H⟩
  isplitr
  · ipureintro; obtain ⟨f, rfl, y', rfl⟩ := hy; exact V.scA x h kt a t b y'
  · iexact H
theorem srcB_ok {R : sProp 𝕄} {i : ℕ} {x : W} (h : K1 x) (e : x.toNat = i) [hr : Rd c R b16 (slotSet i) (V.HW i)] [h3 : Rd c R b3 Finset.univ (fun f => f = V.s3)] : SrcOK V R (srcB x h) i := by
  subst e
  refine ⟨rem12_eq (by have := h.lt; omega), fun kt a t b => ?_, hr⟩
  show T c R (scA (Scalar.subi x 28#32) h.sub (fun t b => if t.val < 6 then 16 + (2 * t.val + b.val) else 0) (fun t b => by split <;> omega) kt a t b) _
  unfold scA
  refine T.post (T.sload (c := c) (b := b3) (h := h3) Finset.univ (by exact fun _ _ => Finset.mem_univ _)) fun y => ?_
  iintro ⟨%hy, H⟩
  isplitr
  · ipureintro; obtain ⟨f, rfl, y', rfl⟩ := hy; exact V.scB x h kt a t b (by split <;> omega) y'
  · iexact H
theorem srcC_ok {R : sProp 𝕄} {i : ℕ} {x : W} (h : K2 x) (e : x.toNat = i) [hr : Rd c R b16 (slotSet i) (V.HW i)] [h3 : Rd c R b7 Finset.univ (fun f => f = V.s7)] : SrcOK V R (srcC x h) i := by
  subst e
  refine ⟨rem12_eq (by have := h.lt; omega), fun kt a t b => ?_, hr⟩
  unfold srcC
  dsimp only
  refine T.post (T.sload (c := c) (b := b7) (h := h3) Finset.univ (by exact fun _ _ => Finset.mem_univ _)) fun y => ?_
  iintro ⟨%hy, H⟩
  isplitr
  · ipureintro; obtain ⟨f, rfl, y', rfl⟩ := hy; exact V.scC x h kt a t b y'
  · iexact H
theorem lhsD_okA {R : sProp 𝕄} {x : W} (h : x.toNat < 28) {n i : ℕ} (e : 2 * x.toNat = i) (hn : 4 * (x.toNat + 1) ≤ n) [hr : Rd c R b20 Finset.univ (V.HL n)] : LhsOK V R (lhsD x h) i := fun kt => by
  subst e
  refine (T.load (c := c) (b := b20) (h := hr) Finset.univ (Finset.subset_univ _)).post fun v => ?_
  iintro ⟨%hv, H⟩
  isplitr
  · ipureintro; obtain ⟨f, hf, rfl⟩ := hv; exact (V.lhD x h kt n f hf hn).1
  · iexact H
theorem lhsD_okB {R : sProp 𝕄} {x : W} (h : x.toNat < 28) {n i : ℕ} (e : 56 + 2 * x.toNat = i) (hn : 4 * (x.toNat + 1) ≤ n) [hr : Rd c R b20 Finset.univ (V.HL n)] : LhsOK V R (lhsD x h) i := fun kt => by
  subst e
  refine (T.load (c := c) (b := b20) (h := hr) Finset.univ (Finset.subset_univ _)).post fun v => ?_
  iintro ⟨%hv, H⟩
  isplitr
  · ipureintro; obtain ⟨f, hf, rfl⟩ := hv; rw [Nat.add_assoc]; exact (V.lhD x h kt n f hf hn).2
  · iexact H
theorem lhsQ_ok {R : sProp 𝕄} {x : W} (h : x.toNat < 7) {i : ℕ} (hi : 112 ≤ i) {P : Buf (Elt F) (b29.view.loc (c : Thread nD τ)) → Prop} [hr : Rd c R b29 Finset.univ P] : LhsOK V R (lhsQ x h) i := fun kt => by
  refine (T.load (c := c) (b := b29) (h := hr) Finset.univ (Finset.subset_univ _)).post fun v => ?_
  iintro ⟨%hv, H⟩
  isplitr
  · ipureintro; exact V.lhC _ _ (by omega)
  · iexact H

end Cert.Kernel.Hand
-- ==== Proof.Steps.lean ====
module

public import proofs.«01_k».proof.Proof.Ring

/-! The activations widened chunk by chunk, and the chunks of the first product. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

theorem T.seq' {α β : Type} {R R' : sProp 𝕄} {p : PR F α} {V : α → Prop} {k : α → PR F β} {Q : β → sProp 𝕄}
    (h : T c R p (fun a => iprop(⌜V a⌝ ∗ R'))) (hk : ∀ a, V a → T c R' (k a) Q) : T c R (p >>= k) Q :=
  h.bind fun a => T.fact (hk a)

variable (V : Vals F c)
/-- The accumulators before chunk `i` of a pass of four column pairs, its first tiles pushed; of three. -/
def MxA (i : ℕ) (s : Mxu F) : Prop := ∃ e, okc e (2 * i) ∧ Mx V s (fun _ => some (2 * i, 0)) (Ac e e e e)
def MxB (i : ℕ) (s : Mxu F) : Prop := ∃ e, okc e (2 * i) ∧ Mx V s (fun _ => some (2 * i, 0)) (Ac e e e none)

/-! ### The activations' copies -/
def hset (i : ℕ) : Finset S28x256x512.Idx :=
  (Rect.unit (s := S28x256x512) ![i % 28, 0, 0] S1x256x512.size (inbH (Nat.mod_lt _ (by decide)))).set
abbrev hSemI (i : ℕ) : DmaSem sig := hSem (i % 28) (Nat.mod_lt _ (by decide))
abbrev credH : ℕ := (hV 0 (by decide)).view.dmaCredit
abbrev HTk (i : ℕ) : sProp 𝕄 := iprop(b0.view.loc (c : Thread nD τ) ↦[Finset.univ]{Transfers.shareTokN fullShare (i % 28)} V.h0)
def HId (i : ℕ) : sProp 𝕄 := iprop(Any c b17 (hset i) ∗ semVal ((c : Thread nD τ), SemLoc.dma (hSemI i)) 0 ∗ HTk V i)
abbrev HLd (i : ℕ) : sProp 𝕄 := iprop(Own c b17 (hset i) fullShare (V.HH i) ∗ semVal ((c : Thread nD τ), SemLoc.dma (hSemI i)) 0 ∗ HTk V i)
def HFl (i : ℕ) : sProp 𝕄 := Fly c (.dma (hSemI i)) credH iprop(Own c b17 (hset i) fullShare (V.HH i) ∗ HTk V i)
/-- The first `k` landed, the rest on their way. -/
def HSt (k : ℕ) : sProp 𝕄 := iprop(Sq (HLd V) 0 k ∗ Sq (HFl V) k (28 - k))
abbrev B3 : sProp 𝕄 := Own c b3 Finset.univ fullShare (fun f => f = V.s3)
abbrev B7 : sProp 𝕄 := Own c b7 Finset.univ fullShare (fun f => f = V.s7)
abbrev B19 (n : ℕ) : sProp 𝕄 := Own c b19 Finset.univ fullShare (V.HR n)
abbrev B20 (n : ℕ) : sProp 𝕄 := Own c b20 Finset.univ fullShare (V.HL n)

variable {V}
theorem hV_set (s : ℕ) (h : s < 28) : (hV s h).view.set = (Rect.unit (s := S28x256x512) ![s, 0, 0] S1x256x512.size (inbH h)).set :=
  (View.set_reshape _ _).trans (View.set_slice_whole _ _)
theorem numel_posH : 0 < S256x512.numel := by decide +kernel
theorem T.goH (x : W) (h : K0 x) : T c (HId V x.toNat) (startH x h) (fun _ => HFl V x.toNat) := by
  have e : x.toNat % 28 = x.toNat := Nat.mod_eq_of_lt h
  have hset' : (hV x.toNat h).view.set ⊆ hset x.toNat := by
    refine (subset_of_eq (hV_set x.toNat h)).trans ?_
    unfold hset; simp only [e]; exact fun _ h => h
  have hsm : hSem x.toNat h = hSemI x.toNat := by unfold hSemI; simp only [e]
  unfold Hand.startH HFl
  rw [← hsm]
  refine T.pre ?_ (T.start (N := credH) (src := hSrc x h) (dst := hV x.toNat h) (fs := V.h0) (Ss := Finset.univ) (q := Transfers.shareTokN fullShare (x.toNat % 28)) (Sd := hset x.toNat) rfl numel_posH (Finset.subset_univ _) hset'
    (fun fd => sep_mono (Own_intro (b := b17) (V.hh x h fd)) .rfl))
  unfold HId
  rw [← hsm]
  iintro ⟨HA, Hv, H0⟩
  isplitl [H0]; · iexact H0
  isplitl [HA]; · iapply Any_elim; iexact HA
  iexact Hv
theorem T.waitH (x : W) (h : K0 x) : T c iprop(HFl V x.toNat ∗ Owes (F := F) c) (waitH x h) (fun _ => iprop(HLd V x.toNat ∗ Owes c)) := by
  have e : x.toNat % 28 = x.toNat := Nat.mod_eq_of_lt h
  have hsm : hSem x.toNat h = hSemI x.toNat := by unfold hSemI; simp only [e]
  unfold Hand.waitH HFl
  rw [hsm]
  refine (T.await (src := hSrc x h) (dst := hV x.toNat h) (N := credH) rfl).post fun _ => ?_
  iintro ⟨⟨⟨H1, H2⟩, H3⟩, H4⟩
  isplitr [H4]
  · isplitl [H1]; · iexact H1
    isplitl [H3]; · iexact H3
    iexact H2
  iexact H4
/-- The wait for the next of the activations' copies. -/
theorem T.waitHSt {x : W} {n : ℕ} (e : x.toNat = n) (h : K0 x) {X : sProp 𝕄} :
    T c iprop(Owes (F := F) c ∗ HSt V n ∗ X) (Hand.waitH x h) (fun _ => iprop(Owes c ∗ Sq (HLd V) 0 n ∗ HLd V n ∗ Sq (HFl V) (n + 1) (27 - n) ∗ X)) := by
  have h28 : n < 28 := e ▸ h
  have hw := T.waitH (V := V) (c := c) x h
  rw [e] at hw
  refine T.pre ?_ ((hw.frame iprop(Sq (HLd V) 0 n ∗ Sq (HFl V) (n + 1) (27 - n) ∗ X)).post fun _ => ?_)
  · unfold HSt
    rw [show 28 - n = (27 - n) + 1 by omega, Sq_cons]
    iintro ⟨HO, ⟨H1, H2, H3⟩, HX⟩
    isplitl [H2 HO]
    · isplitl [H2]; · iexact H2
      iexact HO
    isplitl [H1]; · iexact H1
    isplitl [H3]; · iexact H3
    iexact HX
  · iintro ⟨⟨HL, HO⟩, H1, H3, HX⟩
    isplitl [HO]; · iexact HO
    isplitl [H1]; · iexact H1
    isplitl [HL]; · iexact HL
    isplitl [H3]; · iexact H3
    iexact HX
theorem HSt_next {n : ℕ} (h : n < 28) : iprop(Sq (HLd V) 0 n ∗ HLd V n ∗ Sq (HFl V) (n + 1) (27 - n)) ⊢ HSt V (n + 1) := by
  unfold HSt
  rw [show 28 - (n + 1) = 27 - n by omega]
  iintro ⟨H1, H2, H3⟩
  isplitr [H3]
  · iapply (Sq_snoc (HLd V) 0 n).1
    rw [Nat.zero_add]
    isplitl [H1]; · iexact H1
    iexact H2
  iexact H3

/-! ### Widening -/
theorem hset_sub {s col : ℕ} (h : s < 28) (hc : col + 128 ≤ 512) :
    b17.view.setOn (Rect.unit (s := S28x256x512) ![s, 0, col] S1x256x128.size (inbHt h hc)).toLoadRect.set ⊆ hset s := by
  refine (subset_of_eq (setOn_whole _)).trans ?_
  unfold hset
  refine Rect.set_subset_of_span _ _ (fun _ => rfl) fun a => ?_
  have e : s % 28 = s := Nat.mod_eq_of_lt h
  fin_cases a <;> simp [e] <;> omega
theorem T.widenOne (x : W) (h : K0 x) (kt a : Fin 2) :
    T c iprop(B20 V (4 * x.toNat + 2 * kt.val + a.val) ∗ Own c b17 (hset x.toNat) fullShare (V.HH x.toNat) ∗ B19 V x.toNat) (widenOne x h kt a)
      (fun _ => iprop(B20 V (4 * x.toNat + 2 * kt.val + a.val + 1) ∗ Own c b17 (hset x.toNat) fullShare (V.HH x.toNat) ∗ B19 V x.toNat)) := by
  unfold Hand.widenOne widenHead
  refine T.seq (V := fun w => ∃ g r, V.HH x.toNat g ∧ V.HR x.toNat r ∧ w = widenVal (b17.view.readAt (Elt F) (Rect.unit (s := S28x256x512) ![x.toNat, 0, 256 * kt.val + 128 * a.val] S1x256x128.size (inbHt h (ktCol kt a))).toLoadRect g)
        (b19.view.readAt (Elt F) (Rect.unit (s := S256x128) ![0, 2 * kt.val + a.val] S256x1.size (inbHr (ka128 kt a))).toLoadRect r)) ?_ fun w hw => ?_
  · refine T.seq (T.load (c := c) (b := b17) (hset x.toNat) (hset_sub h (ktCol kt a))) fun v hv => ?_
    obtain ⟨g, hg, rfl⟩ := hv
    refine T.seq (T.load (c := c) (b := b19) Finset.univ (Finset.subset_univ _)) fun v hv => ?_
    obtain ⟨r, hr, rfl⟩ := hv
    refine T.pre ?_ (T.ret _)
    iintro H; isplitr
    · ipureintro; exact ⟨g, r, hg, hr, rfl⟩
    · iexact H
  · obtain ⟨g, r, hg, hr, rfl⟩ := hw
    refine T.seq (T.load (c := c) (b := b20) Finset.univ (Finset.subset_univ _)) fun v hv => ?_
    have hst := T.storeOwn (c := c) (b := b20) (S := Finset.univ) (P := V.HL (4 * x.toNat + 2 * kt.val + a.val)) (P' := V.HL (4 * x.toNat + 2 * kt.val + a.val + 1))
      (r := Rect.unit (s := S56x256x256) ![lhsRow x kt, 0, 128 * a.val] S1x256x128.size (inbLt (lhsRow_lt h kt) (half256 a)))
      (hx := View.stores_vmem h_S1x256x128 ((Memref.isWhole_whole _).storeExact_slice rfl _ (prLt (lhsRow_lt h kt) a)) (fun _ => rfl)) (hm := .inl rfl)
      (Finset.subset_univ _) (fun f hf => V.hl x h kt a f g r hf hg hr)
    exact hst.frame _
theorem T.widenH (x : W) (h : K0 x) :
    T c iprop(B20 V (4 * x.toNat) ∗ Own c b17 (hset x.toNat) fullShare (V.HH x.toNat) ∗ B19 V x.toNat) (widenH x h)
      (fun _ => iprop(B20 V (4 * (x.toNat + 1)) ∗ Own c b17 (hset x.toNat) fullShare (V.HH x.toNat) ∗ B19 V (x.toNat + 1))) := by
  unfold Hand.widenH
  refine (T.widenOne x h 0 0).bind fun _ => (T.widenOne x h 0 1).bind fun _ => (T.widenOne x h 1 0).bind fun _ => (T.widenOne x h 1 1).bind fun _ => ?_
  refine T.seq (T.load (c := c) (b := b19) Finset.univ (Finset.subset_univ _)) fun v hv => ?_
  obtain ⟨r, hr, rfl⟩ := hv
  refine T.seq (T.load (c := c) (b := b19) Finset.univ (Finset.subset_univ _)) fun v' _ => ?_
  have hst := (T.storeOwn (c := c) (b := b19) (S := Finset.univ) (P := V.HR x.toNat) (P' := V.HR (x.toNat + 1)) (hx := View.stores_vmem_bits_univ h_S256x128 rfl) (hm := .inl rfl)
    (r := Rect.unit (s := S256x128) ![0, 0] S256x128.size inb_S256x128_S256x128_0_0) (Finset.subset_univ _) (fun f _ => V.hrS x.toNat f r hr)).frame iprop(B20 V (4 * (x.toNat + 1)) ∗ Own c b17 (hset x.toNat) fullShare (V.HH x.toNat))
  refine T.pre ?_ (hst.post fun _ => ?_)
  · iintro ⟨H1, H2, H3⟩
    isplitl [H3]; · iexact H3
    isplitl [H1]; · iexact H1
    iexact H2
  · iintro ⟨H3, H1, H2⟩
    isplitl [H1]; · iexact H1
    isplitl [H2]; · iexact H2
    iexact H3

/-! ### The chunks -/
theorem MxA.next {i : ℕ} {s : Mxu F} (h : Mx V s (fun _ => some (2 * (i + 1), 0)) (Ac (some (2 * i + 1)) (some (2 * i + 1)) (some (2 * i + 1)) (some (2 * i + 1)))) (hi : i ≠ 27) : MxA V (i + 1) s :=
  ⟨some (2 * i + 1), ⟨by omega, by omega⟩, h⟩
theorem MxB.next {i : ℕ} {s : Mxu F} (h : Mx V s (fun _ => some (2 * (i + 1), 0)) (Ac (some (2 * i + 1)) (some (2 * i + 1)) (some (2 * i + 1)) none)) (hi : i ≠ 27) : MxB V (i + 1) s :=
  ⟨some (2 * i + 1), ⟨by omega, by omega⟩, h⟩

/-- What the first loop carries. -/
abbrev StA (V : Vals F c) (n : ℕ) : sProp 𝕄 := iprop((Ring V n ∗ Owes (F := F) c) ∗ B3 V ∗ HSt V (n + 1) ∗ B19 V (n + 1) ∗ B20 V (4 * (n + 1)))
theorem T.chunkA {x : W} {n : ℕ} (e : x.toNat = n) (h : K0 x) (h' : K0 (Scalar.addi x 1#32)) {s : Mxu F} (hM : MxA V n s) :
    T c (StA V n) (chunkA x h h' s) (fun s' => iprop(⌜MxA V (n + 1) s'⌝ ∗ StA V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hn : n + 1 < 28 := e1 ▸ h'
  have hw := T.waitA (V := V) (c := c) _ h'
  have hd := T.widenH (V := V) (c := c) _ h'
  rw [e1] at hw hd
  obtain ⟨e0, ho, hm⟩ := hM
  unfold Hand.chunkA
  refine T.pre ?_ ((T.waitHSt (V := V) e1 h' (X := iprop(Ring V n ∗ B3 V ∗ B19 V (n + 1) ∗ B20 V (4 * (n + 1))))).bind fun _ => ?_)
  · iintro ⟨⟨HR, HO⟩, H3, HS, H19, H20⟩
    isplitl [HO]; · iexact HO
    isplitl [HS]; · iexact HS
    isplitl [HR]; · iexact HR
    isplitl [H3]; · iexact H3
    isplitl [H19]; · iexact H19
    iexact H20
  refine T.pre ?_ ((T.ringWait (X := iprop(B3 V ∗ B20 V (4 * (n + 1)) ∗ Own c b17 (hset (n + 1)) fullShare (V.HH (n + 1)) ∗ B19 V (n + 1)
    ∗ (semVal ((c : Thread nD τ), SemLoc.dma (hSemI (n + 1))) 0 ∗ HTk V (n + 1)) ∗ Sq (HLd V) 0 (n + 1) ∗ Sq (HFl V) (n + 1 + 1) (27 - (n + 1)))) hw).bind fun _ => T.ringGo e11 ?_)
  · iintro ⟨HO, HL, ⟨H17, H⟩, HF, HR, H3, H19, H20⟩
    isplitl [HR HO]
    · isplitl [HR]; · iexact HR
      iexact HO
    isplitl [H3]; · iexact H3
    isplitl [H20]; · iexact H20
    isplitl [H17]; · iexact H17
    isplitl [H19]; · iexact H19
    isplitl [H]; · iexact H
    isplitl [HL]; · iexact HL
    iexact HF
  refine T.seq (T.steps4 (i := n) (i' := n + 1) (e := e0) (lhsD_okA (n := 4 * (n + 1)) h (by omega) (by omega)) (srcA_ok h e) (srcA_ok h' e1) hm ho (by omega)) fun s' hs' => ?_
  refine T.pre ?_ (((hd.frame iprop(B3 V ∗ (Ring2 V n ∗ Owes (F := F) c)
    ∗ (semVal ((c : Thread nD τ), SemLoc.dma (hSemI (n + 1))) 0 ∗ HTk V (n + 1)) ∗ Sq (HLd V) 0 (n + 1) ∗ Sq (HFl V) (n + 1 + 1) (27 - (n + 1)))).bind fun _ => T.pre ?_ (T.ret _)))
  · iintro ⟨HR, H3, H20, H17, H19, H⟩
    isplitl [H20 H17 H19]
    · isplitl [H20]; · iexact H20
      isplitl [H17]; · iexact H17
      iexact H19
    isplitl [H3]; · iexact H3
    isplitl [HR]; · iexact HR
    iexact H
  · iintro ⟨⟨H20, H17, H19⟩, H3, ⟨HR, HO⟩, H, HL, HF⟩
    isplitr
    · ipureintro; exact MxA.next hs' (by omega)
    isplitl [HR HO]
    · isplitl [HR]; · iapply (Ring_next n); iexact HR
      iexact HO
    isplitl [H3]; · iexact H3
    isplitl [H17 H HL HF]
    · iapply (HSt_next (V := V) hn)
      isplitl [HL]; · iexact HL
      isplitl [H17 H]
      · isplitl [H17]; · iexact H17
        iexact H
      iexact HF
    isplitl [H19]; · iexact H19
    iexact H20

/-- What the second carries. -/
abbrev StB (V : Vals F c) (n : ℕ) : sProp 𝕄 := iprop((Ring V n ∗ Owes (F := F) c) ∗ B3 V ∗ B20 V 112)
theorem T.chunkB {x : W} {n : ℕ} (e : x.toNat = n) (h : K1 x) (h' : K1 (Scalar.addi x 1#32)) {s : Mxu F} (hM : MxB V n s) :
    T c (StB V n) (chunkB x h h' s) (fun s' => iprop(⌜MxB V (n + 1) s'⌝ ∗ StB V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hw := T.waitB (V := V) (c := c) _ h'
  rw [e1] at hw
  have h28 : 28 ≤ n := e ▸ h.1
  have hsub : (Scalar.subi x 28#32).toNat = n - 28 := by
    rw [← e]; exact allWords 56 (fun x => 28 ≤ x.toNat → (Scalar.subi x 28#32).toNat = x.toNat - 28) (by decide +kernel) h.2 h.1
  have h56 : n < 56 := e ▸ h.2
  obtain ⟨e0, ho, hm⟩ := hM
  unfold Hand.chunkB
  refine (T.ringWait (X := iprop(B3 V ∗ B20 V 112)) hw).bind fun _ => T.ringGo e11 ?_
  refine (T.steps3 (i := n) (i' := n + 1) (e := e0) (lhsD_okB (n := 112) h.sub (by omega) (by omega)) (srcB_ok h e) (srcB_ok h' e1) hm ho (by omega)).post fun s' => ?_
  iintro ⟨%hs', ⟨HR, HO⟩, HX⟩
  isplitr
  · ipureintro; exact MxB.next hs' (by omega)
  isplitl [HR HO]
  · isplitl [HR]; · iapply (Ring_next n); iexact HR
    iexact HO
  iexact HX

theorem iv1n (t : Fin k0_t1_loop.trips) : (Scf.iv 0#32 1#32 t.val : W).toNat = t.val := by revert t; decide +kernel
theorem iv2n (t : Fin k0_t2_loop.trips) : (Scf.iv 29#32 1#32 t.val : W).toNat = 29 + t.val := by revert t; decide +kernel
theorem T.loop1 {s : Mxu F} (h : MxA V 0 s) : T c (StA V 0) (loop1 s) (fun s' => iprop(⌜MxA V 27 s'⌝ ∗ StA V 27)) := by
  unfold Hand.loop1
  refine T.pre ?_ ((loopT (fun k s' => iprop(⌜MxA V k s'⌝ ∗ StA V k)) fun k a => T.fact fun hM => T.chunkA (iv1n k) (iv1K k) (iv1K' k) hM).post fun s' => ?_)
  · iintro H; isplitr
    · ipureintro; exact h
    · iexact H
  · exact .rfl
theorem T.loop2 {s : Mxu F} (h : MxB V 29 s) : T c (StB V 29) (loop2 s) (fun s' => iprop(⌜MxB V 55 s'⌝ ∗ StB V 55)) := by
  unfold Hand.loop2
  refine T.pre ?_ ((loopT (fun k s' => iprop(⌜MxB V (29 + k) s'⌝ ∗ StB V (29 + k))) fun k a => T.fact fun hM => T.chunkB (iv2n k) (iv2K k) (iv2K' k) hM).post fun s' => ?_)
  · iintro H; isplitr
    · ipureintro; exact h
    · iexact H
  · exact .rfl

end Cert.Kernel.Hand
-- ==== Proof.Down.lean ====
module

public import proofs.«01_k».proof.Proof.Steps

/-! A tile of the residual sum popped, written out and its squares gathered. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

def f14 (i : ℕ) : Fin 14 := ⟨i % 14, Nat.mod_lt _ (by decide)⟩
theorem f14_val (t : Fin 14) : f14 t.val = t := Fin.ext (Nat.mod_eq_of_lt t.2)
def rset (t : Fin 14) : Finset S14x256x256.Idx := (rTile t).view.set
def roset (t : Fin 14) : Finset S256x3584.Idx := (roDst t).view.set
theorem rset_eq (t : Fin 14) : rset t = (Rect.unit (s := S14x256x256) ![t.val, 0, 0] S1x256x256.size (inbX t.2)).set :=
  (View.set_reshape _ _).trans (View.set_slice_whole _ _)
abbrev cRo : ℕ := (roDst 0).view.dmaCredit

variable (V : Vals F c)
/-- What copy `t` of the result leaves. -/
abbrev Dro (t : Fin 14) : sProp 𝕄 := iprop(Own c b10 (roset t) fullShare (V.RO t) ∗ Own (F := F) c b25 (rset t) fullShare.right (fun _ => True))
/-- `j` of the result's copies started. -/
abbrev BRo (j : ℕ) : sProp 𝕄 := Transfers.Batch EC (c : Thread nD τ) (.dma (oSem 0 (by decide))) () cRo (Dro V) j 0
abbrev RTd (i : ℕ) : sProp 𝕄 := Own (F := F) c b25 (rset (f14 i)) fullShare.left (fun _ => True)
abbrev RTi (i : ℕ) : sProp 𝕄 := iprop(Any (F := F) c b25 (rset (f14 i)) ∗ Any (F := F) c b10 (roset (f14 i)))
/-- The first `t` tiles popped. -/
def PD (t : ℕ) : sProp 𝕄 := iprop((Sq (RTd (F := F) (c := c)) 0 t ∗ Sq (RTi (F := F) (c := c)) t (14 - t) ∗ BRo V t) ∗ Any (F := F) c b26 Finset.univ)

variable {V}
theorem PD_take (t : Fin 14) : PD V t.val ⊢ iprop(Any (F := F) c b25 (rset t) ∗ Any (F := F) c b10 (roset t) ∗ Sq (RTd (F := F) (c := c)) 0 t.val ∗ Sq (RTi (F := F) (c := c)) (t.val + 1) (13 - t.val) ∗ BRo V t.val ∗ Any (F := F) c b26 Finset.univ) := by
  unfold PD
  rw [show 14 - t.val = (13 - t.val) + 1 by omega, Sq_cons]
  unfold RTi
  rw [f14_val]
  iintro ⟨⟨H1, ⟨⟨H2, H3⟩, H4⟩, H5⟩, H6⟩
  isplitl [H2]; · iexact H2
  isplitl [H3]; · iexact H3
  isplitl [H1]; · iexact H1
  isplitl [H4]; · iexact H4
  isplitl [H5]; · iexact H5
  iexact H6
theorem PD_put (t : Fin 14) : iprop(Own (F := F) c b25 (rset t) fullShare.left (fun _ => True) ∗ BRo V (t.val + 1) ∗ Sq (RTd (F := F) (c := c)) 0 t.val ∗ Sq (RTi (F := F) (c := c)) (t.val + 1) (13 - t.val) ∗ Any (F := F) c b26 Finset.univ) ⊢ PD V (t.val + 1) := by
  unfold PD
  rw [show 14 - (t.val + 1) = 13 - t.val by omega]
  iintro ⟨H1, H2, H3, H4, H5⟩
  isplitr [H5]
  · isplitl [H1 H3]
    · iapply (Sq_snoc (RTd (F := F) (c := c)) 0 t.val).1
      isplitl [H3]; · iexact H3
      rw [Nat.zero_add]; unfold RTd; rw [f14_val]; iexact H1
    isplitl [H4]; · iexact H4
    iexact H2
  iexact H5

theorem T.startRo (t : Fin 14) : T c iprop(Own c b25 (rset t) fullShare (V.HRt t) ∗ Any (F := F) c b10 (roset t) ∗ BRo V t.val) (startRo t)
    (fun _ => iprop(Own (F := F) c b25 (rset t) fullShare.left (fun _ => True) ∗ BRo V (t.val + 1))) := by
  unfold Hand.startRo
  refine T.pre (P' := iprop(∃ f, ∃ fd, ⌜V.HRt t f⌝ ∗ ((b25.view.loc (c : Thread nD τ) ↦[rset t]{fullShare.right} f) ∗ (b10.view.loc (c : Thread nD τ) ↦[roset t]{fullShare} fd) ∗ BRo V t.val)
      ∗ Own (F := F) c b25 (rset t) fullShare.left (fun _ => True))) ?_ (T.ex fun f => T.ex fun fd => T.fact fun hf => ?_)
  · unfold Any Own
    iintro ⟨⟨%f, %hf, H⟩, ⟨%fd, -, Hd⟩, HB⟩
    icases (pointsTo_share (PosShare.mem_left_op_right _)).1 $$ H with ⟨Hl, Hr⟩
    iexists f, fd
    isplitr; · ipureintro; exact hf
    isplitr [Hl]
    · isplitl [Hr]; · iexact Hr
      isplitl [Hd]; · iexact Hd
      iexact HB
    iexists f; isplitr; · ipureintro; trivial
    iexact Hl
  · refine ((T.startB (src := rTile t) (dst := roDst t) (fs := f) (fd := fd) (q := fullShare.right) (D := Dro V) (j := t.val) cRo rfl t.2 ?_).frame _).post fun _ => ?_
    · exact BIClass.sep_mono (Own_intro (b := b10) (V.ro t f fd hf)) (Own_intro (b := b25) trivial)
    · iintro ⟨H1, H2⟩
      isplitl [H2]; · iexact H2
      iexact H1

theorem T.ldW {b : Memref sig .tc .vmem S256x128 .f32} {R : sProp 𝕄} {P : Buf (Elt F) (b.view.loc (c : Thread nD τ)) → Prop} [Rd c R b Finset.univ P] :
    T c R (ldW b : PR F _) (fun _ => iprop(⌜True⌝ ∗ R)) := by
  unfold Hand.ldW
  refine (T.load (c := c) (b := b) Finset.univ (Finset.subset_univ _)).post fun v => ?_
  iintro ⟨-, H⟩; isplitr; · ipureintro; trivial
  iexact H
theorem T.stW {b : Memref sig .tc .vmem S256x128 .f32} {R : sProp 𝕄} {v : FVec F S256x128 .f32} [Wr c R b Finset.univ] :
    T c R (stW b v) (fun _ => R) := by
  unfold Hand.stW
  exact T.store (c := c) (b := b) (S := Finset.univ) (Finset.subset_univ _)
theorem rset_sub (t : Fin 14) : b25.view.setOn (Rect.unit (s := S14x256x256) ![t.val, 0, 0] S1x256x256.size (inbX t.2)).toLoadRect.set ⊆ rset t := by
  rw [rset_eq]; exact subset_of_eq (setOn_whole _)
theorem rset_sub' (t : Fin 14) : (b25.access (Rect.unit (s := S14x256x256) ![t.val, 0, 0] S1x256x256.size (inbX t.2))).setOn Finset.univ ⊆ rset t := by
  rw [rset_eq]; exact subset_of_eq (View.set_slice_whole _ _)

theorem T.stRo {t : Fin 14} {tt : Fin 8} {m : ℕ} (hm : m = 55 ∧ t.val = tt.val ∨ m = 111 ∧ t.val = 8 + tt.val) {f : Buf (Elt F) (b21.view.loc (c : Thread nD τ))} (hf : V.HRes f) {r : FVec F S256x256 .f32} (hr : V.Acc m tt r) (X : sProp 𝕄) :
    T c iprop(Any (F := F) c b25 (rset t) ∗ X) (stR t (resSum (b21.view.readAt (Elt F) (Rect.unit (s := S256x3584) ![0, 256 * t.val] S256x256.size (inbRes (tc256 t))).toLoadRect f) r))
      (fun _ => iprop(Own c b25 (rset t) fullShare (V.HRt t) ∗ X)) := by
  unfold Hand.stR
  exact (T.storeOwn (c := c) (b := b25) (S := rset t) (P := fun _ => True) (P' := V.HRt t) (rset_sub' t) (fun g _ => V.rt t tt m f g r hm hf hr)).frame X

/-- Column tile `t` popped. -/
theorem T.popDown {R : sProp 𝕄} [hR : Rd c R b21 Finset.univ V.HRes] (t : Fin 14) (q : Fin 2) (j : Fin 4) {m : ℕ} (hm : m = 55 ∧ t.val = (tix j q).val ∨ m = 111 ∧ t.val = 8 + (tix j q).val)
    {s : Mxu F} {Wt A} (h : Mx V s Wt A) (hA : A q j = some m) :
    T c iprop(R ∗ PD V t.val) (popDown t q j s) (fun s' => iprop(⌜Mx V s' Wt (upA A q j none)⌝ ∗ R ∗ PD V (t.val + 1))) := by
  have hacc : V.Acc m (tix j q) (s.read q (64 * j.val) (fitsJ j)) := by
    have := h.2.2 q j; rw [hA] at this; exact this.2
  unfold Hand.popDown Hand.ldRes Hand.ldR
  refine T.pre (P' := iprop(Any (F := F) c b25 (rset t) ∗ R ∗ Any (F := F) c b10 (roset t) ∗ Sq (RTd (F := F) (c := c)) 0 t.val ∗ Sq (RTi (F := F) (c := c)) (t.val + 1) (13 - t.val) ∗ BRo V t.val ∗ Any (F := F) c b26 Finset.univ)) ?_ ?_
  · iintro ⟨HR, HP⟩
    icases (PD_take t) $$ HP with ⟨H1, H2⟩
    isplitl [H1]; · iexact H1
    isplitl [HR]; · iexact HR
    iexact H2
  refine T.seq (T.load (c := c) (b := b21) Finset.univ (Finset.subset_univ _)) fun v hv => ?_
  obtain ⟨f, hf, rfl⟩ := hv
  refine T.seq (T.load (c := c) (b := b25) (rset t) (rset_sub t)) fun v' _ => ?_
  refine (T.stRo hm hf hacc _).bind fun _ => ?_
  refine T.seq (T.ldW (b := b26)) fun _ _ => T.seq (T.ldW (b := b26)) fun _ _ => (T.stW (b := b26)).bind fun _ => ?_
  refine T.pre ?_ (((T.startRo (V := V) t).frame iprop(R ∗ Sq (RTd (F := F) (c := c)) 0 t.val ∗ Sq (RTi (F := F) (c := c)) (t.val + 1) (13 - t.val) ∗ Any (F := F) c b26 Finset.univ)).bind fun _ => T.pre ?_ (T.ret _))
  · iintro ⟨H1, HR, H2, H3, H4, H5, H6⟩
    isplitl [H1 H2 H5]
    · isplitl [H1]; · iexact H1
      isplitl [H2]; · iexact H2
      iexact H5
    isplitl [HR]; · iexact HR
    isplitl [H3]; · iexact H3
    isplitl [H4]; · iexact H4
    iexact H6
  · iintro ⟨⟨H1, H2⟩, HR, H3, H4, H6⟩
    isplitr; · ipureintro; exact h.pop q j
    isplitl [HR]; · iexact HR
    iapply (PD_put t)
    isplitl [H1]; · iexact H1
    isplitl [H2]; · iexact H2
    isplitl [H3]; · iexact H3
    isplitl [H4]; · iexact H4
    iexact H6
/-- The first, whose squares start the sum. -/
theorem T.popDown0 {R : sProp 𝕄} [hR : Rd c R b21 Finset.univ V.HRes] {s : Mxu F} {Wt A} (h : Mx V s Wt A) (hA : A 0 0 = some 55) :
    T c iprop(R ∗ PD V 0) (popDown0 s) (fun s' => iprop(⌜Mx V s' Wt (upA A 0 0 none)⌝ ∗ R ∗ PD V 1)) := by
  have hacc : V.Acc 55 (tix 0 0) (s.read 0 0 (fitsJ 0)) := by
    have := h.2.2 0 0; rw [hA] at this; exact this.2
  unfold Hand.popDown0 Hand.ldRes Hand.ldR
  refine T.pre (P' := iprop(Any (F := F) c b25 (rset 0) ∗ R ∗ Any (F := F) c b10 (roset 0) ∗ Sq (RTd (F := F) (c := c)) 0 (0 : Fin 14).val ∗ Sq (RTi (F := F) (c := c)) ((0 : Fin 14).val + 1) (13 - (0 : Fin 14).val) ∗ BRo V (0 : Fin 14).val ∗ Any (F := F) c b26 Finset.univ)) ?_ ?_
  · refine (BIClass.sep_mono (P := R) .rfl (PD_take (V := V) 0)).trans ?_
    iintro ⟨HR, H1, H2⟩
    isplitl [H1]; · iexact H1
    isplitl [HR]; · iexact HR
    iexact H2
  refine T.seq (T.load (c := c) (b := b21) Finset.univ (Finset.subset_univ _)) fun v hv => ?_
  obtain ⟨f, hf, rfl⟩ := hv
  refine T.seq (T.load (c := c) (b := b25) (rset 0) (rset_sub 0)) fun v' _ => ?_
  refine (T.stRo (t := 0) (tt := tix 0 0) (m := 55) (.inl ⟨rfl, rfl⟩) hf hacc _).bind fun _ => ?_
  refine T.seq (T.ldW (b := b26)) fun _ _ => (T.stW (b := b26)).bind fun _ => ?_
  refine T.pre ?_ (((T.startRo (V := V) 0).frame iprop(R ∗ Sq (RTd (F := F) (c := c)) 0 (0 : Fin 14).val ∗ Sq (RTi (F := F) (c := c)) ((0 : Fin 14).val + 1) (13 - (0 : Fin 14).val) ∗ Any (F := F) c b26 Finset.univ)).bind fun _ => T.pre ?_ (T.ret _))
  · iintro ⟨H1, HR, H2, H3, H4, H5, H6⟩
    isplitl [H1 H2 H5]
    · isplitl [H1]; · iexact H1
      isplitl [H2]; · iexact H2
      iexact H5
    isplitl [HR]; · iexact HR
    isplitl [H3]; · iexact H3
    isplitl [H4]; · iexact H4
    iexact H6
  · iintro ⟨⟨H1, H2⟩, HR, H3, H4, H6⟩
    isplitr; · ipureintro; exact h.pop 0 0
    isplitl [HR]; · iexact HR
    iapply (PD_put 0)
    isplitl [H1]; · iexact H1
    isplitl [H2]; · iexact H2
    isplitl [H3]; · iexact H3
    isplitl [H4]; · iexact H4
    iexact H6

end Cert.Kernel.Hand
-- ==== Proof.Quant.lean ====
module

public import proofs.«01_k».proof.Proof.Down

/-! The quantiser, the rotary tables, and the chunks of the second product. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

theorem T.quantOne {R : sProp 𝕄} {P25 : Buf (Elt F) (b25.view.loc (c : Thread nD τ)) → Prop} {P27 : Buf (Elt F) (b27.view.loc (c : Thread nD τ)) → Prop} {P22 : Buf (Elt F) (b22.view.loc (c : Thread nD τ)) → Prop}
    {P28 : Buf (Elt F) (b28.view.loc (c : Thread nD τ)) → Prop} {P29 : Buf (Elt F) (b29.view.loc (c : Thread nD τ)) → Prop} {P30 : Buf (Elt F) (b30.view.loc (c : Thread nD τ)) → Prop}
    [h25 : Rd c R b25 Finset.univ P25] [h27 : Rd c R b27 Finset.univ P27] [h22 : Rd c R b22 Finset.univ P22] [h28 : Rd c R b28 Finset.univ P28] [w28 : Wr c R b28 Finset.univ]
    [h29 : Rd c R b29 Finset.univ P29] [w29 : Wr c R b29 Finset.univ] [h30 : Rd c R b30 Finset.univ P30] [w30 : Wr c R b30 Finset.univ] (x : W) (h : x.toNat < 14) (a : Fin 2) :
    T c R (quantOne x h a) (fun _ => R) := by
  unfold Hand.quantOne quantHead ldXs stXs
  have s28 : ∀ {r : Rect S14x256x256} {w : r.shape.Idx → Elt F .fp8e4m3} {Mk hx hm}, T c R (Prog.lift (.store b28 r w Mk hx hm)) (fun _ => R) := T.store (c := c) (b := b28) (S := Finset.univ) (h := w28) (Finset.subset_univ _)
  have s29 : ∀ {r : Rect S14x256x256} {w : r.shape.Idx → Elt F .bf16} {Mk hx hm}, T c R (Prog.lift (.store b29 r w Mk hx hm)) (fun _ => R) := T.store (c := c) (b := b29) (S := Finset.univ) (h := w29) (Finset.subset_univ _)
  have l25 : ∀ {r : LoadRect S14x256x256} {hl}, T c R (Prog.lift (.load b25 r hl)) (fun _ => iprop(⌜True⌝ ∗ R)) := (T.load (c := c) (b := b25) (h := h25) Finset.univ (Finset.subset_univ _)).post fun v => BIClass.sep_mono (Laws.pure_mono fun _ => trivial) .rfl
  have l22 : ∀ {r : LoadRect S28x128} {hl}, T c R (Prog.lift (.load b22 r hl)) (fun _ => iprop(⌜True⌝ ∗ R)) := (T.load (c := c) (b := b22) (h := h22) Finset.univ (Finset.subset_univ _)).post fun v => BIClass.sep_mono (Laws.pure_mono fun _ => trivial) .rfl
  have l28 : ∀ {r : LoadRect S14x256x256} {hl}, T c R (Prog.lift (.load b28 r hl)) (fun _ => iprop(⌜True⌝ ∗ R)) := (T.load (c := c) (b := b28) (h := h28) Finset.univ (Finset.subset_univ _)).post fun v => BIClass.sep_mono (Laws.pure_mono fun _ => trivial) .rfl
  have l29 : ∀ {r : LoadRect S14x256x256} {hl}, T c R (Prog.lift (.load b29 r hl)) (fun _ => iprop(⌜True⌝ ∗ R)) := (T.load (c := c) (b := b29) (h := h29) Finset.univ (Finset.subset_univ _)).post fun v => BIClass.sep_mono (Laws.pure_mono fun _ => trivial) .rfl
  have l30 : ∀ {r : LoadRect S256x28} {hl}, T c R (Prog.lift (.load b30 r hl)) (fun _ => iprop(⌜True⌝ ∗ R)) := (T.load (c := c) (b := b30) (h := h30) Finset.univ (Finset.subset_univ _)).post fun v => BIClass.sep_mono (Laws.pure_mono fun _ => trivial) .rfl
  refine T.seq (V := fun _ => True) ?_ fun w _ => ?_
  · refine T.seq l25 fun v1 _ => ?_
    refine T.seq (T.ldW (b := b27)) fun v2 _ => ?_
    refine T.seq l22 fun v3 _ => T.seq l28 fun v4 _ => T.bind s28 fun _ => ?_
    refine T.seq l29 fun v5 _ => T.bind s29 fun _ => ?_
    refine T.seq l30 fun v6 _ => ?_
    refine T.pre ?_ (T.ret _)
    iintro H; isplitr; · ipureintro; trivial
    iexact H
  · exact T.seq l30 fun v6 _ => T.store (c := c) (b := b30) (S := Finset.univ) (h := w30) (Finset.subset_univ _)

/-- What the quantiser reads and writes. -/
abbrev QR : sProp 𝕄 := iprop(Own (F := F) c b25 Finset.univ fullShare.left (fun _ => True) ∗ Any (F := F) c b27 Finset.univ ∗ Any (F := F) c b22 Finset.univ ∗ Any (F := F) c b28 Finset.univ ∗ Any (F := F) c b29 Finset.univ ∗ Any (F := F) c b30 Finset.univ)
theorem T.quantise (x : W) (h : x.toNat < 14) : T c (QR (F := F) (c := c)) (quantise x h) (fun _ => QR (F := F) (c := c)) := by
  unfold Hand.quantise
  exact (T.quantOne x h 0).bind fun _ => T.quantOne x h 1

theorem T.rsStage {R : sProp 𝕄} {P26 : Buf (Elt F) (b26.view.loc (c : Thread nD τ)) → Prop} {P27 : Buf (Elt F) (b27.view.loc (c : Thread nD τ)) → Prop}
    [Rd c R b26 Finset.univ P26] [Rd c R b27 Finset.univ P27] [Wr c R b27 Finset.univ] : T c R (rsStage : PR F PUnit) (fun _ => R) := by
  unfold Hand.rsStage
  exact T.seq (T.ldW (b := b26)) fun _ _ => T.seq (T.ldW (b := b27)) fun _ _ => T.stW (b := b27)

theorem T.ldHalf {b : Memref sig .tc .vmem S256x128 .f32} {R : sProp 𝕄} {P : Buf (Elt F) (b.view.loc (c : Thread nD τ)) → Prop} [Rd c R b Finset.univ P] (r : ℕ) (h : r + 128 ≤ 256) :
    T c R (ldHalf b r h : PR F _) (fun _ => iprop(⌜True⌝ ∗ R)) := by
  unfold Hand.ldHalf
  refine (T.load (c := c) (b := b) Finset.univ (Finset.subset_univ _)).post fun v => ?_
  iintro ⟨-, H⟩; isplitr; · ipureintro; trivial
  iexact H
theorem T.stHalf {b : Memref sig .tc .vmem S256x128 .f32} {R : sProp 𝕄} (r : ℕ) (h : r + 128 ≤ 256) {v : FVec F S128x128 .f32} [Wr c R b Finset.univ] :
    T c R (stHalf b r h v) (fun _ => R) := by
  unfold Hand.stHalf
  exact T.store (c := c) (b := b) (S := Finset.univ) (Finset.subset_univ _)
abbrev CS : sProp 𝕄 := iprop(Any (F := F) c b23 Finset.univ ∗ Any (F := F) c b24 Finset.univ ∗ Any (F := F) c b31 Finset.univ ∗ Any (F := F) c b32 Finset.univ ∗ Any (F := F) c b30 Finset.univ)
theorem T.cosSin : T c (CS (F := F) (c := c)) (cosSin : PR F PUnit) (fun _ => CS (F := F) (c := c)) := by
  unfold Hand.cosSin Hand.ldFreq Hand.ldXs Hand.stXs
  refine T.seq (T.load (c := c) (b := b23) Finset.univ (Finset.subset_univ _)) fun p _ => ?_
  refine T.seq (T.load (c := c) (b := b24) Finset.univ (Finset.subset_univ _)) fun f _ => ?_
  refine T.seq (T.ldHalf (b := b31) 0 (by decide)) fun _ _ => (T.stHalf (b := b31) 0 (by decide)).bind fun _ => ?_
  refine T.seq (T.ldHalf (b := b32) 0 (by decide)) fun _ _ => (T.stHalf (b := b32) 0 (by decide)).bind fun _ => ?_
  refine T.seq (T.load (c := c) (b := b24) Finset.univ (Finset.subset_univ _)) fun f' _ => ?_
  refine T.seq (T.ldHalf (b := b31) 128 (by decide)) fun _ _ => (T.stHalf (b := b31) 128 (by decide)).bind fun _ => ?_
  refine T.seq (T.ldHalf (b := b32) 128 (by decide)) fun _ _ => (T.stHalf (b := b32) 128 (by decide)).bind fun _ => ?_
  refine T.seq (T.load (c := c) (b := b30) Finset.univ (Finset.subset_univ _)) fun _ _ => ?_
  exact T.store (c := c) (b := b30) (S := Finset.univ) (Finset.subset_univ _)

variable {V : Vals F c}
/-- What the second product's first group carries. -/
abbrev StC (V : Vals F c) (n : ℕ) : sProp 𝕄 := iprop((Ring V n ∗ Owes (F := F) c) ∗ B7 V ∗ QR (F := F) (c := c))
theorem T.chunkC {x : W} {n : ℕ} (hc : x.toNat < 7) (e : (Scalar.addi 56#32 x).toNat = n) (h : K2 (Scalar.addi 56#32 x)) (h' : K2 (Scalar.addi (Scalar.addi 56#32 x) 1#32))
    (hq : ∀ kt, (qW x kt).toNat < 14) {s : Mxu F} (hM : MxA V n s) :
    T c (StC V n) (chunkC x hc h h' hq s) (fun s' => iprop(⌜MxA V (n + 1) s'⌝ ∗ StC V (n + 1))) := by
  have e1 : (Scalar.addi (Scalar.addi 56#32 x) 1#32).toNat = n + 1 := by rw [addi_lt (N := 84) _ h.lt (by decide), e]; rfl
  have e11 : (Scalar.addi (Scalar.addi 56#32 x) 11#32).toNat = n + 11 := by rw [addi_lt (N := 84) _ h.lt (by decide), e]; rfl
  have hw := T.waitC (V := V) (c := c) _ h'
  rw [e1] at hw
  have h56 : 56 ≤ n := e ▸ h.1
  obtain ⟨e0, ho, hm⟩ := hM
  unfold Hand.chunkC
  refine (T.ringWait (X := iprop(B7 V ∗ QR (F := F) (c := c))) hw).bind fun _ => T.ringGo e11 ?_
  refine T.seq (T.steps4 (i := n) (i' := n + 1) (e := e0) (lhsQ_ok hc (by omega)) (srcC_ok h e) (srcC_ok h' e1) hm ho (by omega)) fun s' hs' => ?_
  refine T.pre (P' := iprop(QR (F := F) (c := c) ∗ (Ring2 V n ∗ Owes (F := F) c) ∗ B7 V)) ?_ (((T.quantise _ (hq 0)).frame _).bind fun _ => ((T.quantise _ (hq 1)).frame _).bind fun _ => T.pre ?_ (T.ret _))
  · iintro ⟨H1, H2, H3⟩
    isplitl [H3]; · iexact H3
    isplitl [H1]; · iexact H1
    iexact H2
  · iintro ⟨HQ, ⟨HR, HO⟩, H7⟩
    isplitr
    · ipureintro; exact MxA.next hs' (by omega)
    isplitl [HR HO]
    · isplitl [HR]; · iapply (Ring_next n); iexact HR
      iexact HO
    isplitl [H7]; · iexact H7
    iexact HQ
theorem iv3n (t : Fin k0_t3_loop.trips) : (Scalar.addi 56#32 (Scf.iv 0#32 1#32 t.val) : W).toNat = 56 + t.val := by revert t; decide +kernel
theorem T.loop3 {s : Mxu F} (h : MxA V 56 s) : T c (StC V 56) (loop3 s) (fun s' => iprop(⌜MxA V 62 s'⌝ ∗ StC V 62)) := by
  unfold Hand.loop3
  refine T.pre ?_ ((loopT (fun k s' => iprop(⌜MxA V (56 + k) s'⌝ ∗ StC V (56 + k))) fun k a => T.fact fun hM => T.chunkC (iv3 k).1 (iv3n k) (iv3 k).2.1 (iv3 k).2.2.1 (iv3 k).2.2.2 hM).post fun s' => ?_)
  · iintro H; isplitr
    · ipureintro; exact h
    · iexact H
  · exact .rfl

abbrev StD (V : Vals F c) (n : ℕ) : sProp 𝕄 := iprop((Ring V n ∗ Owes (F := F) c) ∗ B7 V ∗ Any (F := F) c b29 Finset.univ)
theorem T.chunkD {x y : W} {n : ℕ} (hc : y.toNat < 7) (e : x.toNat = n) (h : K2 x) (h' : K2 (Scalar.addi x 1#32)) {s : Mxu F} (hM : MxA V n s) :
    T c (StD V n) (chunkD x y hc h h' s) (fun s' => iprop(⌜MxA V (n + 1) s'⌝ ∗ StD V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hw := T.waitC (V := V) (c := c) _ h'
  rw [e1] at hw
  have h56 : 56 ≤ n := e ▸ h.1
  obtain ⟨e0, ho, hm⟩ := hM
  unfold Hand.chunkD
  refine (T.ringWait (X := iprop(B7 V ∗ Any (F := F) c b29 Finset.univ)) hw).bind fun _ => T.ringGo e11 ?_
  refine (T.steps4 (i := n) (i' := n + 1) (e := e0) (lhsQ_ok hc (by omega)) (srcC_ok h e) (srcC_ok h' e1) hm ho (by omega)).post fun s' => ?_
  iintro ⟨%hs', ⟨HR, HO⟩, HX⟩
  isplitr
  · ipureintro; exact MxA.next hs' (by omega)
  isplitl [HR HO]
  · isplitl [HR]; · iapply (Ring_next n); iexact HR
    iexact HO
  iexact HX
theorem iv5n (t : Fin k0_t4_loop.trips) (u : Fin k0_t5_loop.trips) : (Scalar.addi (bW (gW t.val)) (Scf.iv 1#32 1#32 u.val)).toNat = 64 + 7 * t.val + u.val := by revert t u; decide +kernel
theorem T.loop5 (t : Fin k0_t4_loop.trips) {n : ℕ} (e : n = 64 + 7 * t.val) {s : Mxu F} (h : MxA V n s) : T c (StD V n) (loop5 t s) (fun s' => iprop(⌜MxA V (n + 5) s'⌝ ∗ StD V (n + 5))) := by
  unfold Hand.loop5
  refine T.pre ?_ ((loopT (fun k s' => iprop(⌜MxA V (n + k) s'⌝ ∗ StD V (n + k))) fun k a => T.fact fun hM => T.chunkD (iv5 t k).1 (by rw [iv5n, e]) (iv5 t k).2.1 (iv5 t k).2.2 hM).post fun s' => ?_)
  · iintro H; isplitr
    · ipureintro; exact h
    · iexact H
  · exact .rfl

end Cert.Kernel.Hand
-- ==== Proof.Heads.lean ====
module

public import proofs.«01_k».proof.Proof.Quant
public import proofs.«01_k».proof.Proof.Down

/-! The heads rotated, packed and written out, and the groups of the second product. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

def obset (g : Fin 4) (l : Fin 2) : Finset S4x2x256x8x128.Idx := (obV g l).view.set
theorem obset_eq (g : Fin 4) (l : Fin 2) : obset g l = (Rect.unit (s := S4x2x256x8x128) ![g.val, l.val, 0, 0, 0] S1x1x256x8x128.size (inbOb g.2 l.2)).set :=
  (View.set_reshape _ _).trans (View.set_slice_whole _ _)
theorem obset_sub (g : Fin 4) (l : Fin 2) (j : Fin 4) : (Rect.unit (s := S4x2x256x8x128) ![g.val, l.val, 0, 2 * j.val, 0] S1x1x256x2x128.size (inbO g.2 l.2 (by omega))).set ⊆ obset g l := by
  rw [obset_eq]
  refine Rect.set_subset_of_span _ _ (fun _ => rfl) fun a => ?_
  fin_cases a <;> simp <;> omega

/-- Group `g`'s two places. -/
abbrev Ob (g : Fin 4) : sProp 𝕄 := iprop(Any (F := F) c b33 (obset g 0) ∗ Any (F := F) c b33 (obset g 1))
theorem T.packStore {R : sProp 𝕄} (g : ℕ) (hg : g < 4) (l : Fin 2) (j : Fin 4) (u v : FVec F S256x128 .f32) {P : Buf (Elt F) (b33.view.loc (c : Thread nD τ)) → Prop}
    [h1 : Rd c R b33 (obset ⟨g, hg⟩ l) P] [h2 : Wr c R b33 (obset ⟨g, hg⟩ l)] : T c R (packStore g hg l j u v) (fun _ => R) := by
  unfold Hand.packStore
  refine T.seq (T.load (c := c) (b := b33) (h := h1) (obset ⟨g, hg⟩ l) ((subset_of_eq (setOn_whole _)).trans (obset_sub ⟨g, hg⟩ l j))) fun _ _ => ?_
  exact T.store (c := c) (b := b33) (h := h2) ((subset_of_eq (View.set_slice_whole _ _)).trans (obset_sub ⟨g, hg⟩ l j))

variable {V : Vals F c}
theorem T.popRope {R : sProp 𝕄} (g : ℕ) (hg : g < 4) (j : Fin 4) {P31 : Buf (Elt F) (b31.view.loc (c : Thread nD τ)) → Prop} {P32 : Buf (Elt F) (b32.view.loc (c : Thread nD τ)) → Prop}
    {P Q : Buf (Elt F) (b33.view.loc (c : Thread nD τ)) → Prop} [Rd c R b31 Finset.univ P31] [Rd c R b32 Finset.univ P32]
    [Rd c R b33 (obset ⟨g, hg⟩ 0) P] [Wr c R b33 (obset ⟨g, hg⟩ 0)] [Rd c R b33 (obset ⟨g, hg⟩ 1) Q] [Wr c R b33 (obset ⟨g, hg⟩ 1)]
    {s : Mxu F} {Wt A A'} (h : Mx V s Wt A) (hA : setJ A j none = A') : T c R (popRope g hg j s) (fun s' => iprop(⌜Mx V s' Wt A'⌝ ∗ R)) := by
  subst hA
  unfold Hand.popRope
  refine T.seq (T.ldW (b := b31)) fun _ _ => T.seq (T.ldW (b := b32)) fun _ _ => T.seq (T.ldW (b := b31)) fun _ _ => T.seq (T.ldW (b := b32)) fun _ _ => ?_
  refine (T.packStore g hg 0 j _ _).bind fun _ => (T.packStore g hg 1 j _ _).bind fun _ => T.pre ?_ (T.ret _)
  iintro H; isplitr
  · ipureintro; have := (h.pop 0 j).pop 1 j; rw [upA_pair] at this; exact this
  · iexact H
theorem T.popLast {R : sProp 𝕄} (j : Fin 4) {P Q : Buf (Elt F) (b33.view.loc (c : Thread nD τ)) → Prop}
    [h1 : Rd c R b33 (obset 3 0) P] [h2 : Wr c R b33 (obset 3 0)] [h3 : Rd c R b33 (obset 3 1) Q] [h4 : Wr c R b33 (obset 3 1)]
    {s : Mxu F} {Wt A A'} (h : Mx V s Wt A) (hA : setJ A j none = A') : T c R (popLast j s) (fun s' => iprop(⌜Mx V s' Wt A'⌝ ∗ R)) := by
  subst hA
  unfold Hand.popLast
  refine (T.packStore (h1 := h1) (h2 := h2) 3 (by decide) 0 j _ _).bind fun _ => (T.packStore (h1 := h3) (h2 := h4) 3 (by decide) 1 j _ _).bind fun _ => T.pre ?_ (T.ret _)
  iintro H; isplitr
  · ipureintro; have := (h.pop 0 j).pop 1 j; rw [upA_pair] at this; exact this
  · iexact H
theorem T.steps4Pop {R : sProp 𝕄} (g : ℕ) (hg : g < 4) {P31 : Buf (Elt F) (b31.view.loc (c : Thread nD τ)) → Prop} {P32 : Buf (Elt F) (b32.view.loc (c : Thread nD τ)) → Prop}
    {P Q : Buf (Elt F) (b33.view.loc (c : Thread nD τ)) → Prop} [h31 : Rd c R b31 Finset.univ P31] [h32 : Rd c R b32 Finset.univ P32]
    [o1 : Rd c R b33 (obset ⟨g, hg⟩ 0) P] [o2 : Wr c R b33 (obset ⟨g, hg⟩ 0)] [o3 : Rd c R b33 (obset ⟨g, hg⟩ 1) Q] [o4 : Wr c R b33 (obset ⟨g, hg⟩ 1)]
    {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e e)) (hi : 56 ≤ i) :
    T c R (steps4Pop g hg ld S N s) (fun s' => iprop(⌜Mx V s' (fun _ => some (2 * i', 0)) (Ac (some (2 * i + 1)) (some (2 * i + 1)) (some (2 * i + 1)) (some (2 * i + 1)))⌝ ∗ R)) := by
  unfold Hand.steps4Pop
  have ho : okc none (2 * i) := .inr (.inr (by omega))
  have h' : okc (some (2 * i)) (2 * i + 1) := ⟨rfl, by omega⟩
  refine T.seq (T.popRope g hg 0 h (Ac0 ..)) fun s h => T.seq (T.stepP hl hS 0 0 0 1 h (fun _ => ho) (Ac0 ..)) fun s h => ?_
  refine T.seq (T.popRope g hg 1 h (Ac1 ..)) fun s h => T.seq (T.stepP hl hS 0 1 0 2 h (fun _ => ho) (Ac1 ..)) fun s h => ?_
  refine T.seq (T.popRope g hg 2 h (Ac2 ..)) fun s h => T.seq (T.stepP hl hS 0 2 0 3 h (fun _ => ho) (Ac2 ..)) fun s h => ?_
  refine T.seq (T.popRope g hg 3 h (Ac3 ..)) fun s h => T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  exact T.stepP hl hN 1 3 0 0 h (fun _ => h') (Ac3 ..)

/-! ### The copies of the heads -/
abbrev cHd (g : Fin 4) : ℕ := (hdDst g 0).view.dmaCredit
abbrev Hdst (g : Fin 4) (l : Fin 2) : sProp 𝕄 := Any (F := F) c (hdDst g l) (hdDst g l).view.set
abbrev Dh (g : Fin 4) (l : Fin 2) : sProp 𝕄 := iprop(Hdst (F := F) (c := c) g l ∗ Any (F := F) c b33 (obset g l))
abbrev BHd (g : Fin 4) (j : ℕ) : sProp 𝕄 := Transfers.Batch EC (c : Thread nD τ) (.dma (oSem (3 + g.val) (by omega))) () (cHd g) (Dh (F := F) (c := c) g) j 0
abbrev HdI (g : Fin 4) : sProp 𝕄 := iprop(Ob (F := F) (c := c) g ∗ (Hdst (F := F) (c := c) g 0 ∗ Hdst (F := F) (c := c) g 1) ∗ BHd (F := F) (c := c) g 0)
theorem cHd_eq : ∀ (g : Fin 4) (l : Fin 2), (hdDst g l).view.dmaCredit = cHd g
  | 0, _ => rfl
  | 1, _ => rfl
  | 2, _ => rfl
  | 3, _ => rfl
theorem T.startHd (g : Fin 4) (l : Fin 2) : T c iprop(Any (F := F) c b33 (obset g l) ∗ Hdst (F := F) (c := c) g l ∗ BHd (F := F) (c := c) g l.val) (startHd g l) (fun _ => BHd (F := F) (c := c) g (l.val + 1)) := by
  unfold Hand.startHd
  refine T.pre (P' := iprop(∃ f, ∃ fd, ((b33.view.loc (c : Thread nD τ) ↦[obset g l]{fullShare} f) ∗ ((hdDst g l).view.loc (c : Thread nD τ) ↦[(hdDst g l).view.set]{fullShare} fd) ∗ BHd (F := F) (c := c) g l.val))) ?_ (T.ex fun f => T.ex fun fd => ?_)
  · unfold Hdst Any Own
    iintro ⟨⟨%f, -, H⟩, ⟨%fd, -, Hd⟩, HB⟩
    iexists f, fd
    isplitl [H]; · iexact H
    isplitl [Hd]; · iexact Hd
    iexact HB
  · refine T.startB (src := obV g l) (dst := hdDst g l) (fs := f) (fd := fd) (q := fullShare) (D := Dh (F := F) (c := c) g) (j := l.val) (cHd g) (cHd_eq g l) l.2 ?_
    exact BIClass.sep_mono (Own_intro (b := hdDst g l) trivial) (Own_intro (b := b33) trivial)
theorem T.startHds (g : Fin 4) {α : Type} {k : PR F α} {X : sProp 𝕄} {Q : α → sProp 𝕄} (hk : T c iprop(BHd (F := F) (c := c) g 2 ∗ X) k Q) :
    T c iprop(HdI (F := F) (c := c) g ∗ X) (Hand.startHd g 0 >>= fun _ => Hand.startHd g 1 >>= fun _ => k) Q := by
  refine T.pre (P' := iprop((Any (F := F) c b33 (obset g 0) ∗ Hdst (F := F) (c := c) g 0 ∗ BHd (F := F) (c := c) g (0 : Fin 2).val) ∗ Any (F := F) c b33 (obset g 1) ∗ Hdst (F := F) (c := c) g 1 ∗ X)) ?_
    (((T.startHd g 0).frame _).bind fun _ => T.pre (P' := iprop((Any (F := F) c b33 (obset g 1) ∗ Hdst (F := F) (c := c) g 1 ∗ BHd (F := F) (c := c) g (1 : Fin 2).val) ∗ X)) ?_ (((T.startHd g 1).frame _).bind fun _ => hk))
  · iintro ⟨⟨⟨H1, H2⟩, ⟨H3, H4⟩, HB⟩, HX⟩
    isplitl [H1 H3 HB]
    · isplitl [H1]; · iexact H1
      isplitl [H3]; · iexact H3
      iexact HB
    isplitl [H2]; · iexact H2
    isplitl [H4]; · iexact H4
    iexact HX
  · iintro ⟨HB, H2, H4, HX⟩
    isplitr [HX]
    · isplitl [H2]; · iexact H2
      isplitl [H4]; · iexact H4
      iexact HB
    iexact HX
/-- Group `g`'s copies after `t` groups. -/
def Hs (t : ℕ) (g : Fin 4) : sProp 𝕄 := if g.val < t then BHd (F := F) (c := c) g 2 else HdI (F := F) (c := c) g
theorem ifc (t : Fin k0_t4_loop.trips) (g : Fin 3) : Scalar.cmpi .ne (Scalar.extui (Scalar.cmpi .eq (gW t.val) (BitVec.ofNat 32 g.val)) : W) 0#32 = 1#1 ↔ t.val = g.val := by
  revert t g; decide +kernel
theorem T.startIf (t : Fin k0_t4_loop.trips) (g : Fin 3) (g' : Fin 4) (e : g'.val = g.val) : T c (Hs (F := F) (c := c) t.val g') (startIf (gW t.val) (BitVec.ofNat 32 g.val) g') (fun _ => Hs (F := F) (c := c) (t.val + 1) g') := by
  unfold Hand.startIf
  by_cases h : t.val = g.val
  · rw [dif_pos ((ifc t g).2 h)]
    unfold Hs
    rw [if_neg (by omega), if_pos (by omega)]
    refine T.pre (P' := iprop(HdI (F := F) (c := c) g' ∗ emp)) ?_ (T.startHds g' (T.pre ?_ (T.ret (Q := fun _ => BHd (F := F) (c := c) g' 2) PUnit.unit)))
    · iintro H; isplitl [H]; · iexact H
      iempintro
    · iintro ⟨H, -⟩; iexact H
  · rw [dif_neg (fun hh => h ((ifc t g).1 hh))]
    have : Hs (F := F) (c := c) (t.val + 1) g' = Hs (F := F) (c := c) t.val g' := by
      unfold Hs
      by_cases h1 : g'.val < t.val
      · rw [if_pos h1, if_pos (by omega)]
      · rw [if_neg h1, if_neg (by omega)]
    rw [this]
    exact T.ret (Q := fun _ => Hs (F := F) (c := c) t.val g') PUnit.unit

abbrev H3 (t : ℕ) : sProp 𝕄 := iprop(Hs (F := F) (c := c) t 0 ∗ Hs (F := F) (c := c) t 1 ∗ Hs (F := F) (c := c) t 2)
theorem H3_take : ∀ (t : ℕ) (h : t < 4), t < 3 → H3 (F := F) (c := c) t ⊢ iprop(Ob (F := F) (c := c) ⟨t, h⟩ ∗ (Ob (F := F) (c := c) ⟨t, h⟩ -∗ H3 (F := F) (c := c) t))
  | 0, _, _ => by
    have e : Hs (F := F) (c := c) 0 0 = HdI (F := F) (c := c) 0 := by unfold Hs; exact if_neg (by decide)
    unfold H3; rw [e]
    iintro ⟨⟨HO, HX⟩, HY⟩
    isplitl [HO]; · iexact HO
    iintro HO
    isplitl [HO HX]
    · isplitl [HO]; · iexact HO
      iexact HX
    iexact HY
  | 1, _, _ => by
    have e : Hs (F := F) (c := c) 1 1 = HdI (F := F) (c := c) 1 := by unfold Hs; exact if_neg (by decide)
    unfold H3; rw [e]
    iintro ⟨HZ, ⟨HO, HX⟩, HY⟩
    isplitl [HO]; · iexact HO
    iintro HO
    isplitl [HZ]; · iexact HZ
    isplitl [HO HX]
    · isplitl [HO]; · iexact HO
      iexact HX
    iexact HY
  | 2, _, _ => by
    have e : Hs (F := F) (c := c) 2 2 = HdI (F := F) (c := c) 2 := by unfold Hs; exact if_neg (by decide)
    unfold H3; rw [e]
    iintro ⟨HZ, HY, ⟨HO, HX⟩⟩
    isplitl [HO]; · iexact HO
    iintro HO
    isplitl [HZ]; · iexact HZ
    isplitl [HY]; · iexact HY
    isplitl [HO]; · iexact HO
    iexact HX

/-! ### The groups -/
theorem iv4n (t : Fin k0_t4_loop.trips) : (gW t.val).toNat = t.val ∧ t.val < 3 ∧ (Scalar.subi (bW (gW t.val)) 1#32).toNat = 62 + 7 * t.val ∧ (Scalar.addi (Scalar.subi (bW (gW t.val)) 1#32) 1#32).toNat = 62 + 7 * t.val + 1
    ∧ (Scalar.addi (Scalar.subi (bW (gW t.val)) 1#32) 11#32).toNat = 62 + 7 * t.val + 11 ∧ (bW (gW t.val)).toNat = 62 + 7 * t.val + 1 ∧ (Scalar.addi (bW (gW t.val)) 1#32).toNat = 62 + 7 * t.val + 1 + 1 ∧ (Scalar.addi (bW (gW t.val)) 11#32).toNat = 62 + 7 * t.val + 1 + 11 := by
  revert t; decide +kernel
theorem T.waitCe {x : W} (h : K2 x) {i : ℕ} (e : x.toNat = i) : T c iprop(Fl V i ∗ Owes (F := F) c) (Hand.waitC x h) (fun _ => iprop(Landed V i ∗ Owes c)) := by
  subst e; exact T.waitC x h
abbrev St4 (V : Vals F c) (t : ℕ) : sProp 𝕄 := iprop(StD V (62 + 7 * t) ∗ (Any (F := F) c b31 Finset.univ ∗ Any (F := F) c b32 Finset.univ) ∗ H3 (F := F) (c := c) t)
set_option maxHeartbeats 1000000 in
theorem T.group (t : Fin k0_t4_loop.trips) {s : Mxu F} (hM : MxA V (62 + 7 * t.val) s) :
    T c (St4 V t.val) (group t s) (fun s' => iprop(⌜MxA V (62 + 7 * (t.val + 1)) s'⌝ ∗ St4 V (t.val + 1))) := by
  obtain ⟨eg, ht, ea, ea1, ea11, eb, eb1, eb11⟩ := iv4n t
  obtain ⟨e0, ho, hm⟩ := hM
  obtain ⟨n, hn⟩ : ∃ n, 62 + 7 * t.val = n := ⟨_, rfl⟩
  rw [hn] at ho hm ea ea1 ea11 eb eb1 eb11
  have hw1 := T.waitCe (V := V) (c := c) (iv4 t).2.2.1 ea1
  have hw2 := T.waitCe (V := V) (c := c) (iv4 t).2.2.2.2 eb1
  have hgt : (⟨(gW t.val).toNat, (iv4 t).1⟩ : Fin 4) = ⟨t.val, by omega⟩ := Fin.ext eg
  unfold Hand.group
  refine T.pre (P' := iprop((Ring V n ∗ Owes (F := F) c) ∗ (B7 V ∗ Any (F := F) c b29 Finset.univ) ∗ ((Any (F := F) c b31 Finset.univ ∗ Any (F := F) c b32 Finset.univ) ∗ (Ob (F := F) (c := c) ⟨(gW t.val).toNat, (iv4 t).1⟩)) ∗ (Ob (F := F) (c := c) ⟨t.val, by omega⟩ -∗ H3 (F := F) (c := c) t.val))) ?_
    ((T.ringWait hw1).bind fun _ => T.ringGo ea11 ?_)
  · rw [hgt]; subst hn
    iintro ⟨⟨HR, HX⟩, HC, HH⟩
    icases (H3_take t.val (by omega) ht) $$ HH with ⟨HO, HW⟩
    isplitl [HR]; · iexact HR
    isplitl [HX]; · iexact HX
    isplitl [HC HO]
    · isplitl [HC]; · iexact HC
      iexact HO
    iexact HW
  refine T.seq (T.steps4 (i := n) (i' := n + 1) (e := e0) (lhsQ_ok (by decide) (by omega)) (srcC_ok (iv4 t).2.1 ea) (srcC_ok (iv4 t).2.2.1 ea1) hm ho (by omega)) fun s1 h1 => ?_
  refine T.pre (P' := iprop((Ring V (n + 1) ∗ Owes (F := F) c) ∗ (B7 V ∗ Any (F := F) c b29 Finset.univ) ∗ ((Any (F := F) c b31 Finset.univ ∗ Any (F := F) c b32 Finset.univ) ∗ (Ob (F := F) (c := c) ⟨(gW t.val).toNat, (iv4 t).1⟩)) ∗ (Ob (F := F) (c := c) ⟨t.val, by omega⟩ -∗ H3 (F := F) (c := c) t.val))) ?_
    ((T.ringWait hw2).bind fun _ => T.ringGo eb11 ?_)
  · iintro ⟨⟨HR, HO⟩, HX⟩
    isplitr [HX]
    · isplitl [HR]; · iapply (Ring_next n); iexact HR
      iexact HO
    iexact HX
  refine T.seq (T.steps4Pop (gW t.val).toNat (iv4 t).1 (i := n + 1) (i' := n + 1 + 1) (lhsQ_ok (by decide) (by omega)) (srcC_ok (iv4 t).2.2.2.1 eb) (srcC_ok (iv4 t).2.2.2.2 eb1) h1 (by omega)) fun s2 h2 => ?_
  have h3 := MxA.next h2 (by omega)
  refine T.pre (P' := iprop(Hs (F := F) (c := c) t.val 0 ∗ Hs (F := F) (c := c) t.val 1 ∗ Hs (F := F) (c := c) t.val 2 ∗ StD V (n + 1 + 1) ∗ (Any (F := F) c b31 Finset.univ ∗ Any (F := F) c b32 Finset.univ))) ?_
    (((T.startIf t 0 0 rfl).frame _).bind fun _ => T.pre (P' := iprop(Hs (F := F) (c := c) t.val 1 ∗ Hs (F := F) (c := c) t.val 2 ∗ Hs (F := F) (c := c) (t.val + 1) 0 ∗ StD V (n + 1 + 1) ∗ (Any (F := F) c b31 Finset.univ ∗ Any (F := F) c b32 Finset.univ))) ?_
      (((T.startIf t 1 1 rfl).frame _).bind fun _ => T.pre (P' := iprop(Hs (F := F) (c := c) t.val 2 ∗ Hs (F := F) (c := c) (t.val + 1) 0 ∗ Hs (F := F) (c := c) (t.val + 1) 1 ∗ StD V (n + 1 + 1) ∗ (Any (F := F) c b31 Finset.univ ∗ Any (F := F) c b32 Finset.univ))) ?_
        (((T.startIf t 2 2 rfl).frame _).bind fun _ => T.pre (P' := iprop(StD V (n + 1 + 1) ∗ (Any (F := F) c b31 Finset.univ ∗ Any (F := F) c b32 Finset.univ) ∗ H3 (F := F) (c := c) (t.val + 1))) ?_ (((T.loop5 t (by omega) h3).frame _).post fun s' => ?_))))
  · rw [hgt]
    iintro ⟨⟨HR, HO⟩, HX, ⟨HC, HB⟩, HW⟩
    ihave HH := HW $$ HB
    icases HH with ⟨Ha, Hb, Hc⟩
    isplitl [Ha]; · iexact Ha
    isplitl [Hb]; · iexact Hb
    isplitl [Hc]; · iexact Hc
    isplitr [HC]
    · isplitl [HR HO]
      · isplitl [HR]; · iapply (Ring_next (n + 1)); iexact HR
        iexact HO
      iexact HX
    iexact HC
  · iintro ⟨H0, H1, H2, HX⟩
    isplitl [H1]; · iexact H1
    isplitl [H2]; · iexact H2
    isplitl [H0]; · iexact H0
    iexact HX
  · iintro ⟨H1, H2, H0, HX⟩
    isplitl [H2]; · iexact H2
    isplitl [H0]; · iexact H0
    isplitl [H1]; · iexact H1
    iexact HX
  · iintro ⟨H2, H0, H1, HD, HC⟩
    isplitl [HD]; · iexact HD
    isplitl [HC]; · iexact HC
    isplitl [H0]; · iexact H0
    isplitl [H1]; · iexact H1
    iexact H2
  · have en : n + 1 + 1 + 5 = 62 + 7 * (t.val + 1) := by omega
    rw [en]
    iintro ⟨⟨%h, HD⟩, HC⟩
    isplitr; · ipureintro; exact h
    isplitl [HD]; · iexact HD
    iexact HC
theorem T.loop4 {s : Mxu F} (h : MxA V 62 s) : T c (St4 V 0) (loop4 s) (fun s' => iprop(⌜MxA V 83 s'⌝ ∗ St4 V 3)) := by
  unfold Hand.loop4
  refine T.pre ?_ ((loopT (fun k s' => iprop(⌜MxA V (62 + 7 * k) s'⌝ ∗ St4 V k)) fun k a => T.fact fun hM => T.group k hM).post fun s' => ?_)
  · iintro H; isplitr
    · ipureintro; exact h
    · iexact H
  · exact .rfl

end Cert.Kernel.Hand
-- ==== Proof.Split.lean ====
module

public import proofs.«01_k».proof.Proof.Heads

/-! Whole buffers as their blocks, and back. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

theorem Sq_fin (n : ℕ) (f : ℕ → sProp 𝕄) : bigSep Finset.univ (fun t : Fin n => f t.val) ⊣⊢ Sq f 0 n := by
  rw [Ring.bigSep_fin_eq_range n _ f (fun _ _ => rfl)]
  induction n with
  | zero => rw [Finset.range_zero, BI.bigSep_empty]; exact ⟨.rfl, .rfl⟩
  | succ n ih =>
    rw [Finset.range_add_one, BI.bigSep_insert Finset.notMem_range_self]
    constructor
    · refine (show iprop(f n ∗ bigSep (Finset.range n) f) ⊢ _ from ?_)
      iintro ⟨H1, H2⟩
      iapply (Sq_snoc f 0 n).1
      isplitl [H2]; · iapply ih.1; iexact H2
      rw [Nat.zero_add]; iexact H1
    · refine (show _ ⊢ iprop(f n ∗ bigSep (Finset.range n) f) from ?_)
      iintro H
      icases (Sq_snoc f 0 n).2 $$ H with ⟨H1, H2⟩
      rw [Nat.zero_add]
      isplitl [H2]; · iexact H2
      iapply ih.2; iexact H1
theorem bigSep_facts {I : Type} [DecidableEq I] (S : Finset I) (φ : I → Prop) (X : I → sProp 𝕄) :
    bigSep S (fun t => iprop(⌜φ t⌝ ∗ X t)) ⊢ iprop(⌜∀ t ∈ S, φ t⌝ ∗ bigSep S X) := by
  induction S using Finset.induction_on with
  | empty =>
    rw [BI.bigSep_empty, BI.bigSep_empty]
    iintro H; isplitr
    · ipureintro; intro t ht; exact absurd ht (Finset.notMem_empty _)
    · iexact H
  | insert a S ha ih =>
    rw [BI.bigSep_insert ha, BI.bigSep_insert ha]
    refine (BIClass.sep_mono (P := iprop(⌜φ a⌝ ∗ X a)) .rfl ih).trans ?_
    refine (show _ ⊢ iprop(⌜_⌝ ∗ (X a ∗ bigSep S X)) from ?_)
    iintro ⟨⟨%h, H⟩, %h', H'⟩
    isplitr
    · ipureintro; intro t ht
      rcases Finset.mem_insert.1 ht with rfl | ht
      · exact h
      · exact h' t ht
    isplitl [H]; · iexact H
    iexact H'

section
variable {sp : Space} {s : Shape} {e : EltTy} {b : Memref sig .tc sp s e} {n : ℕ} (I : Fin n → Finset (Idx (b.view.loc (c : Thread nD τ)))) (key : Idx (b.view.loc (c : Thread nD τ)) → Fin n)
  (hk : ∀ t i, i ∈ I t ↔ key i = t) {q : PosShare TreeShare}
include hk
theorem key_disj (t t' : Fin n) (h : t ≠ t') : Disjoint (I t) (I t') :=
  Finset.disjoint_left.2 fun i hi hi' => h (((hk t i).1 hi).symm.trans ((hk t' i).1 hi'))
theorem key_cover : Finset.univ.biUnion I = Finset.univ := by
  ext i; simp only [Finset.mem_biUnion, Finset.mem_univ, true_and, iff_true]; exact ⟨key i, (hk _ _).2 rfl⟩
theorem Own_split {f : ℕ → sProp 𝕄} (hf : ∀ t : Fin n, f t.val = Own (F := F) c b (I t) q (fun _ => True)) : Own (F := F) c b Finset.univ q (fun _ => True) ⊢ Sq f 0 n := by
  refine .trans ?_ (Sq_fin n f).1
  have e : bigSep Finset.univ (fun t : Fin n => f t.val) = bigSep Finset.univ (fun t : Fin n => Own (F := F) c b (I t) q (fun _ => True)) := BI.bigSep_congr fun t _ => hf t
  rw [e]
  unfold Own
  iintro ⟨%g, -, H⟩
  have e' := Ring.pointsTo_blocks (Val := Elt F) (Ix := Unit) (Name := ℕ) (U := Pipeline.UD sig nD τ) (Lvl := ℕ) I (key_disj I key hk) (key_cover I key hk) (q := q) g
  have e'' : (b.view.loc (c : Thread nD τ) ↦{q} g : sProp 𝕄) ⊢ bigSep Finset.univ (fun t : Fin n => (b.view.loc (c : Thread nD τ) ↦[I t]{q} g : sProp 𝕄)) := by rw [← e']
  ihave H := e'' $$ H
  have hm : bigSep Finset.univ (fun t : Fin n => (b.view.loc (c : Thread nD τ) ↦[I t]{q} g : sProp 𝕄)) ⊢ bigSep Finset.univ (fun t : Fin n => iprop(∃ f, ⌜True⌝ ∗ (b.view.loc (c : Thread nD τ) ↦[I t]{q} f))) :=
    BI.bigSep_mono fun t _ => show (b.view.loc (c : Thread nD τ) ↦[I t]{q} g : sProp 𝕄) ⊢ iprop(∃ f, ⌜True⌝ ∗ (b.view.loc (c : Thread nD τ) ↦[I t]{q} f)) from by
      iintro H; iexists g; isplitr; · ipureintro; trivial
      iexact H
  iapply hm; iexact H
theorem Own_joinP (P : Fin n → Buf (Elt F) (b.view.loc (c : Thread nD τ)) → Prop) :
    bigSep Finset.univ (fun t : Fin n => Own (F := F) c b (I t) q (P t)) ⊢ Own (F := F) c b Finset.univ q (fun g => ∀ t, ∃ f, P t f ∧ ∀ i ∈ I t, g i = f i) := by
  have : Nonempty (Buf (Elt F) (b.view.loc (c : Thread nD τ))) := ⟨b.view.junk⟩
  unfold Own
  refine (Idealize.SL.BI.bigSep_exists_pi Finset.univ (fun t (f : Buf (Elt F) (b.view.loc (c : Thread nD τ))) => iprop(⌜P t f⌝ ∗ (b.view.loc (c : Thread nD τ) ↦[I t]{q} f)))).trans ?_
  iintro ⟨%fs, H⟩
  icases (bigSep_facts Finset.univ (fun t => P t (fs t)) (fun t => (b.view.loc (c : Thread nD τ) ↦[I t]{q} fs t : sProp 𝕄))) $$ H with ⟨%hP, H⟩
  icases (pointsTo_biUnion_join Finset.univ I fs b.view.junk (fun t _ t' _ h => key_disj I key hk t t' h)) $$ H with ⟨%g, %hg, H⟩
  iexists g
  isplitr; · ipureintro; exact fun t => ⟨fs t, hP t (Finset.mem_univ _), hg t (Finset.mem_univ _)⟩
  rw [key_cover I key hk]; iexact H
theorem Own_join {f : ℕ → sProp 𝕄} (hf : ∀ t : Fin n, f t.val = Own (F := F) c b (I t) q (fun _ => True)) : Sq f 0 n ⊢ Own (F := F) c b Finset.univ q (fun _ => True) := by
  refine (Sq_fin n f).2.trans ?_
  have e : bigSep Finset.univ (fun t : Fin n => f t.val) = bigSep Finset.univ (fun t : Fin n => Own (F := F) c b (I t) q (fun _ => True)) := BI.bigSep_congr fun t _ => hf t
  rw [e]
  refine (Own_joinP I key hk (fun _ _ => True)).trans ?_
  unfold Own
  iintro ⟨%g, -, H⟩; iexists g; isplitr; · ipureintro; trivial
  iexact H
end

/-! ### The blocks -/
theorem mem_lead {n a b k : ℕ} (h) (i : (⟨3, ![n, a, b]⟩ : Shape).Idx) : i ∈ (Rect.unit (s := ⟨3, ![n, a, b]⟩) ![k, 0, 0] ![1, a, b] h).set ↔ (i 0).val = k := by
  rw [Rect.mem_set_unit]
  constructor
  · intro h'
    have h0 : k ≤ (i 0).val ∧ (i 0).val < k + 1 := h' 0
    omega
  · intro h' x
    fin_cases x
    · show k ≤ (i 0).val ∧ (i 0).val < k + 1; omega
    · have : (i 1).val < a := (i 1).2
      show 0 ≤ (i 1).val ∧ (i 1).val < 0 + a; omega
    · have : (i 2).val < b := (i 2).2
      show 0 ≤ (i 2).val ∧ (i 2).val < 0 + b; omega
theorem mem_cols {n m w k : ℕ} (h) (i : (⟨2, ![n, m]⟩ : Shape).Idx) : i ∈ (Rect.unit (s := ⟨2, ![n, m]⟩) ![0, w * k] ![n, w] h).set ↔ w * k ≤ (i 1).val ∧ (i 1).val < w * k + w := by
  rw [Rect.mem_set_unit]
  constructor
  · intro h'; exact h' 1
  · intro h' x
    fin_cases x
    · have : (i 0).val < n := (i 0).2
      show 0 ≤ (i 0).val ∧ (i 0).val < 0 + n; omega
    · exact h'
theorem slot_key (t : Fin 12) (i : S12x512x2048.Idx) : i ∈ slotSet t.val ↔ (i 0 : Fin 12) = t := by
  unfold slotSet
  refine (mem_lead (n := 12) (a := 512) (b := 2048) _ i).trans ?_
  rw [Nat.mod_eq_of_lt t.2]; exact Fin.ext_iff.symm
theorem hset_key (t : Fin 28) (i : S28x256x512.Idx) : i ∈ hset t.val ↔ (i 0 : Fin 28) = t := by
  unfold hset
  refine (mem_lead (n := 28) (a := 256) (b := 512) _ i).trans ?_
  rw [Nat.mod_eq_of_lt t.2]; exact Fin.ext_iff.symm
theorem rset_key (t : Fin 14) (i : S14x256x256.Idx) : i ∈ rset t ↔ (i 0 : Fin 14) = t := by
  rw [rset_eq]
  refine (mem_lead (n := 14) (a := 256) (b := 256) _ i).trans ?_
  exact Fin.ext_iff.symm
def colKey (i : S256x3584.Idx) : Fin 14 := ⟨(i 1).val / 256, by have : (i 1).val < 3584 := (i 1).2; omega⟩
theorem colKey_iff (t : Fin 14) (i : S256x3584.Idx) : (256 * t.val ≤ (i 1).val ∧ (i 1).val < 256 * t.val + 256) ↔ colKey i = t := by
  rw [Fin.ext_iff]; show _ ↔ (i 1).val / 256 = t.val; omega
theorem roset_key (t : Fin 14) (i : S256x3584.Idx) : i ∈ roset t ↔ colKey i = t := by
  have e : roset t = (Rect.unit (s := S256x3584) ![0, 256 * t.val] S256x256.size (inbRes (tc256 t))).set := View.set_slice_whole _ _
  rw [e]
  exact (mem_cols (n := 256) (m := 3584) (w := 256) _ i).trans (colKey_iff t i)
def cset (t : Fin 14) : Finset S14x256x256.Idx := (cTile t).view.set
def xcset (t : Fin 14) : Finset S256x3584.Idx := (xcDst t).view.set
theorem cset_key (t : Fin 14) (i : S14x256x256.Idx) : i ∈ cset t ↔ (i 0 : Fin 14) = t := by
  have e : cset t = (Rect.unit (s := S14x256x256) ![t.val, 0, 0] S1x256x256.size (inbX t.2)).set := (View.set_reshape _ _).trans (View.set_slice_whole _ _)
  rw [e]
  exact (mem_lead (n := 14) (a := 256) (b := 256) _ i).trans Fin.ext_iff.symm
theorem xcset_key (t : Fin 14) (i : S256x3584.Idx) : i ∈ xcset t ↔ colKey i = t := by
  have e : xcset t = (Rect.unit (s := S256x3584) ![0, 256 * t.val] S256x256.size (inbRes (tc256 t))).set := View.set_slice_whole _ _
  rw [e]
  exact (mem_cols (n := 256) (m := 3584) (w := 256) _ i).trans (colKey_iff t i)
/-- Places `(g, l)` numbered. -/
def obN (t : Fin 8) : Finset S4x2x256x8x128.Idx := obset ⟨t.val / 2, by omega⟩ ⟨t.val % 2, by omega⟩
def obKey (i : S4x2x256x8x128.Idx) : Fin 8 := ⟨2 * (i 0).val + (i 1).val, by have : (i 0).val < 4 := (i 0).2; have : (i 1).val < 2 := (i 1).2; omega⟩
theorem ob_key (t : Fin 8) (i : S4x2x256x8x128.Idx) : i ∈ obN t ↔ obKey i = t := by
  unfold obN
  rw [obset_eq, Rect.mem_set_unit, Fin.ext_iff]
  have h1 : (i 1).val < 2 := (i 1).2
  have h2 : (i 2).val < 256 := (i 2).2
  have h3 : (i 3).val < 8 := (i 3).2
  have h4 : (i 4).val < 128 := (i 4).2
  show _ ↔ 2 * (i 0).val + (i 1).val = t.val
  constructor
  · intro h'
    have a0 : t.val / 2 ≤ (i 0).val ∧ (i 0).val < t.val / 2 + 1 := h' 0
    have a1 : t.val % 2 ≤ (i 1).val ∧ (i 1).val < t.val % 2 + 1 := h' 1
    omega
  · intro h' x
    fin_cases x
    · show t.val / 2 ≤ (i 0).val ∧ (i 0).val < t.val / 2 + 1; omega
    · show t.val % 2 ≤ (i 1).val ∧ (i 1).val < t.val % 2 + 1; omega
    · show 0 ≤ (i 2).val ∧ (i 2).val < 0 + 256; omega
    · show 0 ≤ (i 3).val ∧ (i 3).val < 0 + 8; omega
    · show 0 ≤ (i 4).val ∧ (i 4).val < 0 + 128; omega
def qSet (t : Fin 4) : Finset S256x16x256.Idx := (Rect.unit (s := S256x16x256) ![0, 8 * (t.val / 2), 128 * (t.val % 2)] S256x8x128.size (inbQ (by omega) (by omega))).set
def kSet (t : Fin 2) : Finset S256x8x256.Idx := (Rect.unit (s := S256x8x256) ![0, 0, 128 * t.val] S256x8x128.size (inbK (by omega))).set
def qKey (i : S256x16x256.Idx) : Fin 4 := ⟨2 * ((i 1).val / 8) + (i 2).val / 128, by have : (i 1).val < 16 := (i 1).2; have : (i 2).val < 256 := (i 2).2; omega⟩
def kKey (i : S256x8x256.Idx) : Fin 2 := ⟨(i 2).val / 128, by have : (i 2).val < 256 := (i 2).2; omega⟩
theorem q_key (t : Fin 4) (i : S256x16x256.Idx) : i ∈ qSet t ↔ qKey i = t := by
  unfold qSet
  rw [Rect.mem_set_unit, Fin.ext_iff]
  have h0 : (i 0).val < 256 := (i 0).2
  have h1 : (i 1).val < 16 := (i 1).2
  have h2 : (i 2).val < 256 := (i 2).2
  show _ ↔ 2 * ((i 1).val / 8) + (i 2).val / 128 = t.val
  constructor
  · intro h'
    have a1 : 8 * (t.val / 2) ≤ (i 1).val ∧ (i 1).val < 8 * (t.val / 2) + 8 := h' 1
    have a2 : 128 * (t.val % 2) ≤ (i 2).val ∧ (i 2).val < 128 * (t.val % 2) + 128 := h' 2
    omega
  · intro h' x
    fin_cases x
    · show 0 ≤ (i 0).val ∧ (i 0).val < 0 + 256; omega
    · show 8 * (t.val / 2) ≤ (i 1).val ∧ (i 1).val < 8 * (t.val / 2) + 8; omega
    · show 128 * (t.val % 2) ≤ (i 2).val ∧ (i 2).val < 128 * (t.val % 2) + 128; omega
theorem k_key (t : Fin 2) (i : S256x8x256.Idx) : i ∈ kSet t ↔ kKey i = t := by
  unfold kSet
  rw [Rect.mem_set_unit, Fin.ext_iff]
  have h0 : (i 0).val < 256 := (i 0).2
  have h1 : (i 1).val < 8 := (i 1).2
  have h2 : (i 2).val < 256 := (i 2).2
  show _ ↔ (i 2).val / 128 = t.val
  constructor
  · intro h'
    have a2 : 128 * t.val ≤ (i 2).val ∧ (i 2).val < 128 * t.val + 128 := h' 2
    omega
  · intro h' x
    fin_cases x
    · show 0 ≤ (i 0).val ∧ (i 0).val < 0 + 256; omega
    · show 0 ≤ (i 1).val ∧ (i 1).val < 0 + 8; omega
    · show 128 * t.val ≤ (i 2).val ∧ (i 2).val < 128 * t.val + 128; omega
theorem hd0_set (l : Fin 2) : (hdDst 0 l).view.set = qSet ⟨l.val, by omega⟩ := by
  refine (View.set_slice_whole _ _).trans ?_
  unfold qSet; fin_cases l <;> rfl
theorem hd1_set (l : Fin 2) : (hdDst 1 l).view.set = qSet ⟨2 + l.val, by omega⟩ := by
  refine (View.set_slice_whole _ _).trans ?_
  unfold qSet; fin_cases l <;> rfl
theorem hd2_set (l : Fin 2) : (hdDst 2 l).view.set = kSet l := View.set_slice_whole _ _
theorem hd3_set (l : Fin 2) : (hdDst 3 l).view.set = kSet l := View.set_slice_whole _ _

end Cert.Kernel.Hand
-- ==== Proof.SegA.lean ====
module

public import proofs.«01_k».proof.Proof.Steps

/-! The copies in, and the opening of the body. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

/-- A whole buffer copied into another, on its way. -/
abbrev InF (i : ℕ) (h : i < 5) {S : Shape} {e : EltTy} (src : Memref sig .tc .hbm S e) (dst : Memref sig .tc .vmem S e)
    (f : Buf (Elt F) (src.view.loc (c : Thread nD τ))) (P : Buf (Elt F) (dst.view.loc (c : Thread nD τ)) → Prop) : sProp 𝕄 :=
  Fly c (.dma (iSem i h)) dst.view.dmaCredit iprop(Own c dst Finset.univ fullShare P ∗ Own c src Finset.univ fullShare (fun g => g = f))
theorem T.copyIn {i : ℕ} (h : i < 5) {S : Shape} {e : EltTy} {src : Memref sig .tc .hbm S e} {dst : Memref sig .tc .vmem S e} {hs : src.view.WordExact} {hd : dst.view.WordExact}
    {f : Buf (Elt F) (src.view.loc (c : Thread nD τ))} {P : Buf (Elt F) (dst.view.loc (c : Thread nD τ)) → Prop} (hN0 : 0 < S.numel)
    (hP : ∀ fd, P (dst.view.write (Elt F) fd (src.view.read (Elt F) f) Finset.univ)) :
    T c iprop(Own c src Finset.univ fullShare (fun g => g = f) ∗ Any (F := F) c dst Finset.univ ∗ semVal ((c : Thread nD τ), SemLoc.dma (iSem i h)) 0) (copyIn i h src dst hs hd)
      (fun _ => InF i h src dst f P) := by
  unfold Hand.copyIn
  refine T.pre ?_ (T.start (src := src) (dst := dst) (q := fullShare) (fs := f) (Ss := Finset.univ) (Sd := Finset.univ) rfl hN0 (Finset.subset_univ _) (Finset.subset_univ _) fun fd => ?_)
  · unfold Any Own
    iintro ⟨⟨%g, %hg, H⟩, ⟨%fd, -, Hd⟩, Hs⟩
    subst hg
    isplitl [H]; · iexact H
    isplitl [Hd]; · iexists fd; iexact Hd
    iexact Hs
  · exact BIClass.sep_mono (Own_intro (b := dst) (hP fd)) (Own_intro (b := src) rfl)
theorem T.waitIn {i : ℕ} (h : i < 5) {S : Shape} {e : EltTy} {src : Memref sig .tc .hbm S e} {dst : Memref sig .tc .vmem S e} {hs : src.view.WordExact} {hd : dst.view.WordExact}
    {f : Buf (Elt F) (src.view.loc (c : Thread nD τ))} {P : Buf (Elt F) (dst.view.loc (c : Thread nD τ)) → Prop} :
    T c iprop(InF i h src dst f P ∗ Owes (F := F) c) (waitIn i h src dst hs hd)
      (fun _ => iprop(((Own c dst Finset.univ fullShare P ∗ Own c src Finset.univ fullShare (fun g => g = f)) ∗ semVal ((c : Thread nD τ), SemLoc.dma (iSem i h)) 0) ∗ Owes c)) := by
  unfold Hand.waitIn
  exact T.await (src := src) (dst := dst) rfl

variable {V : Vals F c}
theorem nW_nat {i : ℕ} (h : i < 96) : (nW i).toNat = i := by rw [BitVec.toNat_ofNat]; omega
theorem goHe {x : W} (h : K0 x) {i : ℕ} (e : x.toNat = i) : T c (HId V i) (Hand.startH x h) (fun _ => HFl V i) := by
  subst e; exact T.goH x h
theorem goAe {x : W} (h : K0 x) {i : ℕ} (e : x.toNat = i) : T c (Idle V i) (Hand.startA x h) (fun _ => Fl V i) := by
  subst e; exact T.goA x h
theorem goBe {x : W} (h : K1 x) {i : ℕ} (e : x.toNat = i) : T c (Idle V i) (Hand.startB x h) (fun _ => Fl V i) := by
  subst e; exact T.goB x h
theorem goCe {x : W} (h : K2 x) {i : ℕ} (e : x.toNat = i) : T c (Idle V i) (Hand.startC x h) (fun _ => Fl V i) := by
  subst e; exact T.goC x h
theorem waitAe {x : W} (h : K0 x) {i : ℕ} (e : x.toNat = i) : T c iprop(Fl V i ∗ Owes (F := F) c) (Hand.waitA x h) (fun _ => iprop(Landed V i ∗ Owes c)) := by
  subst e; exact T.waitA x h
theorem waitBe {x : W} (h : K1 x) {i : ℕ} (e : x.toNat = i) : T c iprop(Fl V i ∗ Owes (F := F) c) (Hand.waitB x h) (fun _ => iprop(Landed V i ∗ Owes c)) := by
  subst e; exact T.waitB x h
theorem waitCe {x : W} (h : K2 x) {i : ℕ} (e : x.toNat = i) : T c iprop(Fl V i ∗ Owes (F := F) c) (Hand.waitC x h) (fun _ => iprop(Landed V i ∗ Owes c)) := by
  subst e; exact T.waitC x h

/-- The first `i` copies of each kind started. -/
abbrev Go (V : Vals F c) (i : ℕ) : sProp 𝕄 := iprop((Sq (HFl V) 0 i ∗ Sq (HId V) i (28 - i)) ∗ (Sq (Fl V) 0 i ∗ Sq (Idle V) i (12 - i)))
theorem Sq_move {f g : ℕ → sProp 𝕄} {i n : ℕ} (h : i < n) : iprop(Sq g 0 i ∗ Sq f i (n - i)) ⊢ iprop(f i ∗ (g i -∗ (Sq g 0 (i + 1) ∗ Sq f (i + 1) (n - (i + 1))))) := by
  rw [show n - i = (n - (i + 1)) + 1 by omega, Sq_cons]
  iintro ⟨H1, H2, H3⟩
  isplitl [H2]; · iexact H2
  iintro H
  isplitl [H1 H]
  · iapply (Sq_snoc g 0 i).1; isplitl [H1]; · iexact H1
    rw [Nat.zero_add]; iexact H
  iexact H3
theorem T.moveH {i : ℕ} (h : i < 28) {X : sProp 𝕄} : T c iprop((Sq (HFl V) 0 i ∗ Sq (HId V) i (28 - i)) ∗ X) (Hand.startH (nW i) (K0n h)) (fun _ => iprop((Sq (HFl V) 0 (i + 1) ∗ Sq (HId V) (i + 1) (28 - (i + 1))) ∗ X)) := by
  refine T.pre (BIClass.sep_mono (Sq_move h) .rfl) ?_
  refine T.pre ?_ (((goHe (V := V) (K0n h) (nW_nat (by omega))).frame iprop((HFl V i -∗ (Sq (HFl V) 0 (i + 1) ∗ Sq (HId V) (i + 1) (28 - (i + 1)))) ∗ X)).post fun _ => ?_)
  · iintro ⟨⟨H1, H2⟩, H3⟩
    isplitl [H1]; · iexact H1
    isplitl [H2]; · iexact H2
    iexact H3
  · iintro ⟨H1, H2, H3⟩
    isplitl [H1 H2]; · iapply H2; iexact H1
    iexact H3
theorem T.moveA {i : ℕ} (h : i < 12) {X : sProp 𝕄} : T c iprop((Sq (Fl V) 0 i ∗ Sq (Idle V) i (12 - i)) ∗ X) (Hand.startA (nW i) (K0n (by omega))) (fun _ => iprop((Sq (Fl V) 0 (i + 1) ∗ Sq (Idle V) (i + 1) (12 - (i + 1))) ∗ X)) := by
  refine T.pre (BIClass.sep_mono (Sq_move h) .rfl) ?_
  refine T.pre ?_ (((goAe (V := V) (K0n (by omega)) (nW_nat (by omega))).frame iprop((Fl V i -∗ (Sq (Fl V) 0 (i + 1) ∗ Sq (Idle V) (i + 1) (12 - (i + 1)))) ∗ X)).post fun _ => ?_)
  · iintro ⟨⟨H1, H2⟩, H3⟩
    isplitl [H1]; · iexact H1
    isplitl [H2]; · iexact H2
    iexact H3
  · iintro ⟨H1, H2, H3⟩
    isplitl [H1 H2]; · iapply H2; iexact H1
    iexact H3
theorem T.swap {α : Type} {A B X : sProp 𝕄} {p : PR F α} {Q : α → sProp 𝕄} (h : T c iprop(B ∗ A ∗ X) p Q) : T c iprop(A ∗ B ∗ X) p Q := by
  refine T.pre ?_ h
  iintro ⟨H1, H2, H3⟩
  isplitl [H2]; · iexact H2
  isplitl [H1]; · iexact H1
  iexact H3
theorem T.startsHW {α : Type} {k : PR F α} {X : sProp 𝕄} {Q : α → sProp 𝕄} (n i : ℕ) (h : i + n ≤ 28) (h' : i + n ≤ 12)
    (hk : T c iprop((Sq (HFl V) 0 (i + n) ∗ Sq (HId V) (i + n) (28 - (i + n))) ∗ (Sq (Fl V) 0 (i + n) ∗ Sq (Idle V) (i + n) (12 - (i + n))) ∗ X) k Q) :
    T c iprop((Sq (HFl V) 0 i ∗ Sq (HId V) i (28 - i)) ∗ (Sq (Fl V) 0 i ∗ Sq (Idle V) i (12 - i)) ∗ X) (startsHW k n i h) Q := by
  induction n generalizing i with
  | zero => exact hk
  | succ n ih =>
    unfold Hand.startsHW
    refine (T.moveH (by omega)).bind fun _ => T.swap ((T.moveA (by omega)).bind fun _ => T.swap (ih (i + 1) (by omega) (by omega) ?_))
    rw [show i + 1 + n = i + (n + 1) by omega]; exact hk
theorem T.startsH {α : Type} {k : PR F α} {X : sProp 𝕄} {Q : α → sProp 𝕄} (n i : ℕ) (h : i + n ≤ 28)
    (hk : T c iprop((Sq (HFl V) 0 (i + n) ∗ Sq (HId V) (i + n) (28 - (i + n))) ∗ X) k Q) :
    T c iprop((Sq (HFl V) 0 i ∗ Sq (HId V) i (28 - i)) ∗ X) (startsH k n i h) Q := by
  induction n generalizing i with
  | zero => exact hk
  | succ n ih =>
    unfold Hand.startsH
    refine (T.moveH (by omega)).bind fun _ => ih (i + 1) (by omega) ?_
    rw [show i + 1 + n = i + (n + 1) by omega]; exact hk

theorem T.hsRoll : T c iprop(Any (F := F) c b19 Finset.univ ∗ Own c b18 Finset.univ fullShare V.HS) (hsRoll : PR F PUnit) (fun _ => iprop(B19 V 0 ∗ Own c b18 Finset.univ fullShare V.HS)) := by
  unfold Hand.hsRoll Hand.ldW Hand.stW
  refine T.seq (T.load (c := c) (b := b19) Finset.univ (Finset.subset_univ _)) fun _ _ => T.bind (T.store (c := c) (b := b19) (S := Finset.univ) (Finset.subset_univ _)) fun _ => ?_
  refine T.seq (T.load (c := c) (b := b18) Finset.univ (Finset.subset_univ _)) fun v hv => ?_
  obtain ⟨g, hg, rfl⟩ := hv
  refine T.seq (T.load (c := c) (b := b19) Finset.univ (Finset.subset_univ _)) fun _ _ => ?_
  exact (T.storeOwn (c := c) (b := b19) (S := Finset.univ) (P := fun _ => True) (P' := V.HR 0) (hx := View.stores_vmem_bits_univ h_S256x112 rfl) (hm := .inl rfl)
    (r := Rect.unit (s := S256x128) ![0, 0] S256x112.size inb_S256x128_S256x112_0_0) (Finset.subset_univ _) (fun f _ => V.hr0 f g hg)).frame _

/-! ### The five copies in -/
abbrev In0 (V : Vals F c) : sProp 𝕄 := InF 0 (by decide) b1 b18 V.hs1 V.HS
abbrev In1 (V : Vals F c) : sProp 𝕄 := InF 1 (by decide) b4 b21 V.res4 V.HRes
abbrev In2 (V : Vals F c) : sProp 𝕄 := InF 2 (by decide) b5 b22 V.nw5 (fun _ => True)
abbrev In3 (V : Vals F c) : sProp 𝕄 := InF 3 (by decide) b8 b23 V.pos8 (fun _ => True)
abbrev In4 (V : Vals F c) : sProp 𝕄 := InF 4 (by decide) b9 b24 V.fr9 (fun _ => True)
abbrev iS (i : ℕ) (h : i < 5) : sProp 𝕄 := semVal ((c : Thread nD τ), SemLoc.dma (iSem i h)) 0
abbrev Src1 (V : Vals F c) : sProp 𝕄 := Own c b1 Finset.univ fullShare (fun g => g = V.hs1)
abbrev Src4 (V : Vals F c) : sProp 𝕄 := Own c b4 Finset.univ fullShare (fun g => g = V.res4)
abbrev Src5 (V : Vals F c) : sProp 𝕄 := Own c b5 Finset.univ fullShare (fun g => g = V.nw5)
abbrev Src8 (V : Vals F c) : sProp 𝕄 := Own c b8 Finset.univ fullShare (fun g => g = V.pos8)
abbrev Src9 (V : Vals F c) : sProp 𝕄 := Own c b9 Finset.univ fullShare (fun g => g = V.fr9)
abbrev B18 (V : Vals F c) : sProp 𝕄 := Own c b18 Finset.univ fullShare V.HS
theorem HL0 : Any (F := F) c b20 Finset.univ ⊢ B20 V (4 * 0) := by
  unfold Any B20 Own; iintro ⟨%f, -, H⟩; iexists f; isplitr; · ipureintro; exact V.hl0 f
  iexact H

/-- The buffers and counters of the five copies. -/
abbrev InsI (V : Vals F c) : sProp 𝕄 := iprop((Src1 V ∗ Any (F := F) c b18 Finset.univ ∗ iS (F := F) (c := c) 0 (by decide)) ∗ (Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide)))
theorem T.segA_end {X : sProp 𝕄} : T c iprop((Sq (HFl V) 0 28 ∗ Sq (HId V) 28 0) ∗ (Owes (F := F) c ∗ In0 V ∗ (Sq (Fl V) 0 11 ∗ Sq (Idle V) 11 1) ∗ B3 V ∗ Any (F := F) c b19 Finset.univ ∗ Any (F := F) c b20 Finset.univ ∗ X))
    (do
      Hand.waitIn 0 (by decide) b1 b18 (Memref.isWhole_whole _).wordExact (Memref.isWhole_whole _).wordExact
      Hand.hsRoll
      Hand.waitH (nW 0) (K0n (by decide))
      Hand.widenH (nW 0) (K0n (by decide))
      Hand.waitA (nW 0) (K0n (by decide))
      Hand.pushPair (srcA (nW 0) (K0n (by decide))) 0 0 Mxu.init)
    (fun s => iprop(⌜MxA V 0 s⌝ ∗ StA V 0 ∗ (B18 V ∗ Src1 V ∗ iS (F := F) (c := c) 0 (by decide)) ∗ X)) := by
  have e0 : (nW 0).toNat = 0 := nW_nat (by decide)
  have q1 : Sq (Fl V) 0 11 = iprop(Fl V 0 ∗ Sq (Fl V) 1 10) := rfl
  have q2 : Sq (Idle V) 11 1 = iprop(Idle V 11 ∗ emp) := rfl
  have hd := T.widenH (V := V) (c := c) (nW 0) (K0n (by decide))
  rw [e0] at hd
  refine T.pre (P' := iprop((In0 V ∗ Owes (F := F) c) ∗ (Any (F := F) c b19 Finset.univ ∗ Sq (HFl V) 0 28 ∗ (Sq (Fl V) 0 11 ∗ Sq (Idle V) 11 1) ∗ B3 V ∗ Any (F := F) c b20 Finset.univ ∗ X))) ?_
    (((T.waitIn (by decide)).frame _).bind fun _ => ?_)
  · iintro ⟨⟨HF, -⟩, HO, HI, HW, H3, H19, H20, HX⟩
    isplitl [HI HO]
    · isplitl [HI]; · iexact HI
      iexact HO
    isplitl [H19]; · iexact H19
    isplitl [HF]; · iexact HF
    isplitl [HW]; · iexact HW
    isplitl [H3]; · iexact H3
    isplitl [H20]; · iexact H20
    iexact HX
  refine T.pre (P' := iprop((Any (F := F) c b19 Finset.univ ∗ B18 V) ∗ (Owes (F := F) c ∗ Sq (HFl V) 0 28 ∗ (Sq (Fl V) 0 11 ∗ Sq (Idle V) 11 1) ∗ B3 V ∗ Any (F := F) c b20 Finset.univ ∗ Src1 V ∗ iS (F := F) (c := c) 0 (by decide) ∗ X))) ?_
    ((T.hsRoll.frame _).bind fun _ => ?_)
  · iintro ⟨⟨⟨⟨H18, H1⟩, HS⟩, HO⟩, H19, HF, HW, H3, H20, HX⟩
    isplitl [H19 H18]
    · isplitl [H19]; · iexact H19
      iexact H18
    isplitl [HO]; · iexact HO
    isplitl [HF]; · iexact HF
    isplitl [HW]; · iexact HW
    isplitl [H3]; · iexact H3
    isplitl [H20]; · iexact H20
    isplitl [H1]; · iexact H1
    isplitl [HS]; · iexact HS
    iexact HX
  refine T.pre (P' := iprop(Owes (F := F) c ∗ HSt V 0 ∗ ((Sq (Fl V) 0 11 ∗ Sq (Idle V) 11 1) ∗ B3 V ∗ B20 V (4 * 0) ∗ B19 V 0 ∗ (B18 V ∗ Src1 V ∗ iS (F := F) (c := c) 0 (by decide)) ∗ X))) ?_
    ((T.waitHSt (V := V) e0 (K0n (by decide))).bind fun _ => ?_)
  · iintro ⟨⟨H19, H18⟩, HO, HF, HW, H3, H20, H1, HS, HX⟩
    isplitl [HO]; · iexact HO
    isplitl [HF]
    · unfold HSt; isplitr; · iempintro
      iexact HF
    isplitl [HW]; · iexact HW
    isplitl [H3]; · iexact H3
    isplitl [H20]; · iapply (HL0 (V := V)); iexact H20
    isplitl [H19]; · iexact H19
    isplitl [H18 H1 HS]
    · isplitl [H18]; · iexact H18
      isplitl [H1]; · iexact H1
      iexact HS
    iexact HX
  refine T.pre (P' := iprop((B20 V (4 * 0) ∗ Own c b17 (hset 0) fullShare (V.HH 0) ∗ B19 V 0) ∗ (Fl V 0 ∗ Owes (F := F) c) ∗ (Sq (Fl V) 1 10 ∗ Sq (Idle V) 11 1) ∗ B3 V ∗ (semVal ((c : Thread nD τ), SemLoc.dma (hSemI 0)) 0 ∗ HTk V 0) ∗ Sq (HLd V) 0 0 ∗ Sq (HFl V) 1 27 ∗ (B18 V ∗ Src1 V ∗ iS (F := F) (c := c) 0 (by decide)) ∗ X)) ?_
    ((hd.frame _).bind fun _ => ?_)
  · rw [q1]
    iintro ⟨HO, HL, ⟨H17, Hsm, Htk⟩, HF, ⟨⟨HF0, HW⟩, HI⟩, H3, H20, H19, HR, HX⟩
    isplitl [H20 H17 H19]
    · isplitl [H20]; · iexact H20
      isplitl [H17]; · iexact H17
      iexact H19
    isplitl [HF0 HO]
    · isplitl [HF0]; · iexact HF0
      iexact HO
    isplitl [HW HI]
    · isplitl [HW]; · iexact HW
      iexact HI
    isplitl [H3]; · iexact H3
    isplitl [Hsm Htk]
    · isplitl [Hsm]; · iexact Hsm
      iexact Htk
    isplitl [HL]; · iexact HL
    isplitl [HF]; · iexact HF
    isplitl [HR]; · iexact HR
    iexact HX
  refine T.swap (((waitAe (V := V) (K0n (by decide)) e0).frame _).bind fun _ => ?_)
  refine T.pre (P' := iprop((Landed V 0 ∗ B3 V) ∗ (Owes (F := F) c ∗ (Sq (Fl V) 1 10 ∗ Sq (Idle V) 11 1) ∗ (B20 V (4 * 1) ∗ Own c b17 (hset 0) fullShare (V.HH 0) ∗ B19 V 1) ∗ (semVal ((c : Thread nD τ), SemLoc.dma (hSemI 0)) 0 ∗ HTk V 0) ∗ Sq (HLd V) 0 0 ∗ Sq (HFl V) 1 27 ∗ (B18 V ∗ Src1 V ∗ iS (F := F) (c := c) 0 (by decide)) ∗ X))) ?_
    (((T.pushPair (V := V) (srcA_ok (V := V) (K0n (by decide)) e0) 0 0 Mx.init).frame _).post fun s => ?_)
  · iintro ⟨⟨HL0, HO⟩, HB, HW, H3, HX⟩
    isplitl [HL0 H3]
    · isplitl [HL0]; · iexact HL0
      iexact H3
    isplitl [HO]; · iexact HO
    isplitl [HW]; · iexact HW
    isplitl [HB]; · iexact HB
    iexact HX
  · rw [q2]
    iintro ⟨⟨%hs, HL0, H3⟩, HO, ⟨HW, ⟨HI, -⟩⟩, ⟨H20, H17, H19⟩, ⟨Hsm, Htk⟩, HL, HF, HR, HX⟩
    isplitr
    · ipureintro
      have q3 : (Ac none none none none : Fin 2 → Fin 4 → Option ℕ) = fun _ _ => none := by funext q j; fin_cases j <;> rfl
      refine ⟨none, .inl rfl, ?_⟩
      rw [q3]; exact hs
    isplitr [HR HX]
    · isplitl [HL0 HO HW HI]
      · isplitr [HO]
        · unfold Ring
          isplitl [HL0]; · iexact HL0
          isplitl [HW]; · iexact HW
          iexact HI
        iexact HO
      isplitl [H3]; · iexact H3
      isplitl [H17 Hsm Htk HL HF]
      · iapply (HSt_next (V := V) (n := 0) (by decide))
        isplitl [HL]; · iexact HL
        isplitl [H17 Hsm Htk]
        · isplitl [H17]; · iexact H17
          isplitl [Hsm]; · iexact Hsm
          iexact Htk
        iexact HF
      isplitl [H19]; · iexact H19
      iexact H20
    isplitl [HR]; · iexact HR
    iexact HX
/-- The body's opening. -/
theorem T.segA : T c iprop(Owes (F := F) c ∗ Sq (HId V) 0 28 ∗ Sq (Idle V) 0 12 ∗ InsI V ∗ B3 V ∗ Any (F := F) c b19 Finset.univ ∗ Any (F := F) c b20 Finset.univ) (segA : PR F (Mxu F))
    (fun s => iprop(⌜MxA V 0 s⌝ ∗ StA V 0 ∗ (B18 V ∗ Src1 V ∗ iS (F := F) (c := c) 0 (by decide)) ∗ (In1 V ∗ In2 V ∗ In3 V ∗ In4 V))) := by
  unfold Hand.segA
  refine T.pre (P' := iprop((Src1 V ∗ Any (F := F) c b18 Finset.univ ∗ iS (F := F) (c := c) 0 (by decide)) ∗ (Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ Owes (F := F) c ∗ Sq (HId V) 0 28 ∗ Sq (Idle V) 0 12 ∗ B3 V ∗ Any (F := F) c b19 Finset.univ ∗ Any (F := F) c b20 Finset.univ)) ?_
    (((T.copyIn (by decide) (by decide) V.hsL).frame _).bind fun _ => ?_)
  · iintro ⟨HO, HH, HI, ⟨H0, H1, H2, H3, H4⟩, HX⟩
    isplitl [H0]; · iexact H0
    isplitl [H1]; · iexact H1
    isplitl [H2]; · iexact H2
    isplitl [H3]; · iexact H3
    isplitl [H4]; · iexact H4
    isplitl [HO]; · iexact HO
    isplitl [HH]; · iexact HH
    isplitl [HI]; · iexact HI
    iexact HX
  refine T.pre (P' := iprop((Sq (HFl V) 0 0 ∗ Sq (HId V) 0 (28 - 0)) ∗ (Sq (Fl V) 0 0 ∗ Sq (Idle V) 0 (12 - 0)) ∗ ((Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ In0 V ∗ Owes (F := F) c ∗ B3 V ∗ Any (F := F) c b19 Finset.univ ∗ Any (F := F) c b20 Finset.univ))) ?_ (T.startsHW 11 0 (by decide) (by decide) ?_)
  · iintro ⟨H0, H1, H2, H3, H4, HO, HH, HI, HX⟩
    isplitl [HH]
    · isplitr; · iempintro
      iexact HH
    isplitl [HI]
    · isplitr; · iempintro
      iexact HI
    isplitl [H1]; · iexact H1
    isplitl [H2]; · iexact H2
    isplitl [H3]; · iexact H3
    isplitl [H4]; · iexact H4
    isplitl [H0]; · iexact H0
    isplitl [HO]; · iexact HO
    iexact HX
  refine T.pre (P' := iprop((Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ ((Sq (HFl V) 0 11 ∗ Sq (HId V) 11 (28 - 11)) ∗ (Sq (Fl V) 0 11 ∗ Sq (Idle V) 11 1) ∗ In0 V ∗ Owes (F := F) c ∗ B3 V ∗ Any (F := F) c b19 Finset.univ ∗ Any (F := F) c b20 Finset.univ))) ?_
    (((T.copyIn (P := V.HRes) (by decide) (by decide) V.resL).frame _).bind fun _ => T.swap (((T.copyIn (P := fun _ => True) (by decide) (by decide) fun _ => trivial).frame _).bind fun _ => T.swap ?_))
  · iintro ⟨HH, HI, H1, H2, H3, H4, HX⟩
    isplitl [H1]; · iexact H1
    isplitl [H2]; · iexact H2
    isplitl [H3]; · iexact H3
    isplitl [H4]; · iexact H4
    isplitl [HH]; · iexact HH
    isplitl [HI]; · iexact HI
    iexact HX
  refine T.pre (P' := iprop((Src8 V ∗ Any (F := F) c b23 Finset.univ ∗ iS (F := F) (c := c) 3 (by decide)) ∗ (Src9 V ∗ Any (F := F) c b24 Finset.univ ∗ iS (F := F) (c := c) 4 (by decide))
    ∗ ((Sq (HFl V) 0 11 ∗ Sq (HId V) 11 (28 - 11)) ∗ (Sq (Fl V) 0 11 ∗ Sq (Idle V) 11 1) ∗ In0 V ∗ Owes (F := F) c ∗ B3 V ∗ Any (F := F) c b19 Finset.univ ∗ Any (F := F) c b20 Finset.univ) ∗ In1 V ∗ In2 V)) ?_
    (((T.copyIn (P := fun _ => True) (by decide) (by decide) fun _ => trivial).frame _).bind fun _ => T.swap (((T.copyIn (P := fun _ => True) (by decide) (by decide) fun _ => trivial).frame _).bind fun _ => ?_))
  · iintro ⟨H1, H2, H3, H4, HX⟩
    isplitl [H3]; · iexact H3
    isplitl [H4]; · iexact H4
    isplitl [HX]; · iexact HX
    isplitl [H1]; · iexact H1
    iexact H2
  refine T.pre (P' := iprop((Sq (HFl V) 0 11 ∗ Sq (HId V) 11 (28 - 11)) ∗ (Owes (F := F) c ∗ In0 V ∗ (Sq (Fl V) 0 11 ∗ Sq (Idle V) 11 1) ∗ B3 V ∗ Any (F := F) c b19 Finset.univ ∗ Any (F := F) c b20 Finset.univ ∗ (In1 V ∗ In2 V ∗ In3 V ∗ In4 V)))) ?_
    (T.startsH 17 11 (by decide) T.segA_end)
  iintro ⟨H4, H3, ⟨HH, HI, H0, HO, HB, H19, H20⟩, H1, H2⟩
  isplitl [HH]; · iexact HH
  isplitl [HO]; · iexact HO
  isplitl [H0]; · iexact H0
  isplitl [HI]; · iexact HI
  isplitl [HB]; · iexact HB
  isplitl [H19]; · iexact H19
  isplitl [H20]; · iexact H20
  isplitl [H1]; · iexact H1
  isplitl [H2]; · iexact H2
  isplitl [H3]; · iexact H3
  iexact H4

end Cert.Kernel.Hand
-- ==== Proof.SegB.lean ====
module

public import proofs.«01_k».proof.Proof.Quant
public import proofs.«01_k».proof.Proof.SegA

/-! The first product turned to its second pass, its first eight tiles popped, and the second pass ended. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable {V : Vals F c}
/-- Both units' tile `j` popped. -/
theorem T.pop2 {β : Type} {R : sProp 𝕄} [hR : Rd c R b21 Finset.univ V.HRes] (t t' : Fin 14) (ht : t'.val = t.val + 1) (j : Fin 4) {m : ℕ}
    (hm : m = 55 ∧ t.val = (tix j 0).val ∨ m = 111 ∧ t.val = 8 + (tix j 0).val) (hm' : m = 55 ∧ t'.val = (tix j 1).val ∨ m = 111 ∧ t'.val = 8 + (tix j 1).val)
    {s : Mxu F} {Wt A A'} (h : Mx V s Wt A) (h0 : A 0 j = some m) (h1 : upA A 0 j none 1 j = some m) (hA : setJ A j none = A') {n n' : ℕ} (hn : n = t.val) (hn' : n' = t.val + 2)
    {k : Mxu F → PR F β} {Q : β → sProp 𝕄} (hk : ∀ s', Mx V s' Wt A' → T c iprop(R ∗ PD V n') (k s') Q) :
    T c iprop(R ∗ PD V n) (Hand.popDown t 0 j s >>= fun s => Hand.popDown t' 1 j s >>= k) Q := by
  subst hn; subst hn'; subst hA
  refine T.seq' (T.popDown t 0 j hm h h0) fun s1 g1 => ?_
  rw [← ht]
  refine T.seq' (T.popDown t' 1 j hm' g1 h1) fun s2 g2 => ?_
  rw [show t'.val + 1 = t.val + 2 by omega]
  rw [upA_pair] at g2
  exact hk s2 g2
theorem T.pop2' {β : Type} {R : sProp 𝕄} [hR : Rd c R b21 Finset.univ V.HRes]
    {s : Mxu F} {Wt A A'} (h : Mx V s Wt A) (h0 : A 0 0 = some 55) (h1 : upA A 0 0 none 1 0 = some 55) (hA : setJ A 0 none = A')
    {k : Mxu F → PR F β} {Q : β → sProp 𝕄} (hk : ∀ s', Mx V s' Wt A' → T c iprop(R ∗ PD V 2) (k s') Q) :
    T c iprop(R ∗ PD V 0) (Hand.popDown0 s >>= fun s => Hand.popDown 1 1 0 s >>= k) Q := by
  subst hA
  refine T.seq' (T.popDown0 h h0) fun s1 g1 => ?_
  refine T.seq' (T.popDown (V := V) (R := R) 1 1 0 (.inl ⟨rfl, rfl⟩) g1 h1) fun s2 g2 => ?_
  rw [upA_pair] at g2
  exact hk s2 g2

abbrev InsL (V : Vals F c) : sProp 𝕄 := iprop((Src4 V ∗ iS (F := F) (c := c) 1 (by decide)) ∗ (Src5 V ∗ iS (F := F) (c := c) 2 (by decide)) ∗ (Src8 V ∗ iS (F := F) (c := c) 3 (by decide)) ∗ (Src9 V ∗ iS (F := F) (c := c) 4 (by decide)))
abbrev B21 (V : Vals F c) : sProp 𝕄 := Own c b21 Finset.univ fullShare V.HRes
abbrev CS' : sProp 𝕄 := iprop(Any (F := F) c b31 Finset.univ ∗ Any (F := F) c b32 Finset.univ ∗ Any (F := F) c b30 Finset.univ)
theorem T.waits4 {β : Type} {X : sProp 𝕄} {k : PR F β} {Q : β → sProp 𝕄} (hk : T c iprop(Owes (F := F) c ∗ InsL V ∗ B21 V ∗ Any (F := F) c b22 Finset.univ ∗ Any (F := F) c b23 Finset.univ ∗ Any (F := F) c b24 Finset.univ ∗ X) k Q) :
    T c iprop((In1 V ∗ In2 V ∗ In3 V ∗ In4 V) ∗ Owes (F := F) c ∗ X) (
      Hand.waitIn 1 (by decide) b4 b21 (Memref.isWhole_whole _).wordExact (Memref.isWhole_whole _).wordExact >>= fun _ =>
      Hand.waitIn 2 (by decide) b5 b22 (Memref.isWhole_whole _).wordExact (Memref.isWhole_whole _).wordExact >>= fun _ =>
      Hand.waitIn 3 (by decide) b8 b23 (Memref.isWhole_whole _).wordExact (Memref.isWhole_whole _).wordExact >>= fun _ =>
      Hand.waitIn 4 (by decide) b9 b24 (Memref.isWhole_whole _).wordExact (Memref.isWhole_whole _).wordExact >>= fun _ => k) Q := by
  refine T.pre (P' := iprop((In1 V ∗ Owes (F := F) c) ∗ (In2 V ∗ In3 V ∗ In4 V ∗ X))) ?_ (((T.waitIn (by decide)).frame _).bind fun _ => ?_)
  · iintro ⟨⟨H1, H2, H3, H4⟩, HO, HX⟩
    isplitl [H1 HO]
    · isplitl [H1]; · iexact H1
      iexact HO
    isplitl [H2]; · iexact H2
    isplitl [H3]; · iexact H3
    isplitl [H4]; · iexact H4
    iexact HX
  refine T.pre (P' := iprop((In2 V ∗ Owes (F := F) c) ∗ (((B21 V ∗ Src4 V) ∗ iS (F := F) (c := c) 1 (by decide)) ∗ In3 V ∗ In4 V ∗ X))) ?_ (((T.waitIn (by decide)).frame _).bind fun _ => ?_)
  · iintro ⟨⟨H1, HO⟩, H2, H3, H4, HX⟩
    isplitl [H2 HO]
    · isplitl [H2]; · iexact H2
      iexact HO
    isplitl [H1]; · iexact H1
    isplitl [H3]; · iexact H3
    isplitl [H4]; · iexact H4
    iexact HX
  refine T.pre (P' := iprop((In3 V ∗ Owes (F := F) c) ∗ (((B21 V ∗ Src4 V) ∗ iS (F := F) (c := c) 1 (by decide)) ∗ ((Any (F := F) c b22 Finset.univ ∗ Src5 V) ∗ iS (F := F) (c := c) 2 (by decide)) ∗ In4 V ∗ X))) ?_ (((T.waitIn (by decide)).frame _).bind fun _ => ?_)
  · iintro ⟨⟨H2, HO⟩, H1, H3, H4, HX⟩
    isplitl [H3 HO]
    · isplitl [H3]; · iexact H3
      iexact HO
    isplitl [H1]; · iexact H1
    isplitl [H2]; · iexact H2
    isplitl [H4]; · iexact H4
    iexact HX
  refine T.pre (P' := iprop((In4 V ∗ Owes (F := F) c) ∗ (((B21 V ∗ Src4 V) ∗ iS (F := F) (c := c) 1 (by decide)) ∗ ((Any (F := F) c b22 Finset.univ ∗ Src5 V) ∗ iS (F := F) (c := c) 2 (by decide)) ∗ ((Any (F := F) c b23 Finset.univ ∗ Src8 V) ∗ iS (F := F) (c := c) 3 (by decide)) ∗ X))) ?_
    (((T.waitIn (by decide)).frame _).bind fun _ => T.pre ?_ hk)
  · iintro ⟨⟨H3, HO⟩, H1, H2, H4, HX⟩
    isplitl [H4 HO]
    · isplitl [H4]; · iexact H4
      iexact HO
    isplitl [H1]; · iexact H1
    isplitl [H2]; · iexact H2
    isplitl [H3]; · iexact H3
    iexact HX
  · iintro ⟨⟨⟨⟨H24, H9⟩, S4⟩, HO⟩, ⟨⟨H21, H4⟩, S1⟩, ⟨⟨H22, H5⟩, S2⟩, ⟨⟨H23, H8⟩, S3⟩, HX⟩
    isplitl [HO]; · iexact HO
    isplitl [H4 H5 H8 H9 S1 S2 S3 S4]
    · isplitl [H4 S1]
      · isplitl [H4]; · iexact H4
        iexact S1
      isplitl [H5 S2]
      · isplitl [H5]; · iexact H5
        iexact S2
      isplitl [H8 S3]
      · isplitl [H8]; · iexact H8
        iexact S3
      isplitl [H9]; · iexact H9
      iexact S4
    isplitl [H21]; · iexact H21
    isplitl [H22]; · iexact H22
    isplitl [H23]; · iexact H23
    isplitl [H24]; · iexact H24
    iexact HX

theorem T.segB_mid {s : Mxu F} (h : Mx V s (fun _ => some (2 * 28, 0)) (Ac (some 55) (some 55) (some 55) (some 55))) :
    T c iprop((((Ring2 V 28 ∗ Owes (F := F) c) ∗ B3 V ∗ B20 V 112 ∗ B21 V) ∗ PD V 0) ∗ CS (F := F) (c := c)) (do
      let s ← Hand.popDown0 s
      let s ← Hand.popDown 1 1 0 s
      let s ← Hand.stepP (lhsD (nW 0) (by decide)) 0 0 (srcB (nW 28) (K1n (by decide) (by decide))) 0 1 s
      let s ← Hand.popDown 2 0 1 s
      let s ← Hand.popDown 3 1 1 s
      let s ← Hand.stepP (lhsD (nW 0) (by decide)) 0 1 (srcB (nW 28) (K1n (by decide) (by decide))) 0 2 s
      let s ← Hand.popDown 4 0 2 s
      let s ← Hand.popDown 5 1 2 s
      let s ← Hand.popDown 6 0 3 s
      let s ← Hand.popDown 7 1 3 s
      let s ← Hand.stepP (lhsD (nW 0) (by decide)) 0 2 (srcB (nW 28) (K1n (by decide) (by decide))) 1 0 s
      let s ← Hand.stepP (lhsD (nW 0) (by decide)) 1 0 (srcB (nW 28) (K1n (by decide) (by decide))) 1 1 s
      let s ← Hand.stepP (lhsD (nW 0) (by decide)) 1 1 (srcB (nW 28) (K1n (by decide) (by decide))) 1 2 s
      let s ← Hand.stepP (lhsD (nW 0) (by decide)) 1 2 (srcB (nW 29) (K1n (by decide) (by decide))) 0 0 s
      Hand.cosSin
      pure s)
    (fun s' => iprop(⌜MxB V 29 s'⌝ ∗ (((Ring2 V 28 ∗ Owes (F := F) c) ∗ B3 V ∗ B20 V 112 ∗ B21 V) ∗ PD V 8) ∗ CS (F := F) (c := c))) := by
  have e0 : (nW 0).toNat = 0 := nW_nat (by decide)
  have e28 : (nW 28).toNat = 28 := nW_nat (by decide)
  have e29 : (nW 29).toNat = 29 := nW_nat (by decide)
  have ho : okc none (2 * 28) := .inr (.inl rfl)
  have h' : okc (some (2 * 28)) (2 * 28 + 1) := ⟨rfl, by decide⟩
  have mv : ∀ {β : Type} {n : ℕ} {p : PR F β} {Q : β → sProp 𝕄}, T c iprop((((Ring2 V 28 ∗ Owes (F := F) c) ∗ B3 V ∗ B20 V 112 ∗ B21 V) ∗ CS (F := F) (c := c)) ∗ PD V n) p Q →
      T c iprop((((Ring2 V 28 ∗ Owes (F := F) c) ∗ B3 V ∗ B20 V 112 ∗ B21 V) ∗ PD V n) ∗ CS (F := F) (c := c)) p Q := fun h => T.pre (by
    iintro ⟨⟨H1, H2⟩, H3⟩
    isplitr [H2]
    · isplitl [H1]; · iexact H1
      iexact H3
    iexact H2) h
  have hl : ∀ {n : ℕ}, LhsOK V iprop((((Ring2 V 28 ∗ Owes (F := F) c) ∗ B3 V ∗ B20 V 112 ∗ B21 V) ∗ CS (F := F) (c := c)) ∗ PD V n) (lhsD (nW 0) (by decide)) (2 * 28) :=
    lhsD_okB (n := 112) (K0n (by decide)) (by rw [e0]) (by rw [e0]; decide)
  have hS : ∀ {n : ℕ}, SrcOK V iprop((((Ring2 V 28 ∗ Owes (F := F) c) ∗ B3 V ∗ B20 V 112 ∗ B21 V) ∗ CS (F := F) (c := c)) ∗ PD V n) (srcB (nW 28) (K1n (by decide) (by decide))) 28 := srcB_ok _ e28
  have hS' : ∀ {n : ℕ}, SrcOK V iprop((((Ring2 V 28 ∗ Owes (F := F) c) ∗ B3 V ∗ B20 V 112 ∗ B21 V) ∗ CS (F := F) (c := c)) ∗ PD V n) (srcB (nW 29) (K1n (by decide) (by decide))) 29 := srcB_ok _ e29
  refine mv (T.pop2' h rfl rfl (Ac0 ..) fun s h => ?_)
  refine T.seq (T.stepP hl hS 0 0 0 1 h (fun _ => ho) (Ac0 ..)) fun s h => ?_
  refine T.pop2 2 3 rfl 1 (.inl ⟨rfl, rfl⟩) (.inl ⟨rfl, rfl⟩) h rfl rfl (Ac1 ..) rfl rfl fun s h => ?_
  refine T.seq (T.stepP hl hS 0 1 0 2 h (fun _ => ho) (Ac1 ..)) fun s h => ?_
  refine T.pop2 4 5 rfl 2 (.inl ⟨rfl, rfl⟩) (.inl ⟨rfl, rfl⟩) h rfl rfl (Ac2 ..) rfl rfl fun s h => ?_
  refine T.pop2 6 7 rfl 3 (.inl ⟨rfl, rfl⟩) (.inl ⟨rfl, rfl⟩) h rfl rfl (Ac3 ..) rfl rfl fun s h => ?_
  refine T.seq (T.stepP hl hS 0 2 1 0 h (fun _ => ho) (Ac2 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS' 1 2 0 0 h (fun _ => h') (Ac2 ..)) fun s h => ?_
  refine T.pre (P' := iprop(CS (F := F) (c := c) ∗ (((Ring2 V 28 ∗ Owes (F := F) c) ∗ B3 V ∗ B20 V 112 ∗ B21 V) ∗ PD V 8))) ?_ ((T.cosSin.frame _).bind fun _ => T.pre ?_ (T.ret _))
  · iintro ⟨⟨H1, H2⟩, H3⟩
    isplitl [H2]; · iexact H2
    isplitl [H1]; · iexact H1
    iexact H3
  · iintro ⟨H1, H2⟩
    isplitr; · ipureintro; exact MxB.next (i := 28) h (by decide)
    isplitl [H2]; · iexact H2
    iexact H1

/-- From the first loop to the second. -/
theorem T.segB {s : Mxu F} (hM : MxA V 27 s) :
    T c iprop((In1 V ∗ In2 V ∗ In3 V ∗ In4 V) ∗ Owes (F := F) c ∗ Ring V 27 ∗ B3 V ∗ B20 V 112 ∗ PD V 0 ∗ CS' (F := F) (c := c)) (segB s)
      (fun s' => iprop(⌜MxB V 29 s'⌝ ∗ StB V 29 ∗ B21 V ∗ PD V 8 ∗ InsL V ∗ Any (F := F) c b22 Finset.univ ∗ CS (F := F) (c := c))) := by
  have e27 : (nW 27).toNat = 27 := nW_nat (by decide)
  have e28 : (nW 28).toNat = 28 := nW_nat (by decide)
  obtain ⟨e0, ho, hm⟩ := hM
  unfold Hand.segB
  refine T.waits4 ?_
  refine T.pre (P' := iprop((Ring V 27 ∗ Owes (F := F) c) ∗ (B3 V ∗ B20 V 112 ∗ B21 V ∗ PD V 0 ∗ CS (F := F) (c := c) ∗ InsL V ∗ Any (F := F) c b22 Finset.univ))) ?_
    ((T.ringWait (waitBe (K1n (by decide) (by decide)) e28)).bind fun _ => (T.ringGo' (goBe (K1n (by decide) (by decide)) (nW_nat (by decide)))).bind fun _ => ?_)
  · iintro ⟨HO, HL, H21, H22, H23, H24, HR, H3, H20, HP, ⟨H31, H32, H30⟩⟩
    isplitl [HR HO]
    · isplitl [HR]; · iexact HR
      iexact HO
    isplitl [H3]; · iexact H3
    isplitl [H20]; · iexact H20
    isplitl [H21]; · iexact H21
    isplitl [HP]; · iexact HP
    isplitl [H23 H24 H31 H32 H30]
    · isplitl [H23]; · iexact H23
      isplitl [H24]; · iexact H24
      isplitl [H31]; · iexact H31
      isplitl [H32]; · iexact H32
      iexact H30
    isplitl [HL]; · iexact HL
    iexact H22
  refine T.seq (T.steps4 (i := 27) (i' := 28) (e := e0) (lhsD_okA (n := 112) (K0n (by decide)) (by rw [e27]) (by rw [e27])) (srcA_ok (K0n (by decide)) e27) (srcB_ok (K1n (by decide) (by decide)) e28) hm ho (by decide)) fun s1 h1 => ?_
  refine T.pre (P' := iprop((Ring V 28 ∗ Owes (F := F) c) ∗ (B3 V ∗ B20 V 112 ∗ B21 V ∗ PD V 0 ∗ CS (F := F) (c := c) ∗ InsL V ∗ Any (F := F) c b22 Finset.univ))) ?_
    ((T.ringWait (waitBe (K1n (by decide) (by decide)) (nW_nat (by decide)))).bind fun _ => (T.ringGo' (goBe (K1n (by decide) (by decide)) (nW_nat (by decide)))).bind fun _ => ?_)
  · iintro ⟨⟨HR, HO⟩, HX⟩
    isplitl [HR HO]
    · isplitl [HR]; · iapply (Ring_next 27); iexact HR
      iexact HO
    iexact HX
  refine T.pre (P' := iprop(((((Ring2 V 28 ∗ Owes (F := F) c) ∗ B3 V ∗ B20 V 112 ∗ B21 V) ∗ PD V 0) ∗ CS (F := F) (c := c)) ∗ (InsL V ∗ Any (F := F) c b22 Finset.univ))) ?_ (((T.segB_mid h1).frame _).post fun s' => ?_)
  · iintro ⟨HR, H3, H20, H21, HP, HC, HX⟩
    isplitr [HX]
    · isplitr [HC]
      · isplitr [HP]
        · isplitl [HR]; · iexact HR
          isplitl [H3]; · iexact H3
          isplitl [H20]; · iexact H20
          iexact H21
        iexact HP
      iexact HC
    iexact HX
  · iintro ⟨⟨%h, ⟨⟨⟨HR, HO⟩, H3, H20, H21⟩, HP⟩, HC⟩, HL, H22⟩
    isplitr; · ipureintro; exact h
    isplitl [HR HO H3 H20]
    · isplitl [HR HO]
      · isplitl [HR]; · iapply (Ring_next 28); iexact HR
        iexact HO
      isplitl [H3]; · iexact H3
      iexact H20
    isplitl [H21]; · iexact H21
    isplitl [HP]; · iexact HP
    isplitl [HL]; · iexact HL
    isplitl [H22]; · iexact H22
    iexact HC

end Cert.Kernel.Hand
-- ==== Proof.SegD.lean ====
module

public import proofs.«01_k».proof.Proof.Split
public import proofs.«01_k».proof.Proof.SegB

/-! From the second loop to the third, and the start of the copies of the codes. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable {V : Vals F c}
abbrev QI : sProp 𝕄 := iprop(Any (F := F) c b27 Finset.univ ∗ Any (F := F) c b22 Finset.univ ∗ Any (F := F) c b28 Finset.univ ∗ Any (F := F) c b29 Finset.univ ∗ Any (F := F) c b30 Finset.univ)
abbrev KeptD (V : Vals F c) : sProp 𝕄 := iprop(B3 V ∗ B20 V 112 ∗ B21 V ∗ BRo V 14 ∗ Any (F := F) c b26 Finset.univ)
/-- From the second loop to the third. -/
theorem T.segD {s : Mxu F} (hM : MxB V 55 s) :
    T c iprop(StB V 55 ∗ B7 V ∗ B21 V ∗ PD V 8 ∗ QI (F := F) (c := c)) (segD s)
      (fun s' => iprop(⌜MxA V 56 s'⌝ ∗ StC V 56 ∗ KeptD V)) := by
  have e27 : (nW 27).toNat = 27 := nW_nat (by decide)
  have e55 : (nW 55).toNat = 55 := nW_nat (by decide)
  have e56 : (nW 56).toNat = 56 := nW_nat (by decide)
  obtain ⟨e0, ho, hm⟩ := hM
  unfold Hand.segD
  refine T.pre (P' := iprop((Ring V 55 ∗ Owes (F := F) c) ∗ (B3 V ∗ B20 V 112 ∗ B7 V ∗ B21 V ∗ PD V 8 ∗ QI (F := F) (c := c)))) ?_
    ((T.ringWait (waitCe (K2n (by decide) (by decide)) e56)).bind fun _ => (T.ringGo' (goCe (K2n (by decide) (by decide)) (nW_nat (by decide)))).bind fun _ => ?_)
  · iintro ⟨⟨HR, H3, H20⟩, H7, H21, HP, HQ⟩
    isplitl [HR]
    · iexact HR
    isplitl [H3]
    · iexact H3
    isplitl [H20]
    · iexact H20
    isplitl [H7]
    · iexact H7
    isplitl [H21]
    · iexact H21
    isplitl [HP]
    · iexact HP
    iexact HQ
  refine T.seq (T.steps3 (i := 55) (i' := 56) (e := e0) (lhsD_okB (n := 112) (K0n (by decide)) (by rw [e27]) (by rw [e27])) (srcB_ok (K1n (by decide) (by decide)) e55) (srcC_ok (K2n (by decide) (by decide)) e56) hm ho (by decide)) fun s h => ?_
  refine T.pre (P' := iprop(((Ring2 V 55 ∗ Owes (F := F) c) ∗ B3 V ∗ B20 V 112 ∗ B7 V ∗ B21 V ∗ QI (F := F) (c := c)) ∗ PD V 8)) ?_ ?_
  · iintro ⟨HR, H3, H20, H7, H21, HP, HQ⟩
    isplitl [HR H3 H20 H7 H21 HQ]
    · isplitl [HR]
      · iexact HR
      isplitl [H3]
      · iexact H3
      isplitl [H20]
      · iexact H20
      isplitl [H7]
      · iexact H7
      isplitl [H21]
      · iexact H21
      iexact HQ
    iexact HP
  refine T.pop2 8 9 rfl 0 (.inr ⟨rfl, rfl⟩) (.inr ⟨rfl, rfl⟩) h rfl rfl (Ac0 ..) rfl rfl fun s h => ?_
  refine T.pop2 10 11 rfl 1 (.inr ⟨rfl, rfl⟩) (.inr ⟨rfl, rfl⟩) h rfl rfl (Ac1 ..) rfl rfl fun s h => ?_
  refine T.pop2 12 13 rfl 2 (.inr ⟨rfl, rfl⟩) (.inr ⟨rfl, rfl⟩) h rfl rfl (Ac2 ..) rfl rfl fun s h => ?_
  refine T.pre (P' := iprop(Any (F := F) c b26 Finset.univ ∗ QI (F := F) (c := c) ∗ Own (F := F) c b25 Finset.univ fullShare.left (fun _ => True) ∗ BRo V 14 ∗ ((Ring2 V 55 ∗ Owes (F := F) c) ∗ B3 V ∗ B20 V 112 ∗ B7 V ∗ B21 V))) ?_ ?_
  · unfold PD
    iintro ⟨⟨HR, H3, H20, H7, H21, HQ⟩, ⟨H25, -, HB⟩, H26⟩
    isplitl [H26]
    · iexact H26
    isplitl [HQ]
    · iexact HQ
    isplitl [H25]
    · iapply (Own_join (c := c) (b := b25) rset (fun i => (i 0 : Fin 14)) rset_key (q := fullShare.left) (f := RTd (F := F) (c := c)) fun t => by unfold RTd; rw [f14_val])
      iexact H25
    isplitl [HB]
    · iexact HB
    isplitl [HR]
    · iexact HR
    isplitl [H3]
    · iexact H3
    isplitl [H20]
    · iexact H20
    isplitl [H7]
    · iexact H7
    iexact H21
  refine T.rsStage.bind fun _ => ?_
  refine T.pre (P' := iprop(QR (F := F) (c := c) ∗ (Any (F := F) c b26 Finset.univ ∗ BRo V 14 ∗ ((Ring2 V 55 ∗ Owes (F := F) c) ∗ B3 V ∗ B20 V 112 ∗ B7 V ∗ B21 V)))) ?_
    (((T.quantise _ _).frame _).bind fun _ => ((T.quantise _ _).frame _).bind fun _ => T.pre ?_ (T.ret _))
  · iintro ⟨H26, HQ, H25, HX⟩
    isplitl [H25 HQ]
    · isplitl [H25]
      · iexact H25
      iexact HQ
    isplitl [H26]
    · iexact H26
    iexact HX
  · iintro ⟨HQ, H26, HB, ⟨HR, HO⟩, H3, H20, H7, H21⟩
    isplitr; · ipureintro; exact ⟨none, .inr (.inr (by decide)), h⟩
    isplitl [HR HO H7 HQ]
    · isplitl [HR HO]
      · isplitl [HR]; · iapply (Ring_next 55); iexact HR
        iexact HO
      isplitl [H7]; · iexact H7
      iexact HQ
    isplitl [H3]; · iexact H3
    isplitl [H20]; · iexact H20
    isplitl [H21]; · iexact H21
    isplitl [HB]; · iexact HB
    iexact H26

/-! ### The copies of the codes and of the scales -/
abbrev cXc : ℕ := (xcDst 0).view.dmaCredit
abbrev Dxc (t : Fin 14) : sProp 𝕄 := iprop(Any (F := F) c b14 (xcset t) ∗ Any (F := F) c b28 (cset t))
abbrev BXc (j : ℕ) : sProp 𝕄 := Transfers.Batch EC (c : Thread nD τ) (.dma (oSem 1 (by decide))) () cXc (Dxc (F := F) (c := c)) j 0
abbrev CT (t : ℕ) : sProp 𝕄 := Any (F := F) c b28 (cset (f14 t))
abbrev XT (t : ℕ) : sProp 𝕄 := Any (F := F) c b14 (xcset (f14 t))
abbrev XsD : sProp 𝕄 := iprop(Any (F := F) c b15 Finset.univ ∗ Any (F := F) c b30 Finset.univ)
abbrev oS (i : ℕ) (h : i < 7) : sProp 𝕄 := semVal ((c : Thread nD τ), SemLoc.dma (oSem i h)) 0
abbrev XsF : sProp 𝕄 := Fly c (.dma (oSem 2 (by decide))) b15.view.dmaCredit (XsD (F := F) (c := c))
theorem T.startXc (t : Fin 14) : T c iprop(Any (F := F) c b28 (cset t) ∗ Any (F := F) c b14 (xcset t) ∗ BXc (F := F) (c := c) t.val) (startXc t) (fun _ => BXc (F := F) (c := c) (t.val + 1)) := by
  unfold Hand.startXc
  refine T.pre (P' := iprop(∃ f, ∃ fd, ((b28.view.loc (c : Thread nD τ) ↦[cset t]{fullShare} f) ∗ (b14.view.loc (c : Thread nD τ) ↦[xcset t]{fullShare} fd) ∗ BXc (F := F) (c := c) t.val))) ?_ (T.ex fun f => T.ex fun fd => ?_)
  · unfold Any Own
    iintro ⟨⟨%f, -, H⟩, ⟨%fd, -, Hd⟩, HB⟩
    iexists f, fd
    isplitl [H]; · iexact H
    isplitl [Hd]; · iexact Hd
    iexact HB
  · refine T.startB (src := cTile t) (dst := xcDst t) (fs := f) (fd := fd) (q := fullShare) (D := Dxc (F := F) (c := c)) (j := t.val) cXc rfl t.2 ?_
    exact BIClass.sep_mono (Own_intro (b := b14) trivial) (Own_intro (b := b28) trivial)
theorem T.startXs : T c iprop(Any (F := F) c b30 Finset.univ ∗ Any (F := F) c b15 Finset.univ ∗ oS (F := F) (c := c) 2 (by decide)) startXs (fun _ => XsF (F := F) (c := c)) := by
  unfold Hand.startXs
  refine T.pre (P' := iprop(∃ f, ((b30.view.loc (c : Thread nD τ) ↦[Finset.univ]{fullShare} f) ∗ (∃ fd, b15.view.loc (c : Thread nD τ) ↦[Finset.univ]{fullShare} fd) ∗ oS (F := F) (c := c) 2 (by decide)))) ?_ (T.ex fun f => ?_)
  · unfold Any Own
    iintro ⟨⟨%f, -, H⟩, ⟨%fd, -, Hd⟩, HB⟩
    iexists f
    isplitl [H]; · iexact H
    isplitl [Hd]; · iexists fd; iexact Hd
    iexact HB
  · refine T.start (src := b30) (dst := b15) rfl (by decide) (Finset.subset_univ _) (Finset.subset_univ _) fun fd => ?_
    exact BIClass.sep_mono (Own_intro (b := b15) trivial) (Own_intro (b := b30) trivial)
theorem T.startsXc {β : Type} {k : PR F β} {X : sProp 𝕄} {Q : β → sProp 𝕄} (hk : T c iprop(BXc (F := F) (c := c) 14 ∗ X) k Q) :
    ∀ (n i : ℕ) (h : i + n ≤ 14), i + n = 14 → T c iprop((Sq (CT (F := F) (c := c)) i n ∗ Sq (XT (F := F) (c := c)) i n ∗ BXc (F := F) (c := c) i) ∗ X) (Hand.startsXc k n i h) Q
  | 0, i, h, e => by
    obtain rfl : i = 14 := by omega
    unfold Hand.startsXc
    refine T.pre ?_ hk
    iintro ⟨⟨-, -, HB⟩, HX⟩
    isplitl [HB]
    · iexact HB
    iexact HX
  | n + 1, i, h, e => by
    unfold Hand.startsXc
    refine T.pre (P' := iprop((Any (F := F) c b28 (cset ⟨i, by omega⟩) ∗ Any (F := F) c b14 (xcset ⟨i, by omega⟩) ∗ BXc (F := F) (c := c) i) ∗ (Sq (CT (F := F) (c := c)) (i + 1) n ∗ Sq (XT (F := F) (c := c)) (i + 1) n ∗ X))) ?_
      (((T.startXc ⟨i, by omega⟩).frame _).bind fun _ => T.pre ?_ (T.startsXc hk n (i + 1) (by omega) (by omega)))
    · rw [Sq_cons, Sq_cons]
      have ei : f14 i = ⟨i, by omega⟩ := f14_val ⟨i, by omega⟩
      unfold CT XT
      rw [ei]
      iintro ⟨⟨⟨H1, HS⟩, ⟨H2, HS2⟩, HB⟩, HX⟩
      isplitl [H1 H2 HB]
      · isplitl [H1]
        · iexact H1
        isplitl [H2]
        · iexact H2
        iexact HB
      isplitl [HS]
      · iexact HS
      isplitl [HS2]
      · iexact HS2
      iexact HX
    · iintro ⟨HB, HS, HS2, HX⟩
      isplitl [HS HS2 HB]
      · isplitl [HS]
        · iexact HS
        isplitl [HS2]
        · iexact HS2
        iexact HB
      iexact HX
/-- The copies of the codes and of the scales started. -/
theorem T.segF {s : Mxu F} : T c iprop(Any (F := F) c b28 Finset.univ ∗ Any (F := F) c b14 Finset.univ ∗ BXc (F := F) (c := c) 0 ∗ Any (F := F) c b30 Finset.univ ∗ Any (F := F) c b15 Finset.univ ∗ oS (F := F) (c := c) 2 (by decide)) (segF s)
    (fun s' => iprop(⌜s' = s⌝ ∗ BXc (F := F) (c := c) 14 ∗ XsF (F := F) (c := c))) := by
  unfold Hand.segF
  refine T.pre (P' := iprop((Any (F := F) c b30 Finset.univ ∗ Any (F := F) c b15 Finset.univ ∗ oS (F := F) (c := c) 2 (by decide)) ∗ (Any (F := F) c b28 Finset.univ ∗ Any (F := F) c b14 Finset.univ ∗ BXc (F := F) (c := c) 0))) ?_ ((T.startXs.frame _).bind fun _ => ?_)
  · iintro ⟨H1, H2, H3, HX⟩
    isplitl [HX]
    · iexact HX
    isplitl [H1]
    · iexact H1
    isplitl [H2]
    · iexact H2
    iexact H3
  refine T.pre (P' := iprop((Sq (CT (F := F) (c := c)) 0 14 ∗ Sq (XT (F := F) (c := c)) 0 14 ∗ BXc (F := F) (c := c) 0) ∗ XsF (F := F) (c := c))) ?_ (T.startsXc (X := XsF (F := F) (c := c)) (T.pre ?_ (T.ret s)) 14 0 (by decide) rfl)
  · iintro ⟨HX, H1, H2, H3⟩
    isplitl [H1 H2 H3]
    · isplitl [H1]
      · iapply (Own_split (c := c) (b := b28) cset (fun i => (i 0 : Fin 14)) cset_key (q := fullShare) (f := CT (F := F) (c := c)) fun t => by unfold CT Any; rw [f14_val])
        iexact H1
      isplitl [H2]
      · iapply (Own_split (c := c) (b := b14) xcset colKey xcset_key (q := fullShare) (f := XT (F := F) (c := c)) fun t => by unfold XT Any; rw [f14_val])
        iexact H2
      iexact H3
    iexact HX
  · iintro H; isplitr
    · ipureintro; rfl
    iexact H

end Cert.Kernel.Hand
-- ==== Proof.SegH.lean ====
module

public import proofs.«01_k».proof.Proof.SegD
public import proofs.«01_k».proof.Proof.Heads

/-! The last chunk, the last copies and the waits for all of them. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable {V : Vals F c}
/-- What the waits leave. -/
abbrev DoneRo (V : Vals F c) : sProp 𝕄 := iprop(bigSep Finset.univ (Dro V) ∗ oS (F := F) (c := c) 0 (by decide))
abbrev DoneXc : sProp 𝕄 := iprop(bigSep Finset.univ (Dxc (F := F) (c := c)) ∗ oS (F := F) (c := c) 1 (by decide))
abbrev DoneXs : sProp 𝕄 := iprop(XsD (F := F) (c := c) ∗ oS (F := F) (c := c) 2 (by decide))
abbrev DoneHd (g : Fin 4) : sProp 𝕄 := iprop(bigSep Finset.univ (Dh (F := F) (c := c) g) ∗ oS (F := F) (c := c) (3 + g.val) (by omega))
theorem hd_pos : ∀ g : Fin 4, 0 < cHd g := fun g => View.dmaCredit_pos _ (by decide)
theorem T.waitHds (g : Fin 4) {α : Type} {k : PR F α} {X : sProp 𝕄} {Q : α → sProp 𝕄} (hk : T c iprop(Owes (F := F) c ∗ DoneHd (F := F) (c := c) g ∗ X) k Q) :
    T c iprop(Owes (F := F) c ∗ BHd (F := F) (c := c) g 2 ∗ X) (Hand.waitHd g 0 >>= fun _ => Hand.waitHd g 1 >>= fun _ => k) Q := by
  unfold Hand.waitHd
  have hp := hd_pos g
  refine T.pre (P' := iprop((BHd (F := F) (c := c) g 2 ∗ Owes (F := F) c) ∗ X)) ?_ (((T.awaitB (src := obV g 0) (dst := hdDst g 0) (D := Dh (F := F) (c := c) g) (cHd_eq g 0) (u := 0) (by omega)).frame _).bind fun _ =>
    ((T.awaitLast (src := obV g 1) (dst := hdDst g 1) (D := Dh (F := F) (c := c) g) (cHd_eq g 1) hp (u := 0 + cHd g) (by omega)).frame _).bind fun _ => T.pre ?_ hk)
  · iintro ⟨HO, HB, HX⟩
    isplitl [HB HO]
    · isplitl [HB]
      · iexact HB
      iexact HO
    iexact HX
  · iintro ⟨⟨HB, HO⟩, HX⟩
    isplitl [HO]
    · iexact HO
    isplitl [HB]
    · iexact HB
    iexact HX
abbrev WRo (V : Vals F c) (u : ℕ) : sProp 𝕄 := Transfers.Batch EC (c : Thread nD τ) (.dma (oSem 0 (by decide))) () cRo (Dro V) 14 (cRo * u)
abbrev WXc (u : ℕ) : sProp 𝕄 := Transfers.Batch EC (c : Thread nD τ) (.dma (oSem 1 (by decide))) () cXc (Dxc (F := F) (c := c)) 14 (cXc * u)
theorem ro_pos : 0 < cRo := View.dmaCredit_pos _ (by decide)
theorem xc_pos : 0 < cXc := View.dmaCredit_pos _ (by decide)
theorem T.waitRo (t : Fin 14) (h : t.val < 13) : T c iprop(WRo V t.val ∗ Owes (F := F) c) (Hand.waitRo t) (fun _ => iprop(WRo V (t.val + 1) ∗ Owes (F := F) c)) := by
  unfold Hand.waitRo
  exact T.awaitB (src := rTile t) (dst := roDst t) (D := Dro V) (N := cRo) rfl (u := cRo * t.val) (by rw [← Nat.mul_succ]; exact Nat.mul_lt_mul_of_pos_left (by omega) ro_pos)
theorem T.waitXc (t : Fin 14) (h : t.val < 13) : T c iprop(WXc (F := F) (c := c) t.val ∗ Owes (F := F) c) (Hand.waitXc t) (fun _ => iprop(WXc (F := F) (c := c) (t.val + 1) ∗ Owes (F := F) c)) := by
  unfold Hand.waitXc
  exact T.awaitB (src := cTile t) (dst := xcDst t) (D := Dxc (F := F) (c := c)) (N := cXc) rfl (u := cXc * t.val) (by rw [← Nat.mul_succ]; exact Nat.mul_lt_mul_of_pos_left (by omega) xc_pos)
theorem T.waitRoL (t : Fin 14) (h : t.val = 13) : T c iprop(WRo V t.val ∗ Owes (F := F) c) (Hand.waitRo t) (fun _ => iprop(DoneRo V ∗ Owes (F := F) c)) := by
  unfold Hand.waitRo
  exact T.awaitLast (src := rTile t) (dst := roDst t) (D := Dro V) (N := cRo) rfl ro_pos (u := cRo * t.val) (by rw [← Nat.mul_succ, h])
theorem T.waitXcL (t : Fin 14) (h : t.val = 13) : T c iprop(WXc (F := F) (c := c) t.val ∗ Owes (F := F) c) (Hand.waitXc t) (fun _ => iprop(DoneXc (F := F) (c := c) ∗ Owes (F := F) c)) := by
  unfold Hand.waitXc
  exact T.awaitLast (src := cTile t) (dst := xcDst t) (D := Dxc (F := F) (c := c)) (N := cXc) rfl xc_pos (u := cXc * t.val) (by rw [← Nat.mul_succ, h])
theorem T.waitsRoXc {β : Type} {k : PR F β} {X : sProp 𝕄} {Q : β → sProp 𝕄} (hk : T c iprop(Owes (F := F) c ∗ DoneRo V ∗ DoneXc (F := F) (c := c) ∗ X) k Q) :
    ∀ (n i : ℕ) (h : i + (n + 1) ≤ 14), i + (n + 1) = 14 → T c iprop((WRo V i ∗ Owes (F := F) c) ∗ WXc (F := F) (c := c) i ∗ X) (Hand.waitsRoXc k (n + 1) i h) Q
  | 0, i, h, e => by
    obtain rfl : i = 13 := by omega
    unfold Hand.waitsRoXc Hand.waitsRoXc
    refine ((T.waitRoL 13 rfl).frame _).bind fun _ => T.pre (P' := iprop((WXc (F := F) (c := c) 13 ∗ Owes (F := F) c) ∗ DoneRo V ∗ X)) ?_ (((T.waitXcL 13 rfl).frame _).bind fun _ => T.pre ?_ hk)
    · iintro ⟨⟨H1, HO⟩, H2, HX⟩
      isplitl [H2 HO]
      · isplitl [H2]
        · iexact H2
        iexact HO
      isplitl [H1]
      · iexact H1
      iexact HX
    · iintro ⟨⟨H2, HO⟩, H1, HX⟩
      isplitl [HO]
      · iexact HO
      isplitl [H1]
      · iexact H1
      isplitl [H2]
      · iexact H2
      iexact HX
  | n + 1, i, h, e => by
    rw [Hand.waitsRoXc]
    refine ((T.waitRo ⟨i, by omega⟩ (show i < 13 by omega)).frame _).bind fun _ => T.pre (P' := iprop((WXc (F := F) (c := c) i ∗ Owes (F := F) c) ∗ WRo V (i + 1) ∗ X)) ?_ (((T.waitXc ⟨i, by omega⟩ (show i < 13 by omega)).frame _).bind fun _ => T.pre ?_ (T.waitsRoXc hk n (i + 1) (by omega) (by omega)))
    · iintro ⟨⟨H1, HO⟩, H2, HX⟩
      isplitl [H2 HO]
      · isplitl [H2]
        · iexact H2
        iexact HO
      isplitl [H1]
      · iexact H1
      iexact HX
    · iintro ⟨⟨H2, HO⟩, H1, HX⟩
      isplitl [H1 HO]
      · isplitl [H1]
        · iexact H1
        iexact HO
      isplitl [H2]
      · iexact H2
      iexact HX
theorem T.waitXs : T c iprop(XsF (F := F) (c := c) ∗ Owes (F := F) c) Hand.waitXs (fun _ => iprop(DoneXs (F := F) (c := c) ∗ Owes (F := F) c)) := by
  unfold Hand.waitXs
  exact T.await (src := b30) (dst := b15) rfl

abbrev Waiting (V : Vals F c) : sProp 𝕄 := iprop(BRo V 14 ∗ BXc (F := F) (c := c) 14 ∗ XsF (F := F) (c := c) ∗ BHd (F := F) (c := c) 0 2 ∗ BHd (F := F) (c := c) 1 2 ∗ BHd (F := F) (c := c) 2 2)
abbrev Done (V : Vals F c) : sProp 𝕄 := iprop(DoneRo V ∗ DoneXc (F := F) (c := c) ∗ DoneXs (F := F) (c := c) ∗ DoneHd (F := F) (c := c) 0 ∗ DoneHd (F := F) (c := c) 1 ∗ DoneHd (F := F) (c := c) 2 ∗ DoneHd (F := F) (c := c) 3)
theorem T.exit {s : Mxu F} (hd : s.Drained) {P : sProp 𝕄} : T c P (s.exit >>= fun _ => (pure ⟨⟩ : PR F PUnit)) (fun _ => P) := by
  refine T.pre (P' := P) .rfl ?_
  have h := T.ret (c := c) (F := F) (Q := fun _ => P) (PUnit.unit : PUnit)
  unfold T at h ⊢
  iintro H
  iapply (Mxu.wp_exit hd)
  iapply h; iexact H
theorem T.waitAll {s : Mxu F} (hd : s.Drained) {X : sProp 𝕄} : T c iprop((Owes (F := F) c ∗ BHd (F := F) (c := c) 3 2) ∗ Waiting V ∗ X)
    (Hand.waitsRoXc (do
    Hand.waitXs
    Hand.waitHd 0 0
    Hand.waitHd 0 1
    Hand.waitHd 1 0
    Hand.waitHd 1 1
    Hand.waitHd 2 0
    Hand.waitHd 2 1
    Hand.waitHd 3 0
    Hand.waitHd 3 1
    s.exit
    pure ⟨⟩) 14 0 (by decide) : PR F PUnit) (fun _ => iprop(Owes (F := F) c ∗ Done V ∗ X)) := by
  refine T.pre (P' := iprop((WRo V 0 ∗ Owes (F := F) c) ∗ WXc (F := F) (c := c) 0 ∗ (XsF (F := F) (c := c) ∗ BHd (F := F) (c := c) 0 2 ∗ BHd (F := F) (c := c) 1 2 ∗ BHd (F := F) (c := c) 2 2 ∗ BHd (F := F) (c := c) 3 2 ∗ X))) ?_ (T.waitsRoXc ?_ 13 0 (by decide) rfl)
  · iintro ⟨⟨HO, B3⟩, ⟨HR, HC, HS, B0, B1, B2⟩, HX⟩
    isplitl [HR HO]
    · isplitl [HR]
      · iexact HR
      iexact HO
    isplitl [HC]
    · iexact HC
    isplitl [HS]
    · iexact HS
    isplitl [B0]
    · iexact B0
    isplitl [B1]
    · iexact B1
    isplitl [B2]
    · iexact B2
    isplitl [B3]
    · iexact B3
    iexact HX
  refine T.pre (P' := iprop((XsF (F := F) (c := c) ∗ Owes (F := F) c) ∗ (BHd (F := F) (c := c) 0 2 ∗ BHd (F := F) (c := c) 1 2 ∗ BHd (F := F) (c := c) 2 2 ∗ BHd (F := F) (c := c) 3 2 ∗ DoneRo V ∗ DoneXc (F := F) (c := c) ∗ X))) ?_ ((T.waitXs.frame _).bind fun _ => ?_)
  · iintro ⟨HO, HR, HC, HS, B0, B1, B2, B3, HX⟩
    isplitl [HS HO]
    · isplitl [HS]
      · iexact HS
      iexact HO
    isplitl [B0]
    · iexact B0
    isplitl [B1]
    · iexact B1
    isplitl [B2]
    · iexact B2
    isplitl [B3]
    · iexact B3
    isplitl [HR]
    · iexact HR
    isplitl [HC]
    · iexact HC
    iexact HX
  refine T.pre (P' := iprop(Owes (F := F) c ∗ BHd (F := F) (c := c) 0 2 ∗ (BHd (F := F) (c := c) 1 2 ∗ BHd (F := F) (c := c) 2 2 ∗ BHd (F := F) (c := c) 3 2 ∗ DoneRo V ∗ DoneXc (F := F) (c := c) ∗ DoneXs (F := F) (c := c) ∗ X))) ?_ (T.waitHds 0 ?_)
  · iintro ⟨⟨HS, HO⟩, B0, B1, B2, B3, HR, HC, HX⟩
    isplitl [HO]
    · iexact HO
    isplitl [B0]
    · iexact B0
    isplitl [B1]
    · iexact B1
    isplitl [B2]
    · iexact B2
    isplitl [B3]
    · iexact B3
    isplitl [HR]
    · iexact HR
    isplitl [HC]
    · iexact HC
    isplitl [HS]
    · iexact HS
    iexact HX
  refine T.pre (P' := iprop(Owes (F := F) c ∗ BHd (F := F) (c := c) 1 2 ∗ (DoneHd (F := F) (c := c) 0 ∗ BHd (F := F) (c := c) 2 2 ∗ BHd (F := F) (c := c) 3 2 ∗ DoneRo V ∗ DoneXc (F := F) (c := c) ∗ DoneXs (F := F) (c := c) ∗ X))) ?_ (T.waitHds 1 ?_)
  · iintro ⟨HO, B0, B1, B2, HX⟩
    isplitl [HO]
    · iexact HO
    isplitl [B1]
    · iexact B1
    isplitl [B0]
    · iexact B0
    isplitl [B2]
    · iexact B2
    iexact HX
  refine T.pre (P' := iprop(Owes (F := F) c ∗ BHd (F := F) (c := c) 2 2 ∗ (DoneHd (F := F) (c := c) 1 ∗ DoneHd (F := F) (c := c) 0 ∗ BHd (F := F) (c := c) 3 2 ∗ DoneRo V ∗ DoneXc (F := F) (c := c) ∗ DoneXs (F := F) (c := c) ∗ X))) ?_ (T.waitHds 2 ?_)
  · iintro ⟨HO, B1, B0, B2, HX⟩
    isplitl [HO]
    · iexact HO
    isplitl [B2]
    · iexact B2
    isplitl [B1]
    · iexact B1
    isplitl [B0]
    · iexact B0
    iexact HX
  refine T.pre (P' := iprop(Owes (F := F) c ∗ BHd (F := F) (c := c) 3 2 ∗ (DoneHd (F := F) (c := c) 2 ∗ DoneHd (F := F) (c := c) 1 ∗ DoneHd (F := F) (c := c) 0 ∗ DoneRo V ∗ DoneXc (F := F) (c := c) ∗ DoneXs (F := F) (c := c) ∗ X))) ?_ (T.waitHds 3 ?_)
  · iintro ⟨HO, B2, B1, B0, B3, HX⟩
    isplitl [HO]
    · iexact HO
    isplitl [B3]
    · iexact B3
    isplitl [B2]
    · iexact B2
    isplitl [B1]
    · iexact B1
    isplitl [B0]
    · iexact B0
    iexact HX
  refine (T.exit hd).post fun _ => ?_
  iintro ⟨HO, B3, B2, B1, B0, HR, HC, HS, HX⟩
  isplitl [HO]
  · iexact HO
  isplitl [HR HC HS B0 B1 B2 B3]
  · isplitl [HR]
    · iexact HR
    isplitl [HC]
    · iexact HC
    isplitl [HS]
    · iexact HS
    isplitl [B0]
    · iexact B0
    isplitl [B1]
    · iexact B1
    isplitl [B2]
    · iexact B2
    iexact B3
  iexact HX
abbrev RX (V : Vals F c) : sProp 𝕄 := iprop(Sq (Fl V) (83 + 1) 10 ∗ Idle V (83 + 11))
theorem setJ_all (A : Fin 2 → Fin 4 → Option ℕ) : setJ (setJ (setJ (setJ A 0 none) 1 none) 2 none) 3 none = fun _ _ => none := by
  funext q j; fin_cases j <;> rfl
/-- From the fourth loop to the end. -/
theorem T.segH {s : Mxu F} (hM : MxA V 83 s) : T c iprop(StD V 83 ∗ HdI (F := F) (c := c) 3 ∗ Waiting V) (segH s) (fun _ => iprop(StD V 83 ∗ Done V)) := by
  have e6 : (nW 6).toNat = 6 := nW_nat (by decide)
  have e83 : (nW 83).toNat = 83 := nW_nat (by decide)
  obtain ⟨e, ho, h⟩ := hM
  have h' : okc (some (2 * 83)) (2 * 83 + 1) := ⟨rfl, by decide⟩
  have hl : LhsOK V iprop(((Landed V 83 ∗ RX V ∗ Owes (F := F) c) ∗ B7 V ∗ Any (F := F) c b29 Finset.univ) ∗ HdI (F := F) (c := c) 3 ∗ Waiting V) (lhsQ (nW 6) (by decide)) (2 * 83) :=
    lhsQ_ok (P := fun _ => True) (by rw [e6]; decide) (by decide)
  have hS : SrcOK V iprop(((Landed V 83 ∗ RX V ∗ Owes (F := F) c) ∗ B7 V ∗ Any (F := F) c b29 Finset.univ) ∗ HdI (F := F) (c := c) 3 ∗ Waiting V) (srcC (nW 83) (K2n (by decide) (by decide))) 83 := srcC_ok _ e83
  unfold Hand.segH
  refine T.pre (P' := iprop(((Landed V 83 ∗ RX V ∗ Owes (F := F) c) ∗ B7 V ∗ Any (F := F) c b29 Finset.univ) ∗ HdI (F := F) (c := c) 3 ∗ Waiting V)) ?_ ?_
  · unfold StD Ring
    iintro ⟨⟨⟨⟨HR, HS⟩, HO⟩, H7, H29⟩, HW⟩
    isplitl [HR HS HO H7 H29]
    · isplitl [HR HS HO]
      · isplitl [HR]
        · iexact HR
        isplitl [HS]
        · iexact HS
        iexact HO
      isplitl [H7]
      · iexact H7
      iexact H29
    iexact HW
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 0 3 h (fun _ => ho) (Ac2 ..)) fun s h => ?_
  refine T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  refine T.seq (T.accPair hl 1 3 h (fun _ => h')) fun s h => ?_
  refine T.pre (P' := iprop(Ob (F := F) (c := c) 3 ∗ ((Hdst (F := F) (c := c) 3 0 ∗ Hdst (F := F) (c := c) 3 1) ∗ BHd (F := F) (c := c) 3 0 ∗ StD V 83 ∗ Waiting V))) ?_ ?_
  · iintro ⟨⟨⟨HR, HS, HO⟩, H7, H29⟩, ⟨HB, HD, BB⟩, HW⟩
    isplitl [HB]; · iexact HB
    isplitl [HD]; · iexact HD
    isplitl [BB]; · iexact BB
    isplitl [HR HS HO H7 H29]
    · unfold StD Ring
      isplitl [HR HS HO]
      · isplitl [HR HS]
        · isplitl [HR]; · iexact HR
          iexact HS
        iexact HO
      isplitl [H7]; · iexact H7
      iexact H29
    iexact HW
  refine T.seq (T.popLast (P := fun _ => True) (Q := fun _ => True) 0 h rfl) fun s h => ?_
  refine T.seq (T.popLast (P := fun _ => True) (Q := fun _ => True) 1 h rfl) fun s h => ?_
  refine T.seq (T.popLast (P := fun _ => True) (Q := fun _ => True) 2 h rfl) fun s h => ?_
  refine T.seq (T.popLast (P := fun _ => True) (Q := fun _ => True) 3 h rfl) fun s h => ?_
  rw [setJ_all] at h
  have hd : s.Drained := Mx.drained (V := V) h
  refine T.pre (P' := iprop(HdI (F := F) (c := c) 3 ∗ (StD V 83 ∗ Waiting V))) ?_ (T.startHds 3 (T.pre (P' := iprop((Owes (F := F) c ∗ BHd (F := F) (c := c) 3 2) ∗ Waiting V ∗ (Ring V 83 ∗ B7 V ∗ Any (F := F) c b29 Finset.univ))) ?_ ((T.waitAll hd).post fun _ => ?_)))
  · iintro ⟨HB, HD, BB, HX, HW⟩
    isplitl [HB HD BB]
    · isplitl [HB]
      · iexact HB
      isplitl [HD]
      · iexact HD
      iexact BB
    isplitl [HX]
    · iexact HX
    iexact HW
  · iintro ⟨BB, ⟨⟨HR, HO⟩, H7, H29⟩, HW⟩
    isplitl [HO BB]
    · isplitl [HO]
      · iexact HO
      iexact BB
    isplitl [HW]
    · iexact HW
    isplitl [HR]
    · iexact HR
    isplitl [H7]
    · iexact H7
    iexact H29
  · iintro ⟨HO, HW, HR, H7, H29⟩
    isplitl [HR HO H7 H29]
    · isplitl [HR HO]
      · isplitl [HR]
        · iexact HR
        iexact HO
      isplitl [H7]
      · iexact H7
      iexact H29
    iexact HW

end Cert.Kernel.Hand
-- ==== Proof.Whole.lean ====
module

public import proofs.«01_k».proof.Proof.SegH

/-! The whole body, from its blocks to its blocks. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable {V : Vals F c}
theorem T.part {α β : Type} {P P0 X R : sProp 𝕄} {p : PR F α} {φ : α → Prop} {k : α → PR F β} {Q : β → sProp 𝕄} (h : T c P p (fun a => iprop(⌜φ a⌝ ∗ R))) (hp : P0 ⊢ iprop(P ∗ X))
    (hk : ∀ a, φ a → T c iprop(R ∗ X) (k a) Q) : T c P0 (p >>= k) Q :=
  T.pre hp ((h.frame X).bind fun a => T.pre (P' := iprop(⌜φ a⌝ ∗ R ∗ X)) (by
    iintro ⟨⟨H1, H2⟩, H3⟩
    isplitl [H1]; · iexact H1
    isplitl [H2]; · iexact H2
    iexact H3) (T.fact (hk a)))
theorem H3_zero : iprop(HdI (F := F) (c := c) 0 ∗ HdI (F := F) (c := c) 1 ∗ HdI (F := F) (c := c) 2) ⊢ H3 (F := F) (c := c) 0 := by
  unfold H3 Hs
  rw [if_neg (by decide), if_neg (by decide), if_neg (by decide)]
theorem H3_three : H3 (F := F) (c := c) 3 ⊢ iprop(BHd (F := F) (c := c) 0 2 ∗ BHd (F := F) (c := c) 1 2 ∗ BHd (F := F) (c := c) 2 2) := by
  unfold H3 Hs
  rw [if_pos (by decide), if_pos (by decide), if_pos (by decide)]
abbrev K18 (V : Vals F c) : sProp 𝕄 := iprop(B18 V ∗ Src1 V ∗ iS (F := F) (c := c) 0 (by decide))
abbrev KA (V : Vals F c) : sProp 𝕄 := iprop(HSt V 28 ∗ B19 V 28 ∗ K18 V)
abbrev Y0 : sProp 𝕄 := iprop(Any (F := F) c b27 Finset.univ ∗ Any (F := F) c b28 Finset.univ ∗ Any (F := F) c b29 Finset.univ)
abbrev Z0 : sProp 𝕄 := iprop((Any (F := F) c b14 Finset.univ ∗ BXc (F := F) (c := c) 0 ∗ Any (F := F) c b15 Finset.univ ∗ oS (F := F) (c := c) 2 (by decide)) ∗ (HdI (F := F) (c := c) 0 ∗ HdI (F := F) (c := c) 1 ∗ HdI (F := F) (c := c) 2 ∗ HdI (F := F) (c := c) 3))
abbrev InsF (V : Vals F c) : sProp 𝕄 := iprop(In1 V ∗ In2 V ∗ In3 V ∗ In4 V)
/-- What the body starts with. -/
abbrev Start (V : Vals F c) : sProp 𝕄 := iprop((Owes (F := F) c ∗ Sq (HId V) 0 28 ∗ Sq (Idle V) 0 12 ∗ InsI V ∗ B3 V ∗ Any (F := F) c b19 Finset.univ ∗ Any (F := F) c b20 Finset.univ)
  ∗ B7 V ∗ PD V 0 ∗ CS' (F := F) (c := c) ∗ Y0 (F := F) (c := c) ∗ Z0 (F := F) (c := c))
/-- What it leaves. -/
abbrev End (V : Vals F c) : sProp 𝕄 := iprop((Owes (F := F) c ∗ Ring V 83 ∗ KA V) ∗ InsL V ∗ (B3 V ∗ B7 V ∗ B20 V 112 ∗ B21 V) ∗ (Any (F := F) c b26 Finset.univ ∗ Any (F := F) c b27 Finset.univ ∗ Any (F := F) c b22 Finset.univ ∗ Any (F := F) c b29 Finset.univ) ∗ (Any (F := F) c b23 Finset.univ ∗ Any (F := F) c b24 Finset.univ ∗ Any (F := F) c b31 Finset.univ ∗ Any (F := F) c b32 Finset.univ)
  ∗ Own (F := F) c b25 Finset.univ fullShare.left (fun _ => True) ∗ Done V)
theorem T.body : T c (Start V) (body : PR F PUnit) (fun _ => End V) := by
  unfold Hand.body
  refine T.part T.segA (X := iprop(B7 V ∗ PD V 0 ∗ CS' (F := F) (c := c) ∗ Y0 (F := F) (c := c) ∗ Z0 (F := F) (c := c))) .rfl fun s h => ?_
  refine T.part (T.loop1 h) (X := iprop(K18 V ∗ InsF V ∗ B7 V ∗ PD V 0 ∗ CS' (F := F) (c := c) ∗ Y0 (F := F) (c := c) ∗ Z0 (F := F) (c := c))) ?_ fun s h => ?_
  · iintro ⟨⟨HA, HK, HI⟩, HX⟩
    isplitl [HA]
    · iexact HA
    isplitl [HK]
    · iexact HK
    isplitl [HI]
    · iexact HI
    iexact HX
  refine T.part (T.segB h) (X := iprop(KA V ∗ B7 V ∗ Y0 (F := F) (c := c) ∗ Z0 (F := F) (c := c))) ?_ fun s h => ?_
  · iintro ⟨⟨⟨HR, HO⟩, H3, HH, H19, H20⟩, HK, HI, H7, HP, HC, HY, HZ⟩
    isplitl [HI HO HR H3 H20 HP HC]
    · isplitl [HI]
      · iexact HI
      isplitl [HO]
      · iexact HO
      isplitl [HR]
      · iexact HR
      isplitl [H3]
      · iexact H3
      isplitl [H20]
      · iexact H20
      isplitl [HP]
      · iexact HP
      iexact HC
    isplitl [HH H19 HK]
    · isplitl [HH]
      · iexact HH
      isplitl [H19]
      · iexact H19
      iexact HK
    isplitl [H7]
    · iexact H7
    isplitl [HY]
    · iexact HY
    iexact HZ
  refine T.part (T.loop2 h) (X := iprop(B21 V ∗ PD V 8 ∗ InsL V ∗ Any (F := F) c b22 Finset.univ ∗ CS (F := F) (c := c) ∗ KA V ∗ B7 V ∗ Y0 (F := F) (c := c) ∗ Z0 (F := F) (c := c))) ?_ fun s h => ?_
  · iintro ⟨⟨HS, H21, HP, HI, H22, HC⟩, HX⟩
    isplitl [HS]
    · iexact HS
    isplitl [H21]
    · iexact H21
    isplitl [HP]
    · iexact HP
    isplitl [HI]
    · iexact HI
    isplitl [H22]
    · iexact H22
    isplitl [HC]
    · iexact HC
    iexact HX
  refine T.part (T.segD h) (X := iprop(InsL V ∗ (Any (F := F) c b23 Finset.univ ∗ Any (F := F) c b24 Finset.univ ∗ Any (F := F) c b31 Finset.univ ∗ Any (F := F) c b32 Finset.univ) ∗ KA V ∗ Z0 (F := F) (c := c))) ?_ fun s h => ?_
  · iintro ⟨HS, H21, HP, HI, H22, ⟨H23, H24, H31, H32, H30⟩, HK, H7, ⟨H27, H28, H29⟩, HZ⟩
    isplitl [HS H7 H21 HP H27 H22 H28 H29 H30]
    · isplitl [HS]
      · iexact HS
      isplitl [H7]
      · iexact H7
      isplitl [H21]
      · iexact H21
      isplitl [HP]
      · iexact HP
      isplitl [H27]
      · iexact H27
      isplitl [H22]
      · iexact H22
      isplitl [H28]
      · iexact H28
      isplitl [H29]
      · iexact H29
      iexact H30
    isplitl [HI]
    · iexact HI
    isplitl [H23 H24 H31 H32]
    · isplitl [H23]
      · iexact H23
      isplitl [H24]
      · iexact H24
      isplitl [H31]
      · iexact H31
      iexact H32
    isplitl [HK]
    · iexact HK
    iexact HZ
  refine T.part (T.loop3 h) (X := iprop(KeptD V ∗ InsL V ∗ (Any (F := F) c b23 Finset.univ ∗ Any (F := F) c b24 Finset.univ ∗ Any (F := F) c b31 Finset.univ ∗ Any (F := F) c b32 Finset.univ) ∗ KA V ∗ Z0 (F := F) (c := c))) ?_ fun s h => ?_
  · iintro ⟨⟨HS, HK⟩, HX⟩
    isplitl [HS]
    · iexact HS
    isplitl [HK]
    · iexact HK
    iexact HX
  refine T.part T.segF (X := iprop((Ring V 62 ∗ Owes (F := F) c) ∗ B7 V ∗ (Own (F := F) c b25 Finset.univ fullShare.left (fun _ => True) ∗ Any (F := F) c b27 Finset.univ ∗ Any (F := F) c b22 Finset.univ ∗ Any (F := F) c b29 Finset.univ) ∗ KeptD V ∗ InsL V ∗ (Any (F := F) c b23 Finset.univ ∗ Any (F := F) c b24 Finset.univ ∗ Any (F := F) c b31 Finset.univ ∗ Any (F := F) c b32 Finset.univ) ∗ KA V ∗ (HdI (F := F) (c := c) 0 ∗ HdI (F := F) (c := c) 1 ∗ HdI (F := F) (c := c) 2 ∗ HdI (F := F) (c := c) 3))) ?_ fun s' e => ?_
  · iintro ⟨⟨HR, H7, H25, H27, H22, H28, H29, H30⟩, HK, HI, HC, HA, ⟨H14, HB, H15, HS⟩, HH⟩
    isplitl [H28 H14 HB H30 H15 HS]
    · isplitl [H28]
      · iexact H28
      isplitl [H14]
      · iexact H14
      isplitl [HB]
      · iexact HB
      isplitl [H30]
      · iexact H30
      isplitl [H15]
      · iexact H15
      iexact HS
    isplitl [HR]
    · iexact HR
    isplitl [H7]
    · iexact H7
    isplitl [H25 H27 H22 H29]
    · isplitl [H25]
      · iexact H25
      isplitl [H27]
      · iexact H27
      isplitl [H22]
      · iexact H22
      iexact H29
    isplitl [HK]
    · iexact HK
    isplitl [HI]
    · iexact HI
    isplitl [HC]
    · iexact HC
    isplitl [HA]
    · iexact HA
    iexact HH
  subst e
  refine T.part (T.loop4 h) (X := iprop(HdI (F := F) (c := c) 3 ∗ (BXc (F := F) (c := c) 14 ∗ XsF (F := F) (c := c)) ∗ (Own (F := F) c b25 Finset.univ fullShare.left (fun _ => True) ∗ Any (F := F) c b27 Finset.univ ∗ Any (F := F) c b22 Finset.univ) ∗ KeptD V ∗ InsL V ∗ (Any (F := F) c b23 Finset.univ ∗ Any (F := F) c b24 Finset.univ) ∗ KA V)) ?_ fun s h => ?_
  · refine .trans (Q := iprop((BXc (F := F) (c := c) 14 ∗ XsF (F := F) (c := c)) ∗ (Ring V 62 ∗ Owes (F := F) c) ∗ B7 V ∗ (Own (F := F) c b25 Finset.univ fullShare.left (fun _ => True) ∗ Any (F := F) c b27 Finset.univ ∗ Any (F := F) c b22 Finset.univ ∗ Any (F := F) c b29 Finset.univ) ∗ KeptD V ∗ InsL V ∗ (Any (F := F) c b23 Finset.univ ∗ Any (F := F) c b24 Finset.univ ∗ Any (F := F) c b31 Finset.univ ∗ Any (F := F) c b32 Finset.univ) ∗ KA V ∗ (HdI (F := F) (c := c) 0 ∗ HdI (F := F) (c := c) 1 ∗ HdI (F := F) (c := c) 2 ∗ HdI (F := F) (c := c) 3))) .rfl ?_
    iintro ⟨HX, HR, H7, ⟨H25, H27, H22, H29⟩, HK, HI, ⟨H23, H24, H31, H32⟩, HA, ⟨G0, G1, G2, G3⟩⟩
    isplitl [HR H7 H29 H31 H32 G0 G1 G2]
    · isplitl [HR H7 H29]
      · isplitl [HR]
        · iexact HR
        isplitl [H7]
        · iexact H7
        iexact H29
      isplitl [H31 H32]
      · isplitl [H31]
        · iexact H31
        iexact H32
      iapply H3_zero
      isplitl [G0]; · iexact G0
      isplitl [G1]; · iexact G1
      iexact G2
    isplitl [G3]
    · iexact G3
    isplitl [HX]
    · iexact HX
    isplitl [H25 H27 H22]
    · isplitl [H25]
      · iexact H25
      isplitl [H27]
      · iexact H27
      iexact H22
    isplitl [HK]
    · iexact HK
    isplitl [HI]
    · iexact HI
    isplitl [H23 H24]
    · isplitl [H23]
      · iexact H23
      iexact H24
    iexact HA
  refine T.pre (P' := iprop((StD V 83 ∗ HdI (F := F) (c := c) 3 ∗ Waiting V) ∗ (Any (F := F) c b31 Finset.univ ∗ Any (F := F) c b32 Finset.univ) ∗ (Own (F := F) c b25 Finset.univ fullShare.left (fun _ => True) ∗ Any (F := F) c b27 Finset.univ ∗ Any (F := F) c b22 Finset.univ) ∗ (B3 V ∗ B20 V 112 ∗ B21 V ∗ Any (F := F) c b26 Finset.univ) ∗ InsL V ∗ (Any (F := F) c b23 Finset.univ ∗ Any (F := F) c b24 Finset.univ) ∗ KA V)) ?_ (((T.segH h).frame _).post fun _ => ?_)
  · iintro ⟨⟨HS, HC, HG⟩, G3, ⟨HX, HXs⟩, HQ, ⟨H3, H20, H21, HB, H26⟩, HI, HC', HA⟩
    icases (H3_three (F := F) (c := c)) $$ HG with ⟨G0, G1, G2⟩
    isplitl [HS G3 HB HX HXs G0 G1 G2]
    · isplitl [HS]; · iexact HS
      isplitl [G3]; · iexact G3
      isplitl [HB]; · iexact HB
      isplitl [HX]; · iexact HX
      isplitl [HXs]; · iexact HXs
      isplitl [G0]; · iexact G0
      isplitl [G1]; · iexact G1
      iexact G2
    isplitl [HC]; · iexact HC
    isplitl [HQ]; · iexact HQ
    isplitl [H3 H20 H21 H26]
    · isplitl [H3]; · iexact H3
      isplitl [H20]; · iexact H20
      isplitl [H21]; · iexact H21
      iexact H26
    isplitl [HI]; · iexact HI
    isplitl [HC']; · iexact HC'
    iexact HA
  · iintro ⟨⟨⟨⟨HR, HO⟩, H7, H29⟩, HD⟩, ⟨H31, H32⟩, ⟨H25, H27, H22⟩, ⟨H3, H20, H21, H26⟩, HI, ⟨H23, H24⟩, HA⟩
    isplitl [HO HR HA]
    · isplitl [HO]
      · iexact HO
      isplitl [HR]
      · iexact HR
      iexact HA
    isplitl [HI]
    · iexact HI
    isplitl [H3 H7 H20 H21]
    · isplitl [H3]
      · iexact H3
      isplitl [H7]
      · iexact H7
      isplitl [H20]
      · iexact H20
      iexact H21
    isplitl [H26 H27 H22 H29]
    · isplitl [H26]
      · iexact H26
      isplitl [H27]
      · iexact H27
      isplitl [H22]
      · iexact H22
      iexact H29
    isplitl [H23 H24 H31 H32]
    · isplitl [H23]
      · iexact H23
      isplitl [H24]
      · iexact H24
      isplitl [H31]
      · iexact H31
      iexact H32
    isplitl [H25]
    · iexact H25
    iexact HD

end Cert.Kernel.Hand
-- ==== Proof.Ends.lean ====
module

public import proofs.«01_k».proof.Proof.Whole

/-! The whole buffers into the blocks the body starts with, and back. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

theorem Sq_in {f g : ℕ → sProp 𝕄} (a k : ℕ) (h : ∀ i, a ≤ i → i < a + k → f i ⊢ g i) : Sq f a k ⊢ Sq g a k := by
  induction k generalizing a with
  | zero => exact .rfl
  | succ k ih =>
    rw [Sq_cons, Sq_cons]
    exact BIClass.sep_mono (h a (le_refl _) (by omega)) (ih (a + 1) fun i h1 h2 => h i (by omega) (by omega))
theorem Sq_zip (f g : ℕ → sProp 𝕄) (a k : ℕ) : iprop(Sq f a k ∗ Sq g a k) ⊣⊢ Sq (fun i => iprop(f i ∗ g i)) a k := by
  induction k generalizing a with
  | zero =>
    constructor
    · iintro ⟨-, H⟩; iexact H
    · iintro H; isplitr; · iempintro
      iexact H
  | succ k ih =>
    constructor
    · refine .trans (Q := iprop((f a ∗ g a) ∗ (Sq f (a + 1) k ∗ Sq g (a + 1) k))) ?_ (BIClass.sep_mono .rfl (ih (a + 1)).1)
      rw [Sq_cons, Sq_cons]
      iintro ⟨⟨H1, H2⟩, H3, H4⟩
      isplitl [H1 H3]
      · isplitl [H1]
        · iexact H1
        iexact H3
      isplitl [H2]
      · iexact H2
      iexact H4
    · refine .trans (Q := iprop((f a ∗ g a) ∗ (Sq f (a + 1) k ∗ Sq g (a + 1) k))) (BIClass.sep_mono .rfl (ih (a + 1)).2) ?_
      rw [Sq_cons, Sq_cons]
      iintro ⟨⟨H1, H2⟩, H3, H4⟩
      isplitl [H1 H3]
      · isplitl [H1]
        · iexact H1
        iexact H3
      isplitl [H2]
      · iexact H2
      iexact H4
theorem Sq_app (f : ℕ → sProp 𝕄) (a k l : ℕ) : iprop(Sq f a k ∗ Sq f (a + k) l) ⊣⊢ Sq f a (k + l) := by
  induction l with
  | zero =>
    constructor
    · iintro ⟨H, -⟩; iexact H
    · iintro H; isplitl; · iexact H
      iempintro
  | succ l ih =>
    constructor
    · refine .trans (Q := iprop((Sq f a k ∗ Sq f (a + k) l) ∗ f (a + k + l))) ?_ ((BIClass.sep_mono ih.1 (.rfl : f (a + k + l) ⊢ _)).trans ?_)
      · iintro ⟨H1, H2⟩
        icases (Sq_snoc f (a + k) l).2 $$ H2 with ⟨H2, H3⟩
        isplitr [H3]
        · isplitl [H1]; · iexact H1
          iexact H2
        iexact H3
      · rw [Nat.add_assoc a k l]; exact (Sq_snoc f a (k + l)).1
    · refine ((Sq_snoc f a (k + l)).2.trans ?_).trans (.trans (Q := iprop((Sq f a k ∗ Sq f (a + k) l) ∗ f (a + k + l))) (BIClass.sep_mono ih.2 .rfl) ?_)
      · rw [Nat.add_assoc a k l]
      · iintro ⟨⟨H1, H2⟩, H3⟩
        isplitl [H1]; · iexact H1
        iapply (Sq_snoc f (a + k) l).1
        isplitl [H2]; · iexact H2
        iexact H3
theorem Sq_range (f : ℕ → sProp 𝕄) (n : ℕ) : BI.bigSep (Finset.range n) f ⊣⊢ Sq f 0 n := by
  have e := Ring.bigSep_fin_eq_range n (fun t : Fin n => f t.val) f (fun _ _ => rfl)
  rw [← e]; exact Sq_fin n f
theorem sq_toks {sp : Space} {s : Shape} {e : EltTy} (b : Memref sig .tc sp s e) (f : Buf (Elt F) (b.view.loc (c : Thread nD τ))) (n : ℕ) :
    (b.view.loc (c : Thread nD τ) ↦[Finset.univ]{fullShare} f : sProp 𝕄) ⊣⊢ iprop((b.view.loc (c : Thread nD τ) ↦[Finset.univ]{Transfers.shareDrop fullShare n} f) ∗ Sq (fun i => (b.view.loc (c : Thread nD τ) ↦[Finset.univ]{Transfers.shareTokN fullShare i} f)) 0 n) :=
  ⟨(Transfers.pointsTo_toks_range fullShare n).1.trans (BIClass.sep_mono .rfl (Sq_range _ n).1), (BIClass.sep_mono .rfl (Sq_range _ n).2).trans (Transfers.pointsTo_toks_range fullShare n).2⟩
variable {V : Vals F c}
abbrev wS (i : ℕ) : sProp 𝕄 := semVal ((c : Thread nD τ), SemLoc.dma (wSemI i)) 0
abbrev hS (i : ℕ) : sProp 𝕄 := semVal ((c : Thread nD τ), SemLoc.dma (hSemI i)) 0
/-- The activations' windows. -/
theorem hEnds : iprop((b0.view.loc (c : Thread nD τ) ↦[Finset.univ]{fullShare} V.h0) ∗ Any (F := F) c b17 Finset.univ ∗ Sq (hS (F := F) (c := c)) 0 28) ⊣⊢ iprop(Sq (HId V) 0 28 ∗ (b0.view.loc (c : Thread nD τ) ↦[Finset.univ]{Transfers.shareDrop fullShare 28} V.h0)) := by
  have k1 := Own_split (F := F) (c := c) (b := b17) (fun t : Fin 28 => hset t.val) (fun i => (i 0 : Fin 28)) hset_key (q := fullShare) (f := fun i => Any (F := F) c b17 (hset i)) (fun _ => rfl)
  have k2 := Own_join (F := F) (c := c) (b := b17) (fun t : Fin 28 => hset t.val) (fun i => (i 0 : Fin 28)) hset_key (q := fullShare) (f := fun i => Any (F := F) c b17 (hset i)) (fun _ => rfl)
  have e1 : Sq (fun i => (b0.view.loc (c : Thread nD τ) ↦[Finset.univ]{Transfers.shareTokN fullShare i} V.h0 : sProp 𝕄)) 0 28 ⊢ Sq (HTk V) 0 28 := Sq_in 0 28 fun i _ h => by unfold HTk; rw [Nat.mod_eq_of_lt (by omega)]
  have e2 : Sq (HTk V) 0 28 ⊢ Sq (fun i => (b0.view.loc (c : Thread nD τ) ↦[Finset.univ]{Transfers.shareTokN fullShare i} V.h0 : sProp 𝕄)) 0 28 := Sq_in 0 28 fun i _ h => by unfold HTk; rw [Nat.mod_eq_of_lt (by omega)]
  constructor
  · iintro ⟨H0, H17, HS⟩
    icases (sq_toks b0 V.h0 28).1 $$ H0 with ⟨HR, HT⟩
    isplitr [HR]
    · iapply (Sq_mono (f := fun i => iprop(Any (F := F) c b17 (hset i) ∗ hS (F := F) (c := c) i ∗ HTk V i)) (fun i => by unfold HId; exact .rfl) 0 28)
      iapply (Sq_zip _ _ 0 28).1
      isplitl [H17]; · iapply k1; iexact H17
      iapply (Sq_zip _ _ 0 28).1
      isplitl [HS]; · iexact HS
      iapply e1; iexact HT
    iexact HR
  · iintro ⟨H, HR⟩
    have g : Sq (HId V) 0 28 ⊢ iprop(Sq (fun i => Any (F := F) c b17 (hset i)) 0 28 ∗ Sq (hS (F := F) (c := c)) 0 28 ∗ Sq (HTk V) 0 28) :=
      (Sq_mono (g := fun i => iprop(Any (F := F) c b17 (hset i) ∗ hS (F := F) (c := c) i ∗ HTk V i)) (fun i => by unfold HId; exact .rfl) 0 28).trans ((Sq_zip _ _ 0 28).2.trans (BIClass.sep_mono .rfl (Sq_zip _ _ 0 28).2))
    icases g $$ H with ⟨H17, HS, HT⟩
    isplitl [HT HR]
    · iapply (sq_toks b0 V.h0 28).2
      isplitl [HR]; · iexact HR
      iapply e2; iexact HT
    isplitl [H17]; · iapply k2; iexact H17
    iexact HS
theorem HSt_end : HSt V 28 ⊢ Sq (HId V) 0 28 := by
  unfold HSt
  refine .trans (Q := iprop(Sq (HId V) 0 28 ∗ Sq (HFl V) 28 (28 - 28))) (BIClass.sep_mono (Sq_mono (fun i => by unfold HId; exact BIClass.sep_mono Any_of .rfl) 0 28) .rfl) ?_
  iintro ⟨H, -⟩; iexact H
/-- The weights' ring. -/
abbrev TKn (V : Vals F c) (i : ℕ) : sProp 𝕄 := iprop((b2.view.loc (c : Thread nD τ) ↦[Finset.univ]{Transfers.shareTokN fullShare i} V.w2) ∗ (b6.view.loc (c : Thread nD τ) ↦[Finset.univ]{Transfers.shareTokN fullShare i} V.w6))
theorem wEnds : iprop((b2.view.loc (c : Thread nD τ) ↦[Finset.univ]{fullShare} V.w2) ∗ (b6.view.loc (c : Thread nD τ) ↦[Finset.univ]{fullShare} V.w6) ∗ Any (F := F) c b16 Finset.univ ∗ Sq (wS (F := F) (c := c)) 0 12) ⊣⊢ iprop(Sq (Idle V) 0 12 ∗ (b2.view.loc (c : Thread nD τ) ↦[Finset.univ]{Transfers.shareDrop fullShare 12} V.w2) ∗ (b6.view.loc (c : Thread nD τ) ↦[Finset.univ]{Transfers.shareDrop fullShare 12} V.w6)) := by
  have k1 := Own_split (F := F) (c := c) (b := b16) (fun t : Fin 12 => slotSet t.val) (fun i => (i 0 : Fin 12)) slot_key (q := fullShare) (f := fun i => Any (F := F) c b16 (slotSet i)) (fun _ => rfl)
  have k2 := Own_join (F := F) (c := c) (b := b16) (fun t : Fin 12 => slotSet t.val) (fun i => (i 0 : Fin 12)) slot_key (q := fullShare) (f := fun i => Any (F := F) c b16 (slotSet i)) (fun _ => rfl)
  have e1 : Sq (TKn V) 0 12 ⊢ Sq (fun i => TK V (i % 12)) 0 12 := Sq_in 0 12 fun i _ h => by rw [Nat.mod_eq_of_lt (by omega)]; unfold TK; exact .rfl
  have e2 : Sq (fun i => TK V (i % 12)) 0 12 ⊢ Sq (TKn V) 0 12 := Sq_in 0 12 fun i _ h => by rw [Nat.mod_eq_of_lt (by omega)]; unfold TK; exact .rfl
  constructor
  · iintro ⟨H2, H6, H16, HS⟩
    icases (sq_toks b2 V.w2 12).1 $$ H2 with ⟨HR2, HT2⟩
    icases (sq_toks b6 V.w6 12).1 $$ H6 with ⟨HR6, HT6⟩
    isplitr [HR2 HR6]
    · iapply (Sq_mono (f := fun i => iprop(Any (F := F) c b16 (slotSet i) ∗ wS (F := F) (c := c) i ∗ TK V (i % 12))) (fun i => by unfold Idle; exact .rfl) 0 12)
      iapply (Sq_zip _ _ 0 12).1
      isplitl [H16]; · iapply k1; iexact H16
      iapply (Sq_zip _ _ 0 12).1
      isplitl [HS]; · iexact HS
      iapply e1; iapply (Sq_zip _ _ 0 12).1
      isplitl [HT2]; · iexact HT2
      iexact HT6
    isplitl [HR2]; · iexact HR2
    iexact HR6
  · iintro ⟨H, HR2, HR6⟩
    have g : Sq (Idle V) 0 12 ⊢ iprop(Sq (fun i => Any (F := F) c b16 (slotSet i)) 0 12 ∗ Sq (wS (F := F) (c := c)) 0 12 ∗ Sq (fun i => TK V (i % 12)) 0 12) :=
      (Sq_mono (g := fun i => iprop(Any (F := F) c b16 (slotSet i) ∗ wS (F := F) (c := c) i ∗ TK V (i % 12))) (fun i => by unfold Idle; exact .rfl) 0 12).trans ((Sq_zip _ _ 0 12).2.trans (BIClass.sep_mono .rfl (Sq_zip _ _ 0 12).2))
    have g' := e2.trans (Sq_zip (fun i => (b2.view.loc (c : Thread nD τ) ↦[Finset.univ]{Transfers.shareTokN fullShare i} V.w2 : sProp 𝕄)) (fun i => (b6.view.loc (c : Thread nD τ) ↦[Finset.univ]{Transfers.shareTokN fullShare i} V.w6 : sProp 𝕄)) 0 12).2
    icases g $$ H with ⟨H16, HS, HT⟩
    icases g' $$ HT with ⟨HT2, HT6⟩
    isplitl [HT2 HR2]
    · iapply (sq_toks b2 V.w2 12).2
      isplitl [HR2]; · iexact HR2
      iexact HT2
    isplitl [HT6 HR6]
    · iapply (sq_toks b6 V.w6 12).2
      isplitl [HR6]; · iexact HR6
      iexact HT6
    isplitl [H16]; · iapply k2; iexact H16
    iexact HS
theorem Ring_end : Ring V 83 ⊢ Sq (Idle V) 0 12 := by
  unfold Ring
  have g : Sq (Fl V) (83 + 1) 10 ⊢ Sq (Idle V) 0 10 := Sq_shift (f := Fl V) (g := Idle V) 84 (fun i => by unfold Fl; rw [if_neg (by omega), Idle_congr (show (i + 84) % 12 = i % 12 by omega)]) 0 10
  have h1 : Idle V (83 + 11) ⊢ Idle V (0 + 10) := by rw [Idle_congr (show (83 + 11) % 12 = (0 + 10) % 12 by decide)]
  have h2 : Landed V 83 ⊢ Idle V (0 + 11) := (Landed_idle 83).trans (by rw [Idle_congr (show (83 + 12) % 12 = (0 + 11) % 12 by decide)])
  iintro ⟨H1, H2, H3⟩
  iapply (Sq_snoc (Idle V) 0 11).1
  isplitl [H2 H3]
  · iapply (Sq_snoc (Idle V) 0 10).1
    isplitl [H2]; · iapply g; iexact H2
    iapply h1; iexact H3
  iapply h2; iexact H1

/-! ### The batches and the blocks of the results -/
instance Own_storable {sp : Space} {s : Shape} {e : EltTy} (b : Memref sig .tc sp s e) (S) (q) (P) : Storable (upEmb : UEmb _ 𝕄) (Own (F := F) c b S q P) := by unfold Own; infer_instance
instance Any_storable {sp : Space} {s : Shape} {e : EltTy} (b : Memref sig .tc sp s e) (S) : Storable (upEmb : UEmb _ 𝕄) (Any (F := F) c b S) := by unfold Any; infer_instance
theorem ro_start : oS (F := F) (c := c) 0 (by decide) ⊢ iprop(|={Set.univ}=> BRo V 0) := Transfers.batch_alloc' EC (c : Thread nD τ) () cRo (Dro V)
theorem xc_start : oS (F := F) (c := c) 1 (by decide) ⊢ iprop(|={Set.univ}=> BXc (F := F) (c := c) 0) := Transfers.batch_alloc' EC (c : Thread nD τ) () cXc (Dxc (F := F) (c := c))
theorem hd_start (g : Fin 4) : oS (F := F) (c := c) (3 + g.val) (by omega) ⊢ iprop(|={Set.univ}=> BHd (F := F) (c := c) g 0) := Transfers.batch_alloc' EC (c : Thread nD τ) () (cHd g) (Dh (F := F) (c := c) g)
theorem PD_start : iprop(Any (F := F) c b25 Finset.univ ∗ Any (F := F) c b10 Finset.univ ∗ Any (F := F) c b26 Finset.univ ∗ BRo V 0) ⊢ PD V 0 := by
  have k1 := Own_split (F := F) (c := c) (b := b25) rset (fun i => (i 0 : Fin 14)) rset_key (q := fullShare) (f := fun i => Any (F := F) c b25 (rset (f14 i))) (fun t => by rw [f14_val])
  have k2 := Own_split (F := F) (c := c) (b := b10) roset colKey roset_key (q := fullShare) (f := fun i => Any (F := F) c b10 (roset (f14 i))) (fun t => by rw [f14_val])
  unfold PD
  iintro ⟨H25, H10, H26, HB⟩
  isplitr [H26]
  · isplitr; · iempintro
    isplitr [HB]
    · iapply (Sq_zip (fun i => Any (F := F) c b25 (rset (f14 i))) (fun i => Any (F := F) c b10 (roset (f14 i))) 0 14).1
      isplitl [H25]; · iapply k1; iexact H25
      iapply k2; iexact H10
    iexact HB
  iexact H26
theorem two {D : Fin 2 → sProp 𝕄} : bigSep Finset.univ D ⊣⊢ iprop(D 0 ∗ D 1) := by
  have e := bigSep_univ_eq_bigSepL [(0 : Fin 2), (1 : Fin 2)] (by decide) (by decide) D
  rw [e]
  exact ⟨.rfl, .rfl⟩
abbrev obF (i : ℕ) : sProp 𝕄 := Any (F := F) c b33 (obN ⟨i % 8, Nat.mod_lt _ (by decide)⟩)
abbrev Obs : sProp 𝕄 := iprop(Ob (F := F) (c := c) 0 ∗ Ob (F := F) (c := c) 1 ∗ Ob (F := F) (c := c) 2 ∗ Ob (F := F) (c := c) 3)
theorem ob_ends : Any (F := F) c b33 Finset.univ ⊣⊢ Obs (F := F) (c := c) := by
  have k1 := Own_split (F := F) (c := c) (b := b33) obN obKey ob_key (q := fullShare) (f := obF (F := F) (c := c)) (fun t => by unfold obF; rw [show (⟨t.val % 8, Nat.mod_lt _ (by decide)⟩ : Fin 8) = t from Fin.ext (Nat.mod_eq_of_lt t.2)])
  have k2 := Own_join (F := F) (c := c) (b := b33) obN obKey ob_key (q := fullShare) (f := obF (F := F) (c := c)) (fun t => by unfold obF; rw [show (⟨t.val % 8, Nat.mod_lt _ (by decide)⟩ : Fin 8) = t from Fin.ext (Nat.mod_eq_of_lt t.2)])
  have q : Sq (obF (F := F) (c := c)) 0 8 = iprop(obF (F := F) (c := c) 0 ∗ obF (F := F) (c := c) 1 ∗ obF (F := F) (c := c) 2 ∗ obF (F := F) (c := c) 3 ∗ obF (F := F) (c := c) 4 ∗ obF (F := F) (c := c) 5 ∗ obF (F := F) (c := c) 6 ∗ obF (F := F) (c := c) 7 ∗ emp) := rfl
  rw [q] at k1 k2
  constructor
  · refine k1.trans ?_
    iintro ⟨A0, A1, A2, A3, A4, A5, A6, A7, -⟩
    isplitl [A0 A1]
    · isplitl [A0]
      · iexact A0
      iexact A1
    isplitl [A2 A3]
    · isplitl [A2]
      · iexact A2
      iexact A3
    isplitl [A4 A5]
    · isplitl [A4]
      · iexact A4
      iexact A5
    isplitl [A6]
    · iexact A6
    iexact A7
  · refine .trans ?_ k2
    iintro ⟨⟨A0, A1⟩, ⟨A2, A3⟩, ⟨A4, A5⟩, A6, A7⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iempintro
abbrev qF (i : ℕ) : sProp 𝕄 := Any (F := F) c b11 (qSet ⟨i % 4, Nat.mod_lt _ (by decide)⟩)
abbrev HQ : sProp 𝕄 := iprop((Hdst (F := F) (c := c) 0 0 ∗ Hdst (F := F) (c := c) 0 1) ∗ (Hdst (F := F) (c := c) 1 0 ∗ Hdst (F := F) (c := c) 1 1))
theorem hq0 : (Hdst (F := F) (c := c) 0 0 : sProp 𝕄) = qF (F := F) (c := c) 0 := by show Any (F := F) c b11 (hdDst 0 0).view.set = _; rw [hd0_set]; rfl
theorem hq1 : (Hdst (F := F) (c := c) 0 1 : sProp 𝕄) = qF (F := F) (c := c) 1 := by show Any (F := F) c b11 (hdDst 0 1).view.set = _; rw [hd0_set]; rfl
theorem hq2 : (Hdst (F := F) (c := c) 1 0 : sProp 𝕄) = qF (F := F) (c := c) 2 := by show Any (F := F) c b11 (hdDst 1 0).view.set = _; rw [hd1_set]; rfl
theorem hq3 : (Hdst (F := F) (c := c) 1 1 : sProp 𝕄) = qF (F := F) (c := c) 3 := by show Any (F := F) c b11 (hdDst 1 1).view.set = _; rw [hd1_set]; rfl
theorem q_ends : Any (F := F) c b11 Finset.univ ⊣⊢ HQ (F := F) (c := c) := by
  have k1 := Own_split (F := F) (c := c) (b := b11) qSet qKey q_key (q := fullShare) (f := qF (F := F) (c := c)) (fun t => by unfold qF; rw [show (⟨t.val % 4, Nat.mod_lt _ (by decide)⟩ : Fin 4) = t from Fin.ext (Nat.mod_eq_of_lt t.2)])
  have k2 := Own_join (F := F) (c := c) (b := b11) qSet qKey q_key (q := fullShare) (f := qF (F := F) (c := c)) (fun t => by unfold qF; rw [show (⟨t.val % 4, Nat.mod_lt _ (by decide)⟩ : Fin 4) = t from Fin.ext (Nat.mod_eq_of_lt t.2)])
  have q : Sq (qF (F := F) (c := c)) 0 4 = iprop(qF (F := F) (c := c) 0 ∗ qF (F := F) (c := c) 1 ∗ qF (F := F) (c := c) 2 ∗ qF (F := F) (c := c) 3 ∗ emp) := rfl
  rw [q] at k1 k2
  unfold HQ
  rw [hq0, hq1, hq2, hq3]
  constructor
  · refine k1.trans ?_
    iintro ⟨A0, A1, A2, A3, -⟩
    isplitl [A0 A1]
    · isplitl [A0]
      · iexact A0
      iexact A1
    isplitl [A2]
    · iexact A2
    iexact A3
  · refine .trans ?_ k2
    iintro ⟨⟨A0, A1⟩, A2, A3⟩
    isplitl [A0]; · iexact A0
    isplitl [A1]; · iexact A1
    isplitl [A2]; · iexact A2
    isplitl [A3]; · iexact A3
    iempintro
theorem k_ends : Any (F := F) c b12 Finset.univ ⊣⊢ iprop(Hdst (F := F) (c := c) 2 0 ∗ Hdst (F := F) (c := c) 2 1) := by
  have hf : ∀ t : Fin 2, (fun i => Any (F := F) c b12 (kSet ⟨i % 2, Nat.mod_lt _ (by decide)⟩)) t.val = Own (F := F) c b12 (kSet t) fullShare (fun _ => True) := fun t => by
    show Any (F := F) c b12 (kSet ⟨t.val % 2, _⟩) = _
    rw [show (⟨t.val % 2, Nat.mod_lt _ (by decide)⟩ : Fin 2) = t from Fin.ext (Nat.mod_eq_of_lt t.2)]
  have k1 := Own_split (F := F) (c := c) (b := b12) kSet kKey k_key (q := fullShare) (f := fun i => Any (F := F) c b12 (kSet ⟨i % 2, Nat.mod_lt _ (by decide)⟩)) hf
  have k2 := Own_join (F := F) (c := c) (b := b12) kSet kKey k_key (q := fullShare) (f := fun i => Any (F := F) c b12 (kSet ⟨i % 2, Nat.mod_lt _ (by decide)⟩)) hf
  have q : Sq (fun i => Any (F := F) c b12 (kSet ⟨i % 2, Nat.mod_lt _ (by decide)⟩)) 0 2 = iprop(Any (F := F) c b12 (kSet 0) ∗ Any (F := F) c b12 (kSet 1) ∗ emp) := rfl
  rw [q] at k1 k2
  have h0 : (Hdst (F := F) (c := c) 2 0 : sProp 𝕄) = Any (F := F) c b12 (kSet 0) := by show Any (F := F) c b12 (hdDst 2 0).view.set = _; rw [hd2_set]
  have h1 : (Hdst (F := F) (c := c) 2 1 : sProp 𝕄) = Any (F := F) c b12 (kSet 1) := by show Any (F := F) c b12 (hdDst 2 1).view.set = _; rw [hd2_set]
  rw [h0, h1]
  constructor
  · refine k1.trans ?_
    iintro ⟨A0, A1, -⟩
    isplitl [A0]
    · iexact A0
    iexact A1
  · refine .trans ?_ k2
    iintro ⟨A0, A1⟩
    isplitl [A0]; · iexact A0
    isplitl [A1]; · iexact A1
    iempintro
theorem v_ends : Any (F := F) c b13 Finset.univ ⊣⊢ iprop(Hdst (F := F) (c := c) 3 0 ∗ Hdst (F := F) (c := c) 3 1) := by
  have hf : ∀ t : Fin 2, (fun i => Any (F := F) c b13 (kSet ⟨i % 2, Nat.mod_lt _ (by decide)⟩)) t.val = Own (F := F) c b13 (kSet t) fullShare (fun _ => True) := fun t => by
    show Any (F := F) c b13 (kSet ⟨t.val % 2, _⟩) = _
    rw [show (⟨t.val % 2, Nat.mod_lt _ (by decide)⟩ : Fin 2) = t from Fin.ext (Nat.mod_eq_of_lt t.2)]
  have k1 := Own_split (F := F) (c := c) (b := b13) kSet kKey k_key (q := fullShare) (f := fun i => Any (F := F) c b13 (kSet ⟨i % 2, Nat.mod_lt _ (by decide)⟩)) hf
  have k2 := Own_join (F := F) (c := c) (b := b13) kSet kKey k_key (q := fullShare) (f := fun i => Any (F := F) c b13 (kSet ⟨i % 2, Nat.mod_lt _ (by decide)⟩)) hf
  have q : Sq (fun i => Any (F := F) c b13 (kSet ⟨i % 2, Nat.mod_lt _ (by decide)⟩)) 0 2 = iprop(Any (F := F) c b13 (kSet 0) ∗ Any (F := F) c b13 (kSet 1) ∗ emp) := rfl
  rw [q] at k1 k2
  have h0 : (Hdst (F := F) (c := c) 3 0 : sProp 𝕄) = Any (F := F) c b13 (kSet 0) := by show Any (F := F) c b13 (hdDst 3 0).view.set = _; rw [hd3_set]
  have h1 : (Hdst (F := F) (c := c) 3 1 : sProp 𝕄) = Any (F := F) c b13 (kSet 1) := by show Any (F := F) c b13 (hdDst 3 1).view.set = _; rw [hd3_set]
  rw [h0, h1]
  constructor
  · refine k1.trans ?_
    iintro ⟨A0, A1, -⟩
    isplitl [A0]
    · iexact A0
    iexact A1
  · refine .trans ?_ k2
    iintro ⟨A0, A1⟩
    isplitl [A0]; · iexact A0
    isplitl [A1]; · iexact A1
    iempintro

/-- A buffer's two halves make it whole. -/
theorem halves {sp : Space} {s : Shape} {e : EltTy} {b : Memref sig .tc sp s e} : iprop(Own (F := F) c b Finset.univ fullShare.left (fun _ => True) ∗ Own (F := F) c b Finset.univ fullShare.right (fun _ => True)) ⊢ Any (F := F) c b Finset.univ := by
  unfold Any Own
  iintro ⟨⟨%f, -, H1⟩, ⟨%g, -, H2⟩⟩
  ihave %hfg := (pointsTo_agree (ℓ := b.view.loc (c : Thread nD τ)) (I := Finset.univ) (J := Finset.univ) (q₁ := fullShare.left) (q₂ := fullShare.right) (f := f) (g := g)) $$ [H1 H2]
  · isplitl [H1]; · iexact H1
    iexact H2
  have e : f = g := funext fun i => (hfg i (Finset.mem_inter.2 ⟨Finset.mem_univ _, Finset.mem_univ _⟩)).1
  subst e
  iexists f
  isplitr; · ipureintro; trivial
  iapply (pointsTo_share (PosShare.mem_left_op_right _)).2
  isplitl [H1]; · iexact H1
  iexact H2
/-- What the result holds at the end. -/
abbrev ROW (V : Vals F c) : sProp 𝕄 := Own c b10 Finset.univ fullShare (fun g => ∀ t, ∃ f, V.RO t f ∧ ∀ i ∈ roset t, g i = f i)
theorem ro_end : iprop(Own (F := F) c b25 Finset.univ fullShare.left (fun _ => True) ∗ bigSep Finset.univ (Dro V)) ⊢ iprop(ROW V ∗ Any (F := F) c b25 Finset.univ) := by
  have e : bigSep Finset.univ (Dro V) = iprop(bigSep Finset.univ (fun t => Own c b10 (roset t) fullShare (V.RO t)) ∗ bigSep Finset.univ (fun t => Own (F := F) c b25 (rset t) fullShare.right (fun _ => True))) :=
    BI.bigSep_sep Finset.univ _ _
  rw [e]
  have k1 := Own_joinP (F := F) (c := c) (b := b10) roset colKey roset_key (q := fullShare) V.RO
  have k2 := (Own_joinP (F := F) (c := c) (b := b25) rset (fun i => (i 0 : Fin 14)) rset_key (q := fullShare.right) (fun _ _ => True))
  iintro ⟨HL, H1, H2⟩
  isplitl [H1]; · iapply k1; iexact H1
  iapply (halves (F := F) (c := c) (b := b25))
  isplitl [HL]; · iexact HL
  ihave H2 := k2 $$ H2
  unfold Own
  icases H2 with ⟨%g, -, H⟩
  iexists g; isplitr; · ipureintro; trivial
  iexact H
theorem xc_end : bigSep Finset.univ (Dxc (F := F) (c := c)) ⊢ iprop(Any (F := F) c b14 Finset.univ ∗ Any (F := F) c b28 Finset.univ) := by
  have e : bigSep Finset.univ (Dxc (F := F) (c := c)) = iprop(bigSep Finset.univ (fun t => Any (F := F) c b14 (xcset t)) ∗ bigSep Finset.univ (fun t => Any (F := F) c b28 (cset t))) :=
    BI.bigSep_sep Finset.univ _ _
  rw [e]
  have w {sp : Space} {s : Shape} {e : EltTy} {b : Memref sig .tc sp s e} {P} : Own (F := F) c b Finset.univ fullShare P ⊢ Any (F := F) c b Finset.univ := Any_of
  exact BIClass.sep_mono ((Own_joinP (F := F) (c := c) (b := b14) xcset colKey xcset_key (q := fullShare) (fun _ _ => True)).trans w) ((Own_joinP (F := F) (c := c) (b := b28) cset (fun i => (i 0 : Fin 14)) cset_key (q := fullShare) (fun _ _ => True)).trans w)
theorem hd_end (g : Fin 4) : bigSep Finset.univ (Dh (F := F) (c := c) g) ⊢ iprop((Hdst (F := F) (c := c) g 0 ∗ Hdst (F := F) (c := c) g 1) ∗ Ob (F := F) (c := c) g) := by
  refine two.1.trans ?_
  iintro ⟨⟨H1, H2⟩, H3, H4⟩
  isplitl [H1 H3]
  · isplitl [H1]
    · iexact H1
    iexact H3
  isplitl [H2]
  · iexact H2
  iexact H4

end Cert.Kernel.Hand
-- ==== Proof.Ends2.lean ====
module

public import proofs.«01_k».proof.Proof.Ends

/-! The body from the whole buffers to the whole buffers. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open K0.Facts₀ Shapes1.Facts₀

variable {F : FTy → Type} [BitOps F]
local notation "𝕄" => MT nD τ sig Unit (Elt F) ℕ (Pipeline.UD sig nD τ) ℕ
variable {c : Dev nD}

variable {V : Vals F c}
abbrev Sems : sProp 𝕄 := iprop(Sq (wS (F := F) (c := c)) 0 12 ∗ Sq (hS (F := F) (c := c)) 0 28 ∗ (iS (F := F) (c := c) 0 (by decide) ∗ iS (F := F) (c := c) 1 (by decide) ∗ iS (F := F) (c := c) 2 (by decide) ∗ iS (F := F) (c := c) 3 (by decide) ∗ iS (F := F) (c := c) 4 (by decide)) ∗ (oS (F := F) (c := c) 0 (by decide) ∗ oS (F := F) (c := c) 1 (by decide) ∗ oS (F := F) (c := c) 2 (by decide) ∗ oS (F := F) (c := c) 3 (by decide) ∗ oS (F := F) (c := c) 4 (by decide) ∗ oS (F := F) (c := c) 5 (by decide) ∗ oS (F := F) (c := c) 6 (by decide)))
abbrev Args (V : Vals F c) : sProp 𝕄 := iprop((b0.view.loc (c : Thread nD τ) ↦[Finset.univ]{fullShare} V.h0) ∗ Src1 V ∗ (b2.view.loc (c : Thread nD τ) ↦[Finset.univ]{fullShare} V.w2) ∗ B3 V ∗ Src4 V ∗ Src5 V ∗ (b6.view.loc (c : Thread nD τ) ↦[Finset.univ]{fullShare} V.w6) ∗ B7 V ∗ Src8 V ∗ Src9 V)
abbrev Outs : sProp 𝕄 := iprop(Any (F := F) c b11 Finset.univ ∗ Any (F := F) c b12 Finset.univ ∗ Any (F := F) c b13 Finset.univ ∗ Any (F := F) c b14 Finset.univ ∗ Any (F := F) c b15 Finset.univ)
abbrev Scr : sProp 𝕄 := iprop(Any (F := F) c b16 Finset.univ ∗ Any (F := F) c b17 Finset.univ ∗ Any (F := F) c b18 Finset.univ ∗ Any (F := F) c b19 Finset.univ ∗ Any (F := F) c b20 Finset.univ ∗ Any (F := F) c b21 Finset.univ ∗ Any (F := F) c b22 Finset.univ ∗ Any (F := F) c b23 Finset.univ ∗ Any (F := F) c b24 Finset.univ ∗ Any (F := F) c b25 Finset.univ ∗ Any (F := F) c b26 Finset.univ ∗ Any (F := F) c b27 Finset.univ ∗ Any (F := F) c b28 Finset.univ ∗ Any (F := F) c b29 Finset.univ ∗ Any (F := F) c b30 Finset.univ ∗ Any (F := F) c b31 Finset.univ ∗ Any (F := F) c b32 Finset.univ ∗ Any (F := F) c b33 Finset.univ)
/-- Everything the body has, the first result in the state `R`. -/
abbrev All (V : Vals F c) (R : sProp 𝕄) : sProp 𝕄 := iprop(Owes (F := F) c ∗ Sems (F := F) (c := c) ∗ Args V ∗ R ∗ Outs (F := F) (c := c) ∗ Scr (F := F) (c := c))
abbrev Rem (V : Vals F c) : sProp 𝕄 := iprop((b0.view.loc (c : Thread nD τ) ↦[Finset.univ]{Transfers.shareDrop fullShare 28} V.h0) ∗ (b2.view.loc (c : Thread nD τ) ↦[Finset.univ]{Transfers.shareDrop fullShare 12} V.w2) ∗ (b6.view.loc (c : Thread nD τ) ↦[Finset.univ]{Transfers.shareDrop fullShare 12} V.w6))
abbrev R10 : sProp 𝕄 := Any (F := F) c b10 Finset.univ
set_option maxHeartbeats 2000000 in
theorem T.start_of {α : Type} {p : PR F α} {Q : α → sProp 𝕄} (hk : T c iprop(Start V ∗ Rem V) p Q) : T c (All V (R10 (F := F) (c := c))) p Q := by
  unfold T at *
  iintro ⟨HO, ⟨HWS, HHS, ⟨I0, I1, I2, I3, I4⟩, ⟨O0, O1, O2, O3, O4, O5, O6⟩⟩, ⟨A0, A1, A2, A3, A4, A5, A6, A7, A8, A9⟩, B10, ⟨B11, B12, B13, B14, B15⟩, ⟨S16, S17, S18, S19, S20, S21, S22, S23, S24, S25, S26, S27, S28, S29, S30, S31, S32, S33⟩⟩
  imod ro_start (V := V) $$ O0 with O0
  imod xc_start $$ O1 with O1
  imod hd_start 0 $$ O3 with O3
  imod hd_start 1 $$ O4 with O4
  imod hd_start 2 $$ O5 with O5
  imod hd_start 3 $$ O6 with O6
  ihave HHH := (hEnds (V := V)).1 $$ [A0 S17 HHS]
  · isplitl [A0]
    · iexact A0
    isplitl [S17]
    · iexact S17
    iexact HHS
  icases HHH with ⟨HHH, R0⟩
  ihave HWW := (wEnds (V := V)).1 $$ [A2 A6 S16 HWS]
  · isplitl [A2]
    · iexact A2
    isplitl [A6]
    · iexact A6
    isplitl [S16]
    · iexact S16
    iexact HWS
  icases HWW with ⟨HWW, R2, R6⟩
  ihave HPD := PD_start (V := V) $$ [S25 B10 S26 O0]
  · isplitl [S25]
    · iexact S25
    isplitl [B10]
    · iexact B10
    isplitl [S26]
    · iexact S26
    iexact O0
  ihave HX := ob_ends.1 $$ S33
  icases HX with ⟨X0, X1, X2, X3⟩
  ihave HX := q_ends.1 $$ B11
  icases HX with ⟨⟨Y00, Y01⟩, Y10, Y11⟩
  ihave HX := k_ends.1 $$ B12
  icases HX with ⟨Y20, Y21⟩
  ihave HX := v_ends.1 $$ B13
  icases HX with ⟨Y30, Y31⟩
  iapply hk
  unfold Start Rem InsI CS' Y0 Z0 HdI
  isplitl [HO HHH HWW A1 S18 I0 A4 S21 I1 A5 S22 I2 A8 S23 I3 A9 S24 I4 A3 S19 S20 A7 HPD S31 S32 S30 S27 S28 S29 B14 O1 B15 O2 X0 Y00 Y01 O3 X1 Y10 Y11 O4 X2 Y20 Y21 O5 X3 Y30 Y31 O6]
  · isplitl [HO HHH HWW A1 S18 I0 A4 S21 I1 A5 S22 I2 A8 S23 I3 A9 S24 I4 A3 S19 S20]
    · isplitl [HO]
      · iexact HO
      isplitl [HHH]
      · iexact HHH
      isplitl [HWW]
      · iexact HWW
      isplitl [A1 S18 I0 A4 S21 I1 A5 S22 I2 A8 S23 I3 A9 S24 I4]
      · isplitl [A1 S18 I0]
        · isplitl [A1]
          · iexact A1
          isplitl [S18]
          · iexact S18
          iexact I0
        isplitl [A4 S21 I1]
        · isplitl [A4]
          · iexact A4
          isplitl [S21]
          · iexact S21
          iexact I1
        isplitl [A5 S22 I2]
        · isplitl [A5]
          · iexact A5
          isplitl [S22]
          · iexact S22
          iexact I2
        isplitl [A8 S23 I3]
        · isplitl [A8]
          · iexact A8
          isplitl [S23]
          · iexact S23
          iexact I3
        isplitl [A9]
        · iexact A9
        isplitl [S24]
        · iexact S24
        iexact I4
      isplitl [A3]
      · iexact A3
      isplitl [S19]
      · iexact S19
      iexact S20
    isplitl [A7]
    · iexact A7
    isplitl [HPD]
    · iexact HPD
    isplitl [S31 S32 S30]
    · isplitl [S31]
      · iexact S31
      isplitl [S32]
      · iexact S32
      iexact S30
    isplitl [S27 S28 S29]
    · isplitl [S27]
      · iexact S27
      isplitl [S28]
      · iexact S28
      iexact S29
    isplitl [B14 O1 B15 O2]
    · isplitl [B14]
      · iexact B14
      isplitl [O1]
      · iexact O1
      isplitl [B15]
      · iexact B15
      iexact O2
    isplitl [X0 Y00 Y01 O3]
    · isplitl [X0]
      · iexact X0
      isplitl [Y00 Y01]
      · isplitl [Y00]
        · iexact Y00
        iexact Y01
      iexact O3
    isplitl [X1 Y10 Y11 O4]
    · isplitl [X1]
      · iexact X1
      isplitl [Y10 Y11]
      · isplitl [Y10]
        · iexact Y10
        iexact Y11
      iexact O4
    isplitl [X2 Y20 Y21 O5]
    · isplitl [X2]
      · iexact X2
      isplitl [Y20 Y21]
      · isplitl [Y20]
        · iexact Y20
        iexact Y21
      iexact O5
    isplitl [X3]
    · iexact X3
    isplitl [Y30 Y31]
    · isplitl [Y30]
      · iexact Y30
      iexact Y31
    iexact O6
  isplitl [R0]
  · iexact R0
  isplitl [R2]
  · iexact R2
  iexact R6
set_option maxHeartbeats 2000000 in
theorem finish : iprop(End V ∗ Rem V) ⊢ All V (ROW V) := by
  unfold End KA K18 InsL Done DoneRo DoneXc DoneXs XsD DoneHd Rem
  iintro ⟨⟨⟨HO, HR, HHt, S19, S18, A1, I0⟩, ⟨⟨A4, I1⟩, ⟨A5, I2⟩, ⟨A8, I3⟩, A9, I4⟩, ⟨A3, A7, S20, S21⟩, ⟨S26, S27, S22, S29⟩, ⟨S23, S24, S31, S32⟩, HL, ⟨D0, O0⟩, ⟨D1, O1⟩, ⟨⟨B15, S30⟩, O2⟩, ⟨E0, O3⟩, ⟨E1, O4⟩, ⟨E2, O5⟩, E3, O6⟩, R0, R2, R6⟩
  ihave HHt := HSt_end (V := V) $$ HHt
  ihave HR := Ring_end (V := V) $$ HR
  ihave HX := (hEnds (V := V)).2 $$ [HHt R0]
  · isplitl [HHt]
    · iexact HHt
    iexact R0
  icases HX with ⟨A0, S17, HHS⟩
  ihave HX := (wEnds (V := V)).2 $$ [HR R2 R6]
  · isplitl [HR]
    · iexact HR
    isplitl [R2]
    · iexact R2
    iexact R6
  icases HX with ⟨A2, A6, S16, HWS⟩
  ihave HX := ro_end (V := V) $$ [HL D0]
  · isplitl [HL]
    · iexact HL
    iexact D0
  icases HX with ⟨B10, S25⟩
  ihave HX := xc_end $$ D1
  icases HX with ⟨B14, S28⟩
  ihave HX := hd_end 0 $$ E0
  icases HX with ⟨E0, X0⟩
  ihave HX := hd_end 1 $$ E1
  icases HX with ⟨E1, X1⟩
  ihave HX := hd_end 2 $$ E2
  icases HX with ⟨E2, X2⟩
  ihave HX := hd_end 3 $$ E3
  icases HX with ⟨E3, X3⟩
  ihave S33 := ob_ends.2 $$ [X0 X1 X2 X3]
  · isplitl [X0]
    · iexact X0
    isplitl [X1]
    · iexact X1
    isplitl [X2]
    · iexact X2
    iexact X3
  ihave B11 := q_ends.2 $$ [E0 E1]
  · isplitl [E0]
    · iexact E0
    iexact E1
  ihave B12 := k_ends.2 $$ E2
  ihave B13 := v_ends.2 $$ E3
  isplitl [HO]
  · iexact HO
  isplitl [HWS HHS I0 I1 I2 I3 I4 O0 O1 O2 O3 O4 O5 O6]
  · isplitl [HWS]
    · iexact HWS
    isplitl [HHS]
    · iexact HHS
    isplitl [I0 I1 I2 I3 I4]
    · isplitl [I0]
      · iexact I0
      isplitl [I1]
      · iexact I1
      isplitl [I2]
      · iexact I2
      isplitl [I3]
      · iexact I3
      iexact I4
    isplitl [O0]
    · iexact O0
    isplitl [O1]
    · iexact O1
    isplitl [O2]
    · iexact O2
    isplitl [O3]
    · iexact O3
    isplitl [O4]
    · iexact O4
    isplitl [O5]
    · iexact O5
    iexact O6
  isplitl [A0 A1 A2 A3 A4 A5 A6 A7 A8 A9]
  · isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  isplitl [B10]
  · iexact B10
  isplitl [B11 B12 B13 B14 B15]
  · isplitl [B11]
    · iexact B11
    isplitl [B12]
    · iexact B12
    isplitl [B13]
    · iexact B13
    isplitl [B14]
    · iexact B14
    iexact B15
  isplitl [S16]
  · iexact S16
  isplitl [S17]
  · iexact S17
  isplitl [S18]
  · iapply (Any_of (F := F) (c := c)); iexact S18
  isplitl [S19]
  · iapply (Any_of (F := F) (c := c)); iexact S19
  isplitl [S20]
  · iapply (Any_of (F := F) (c := c)); iexact S20
  isplitl [S21]
  · iapply (Any_of (F := F) (c := c)); iexact S21
  isplitl [S22]
  · iexact S22
  isplitl [S23]
  · iexact S23
  isplitl [S24]
  · iexact S24
  isplitl [S25]
  · iexact S25
  isplitl [S26]
  · iexact S26
  isplitl [S27]
  · iexact S27
  isplitl [S28]
  · iexact S28
  isplitl [S29]
  · iexact S29
  isplitl [S30]
  · iexact S30
  isplitl [S31]
  · iexact S31
  isplitl [S32]
  · iexact S32
  iexact S33
/-- The body from everything whole to everything whole. -/
theorem T.all : T c (All V (R10 (F := F) (c := c))) (Hand.body : PR F PUnit) (fun _ => All V (ROW V)) := by
  refine T.start_of ?_
  have h := (T.body (V := V)).frame (Rem V)
  unfold T at h ⊢
  exact h.trans (wp_mono _ _ _ fun _ => finish)

end Cert.Kernel.Hand
-- ==== Proof.Eq.lean ====
module

public import proofs.«01_k».proof.Proof.Stages
public import Idealize.ShloMosaic.Lib.Tactic

/-! The printed parts of the kernel's loops, as the chunks of `Body` and `Stages`. -/

@[expose] public section
noncomputable section

namespace Cert.Kernel.Hand
open Idealize.ShloMosaic Idealize.ShloMosaic.TcCoe
open Idealize.SL Idealize.SL.Sem
open Cert.Kernel
open K0.Facts₀ Shapes1.Facts₀
variable {F : FTy → Type} [BitOps F]
set_option maxRecDepth 100000

/-- The upper half of a tile of weights. -/
def upper (v00 v01 : FVec F S128x128 .bf16) : FVec F S128x256 .bf16 :=
  concatenate S128x256 1 [⟨S128x128, v00⟩, ⟨S128x128, v01⟩] concatenates_S128x128_S128x128_S128x256_d1

theorem forPure {α : Type} {p q : PR F α} (h : p = q) : (p >>= fun x => pure x) = q := by
  rw [h, bind_pure]
theorem assocA {α β γ δ : Type} (a : PR F α) (b : PR F β) (x : W) (hx : x.toNat < 96) (k : PR F γ) (f : γ → PR F δ) :
    (a >>= fun _ => b >>= fun _ => startW x hx k) >>= f = a >>= fun _ => b >>= fun _ => startW x hx (k >>= f) := by
  simp only [bind_assoc, startW_bind]
theorem assocB {α γ δ : Type} (a : PR F α) (x : W) (hx : x.toNat < 96) (k : PR F γ) (f : γ → PR F δ) :
    (a >>= fun _ => startW x hx k) >>= f = a >>= fun _ => startW x hx (k >>= f) := by
  simp only [bind_assoc, startW_bind]
/-- The steps of a chunk but its last push. -/
def core4 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 0 3 s
  let s ← stepP ld 0 3 S 1 0 s
  let s ← stepP ld 1 0 S 1 1 s
  let s ← stepP ld 1 1 S 1 2 s
  let s ← stepP ld 1 2 S 1 3 s
  let s ← accPair ld 1 3 s
  pushTile N 0 0 0 s
def core3 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 1 0 s
  let s ← stepP ld 1 0 S 1 1 s
  let s ← stepP ld 1 1 S 1 2 s
  let s ← accPair ld 1 2 s
  pushTile N 0 0 0 s

theorem p30_eq (t : Fin k0_t1_loop.trips) (s : Mxu F) : k0_part30 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitH (Scalar.addi (Scf.iv 0#32 1#32 t.val) 1#32) (iv1K' t) >>= fun _ =>
  waitA (Scalar.addi (Scf.iv 0#32 1#32 t.val) 1#32) (iv1K' t) >>= fun _ =>
  startW (Scalar.addi (Scf.iv 0#32 1#32 t.val) 11#32) (lt96 (iv1K t).lt) (do
    let s ← steps4 (lhsD (Scf.iv 0#32 1#32 t.val) (iv1K t)) (srcA (Scf.iv 0#32 1#32 t.val) (iv1K t)) (srcA (Scalar.addi (Scf.iv 0#32 1#32 t.val) 1#32) (iv1K' t)) s
    widenOne (Scalar.addi (Scf.iv 0#32 1#32 t.val) 1#32) (iv1K' t) 0 0
    widenOne (Scalar.addi (Scf.iv 0#32 1#32 t.val) 1#32) (iv1K' t) 0 1
    widenOne (Scalar.addi (Scf.iv 0#32 1#32 t.val) 1#32) (iv1K' t) 1 0
    let v ← widenHead (Scalar.addi (Scf.iv 0#32 1#32 t.val) 1#32) (iv1K' t) 1 1
    pure ⟨s, v⟩)) := by
  sl_kernel_rfl
theorem p221_eq (s : Mxu F) : k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop1 s := by
  unfold k0_part221 loop1
  refine congrArg (fun f => Scf.Loop.for k0_t1_loop k0_t1_ok s f) (funext fun t => funext fun s => ?_)
  refine (congrArg (fun p => p >>= _) (p30_eq t s)).trans ?_
  refine (assocA _ _ _ _ _ _).trans ?_
  sl_kernel_rfl
theorem p53_eq (t : Fin k0_t2_loop.trips) (s : Mxu F) : k0_part53 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 29#32 1#32 t s =
  (waitB (Scalar.addi (Scf.iv 29#32 1#32 t.val) 1#32) (iv2K' t) >>= fun _ =>
  startW (Scalar.addi (Scf.iv 29#32 1#32 t.val) 11#32) (lt96 (iv2K t).lt) (do
    let s ← core3 (lhsD (Scalar.subi (Scf.iv 29#32 1#32 t.val) 28#32) (iv2K t).sub) (srcB (Scf.iv 29#32 1#32 t.val) (iv2K t)) (srcB (Scalar.addi (Scf.iv 29#32 1#32 t.val) 1#32) (iv2K' t)) s
    let v00 ← blk (srcB (Scalar.addi (Scf.iv 29#32 1#32 t.val) 1#32) (iv2K' t)) 0 1 0 0
    let v01 ← blk (srcB (Scalar.addi (Scf.iv 29#32 1#32 t.val) 1#32) (iv2K' t)) 0 1 0 1
    let v10 ← blk (srcB (Scalar.addi (Scf.iv 29#32 1#32 t.val) 1#32) (iv2K' t)) 0 1 1 0
    pure ⟨s, Scalar.muli (Scalar.muli (Scalar.subi (Scalar.addi (Scf.iv 29#32 1#32 t.val) 1#32) 28#32) 2#32) 2#32, upper v00 v01, v10⟩)) := by
  sl_kernel_rfl
theorem p257_eq (s : Mxu F) : k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32 = loop2 s := by
  unfold k0_part257 loop2
  refine congrArg (fun f => Scf.Loop.for k0_t2_loop k0_t2_ok s f) (funext fun t => funext fun s => ?_)
  refine (congrArg (fun p => p >>= _) (p53_eq t s)).trans ?_
  refine (assocB _ _ _ _ _).trans ?_
  sl_kernel_rfl
theorem p94_eq (t : Fin k0_t3_loop.trips) (s : Mxu F) : k0_part94 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitC (Scalar.addi (Scalar.addi 56#32 (Scf.iv 0#32 1#32 t.val)) 1#32) (iv3 t).2.2.1 >>= fun _ =>
  startW (Scalar.addi (Scalar.addi 56#32 (Scf.iv 0#32 1#32 t.val)) 11#32) (lt96 (K2.lt (iv3 t).2.1)) (do
    let s ← steps4 (lhsQ (Scf.iv 0#32 1#32 t.val) (iv3 t).1) (srcC (Scalar.addi 56#32 (Scf.iv 0#32 1#32 t.val)) (iv3 t).2.1) (srcC (Scalar.addi (Scalar.addi 56#32 (Scf.iv 0#32 1#32 t.val)) 1#32) (iv3 t).2.2.1) s
    quantise (qW (Scf.iv 0#32 1#32 t.val) 0) ((iv3 t).2.2.2 0)
    quantOne (qW (Scf.iv 0#32 1#32 t.val) 1) ((iv3 t).2.2.2 1) 0
    let v ← quantHead (qW (Scf.iv 0#32 1#32 t.val) 1) ((iv3 t).2.2.2 1) 1
    pure ⟨s, v⟩)) := by
  sl_kernel_rfl
theorem p283_eq (s : Mxu F) : k0_part283 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop3 s := by
  unfold k0_part283 loop3
  refine congrArg (fun f => Scf.Loop.for k0_t3_loop k0_t3_ok s f) (funext fun t => funext fun s => ?_)
  refine (congrArg (fun p => p >>= _) (p94_eq t s)).trans ?_
  refine (assocB _ _ _ _ _).trans ?_
  sl_kernel_rfl
theorem p128_eq (t : Fin k0_t4_loop.trips) (u : Fin k0_t5_loop.trips) (s : Mxu F) :
  k0_part128 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) 1#32 1#32 u s =
  (waitC (Scalar.addi (Scalar.addi (bW (gW t.val)) (Scf.iv 1#32 1#32 u.val)) 1#32) (iv5 t u).2.2 >>= fun _ =>
  startW (Scalar.addi (Scalar.addi (bW (gW t.val)) (Scf.iv 1#32 1#32 u.val)) 11#32) (lt96 (K2.lt (iv5 t u).2.1)) (do
    let s ← core4 (lhsQ (Scf.iv 1#32 1#32 u.val) (iv5 t u).1) (srcC (Scalar.addi (bW (gW t.val)) (Scf.iv 1#32 1#32 u.val)) (iv5 t u).2.1) (srcC (Scalar.addi (Scalar.addi (bW (gW t.val)) (Scf.iv 1#32 1#32 u.val)) 1#32) (iv5 t u).2.2) s
    let v00 ← blk (srcC (Scalar.addi (Scalar.addi (bW (gW t.val)) (Scf.iv 1#32 1#32 u.val)) 1#32) (iv5 t u).2.2) 0 1 0 0
    let v01 ← blk (srcC (Scalar.addi (Scalar.addi (bW (gW t.val)) (Scf.iv 1#32 1#32 u.val)) 1#32) (iv5 t u).2.2) 0 1 0 1
    let v ← ringLoad (rem12 (Scalar.addi (Scalar.addi (bW (gW t.val)) (Scf.iv 1#32 1#32 u.val)) 1#32)) (rem12_lt (K2.lt (iv5 t u).2.2)) 128 256 (by decide) (by decide)
    pure ⟨Scalar.remsi (Scalar.addi (Scalar.addi (bW (gW t.val)) (Scf.iv 1#32 1#32 u.val)) 1#32) 12#32, s,
      Scalar.muli (Scalar.muli (Scalar.remsi (Scalar.subi (Scalar.addi (Scalar.addi (bW (gW t.val)) (Scf.iv 1#32 1#32 u.val)) 1#32) 56#32) 7#32) 2#32) 2#32,
      Scalar.muli (Scalar.divsi (Scalar.subi (Scalar.addi (Scalar.addi (bW (gW t.val)) (Scf.iv 1#32 1#32 u.val)) 1#32) 56#32) 7#32) 16#32,
      upper v00 v01, extf .bf16 (shapeCast S128x128 v shapeCasts_S1x128x128_S128x128) bitsLt_fp8e4m3_bf16⟩)) := by
  sl_kernel_rfl
theorem p206_eq (t : Fin k0_t4_loop.trips) (s : Mxu F) :
    k0_part206 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) s 1#32 1#32 = loop5 t s := by
  unfold k0_part206 loop5
  refine congrArg (fun f => Scf.Loop.for k0_t5_loop k0_t5_ok s f) (funext fun u => funext fun s => ?_)
  refine (congrArg (fun p => p >>= _) (p128_eq t u s)).trans ?_
  refine (assocB _ _ _ _ _).trans ?_
  sl_kernel_rfl

end Cert.Kernel.Hand
-- ==== Proof.Eq2.lean ====
module

public import proofs.«01_k».proof.Proof.Eq
public import Idealize.ShloMosaic.Lib.Tactic

/-! The printed kernel as the sequence of segments and loops. -/

@[expose] public section
noncomputable section

namespace Cert.Kernel.Hand
open Idealize.ShloMosaic Idealize.ShloMosaic.TcCoe
open Idealize.SL Idealize.SL.Sem
open Cert.Kernel
open K0.Facts₀ Shapes1.Facts₀
variable {F : FTy → Type} [BitOps F]
set_option maxRecDepth 100000

/-- The group's second chunk up to its sixth step. -/
def pops207 (g : ℕ) (hg : g < 4) (ld : Fin 2 → PR F (Vec F S1x256x256 .bf16)) (S : Src F) (s : Mxu F) : PR F (Mxu F) := do
  let s ← popRope g hg 0 s
  let s ← stepP ld 0 0 S 0 1 s
  let s ← popRope g hg 1 s
  let s ← stepP ld 0 1 S 0 2 s
  let s ← popRope g hg 2 s
  let s ← stepP ld 0 2 S 0 3 s
  let s ← popRope g hg 3 s
  let s ← stepP ld 0 3 S 1 0 s
  let s ← accPair ld 1 0 s
  pushTile S 1 2 0 s

theorem p207_eq (t : Fin k0_t4_loop.trips) (s : Mxu F) : k0_part207 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) (
  steps4 (lhsQ 6#32 (by decide)) (srcC (Scalar.subi (bW (gW t.val)) 1#32) (iv4 t).2.1) (srcC (Scalar.addi (Scalar.subi (bW (gW t.val)) 1#32) 1#32) (iv4 t).2.2.1) s >>= fun s =>
  waitC (Scalar.addi (bW (gW t.val)) 1#32) (iv4 t).2.2.2.2 >>= fun _ =>
  startW (Scalar.addi (bW (gW t.val)) 11#32) (lt96 (K2.lt (iv4 t).2.2.2.1)) (do
  let s ← pops207 (gW t.val).toNat (iv4 t).1 (lhsQ 0#32 (by decide)) (srcC (bW (gW t.val)) (iv4 t).2.2.2.1) s
  let v00 ← blk (srcC (bW (gW t.val)) (iv4 t).2.2.2.1) 1 3 0 0
  let v01 ← blk (srcC (bW (gW t.val)) (iv4 t).2.2.2.1) 1 3 0 1
  let v10 ← blk (srcC (bW (gW t.val)) (iv4 t).2.2.2.1) 1 3 1 0
  let v ← ringLoad (rem12 (bW (gW t.val))) (rem12_lt (K2.lt (iv4 t).2.2.2.1)) 384 896 (by decide) (by decide)
  let c ← (srcC (bW (gW t.val)) (iv4 t).2.2.2.1).sc 1 1 3 1
  pure ⟨gW t.val, Scalar.addi 56#32 (Scalar.muli (gW t.val) 7#32), Scalar.remsi (Scalar.addi (bW (gW t.val)) 1#32) 12#32,
    Scalar.subi (Scalar.addi (bW (gW t.val)) 1#32) 56#32, Scalar.remsi (bW (gW t.val)) 12#32, Scalar.subi (bW (gW t.val)) 56#32,
    s, upper v00 v01, v10, extf .bf16 (shapeCast S128x128 v shapeCasts_S1x128x128_S128x128) bitsLt_fp8e4m3_bf16, c⟩))) := by
  sl_kernel_rfl
theorem assocG {α β γ δ ε : Type} (a : PR F α) (b : PR F β) (c : β → PR F γ) (x y : W) (hx : x.toNat < 96) (hy : y.toNat < 96)
    (k : β → PR F δ) (f : δ → PR F ε) :
    (a >>= fun _ => startW x hx (b >>= fun s => c s >>= fun _ => startW y hy (k s))) >>= f =
      a >>= fun _ => startW x hx (b >>= fun s => c s >>= fun _ => startW y hy (k s >>= f)) := by
  simp only [bind_assoc, startW_bind]
/-- The group with its inner loop abstract. -/
def groupG (l5 : Mxu F → PR F (Mxu F)) (t : Fin k0_t4_loop.trips) (s : Mxu F) : PR F (Mxu F) :=
  waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) <|
  (steps4 (lhsQ 6#32 (by decide)) (srcC (Scalar.subi (bW (gW t.val)) 1#32) (iv4 t).2.1) (srcC (Scalar.addi (Scalar.subi (bW (gW t.val)) 1#32) 1#32) (iv4 t).2.2.1) s) >>= fun s =>
  waitC (Scalar.addi (bW (gW t.val)) 1#32) (iv4 t).2.2.2.2 >>= fun _ =>
  startW (Scalar.addi (bW (gW t.val)) 11#32) (lt96 (K2.lt (iv4 t).2.2.2.1)) <|
  steps4Pop (gW t.val).toNat (iv4 t).1 (lhsQ 0#32 (by decide)) (srcC (bW (gW t.val)) (iv4 t).2.2.2.1) (srcC (Scalar.addi (bW (gW t.val)) 1#32) (iv4 t).2.2.2.2) s >>= fun s =>
  startIf (gW t.val) 0#32 0 >>= fun _ =>
  startIf (gW t.val) 1#32 1 >>= fun _ =>
  startIf (gW t.val) 2#32 2 >>= fun _ =>
  l5 s >>= fun s => pure s
theorem groupG_eq (t : Fin k0_t4_loop.trips) (s : Mxu F) : groupG (loop5 t) t s = group t s := by
  unfold groupG group; simp only [bind_pure]
theorem p287_eq (s : Mxu F) : k0_part287 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop4 s := by
  unfold k0_part287 loop4
  refine congrArg (fun f => Scf.Loop.for k0_t4_loop k0_t4_ok s f) (funext fun t => funext fun s => ?_)
  refine Eq.trans (b := groupG (fun s => k0_part206 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) s 1#32 1#32) t s) ?_
    ((congrArg (fun l => groupG l t s) (funext (p206_eq (F := F) t))).trans (groupG_eq t s))
  refine (congrArg (fun p => p >>= _) (p207_eq t s)).trans ?_
  refine (assocG _ _ _ _ _ _ _ _ _).trans ?_
  sl_kernel_rfl

/-- The last chunk of the second pass up to its fifth step. -/
def segD1 {α : Type} (k : Mxu F → FVec F S128x128 .bf16 → FVec F S128x128 .bf16 → Elt F .f32 → α) (s : Mxu F) : PR F α := do
  waitC (nW 56) (K2n (by decide) (by decide))
  startC (nW 66) (K2n (by decide) (by decide))
  let s ← stepP (lhsD (nW 27) (by decide)) 0 0 (srcB (nW 55) (K1n (by decide) (by decide))) 0 1 s
  let s ← stepP (lhsD (nW 27) (by decide)) 0 1 (srcB (nW 55) (K1n (by decide) (by decide))) 0 2 s
  let s ← stepP (lhsD (nW 27) (by decide)) 0 2 (srcB (nW 55) (K1n (by decide) (by decide))) 1 0 s
  let s ← stepP (lhsD (nW 27) (by decide)) 1 0 (srcB (nW 55) (K1n (by decide) (by decide))) 1 1 s
  let s ← accPair (lhsD (nW 27) (by decide)) 1 1 s
  let s ← pushTile (srcB (nW 55) (K1n (by decide) (by decide))) 1 4 0 s
  let v ← blk (srcB (nW 55) (K1n (by decide) (by decide))) 1 5 0 0
  let w ← ringLoad (rem12 (nW 55)) (rem12_lt (K1n (n := 55) (by decide) (by decide)).lt) 256 1408 (by decide) (by decide)
  let c ← (srcB (F := F) (nW 55) (K1n (by decide) (by decide))).sc 1 0 5 1
  pure (k s v (extf .bf16 (shapeCast S128x128 w shapeCasts_S1x128x128_S128x128) bitsLt_fp8e4m3_bf16) c)
def bodyG1 {α : Type} (l1 l2 : Mxu F → PR F (Mxu F)) (k : Mxu F → FVec F S128x128 .bf16 → FVec F S128x128 .bf16 → Elt F .f32 → α) : PR F α :=
  segA >>= fun s => l1 s >>= fun s => segB s >>= fun s => l2 s >>= fun s => segD1 k s
theorem p323_eq : k0_part323 (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 =
    bodyG1 (fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32)
      (fun s v w c => ⟨Scalar.remsi 56#32 12#32, Scalar.remsi 55#32 12#32, s, v, w, c⟩) := by
  sl_kernel_rfl
theorem bodyG1_bind {α β : Type} (l1 l2 : Mxu F → PR F (Mxu F)) (k : Mxu F → FVec F S128x128 .bf16 → FVec F S128x128 .bf16 → Elt F .f32 → α)
    (f : α → PR F β) : bodyG1 l1 l2 k >>= f = segA >>= fun s => l1 s >>= fun s => segB s >>= fun s => l2 s >>= fun s => segD1 k s >>= f := by
  simp only [bodyG1, bind_assoc]
def bodyG (l1 l2 l3 l4 : Mxu F → PR F (Mxu F)) : PR F PUnit :=
  segA >>= fun s => l1 s >>= fun s => segB s >>= fun s => l2 s >>= fun s => segD s >>= fun s =>
    l3 s >>= fun s => segF s >>= fun s => l4 s >>= fun s => segH s
theorem entry_eqG : cc0__entry (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 =
    bodyG (fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32)
      (fun s => k0_part283 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part287 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) := by
  unfold cc0__entry
  refine (congrArg (fun p => p >>= _) p323_eq).trans ?_
  refine (bodyG1_bind _ _ _ _).trans ?_
  sl_kernel_rfl
/-- The printed kernel is `body`. -/
theorem entry_eq : cc0__entry (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 = body := by
  rw [entry_eqG]
  unfold bodyG body
  simp only [p221_eq, p257_eq, p283_eq, p287_eq]

end Cert.Kernel.Hand
-- ==== Proof.Frame.lean ====
module

public import proofs.«01_k».proof.Proof.Ends2
public import proofs.«01_k».proof.Proof.Eq2
public import proofs.«01_k».proof.Proof.Gen.Kernel.Launch
public import proofs.«01_k».proof.Proof.Gen.Kernel.Frame
public import proofs.«01_k».proof.Proof.Gen.Kernel.Points
public import Idealize.ShloMosaic.Lib.Pipeline.FrameBody

/-! The frame: the kernel terminates without a fault and changes no argument. -/

@[expose] public section
noncomputable section

namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)
open K0.Facts₀ Shapes1.Facts₀

variable {F : FTy → Type} [BitOps F]
local notation "𝕄" => MT nD τ sig Unit (Elt F) ℕ (Pipeline.UD sig nD τ) ℕ
variable (m : (ℓ : Loc nD τ sig) → Buf (Elt F) ℓ) (ρ : Dev nD → PrngReg)

/-- The buffers the body writes itself: the results. -/
def R0 : Finset (Ref sig .tc) := {main_v16_0, main_v16_1, main_v16_2, main_v16_3, main_v16_4, main_v16_5}
/-- The buffers its copies read. -/
def H0 : Finset (Ref sig .tc) := {main_v11, main_v12, main_arg2, main_v13, main_v14, main_arg6, main_arg8, main_v15}
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain
theorem frame_ofD (dats : (p : Fin 1) → (c : Dev nD) → Dat τ (Elt F) Unit ℕ (Pipeline.UD sig nD τ) ℕ (cfgs p) c)
    (hA : ∀ c w, (dats 0 c).A w = Gen.V m c (Pipeline.arrRef spec0 w))
    (h : θ_run defs (onTc (τ := τ) (main (F := F))) (s₀ m ρ) (fun r => Pipeline.FramePostR cfgs dats 0 R0 (Gen.V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).1 0).trans (((dats 0 c).arrAt_in 0 rfl _).trans ((hA c 0).trans (V_main_arg3 m c))),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).1 1).trans (((dats 0 c).arrAt_in 1 rfl _).trans ((hA c 1).trans (V_main_arg7 m c))),
      ((h.1 c).2 main_arg8 (Finset.mem_sdiff.mpr ⟨Pipeline.mem_restRefs_of main_arg8 (by decide) (by decide), by decide⟩)).trans (V_main_arg8 m c)⟩, h.2⟩) h

abbrev osem0 : Fin 52 → SemLoc sig := fun j => SemLoc.dma ⟨2 + j.val, by have := j.2; show 2 + j.val < 54; omega⟩
set_option maxRecDepth 4000 in
theorem ownSemFacts0 : Pipeline.OwnSemFacts spec0 osem0 := by decide
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} Gen.V m c b) : sProp 𝕄)
      = iprop(((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15)) := by
  rw [BI.bigSep_eq_bigSepL_of_eq [main_v11, main_v12, main_arg2, main_v13, main_v14, main_arg6, main_arg8, main_v15] (by decide) (by decide)]; rfl
theorem ownedPts0_eq (c : Dev nD) :
    (Pipeline.owned R0 c : sProp 𝕄) = iprop((∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) := by
  unfold Pipeline.owned; rw [BI.bigSep_eq_bigSepL_of_eq [main_v16_0, main_v16_1, main_v16_2, main_v16_3, main_v16_4, main_v16_5] (by decide) (by decide)]; rfl
theorem scoped_eq (c : Dev nD) :
    (Pipeline.scopedRest (Ix := Unit) (Name := ℕ) (U := Pipeline.UD sig nD τ) (Lvl := ℕ) (Val := Elt F) spec0 c : sProp 𝕄) = iprop((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) := by
  rw [scopedRest0_eq]
theorem PhiDR0_eq (c : Dev nD) :
    (Pipeline.ΦDR osem0 spec0 H0 R0 (Gen.V m) c : sProp 𝕄)
      = iprop(((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) ∗ (∃ r, prngReg c r)
          ∗ Pipeline.ownSems0 (Ix := Unit) (Name := ℕ) (U := Pipeline.UD sig nD τ) (Lvl := ℕ) (Val := Elt F) (τ := τ) osem0 c
          ∗ (((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15))
          ∗ (∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) := by
  rw [Pipeline.ΦDR_eq, scoped_eq, hbmPts0_eq, ownedPts0_eq]

/-! ### The semaphores -/
abbrev dS (c : Dev nD) (i : ℕ) : sProp 𝕄 := semVal ((c : Thread nD τ), osem0 ⟨i % 52, Nat.mod_lt _ (by decide)⟩) 0
theorem wSem_eq : ∀ i : Fin 12, SemLoc.dma (wSem i.val i.2) = osem0 ⟨i.val % 52, Nat.mod_lt _ (by decide)⟩ := by decide
theorem hSem_eq : ∀ i : Fin 28, SemLoc.dma (hSem i.val i.2) = osem0 ⟨(i.val + 12) % 52, Nat.mod_lt _ (by decide)⟩ := by decide
theorem iSem_eq : ∀ i : Fin 5, SemLoc.dma (iSem i.val i.2) = osem0 ⟨(i.val + 40) % 52, Nat.mod_lt _ (by decide)⟩ := by decide
theorem oSem_eq : ∀ i : Fin 7, SemLoc.dma (oSem i.val i.2) = osem0 ⟨(i.val + 45) % 52, Nat.mod_lt _ (by decide)⟩ := by decide
theorem wS_eq (c : Dev nD) (i : ℕ) (h : i < 12) : wS (F := F) (c := c) i = dS (F := F) c i := by
  have e := wSem_eq ⟨i, h⟩
  have : wSemI i = wSem i h := by unfold wSemI; congr 1; exact Nat.mod_eq_of_lt h
  unfold wS dS; rw [this, e]
theorem hS_eq (c : Dev nD) (i : ℕ) (h : i < 28) : hS (F := F) (c := c) i = dS (F := F) c (i + 12) := by
  have e := hSem_eq ⟨i, h⟩
  have : hSemI i = hSem i h := by unfold hSemI; congr 1; exact Nat.mod_eq_of_lt h
  unfold hS dS; rw [this, e]
theorem iS_eq (c : Dev nD) (i : ℕ) (h : i < 5) : iS (F := F) (c := c) i h = dS (F := F) c (i + 40) := by
  unfold iS dS; rw [iSem_eq ⟨i, h⟩]
theorem oS_eq (c : Dev nD) (i : ℕ) (h : i < 7) : oS (F := F) (c := c) i h = dS (F := F) c (i + 45) := by
  unfold oS dS; rw [oSem_eq ⟨i, h⟩]
theorem Sq_mv (f g : ℕ → sProp 𝕄) (a d n : ℕ) (h : ∀ i, i < n → f (i + a) ⊢ g (i + d)) : Sq f a n ⊢ Sq g d n := by
  have key : ∀ k j, j + k = n → Sq f (a + j) k ⊢ Sq g (d + j) k := by
    intro k
    induction k with
    | zero => intro j _; exact .rfl
    | succ k ih =>
      intro j e
      rw [Sq_cons, Sq_cons]
      refine BIClass.sep_mono ?_ (ih (j + 1) (by omega))
      have := h j (by omega); rwa [Nat.add_comm j a, Nat.add_comm j d] at this
  exact key n 0 (by omega)
theorem five (g : ℕ → sProp 𝕄) (a : ℕ) : Sq g a 5 ⊣⊢ iprop(g a ∗ g (a + 1) ∗ g (a + 2) ∗ g (a + 3) ∗ g (a + 4)) := by
  have q : Sq g a 5 = iprop(g a ∗ g (a + 1) ∗ g (a + 2) ∗ g (a + 3) ∗ g (a + 4) ∗ emp) := rfl
  rw [q]; constructor
  · iintro ⟨A0, A1, A2, A3, A4, -⟩
    isplitl [A0]
    · iexact A0
    isplitl [A1]
    · iexact A1
    isplitl [A2]
    · iexact A2
    isplitl [A3]
    · iexact A3
    iexact A4
  · iintro ⟨A0, A1, A2, A3, A4⟩
    isplitl [A0]
    · iexact A0
    isplitl [A1]
    · iexact A1
    isplitl [A2]
    · iexact A2
    isplitl [A3]
    · iexact A3
    isplitl [A4]
    · iexact A4
    iempintro
theorem seven (g : ℕ → sProp 𝕄) (a : ℕ) : Sq g a 7 ⊣⊢ iprop(g a ∗ g (a + 1) ∗ g (a + 2) ∗ g (a + 3) ∗ g (a + 4) ∗ g (a + 5) ∗ g (a + 6)) := by
  have q : Sq g a 7 = iprop(g a ∗ g (a + 1) ∗ g (a + 2) ∗ g (a + 3) ∗ g (a + 4) ∗ g (a + 5) ∗ g (a + 6) ∗ emp) := rfl
  rw [q]; constructor
  · iintro ⟨A0, A1, A2, A3, A4, A5, A6, -⟩
    isplitl [A0]
    · iexact A0
    isplitl [A1]
    · iexact A1
    isplitl [A2]
    · iexact A2
    isplitl [A3]
    · iexact A3
    isplitl [A4]
    · iexact A4
    isplitl [A5]
    · iexact A5
    iexact A6
  · iintro ⟨A0, A1, A2, A3, A4, A5, A6⟩
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    iempintro
theorem sems_eq (c : Dev nD) : (Pipeline.ownSems0 (Ix := Unit) (Name := ℕ) (U := Pipeline.UD sig nD τ) (Lvl := ℕ) (Val := Elt F) (τ := τ) osem0 c : sProp 𝕄) ⊣⊢ Sems (F := F) (c := c) := by
  have e : (Pipeline.ownSems0 (Ix := Unit) (Name := ℕ) (U := Pipeline.UD sig nD τ) (Lvl := ℕ) (Val := Elt F) (τ := τ) osem0 c : sProp 𝕄) = bigSep Finset.univ (fun t : Fin 52 => dS (F := F) c t.val) := by
    unfold Pipeline.ownSems0
    refine congrArg (bigSep Finset.univ) (funext fun t => ?_)
    unfold dS; rw [show (⟨t.val % 52, Nat.mod_lt _ (by decide)⟩ : Fin 52) = t from Fin.ext (Nat.mod_eq_of_lt t.2)]
  rw [e]
  have k0 := Sq_fin 52 (dS (F := F) c)
  have k1 := Sq_app (dS (F := F) c) 0 12 40
  have k2 := Sq_app (dS (F := F) c) (0 + 12) 28 12
  have k3 := Sq_app (dS (F := F) c) (0 + 12 + 28) 5 7
  have w1 : Sq (dS (F := F) c) 0 12 ⊢ Sq (wS (F := F) (c := c)) 0 12 := Sq_in 0 12 fun i _ h => by rw [wS_eq c i (by omega)]
  have w2 : Sq (wS (F := F) (c := c)) 0 12 ⊢ Sq (dS (F := F) c) 0 12 := Sq_in 0 12 fun i _ h => by rw [wS_eq c i (by omega)]
  have h1 : Sq (dS (F := F) c) (0 + 12) 28 ⊢ Sq (hS (F := F) (c := c)) 0 28 := Sq_mv _ _ (0 + 12) 0 28 fun i h => by
    show dS (F := F) c (i + 12) ⊢ hS (F := F) (c := c) i
    rw [hS_eq c i h]
  have h2 : Sq (hS (F := F) (c := c)) 0 28 ⊢ Sq (dS (F := F) c) (0 + 12) 28 := Sq_mv _ _ 0 (0 + 12) 28 fun i h => by
    show hS (F := F) (c := c) i ⊢ dS (F := F) c (i + 12)
    rw [hS_eq c i h]
  have f5 := five (dS (F := F) c) (0 + 12 + 28)
  have f7 := seven (dS (F := F) c) (0 + 12 + 28 + 5)
  unfold Sems
  rw [iS_eq c 0, iS_eq c 1, iS_eq c 2, iS_eq c 3, iS_eq c 4, oS_eq c 0, oS_eq c 1, oS_eq c 2, oS_eq c 3, oS_eq c 4, oS_eq c 5, oS_eq c 6]
  constructor
  · refine k0.1.trans (k1.2.trans (BIClass.sep_mono w1 (k2.2.trans (BIClass.sep_mono h1 (k3.2.trans (BIClass.sep_mono f5.1 f7.1))))))
  · refine .trans (BIClass.sep_mono w2 (.trans (BIClass.sep_mono h2 (.trans (BIClass.sep_mono f5.2 f7.2) k3.1)) k2.1)) (k1.1.trans k0.2)

/-- Values of which nothing is said beyond the arguments' contents. -/
def triv (c : Dev nD) : Vals F c where
  w2 := Gen.V m c main_arg2
  w6 := Gen.V m c main_arg6
  s3 := iblk m c 0 t0_0
  s7 := iblk m c 1 t0_0
  h0 := Gen.V m c main_v11
  hs1 := Gen.V m c main_v12
  res4 := Gen.V m c main_v13
  nw5 := Gen.V m c main_v14
  pos8 := Gen.V m c main_arg8
  fr9 := Gen.V m c main_v15
  HW := fun _ _ => True
  SC := fun _ _ _ _ _ _ => True
  BK := fun _ _ _ _ _ _ => True
  Tl := fun _ _ _ => True
  LH := fun _ _ => True
  Acc := fun _ _ _ => True
  HH := fun _ _ => True
  HS := fun _ => True
  HR := fun _ _ => True
  HL := fun _ _ => True
  HRes := fun _ => True
  HRt := fun _ _ => True
  RO := fun _ _ => True
  hwA := fun _ _ _ => trivial
  hwB := fun _ _ _ => trivial
  hwC := fun _ _ _ => trivial
  scA := fun _ _ _ _ _ _ _ => trivial
  scB := fun _ _ _ _ _ _ _ _ => trivial
  scC := fun _ _ _ _ _ _ _ => trivial
  bk := fun _ _ _ _ _ _ _ _ _ _ => trivial
  tl := fun _ _ _ _ _ _ _ _ _ _ _ => trivial
  acc0 := fun _ _ _ _ _ _ _ => trivial
  accS := fun _ _ _ _ _ _ _ _ _ => trivial
  lhD := fun _ _ _ _ _ _ _ => ⟨trivial, trivial⟩
  lhC := fun _ _ _ => trivial
  hh := fun _ _ _ => trivial
  hsL := fun _ => trivial
  hr0 := fun _ _ _ => trivial
  hrS := fun _ _ _ _ => trivial
  hl := by unfold Vals0.hl'; intros; trivial
  hl0 := fun _ => trivial
  resL := fun _ => trivial
  rt := by unfold Vals0.rt'; intros; trivial
  ro := fun _ _ _ _ => trivial

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
  Φ _ := Pipeline.ΦDR osem0 spec0 H0 R0 (Gen.V m) c
  q _ := fullShare
  owed _ := 0
theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem point_eq (t : Fin cfg0.N) : t = t0_0 := fin_N0 t
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t))
theorem own0 (c : Dev nD) (t : Fin cfg0.N) (d) : (owns (c : Thread nD τ) (win0_0.stage (cfg0.slots t 0)) fullShare d : sProp 𝕄) = ((b3.view.loc (c : Thread nD τ)) ↦[Finset.univ]{fullShare} d) :=
  owns_whole _ _ _ _
theorem own1 (c : Dev nD) (t : Fin cfg0.N) (d) : (owns (c : Thread nD τ) (win0_1.stage (cfg0.slots t 1)) fullShare d : sProp 𝕄) = ((b7.view.loc (c : Thread nD τ)) ↦[Finset.univ]{fullShare} d) :=
  owns_whole _ _ _ _
theorem stg0 (c : Dev nD) (t : Fin cfg0.N) (d) : (owns (c : Thread nD τ) (win0_0.stage (cfg0.slots t 0)) fullShare ((dats m 0 c).before 0 t d) : sProp 𝕄) ⊢ ((b3.view.loc (c : Thread nD τ)) ↦[Finset.univ]{fullShare} (iblk m c 0 t0_0)) := by
  rw [before_0, own0, point_eq t]
theorem stg1 (c : Dev nD) (t : Fin cfg0.N) (d) : (owns (c : Thread nD τ) (win0_1.stage (cfg0.slots t 1)) fullShare ((dats m 0 c).before 1 t d) : sProp 𝕄) ⊢ ((b7.view.loc (c : Thread nD τ)) ↦[Finset.univ]{fullShare} (iblk m c 1 t0_0)) := by
  rw [before_1, own1, point_eq t]
theorem any {c : Dev nD} {sp : Space} {s : Shape} {e : EltTy} {b : Memref sig .tc sp s e} : iprop(∃ f, (b.view.loc (c : Thread nD τ) ↦[Finset.univ]{fullShare} f)) ⊢ Any (F := F) c b Finset.univ := by
  unfold Any Own
  iintro ⟨%f, H⟩; iexists f; isplitr; · ipureintro; trivial
  iexact H
theorem some' {c : Dev nD} {sp : Space} {s : Shape} {e : EltTy} {b : Memref sig .tc sp s e} {P} : Own (F := F) c b Finset.univ fullShare P ⊢ iprop(∃ f, (b.view.loc (c : Thread nD τ) ↦[Finset.univ]{fullShare} f)) := by
  unfold Own
  iintro ⟨%f, -, H⟩; iexists f; iexact H
theorem isV {c : Dev nD} {sp : Space} {s : Shape} {e : EltTy} {b : Memref sig .tc sp s e} {v} : (b.view.loc (c : Thread nD τ) ↦[Finset.univ]{fullShare} v : sProp 𝕄) ⊣⊢ Own (F := F) c b Finset.univ fullShare (fun f => f = v) := by
  unfold Own; constructor
  · iintro H; iexists v; isplitr; · ipureintro; rfl
    iexact H
  · iintro ⟨%f, %h, H⟩; subst h; iexact H

abbrev MidF (c : Dev nD) : sProp 𝕄 := iprop((((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) ∗ (∃ r, prngReg c r)
          ∗ Pipeline.ownSems0 (Ix := Unit) (Name := ℕ) (U := Pipeline.UD sig nD τ) (Lvl := ℕ) (Val := Elt F) (τ := τ) osem0 c
          ∗ (((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15))
          ∗ (∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) ∗ Owes (F := F) c ∗ ((b3.view.loc (c : Thread nD τ)) ↦[Finset.univ]{fullShare} (iblk m c 0 t0_0)) ∗ ((b7.view.loc (c : Thread nD τ)) ↦[Finset.univ]{fullShare} (iblk m c 1 t0_0)))
set_option maxHeartbeats 1000000 in
theorem mid_in (c : Dev nD) : MidF m c ⊢ iprop(All (triv m c) (R10 (F := F) (c := c)) ∗ ∃ r, prngReg c r) := by
  unfold MidF
  iintro ⟨⟨⟨S16, S17, S18, S19, S20, S21, S22, S23, S24, S25, S26, S27, S28, S29, S30, S31, S32, S33⟩, Hg, HS, ⟨A0, A1, A2, A4, A5, A6, A8, A9⟩, B10, B11, B12, B13, B14, B15⟩, HO, A3, A7⟩
  isplitl [HO HS A0 A1 A2 A3 A4 A5 A6 A7 A8 A9 B10 B11 B12 B13 B14 B15 S16 S17 S18 S19 S20 S21 S22 S23 S24 S25 S26 S27 S28 S29 S30 S31 S32 S33]
  · isplitl [HO]
    · iexact HO
    isplitl [HS]
    · iapply (sems_eq c).1; iexact HS
    isplitl [A0 A1 A2 A3 A4 A5 A6 A7 A8 A9]
    · isplitl [A0]
      · iexact A0
      isplitl [A1]
      · iapply (isV (b := b1)).1; iexact A1
      isplitl [A2]
      · iexact A2
      isplitl [A3]
      · iapply (isV (b := b3)).1; iexact A3
      isplitl [A4]
      · iapply (isV (b := b4)).1; iexact A4
      isplitl [A5]
      · iapply (isV (b := b5)).1; iexact A5
      isplitl [A6]
      · iexact A6
      isplitl [A7]
      · iapply (isV (b := b7)).1; iexact A7
      isplitl [A8]
      · iapply (isV (b := b8)).1; iexact A8
      iapply (isV (b := b9)).1; iexact A9
    isplitl [B10]
    · iapply any; iexact B10
    isplitl [B11 B12 B13 B14 B15]
    · isplitl [B11]
      · iapply any; iexact B11
      isplitl [B12]
      · iapply any; iexact B12
      isplitl [B13]
      · iapply any; iexact B13
      isplitl [B14]
      · iapply any; iexact B14
      iapply any; iexact B15
    isplitl [S16]
    · iapply any; iexact S16
    isplitl [S17]
    · iapply any; iexact S17
    isplitl [S18]
    · iapply any; iexact S18
    isplitl [S19]
    · iapply any; iexact S19
    isplitl [S20]
    · iapply any; iexact S20
    isplitl [S21]
    · iapply any; iexact S21
    isplitl [S22]
    · iapply any; iexact S22
    isplitl [S23]
    · iapply any; iexact S23
    isplitl [S24]
    · iapply any; iexact S24
    isplitl [S25]
    · iapply any; iexact S25
    isplitl [S26]
    · iapply any; iexact S26
    isplitl [S27]
    · iapply any; iexact S27
    isplitl [S28]
    · iapply any; iexact S28
    isplitl [S29]
    · iapply any; iexact S29
    isplitl [S30]
    · iapply any; iexact S30
    isplitl [S31]
    · iapply any; iexact S31
    isplitl [S32]
    · iapply any; iexact S32
    iapply any; iexact S33
  iexact Hg
set_option maxHeartbeats 1000000 in
theorem mid_out (c : Dev nD) : iprop(All (triv m c) (ROW (triv m c)) ∗ ∃ r, prngReg c r) ⊢ MidF m c := by
  unfold All Args Outs Scr ROW
  iintro ⟨⟨HO, HS, ⟨A0, A1, A2, A3, A4, A5, A6, A7, A8, A9⟩, B10, ⟨B11, B12, B13, B14, B15⟩, S16, S17, S18, S19, S20, S21, S22, S23, S24, S25, S26, S27, S28, S29, S30, S31, S32, S33⟩, Hg⟩
  isplitl [S16 S17 S18 S19 S20 S21 S22 S23 S24 S25 S26 S27 S28 S29 S30 S31 S32 S33 Hg HS A0 A1 A2 A4 A5 A6 A8 A9 B10 B11 B12 B13 B14 B15]
  · isplitl [S16 S17 S18 S19 S20 S21 S22 S23 S24 S25 S26 S27 S28 S29 S30 S31 S32 S33]
    · isplitl [S16]
      · iapply (some' (b := b16)); iexact S16
      isplitl [S17]
      · iapply (some' (b := b17)); iexact S17
      isplitl [S18]
      · iapply (some' (b := b18)); iexact S18
      isplitl [S19]
      · iapply (some' (b := b19)); iexact S19
      isplitl [S20]
      · iapply (some' (b := b20)); iexact S20
      isplitl [S21]
      · iapply (some' (b := b21)); iexact S21
      isplitl [S22]
      · iapply (some' (b := b22)); iexact S22
      isplitl [S23]
      · iapply (some' (b := b23)); iexact S23
      isplitl [S24]
      · iapply (some' (b := b24)); iexact S24
      isplitl [S25]
      · iapply (some' (b := b25)); iexact S25
      isplitl [S26]
      · iapply (some' (b := b26)); iexact S26
      isplitl [S27]
      · iapply (some' (b := b27)); iexact S27
      isplitl [S28]
      · iapply (some' (b := b28)); iexact S28
      isplitl [S29]
      · iapply (some' (b := b29)); iexact S29
      isplitl [S30]
      · iapply (some' (b := b30)); iexact S30
      isplitl [S31]
      · iapply (some' (b := b31)); iexact S31
      isplitl [S32]
      · iapply (some' (b := b32)); iexact S32
      iapply (some' (b := b33)); iexact S33
    isplitl [Hg]
    · iexact Hg
    isplitl [HS]
    · iapply (sems_eq c).2; iexact HS
    isplitl [A0 A1 A2 A4 A5 A6 A8 A9]
    · isplitl [A0]
      · iexact A0
      isplitl [A1]
      · iapply (isV (b := b1)).2; iexact A1
      isplitl [A2]
      · iexact A2
      isplitl [A4]
      · iapply (isV (b := b4)).2; iexact A4
      isplitl [A5]
      · iapply (isV (b := b5)).2; iexact A5
      isplitl [A6]
      · iexact A6
      isplitl [A8]
      · iapply (isV (b := b8)).2; iexact A8
      iapply (isV (b := b9)).2; iexact A9
    isplitl [B10]
    · iapply (some' (b := b10)); iexact B10
    isplitl [B11]
    · iapply (some' (b := b11)); iexact B11
    isplitl [B12]
    · iapply (some' (b := b12)); iexact B12
    isplitl [B13]
    · iapply (some' (b := b13)); iexact B13
    isplitl [B14]
    · iapply (some' (b := b14)); iexact B14
    iapply (some' (b := b15)); iexact B15
  isplitl [HO]
  · iexact HO
  isplitl [A3]
  · iapply (isV (b := b3)).2; iexact A3
  iapply (isV (b := b7)).2; iexact A7
theorem body_mid (c : Dev nD) : T c (MidF m c) (Hand.body : PR F PUnit) (fun _ => MidF m c) := by
  have h := (T.all (V := triv m c)).frame iprop(∃ r, prngReg c r)
  unfold T at h ⊢
  exact (mid_in m c).trans (h.trans (wp_mono _ _ _ fun _ => mid_out m c))
theorem at_eq (t : Fin cfg0.N) : bodyAt0 (F := F) t = Hand.body := by
  unfold bodyAt0; exact entry_eq
theorem sound_body (c : Dev nD) (t : Fin cfg0.N) :
    bodyPre m c t ⊢ wp frame (wpE (defs₀ (F := F)) Variants.none c none) Set.univ (bodyAt0 t) (fun _ => bodyPost m c t) := by
  rw [at_eq]
  have h := body_mid m c
  unfold T at h
  have i : bodyPre m c t ⊢ MidF m c := by
    unfold bodyPre
    rw [show (dats m 0 c).Φ t.castSucc = Pipeline.ΦDR osem0 spec0 H0 R0 (Gen.V m) c from rfl, PhiDR0_eq]
    unfold Dat.owesAt Pipeline.owesWithin
    rw [show (dats m 0 c).owed t.castSucc = 0 from rfl]
    iintro ⟨HΦ, ⟨%W, -, HW⟩, ⟨%d, H0⟩, ⟨%d', H1⟩⟩
    unfold MidF Owes
    isplitl [HΦ]; · iexact HΦ
    isplitl [HW]
    · iexists W; iexact HW
    isplitl [H0]
    · iapply (stg0 m c t d); iexact H0
    iapply (stg1 m c t d'); iexact H1
  have o : MidF m c ⊢ bodyPost m c t := by
    unfold bodyPost
    rw [show (dats m 0 c).Φ t.succ = Pipeline.ΦDR osem0 spec0 H0 R0 (Gen.V m) c from rfl, PhiDR0_eq]
    unfold Dat.owesAt Pipeline.owesWithin
    rw [show (dats m 0 c).owed t.succ = 0 from rfl]
    rw [after_0, after_1, own0, own1, point_eq t]
    unfold MidF Owes
    iintro ⟨HΦ, ⟨%W, HW⟩, H0, H1⟩
    isplitl [HΦ]; · iexact HΦ
    isplitl [HW]
    · iexists W; isplitr; · ipureintro; exact fun _ _ => Or.inl trivial
      iexact HW
    isplitl [H0]; · iexact H0
    iexact H1
  exact i.trans (h.trans (wp_mono _ _ _ fun _ => o))
theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main : θ_run defs (onTc (τ := τ) (main (F := F))) (s₀ m ρ) (fun r => Pipeline.FramePostR cfgs (dats m) 0 R0 (Gen.V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmainD m Variants.none) (hA := A_eq m)
    (hin := fun _ => .rfl) (hout := fun _ => .rfl)
/-- The kernel terminates without a fault, leaves every argument as it was and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_ofD m ρ (dats m) (A_eq m) (run_main m ρ)

end Cert.Kernel.Hand
-- ==== Proof.IBody.lean ====
module

public import proofs.«01_k».proof.Proof.Gen.KernelIdeal

/-! The kernel's body as a short structured program over its concrete buffers: the pieces every
chunk repeats (start and await a weight block's copy, load and scale a weight tile, push it,
accumulate the activations against the tile held) and the chunks and stages made of them. -/

@[expose] public section
noncomputable section

namespace Cert.KernelIdeal.Hand
open Idealize.ShloMosaic Idealize.ShloMosaic.TcCoe
open Idealize.SL Idealize.SL.Sem
open Cert.KernelIdeal
open K0.Facts₀ Shapes1.Facts₀

open TcCoe
variable {F : FTy → Type} [FloatOps F]

abbrev W := BitVec 32
/-- The kernel's programs. -/
abbrev PR (F : FTy → Type) (α : Type) := Prog (TpuEff nD τ sig (Elt F) Λ₀ .tc) α

/-! ### The buffers -/
abbrev b0 : Memref sig .tc .hbm S256x14336 .fp8e4m3 := Memref.whole main_v11
abbrev b1 : Memref sig .tc .hbm S256x112 .f32 := Memref.whole main_v12
abbrev b2 : Memref sig .tc .hbm S14336x3584 .fp8e4m3 := Memref.whole main_arg2
abbrev b3 : Memref sig .tc .smem S112x28 .f32 := Memref.whole cc0_stg0_0
abbrev b4 : Memref sig .tc .hbm S256x3584 .bf16 := Memref.whole main_v13
abbrev b5 : Memref sig .tc .hbm S28x128 .f32 := Memref.whole main_v14
abbrev b6 : Memref sig .tc .hbm S3584x8192 .fp8e4m3 := Memref.whole main_arg6
abbrev b7 : Memref sig .tc .smem S28x64 .f32 := Memref.whole cc0_stg1_0
abbrev b8 : Memref sig .tc .hbm S2x128 .i32 := Memref.whole main_arg8
abbrev b9 : Memref sig .tc .hbm S1x128 .f32 := Memref.whole main_v15
abbrev b10 : Memref sig .tc .hbm S256x3584 .bf16 := Memref.whole main_v16_0
abbrev b11 : Memref sig .tc .hbm S256x16x256 .bf16 := Memref.whole main_v16_1
abbrev b12 : Memref sig .tc .hbm S256x8x256 .bf16 := Memref.whole main_v16_2
abbrev b13 : Memref sig .tc .hbm S256x8x256 .bf16 := Memref.whole main_v16_3
abbrev b14 : Memref sig .tc .hbm S256x3584 .fp8e4m3 := Memref.whole main_v16_4
abbrev b15 : Memref sig .tc .hbm S256x28 .f32 := Memref.whole main_v16_5
abbrev b16 : Memref sig .tc .vmem S12x512x2048 .fp8e4m3 := Memref.whole cc0_scratch0
abbrev b17 : Memref sig .tc .vmem S28x256x512 .fp8e4m3 := Memref.whole cc0_scratch1
abbrev b18 : Memref sig .tc .vmem S256x112 .f32 := Memref.whole cc0_scratch2
abbrev b19 : Memref sig .tc .vmem S256x128 .f32 := Memref.whole cc0_scratch3
abbrev b20 : Memref sig .tc .vmem S56x256x256 .bf16 := Memref.whole cc0_scratch4
abbrev b21 : Memref sig .tc .vmem S256x3584 .bf16 := Memref.whole cc0_scratch5
abbrev b22 : Memref sig .tc .vmem S28x128 .f32 := Memref.whole cc0_scratch6
abbrev b23 : Memref sig .tc .vmem S2x128 .i32 := Memref.whole cc0_scratch7
abbrev b24 : Memref sig .tc .vmem S1x128 .f32 := Memref.whole cc0_scratch8
abbrev b25 : Memref sig .tc .vmem S14x256x256 .bf16 := Memref.whole cc0_scratch9
abbrev b26 : Memref sig .tc .vmem S256x128 .f32 := Memref.whole cc0_scratch10
abbrev b27 : Memref sig .tc .vmem S256x128 .f32 := Memref.whole cc0_scratch11
abbrev b28 : Memref sig .tc .vmem S14x256x256 .fp8e4m3 := Memref.whole cc0_scratch12
abbrev b29 : Memref sig .tc .vmem S14x256x256 .bf16 := Memref.whole cc0_scratch13
abbrev b30 : Memref sig .tc .vmem S256x28 .f32 := Memref.whole cc0_scratch14
abbrev b31 : Memref sig .tc .vmem S256x128 .f32 := Memref.whole cc0_scratch15
abbrev b32 : Memref sig .tc .vmem S256x128 .f32 := Memref.whole cc0_scratch16
abbrev b33 : Memref sig .tc .vmem S4x2x256x8x128 .bf16 := Memref.whole cc0_scratch17

/-! ### Facts about the words -/
theorem allWords (N : ℕ) (P : W → Prop) (h : ∀ n : Fin N, P (BitVec.ofNat 32 n)) {x : W}
    (hx : x.toNat < N) : P x := by
  have := h ⟨x.toNat, hx⟩; simpa using this

abbrev rem12 (x : W) : ℕ := (Scalar.remsi x 12#32).toNat
theorem rem12_lt {x : W} (hx : x.toNat < 84) : rem12 x < 12 :=
  allWords 84 (fun x => rem12 x < 12) (by decide +kernel) hx

/-- The first weight row of a block of the first product's first pass. -/
abbrev rowA (x : W) : ℕ := (Scalar.muli x 512#32).toNat
abbrev rowB (x : W) : ℕ := (Scalar.muli (Scalar.subi x 28#32) 512#32).toNat
abbrev rowC (x : W) : ℕ := (Scalar.muli (Scalar.remsi (Scalar.subi x 56#32) 7#32) 512#32).toNat
abbrev colC (x : W) : ℕ := (Scalar.muli (Scalar.divsi (Scalar.subi x 56#32) 7#32) 2048#32).toNat

/-- The range of chunk numbers of each of the three passes. -/
def K0 (x : W) : Prop := x.toNat < 28
def K1 (x : W) : Prop := 28 ≤ x.toNat ∧ x.toNat < 56
def K2 (x : W) : Prop := 56 ≤ x.toNat ∧ x.toNat < 84
theorem K0.lt {x : W} (h : K0 x) : x.toNat < 84 := by unfold K0 at h; omega
theorem K1.lt {x : W} (h : K1 x) : x.toNat < 84 := by unfold K1 at h; omega
theorem K2.lt {x : W} (h : K2 x) : x.toNat < 84 := h.2

theorem inbCell {s : ℕ} (h : s < 12) : ∀ a, (![s] : Fin 1 → ℕ) a + S1.size a ≤ S12.size a := by
  intro a; fin_cases a; show s + 1 ≤ 12; omega
theorem inbSlot {s : ℕ} (h : s < 12) :
    ∀ a, (![s, 0, 0] : Fin 3 → ℕ) a + S1x512x2048.size a ≤ S12x512x2048.size a := by
  intro a; fin_cases a
  · show s + 1 ≤ 12; omega
  · show 0 + 512 ≤ 512; omega
  · show 0 + 2048 ≤ 2048; omega
theorem inbSlot1 {s : ℕ} (h : s < 12) :
    ∀ a, (![s, 0, 0] : Fin 3 → ℕ) a + S1x512x1536.size a ≤ S12x512x2048.size a := by
  intro a; fin_cases a
  · show s + 1 ≤ 12; omega
  · show 0 + 512 ≤ 512; omega
  · show 0 + 1536 ≤ 2048; omega
theorem wwSlot {s : ℕ} (h : s < 12) :
    (Rect.unit (s := S12x512x2048) ![s, 0, 0] S1x512x2048.size (inbSlot h)).WholeWords (EltTy.packing .fp8e4m3) := by
  have : ∀ n : Fin 12, (Rect.unit (s := S12x512x2048) ![n.val, 0, 0] S1x512x2048.size (inbSlot n.2)).WholeWords (EltTy.packing .fp8e4m3) := by decide +kernel
  exact this ⟨s, h⟩
theorem wwSlot1 {s : ℕ} (h : s < 12) :
    (Rect.unit (s := S12x512x2048) ![s, 0, 0] S1x512x1536.size (inbSlot1 h)).WholeWords (EltTy.packing .fp8e4m3) := by
  have : ∀ n : Fin 12, (Rect.unit (s := S12x512x2048) ![n.val, 0, 0] S1x512x1536.size (inbSlot1 n.2)).WholeWords (EltTy.packing .fp8e4m3) := by decide +kernel
  exact this ⟨s, h⟩

theorem rowA_eq {x : W} (h : K0 x) : rowA x = 512 * x.toNat :=
  allWords 28 (fun x => rowA x = 512 * x.toNat) (by decide +kernel) h
theorem rowB_eq {x : W} (h : K1 x) : rowB x = 512 * (x.toNat - 28) :=
  allWords 56 (fun x => 28 ≤ x.toNat → rowB x = 512 * (x.toNat - 28)) (by decide +kernel) h.2 h.1
theorem rowC_eq {x : W} (h : K2 x) : rowC x = 512 * ((x.toNat - 56) % 7) :=
  allWords 84 (fun x => 56 ≤ x.toNat → rowC x = 512 * ((x.toNat - 56) % 7)) (by decide +kernel) h.2 h.1
theorem colC_eq {x : W} (h : K2 x) : colC x = 2048 * ((x.toNat - 56) / 7) :=
  allWords 84 (fun x => 56 ≤ x.toNat → colC x = 2048 * ((x.toNat - 56) / 7)) (by decide +kernel) h.2 h.1

theorem inbA {x : W} (h : K0 x) :
    ∀ a, (![rowA x, 0] : Fin 2 → ℕ) a + S512x2048.size a ≤ S14336x3584.size a := by
  have e := rowA_eq h; have := h; unfold K0 at this
  intro a; fin_cases a
  · show rowA x + 512 ≤ 14336; omega
  · show 0 + 2048 ≤ 3584; omega
theorem inbB {x : W} (h : K1 x) :
    ∀ a, (![rowB x, 2048] : Fin 2 → ℕ) a + S512x1536.size a ≤ S14336x3584.size a := by
  have e := rowB_eq h; have := h.1; have := h.2
  intro a; fin_cases a
  · show rowB x + 512 ≤ 14336; omega
  · show 2048 + 1536 ≤ 3584; omega
theorem inbC {x : W} (h : K2 x) :
    ∀ a, (![rowC x, colC x] : Fin 2 → ℕ) a + S512x2048.size a ≤ S3584x8192.size a := by
  have e := rowC_eq h; have e' := colC_eq h; have := h.1; have := h.2
  intro a; fin_cases a
  · show rowC x + 512 ≤ 3584; omega
  · show colC x + 2048 ≤ 8192; omega
theorem wwA {x : W} (h : K0 x) :
    (Rect.unit (s := S14336x3584) ![rowA x, 0] S512x2048.size (inbA h)).WholeWords (EltTy.packing .fp8e4m3) := by
  have := allWords 28 (fun x => ∀ h : K0 x, (Rect.unit (s := S14336x3584) ![rowA x, 0] S512x2048.size (inbA h)).WholeWords (EltTy.packing .fp8e4m3))
    (by
      have : ∀ n : Fin 28, ∀ hh, (Rect.unit (s := S14336x3584) ![rowA (BitVec.ofNat 32 n), 0] S512x2048.size hh).WholeWords (EltTy.packing .fp8e4m3) := by decide +kernel
      exact fun n h => this n _) h
  exact this h
theorem wwB {x : W} (h : K1 x) :
    (Rect.unit (s := S14336x3584) ![rowB x, 2048] S512x1536.size (inbB h)).WholeWords (EltTy.packing .fp8e4m3) := by
  have := allWords 56 (fun x => ∀ h : K1 x, (Rect.unit (s := S14336x3584) ![rowB x, 2048] S512x1536.size (inbB h)).WholeWords (EltTy.packing .fp8e4m3))
    (by
      have : ∀ n : Fin 56, ∀ hh, (Rect.unit (s := S14336x3584) ![rowB (BitVec.ofNat 32 n), 2048] S512x1536.size hh).WholeWords (EltTy.packing .fp8e4m3) := by decide +kernel
      exact fun n h => this n _) h.2
  exact this h
theorem wwC {x : W} (h : K2 x) :
    (Rect.unit (s := S3584x8192) ![rowC x, colC x] S512x2048.size (inbC h)).WholeWords (EltTy.packing .fp8e4m3) := by
  have := allWords 84 (fun x => ∀ h : K2 x, (Rect.unit (s := S3584x8192) ![rowC x, colC x] S512x2048.size (inbC h)).WholeWords (EltTy.packing .fp8e4m3))
    (by
      have : ∀ n : Fin 84, ∀ hh, (Rect.unit (s := S3584x8192) ![rowC (BitVec.ofNat 32 n), colC (BitVec.ofNat 32 n)] S512x2048.size hh).WholeWords (EltTy.packing .fp8e4m3) := by decide +kernel
      exact fun n h => this n _) h.2
  exact this h

/-! ### The copies of the weight blocks -/

/-- The semaphore cell of slot `s` of the ring. -/
def wSem (s : ℕ) (h : s < 12) : DmaSem sig :=
  ((cc0_scratch18.slice (Rect.unit (s := S12) ![s] S1.size (inbCell h))).squeeze S_ squeezes_S1_S_).sem
/-- Slot `s` of the ring, whole and by its first 1536 columns. -/
def slotV (s : ℕ) (h : s < 12) : Memref sig .tc .vmem S512x2048 .fp8e4m3 :=
  (b16.slice (Rect.unit (s := S12x512x2048) ![s, 0, 0] S1x512x2048.size (inbSlot h)) (fun _ => rfl)).squeeze S512x2048 squeezes_S1x512x2048_S512x2048
def slotV1 (s : ℕ) (h : s < 12) : Memref sig .tc .vmem S512x1536 .fp8e4m3 :=
  (b16.slice (Rect.unit (s := S12x512x2048) ![s, 0, 0] S1x512x1536.size (inbSlot1 h)) (fun _ => rfl)).squeeze S512x1536 squeezes_S1x512x1536_S512x1536
theorem weSlot (s : ℕ) (h : s < 12) : (slotV s h).view.WordExact :=
  ((Memref.isWhole_whole _).wordExact_slice rfl _ (wwSlot h)).reshape _ _
theorem weSlot1 (s : ℕ) (h : s < 12) : (slotV1 s h).view.WordExact :=
  ((Memref.isWhole_whole _).wordExact_slice rfl _ (wwSlot1 h)).reshape _ _
/-- The weight blocks in HBM. -/
def blkA (x : W) (h : K0 x) : Memref sig .tc .hbm S512x2048 .fp8e4m3 :=
  b2.slice (Rect.unit (s := S14336x3584) ![rowA x, 0] S512x2048.size (inbA h)) (fun _ => rfl)
def blkB (x : W) (h : K1 x) : Memref sig .tc .hbm S512x1536 .fp8e4m3 :=
  b2.slice (Rect.unit (s := S14336x3584) ![rowB x, 2048] S512x1536.size (inbB h)) (fun _ => rfl)
def blkC (x : W) (h : K2 x) : Memref sig .tc .hbm S512x2048 .fp8e4m3 :=
  b6.slice (Rect.unit (s := S3584x8192) ![rowC x, colC x] S512x2048.size (inbC h)) (fun _ => rfl)
theorem weA (x : W) (h : K0 x) : (blkA x h).view.WordExact := (Memref.isWhole_whole _).wordExact_slice rfl _ (wwA h)
theorem weB (x : W) (h : K1 x) : (blkB x h).view.WordExact := (Memref.isWhole_whole _).wordExact_slice rfl _ (wwB h)
theorem weC (x : W) (h : K2 x) : (blkC x h).view.WordExact := (Memref.isWhole_whole _).wordExact_slice rfl _ (wwC h)

def startA (x : W) (h : K0 x) : PR F PUnit :=
  Prog.lift (.enqueueDma (blkA x h) (.here (slotV (rem12 x) (rem12_lt h.lt))) (.dma (wSem (rem12 x) (rem12_lt h.lt))) (weA x h) (weSlot (rem12 x) (rem12_lt h.lt)) ⟨Or.inl rfl, trivial⟩)
def startB (x : W) (h : K1 x) : PR F PUnit :=
  Prog.lift (.enqueueDma (blkB x h) (.here (slotV1 (rem12 x) (rem12_lt h.lt))) (.dma (wSem (rem12 x) (rem12_lt h.lt))) (weB x h) (weSlot1 (rem12 x) (rem12_lt h.lt)) ⟨Or.inl rfl, trivial⟩)
def startC (x : W) (h : K2 x) : PR F PUnit :=
  Prog.lift (.enqueueDma (blkC x h) (.here (slotV (rem12 x) (rem12_lt h.lt))) (.dma (wSem (rem12 x) (rem12_lt h.lt))) (weC x h) (weSlot (rem12 x) (rem12_lt h.lt)) ⟨Or.inl rfl, trivial⟩)
def waitA (x : W) (h : K0 x) : PR F PUnit :=
  Prog.lift (.waitDma2 (wSem (rem12 x) (rem12_lt h.lt)) (blkA x h) (slotV (rem12 x) (rem12_lt h.lt)) (weA x h) (weSlot (rem12 x) (rem12_lt h.lt)))
def waitB (x : W) (h : K1 x) : PR F PUnit :=
  Prog.lift (.waitDma2 (wSem (rem12 x) (rem12_lt h.lt)) (blkB x h) (slotV1 (rem12 x) (rem12_lt h.lt)) (weB x h) (weSlot1 (rem12 x) (rem12_lt h.lt)))
def waitC (x : W) (h : K2 x) : PR F PUnit :=
  Prog.lift (.waitDma2 (wSem (rem12 x) (rem12_lt h.lt)) (blkC x h) (slotV (rem12 x) (rem12_lt h.lt)) (weC x h) (weSlot (rem12 x) (rem12_lt h.lt)))

abbrev cnd0 (x : W) : BitVec 1 := Scalar.cmpi .ne (Scalar.extui (Scalar.cmpi .slt x 28#32)) 0#32
abbrev cnd1 (x : W) : BitVec 1 :=
  Scalar.cmpi .ne (Scalar.extui (Scalar.andi (Scalar.cmpi .sge x 28#32) (Scalar.cmpi .slt x 56#32))) 0#32
abbrev cnd2 (x : W) : BitVec 1 :=
  Scalar.cmpi .ne (Scalar.extui (Scalar.andi (Scalar.cmpi .sge x 56#32) (Scalar.cmpi .slt x 84#32))) 0#32
theorem cnd0_iff {x : W} (hx : x.toNat < 96) : cnd0 x = 1#1 ↔ K0 x :=
  allWords 96 (fun x => cnd0 x = 1#1 ↔ x.toNat < 28) (by decide +kernel) hx
theorem cnd1_iff {x : W} (hx : x.toNat < 96) : cnd1 x = 1#1 ↔ K1 x :=
  allWords 96 (fun x => cnd1 x = 1#1 ↔ 28 ≤ x.toNat ∧ x.toNat < 56) (by decide +kernel) hx
theorem cnd2_iff {x : W} (hx : x.toNat < 96) : cnd2 x = 1#1 ↔ K2 x :=
  allWords 96 (fun x => cnd2 x = 1#1 ↔ 56 ≤ x.toNat ∧ x.toNat < 84) (by decide +kernel) hx

/-- Start the copy of block `x` if it belongs to the first, the second, the third pass. -/
def startW0 (x : W) (hx : x.toNat < 96) : PR F PUnit := do
  if h : cnd0 x = 1#1 then do startA x ((cnd0_iff hx).1 h); pure ⟨⟩ else do pure ⟨⟩
  pure ⟨⟩
def startW1 (x : W) (hx : x.toNat < 96) : PR F PUnit := do
  if h : cnd1 x = 1#1 then do startB x ((cnd1_iff hx).1 h); pure ⟨⟩ else do pure ⟨⟩
  pure ⟨⟩
def startW2 (x : W) (hx : x.toNat < 96) : PR F PUnit := do
  if h : cnd2 x = 1#1 then do startC x ((cnd2_iff hx).1 h); pure ⟨⟩ else do pure ⟨⟩
  pure ⟨⟩
/-- The copy of block `x` started, whichever pass it belongs to (none past the last), then `k`. -/
def startW {α : Type} (x : W) (hx : x.toNat < 96) (k : PR F α) : PR F α :=
  startW0 x hx >>= fun _ => startW1 x hx >>= fun _ => startW2 x hx >>= fun _ => k
theorem startW_bind {α β : Type} (x : W) (hx : x.toNat < 96) (k : PR F α) (f : α → PR F β) :
    startW x hx k >>= f = startW x hx (k >>= f) := by
  simp only [startW, bind_assoc]

/-! ### Tiles of weights -/
theorem inbTile {s r c : ℕ} (h : s < 12) (hr : r + 128 ≤ 512) (hc : c + 128 ≤ 2048) :
    ∀ a, (![s, r, c] : Fin 3 → ℕ) a + S1x128x128.size a ≤ S12x512x2048.size a := by
  intro a; fin_cases a
  · show s + 1 ≤ 12; omega
  · show r + 128 ≤ 512; omega
  · show c + 128 ≤ 2048; omega
/-- A 128×128 block of codes of slot `s`. -/
def ringLoad (s : ℕ) (h : s < 12) (r c : ℕ) (hr : r + 128 ≤ 512) (hc : c + 128 ≤ 2048) : PR F (Vec F S1x128x128 .fp8e4m3) :=
  Prog.lift (.load b16 (Rect.unit (s := S12x512x2048) ![s, r, c] S1x128x128.size (inbTile h hr hc)).toLoadRect (View.loadsAt_vmem h_S1x128x128))

/-- The scaled block. -/
def scaled (v : Vec F S1x128x128 .fp8e4m3) (s : Elt F .f32) : FVec F S128x128 .bf16 :=
  mulf (extf .bf16 (shapeCast S128x128 v shapeCasts_S1x128x128_S128x128) bitsLt_fp8e4m3_bf16)
    (truncf .bf16 (broadcast S128x128 s) bitsLt_bf16_f32)
/-- Four scaled blocks as one 256×256 tile. -/
def quad (v00 v01 v10 v11 : FVec F S128x128 .bf16) : FVec F S256x256 .bf16 :=
  concatenate S256x256 0
    [⟨S128x256, concatenate S128x256 1 [⟨S128x128, v00⟩, ⟨S128x128, v01⟩] concatenates_S128x128_S128x128_S128x256_d1⟩,
     ⟨S128x256, concatenate S128x256 1 [⟨S128x128, v10⟩, ⟨S128x128, v11⟩] concatenates_S128x128_S128x128_S128x256_d1⟩]
    concatenates_S128x256_S128x256_S256x256_d0

/-- Where a chunk's weights lie: its slot of the ring, and how its scales are read. -/
structure Src (F : FTy → Type) where
  slot : ℕ
  hs : slot < 12
  /-- the scale at row block `2 kt + a` and column block `2 t + b` of the chunk -/
  sc : (kt a : Fin 2) → (t : Fin 8) → (b : Fin 2) → PR F (Elt F .f32)

theorem krow (kt a : Fin 2) : (256 * kt.val + 128 * a.val) + 128 ≤ 512 := by omega
theorem tcol (t : Fin 8) (b : Fin 2) : (256 * t.val + 128 * b.val) + 128 ≤ 2048 := by omega

def blk (S : Src F) (kt : Fin 2) (t : Fin 8) (a b : Fin 2) : PR F (FVec F S128x128 .bf16) := do
  let v ← ringLoad S.slot S.hs (256 * kt.val + 128 * a.val) (256 * t.val + 128 * b.val) (krow kt a) (tcol t b)
  let s ← S.sc kt a t b
  pure (scaled v s)
def tile (S : Src F) (kt : Fin 2) (t : Fin 8) : PR F (FVec F S256x256 .bf16) := do
  let v00 ← blk S kt t 0 0
  let v01 ← blk S kt t 0 1
  let v10 ← blk S kt t 1 0
  let v11 ← blk S kt t 1 1
  pure (quad v00 v01 v10 v11)
def pushTile (S : Src F) (kt : Fin 2) (t : Fin 8) (q : Fin 2) (s : Mxu F) : PR F (Mxu F) := do
  let v ← tile S kt t
  s.pushRhs q 0 false v
/-- Column tiles `2 j` and `2 j + 1`, one into each unit. -/
def pushPair (S : Src F) (kt : Fin 2) (j : Fin 4) (s : Mxu F) : PR F (Mxu F) := do
  let s ← pushTile S kt ⟨2 * j.val, by omega⟩ 0 s
  pushTile S kt ⟨2 * j.val + 1, by omega⟩ 1 s

/-! The scale words of the three passes. -/
abbrev rs0 (x : W) (kt a : Fin 2) : ℕ :=
  (Scalar.addi (Scalar.addi (Scalar.muli (Scalar.muli x 2#32) 2#32) (BitVec.ofNat 32 (2 * kt.val))) (BitVec.ofNat 32 a.val)).toNat
theorem rs0_eq {x : W} (h : x.toNat < 28) (kt a : Fin 2) : rs0 x kt a = 4 * x.toNat + 2 * kt.val + a.val :=
  allWords 28 (fun x => ∀ kt a : Fin 2, rs0 x kt a = 4 * x.toNat + 2 * kt.val + a.val) (by decide +kernel) h kt a
theorem inbS0 {x : W} (h : x.toNat < 28) (kt a : Fin 2) {c : ℕ} (hc : c < 28) :
    ∀ i, (![rs0 x kt a, c] : Fin 2 → ℕ) i + S1x1.size i ≤ S112x28.size i := by
  have := rs0_eq h kt a
  intro i; fin_cases i
  · show rs0 x kt a + 1 ≤ 112; omega
  · show c + 1 ≤ 28; omega
def scA (x : W) (h : x.toNat < 28) (c : Fin 8 → Fin 2 → ℕ) (hc : ∀ t b, c t b < 28) (kt a : Fin 2) (t : Fin 8) (b : Fin 2) : PR F (Elt F .f32) :=
  smemLoad b3 (Rect.unit (s := S112x28) ![rs0 x kt a, c t b] S1x1.size (inbS0 h kt a (hc t b))) numel1_S1x1 rfl
def srcA (x : W) (h : K0 x) : Src F where
  slot := rem12 x
  hs := rem12_lt h.lt
  sc := scA x h (fun t b => 2 * t.val + b.val) (fun t b => by omega)
theorem K1.sub {x : W} (h : K1 x) : (Scalar.subi x 28#32).toNat < 28 :=
  allWords 56 (fun x => 28 ≤ x.toNat → (Scalar.subi x 28#32).toNat < 28) (by decide +kernel) h.2 h.1
/-- The second pass has six column tiles; the last two of the eight are never asked for. -/
def srcB (x : W) (h : K1 x) : Src F where
  slot := rem12 x
  hs := rem12_lt h.lt
  sc := scA (Scalar.subi x 28#32) h.sub (fun t b => if t.val < 6 then 16 + (2 * t.val + b.val) else 0)
    (fun t b => by split <;> omega)

abbrev rs2 (x : W) (kt a : Fin 2) : ℕ := rs0 (Scalar.remsi (Scalar.subi x 56#32) 7#32) kt a
abbrev cs2 (x : W) (t : Fin 8) (b : Fin 2) : ℕ :=
  (Scalar.addi (Scalar.addi (Scalar.muli (Scalar.divsi (Scalar.subi x 56#32) 7#32) 16#32) (BitVec.ofNat 32 (2 * t.val))) (BitVec.ofNat 32 b.val)).toNat
theorem rs2_lt {x : W} (h : K2 x) (kt a : Fin 2) : rs2 x kt a < 28 :=
  allWords 84 (fun x => 56 ≤ x.toNat → ∀ kt a : Fin 2, rs2 x kt a < 28) (by decide +kernel) h.2 h.1 kt a
theorem cs2_lt {x : W} (h : K2 x) (t : Fin 8) (b : Fin 2) : cs2 x t b < 64 :=
  allWords 84 (fun x => 56 ≤ x.toNat → ∀ (t : Fin 8) (b : Fin 2), cs2 x t b < 64) (by decide +kernel) h.2 h.1 t b
theorem inbS2 {r c : ℕ} (hr : r < 28) (hc : c < 64) : ∀ i, (![r, c] : Fin 2 → ℕ) i + S1x1.size i ≤ S28x64.size i := by
  intro i; fin_cases i
  · show r + 1 ≤ 28; omega
  · show c + 1 ≤ 64; omega
def srcC (x : W) (h : K2 x) : Src F where
  slot := rem12 x
  hs := rem12_lt h.lt
  sc kt a t b := smemLoad b7 (Rect.unit (s := S28x64) ![rs2 x kt a, cs2 x t b] S1x1.size (inbS2 (rs2_lt h kt a) (cs2_lt h t b))) numel1_S1x1 rfl

/-! ### Accumulation -/
abbrev lhsRow (x : W) (kt : Fin 2) : ℕ := (Scalar.addi (Scalar.muli x 2#32) (BitVec.ofNat 32 kt.val)).toNat
theorem lhsRow_eq {x : W} (h : x.toNat < 28) (kt : Fin 2) : lhsRow x kt = 2 * x.toNat + kt.val :=
  allWords 28 (fun x => ∀ kt : Fin 2, lhsRow x kt = 2 * x.toNat + kt.val) (by decide +kernel) h kt
theorem inbLhs {r : ℕ} (h : r < 56) : ∀ a, (![r, 0, 0] : Fin 3 → ℕ) a + S1x256x256.size a ≤ S56x256x256.size a := by
  intro a; fin_cases a
  · show r + 1 ≤ 56; omega
  · show 0 + 256 ≤ 256; omega
  · show 0 + 256 ≤ 256; omega
theorem inbX {r : ℕ} (h : r < 14) : ∀ a, (![r, 0, 0] : Fin 3 → ℕ) a + S1x256x256.size a ≤ S14x256x256.size a := by
  intro a; fin_cases a
  · show r + 1 ≤ 14; omega
  · show 0 + 256 ≤ 256; omega
  · show 0 + 256 ≤ 256; omega
theorem lhsRow_lt {x : W} (h : x.toNat < 28) (kt : Fin 2) : lhsRow x kt < 56 := by
  have := lhsRow_eq h kt; omega
theorem lhsRow_lt' {x : W} (h : x.toNat < 7) (kt : Fin 2) : lhsRow x kt < 14 := by
  have := lhsRow_eq (by omega : x.toNat < 28) kt; omega
def lhsD (x : W) (h : x.toNat < 28) (kt : Fin 2) : PR F (Vec F S1x256x256 .bf16) :=
  Prog.lift (.load b20 (Rect.unit (s := S56x256x256) ![lhsRow x kt, 0, 0] S1x256x256.size (inbLhs (lhsRow_lt h kt))).toLoadRect (View.loadsAt_vmem h_S1x256x256))
def lhsQ (x : W) (h : x.toNat < 7) (kt : Fin 2) : PR F (Vec F S1x256x256 .bf16) :=
  Prog.lift (.load b29 (Rect.unit (s := S14x256x256) ![lhsRow x kt, 0, 0] S1x256x256.size (inbX (lhsRow_lt' h kt))).toLoadRect (View.loadsAt_vmem h_S1x256x256))

theorem fitsJ (j : Fin 4) : Mxu.Fits (64 * j.val) 256 := by unfold Mxu.Fits; omega
def accOne (ld : Fin 2 → PR F (Vec F S1x256x256 .bf16)) (kt : Fin 2) (j : Fin 4) (q : Fin 2) (s : Mxu F) : PR F (Mxu F) := do
  let v ← ld kt
  pure (s.accLhs q 0 (64 * j.val) (shapeCast S256x256 v shapeCasts_S1x256x256_S256x256) (fitsJ j))
def accPair (ld : Fin 2 → PR F (Vec F S1x256x256 .bf16)) (kt : Fin 2) (j : Fin 4) (s : Mxu F) : PR F (Mxu F) := do
  let s ← accOne ld kt j 0 s
  accOne ld kt j 1 s
def stepP (ld : Fin 2 → PR F (Vec F S1x256x256 .bf16)) (kt : Fin 2) (j : Fin 4) (S : Src F) (kt' : Fin 2) (j' : Fin 4) (s : Mxu F) : PR F (Mxu F) := do
  let s ← accPair ld kt j s
  pushPair S kt' j' s

/-- The eight steps of a chunk of four column pairs; the next chunk's first tiles last. -/
def steps4 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 0 3 s
  let s ← stepP ld 0 3 S 1 0 s
  let s ← stepP ld 1 0 S 1 1 s
  let s ← stepP ld 1 1 S 1 2 s
  let s ← stepP ld 1 2 S 1 3 s
  stepP ld 1 3 N 0 0 s
/-- The six steps of a chunk of three column pairs. -/
def steps3 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 1 0 s
  let s ← stepP ld 1 0 S 1 1 s
  let s ← stepP ld 1 1 S 1 2 s
  stepP ld 1 2 N 0 0 s

/-! ### The activations -/
theorem inbCell28 {s : ℕ} (h : s < 28) : ∀ a, (![s] : Fin 1 → ℕ) a + S1.size a ≤ S28.size a := by
  intro a; fin_cases a; show s + 1 ≤ 28; omega
theorem inbH {s : ℕ} (h : s < 28) : ∀ a, (![s, 0, 0] : Fin 3 → ℕ) a + S1x256x512.size a ≤ S28x256x512.size a := by
  intro a; fin_cases a
  · show s + 1 ≤ 28; omega
  · show 0 + 256 ≤ 256; omega
  · show 0 + 512 ≤ 512; omega
theorem inbHs {c : ℕ} (h : c + 512 ≤ 14336) : ∀ a, (![0, c] : Fin 2 → ℕ) a + S256x512.size a ≤ S256x14336.size a := by
  intro a; fin_cases a
  · show 0 + 256 ≤ 256; omega
  · show c + 512 ≤ 14336; omega
theorem rowA_lt {x : W} (h : K0 x) : rowA x + 512 ≤ 14336 := by
  have := rowA_eq h; unfold K0 at h; omega
theorem wwH {s : ℕ} (h : s < 28) :
    (Rect.unit (s := S28x256x512) ![s, 0, 0] S1x256x512.size (inbH h)).WholeWords (EltTy.packing .fp8e4m3) := by
  have : ∀ n : Fin 28, (Rect.unit (s := S28x256x512) ![n.val, 0, 0] S1x256x512.size (inbH n.2)).WholeWords (EltTy.packing .fp8e4m3) := by decide +kernel
  exact this ⟨s, h⟩
theorem wwHs {x : W} (h : K0 x) :
    (Rect.unit (s := S256x14336) ![0, rowA x] S256x512.size (inbHs (rowA_lt h))).WholeWords (EltTy.packing .fp8e4m3) := by
  have := allWords 28 (fun x => ∀ h : K0 x, (Rect.unit (s := S256x14336) ![0, rowA x] S256x512.size (inbHs (rowA_lt h))).WholeWords (EltTy.packing .fp8e4m3))
    (by
      have : ∀ n : Fin 28, ∀ hh, (Rect.unit (s := S256x14336) ![0, rowA (BitVec.ofNat 32 n)] S256x512.size hh).WholeWords (EltTy.packing .fp8e4m3) := by decide +kernel
      exact fun n h => this n _) h
  exact this h
def hSem (s : ℕ) (h : s < 28) : DmaSem sig :=
  ((cc0_scratch19.slice (Rect.unit (s := S28) ![s] S1.size (inbCell28 h))).squeeze S_ squeezes_S1_S_).sem
def hV (s : ℕ) (h : s < 28) : Memref sig .tc .vmem S256x512 .fp8e4m3 :=
  (b17.slice (Rect.unit (s := S28x256x512) ![s, 0, 0] S1x256x512.size (inbH h)) (fun _ => rfl)).squeeze S256x512 squeezes_S1x256x512_S256x512
def hSrc (x : W) (h : K0 x) : Memref sig .tc .hbm S256x512 .fp8e4m3 :=
  b0.slice (Rect.unit (s := S256x14336) ![0, rowA x] S256x512.size (inbHs (rowA_lt h))) (fun _ => rfl)
theorem weH (s : ℕ) (h : s < 28) : (hV s h).view.WordExact :=
  ((Memref.isWhole_whole _).wordExact_slice rfl _ (wwH h)).reshape _ _
theorem weHs (x : W) (h : K0 x) : (hSrc x h).view.WordExact := (Memref.isWhole_whole _).wordExact_slice rfl _ (wwHs h)
def startH (x : W) (h : K0 x) : PR F PUnit :=
  Prog.lift (.enqueueDma (hSrc x h) (.here (hV x.toNat h)) (.dma (hSem x.toNat h)) (weHs x h) (weH x.toNat h) ⟨Or.inl rfl, trivial⟩)
def waitH (x : W) (h : K0 x) : PR F PUnit :=
  Prog.lift (.waitDma2 (hSem x.toNat h) (hSrc x h) (hV x.toNat h) (weHs x h) (weH x.toNat h))

theorem inbHt {s c : ℕ} (h : s < 28) (hc : c + 128 ≤ 512) : ∀ a, (![s, 0, c] : Fin 3 → ℕ) a + S1x256x128.size a ≤ S28x256x512.size a := by
  intro a; fin_cases a
  · show s + 1 ≤ 28; omega
  · show 0 + 256 ≤ 256; omega
  · show c + 128 ≤ 512; omega
theorem inbLt {s c : ℕ} (h : s < 56) (hc : c + 128 ≤ 256) : ∀ a, (![s, 0, c] : Fin 3 → ℕ) a + S1x256x128.size a ≤ S56x256x256.size a := by
  intro a; fin_cases a
  · show s + 1 ≤ 56; omega
  · show 0 + 256 ≤ 256; omega
  · show c + 128 ≤ 256; omega
theorem inbHr {c : ℕ} (hc : c < 128) : ∀ a, (![0, c] : Fin 2 → ℕ) a + S256x1.size a ≤ S256x128.size a := by
  intro a; fin_cases a
  · show 0 + 256 ≤ 256; omega
  · show c + 1 ≤ 128; omega
theorem prLt {s : ℕ} (h : s < 56) (a : Fin 2) :
    (Rect.unit (s := S56x256x256) ![s, 0, 128 * a.val] S1x256x128.size (inbLt h (by omega))).PackedRows (EltTy.packing .bf16) := by
  have : ∀ (n : Fin 56) (b : Fin 2), ∀ hh, (Rect.unit (s := S56x256x256) ![n.val, 0, 128 * b.val] S1x256x128.size hh).PackedRows (EltTy.packing .bf16) := by decide +kernel
  exact this ⟨s, h⟩ a _
/-- One scaled 256×128 block of activations. -/
def widenVal (v : Vec F S1x256x128 .fp8e4m3) (s : Vec F S256x1 .f32) : FVec F S256x128 .bf16 :=
  mulf (extf .bf16 (shapeCast S256x128 v shapeCasts_S1x256x128_S256x128) bitsLt_fp8e4m3_bf16)
    (truncf .bf16 (broadcastTo S256x128 (shapeCast S256x1 s shapeCasts_S256x1_S256x1) broadcasts_S256x1_S256x128) bitsLt_bf16_f32)
theorem ktCol (kt a : Fin 2) : 256 * kt.val + 128 * a.val + 128 ≤ 512 := by omega
def widenHead (x : W) (h : K0 x) (kt a : Fin 2) : PR F (FVec F S256x128 .bf16) := do
  let v ← Prog.lift (.load b17 (Rect.unit (s := S28x256x512) ![x.toNat, 0, 256 * kt.val + 128 * a.val] S1x256x128.size (inbHt h (ktCol kt a))).toLoadRect (View.loadsAt_vmem h_S1x256x128))
  let s ← Prog.lift (.load b19 (Rect.unit (s := S256x128) ![0, 2 * kt.val + a.val] S256x1.size (inbHr (by omega))).toLoadRect (View.loadsAt_vmem h_S256x1))
  pure (widenVal v s)
def widenOne (x : W) (h : K0 x) (kt a : Fin 2) : PR F PUnit := do
  let w ← widenHead x h kt a
  let _ ← Prog.lift (.load b20 (Rect.unit (s := S56x256x256) ![lhsRow x kt, 0, 128 * a.val] S1x256x128.size (inbLt (lhsRow_lt h kt) (by omega))).toLoadRect (View.loadsAt_vmem h_S1x256x128))
  Prog.lift (.store b20 (Rect.unit (s := S56x256x256) ![lhsRow x kt, 0, 128 * a.val] S1x256x128.size (inbLt (lhsRow_lt h kt) (by omega)))
    (shapeCast S1x256x128 w shapeCasts_S256x128_S1x256x128) Finset.univ
    (View.stores_vmem h_S1x256x128 ((Memref.isWhole_whole _).storeExact_slice rfl _ (prLt (lhsRow_lt h kt) a)) (fun _ => rfl)) (.inl rfl))
def widenH (x : W) (h : K0 x) : PR F PUnit := do
  widenOne x h 0 0
  widenOne x h 0 1
  widenOne x h 1 0
  widenOne x h 1 1
  let v : Vec F S256x128 .f32 ← Prog.lift (.load b19 (Rect.unit (s := S256x128) ![0, 0] S256x128.size inb_S256x128_S256x128_0_0).toLoadRect (View.loadsAt_vmem h_S256x128))
  let _ ← Prog.lift (.load b19 (Rect.unit (s := S256x128) ![0, 0] S256x128.size inb_S256x128_S256x128_0_0).toLoadRect (View.loadsAt_vmem h_S256x128))
  Prog.lift (.store b19 (Rect.unit (s := S256x128) ![0, 0] S256x128.size inb_S256x128_S256x128_0_0)
    (shapeCast S256x128 (dynamicRotate 1 124#32 none v rotates_S256x128_d1 : FVec F S256x128 .f32) shapeCasts_S256x128_S256x128) Finset.univ
    (View.stores_vmem_bits_univ h_S256x128 rfl) (.inl rfl))

/-! ### The chunks -/
theorem addi_lt {x : W} {N : ℕ} (k : W) (h : x.toNat < N) (hk : N + k.toNat ≤ 2 ^ 32) :
    (Scalar.addi x k).toNat = x.toNat + k.toNat := by
  have := x.isLt
  show (x + k).toNat = _
  rw [BitVec.toNat_add]; omega
theorem lt96 {x : W} (h : x.toNat < 84) : (Scalar.addi x 11#32).toNat < 96 := by
  rw [addi_lt (N := 84) _ h (by decide)]; show _ + 11 < 96; omega

/-- A chunk of the first pass, the next one's tiles and activations at its end. -/
def chunkA (x : W) (h : K0 x) (h' : K0 (Scalar.addi x 1#32)) (s : Mxu F) : PR F (Mxu F) := do
  waitH (Scalar.addi x 1#32) h'
  waitA (Scalar.addi x 1#32) h'
  startW (Scalar.addi x 11#32) (lt96 h.lt) do
    let s ← steps4 (lhsD x h) (srcA x h) (srcA (Scalar.addi x 1#32) h') s
    widenH (Scalar.addi x 1#32) h'
    pure s
def chunkB (x : W) (h : K1 x) (h' : K1 (Scalar.addi x 1#32)) (s : Mxu F) : PR F (Mxu F) := do
  waitB (Scalar.addi x 1#32) h'
  startW (Scalar.addi x 11#32) (lt96 h.lt) <|
    steps3 (lhsD (Scalar.subi x 28#32) h.sub) (srcB x h) (srcB (Scalar.addi x 1#32) h') s

theorem iv1 : ∀ t : Fin k0_t1_loop.trips, Scf.iv 0#32 1#32 t.val = BitVec.ofNat 32 t.val ∧ t.val < 27 := by decide +kernel
theorem iv1K (t : Fin k0_t1_loop.trips) : K0 (Scf.iv 0#32 1#32 t.val) := by
  unfold K0; have : ∀ t : Fin k0_t1_loop.trips, (Scf.iv 0#32 1#32 t.val : W).toNat < 28 := by decide +kernel
  exact this t
theorem iv1K' (t : Fin k0_t1_loop.trips) : K0 (Scalar.addi (Scf.iv 0#32 1#32 t.val) 1#32) := by
  unfold K0; have : ∀ t : Fin k0_t1_loop.trips, (Scalar.addi (Scf.iv 0#32 1#32 t.val) 1#32 : W).toNat < 28 := by decide +kernel
  exact this t
theorem iv2K (t : Fin k0_t2_loop.trips) : K1 (Scf.iv 29#32 1#32 t.val) := by
  unfold K1; have : ∀ t : Fin k0_t2_loop.trips, 28 ≤ (Scf.iv 29#32 1#32 t.val : W).toNat ∧ (Scf.iv 29#32 1#32 t.val : W).toNat < 56 := by decide +kernel
  exact this t
theorem iv2K' (t : Fin k0_t2_loop.trips) : K1 (Scalar.addi (Scf.iv 29#32 1#32 t.val) 1#32) := by
  unfold K1; have : ∀ t : Fin k0_t2_loop.trips, 28 ≤ (Scalar.addi (Scf.iv 29#32 1#32 t.val) 1#32 : W).toNat ∧ (Scalar.addi (Scf.iv 29#32 1#32 t.val) 1#32 : W).toNat < 56 := by decide +kernel
  exact this t
def loop1 (s : Mxu F) : PR F (Mxu F) :=
  Scf.Loop.for k0_t1_loop k0_t1_ok s fun t s => chunkA (Scf.iv 0#32 1#32 t.val) (iv1K t) (iv1K' t) s
def loop2 (s : Mxu F) : PR F (Mxu F) :=
  Scf.Loop.for k0_t2_loop k0_t2_ok s fun t s => chunkB (Scf.iv 29#32 1#32 t.val) (iv2K t) (iv2K' t) s

end Cert.KernelIdeal.Hand
-- ==== Proof.IStages.lean ====
module

public import proofs.«01_k».proof.Proof.IBody

/-! The stages between the products: the residual sum written out, the quantiser, the heads packed
and written out, and the whole kernel as a sequence of segments and loops. -/

@[expose] public section
noncomputable section

namespace Cert.KernelIdeal.Hand
open Idealize.ShloMosaic Idealize.ShloMosaic.TcCoe
open Idealize.SL Idealize.SL.Sem
open Cert.KernelIdeal
open K0.Facts₀ Shapes1.Facts₀
variable {F : FTy → Type} [FloatOps F]

/-! ### The residual sum -/
theorem inbRes {c : ℕ} (hc : c + 256 ≤ 3584) : ∀ a, (![0, c] : Fin 2 → ℕ) a + S256x256.size a ≤ S256x3584.size a := by
  intro a; fin_cases a
  · show 0 + 256 ≤ 256; omega
  · show c + 256 ≤ 3584; omega
theorem prX (t : Fin 14) : (Rect.unit (s := S14x256x256) ![t.val, 0, 0] S1x256x256.size (inbX t.2)).PackedRows (EltTy.packing .bf16) := by
  revert t; decide +kernel
theorem wwX (t : Fin 14) : (Rect.unit (s := S14x256x256) ![t.val, 0, 0] S1x256x256.size (inbX t.2)).WholeWords (EltTy.packing .bf16) := by
  revert t; decide +kernel
theorem wwX8 (t : Fin 14) : (Rect.unit (s := S14x256x256) ![t.val, 0, 0] S1x256x256.size (inbX t.2)).WholeWords (EltTy.packing .fp8e4m3) := by
  revert t; decide +kernel
theorem tc256 (t : Fin 14) : 256 * t.val + 256 ≤ 3584 := by omega
theorem wwR (t : Fin 14) : (Rect.unit (s := S256x3584) ![0, 256 * t.val] S256x256.size (inbRes (tc256 t))).WholeWords (EltTy.packing .bf16) := by
  have : ∀ t : Fin 14, ∀ hh, (Rect.unit (s := S256x3584) ![0, 256 * t.val] S256x256.size hh).WholeWords (EltTy.packing .bf16) := by decide +kernel
  exact this t _
theorem wwR8 (t : Fin 14) : (Rect.unit (s := S256x3584) ![0, 256 * t.val] S256x256.size (inbRes (tc256 t))).WholeWords (EltTy.packing .fp8e4m3) := by
  have : ∀ t : Fin 14, ∀ hh, (Rect.unit (s := S256x3584) ![0, 256 * t.val] S256x256.size hh).WholeWords (EltTy.packing .fp8e4m3) := by decide +kernel
  exact this t _
theorem inbCell7 {s : ℕ} (h : s < 7) : ∀ a, (![s] : Fin 1 → ℕ) a + S1.size a ≤ S7.size a := by
  intro a; fin_cases a; show s + 1 ≤ 7; omega
theorem inbCell5 {s : ℕ} (h : s < 5) : ∀ a, (![s] : Fin 1 → ℕ) a + S1.size a ≤ S5.size a := by
  intro a; fin_cases a; show s + 1 ≤ 5; omega
def oSem (s : ℕ) (h : s < 7) : DmaSem sig :=
  ((cc0_scratch21.slice (Rect.unit (s := S7) ![s] S1.size (inbCell7 h))).squeeze S_ squeezes_S1_S_).sem
def iSem (s : ℕ) (h : s < 5) : DmaSem sig :=
  ((cc0_scratch20.slice (Rect.unit (s := S5) ![s] S1.size (inbCell5 h))).squeeze S_ squeezes_S1_S_).sem

/-- A tile of the residual sum, and where it goes. -/
def rTile (t : Fin 14) : Memref sig .tc .vmem S256x256 .bf16 :=
  (b25.slice (Rect.unit (s := S14x256x256) ![t.val, 0, 0] S1x256x256.size (inbX t.2)) (fun _ => rfl)).squeeze S256x256 squeezes_S1x256x256_S256x256
def roDst (t : Fin 14) : Memref sig .tc .hbm S256x256 .bf16 :=
  b10.slice (Rect.unit (s := S256x3584) ![0, 256 * t.val] S256x256.size (inbRes (tc256 t))) (fun _ => rfl)
theorem weRT (t : Fin 14) : (rTile t).view.WordExact := ((Memref.isWhole_whole _).wordExact_slice rfl _ (wwX t)).reshape _ _
theorem weRo (t : Fin 14) : (roDst t).view.WordExact := (Memref.isWhole_whole _).wordExact_slice rfl _ (wwR t)
def startRo (t : Fin 14) : PR F PUnit :=
  Prog.lift (.enqueueDma (rTile t) (.here (roDst t)) (.dma (oSem 0 (by decide))) (weRT t) (weRo t) ⟨Or.inl rfl, trivial⟩)
def waitRo (t : Fin 14) : PR F PUnit :=
  Prog.lift (.waitDma2 (oSem 0 (by decide)) (rTile t) (roDst t) (weRT t) (weRo t))
/-- A tile of the codes, and where it goes. -/
def cTile (t : Fin 14) : Memref sig .tc .vmem S256x256 .fp8e4m3 :=
  (b28.slice (Rect.unit (s := S14x256x256) ![t.val, 0, 0] S1x256x256.size (inbX t.2)) (fun _ => rfl)).squeeze S256x256 squeezes_S1x256x256_S256x256
def xcDst (t : Fin 14) : Memref sig .tc .hbm S256x256 .fp8e4m3 :=
  b14.slice (Rect.unit (s := S256x3584) ![0, 256 * t.val] S256x256.size (inbRes (tc256 t))) (fun _ => rfl)
theorem weCT (t : Fin 14) : (cTile t).view.WordExact := ((Memref.isWhole_whole _).wordExact_slice rfl _ (wwX8 t)).reshape _ _
theorem weXc (t : Fin 14) : (xcDst t).view.WordExact := (Memref.isWhole_whole _).wordExact_slice rfl _ (wwR8 t)
def startXc (t : Fin 14) : PR F PUnit :=
  Prog.lift (.enqueueDma (cTile t) (.here (xcDst t)) (.dma (oSem 1 (by decide))) (weCT t) (weXc t) ⟨Or.inl rfl, trivial⟩)
def waitXc (t : Fin 14) : PR F PUnit :=
  Prog.lift (.waitDma2 (oSem 1 (by decide)) (cTile t) (xcDst t) (weCT t) (weXc t))
def startXs : PR F PUnit :=
  Prog.lift (.enqueueDma b30 (.here b15) (.dma (oSem 2 (by decide))) (Memref.isWhole_whole _).wordExact (Memref.isWhole_whole _).wordExact ⟨Or.inl rfl, trivial⟩)
def waitXs : PR F PUnit :=
  Prog.lift (.waitDma2 (oSem 2 (by decide)) b30 b15 (Memref.isWhole_whole _).wordExact (Memref.isWhole_whole _).wordExact)

/-- A whole 256×128 f32 buffer read, and written. -/
def ldW (b : Memref sig .tc .vmem S256x128 .f32) : PR F (Vec F S256x128 .f32) :=
  Prog.lift (.load b (Rect.unit (s := S256x128) ![0, 0] S256x128.size inb_S256x128_S256x128_0_0).toLoadRect (View.loadsAt_vmem h_S256x128))
def stW (b : Memref sig .tc .vmem S256x128 .f32) (v : FVec F S256x128 .f32) : PR F PUnit :=
  Prog.lift (.store b (Rect.unit (s := S256x128) ![0, 0] S256x128.size inb_S256x128_S256x128_0_0)
    (shapeCast S256x128 v shapeCasts_S256x128_S256x128) Finset.univ (View.stores_vmem_bits_univ h_S256x128 rfl) (.inl rfl))

/-- The residual added and rounded. -/
def resSum (res : Vec F S256x256 .bf16) (v : FVec F S256x256 .f32) : FVec F S256x256 .bf16 :=
  truncf .bf16 (addf (extf .f32 res bitsLt_bf16_f32) v) bitsLt_bf16_f32
/-- The squares, the tile's two column halves added. -/
def sqHalf (r : FVec F S256x256 .bf16) : FVec F S256x128 .f32 :=
  addf (extractStridedSlice S256x128 ![0, 0] (mulf (extf .f32 r bitsLt_bf16_f32) (extf .f32 r bitsLt_bf16_f32)) slices_S256x256_o0_0_S256x128)
    (extractStridedSlice S256x128 ![0, 128] (mulf (extf .f32 r bitsLt_bf16_f32) (extf .f32 r bitsLt_bf16_f32)) slices_S256x256_o0_128_S256x128)
def ldRes (t : Fin 14) : PR F (Vec F S256x256 .bf16) :=
  Prog.lift (.load b21 (Rect.unit (s := S256x3584) ![0, 256 * t.val] S256x256.size (inbRes (tc256 t))).toLoadRect (View.loadsAt_vmem h_S256x256))
def ldR (t : Fin 14) : PR F (Vec F S1x256x256 .bf16) :=
  Prog.lift (.load b25 (Rect.unit (s := S14x256x256) ![t.val, 0, 0] S1x256x256.size (inbX t.2)).toLoadRect (View.loadsAt_vmem h_S1x256x256))
def stR (t : Fin 14) (r : FVec F S256x256 .bf16) : PR F PUnit :=
  Prog.lift (.store b25 (Rect.unit (s := S14x256x256) ![t.val, 0, 0] S1x256x256.size (inbX t.2))
    (shapeCast S1x256x256 r shapeCasts_S256x256_S1x256x256) Finset.univ
    (View.stores_vmem h_S1x256x256 ((Memref.isWhole_whole _).storeExact_slice rfl _ (prX t)) (fun _ => rfl)) (.inl rfl))

def popDown0 (s : Mxu F) : PR F (Mxu F) := do
  let res ← ldRes 0
  let _ ← ldR 0
  stR 0 (resSum res (s.read 0 0 (fitsJ 0)))
  let _ ← ldW b26
  stW b26 (sqHalf (resSum res (s.read 0 0 (fitsJ 0))))
  startRo 0
  pure (s.pop 0 0 256 (fitsJ 0))
/-- Pop column tile `t` out of unit `q`, add the residual, write the tile out, gather its squares. -/
def popDown (t : Fin 14) (q : Fin 2) (j : Fin 4) (s : Mxu F) : PR F (Mxu F) := do
  let res ← ldRes t
  let _ ← ldR t
  stR t (resSum res (s.read q (64 * j.val) (fitsJ j)))
  let v ← ldW b26
  let _ ← ldW b26
  stW b26 (addf v (sqHalf (resSum res (s.read q (64 * j.val) (fitsJ j)))))
  startRo t
  pure (s.pop q (64 * j.val) 256 (fitsJ j))

/-! ### The quantiser -/
def rsVal (v : Vec F S256x128 .f32) : FVec F S256x128 .f32 :=
  broadcastTo S256x128
    (shapeCast S256x1
      (rsqrt (addf (mulf (shapeCast S256x1 (multiReduction .add [1] S256 v 0x00000000#32 reduces_S256x128_S256 (.inl rfl) rfl) shapeCasts_S256_S256x1)
        (broadcast S256x1 (Scalar.ofBits .f32 0x39924925#32))) (broadcast S256x1 (Scalar.ofBits .f32 0x358637BD#32))))
      shapeCasts_S256x1_S256x1) broadcasts_S256x1_S256x128
def rsStage : PR F PUnit := do
  let v ← ldW b26
  let _ ← ldW b27
  stW b27 (rsVal v)

theorem inbXh {s c : ℕ} (h : s < 14) (hc : c + 128 ≤ 256) : ∀ a, (![s, 0, c] : Fin 3 → ℕ) a + S1x256x128.size a ≤ S14x256x256.size a := by
  intro a; fin_cases a
  · show s + 1 ≤ 14; omega
  · show 0 + 256 ≤ 256; omega
  · show c + 128 ≤ 256; omega
theorem inbNw {r : ℕ} (h : r < 28) : ∀ a, (![r, 0] : Fin 2 → ℕ) a + S1x128.size a ≤ S28x128.size a := by
  intro a; fin_cases a
  · show r + 1 ≤ 28; omega
  · show 0 + 128 ≤ 128; omega
theorem prXh {s : ℕ} (h : s < 14) (a : Fin 2) :
    (Rect.unit (s := S14x256x256) ![s, 0, 128 * a.val] S1x256x128.size (inbXh h (by omega))).PackedRows (EltTy.packing .bf16) := by
  have : ∀ (n : Fin 14) (b : Fin 2), ∀ hh, (Rect.unit (s := S14x256x256) ![n.val, 0, 128 * b.val] S1x256x128.size hh).PackedRows (EltTy.packing .bf16) := by decide +kernel
  exact this ⟨s, h⟩ a _
theorem prXh8 {s : ℕ} (h : s < 14) (a : Fin 2) :
    (Rect.unit (s := S14x256x256) ![s, 0, 128 * a.val] S1x256x128.size (inbXh h (by omega))).PackedRows (EltTy.packing .fp8e4m3) := by
  have : ∀ (n : Fin 14) (b : Fin 2), ∀ hh, (Rect.unit (s := S14x256x256) ![n.val, 0, 128 * b.val] S1x256x128.size hh).PackedRows (EltTy.packing .fp8e4m3) := by decide +kernel
  exact this ⟨s, h⟩ a _
abbrev grpW (x : W) (a : Fin 2) : W := Scalar.addi (Scalar.muli x 2#32) (BitVec.ofNat 32 a.val)
theorem grpW_lt {x : W} (h : x.toNat < 14) (a : Fin 2) : (grpW x a).toNat < 28 :=
  allWords 14 (fun x => ∀ a : Fin 2, (grpW x a).toNat < 28) (by decide +kernel) h a

/-- The normalised values of one group of columns. -/
def normed (r : Vec F S1x256x128 .bf16) (rs : Vec F S256x128 .f32) (w : Vec F S1x128 .f32) : FVec F S256x128 .f32 :=
  mulf (mulf (extf .f32 (shapeCast S256x128 r shapeCasts_S1x256x128_S256x128) bitsLt_bf16_f32) rs)
    (broadcastTo S256x128 w broadcasts_S1x128_S256x128)
def amaxOf (v : FVec F S256x128 .f32) : FVec F S256x1 .f32 :=
  mulf (shapeCast S256x1 (multiReduction .maximumf [1] S256 (absf v) 0xFF800000#32 reduces_S256x128_S256 (.inl rfl) rfl) shapeCasts_S256_S256x1)
    (broadcast S256x1 (Scalar.ofBits .f32 0x3B124925#32))
def isZero (a : FVec F S256x1 .f32) : IVec S256x1 1 := cmpf .oeq a (broadcast S256x1 (Scalar.ofBits .f32 0x00000000#32))
def expOf (a : FVec F S256x1 .f32) : FVec F S256x1 .f32 :=
  addf (floor (mulf (log a) (broadcast S256x1 (Scalar.ofBits .f32 0x3FB8AA3B#32)))) (broadcast S256x1 (Scalar.ofBits .f32 0x3F800000#32))
def scaleOf (a : FVec F S256x1 .f32) : FVec F S256x1 .f32 :=
  select (isZero a) (broadcast S256x1 (Scalar.ofBits .f32 0x3F800000#32)) (exp2 (expOf a))
def invOf (a : FVec F S256x1 .f32) : FVec F S256x1 .f32 :=
  select (isZero a) (broadcast S256x1 (Scalar.ofBits .f32 0x3F800000#32)) (exp2 (subf (broadcast S256x1 (Scalar.ofBits .f32 0x00000000#32)) (expOf a)))
def codesOf (v : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32))
      (mulf v (broadcastTo S256x128 (invOf (amaxOf v)) broadcasts_S256x1_S256x128)))) bitsLt_fp8e4m3_f32
def deqOf (v : FVec F S256x128 .f32) : FVec F S256x128 .bf16 :=
  mulf (extf .bf16 (codesOf v) bitsLt_fp8e4m3_bf16)
    (truncf .bf16 (broadcastTo S256x128 (shapeCast S256x1 (scaleOf (amaxOf v)) shapeCasts_S256x1_S256x1) broadcasts_S256x1_S256x128) bitsLt_bf16_f32)
def scalesWith (g : W) (v : FVec F S256x128 .f32) (old : Vec F S256x28 .f32) : FVec F S256x28 .f32 :=
  select (cmpi .eq (iota .tc S256x28 32 [1] iota_S256x28_d1_w32) (broadcast S256x28 g))
    (broadcastTo S256x28 (shapeCast S256x1 (scaleOf (amaxOf v)) shapeCasts_S256x1_S256x1) broadcasts_S256x1_S256x28) old
def ldXs : PR F (Vec F S256x28 .f32) :=
  Prog.lift (.load b30 (Rect.unit (s := S256x28) ![0, 0] S256x28.size inb_S256x28_S256x28_0_0).toLoadRect (View.loadsAt_vmem h_S256x28))
def stXs (v : FVec F S256x28 .f32) : PR F PUnit :=
  Prog.lift (.store b30 (Rect.unit (s := S256x28) ![0, 0] S256x28.size inb_S256x28_S256x28_0_0)
    (shapeCast S256x28 v shapeCasts_S256x28_S256x28) Finset.univ (View.stores_vmem_bits_univ h_S256x28 rfl) (.inl rfl))
def quantHead (x : W) (h : x.toNat < 14) (a : Fin 2) : PR F (FVec F S256x28 .f32) := do
  let r ← Prog.lift (.load b25 (Rect.unit (s := S14x256x256) ![x.toNat, 0, 128 * a.val] S1x256x128.size (inbXh h (by omega))).toLoadRect (View.loadsAt_vmem h_S1x256x128))
  let rs ← ldW b27
  let w ← Prog.lift (.load b22 (Rect.unit (s := S28x128) ![(grpW x a).toNat, 0] S1x128.size (inbNw (grpW_lt h a))).toLoadRect (View.loadsAt_vmem h_S1x128))
  let _ ← Prog.lift (.load b28 (Rect.unit (s := S14x256x256) ![x.toNat, 0, 128 * a.val] S1x256x128.size (inbXh h (by omega))).toLoadRect (View.loadsAt_vmem h_S1x256x128))
  Prog.lift (.store b28 (Rect.unit (s := S14x256x256) ![x.toNat, 0, 128 * a.val] S1x256x128.size (inbXh h (by omega)))
    (shapeCast S1x256x128 (codesOf (normed r rs w)) shapeCasts_S256x128_S1x256x128) Finset.univ
    (View.stores_vmem h_S1x256x128 ((Memref.isWhole_whole _).storeExact_slice rfl _ (prXh8 h a)) (fun _ => rfl)) (.inl rfl))
  let _ ← Prog.lift (.load b29 (Rect.unit (s := S14x256x256) ![x.toNat, 0, 128 * a.val] S1x256x128.size (inbXh h (by omega))).toLoadRect (View.loadsAt_vmem h_S1x256x128))
  Prog.lift (.store b29 (Rect.unit (s := S14x256x256) ![x.toNat, 0, 128 * a.val] S1x256x128.size (inbXh h (by omega)))
    (shapeCast S1x256x128 (deqOf (normed r rs w)) shapeCasts_S256x128_S1x256x128) Finset.univ
    (View.stores_vmem h_S1x256x128 ((Memref.isWhole_whole _).storeExact_slice rfl _ (prXh h a)) (fun _ => rfl)) (.inl rfl))
  let old ← ldXs
  pure (scalesWith (grpW x a) (normed r rs w) old)
def quantOne (x : W) (h : x.toNat < 14) (a : Fin 2) : PR F PUnit := do
  let v ← quantHead x h a
  let _ ← ldXs
  stXs v
/-- Quantise the two groups of tile `x`. -/
def quantise (x : W) (h : x.toNat < 14) : PR F PUnit := do
  quantOne x h 0
  quantOne x h 1

/-! ### The rotary tables -/
theorem inbHalf {r : ℕ} (h : r + 128 ≤ 256) : ∀ a, (![r, 0] : Fin 2 → ℕ) a + S128x128.size a ≤ S256x128.size a := by
  intro a; fin_cases a
  · show r + 128 ≤ 256; omega
  · show 0 + 128 ≤ 128; omega
def ldHalf (b : Memref sig .tc .vmem S256x128 .f32) (r : ℕ) (h : r + 128 ≤ 256) : PR F (Vec F S128x128 .f32) :=
  Prog.lift (.load b (Rect.unit (s := S256x128) ![r, 0] S128x128.size (inbHalf h)).toLoadRect (View.loadsAt_vmem h_S128x128))
def stHalf (b : Memref sig .tc .vmem S256x128 .f32) (r : ℕ) (h : r + 128 ≤ 256) (v : FVec F S128x128 .f32) : PR F PUnit :=
  Prog.lift (.store b (Rect.unit (s := S256x128) ![r, 0] S128x128.size (inbHalf h))
    (shapeCast S128x128 v shapeCasts_S128x128_S128x128) Finset.univ (View.stores_vmem_bits_univ h_S128x128 rfl) (.inl rfl))
def ldFreq : PR F (Vec F S1x128 .f32) :=
  Prog.lift (.load b24 (Rect.unit (s := S1x128) ![0, 0] S1x128.size inb_S1x128_S1x128_0_0).toLoadRect (View.loadsAt_vmem h_S1x128))
def theta (p : FVec F S1x128 .f32) (f : Vec F S1x128 .f32) : FVec F S128x128 .f32 :=
  mulf (transpose S128x128 [1, 0] (broadcastTo S128x128 (shapeCast S1x128 p shapeCasts_S1x128_S1x128) broadcasts_S1x128_S128x128) transposes_S128x128_p1_0_S128x128)
    (broadcastTo S128x128 f broadcasts_S1x128_S128x128)
def cosSin : PR F PUnit := do
  let p ← Prog.lift (.load b23 (Rect.unit (s := S2x128) ![0, 0] S2x128.size inb_S2x128_S2x128_0_0).toLoadRect (View.loadsAt_vmem h_S2x128))
  let f ← ldFreq
  let _ ← ldHalf b31 0 (by decide)
  stHalf b31 0 (by decide) (cos (theta (extractStridedSlice S1x128 ![0, 0] (sitofp .f32 (p : Vec F S2x128 .i32) : FVec F S2x128 .f32) slices_S2x128_o0_0_S1x128) f))
  let _ ← ldHalf b32 0 (by decide)
  stHalf b32 0 (by decide) (sin (theta (extractStridedSlice S1x128 ![0, 0] (sitofp .f32 (p : Vec F S2x128 .i32) : FVec F S2x128 .f32) slices_S2x128_o0_0_S1x128) f))
  let f' ← ldFreq
  let _ ← ldHalf b31 128 (by decide)
  stHalf b31 128 (by decide) (cos (theta (extractStridedSlice S1x128 ![1, 0] (sitofp .f32 (p : Vec F S2x128 .i32) : FVec F S2x128 .f32) slices_S2x128_o1_0_S1x128) f'))
  let _ ← ldHalf b32 128 (by decide)
  stHalf b32 128 (by decide) (sin (theta (extractStridedSlice S1x128 ![1, 0] (sitofp .f32 (p : Vec F S2x128 .i32) : FVec F S2x128 .f32) slices_S2x128_o1_0_S1x128) f'))
  let _ ← ldXs
  stXs (broadcast S256x28 (Scalar.ofBits .f32 0x00000000#32))

/-! ### The heads -/
theorem inbO {g l j : ℕ} (hg : g < 4) (hl : l < 2) (hj : j + 2 ≤ 8) :
    ∀ a, (![g, l, 0, j, 0] : Fin 5 → ℕ) a + S1x1x256x2x128.size a ≤ S4x2x256x8x128.size a := by
  intro a; fin_cases a
  · show g + 1 ≤ 4; omega
  · show l + 1 ≤ 2; omega
  · show 0 + 256 ≤ 256; omega
  · show j + 2 ≤ 8; omega
  · show 0 + 128 ≤ 128; omega
theorem prO (g : Fin 4) (l : Fin 2) (j : Fin 4) :
    (Rect.unit (s := S4x2x256x8x128) ![g.val, l.val, 0, 2 * j.val, 0] S1x1x256x2x128.size (inbO g.2 l.2 (by omega))).PackedRows (EltTy.packing .bf16) := by
  have : ∀ (g : Fin 4) (l : Fin 2) (j : Fin 4), ∀ hh, (Rect.unit (s := S4x2x256x8x128) ![g.val, l.val, 0, 2 * j.val, 0] S1x1x256x2x128.size hh).PackedRows (EltTy.packing .bf16) := by decide +kernel
  exact this g l j _
/-- The rounded values as rows of two heads. -/
def packRows (u v : FVec F S256x128 .f32) : Vec F S1x1x256x2x128 .bf16 :=
  interleaveRows S1x1x256x2x128 (shapeCast S1x1x256x1x128 (truncf .bf16 u bitsLt_bf16_f32) shapeCasts_S256x128_S1x1x256x1x128)
    (shapeCast S1x1x256x1x128 (truncf .bf16 v bitsLt_bf16_f32) shapeCasts_S256x128_S1x1x256x1x128) bitcasts_S1x1x256x2x128_w16_S1x1x256x1x128_w32
def packStore (g : ℕ) (hg : g < 4) (l : Fin 2) (j : Fin 4) (u v : FVec F S256x128 .f32) : PR F PUnit := do
  let _ ← Prog.lift (.load b33 (Rect.unit (s := S4x2x256x8x128) ![g, l.val, 0, 2 * j.val, 0] S1x1x256x2x128.size (inbO hg l.2 (by omega))).toLoadRect (View.loadsAt_vmem h_S1x1x256x2x128))
  Prog.lift (.store b33 (Rect.unit (s := S4x2x256x8x128) ![g, l.val, 0, 2 * j.val, 0] S1x1x256x2x128.size (inbO hg l.2 (by omega)))
    (packRows u v) Finset.univ
    (View.stores_vmem h_S1x1x256x2x128 ((Memref.isWhole_whole _).storeExact_slice rfl _ (prO ⟨g, hg⟩ l j)) (fun _ => rfl)) (.inl rfl))
def loH (t : FVec F S256x256 .f32) : FVec F S256x128 .f32 := extractStridedSlice S256x128 ![0, 0] t slices_S256x256_o0_0_S256x128
def hiH (t : FVec F S256x256 .f32) : FVec F S256x128 .f32 := extractStridedSlice S256x128 ![0, 128] t slices_S256x256_o0_128_S256x128
def ropeLo (t : FVec F S256x256 .f32) (c s : Vec F S256x128 .f32) : FVec F S256x128 .f32 := subf (mulf (loH t) c) (mulf (hiH t) s)
def ropeHi (t : FVec F S256x256 .f32) (c s : Vec F S256x128 .f32) : FVec F S256x128 .f32 := addf (mulf (hiH t) c) (mulf (loH t) s)
/-- Pop the pair of heads `j` of a group, rotated. -/
def popRope (g : ℕ) (hg : g < 4) (j : Fin 4) (s : Mxu F) : PR F (Mxu F) := do
  let c0 ← ldW b31
  let s0 ← ldW b32
  let c1 ← ldW b31
  let s1 ← ldW b32
  packStore g hg 0 j (ropeLo (s.read 0 (64 * j.val) (fitsJ j)) c0 s0) (ropeLo ((s.pop 0 (64 * j.val) 256 (fitsJ j)).read 1 (64 * j.val) (fitsJ j)) c1 s1)
  packStore g hg 1 j (ropeHi (s.read 0 (64 * j.val) (fitsJ j)) c0 s0) (ropeHi ((s.pop 0 (64 * j.val) 256 (fitsJ j)).read 1 (64 * j.val) (fitsJ j)) c1 s1)
  pure ((s.pop 0 (64 * j.val) 256 (fitsJ j)).pop 1 (64 * j.val) 256 (fitsJ j))
/-- The last group, not rotated. -/
def popLast (j : Fin 4) (s : Mxu F) : PR F (Mxu F) := do
  packStore 3 (by decide) 0 j (loH (s.read 0 (64 * j.val) (fitsJ j))) (loH ((s.pop 0 (64 * j.val) 256 (fitsJ j)).read 1 (64 * j.val) (fitsJ j)))
  packStore 3 (by decide) 1 j (hiH (s.read 0 (64 * j.val) (fitsJ j))) (hiH ((s.pop 0 (64 * j.val) 256 (fitsJ j)).read 1 (64 * j.val) (fitsJ j)))
  pure ((s.pop 0 (64 * j.val) 256 (fitsJ j)).pop 1 (64 * j.val) 256 (fitsJ j))

theorem inbOb {g l : ℕ} (hg : g < 4) (hl : l < 2) : ∀ a, (![g, l, 0, 0, 0] : Fin 5 → ℕ) a + S1x1x256x8x128.size a ≤ S4x2x256x8x128.size a := by
  intro a; fin_cases a
  · show g + 1 ≤ 4; omega
  · show l + 1 ≤ 2; omega
  · show 0 + 256 ≤ 256; omega
  · show 0 + 8 ≤ 8; omega
  · show 0 + 128 ≤ 128; omega
theorem wwOb (g : Fin 4) (l : Fin 2) :
    (Rect.unit (s := S4x2x256x8x128) ![g.val, l.val, 0, 0, 0] S1x1x256x8x128.size (inbOb g.2 l.2)).WholeWords (EltTy.packing .bf16) := by
  have : ∀ (g : Fin 4) (l : Fin 2), ∀ hh, (Rect.unit (s := S4x2x256x8x128) ![g.val, l.val, 0, 0, 0] S1x1x256x8x128.size hh).WholeWords (EltTy.packing .bf16) := by decide +kernel
  exact this g l _
def obV (g : Fin 4) (l : Fin 2) : Memref sig .tc .vmem S256x8x128 .bf16 :=
  (b33.slice (Rect.unit (s := S4x2x256x8x128) ![g.val, l.val, 0, 0, 0] S1x1x256x8x128.size (inbOb g.2 l.2)) (fun _ => rfl)).squeeze S256x8x128 squeezes_S1x1x256x8x128_S256x8x128
theorem weOb (g : Fin 4) (l : Fin 2) : (obV g l).view.WordExact := ((Memref.isWhole_whole _).wordExact_slice rfl _ (wwOb g l)).reshape _ _
theorem inbQ {h c : ℕ} (hh : h + 8 ≤ 16) (hc : c + 128 ≤ 256) : ∀ a, (![0, h, c] : Fin 3 → ℕ) a + S256x8x128.size a ≤ S256x16x256.size a := by
  intro a; fin_cases a
  · show 0 + 256 ≤ 256; omega
  · show h + 8 ≤ 16; omega
  · show c + 128 ≤ 256; omega
theorem inbK {c : ℕ} (hc : c + 128 ≤ 256) : ∀ a, (![0, 0, c] : Fin 3 → ℕ) a + S256x8x128.size a ≤ S256x8x256.size a := by
  intro a; fin_cases a
  · show 0 + 256 ≤ 256; omega
  · show 0 + 8 ≤ 8; omega
  · show c + 128 ≤ 256; omega
theorem wwQ (h : Fin 2) (l : Fin 2) :
    (Rect.unit (s := S256x16x256) ![0, 8 * h.val, 128 * l.val] S256x8x128.size (inbQ (by omega) (by omega))).WholeWords (EltTy.packing .bf16) := by
  have : ∀ (h : Fin 2) (l : Fin 2), ∀ hh, (Rect.unit (s := S256x16x256) ![0, 8 * h.val, 128 * l.val] S256x8x128.size hh).WholeWords (EltTy.packing .bf16) := by decide +kernel
  exact this h l _
theorem wwK (l : Fin 2) :
    (Rect.unit (s := S256x8x256) ![0, 0, 128 * l.val] S256x8x128.size (inbK (by omega))).WholeWords (EltTy.packing .bf16) := by
  have : ∀ (l : Fin 2), ∀ hh, (Rect.unit (s := S256x8x256) ![0, 0, 128 * l.val] S256x8x128.size hh).WholeWords (EltTy.packing .bf16) := by decide +kernel
  exact this l _
/-- Where half `l` of group `g`'s heads goes. -/
def hdDst : Fin 4 → Fin 2 → Memref sig .tc .hbm S256x8x128 .bf16
  | 0, l => b11.slice (Rect.unit (s := S256x16x256) ![0, 8 * (0 : Fin 2).val, 128 * l.val] S256x8x128.size (inbQ (by decide) (by omega))) (fun _ => rfl)
  | 1, l => b11.slice (Rect.unit (s := S256x16x256) ![0, 8 * (1 : Fin 2).val, 128 * l.val] S256x8x128.size (inbQ (by decide) (by omega))) (fun _ => rfl)
  | 2, l => b12.slice (Rect.unit (s := S256x8x256) ![0, 0, 128 * l.val] S256x8x128.size (inbK (by omega))) (fun _ => rfl)
  | 3, l => b13.slice (Rect.unit (s := S256x8x256) ![0, 0, 128 * l.val] S256x8x128.size (inbK (by omega))) (fun _ => rfl)
theorem weHd : ∀ (g : Fin 4) (l : Fin 2), (hdDst g l).view.WordExact
  | 0, l => (Memref.isWhole_whole _).wordExact_slice rfl _ (wwQ 0 l)
  | 1, l => (Memref.isWhole_whole _).wordExact_slice rfl _ (wwQ 1 l)
  | 2, l => (Memref.isWhole_whole _).wordExact_slice rfl _ (wwK l)
  | 3, l => (Memref.isWhole_whole _).wordExact_slice rfl _ (wwK l)
def startHd (g : Fin 4) (l : Fin 2) : PR F PUnit :=
  Prog.lift (.enqueueDma (obV g l) (.here (hdDst g l)) (.dma (oSem (3 + g.val) (by omega))) (weOb g l) (weHd g l) ⟨Or.inl rfl, trivial⟩)
def waitHd (g : Fin 4) (l : Fin 2) : PR F PUnit :=
  Prog.lift (.waitDma2 (oSem (3 + g.val) (by omega)) (obV g l) (hdDst g l) (weOb g l) (weHd g l))
/-- Start group `g`'s two copies if it is `w`'s turn. -/
def startIf (w : W) (k : W) (g : Fin 4) : PR F PUnit := do
  if h : Scalar.cmpi .ne (Scalar.extui (Scalar.cmpi .eq w k) : W) 0#32 = 1#1 then do startHd g 0; startHd g 1; pure ⟨⟩ else do pure ⟨⟩
  pure ⟨⟩

/-! ### The third pass's chunks -/
theorem iv3 : ∀ t : Fin k0_t3_loop.trips, (Scf.iv 0#32 1#32 t.val : W).toNat < 7 ∧ (56 ≤ (Scalar.addi 56#32 (Scf.iv 0#32 1#32 t.val) : W).toNat ∧ (Scalar.addi 56#32 (Scf.iv 0#32 1#32 t.val) : W).toNat < 84)
    ∧ (56 ≤ (Scalar.addi (Scalar.addi 56#32 (Scf.iv 0#32 1#32 t.val)) 1#32 : W).toNat ∧ (Scalar.addi (Scalar.addi 56#32 (Scf.iv 0#32 1#32 t.val)) 1#32 : W).toNat < 84)
    ∧ ∀ kt : Fin 2, (Scalar.addi (Scalar.muli (Scalar.addi (Scf.iv 0#32 1#32 t.val) 1#32) 2#32) (BitVec.ofNat 32 kt.val) : W).toNat < 14 := by decide +kernel
abbrev qW (c : W) (kt : Fin 2) : W := Scalar.addi (Scalar.muli (Scalar.addi c 1#32) 2#32) (BitVec.ofNat 32 kt.val)
/-- A chunk of the third pass's first group; the next activations quantised at its end. -/
def chunkC (c : W) (hc : c.toNat < 7) (h : K2 (Scalar.addi 56#32 c)) (h' : K2 (Scalar.addi (Scalar.addi 56#32 c) 1#32))
    (hq : ∀ kt, (qW c kt).toNat < 14) (s : Mxu F) : PR F (Mxu F) := do
  waitC (Scalar.addi (Scalar.addi 56#32 c) 1#32) h'
  startW (Scalar.addi (Scalar.addi 56#32 c) 11#32) (lt96 h.lt) do
    let s ← steps4 (lhsQ c hc) (srcC (Scalar.addi 56#32 c) h) (srcC (Scalar.addi (Scalar.addi 56#32 c) 1#32) h') s
    quantise (qW c 0) (hq 0)
    quantise (qW c 1) (hq 1)
    pure s
def loop3 (s : Mxu F) : PR F (Mxu F) :=
  Scf.Loop.for k0_t3_loop k0_t3_ok s fun t s =>
    chunkC (Scf.iv 0#32 1#32 t.val) (iv3 t).1 (iv3 t).2.1 (iv3 t).2.2.1 (iv3 t).2.2.2 s

/-- The eight steps of a chunk, the heads of the group before popped as their places are needed. -/
def steps4Pop (g : ℕ) (hg : g < 4) (ld : Fin 2 → PR F (Vec F S1x256x256 .bf16)) (S N : Src F) (s : Mxu F) : PR F (Mxu F) := do
  let s ← popRope g hg 0 s
  let s ← stepP ld 0 0 S 0 1 s
  let s ← popRope g hg 1 s
  let s ← stepP ld 0 1 S 0 2 s
  let s ← popRope g hg 2 s
  let s ← stepP ld 0 2 S 0 3 s
  let s ← popRope g hg 3 s
  let s ← stepP ld 0 3 S 1 0 s
  let s ← stepP ld 1 0 S 1 1 s
  let s ← stepP ld 1 1 S 1 2 s
  let s ← stepP ld 1 2 S 1 3 s
  stepP ld 1 3 N 0 0 s

/-- A plain chunk `x` of the third pass, over activation chunk `c`. -/
def chunkD (x c : W) (hc : c.toNat < 7) (h : K2 x) (h' : K2 (Scalar.addi x 1#32)) (s : Mxu F) : PR F (Mxu F) := do
  waitC (Scalar.addi x 1#32) h'
  startW (Scalar.addi x 11#32) (lt96 h.lt) <|
    steps4 (lhsQ c hc) (srcC x h) (srcC (Scalar.addi x 1#32) h') s

abbrev bW (g : W) : W := Scalar.addi (Scalar.addi 56#32 (Scalar.muli g 7#32)) 7#32
abbrev gW (t : ℕ) : W := Scf.iv 0#32 1#32 t
theorem iv4 : ∀ t : Fin k0_t4_loop.trips, (gW t.val).toNat < 4 ∧ (56 ≤ (Scalar.subi (bW (gW t.val)) 1#32).toNat ∧ (Scalar.subi (bW (gW t.val)) 1#32).toNat < 84)
   ∧ (56 ≤ (Scalar.addi (Scalar.subi (bW (gW t.val)) 1#32) 1#32).toNat ∧ (Scalar.addi (Scalar.subi (bW (gW t.val)) 1#32) 1#32).toNat < 84)
   ∧ (56 ≤ (bW (gW t.val)).toNat ∧ (bW (gW t.val)).toNat < 84)
   ∧ (56 ≤ (Scalar.addi (bW (gW t.val)) 1#32).toNat ∧ (Scalar.addi (bW (gW t.val)) 1#32).toNat < 84) := by decide +kernel
theorem iv5 : ∀ (t : Fin k0_t4_loop.trips) (u : Fin k0_t5_loop.trips), (Scf.iv 1#32 1#32 u.val : W).toNat < 7 ∧
   (56 ≤ (Scalar.addi (bW (gW t.val)) (Scf.iv 1#32 1#32 u.val)).toNat ∧ (Scalar.addi (bW (gW t.val)) (Scf.iv 1#32 1#32 u.val)).toNat < 84)
   ∧ (56 ≤ (Scalar.addi (Scalar.addi (bW (gW t.val)) (Scf.iv 1#32 1#32 u.val)) 1#32).toNat ∧ (Scalar.addi (Scalar.addi (bW (gW t.val)) (Scf.iv 1#32 1#32 u.val)) 1#32).toNat < 84) := by decide +kernel
def loop5 (t : Fin k0_t4_loop.trips) (s : Mxu F) : PR F (Mxu F) :=
  Scf.Loop.for k0_t5_loop k0_t5_ok s fun u s =>
    chunkD (Scalar.addi (bW (gW t.val)) (Scf.iv 1#32 1#32 u.val)) (Scf.iv 1#32 1#32 u.val) (iv5 t u).1 (iv5 t u).2.1 (iv5 t u).2.2 s
/-- The last chunk of a group, and the first of the next with the group's heads popped. -/
def group (t : Fin k0_t4_loop.trips) (s : Mxu F) : PR F (Mxu F) :=
  waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) <|
  (steps4 (lhsQ 6#32 (by decide)) (srcC (Scalar.subi (bW (gW t.val)) 1#32) (iv4 t).2.1) (srcC (Scalar.addi (Scalar.subi (bW (gW t.val)) 1#32) 1#32) (iv4 t).2.2.1) s) >>= fun s =>
  waitC (Scalar.addi (bW (gW t.val)) 1#32) (iv4 t).2.2.2.2 >>= fun _ =>
  startW (Scalar.addi (bW (gW t.val)) 11#32) (lt96 (K2.lt (iv4 t).2.2.2.1)) <|
  steps4Pop (gW t.val).toNat (iv4 t).1 (lhsQ 0#32 (by decide)) (srcC (bW (gW t.val)) (iv4 t).2.2.2.1) (srcC (Scalar.addi (bW (gW t.val)) 1#32) (iv4 t).2.2.2.2) s >>= fun s =>
  startIf (gW t.val) 0#32 0 >>= fun _ =>
  startIf (gW t.val) 1#32 1 >>= fun _ =>
  startIf (gW t.val) 2#32 2 >>= fun _ =>
  loop5 t s
def loop4 (s : Mxu F) : PR F (Mxu F) :=
  Scf.Loop.for k0_t4_loop k0_t4_ok s fun t s => group t s

/-! ### The segments between the loops -/
abbrev nW (n : ℕ) : W := BitVec.ofNat 32 n
theorem K0n {n : ℕ} (h : n < 28) : K0 (nW n) := by
  unfold K0; rw [BitVec.toNat_ofNat]; omega
theorem K1n {n : ℕ} (h : 28 ≤ n) (h' : n < 56) : K1 (nW n) := by
  unfold K1; rw [BitVec.toNat_ofNat]; omega
theorem K2n {n : ℕ} (h : 56 ≤ n) (h' : n < 84) : K2 (nW n) := by
  unfold K2; rw [BitVec.toNat_ofNat]; omega

/-- The copies of activation and weight chunks `i, …, i + n - 1` started, then `k`. -/
def startsHW {α : Type} (k : PR F α) : (n i : ℕ) → (i + n ≤ 28) → PR F α
  | 0, _, _ => k
  | n + 1, i, h => startH (nW i) (K0n (by omega)) >>= fun _ => startA (nW i) (K0n (by omega)) >>= fun _ => startsHW k n (i + 1) (by omega)
def startsH {α : Type} (k : PR F α) : (n i : ℕ) → (i + n ≤ 28) → PR F α
  | 0, _, _ => k
  | n + 1, i, h => startH (nW i) (K0n (by omega)) >>= fun _ => startsH k n (i + 1) (by omega)

def copyIn {S : Shape} {e : EltTy} (i : ℕ) (h : i < 5) (src : Memref sig .tc .hbm S e) (dst : Memref sig .tc .vmem S e)
    (hs : src.view.WordExact) (hd : dst.view.WordExact) : PR F PUnit :=
  Prog.lift (.enqueueDma src (.here dst) (.dma (iSem i h)) hs hd ⟨Or.inl rfl, trivial⟩)
def waitIn {S : Shape} {e : EltTy} (i : ℕ) (h : i < 5) (src : Memref sig .tc .hbm S e) (dst : Memref sig .tc .vmem S e)
    (hs : src.view.WordExact) (hd : dst.view.WordExact) : PR F PUnit :=
  Prog.lift (.waitDma2 (iSem i h) src dst hs hd)
abbrev we {sp : Space} {S : Shape} {e : EltTy} {b : Memref sig .tc sp S e} (h : b.IsWhole) : b.view.WordExact := h.wordExact

def hsRoll : PR F PUnit := do
  let _ ← ldW b19
  stW b19 (broadcast S256x128 (Scalar.ofBits .f32 0x00000000#32))
  let v ← Prog.lift (.load b18 (Rect.unit (s := S256x112) ![0, 0] S256x112.size inb_S256x112_S256x112_0_0).toLoadRect (View.loadsAt_vmem h_S256x112))
  let _ ← Prog.lift (.load b19 (Rect.unit (s := S256x128) ![0, 0] S256x112.size inb_S256x128_S256x112_0_0).toLoadRect (View.loadsAt_vmem h_S256x112))
  Prog.lift (.store b19 (Rect.unit (s := S256x128) ![0, 0] S256x112.size inb_S256x128_S256x112_0_0)
    (shapeCast S256x112 (v : Vec F S256x112 .f32) shapeCasts_S256x112_S256x112) Finset.univ (View.stores_vmem_bits_univ h_S256x112 rfl) (.inl rfl))

/-- Everything up to the first loop. -/
def segA : PR F (Mxu F) :=
  copyIn 0 (by decide) b1 b18 (Memref.isWhole_whole _).wordExact (Memref.isWhole_whole _).wordExact >>= fun _ =>
  startsHW (
    copyIn 1 (by decide) b4 b21 (Memref.isWhole_whole _).wordExact (Memref.isWhole_whole _).wordExact >>= fun _ =>
    copyIn 2 (by decide) b5 b22 (Memref.isWhole_whole _).wordExact (Memref.isWhole_whole _).wordExact >>= fun _ =>
    copyIn 3 (by decide) b8 b23 (Memref.isWhole_whole _).wordExact (Memref.isWhole_whole _).wordExact >>= fun _ =>
    copyIn 4 (by decide) b9 b24 (Memref.isWhole_whole _).wordExact (Memref.isWhole_whole _).wordExact >>= fun _ =>
    startsH (do
      waitIn 0 (by decide) b1 b18 (Memref.isWhole_whole _).wordExact (Memref.isWhole_whole _).wordExact
      hsRoll
      waitH (nW 0) (K0n (by decide))
      widenH (nW 0) (K0n (by decide))
      waitA (nW 0) (K0n (by decide))
      pushPair (srcA (nW 0) (K0n (by decide))) 0 0 Mxu.init) 17 11 (by decide)) 11 0 (by decide)

/-- The first product's first pass ended and its second begun, the first eight tiles popped; the
rotary tables. -/
def segB (s : Mxu F) : PR F (Mxu F) := do
  waitIn 1 (by decide) b4 b21 (Memref.isWhole_whole _).wordExact (Memref.isWhole_whole _).wordExact
  waitIn 2 (by decide) b5 b22 (Memref.isWhole_whole _).wordExact (Memref.isWhole_whole _).wordExact
  waitIn 3 (by decide) b8 b23 (Memref.isWhole_whole _).wordExact (Memref.isWhole_whole _).wordExact
  waitIn 4 (by decide) b9 b24 (Memref.isWhole_whole _).wordExact (Memref.isWhole_whole _).wordExact
  waitB (nW 28) (K1n (by decide) (by decide))
  startB (nW 38) (K1n (by decide) (by decide))
  let s ← steps4 (lhsD (nW 27) (by decide)) (srcA (nW 27) (K0n (by decide))) (srcB (nW 28) (K1n (by decide) (by decide))) s
  waitB (nW 29) (K1n (by decide) (by decide))
  startB (nW 39) (K1n (by decide) (by decide))
  let s ← popDown0 s
  let s ← popDown 1 1 0 s
  let s ← stepP (lhsD (nW 0) (by decide)) 0 0 (srcB (nW 28) (K1n (by decide) (by decide))) 0 1 s
  let s ← popDown 2 0 1 s
  let s ← popDown 3 1 1 s
  let s ← stepP (lhsD (nW 0) (by decide)) 0 1 (srcB (nW 28) (K1n (by decide) (by decide))) 0 2 s
  let s ← popDown 4 0 2 s
  let s ← popDown 5 1 2 s
  let s ← popDown 6 0 3 s
  let s ← popDown 7 1 3 s
  let s ← stepP (lhsD (nW 0) (by decide)) 0 2 (srcB (nW 28) (K1n (by decide) (by decide))) 1 0 s
  let s ← stepP (lhsD (nW 0) (by decide)) 1 0 (srcB (nW 28) (K1n (by decide) (by decide))) 1 1 s
  let s ← stepP (lhsD (nW 0) (by decide)) 1 1 (srcB (nW 28) (K1n (by decide) (by decide))) 1 2 s
  let s ← stepP (lhsD (nW 0) (by decide)) 1 2 (srcB (nW 29) (K1n (by decide) (by decide))) 0 0 s
  cosSin
  pure s

def segD (s : Mxu F) : PR F (Mxu F) := do
  waitC (nW 56) (K2n (by decide) (by decide))
  startC (nW 66) (K2n (by decide) (by decide))
  let s ← steps3 (lhsD (nW 27) (by decide)) (srcB (nW 55) (K1n (by decide) (by decide))) (srcC (nW 56) (K2n (by decide) (by decide))) s
  let s ← popDown 8 0 0 s
  let s ← popDown 9 1 0 s
  let s ← popDown 10 0 1 s
  let s ← popDown 11 1 1 s
  let s ← popDown 12 0 2 s
  let s ← popDown 13 1 2 s
  rsStage
  quantise (nW 0) (by decide)
  quantise (nW 1) (by decide)
  pure s

def startsXc {α : Type} (k : PR F α) : (n i : ℕ) → (i + n ≤ 14) → PR F α
  | 0, _, _ => k
  | n + 1, i, h => startXc ⟨i, by omega⟩ >>= fun _ => startsXc k n (i + 1) (by omega)
def segF (s : Mxu F) : PR F (Mxu F) :=
  startXs >>= fun _ => startsXc (pure s) 14 0 (by decide)

def waitsRoXc {α : Type} (k : PR F α) : (n i : ℕ) → (i + n ≤ 14) → PR F α
  | 0, _, _ => k
  | n + 1, i, h => waitRo ⟨i, by omega⟩ >>= fun _ => waitXc ⟨i, by omega⟩ >>= fun _ => waitsRoXc k n (i + 1) (by omega)

def segH (s : Mxu F) : PR F PUnit := do
  let s ← stepP (lhsQ (nW 6) (by decide)) 0 0 (srcC (nW 83) (K2n (by decide) (by decide))) 0 1 s
  let s ← stepP (lhsQ (nW 6) (by decide)) 0 1 (srcC (nW 83) (K2n (by decide) (by decide))) 0 2 s
  let s ← stepP (lhsQ (nW 6) (by decide)) 0 2 (srcC (nW 83) (K2n (by decide) (by decide))) 0 3 s
  let s ← stepP (lhsQ (nW 6) (by decide)) 0 3 (srcC (nW 83) (K2n (by decide) (by decide))) 1 0 s
  let s ← stepP (lhsQ (nW 6) (by decide)) 1 0 (srcC (nW 83) (K2n (by decide) (by decide))) 1 1 s
  let s ← stepP (lhsQ (nW 6) (by decide)) 1 1 (srcC (nW 83) (K2n (by decide) (by decide))) 1 2 s
  let s ← stepP (lhsQ (nW 6) (by decide)) 1 2 (srcC (nW 83) (K2n (by decide) (by decide))) 1 3 s
  let s ← accPair (lhsQ (nW 6) (by decide)) 1 3 s
  let s ← popLast 0 s
  let s ← popLast 1 s
  let s ← popLast 2 s
  let s ← popLast 3 s
  startHd 3 0
  startHd 3 1
  waitsRoXc (do
    waitXs
    waitHd 0 0
    waitHd 0 1
    waitHd 1 0
    waitHd 1 1
    waitHd 2 0
    waitHd 2 1
    waitHd 3 0
    waitHd 3 1
    s.exit
    pure ⟨⟩) 14 0 (by decide)

/-- The kernel's body. -/
def body : PR F PUnit :=
  segA >>= fun s => loop1 s >>= fun s => segB s >>= fun s => loop2 s >>= fun s => segD s >>= fun s =>
    loop3 s >>= fun s => segF s >>= fun s => loop4 s >>= fun s => segH s

end Cert.KernelIdeal.Hand
-- ==== Proof.ILogic.lean ====
module

public import proofs.«01_k».proof.Proof.IStages
public import Idealize.ShloMosaic.Lib.Pipeline.FrameBody
public import Idealize.ShloMosaic.Lib.MixedBatch
public import Idealize.ShloMosaic.Lib.Ring
public import Idealize.ShloMosaic.Lib.Tactic

/-! Triples for the kernel's programs: what is held before a program, the program, and what is held
after it, with the rules that compose them and one rule for each effect. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

/-- The counters of the kernel's own transfers. -/
abbrev EC : UEmb Counters (MT nD τ sig Unit (Elt F) ℕ (Pipeline.UD sig nD τ) ℕ) := countersEmb (U := Pipeline.UD sig nD τ)

/-- From `P`, the program `p` runs without fault and ends in `Q` of its value. -/
def T (c : Dev nD) {α : Type} (P : sProp 𝕄) (p : PR F α) (Q : α → sProp 𝕄) : Prop :=
  P ⊢ wp frame (wpE (defs₀ (F := F)) Variants.none (c : Thread nD τ) none) Set.univ p Q

theorem T.bind {α β : Type} {P : sProp 𝕄} {p : PR F α} {Q : α → sProp 𝕄} {k : α → PR F β} {R : β → sProp 𝕄}
    (h : T c P p Q) (hk : ∀ a, T c (Q a) (k a) R) : T c P (p >>= k) R := by
  unfold T at *; rw [wp_bind]; exact h.trans (wp_mono _ _ _ hk)
theorem T.ret {α : Type} {Q : α → sProp 𝕄} (a : α) : T c (Q a) (pure a : PR F α) Q := by
  unfold T; show _ ⊢ wp _ _ _ (.ret a) _; rw [wp_ret]; iintro H; imodintro; iexact H
theorem T.pre {α : Type} {P P' : sProp 𝕄} {p : PR F α} {Q : α → sProp 𝕄} (h : P ⊢ P') (ht : T c P' p Q) : T c P p Q := h.trans ht
theorem T.post {α : Type} {P : sProp 𝕄} {p : PR F α} {Q Q' : α → sProp 𝕄} (ht : T c P p Q) (h : ∀ a, Q a ⊢ Q' a) : T c P p Q' := by
  unfold T at *; exact ht.trans (wp_mono _ _ _ h)
theorem T.frame {α : Type} {P : sProp 𝕄} {p : PR F α} {Q : α → sProp 𝕄} (X : sProp 𝕄) (ht : T c P p Q) :
    T c iprop(P ∗ X) p (fun a => iprop(Q a ∗ X)) := by
  unfold T at *; exact (sep_mono ht .rfl).trans (wp_frame_r _ _ _)
theorem T.fact {α : Type} {φ : Prop} {P : sProp 𝕄} {p : PR F α} {Q : α → sProp 𝕄} (h : φ → T c P p Q) : T c iprop(⌜φ⌝ ∗ P) p Q := by
  unfold T at *; iintro ⟨%hφ, H⟩; iapply (h hφ); iexact H
theorem T.ex {α β : Type} {P : β → sProp 𝕄} {p : PR F α} {Q : α → sProp 𝕄} (h : ∀ b, T c (P b) p Q) : T c iprop(∃ b, P b) p Q := by
  unfold T at *; iintro ⟨%b, H⟩; iapply (h b); iexact H
/-- A program that keeps `R` and answers with a value satisfying `V`, then the rest. -/
theorem T.seq {α β : Type} {R : sProp 𝕄} {p : PR F α} {V : α → Prop} {k : α → PR F β} {Q : β → sProp 𝕄}
    (h : T c R p (fun a => iprop(⌜V a⌝ ∗ R))) (hk : ∀ a, V a → T c R (k a) Q) : T c R (p >>= k) Q :=
  h.bind fun a => T.fact (hk a)
theorem T.fupd {α : Type} {P P' : sProp 𝕄} {p : PR F α} {Q : α → sProp 𝕄} (h : P ⊢ iprop(|={Set.univ}=> P')) (ht : T c P' p Q) : T c P p Q := by
  unfold T at *
  iintro H
  imod h $$ H with H
  iapply ht; iexact H

/-! ### Buffers -/
/-- Elements `S` of `b`'s buffer held at share `q`, their contents satisfying `P`. -/
def Own (c : Dev nD) {sp : Space} {s : Shape} {e : EltTy} (b : Memref sig .tc sp s e) (S : Finset (Idx (b.view.loc (c : Thread nD τ))))
    (q : PosShare TreeShare) (P : Buf (Elt F) (b.view.loc (c : Thread nD τ)) → Prop) : sProp 𝕄 :=
  iprop(∃ f, ⌜P f⌝ ∗ (b.view.loc (c : Thread nD τ) ↦[S]{q} f))
/-- The same at any contents, at the full share. -/
abbrev Any (c : Dev nD) {sp : Space} {s : Shape} {e : EltTy} (b : Memref sig .tc sp s e) (S : Finset (Idx (b.view.loc (c : Thread nD τ)))) : sProp 𝕄 :=
  Own (F := F) c b S fullShare (fun _ => True)

/-- `R` lends elements `S` of `b`'s buffer for reading. -/
class Rd (c : Dev nD) (R : sProp 𝕄) {sp : Space} {s : Shape} {e : EltTy} (b : Memref sig .tc sp s e) (S : Finset (Idx (b.view.loc (c : Thread nD τ))))
    (P : outParam (Buf (Elt F) (b.view.loc (c : Thread nD τ)) → Prop)) : Prop where
  acc : R ⊢ iprop(∃ q f, ⌜P f⌝ ∗ (b.view.loc (c : Thread nD τ) ↦[S]{q} f) ∗ ((b.view.loc (c : Thread nD τ) ↦[S]{q} f) -∗ R))
/-- `R` lends elements `S` of `b`'s buffer for writing. -/
class Wr (c : Dev nD) (R : sProp 𝕄) {sp : Space} {s : Shape} {e : EltTy} (b : Memref sig .tc sp s e) (S : Finset (Idx (b.view.loc (c : Thread nD τ)))) : Prop where
  acc : R ⊢ iprop(∃ f, (b.view.loc (c : Thread nD τ) ↦[S]{fullShare} f) ∗ (∀ f', (b.view.loc (c : Thread nD τ) ↦[S]{fullShare} f') -∗ R))

section
variable {sp : Space} {s : Shape} {e : EltTy} {b : Memref sig .tc sp s e} {S : Finset (Idx (b.view.loc (c : Thread nD τ)))}
  {P : Buf (Elt F) (b.view.loc (c : Thread nD τ)) → Prop} {q : PosShare TreeShare}
instance Rd.own : Rd c (Own c b S q P) b S P where
  acc := by
    unfold Own; iintro ⟨%f, %h, H⟩; iexists q, f
    isplitr; · ipureintro; exact h
    isplitl [H]; · iexact H
    iintro H; iexists f; isplitr; · ipureintro; exact h
    iexact H
instance Wr.own : Wr c (Any (F := F) c b S) b S where
  acc := by
    unfold Any Own; iintro ⟨%f, -, H⟩; iexists f
    isplitl [H]; · iexact H
    iintro %f' H; iexists f'; isplitr; · ipureintro; trivial
    iexact H
instance (priority := 900) Rd.left {R R' : sProp 𝕄} [h : Rd (F := F) c R b S P] : Rd (F := F) c iprop(R ∗ R') b S P where
  acc := by
    refine (sep_mono h.acc .rfl).trans ?_
    iintro ⟨H, H'⟩
    icases H with ⟨%q, %f, %hp, H, Hk⟩
    iexists q, f; isplitr; · ipureintro; exact hp
    isplitl [H]; · iexact H
    iintro H; isplitl [H Hk]; · iapply Hk; iexact H
    iexact H'
instance (priority := 800) Rd.right {R R' : sProp 𝕄} [h : Rd (F := F) c R' b S P] : Rd (F := F) c iprop(R ∗ R') b S P where
  acc := by
    refine (sep_mono .rfl h.acc).trans ?_
    iintro ⟨H', H⟩
    icases H with ⟨%q, %f, %hp, H, Hk⟩
    iexists q, f; isplitr; · ipureintro; exact hp
    isplitl [H]; · iexact H
    iintro H; isplitl [H']; · iexact H'
    iapply Hk; iexact H
instance (priority := 900) Wr.left {R R' : sProp 𝕄} [h : Wr (F := F) c R b S] : Wr (F := F) c iprop(R ∗ R') b S where
  acc := by
    refine (sep_mono h.acc .rfl).trans ?_
    iintro ⟨H, H'⟩
    icases H with ⟨%f, H, Hk⟩
    iexists f
    isplitl [H]; · iexact H
    iintro %f' H; isplitl [H Hk]; · iapply Hk; iexact H
    iexact H'
instance (priority := 800) Wr.right {R R' : sProp 𝕄} [h : Wr (F := F) c R' b S] : Wr (F := F) c iprop(R ∗ R') b S where
  acc := by
    refine (sep_mono .rfl h.acc).trans ?_
    iintro ⟨H', H⟩
    icases H with ⟨%f, H, Hk⟩
    iexists f
    isplitl [H]; · iexact H
    iintro %f' H; isplitl [H']; · iexact H'
    iapply Hk; iexact H
end

/-- A load keeps what it is lent, and answers what the rectangle reads. -/
theorem T.load {cs : CoreSpace} {s : Shape} {e : EltTy} {b : Memref sig .tc cs s e} (S : Finset (Idx (b.view.loc (c : Thread nD τ))))
    {P : Buf (Elt F) (b.view.loc (c : Thread nD τ)) → Prop} {R : sProp 𝕄} {r : LoadRect s} {hl : b.view.LoadsAt r}
    [h : Rd c R b S P] (hS : b.view.setOn r.set ⊆ S) :
    T c R (Prog.lift (.load b r hl)) (fun v => iprop(⌜∃ f, P f ∧ v = b.view.readAt (Elt F) r f⌝ ∗ R)) := by
  unfold T
  iintro H
  have ha := h.acc
  icases ha $$ H with ⟨%q, %f, %hp, H, Hk⟩
  iapply (wp_load Variants.none (c : Thread nD τ) none Set.univ hS) $$ H
  iintro H
  rw [wp_ret]; imodintro
  isplitr; · ipureintro; exact ⟨f, hp, rfl⟩
  iapply Hk; iexact H
/-- A store through what it is lent. -/
theorem T.store {cs : CoreSpace} {s : Shape} {e : EltTy} {b : Memref sig .tc cs s e} {S : Finset (Idx (b.view.loc (c : Thread nD τ)))}
    {R : sProp 𝕄} {r : Rect s} {w : r.shape.Idx → Elt F e} {Mk : Finset r.shape.Idx} {hx : (b.access r).Stores Mk} {hm : Mk = Finset.univ ∨ ∀ a, r.stride a = 1}
    [h : Wr c R b S] (hS : (b.access r).setOn Mk ⊆ S) :
    T c R (Prog.lift (.store b r w Mk hx hm)) (fun _ => R) := by
  unfold T
  iintro H
  have ha := h.acc
  icases ha $$ H with ⟨%f, H, Hk⟩
  iapply (wp_store (m := b) (r := r) (f := f) Variants.none (c : Thread nD τ) none Set.univ (S := S) hS) $$ H
  iintro H
  rw [wp_ret]; imodintro
  iapply Hk; iexact H
/-- A store into elements held alone, with what they then hold. -/
theorem T.storeOwn {cs : CoreSpace} {s : Shape} {e : EltTy} {b : Memref sig .tc cs s e} {S : Finset (Idx (b.view.loc (c : Thread nD τ)))}
    {P P' : Buf (Elt F) (b.view.loc (c : Thread nD τ)) → Prop} {r : Rect s} {w : r.shape.Idx → Elt F e} {Mk : Finset r.shape.Idx} {hx : (b.access r).Stores Mk} {hm : Mk = Finset.univ ∨ ∀ a, r.stride a = 1}
    (hS : (b.access r).setOn Mk ⊆ S) (hP : ∀ f, P f → P' ((b.access r).write (Elt F) f w Mk)) :
    T c (Own c b S fullShare P) (Prog.lift (.store b r w Mk hx hm)) (fun _ => Own c b S fullShare P') := by
  unfold T Own
  iintro ⟨%f, %hf, H⟩
  iapply (wp_store (m := b) (r := r) (f := f) Variants.none (c : Thread nD τ) none Set.univ (S := S) hS) $$ H
  iintro H
  rw [wp_ret]; imodintro
  iexists _; isplitr; · ipureintro; exact hP f hf
  iexact H
/-- A scalar read. -/
theorem T.sload {s : Shape} {e : EltTy} {b : Memref sig .tc .smem s e} (S : Finset (Idx (b.view.loc (c : Thread nD τ))))
    {P : Buf (Elt F) (b.view.loc (c : Thread nD τ)) → Prop} {R : sProp 𝕄} {r : Rect s} {hn : r.shape.numel = 1} {hl : e.packing = 1}
    [h : Rd c R b S P] (hS : (b.access r).set ⊆ S) :
    T c R (smemLoad b r hn hl) (fun v => iprop(⌜∃ f, P f ∧ ∃ x, v = (b.access r).read (Elt F) f x⌝ ∗ R)) := by
  unfold T
  iintro H
  have ha := h.acc
  icases ha $$ H with ⟨%q, %f, %hp, H, Hk⟩
  iapply (wp_load_rect (m := b) (r := r) (f := f) (q := q) Variants.none (c : Thread nD τ) none Set.univ (S := S) hS) $$ H
  iintro H
  rw [wp_ret]; imodintro
  isplitr; · ipureintro; exact ⟨f, hp, _, rfl⟩
  iapply Hk; iexact H

/-! ### Transfers -/
/-- A transfer in flight on cell `sm` which, once waited for, gives `B`. -/
def Fly (c : Dev nD) (sm : SemLoc sig) (N : ℕ) (B : sProp 𝕄) : sProp 𝕄 :=
  iprop(∃ D X, Transfers.Flight EC (c : Thread nD τ) sm () N D ∗ X ∗ ⌜iprop(D ∗ X) ⊢ B⌝)
/-- The waits so far. -/
def Owes (c : Dev nD) : sProp 𝕄 := iprop(∃ W, owes (c : Thread nD τ) 0 W)

theorem T.start {sp sp' : Space} {s : Shape} {e : EltTy} {src : Memref sig .tc sp s e} {dst : Memref sig .tc sp' s e} {sm : DmaSem sig}
    {hs : src.view.WordExact} {hd : dst.view.WordExact} {ht : DmaTarget.Typed (nD := nD) sp (.dma sm) (DmaTarget.here (p := Proc.tc) dst)}
    {q : PosShare TreeShare} {fs : Buf (Elt F) (src.view.loc (c : Thread nD τ))} {Ss : Finset (Idx (src.view.loc (c : Thread nD τ)))}
    {Sd : Finset (Idx (dst.view.loc (c : Thread nD τ)))} {B : sProp 𝕄} {N : ℕ} (hN : dst.view.dmaCredit = N) (hN0 : 0 < s.numel) (hSs : src.view.set ⊆ Ss) (hSd : dst.view.set ⊆ Sd)
    (hB : ∀ fd, iprop((dst.view.loc (c : Thread nD τ) ↦[Sd]{fullShare} (dst.view.write (Elt F) fd (src.view.read (Elt F) fs) Finset.univ))
        ∗ (src.view.loc (c : Thread nD τ) ↦[Ss]{q} fs)) ⊢ B) :
    T c iprop((src.view.loc (c : Thread nD τ) ↦[Ss]{q} fs) ∗ (∃ fd, dst.view.loc (c : Thread nD τ) ↦[Sd]{fullShare} fd) ∗ semVal ((c : Thread nD τ), SemLoc.dma sm) 0)
      (Prog.lift (.enqueueDma src (.here dst) (.dma sm) hs hd ht)) (fun _ => Fly c (.dma sm) N B) := by
  unfold T Fly
  iintro ⟨Hs, ⟨%fd, Hd⟩, Hv⟩
  icases (pointsTo_split_subset hSs).1 $$ Hs with ⟨Hs, Hr⟩
  iapply (Transfers.wp_dmaLocal (src := src) (dst := dst) (sm := SemLoc.dma sm) EC Variants.none (c : Thread nD τ) none () N hN (hN ▸ View.dmaCredit_pos _ hN0) hSd) $$ [Hs Hd Hv]
  · isplitl [Hs]; · iexact Hs
    isplitl [Hd]; · iexact Hd
    iexact Hv
  iintro HF
  rw [wp_ret]; imodintro
  iexists _, _
  isplitl [HF]; · iexact HF
  isplitl [Hr]; · iexact Hr
  ipureintro
  iintro ⟨⟨Hd, Hs⟩, Hr⟩
  iapply (hB fd)
  isplitl [Hd]; · iexact Hd
  iapply (pointsTo_split_subset hSs).2
  isplitl [Hs]; · iexact Hs
  iexact Hr

theorem T.await {sp sp' : Space} {s : Shape} {e : EltTy} {src : Memref sig .tc sp s e} {dst : Memref sig .tc sp' s e} {sm : DmaSem sig}
    {hs : src.view.WordExact} {hd : dst.view.WordExact} {B : sProp 𝕄} {N : ℕ} (hN : dst.view.dmaCredit = N) :
    T c iprop(Fly c (.dma sm) N B ∗ Owes (F := F) c)
      (Prog.lift (.waitDma2 sm src dst hs hd)) (fun _ => iprop((B ∗ semVal ((c : Thread nD τ), SemLoc.dma sm) 0) ∗ Owes c)) := by
  unfold T Fly Owes
  iintro ⟨⟨%D, %X, HF, HX, %hB⟩, ⟨%W, HW⟩⟩
  iapply (Transfers.wp_waitLocal EC Variants.none (c : Thread nD τ) none () hN) $$ [HF HW]
  · isplitl [HF]; · iexact HF
    iexact HW
  iintro ⟨HD, Hv, HW⟩
  rw [wp_ret]; imodintro
  isplitl [HD HX Hv]
  · isplitl [HD HX]
    · iapply hB; isplitl [HD]; · iexact HD
      iexact HX
    iexact Hv
  iexists _; iexact HW

/-- The next transfer of a batch. -/
theorem T.startB {n : ℕ} {sp sp' : Space} {s : Shape} {e : EltTy} {src : Memref sig .tc sp s e} {dst : Memref sig .tc sp' s e} {sm : DmaSem sig}
    {hs : src.view.WordExact} {hd : dst.view.WordExact} {ht : DmaTarget.Typed (nD := nD) sp (.dma sm) (DmaTarget.here (p := Proc.tc) dst)}
    {D : Fin n → sProp 𝕄} {j : ℕ} {q : PosShare TreeShare} {fs : Buf (Elt F) (src.view.loc (c : Thread nD τ))} {fd : Buf (Elt F) (dst.view.loc (c : Thread nD τ))}
    (N : ℕ) (hN : dst.view.dmaCredit = N) (hj : j < n)
    (hD : iprop((dst.view.loc (c : Thread nD τ) ↦[dst.view.set]{fullShare} (dst.view.write (Elt F) fd (src.view.read (Elt F) fs) Finset.univ))
              ∗ (src.view.loc (c : Thread nD τ) ↦[src.view.set]{q} fs)) ⊢ D ⟨j, hj⟩) :
    T c iprop((src.view.loc (c : Thread nD τ) ↦[src.view.set]{q} fs) ∗ (dst.view.loc (c : Thread nD τ) ↦[dst.view.set]{fullShare} fd)
        ∗ Transfers.Batch EC (c : Thread nD τ) (.dma sm) () N D j 0)
      (Prog.lift (.enqueueDma src (.here dst) (.dma sm) hs hd ht)) (fun _ => Transfers.Batch EC (c : Thread nD τ) (.dma sm) () N D (j + 1) 0) := by
  unfold T
  have key := Transfers.wp_dmaBatch (src := src) (dst := dst) (sm := SemLoc.dma sm) (hsrc := hs) (hdst := hd) (hsem := ht) (via := .same) (k := fun _ => Prog.ret PUnit.unit)
    (Q := fun _ : PUnit => (Transfers.Batch EC (c : Thread nD τ) (.dma sm) () N D (j + 1) 0 : sProp 𝕄))
    EC Variants.none (c : Thread nD τ) (defs := defs₀ (F := F)) none () N hN (Finset.Subset.refl _) hj (Nat.zero_le _) hD
  refine key.trans ?_
  iintro Hk
  iapply Hk
  iintro HB
  rw [wp_ret]; imodintro
  iexact HB
/-- A wait on a batch all issued, not the last. -/
theorem T.awaitB {n : ℕ} {sp sp' : Space} {s : Shape} {e : EltTy} {src : Memref sig .tc sp s e} {dst : Memref sig .tc sp' s e} {sm : DmaSem sig}
    {hs : src.view.WordExact} {hd : dst.view.WordExact} {D : Fin n → sProp 𝕄} {N : ℕ} (hN : dst.view.dmaCredit = N) {u : ℕ} (hu : u + N < N * n) :
    T c iprop(Transfers.Batch EC (c : Thread nD τ) (.dma sm) () N D n u ∗ Owes (F := F) c)
      (Prog.lift (.waitDma2 sm src dst hs hd)) (fun _ => iprop(Transfers.Batch EC (c : Thread nD τ) (.dma sm) () N D n (u + N) ∗ Owes c)) := by
  unfold T Owes
  iintro ⟨HB, ⟨%W, HW⟩⟩
  iapply (Transfers.wp_waitBatch EC Variants.none (c : Thread nD τ) none () hN hu) $$ [HB HW]
  · isplitl [HB]; · iexact HB
    iexact HW
  iintro ⟨HD, HW⟩
  rw [wp_ret]; imodintro
  isplitl [HD]; · iexact HD
  iexists _; iexact HW
/-- The last. -/
theorem T.awaitLast {n : ℕ} {sp sp' : Space} {s : Shape} {e : EltTy} {src : Memref sig .tc sp s e} {dst : Memref sig .tc sp' s e} {sm : DmaSem sig}
    {hs : src.view.WordExact} {hd : dst.view.WordExact} {D : Fin n → sProp 𝕄} {N : ℕ} (hN : dst.view.dmaCredit = N) (hN0 : 0 < N) {u : ℕ} (hu : u + N = N * n) :
    T c iprop(Transfers.Batch EC (c : Thread nD τ) (.dma sm) () N D n u ∗ Owes (F := F) c)
      (Prog.lift (.waitDma2 sm src dst hs hd)) (fun _ => iprop((bigSep Finset.univ D ∗ semVal ((c : Thread nD τ), SemLoc.dma sm) 0) ∗ Owes c)) := by
  unfold T Owes
  iintro ⟨HB, ⟨%W, HW⟩⟩
  iapply (Transfers.wp_waitBatchLast EC Variants.none (c : Thread nD τ) none () hN hN0 hu) $$ [HB HW]
  · isplitl [HB]; · iexact HB
    iexact HW
  iintro ⟨HD, Hv, HW⟩
  rw [wp_ret]; imodintro
  isplitl [HD Hv]
  · isplitl [HD]; · iexact HD
    iexact Hv
  iexists _; iexact HW

end Cert.KernelIdeal.Hand
-- ==== Proof.IVals.lean ====
module

public import proofs.«01_k».proof.Proof.ILogic

/-! What is known of the values at each stage, as predicates with the laws that carry them from one
stage to the next: the proof of the body is stated over any such family. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

/-- The first half chunk of a pass of accumulation (`2 i + kt` numbers the halves of chunk `i`). -/
def first (m : ℕ) : Prop := m = 0 ∨ m = 56 ∨ 112 ≤ m

theorem sc28 (t : Fin 8) (b : Fin 2) : 2 * t.val + b.val < 28 := by omega
theorem half256 (a : Fin 2) : 128 * a.val + 128 ≤ 256 := by omega
theorem ka128 (kt a : Fin 2) : 2 * kt.val + a.val < 128 := by omega

/-- The contents of the arguments and what is known at each stage. -/
structure Vals0 (F : FTy → Type) [FloatOps F] (c : Dev nD) where
  w2 : Buf (Elt F) (b2.view.loc (c : Thread nD τ))
  w6 : Buf (Elt F) (b6.view.loc (c : Thread nD τ))
  s3 : Buf (Elt F) (b3.view.loc (c : Thread nD τ))
  s7 : Buf (Elt F) (b7.view.loc (c : Thread nD τ))
  h0 : Buf (Elt F) (b0.view.loc (c : Thread nD τ))
  hs1 : Buf (Elt F) (b1.view.loc (c : Thread nD τ))
  res4 : Buf (Elt F) (b4.view.loc (c : Thread nD τ))
  nw5 : Buf (Elt F) (b5.view.loc (c : Thread nD τ))
  pos8 : Buf (Elt F) (b8.view.loc (c : Thread nD τ))
  fr9 : Buf (Elt F) (b9.view.loc (c : Thread nD τ))
  /-- the ring once chunk `i` is in its slot -/
  HW : ℕ → Buf (Elt F) (b16.view.loc (c : Thread nD τ)) → Prop
  /-- a scale -/
  SC : ℕ → Fin 2 → Fin 2 → Fin 8 → Fin 2 → Elt F .f32 → Prop
  /-- a scaled block, a tile, a tile of activations, an accumulator -/
  BK : ℕ → Fin 2 → Fin 8 → Fin 2 → Fin 2 → FVec F S128x128 .bf16 → Prop
  Tl : ℕ → Fin 8 → FVec F S256x256 .bf16 → Prop
  LH : ℕ → FVec F S256x256 .bf16 → Prop
  Acc : ℕ → Fin 8 → FVec F S256x256 .f32 → Prop
  /-- the activations' codes and scales, and the scaled activations, `n` groups of columns in -/
  HH : ℕ → Buf (Elt F) (b17.view.loc (c : Thread nD τ)) → Prop
  HS : Buf (Elt F) (b18.view.loc (c : Thread nD τ)) → Prop
  HR : ℕ → Buf (Elt F) (b19.view.loc (c : Thread nD τ)) → Prop
  HL : ℕ → Buf (Elt F) (b20.view.loc (c : Thread nD τ)) → Prop
  /-- the residual, its sum's tiles, the result's tiles -/
  HRes : Buf (Elt F) (b21.view.loc (c : Thread nD τ)) → Prop
  HRt : Fin 14 → Buf (Elt F) (b25.view.loc (c : Thread nD τ)) → Prop
  RO : Fin 14 → Buf (Elt F) (b10.view.loc (c : Thread nD τ)) → Prop

variable (V : Vals0 F c)
namespace Vals0
abbrev hwA' : Prop := ∀ (x : W) (h : K0 x) (fd : Buf (Elt F) (b16.view.loc (c : Thread nD τ))), V.HW x.toNat ((slotV (rem12 x) (rem12_lt h.lt)).view.write (Elt F) fd ((blkA x h).view.read (Elt F) V.w2) Finset.univ)
abbrev hwB' : Prop := ∀ (x : W) (h : K1 x) (fd : Buf (Elt F) (b16.view.loc (c : Thread nD τ))), V.HW x.toNat ((slotV1 (rem12 x) (rem12_lt h.lt)).view.write (Elt F) fd ((blkB x h).view.read (Elt F) V.w2) Finset.univ)
abbrev hwC' : Prop := ∀ (x : W) (h : K2 x) (fd : Buf (Elt F) (b16.view.loc (c : Thread nD τ))), V.HW x.toNat ((slotV (rem12 x) (rem12_lt h.lt)).view.write (Elt F) fd ((blkC x h).view.read (Elt F) V.w6) Finset.univ)
abbrev scA' : Prop := ∀ (x : W) (h : K0 x) (kt a : Fin 2) (t : Fin 8) (b : Fin 2) y, V.SC x.toNat kt a t b ((b3.access (Rect.unit (s := S112x28) ![rs0 x kt a, 2 * t.val + b.val] S1x1.size (inbS0 h kt a (sc28 t b)))).read (Elt F) V.s3 y)
abbrev scB' : Prop := ∀ (x : W) (h : K1 x) (kt a : Fin 2) (t : Fin 8) (b : Fin 2) (hc : (if t.val < 6 then 16 + (2 * t.val + b.val) else 0) < 28) y, V.SC x.toNat kt a t b ((b3.access (Rect.unit (s := S112x28) ![rs0 (Scalar.subi x 28#32) kt a, if t.val < 6 then 16 + (2 * t.val + b.val) else 0] S1x1.size (inbS0 h.sub kt a hc))).read (Elt F) V.s3 y)
abbrev scC' : Prop := ∀ (x : W) (h : K2 x) (kt a : Fin 2) (t : Fin 8) (b : Fin 2) y, V.SC x.toNat kt a t b ((b7.access (Rect.unit (s := S28x64) ![rs2 x kt a, cs2 x t b] S1x1.size (inbS2 (rs2_lt h kt a) (cs2_lt h t b)))).read (Elt F) V.s7 y)
abbrev bk' : Prop := ∀ (i : ℕ) (h : i % 12 < 12) (kt : Fin 2) (t : Fin 8) (a b : Fin 2) (f : Buf (Elt F) (b16.view.loc (c : Thread nD τ))) y, V.HW i f → V.SC i kt a t b y → V.BK i kt t a b
    (scaled (b16.view.readAt (Elt F) (Rect.unit (s := S12x512x2048) ![i % 12, 256 * kt.val + 128 * a.val, 256 * t.val + 128 * b.val] S1x128x128.size (inbTile h (krow kt a) (tcol t b))).toLoadRect f) y)
abbrev tl' : Prop := ∀ (i : ℕ) (kt : Fin 2) (t : Fin 8) v00 v01 v10 v11, V.BK i kt t 0 0 v00 → V.BK i kt t 0 1 v01 → V.BK i kt t 1 0 v10 → V.BK i kt t 1 1 v11 → V.Tl (2 * i + kt.val) t (quad v00 v01 v10 v11)
abbrev acc0' : Prop := ∀ (m : ℕ) (t : Fin 8) (v w : FVec F S256x256 .bf16), first m → V.LH m v → V.Tl m t w → V.Acc m t (Mxu.Staged.pass ⟨.bf16, false, w⟩ v)
abbrev accS' : Prop := ∀ (m : ℕ) (t : Fin 8) (v w : FVec F S256x256 .bf16) (r : FVec F S256x256 .f32), m + 1 ≠ 56 → V.Acc m t r → V.LH (m + 1) v → V.Tl (m + 1) t w → V.Acc (m + 1) t (addf r (Mxu.Staged.pass ⟨.bf16, false, w⟩ v))
abbrev lhD' : Prop := ∀ (x : W) (h : x.toNat < 28) (kt : Fin 2) (n : ℕ) (f : Buf (Elt F) (b20.view.loc (c : Thread nD τ))), V.HL n f → 4 * (x.toNat + 1) ≤ n →
    V.LH (2 * x.toNat + kt.val) (shapeCast S256x256 (b20.view.readAt (Elt F) (Rect.unit (s := S56x256x256) ![lhsRow x kt, 0, 0] S1x256x256.size (inbLhs (lhsRow_lt h kt))).toLoadRect f) shapeCasts_S1x256x256_S256x256)
    ∧ V.LH (56 + (2 * x.toNat + kt.val)) (shapeCast S256x256 (b20.view.readAt (Elt F) (Rect.unit (s := S56x256x256) ![lhsRow x kt, 0, 0] S1x256x256.size (inbLhs (lhsRow_lt h kt))).toLoadRect f) shapeCasts_S1x256x256_S256x256)
abbrev lhC' : Prop := ∀ m v, 112 ≤ m → V.LH m v
abbrev hh' : Prop := ∀ (x : W) (h : K0 x) (fd : Buf (Elt F) (b17.view.loc (c : Thread nD τ))), V.HH x.toNat ((hV x.toNat h).view.write (Elt F) fd ((hSrc x h).view.read (Elt F) V.h0) Finset.univ)
abbrev hsL' : Prop := ∀ (fd : Buf (Elt F) (b18.view.loc (c : Thread nD τ))), V.HS (b18.view.write (Elt F) fd (b1.view.read (Elt F) V.hs1) Finset.univ)
abbrev hr0' : Prop := ∀ (f : Buf (Elt F) (b19.view.loc (c : Thread nD τ))) (g : Buf (Elt F) (b18.view.loc (c : Thread nD τ))), V.HS g → V.HR 0 ((b19.access (Rect.unit (s := S256x128) ![0, 0] S256x112.size inb_S256x128_S256x112_0_0)).write (Elt F) f
    (shapeCast S256x112 (b18.view.readAt (Elt F) (Rect.unit (s := S256x112) ![0, 0] S256x112.size inb_S256x112_S256x112_0_0).toLoadRect g) shapeCasts_S256x112_S256x112) Finset.univ)
abbrev hrS' : Prop := ∀ (i : ℕ) (f g : Buf (Elt F) (b19.view.loc (c : Thread nD τ))), V.HR i g → V.HR (i + 1) ((b19.access (Rect.unit (s := S256x128) ![0, 0] S256x128.size inb_S256x128_S256x128_0_0)).write (Elt F) f
    (shapeCast S256x128 (dynamicRotate 1 124#32 none (b19.view.readAt (Elt F) (Rect.unit (s := S256x128) ![0, 0] S256x128.size inb_S256x128_S256x128_0_0).toLoadRect g) rotates_S256x128_d1 : FVec F S256x128 .f32) shapeCasts_S256x128_S256x128) Finset.univ)
abbrev hl' : Prop := ∀ (x : W) (h : K0 x) (kt a : Fin 2) (f : Buf (Elt F) (b20.view.loc (c : Thread nD τ))) (g : Buf (Elt F) (b17.view.loc (c : Thread nD τ))) (r : Buf (Elt F) (b19.view.loc (c : Thread nD τ))), V.HL (4 * x.toNat + 2 * kt.val + a.val) f → V.HH x.toNat g → V.HR x.toNat r → V.HL (4 * x.toNat + 2 * kt.val + a.val + 1)
    ((b20.access (Rect.unit (s := S56x256x256) ![lhsRow x kt, 0, 128 * a.val] S1x256x128.size (inbLt (lhsRow_lt h kt) (half256 a)))).write (Elt F) f
      (shapeCast S1x256x128 (widenVal (b17.view.readAt (Elt F) (Rect.unit (s := S28x256x512) ![x.toNat, 0, 256 * kt.val + 128 * a.val] S1x256x128.size (inbHt h (ktCol kt a))).toLoadRect g)
        (b19.view.readAt (Elt F) (Rect.unit (s := S256x128) ![0, 2 * kt.val + a.val] S256x1.size (inbHr (ka128 kt a))).toLoadRect r)) shapeCasts_S256x128_S1x256x128) Finset.univ)
abbrev hl0' : Prop := ∀ f, V.HL 0 f
abbrev resL' : Prop := ∀ (fd : Buf (Elt F) (b21.view.loc (c : Thread nD τ))), V.HRes (b21.view.write (Elt F) fd (b4.view.read (Elt F) V.res4) Finset.univ)
abbrev rt' : Prop := ∀ (t : Fin 14) (tt : Fin 8) (m : ℕ) (f : Buf (Elt F) (b21.view.loc (c : Thread nD τ))) (g : Buf (Elt F) (b25.view.loc (c : Thread nD τ))) r, (m = 55 ∧ t.val = tt.val ∨ m = 111 ∧ t.val = 8 + tt.val) → V.HRes f → V.Acc m tt r →
    V.HRt t ((b25.access (Rect.unit (s := S14x256x256) ![t.val, 0, 0] S1x256x256.size (inbX t.2))).write (Elt F) g
      (shapeCast S1x256x256 (resSum (b21.view.readAt (Elt F) (Rect.unit (s := S256x3584) ![0, 256 * t.val] S256x256.size (inbRes (tc256 t))).toLoadRect f) r) shapeCasts_S256x256_S1x256x256) Finset.univ)
abbrev ro' : Prop := ∀ (t : Fin 14) (f : Buf (Elt F) (b25.view.loc (c : Thread nD τ))) (fd : Buf (Elt F) (b10.view.loc (c : Thread nD τ))), V.HRt t f → V.RO t ((roDst t).view.write (Elt F) fd ((rTile t).view.read (Elt F) f) Finset.univ)
end Vals0

/-- The laws. -/
structure Vals (F : FTy → Type) [FloatOps F] (c : Dev nD) extends Vals0 F c where
  hwA : toVals0.hwA'
  hwB : toVals0.hwB'
  hwC : toVals0.hwC'
  scA : toVals0.scA'
  scB : toVals0.scB'
  scC : toVals0.scC'
  bk : toVals0.bk'
  tl : toVals0.tl'
  acc0 : toVals0.acc0'
  accS : toVals0.accS'
  lhD : toVals0.lhD'
  lhC : toVals0.lhC'
  hh : toVals0.hh'
  hsL : toVals0.hsL'
  hr0 : toVals0.hr0'
  hrS : toVals0.hrS'
  hl : toVals0.hl'
  hl0 : toVals0.hl0'
  resL : toVals0.resL'
  rt : toVals0.rt'
  ro : toVals0.ro'

end Cert.KernelIdeal.Hand
-- ==== Proof.IMx.lean ====
module

public import proofs.«01_k».proof.Proof.IVals

/-! The two matrix units through the body: what their registers and accumulators hold, and the triples of
a push, an accumulation, a step and a chunk of steps. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable (V : Vals F c)

def tix (j : Fin 4) (q : Fin 2) : Fin 8 := ⟨2 * j.val + q.val, by omega⟩

/-- Unit `q`'s register holds column pair `j`'s tile of half chunk `m` or nothing; accumulator `j` has taken in half
chunks up to `m` or nothing. -/
def Mx (s : Mxu F) (Wt : Fin 2 → Option (ℕ × Fin 4)) (A : Fin 2 → Fin 4 → Option ℕ) : Prop :=
  (∀ q, match Wt q with
    | none => s.reg q 0 = none
    | some p => ∃ v, V.Tl p.1 (tix p.2 q) v ∧ s.reg q 0 = some ⟨.bf16, false, v⟩)
  ∧ (∀ q, s.reg q 1 = none)
  ∧ ∀ q j, match A q j with
    | none => ∀ r : Fin 256, s.live q (Mxu.row (fitsJ j) r) = false
    | some m => (∀ r : Fin 256, s.live q (Mxu.row (fitsJ j) r) = true) ∧ V.Acc m (tix j q) (s.read q (64 * j.val) (fitsJ j))

def upW (Wt : Fin 2 → Option (ℕ × Fin 4)) (q : Fin 2) (v : Option (ℕ × Fin 4)) : Fin 2 → Option (ℕ × Fin 4) := fun q' => if q' = q then v else Wt q'
def upA (A : Fin 2 → Fin 4 → Option ℕ) (q : Fin 2) (j : Fin 4) (v : Option ℕ) : Fin 2 → Fin 4 → Option ℕ := fun q' j' => if q' = q ∧ j' = j then v else A q' j'
/-- Accumulators `j` of both units. -/
def setJ (A : Fin 2 → Fin 4 → Option ℕ) (j : Fin 4) (v : Option ℕ) : Fin 2 → Fin 4 → Option ℕ := fun q' j' => if j' = j then v else A q' j'
theorem upA_pair (A : Fin 2 → Fin 4 → Option ℕ) (j : Fin 4) (v : Option ℕ) : upA (upA A 0 j v) 1 j v = setJ A j v := by
  funext q' j'; unfold upA setJ; fin_cases q' <;> simp
theorem upW_pair (Wt : Fin 2 → Option (ℕ × Fin 4)) (v : Option (ℕ × Fin 4)) : upW (upW Wt 0 v) 1 v = fun _ => v := by
  funext q'; unfold upW; fin_cases q' <;> simp

/-- When a half chunk `m` may be accumulated over what is there. -/
def okc (e : Option ℕ) (m : ℕ) : Prop := match e with
  | none => first m
  | some m0 => m = m0 + 1 ∧ m ≠ 56

variable {V}
theorem Mx.init : Mx V Mxu.init (fun _ => none) (fun _ _ => none) :=
  ⟨fun q => by simp, fun q => by simp, fun q j => by simp⟩
theorem Mx.pushOk {s : Mxu F} {Wt A} (h : Mx V s Wt A) {q : Fin 2} (hq : Wt q = none) : s.PushOk q 0 false := by
  have := h.1 q; rw [hq] at this; exact Mxu.pushOk_of_none s q 0 _ this
theorem Mx.push {s : Mxu F} {Wt A} (h : Mx V s Wt A) {q : Fin 2} (hq : Wt q = none) {m : ℕ} {j : Fin 4} {v : FVec F S256x256 .bf16} (hv : V.Tl m (tix j q) v) :
    Mx V (s.pushed q 0 false v) (upW Wt q (some (m, j))) A := by
  have hn : s.reg q 0 = none := by have := h.1 q; rw [hq] at this; exact this
  refine ⟨fun q' => ?_, fun q' => ?_, fun q' j' => ?_⟩
  · unfold upW
    by_cases e : q' = q
    · subst e; simp only [if_true]; exact ⟨v, hv, Mxu.reg_pushed_of_none s _ 0 _ _ hn⟩
    · rw [if_neg e, Mxu.reg_pushed_ne s q 0 _ _ q' 0 (fun hh => e hh.1)]; exact h.1 q'
  · rw [Mxu.reg_pushed_ne s q 0 _ _ q' 1 (by simp)]; exact h.2.1 q'
  · rw [Mxu.live_pushed, Mxu.read_pushed]; exact h.2.2 q' j'
theorem Mx.acc {s : Mxu F} {Wt A} (h : Mx V s Wt A) {q : Fin 2} {m : ℕ} {j : Fin 4} (hq : Wt q = some (m, j)) {v : FVec F S256x256 .bf16} (hv : V.LH m v) (ho : okc (A q j) m) :
    Mx V (s.accLhs q 0 (64 * j.val) v (fitsJ j)) (upW Wt q none) (upA A q j (some m)) := by
  have hw := h.1 q; rw [hq] at hw; obtain ⟨w, hw, hr⟩ := hw
  have hst : s.staged q 0 = ⟨.bf16, false, w⟩ := by rw [Mxu.staged_eq, hr]; rfl
  refine ⟨fun q' => ?_, fun q' => ?_, fun q' j' => ?_⟩
  · unfold upW
    by_cases e : q' = q
    · subst e; simp only [if_true]; exact Mxu.reg_accLhs s _ 0 _ _ _
    · rw [if_neg e, Mxu.reg_accLhs_ne s q 0 _ _ _ q' 0 (fun hh => e hh.1)]; exact h.1 q'
  · rw [Mxu.reg_accLhs_ne s q 0 _ _ _ q' 1 (by simp)]; exact h.2.1 q'
  · unfold upA
    by_cases e : q' = q ∧ j' = j
    · obtain ⟨rfl, rfl⟩ := e
      simp only [and_self, if_true]
      refine ⟨fun r => Mxu.live_accLhs_row s _ 0 _ _ _ r, ?_⟩
      have ha := h.2.2 q' j'
      cases hA : A q' j' with
      | none =>
        rw [hA] at ha ho
        rw [Mxu.read_accLhs_of_not_live s _ 0 _ _ _ ha, hst]
        exact V.acc0 _ _ _ _ ho hv hw
      | some m0 =>
        rw [hA] at ha ho
        obtain ⟨rfl, h56⟩ := ho
        rw [Mxu.read_accLhs_of_live s _ 0 _ _ _ ha.1, hst]
        exact V.accS _ _ _ _ _ h56 ha.2 hv hw
    · rw [if_neg e]
      have hne : q' ≠ q ∨ 4 * (64 * j'.val) + 256 ≤ 4 * (64 * j.val) ∨ 4 * (64 * j.val) + 256 ≤ 4 * (64 * j'.val) := by
        by_cases e1 : q' = q
        · have : j'.val ≠ j.val := fun hh => e ⟨e1, Fin.ext hh⟩
          right; omega
        · exact .inl e1
      have hl : ∀ r : Fin 256, (s.accLhs q 0 (64 * j.val) v (fitsJ j)).live q' (Mxu.row (fitsJ j') r) = s.live q' (Mxu.row (fitsJ j') r) := by
        intro r; rw [Mxu.live_accLhs]; refine if_neg ?_
        have := r.2
        rintro ⟨rfl, h1, h2⟩
        simp only [Mxu.row] at h1 h2
        rcases hne with h | h | h
        · exact h rfl
        · omega
        · omega
      have ha := h.2.2 q' j'
      cases hA : A q' j' with
      | none => rw [hA] at ha; exact fun r => (hl r).trans (ha r)
      | some m0 => rw [hA] at ha; exact ⟨fun r => (hl r).trans (ha.1 r), by rw [Mxu.read_accLhs_ne s q 0 _ _ _ q' _ _ hne]; exact ha.2⟩
theorem Mx.pop {s : Mxu F} {Wt A} (h : Mx V s Wt A) (q : Fin 2) (j : Fin 4) : Mx V (s.pop q (64 * j.val) 256 (fitsJ j)) Wt (upA A q j none) := by
  refine ⟨fun q' => by rw [Mxu.reg_pop]; exact h.1 q', fun q' => by rw [Mxu.reg_pop]; exact h.2.1 q', fun q' j' => ?_⟩
  unfold upA
  by_cases e : q' = q ∧ j' = j
  · obtain ⟨rfl, rfl⟩ := e
    simp only [and_self, if_true]
    exact fun r => Mxu.live_pop_row s _ _ _ r
  · rw [if_neg e]
    have hne : q' ≠ q ∨ 4 * (64 * j'.val) + 256 ≤ 4 * (64 * j.val) ∨ 4 * (64 * j.val) + 256 ≤ 4 * (64 * j'.val) := by
      by_cases e1 : q' = q
      · have : j'.val ≠ j.val := fun hh => e ⟨e1, Fin.ext hh⟩
        right; omega
      · exact .inl e1
    have hl : ∀ r : Fin 256, (s.pop q (64 * j.val) 256 (fitsJ j)).live q' (Mxu.row (fitsJ j') r) = s.live q' (Mxu.row (fitsJ j') r) := by
      intro r; rw [Mxu.live_pop]; refine if_neg ?_
      have := r.2
      rintro ⟨rfl, h1, h2⟩
      simp only [Mxu.row] at h1 h2
      rcases hne with h | h | h
      · exact h rfl
      · omega
      · omega
    have ha := h.2.2 q' j'
    cases hA : A q' j' with
    | none => rw [hA] at ha; exact fun r => (hl r).trans (ha r)
    | some m0 => rw [hA] at ha; exact ⟨fun r => (hl r).trans (ha.1 r), by rw [Mxu.read_pop_ne s q _ _ q' _ _ hne]; exact ha.2⟩
theorem Mx.drained {s : Mxu F} (h : Mx V s (fun _ => none) (fun _ _ => none)) : s.Drained := by
  refine ⟨fun q r => ?_, fun q R => ?_⟩
  · fin_cases r
    · show (s.reg q 0).isNone = true; have := h.1 q; simp only at this; rw [this]; rfl
    · show (s.reg q 1).isNone = true; rw [h.2.1 q]; rfl
  · have h' := h.2.2 q ⟨R.val / 256, by omega⟩ ⟨R.val % 256, by omega⟩
    have : R = Mxu.row (fitsJ ⟨R.val / 256, by omega⟩) (⟨R.val % 256, by omega⟩ : Fin 256) := by
      apply Fin.ext; simp only [Mxu.row]; omega
    rw [this]; exact h'

/-! ### Triples -/
theorem T.pushRhs {R : sProp 𝕄} {s : Mxu F} {q : Fin 2} (v : FVec F S256x256 .bf16) (h : s.PushOk q 0 false) :
    T c R (s.pushRhs q 0 false v : PR F (Mxu F)) (fun s' => iprop(⌜s' = s.pushed q 0 false v⌝ ∗ R)) := by
  unfold T
  have key := Mxu.wp_pushRhs (defs := defs₀ (F := F)) (Q := fun s' => iprop(⌜s' = s.pushed q 0 false v⌝ ∗ R)) (𝒱 := Variants.none) (c := (c : Thread nD τ)) (bd := none) (E := Set.univ) v h (k := fun s' => .ret s')
  refine .trans ?_ key
  iintro H; rw [wp_ret]; imodintro
  isplitr; · ipureintro; rfl
  iexact H

/-- The slot of chunk `i` in the ring. -/
def slotSet (i : ℕ) : Finset S12x512x2048.Idx :=
  (Rect.unit (s := S12x512x2048) ![i % 12, 0, 0] S1x512x2048.size (inbSlot (Nat.mod_lt _ (by decide)))).set
/-- Chunk `i`'s codes and scales can be read. -/
structure SrcOK (V : Vals F c) (R : sProp 𝕄) (S : Src F) (i : ℕ) : Prop where
  slot : S.slot = i % 12
  sc : ∀ kt a t b, T c R (S.sc kt a t b) (fun y => iprop(⌜V.SC i kt a t b y⌝ ∗ R))
  ring : Rd c R b16 (slotSet i) (V.HW i)
/-- The activations of half chunks `m0`, `m0 + 1` can be read. -/
def LhsOK (V : Vals F c) (R : sProp 𝕄) (ld : Fin 2 → PR F (Vec F S1x256x256 .bf16)) (m0 : ℕ) : Prop :=
  ∀ kt : Fin 2, T c R (ld kt) (fun v => iprop(⌜V.LH (m0 + kt.val) (shapeCast S256x256 v shapeCasts_S1x256x256_S256x256)⌝ ∗ R))

theorem setOn_whole {b : Ref sig .tc} (M : Finset b.ty.shape.Idx) : (View.whole b : View sig .tc _ _ _).setOn M = M := by
  ext i; simp only [View.setOn, Finset.mem_map]
  exact ⟨fun ⟨a, ha, e⟩ => e ▸ ha, fun h => ⟨i, h, rfl⟩⟩
theorem slotV_set (s : ℕ) (h : s < 12) : (slotV s h).view.set = (Rect.unit (s := S12x512x2048) ![s, 0, 0] S1x512x2048.size (inbSlot h)).set :=
  (View.set_reshape _ _).trans (View.set_slice_whole _ _)
theorem ring_sub {s r col : ℕ} (h : s < 12) (hr : r + 128 ≤ 512) (hc : col + 128 ≤ 2048) :
    b16.view.setOn (Rect.unit (s := S12x512x2048) ![s, r, col] S1x128x128.size (inbTile h hr hc)).toLoadRect.set ⊆ (slotV s h).view.set := by
  rw [slotV_set]; refine (subset_of_eq (setOn_whole _)).trans ?_
  refine Rect.set_subset_of_span _ _ (fun _ => rfl) fun a => ?_
  fin_cases a <;> simp <;> omega

theorem T.ringLoad {R : sProp 𝕄} {i : ℕ} (h3 : Rd c R b16 (slotSet i) (V.HW i)) (hs : i % 12 < 12) {r col : ℕ} (hr : r + 128 ≤ 512) (hc : col + 128 ≤ 2048) :
    T c R (ringLoad (i % 12) hs r col hr hc) (fun v => iprop(⌜∃ f, V.HW i f ∧ v = b16.view.readAt (Elt F) (Rect.unit (s := S12x512x2048) ![i % 12, r, col] S1x128x128.size (inbTile hs hr hc)).toLoadRect f⌝ ∗ R)) := by
  have hsub := ring_sub hs hr hc
  rw [slotV_set] at hsub
  unfold Hand.ringLoad
  exact T.load (c := c) (b := b16) (h := h3) (slotSet i) hsub
theorem T.blk {R : sProp 𝕄} {S : Src F} {i : ℕ} (hS : SrcOK V R S i) (kt : Fin 2) (t : Fin 8) (a b : Fin 2) :
    T c R (blk S kt t a b) (fun v => iprop(⌜V.BK i kt t a b v⌝ ∗ R)) := by
  obtain ⟨slot, hs, sc⟩ := S
  obtain ⟨h1, h2, h3⟩ := hS
  dsimp only at h1; subst h1
  unfold Hand.blk
  refine T.seq (T.ringLoad h3 hs (krow kt a) (tcol t b)) fun v hv => ?_
  obtain ⟨f, hf, rfl⟩ := hv
  refine T.seq (h2 kt a t b) fun y hy => ?_
  refine T.pre ?_ (T.ret _)
  iintro H; isplitr
  · ipureintro; exact V.bk i hs kt t a b f y hf hy
  · iexact H
theorem T.tile {R : sProp 𝕄} {S : Src F} {i : ℕ} (hS : SrcOK V R S i) (kt : Fin 2) (t : Fin 8) :
    T c R (tile S kt t) (fun v => iprop(⌜V.Tl (2 * i + kt.val) t v⌝ ∗ R)) := by
  have hb := fun a b : Fin 2 => T.blk hS kt t a b
  unfold Hand.tile
  refine T.seq (hb 0 0) fun v0 h0 => T.seq (hb 0 1) fun v1 h1 => T.seq (hb 1 0) fun v2 h2 => T.seq (hb 1 1) fun v3 h3 => ?_
  refine T.pre ?_ (T.ret _)
  iintro H; isplitr
  · ipureintro; exact V.tl i kt t _ _ _ _ h0 h1 h2 h3
  · iexact H
theorem T.pushTile {R : sProp 𝕄} {S : Src F} {i : ℕ} (hS : SrcOK V R S i) (kt : Fin 2) (j : Fin 4) (q : Fin 2) {t : Fin 8} (ht : t = tix j q) {s : Mxu F} {Wt A} (h : Mx V s Wt A) (hq : Wt q = none) :
    T c R (pushTile S kt t q s) (fun s' => iprop(⌜Mx V s' (upW Wt q (some (2 * i + kt.val, j))) A⌝ ∗ R)) := by
  subst ht
  unfold Hand.pushTile
  refine T.seq (T.tile hS kt _) fun v hv => ?_
  refine (T.pushRhs v (h.pushOk hq)).post fun s' => ?_
  iintro ⟨%e, H⟩; isplitr
  · ipureintro; rw [e]; exact h.push hq hv
  · iexact H
theorem T.pushPair {R : sProp 𝕄} {S : Src F} {i : ℕ} (hS : SrcOK V R S i) (kt : Fin 2) (j : Fin 4) {s : Mxu F} {A} (h : Mx V s (fun _ => none) A) :
    T c R (pushPair S kt j s) (fun s' => iprop(⌜Mx V s' (fun _ => some (2 * i + kt.val, j)) A⌝ ∗ R)) := by
  unfold Hand.pushPair
  refine T.seq (T.pushTile hS kt j 0 (Fin.ext rfl) h rfl) fun s1 h1 => ?_
  refine (T.pushTile hS kt j 1 (Fin.ext rfl) h1 (by simp [upW])).post fun s' => ?_
  rw [upW_pair]
theorem T.accOne {R : sProp 𝕄} {ld : Fin 2 → PR F (Vec F S1x256x256 .bf16)} {m0 : ℕ} (hl : LhsOK V R ld m0) (kt : Fin 2) (j : Fin 4) (q : Fin 2) {s : Mxu F} {Wt A} (h : Mx V s Wt A)
    (hq : Wt q = some (m0 + kt.val, j)) (ho : okc (A q j) (m0 + kt.val)) :
    T c R (accOne ld kt j q s) (fun s' => iprop(⌜Mx V s' (upW Wt q none) (upA A q j (some (m0 + kt.val)))⌝ ∗ R)) := by
  unfold Hand.accOne
  refine T.seq (hl kt) fun v hv => ?_
  refine T.pre ?_ (T.ret _)
  iintro H; isplitr
  · ipureintro; exact h.acc hq hv ho
  · iexact H
theorem T.accPair {R : sProp 𝕄} {ld : Fin 2 → PR F (Vec F S1x256x256 .bf16)} {m0 : ℕ} (hl : LhsOK V R ld m0) (kt : Fin 2) (j : Fin 4) {s : Mxu F} {A} (h : Mx V s (fun _ => some (m0 + kt.val, j)) A)
    (ho : ∀ q, okc (A q j) (m0 + kt.val)) :
    T c R (accPair ld kt j s) (fun s' => iprop(⌜Mx V s' (fun _ => none) (setJ A j (some (m0 + kt.val)))⌝ ∗ R)) := by
  unfold Hand.accPair
  refine T.seq (T.accOne hl kt j 0 h rfl (ho 0)) fun s1 h1 => ?_
  refine (T.accOne hl kt j 1 h1 (by simp [upW]) (by simpa [upA] using ho 1)).post fun s' => ?_
  rw [upW_pair, upA_pair]
theorem T.stepP {R : sProp 𝕄} {ld : Fin 2 → PR F (Vec F S1x256x256 .bf16)} {m0 : ℕ} (hl : LhsOK V R ld m0) {S : Src F} {i : ℕ} (hS : SrcOK V R S i) (kt : Fin 2) (j : Fin 4) (kt' : Fin 2) (j' : Fin 4)
    {s : Mxu F} {A A'} (h : Mx V s (fun _ => some (m0 + kt.val, j)) A) (ho : ∀ q, okc (A q j) (m0 + kt.val)) (hA : setJ A j (some (m0 + kt.val)) = A') :
    T c R (stepP ld kt j S kt' j' s) (fun s' => iprop(⌜Mx V s' (fun _ => some (2 * i + kt'.val, j')) A'⌝ ∗ R)) := by
  subst hA
  unfold Hand.stepP
  exact T.seq (T.accPair hl kt j h ho) fun s1 h1 => T.pushPair hS kt' j' h1

/-- The accumulators by column pair. -/
def Ac (a b d e : Option ℕ) : Fin 2 → Fin 4 → Option ℕ := fun _ j => ![a, b, d, e] j
theorem Ac0 (a b d e v : Option ℕ) : setJ (Ac a b d e) 0 v = Ac v b d e := by funext q j; fin_cases j <;> rfl
theorem Ac1 (a b d e v : Option ℕ) : setJ (Ac a b d e) 1 v = Ac a v d e := by funext q j; fin_cases j <;> rfl
theorem Ac2 (a b d e v : Option ℕ) : setJ (Ac a b d e) 2 v = Ac a b v e := by funext q j; fin_cases j <;> rfl
theorem Ac3 (a b d e v : Option ℕ) : setJ (Ac a b d e) 3 v = Ac a b d v := by funext q j; fin_cases j <;> rfl

theorem T.steps4 {R : sProp 𝕄} {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e e)) (ho : okc e (2 * i)) (h56 : 2 * i + 1 ≠ 56) :
    T c R (steps4 ld S N s) (fun s' => iprop(⌜Mx V s' (fun _ => some (2 * i', 0)) (Ac (some (2 * i + 1)) (some (2 * i + 1)) (some (2 * i + 1)) (some (2 * i + 1)))⌝ ∗ R)) := by
  unfold Hand.steps4
  have h' : okc (some (2 * i)) (2 * i + 1) := ⟨rfl, h56⟩
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 0 3 h (fun _ => ho) (Ac2 ..)) fun s h => ?_
  refine T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  exact T.stepP hl hN 1 3 0 0 h (fun _ => h') (Ac3 ..)
theorem T.steps3 {R : sProp 𝕄} {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e none)) (ho : okc e (2 * i)) (h56 : 2 * i + 1 ≠ 56) :
    T c R (steps3 ld S N s) (fun s' => iprop(⌜Mx V s' (fun _ => some (2 * i', 0)) (Ac (some (2 * i + 1)) (some (2 * i + 1)) (some (2 * i + 1)) none)⌝ ∗ R)) := by
  unfold Hand.steps3
  have h' : okc (some (2 * i)) (2 * i + 1) := ⟨rfl, h56⟩
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 1 0 h (fun _ => ho) (Ac2 ..)) fun s h => ?_
  refine T.seq (T.stepP hl hS 1 0 1 1 h (fun _ => h') (Ac0 ..)) fun s h => ?_
  refine T.seq (T.stepP hl hS 1 1 1 2 h (fun _ => h') (Ac1 ..)) fun s h => ?_
  exact T.stepP hl hN 1 2 0 0 h (fun _ => h') (Ac2 ..)

end Cert.KernelIdeal.Hand
-- ==== Proof.IRing.lean ====
module

public import proofs.«01_k».proof.Proof.IMx

/-! The ring of twelve weight slots: a slot idle, its copy in flight, its chunk landed; what a start and a
wait do to it, and the step every chunk takes. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

/-- The weakest precondition of the body's programs. -/
abbrev WP (c : Dev nD) {α : Type} (p : PR F α) (Q : α → sProp 𝕄) : sProp 𝕄 :=
  wp frame (wpE (defs₀ (F := F)) Variants.none (c : Thread nD τ) none) Set.univ p Q
theorem T.use {α β : Type} {P : sProp 𝕄} {p : PR F α} {Q : α → sProp 𝕄} {k : α → PR F β} {R : β → sProp 𝕄} (h : T c P p Q) :
    P ⊢ iprop((∀ a, Q a -∗ WP c (k a) R) -∗ WP c (p >>= k) R) := by
  unfold T at h; unfold WP; rw [wp_bind]; exact h.trans (wp_wand _ _ _)
theorem T.done {α : Type} {P : sProp 𝕄} {p : PR F α} {Q R : α → sProp 𝕄} (h : T c P p Q) :
    P ⊢ iprop((∀ a, Q a -∗ R a) -∗ WP c p R) := by
  unfold T at h; exact h.trans (wp_wand _ _ _)
theorem T.mk {α : Type} {P : sProp 𝕄} {p : PR F α} {Q : α → sProp 𝕄} (h : P ⊢ WP c p Q) : T c P p Q := h
/-- A counted loop by its invariant. -/
theorem loopT {σ : Type} {l : Scf.Loop 32} {hok : l.OK} {init : σ} {body : Fin l.trips → σ → PR F σ} (I : ℕ → σ → sProp 𝕄)
    (hb : ∀ (k : Fin l.trips) (a : σ), T c (I k.val a) (body k a) (I (k.val + 1))) : T c (I 0 init) (Scf.Loop.for l hok init body) (I l.trips) := by
  unfold T
  have := Scf.wp_for frame (wpE (defs₀ (F := F)) Variants.none (c : Thread nD τ) none) Set.univ l.lb l.ub l.st hok init body I (fun k a => hb k a) (Q := I l.trips)
  refine .trans ?_ this
  iintro H; isplitl [H]; · iexact H
  iintro %a H; iexact H

/-- `f a`, …, `f (a + k - 1)`. -/
def Sq (f : ℕ → sProp 𝕄) : ℕ → ℕ → sProp 𝕄
  | _, 0 => iprop(emp)
  | a, k + 1 => iprop(f a ∗ Sq f (a + 1) k)
theorem Sq_cons (f : ℕ → sProp 𝕄) (a k : ℕ) : Sq f a (k + 1) = iprop(f a ∗ Sq f (a + 1) k) := rfl
theorem Sq_snoc (f : ℕ → sProp 𝕄) (a k : ℕ) : iprop(Sq f a k ∗ f (a + k)) ⊣⊢ Sq f a (k + 1) := by
  induction k generalizing a with
  | zero =>
    simp only [Sq, Nat.add_zero]
    constructor
    · iintro ⟨-, H⟩; isplitl [H]; · iexact H
      iempintro
    · iintro ⟨H, -⟩; isplitr; · iempintro
      iexact H
  | succ k ih =>
    have e : a + (k + 1) = a + 1 + k := by omega
    rw [Sq_cons, Sq_cons f a (k + 1), e]
    constructor
    · iintro ⟨⟨H, H'⟩, H''⟩; isplitl [H]; · iexact H
      iapply (ih (a + 1)).1; isplitl [H']; · iexact H'
      iexact H''
    · iintro ⟨H, H'⟩
      icases (ih (a + 1)).2 $$ H' with ⟨H', H''⟩
      isplitl [H H']
      · isplitl [H]; · iexact H
        iexact H'
      iexact H''
theorem Sq_mono {f g : ℕ → sProp 𝕄} (h : ∀ i, f i ⊢ g i) (a k : ℕ) : Sq f a k ⊢ Sq g a k := by
  induction k generalizing a with
  | zero => exact .rfl
  | succ k ih =>
    show iprop(f a ∗ Sq f (a + 1) k) ⊢ iprop(g a ∗ Sq g (a + 1) k)
    exact BIClass.sep_mono (h a) (ih _)
theorem Sq_shift {f g : ℕ → sProp 𝕄} (n : ℕ) (h : ∀ i, f (i + n) ⊢ g i) (a k : ℕ) : Sq f (a + n) k ⊢ Sq g a k := by
  induction k generalizing a with
  | zero => exact .rfl
  | succ k ih =>
    have := ih (a + 1)
    rw [show a + 1 + n = a + n + 1 by omega] at this
    show iprop(f (a + n) ∗ Sq f (a + n + 1) k) ⊢ iprop(g a ∗ Sq g (a + 1) k)
    exact BIClass.sep_mono (h a) this

theorem Fly.frame {sm : SemLoc sig} {N : ℕ} {B : sProp 𝕄} (X : sProp 𝕄) : iprop(Fly c sm N B ∗ X) ⊢ Fly c sm N iprop(B ∗ X) := by
  unfold Fly
  iintro ⟨⟨%D, %X', HF, HX, %hB⟩, H⟩
  iexists D, iprop(X' ∗ X)
  isplitl [HF]; · iexact HF
  isplitl [HX H]
  · isplitl [HX]; · iexact HX
    iexact H
  ipureintro
  iintro ⟨HD, HX, H⟩
  isplitl [HD HX]
  · iapply hB; isplitl [HD]; · iexact HD
    iexact HX
  iexact H

theorem Fly.mono {sm : SemLoc sig} {N : ℕ} {B B' : sProp 𝕄} (h : B ⊢ B') : Fly c sm N B ⊢ Fly c sm N B' := by
  unfold Fly
  iintro ⟨%D, %X', HF, HX, %hB⟩
  iexists D, X'
  isplitl [HF]; · iexact HF
  isplitl [HX]; · iexact HX
  ipureintro; exact hB.trans h

/-! ### Slots -/
variable (V : Vals F c)
/-- Read share `s` of the two weight arrays. -/
def TK (s : ℕ) : sProp 𝕄 :=
  iprop((b2.view.loc (c : Thread nD τ) ↦[Finset.univ]{Transfers.shareTokN fullShare s} V.w2) ∗ (b6.view.loc (c : Thread nD τ) ↦[Finset.univ]{Transfers.shareTokN fullShare s} V.w6))
abbrev wSemI (i : ℕ) : DmaSem sig := wSem (i % 12) (Nat.mod_lt _ (by decide))
def cred (i : ℕ) : ℕ := if 28 ≤ i ∧ i < 56 then (slotV1 0 (by decide)).view.dmaCredit else (slotV 0 (by decide)).view.dmaCredit
/-- Slot of chunk `i` free. -/
def Idle (i : ℕ) : sProp 𝕄 := iprop(Any c b16 (slotSet i) ∗ semVal ((c : Thread nD τ), SemLoc.dma (wSemI i)) 0 ∗ TK V (i % 12))
/-- Chunk `i` in its slot. -/
abbrev Landed (i : ℕ) : sProp 𝕄 := iprop(Own c b16 (slotSet i) fullShare (V.HW i) ∗ semVal ((c : Thread nD τ), SemLoc.dma (wSemI i)) 0 ∗ TK V (i % 12))
/-- Chunk `i` on its way, or nothing past the last. -/
def Fl (i : ℕ) : sProp 𝕄 :=
  if i < 84 then Fly c (.dma (wSemI i)) (cred i) iprop(Own c b16 (slotSet i) fullShare (V.HW i) ∗ TK V (i % 12)) else Idle V i
def Ring (n : ℕ) : sProp 𝕄 := iprop(Landed V n ∗ Sq (Fl V) (n + 1) 10 ∗ Idle V (n + 11))

variable {V}
theorem slotSet_congr {i j : ℕ} (h : i % 12 = j % 12) : slotSet i = slotSet j := by unfold slotSet; simp only [h]
theorem Idle_congr {i j : ℕ} (h : i % 12 = j % 12) : Idle V i = Idle V j := by unfold Idle wSemI; rw [slotSet_congr h]; simp only [h]
theorem Any_of {sp : Space} {s : Shape} {e : EltTy} {b : Memref sig .tc sp s e} {S : Finset (Idx (b.view.loc (c : Thread nD τ)))} {P : Buf (Elt F) (b.view.loc (c : Thread nD τ)) → Prop} :
    Own (F := F) c b S fullShare P ⊢ Any c b S := by
  unfold Any Own; iintro ⟨%f, -, H⟩; iexists f; isplitr; · ipureintro; trivial
  iexact H
theorem Landed_idle (n : ℕ) : Landed V n ⊢ Idle V (n + 12) := by
  rw [Idle_congr (show (n + 12) % 12 = n % 12 by omega)]
  exact sep_mono Any_of .rfl
theorem Ring_next (n : ℕ) : iprop(Landed V n ∗ Landed V (n + 1) ∗ Sq (Fl V) (n + 2) 10) ⊢ Ring V (n + 1) := by
  unfold Ring
  iintro ⟨H1, H2, H3⟩
  isplitl [H2]; · iexact H2
  isplitl [H3]; · iexact H3
  iapply (Landed_idle n); iexact H1

theorem rem12_eq {x : W} (h : x.toNat < 96) : rem12 x = x.toNat % 12 :=
  allWords 96 (fun x => rem12 x = x.toNat % 12) (by decide +kernel) h
theorem slot1_sub (s : ℕ) (h : s < 12) : (slotV1 s h).view.set ⊆ (Rect.unit (s := S12x512x2048) ![s, 0, 0] S1x512x2048.size (inbSlot h)).set := by
  refine (subset_of_eq ((View.set_reshape _ _).trans (View.set_slice_whole _ _))).trans ?_
  refine Rect.set_subset_of_span _ _ (fun _ => rfl) fun a => ?_
  fin_cases a <;> simp

/-- The start of a copy into slot `s`. -/
theorem startAux {i s : ℕ} (hs : s < 12) (e : s = i % 12) {S : Shape} {dst : Memref sig .tc .vmem S .fp8e4m3} {src : Memref sig .tc .hbm S .fp8e4m3}
    {h1 : src.view.WordExact} {h2 : dst.view.WordExact} {h3 : DmaTarget.Typed (nD := nD) .hbm (.dma (wSem s hs)) (DmaTarget.here (p := Proc.tc) dst)}
    (Sd : Finset (Idx (dst.view.loc (c : Thread nD τ)))) (hsub : dst.view.set ⊆ Sd)
    (w : Buf (Elt F) (src.view.loc (c : Thread nD τ))) (q : PosShare TreeShare) (B : sProp 𝕄) (Pre : sProp 𝕄) {N : ℕ} (hN : dst.view.dmaCredit = N) (hN0 : 0 < S.numel)
    (hP : Pre ⊢ iprop((∃ fd, dst.view.loc (c : Thread nD τ) ↦[Sd]{fullShare} fd)))
    (hB : ∀ fd, iprop((dst.view.loc (c : Thread nD τ) ↦[Sd]{fullShare} (dst.view.write (Elt F) fd (src.view.read (Elt F) w) Finset.univ))
        ∗ (src.view.loc (c : Thread nD τ) ↦[Finset.univ]{q} w)) ⊢ B) :
    T c iprop(Pre ∗ semVal ((c : Thread nD τ), SemLoc.dma (wSemI i)) 0 ∗ (src.view.loc (c : Thread nD τ) ↦[Finset.univ]{q} w))
      (Prog.lift (.enqueueDma src (.here dst) (.dma (wSem s hs)) h1 h2 h3)) (fun _ => Fly c (.dma (wSemI i)) N B) := by
  subst e
  refine T.pre ?_ (T.start hN hN0 (Finset.subset_univ _) hsub hB)
  iintro ⟨HP, Hv, Hs⟩
  isplitl [Hs]; · iexact Hs
  isplitl [HP]; · iapply hP; iexact HP
  iexact Hv

theorem Own_intro {sp : Space} {s : Shape} {e : EltTy} {b : Memref sig .tc sp s e} {S : Finset (Idx (b.view.loc (c : Thread nD τ)))} {q : PosShare TreeShare} {P : Buf (Elt F) (b.view.loc (c : Thread nD τ)) → Prop}
    {f : Buf (Elt F) (b.view.loc (c : Thread nD τ))} (h : P f) : (b.view.loc (c : Thread nD τ) ↦[S]{q} f) ⊢ Own (F := F) c b S q P := by
  unfold Own; iintro H; iexists f; isplitr; · ipureintro; exact h
  iexact H
theorem Any_elim {sp : Space} {s : Shape} {e : EltTy} {b : Memref sig .tc sp s e} {S : Finset (Idx (b.view.loc (c : Thread nD τ)))} {q : PosShare TreeShare} {P : Buf (Elt F) (b.view.loc (c : Thread nD τ)) → Prop} :
    Own (F := F) c b S q P ⊢ iprop(∃ f, b.view.loc (c : Thread nD τ) ↦[S]{q} f) := by
  unfold Own; iintro ⟨%f, -, H⟩; iexists f; iexact H

theorem numel_pos2 : 0 < S512x2048.numel := by decide +kernel
theorem numel_pos1 : 0 < S512x1536.numel := by decide +kernel

theorem T.goA (x : W) (h : K0 x) : T c (Idle V x.toNat) (startA x h) (fun _ => Fl V x.toNat) := by
  have e : rem12 x = x.toNat % 12 := rem12_eq (by have := h.lt; omega)
  unfold Fl; rw [if_pos h.lt]
  have hc : cred x.toNat = (slotV 0 (by decide)).view.dmaCredit := by unfold cred; rw [if_neg (by have := h; unfold K0 at this; omega)]
  have hset : (slotV (rem12 x) (rem12_lt h.lt)).view.set ⊆ slotSet x.toNat := by
    rw [slotV_set]; unfold slotSet; simp only [e]; exact fun _ h => h
  unfold Hand.startA
  refine T.pre ?_ ((T.frame (b6.view.loc (c : Thread nD τ) ↦[Finset.univ]{Transfers.shareTokN fullShare (x.toNat % 12)} V.w6)
    (startAux (dst := slotV (rem12 x) (rem12_lt h.lt)) (src := blkA x h) (rem12_lt h.lt) e (slotSet x.toNat) hset V.w2 (Transfers.shareTokN fullShare (x.toNat % 12))
      iprop(Own c b16 (slotSet x.toNat) fullShare (V.HW x.toNat) ∗ (b2.view.loc (c : Thread nD τ) ↦[Finset.univ]{Transfers.shareTokN fullShare (x.toNat % 12)} V.w2)) (Any c b16 (slotSet x.toNat)) hc.symm numel_pos2 Any_elim
      (fun fd => sep_mono (Own_intro (b := b16) (V.hwA x h fd)) .rfl))).post fun _ => ?_)
  · unfold Idle TK
    iintro ⟨HA, Hv, H2, H6⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H2]; · iexact H2
    iexact H3
theorem T.goB (x : W) (h : K1 x) : T c (Idle V x.toNat) (Hand.startB x h) (fun _ => Fl V x.toNat) := by
  have e : rem12 x = x.toNat % 12 := rem12_eq (by have := h.lt; omega)
  unfold Fl; rw [if_pos h.lt]
  have hc : cred x.toNat = (slotV1 0 (by decide)).view.dmaCredit := by unfold cred; rw [if_pos ⟨h.1, h.2⟩]
  have hset : (slotV1 (rem12 x) (rem12_lt h.lt)).view.set ⊆ slotSet x.toNat := by
    refine (slot1_sub _ _).trans ?_; unfold slotSet; simp only [e]; exact fun _ h => h
  unfold Hand.startB
  refine T.pre ?_ ((T.frame (b6.view.loc (c : Thread nD τ) ↦[Finset.univ]{Transfers.shareTokN fullShare (x.toNat % 12)} V.w6)
    (startAux (dst := slotV1 (rem12 x) (rem12_lt h.lt)) (src := blkB x h) (rem12_lt h.lt) e (slotSet x.toNat) hset V.w2 (Transfers.shareTokN fullShare (x.toNat % 12))
      iprop(Own c b16 (slotSet x.toNat) fullShare (V.HW x.toNat) ∗ (b2.view.loc (c : Thread nD τ) ↦[Finset.univ]{Transfers.shareTokN fullShare (x.toNat % 12)} V.w2)) (Any c b16 (slotSet x.toNat)) hc.symm numel_pos1 Any_elim
      (fun fd => sep_mono (Own_intro (b := b16) (V.hwB x h fd)) .rfl))).post fun _ => ?_)
  · unfold Idle TK
    iintro ⟨HA, Hv, H2, H6⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H2]; · iexact H2
    iexact H3
theorem T.goC (x : W) (h : K2 x) : T c (Idle V x.toNat) (startC x h) (fun _ => Fl V x.toNat) := by
  have e : rem12 x = x.toNat % 12 := rem12_eq (by have := h.lt; omega)
  unfold Fl; rw [if_pos h.lt]
  have hc : cred x.toNat = (slotV 0 (by decide)).view.dmaCredit := by unfold cred; rw [if_neg (by have := h.1; omega)]
  have hset : (slotV (rem12 x) (rem12_lt h.lt)).view.set ⊆ slotSet x.toNat := by
    rw [slotV_set]; unfold slotSet; simp only [e]; exact fun _ h => h
  unfold Hand.startC
  refine T.pre ?_ ((T.frame (b2.view.loc (c : Thread nD τ) ↦[Finset.univ]{Transfers.shareTokN fullShare (x.toNat % 12)} V.w2)
    (startAux (dst := slotV (rem12 x) (rem12_lt h.lt)) (src := blkC x h) (rem12_lt h.lt) e (slotSet x.toNat) hset V.w6 (Transfers.shareTokN fullShare (x.toNat % 12))
      iprop(Own c b16 (slotSet x.toNat) fullShare (V.HW x.toNat) ∗ (b6.view.loc (c : Thread nD τ) ↦[Finset.univ]{Transfers.shareTokN fullShare (x.toNat % 12)} V.w6)) (Any c b16 (slotSet x.toNat)) hc.symm numel_pos2 Any_elim
      (fun fd => sep_mono (Own_intro (b := b16) (V.hwC x h fd)) .rfl))).post fun _ => ?_)
  · unfold Idle TK
    iintro ⟨HA, Hv, H6, H2⟩
    isplitr [H6]
    · isplitl [HA]; · iexact HA
      isplitl [Hv]; · iexact Hv
      iexact H2
    iexact H6
  · refine (Fly.frame _).trans (Fly.mono ?_)
    unfold TK
    iintro ⟨⟨H1, H2⟩, H3⟩
    isplitl [H1]; · iexact H1
    isplitl [H3]; · iexact H3
    iexact H2
theorem T.waitA (x : W) (h : K0 x) : T c iprop(Fl V x.toNat ∗ Owes (F := F) c) (waitA x h) (fun _ => iprop(Landed V x.toNat ∗ Owes c)) := by
  have e : rem12 x = x.toNat % 12 := rem12_eq (by have := h.lt; omega)
  have hc : cred x.toNat = (slotV 0 (by decide)).view.dmaCredit := by unfold cred; rw [if_neg (by have := h; unfold K0 at this; omega)]
  have hsm : wSem (rem12 x) (rem12_lt h.lt) = wSemI x.toNat := by unfold wSemI; simp only [e]
  unfold Fl; rw [if_pos h.lt]
  unfold Hand.waitA
  rw [hsm]
  refine (T.await (src := blkA x h) (dst := slotV (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4
theorem T.waitB (x : W) (h : K1 x) : T c iprop(Fl V x.toNat ∗ Owes (F := F) c) (waitB x h) (fun _ => iprop(Landed V x.toNat ∗ Owes c)) := by
  have e : rem12 x = x.toNat % 12 := rem12_eq (by have := h.lt; omega)
  have hc : cred x.toNat = (slotV1 0 (by decide)).view.dmaCredit := by unfold cred; rw [if_pos ⟨h.1, h.2⟩]
  have hsm : wSem (rem12 x) (rem12_lt h.lt) = wSemI x.toNat := by unfold wSemI; simp only [e]
  unfold Fl; rw [if_pos h.lt]
  unfold Hand.waitB
  rw [hsm]
  refine (T.await (src := blkB x h) (dst := slotV1 (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4
theorem T.waitC (x : W) (h : K2 x) : T c iprop(Fl V x.toNat ∗ Owes (F := F) c) (waitC x h) (fun _ => iprop(Landed V x.toNat ∗ Owes c)) := by
  have e : rem12 x = x.toNat % 12 := rem12_eq (by have := h.lt; omega)
  have hc : cred x.toNat = (slotV 0 (by decide)).view.dmaCredit := by unfold cred; rw [if_neg (by have := h.1; omega)]
  have hsm : wSem (rem12 x) (rem12_lt h.lt) = wSemI x.toNat := by unfold wSemI; simp only [e]
  unfold Fl; rw [if_pos h.lt]
  unfold Hand.waitC
  rw [hsm]
  refine (T.await (src := blkC x h) (dst := slotV (rem12 x) (rem12_lt h.lt)) hc.symm).post fun _ => ?_
  iintro ⟨⟨⟨H1, H2⟩, H3⟩, H4⟩
  isplitr [H4]
  · isplitl [H1]; · iexact H1
    isplitl [H3]; · iexact H3
    iexact H2
  iexact H4

/-- The start of whichever chunk `x` is (none past the last). -/
theorem T.startW {α : Type} {x : W} {hx : x.toNat < 96} {X : sProp 𝕄} {k : PR F α} {Q : α → sProp 𝕄} (hk : T c iprop(Fl V x.toNat ∗ X) k Q) :
    T c iprop(Idle V x.toNat ∗ X) (Hand.startW x hx k) Q := by
  have n0 : ∀ P : sProp 𝕄, ¬ K0 x → T c P (startW0 x hx : PR F PUnit) (fun _ => P) := fun P hn => by
    unfold Hand.startW0; rw [dif_neg (fun hh => hn ((cnd0_iff hx).1 hh))]; exact T.ret (Q := fun _ => P) PUnit.unit
  have n1 : ∀ P : sProp 𝕄, ¬ K1 x → T c P (startW1 x hx : PR F PUnit) (fun _ => P) := fun P hn => by
    unfold Hand.startW1; rw [dif_neg (fun hh => hn ((cnd1_iff hx).1 hh))]; exact T.ret (Q := fun _ => P) PUnit.unit
  have n2 : ∀ P : sProp 𝕄, ¬ K2 x → T c P (startW2 x hx : PR F PUnit) (fun _ => P) := fun P hn => by
    unfold Hand.startW2; rw [dif_neg (fun hh => hn ((cnd2_iff hx).1 hh))]; exact T.ret (Q := fun _ => P) PUnit.unit
  unfold Hand.startW
  by_cases h0 : K0 x
  · have p0 : T c (Idle V x.toNat) (startW0 x hx) (fun _ => Fl V x.toNat) := by
      unfold Hand.startW0; rw [dif_pos ((cnd0_iff hx).2 h0)]
      exact ((T.goA x _).bind fun _ => T.ret (Q := fun _ => Fl V x.toNat) PUnit.unit)
    have h1 : ¬ K1 x := by unfold K0 at h0; unfold K1; omega
    have h2 : ¬ K2 x := by unfold K0 at h0; unfold K2; omega
    exact (p0.frame X).bind fun _ => (n1 _ h1).bind fun _ => (n2 _ h2).bind fun _ => hk
  by_cases h1 : K1 x
  · have p1 : T c (Idle V x.toNat) (startW1 x hx) (fun _ => Fl V x.toNat) := by
      unfold Hand.startW1; rw [dif_pos ((cnd1_iff hx).2 h1)]
      exact ((T.goB x _).bind fun _ => T.ret (Q := fun _ => Fl V x.toNat) PUnit.unit)
    have h2 : ¬ K2 x := by unfold K1 at h1; unfold K2; omega
    exact (n0 _ h0).bind fun _ => (p1.frame X).bind fun _ => (n2 _ h2).bind fun _ => hk
  by_cases h2 : K2 x
  · have p2 : T c (Idle V x.toNat) (startW2 x hx) (fun _ => Fl V x.toNat) := by
      unfold Hand.startW2; rw [dif_pos ((cnd2_iff hx).2 h2)]
      exact ((T.goC x _).bind fun _ => T.ret (Q := fun _ => Fl V x.toNat) PUnit.unit)
    exact (n0 _ h0).bind fun _ => (n1 _ h1).bind fun _ => (p2.frame X).bind fun _ => hk
  · have hF : Fl V x.toNat = Idle V x.toNat := by
      unfold Fl; rw [if_neg]; unfold K0 at h0; unfold K1 at h1; unfold K2 at h2; omega
    rw [hF] at hk
    exact (n0 _ h0).bind fun _ => (n1 _ h1).bind fun _ => (n2 _ h2).bind fun _ => hk

/-- Chunk `n` and the next at hand, the ten after on their way. -/
abbrev Ring2 (V : Vals F c) (n : ℕ) : sProp 𝕄 := iprop(Landed V n ∗ Landed V (n + 1) ∗ Sq (Fl V) (n + 2) 10)
/-- The next chunk awaited, the one eleven on not yet started. -/
def Mid (V : Vals F c) (n : ℕ) : sProp 𝕄 := iprop(Landed V n ∗ Landed V (n + 1) ∗ Sq (Fl V) (n + 2) 9 ∗ Idle V (n + 11))
theorem T.ringWait {n : ℕ} {X : sProp 𝕄} {w : PR F PUnit} (hw : T c iprop(Fl V (n + 1) ∗ Owes (F := F) c) w (fun _ => iprop(Landed V (n + 1) ∗ Owes c))) :
    T c iprop((Ring V n ∗ Owes (F := F) c) ∗ X) w (fun _ => iprop((Mid V n ∗ Owes c) ∗ X)) := by
  refine T.pre ?_ ((hw.frame iprop(Sq (Fl V) (n + 2) 9 ∗ Idle V (n + 11) ∗ Landed V n ∗ X)).post fun _ => ?_)
  · unfold Ring
    rw [Sq_cons]
    iintro ⟨⟨⟨HL, ⟨HF, HS⟩, HI⟩, HO⟩, HX⟩
    isplitl [HF HO]
    · isplitl [HF]; · iexact HF
      iexact HO
    isplitl [HS]; · iexact HS
    isplitl [HI]; · iexact HI
    isplitl [HL]; · iexact HL
    iexact HX
  · unfold Mid
    iintro ⟨⟨HL', HO⟩, HS, HI, HL, HX⟩
    isplitr [HX]
    · isplitr [HO]
      · isplitl [HL]; · iexact HL
        isplitl [HL']; · iexact HL'
        isplitl [HS]; · iexact HS
        iexact HI
      iexact HO
    iexact HX
theorem Ring2_of (n : ℕ) : iprop(Fl V (n + 11) ∗ Landed V n ∗ Landed V (n + 1) ∗ Sq (Fl V) (n + 2) 9) ⊢ Ring2 V n := by
  iintro ⟨HF, H1, H2, HS⟩
  isplitl [H1]; · iexact H1
  isplitl [H2]; · iexact H2
  have e : n + 11 = n + 2 + 9 := by omega
  rw [e]
  iapply (Sq_snoc (Fl V) (n + 2) 9).1
  isplitl [HS]; · iexact HS
  iexact HF
theorem T.ringGo {α : Type} {n : ℕ} {x : W} {hx : x.toNat < 96} (e : x.toNat = n + 11) {k : PR F α} {X : sProp 𝕄} {Q : α → sProp 𝕄}
    (hk : T c iprop((Ring2 V n ∗ Owes (F := F) c) ∗ X) k Q) : T c iprop((Mid V n ∗ Owes (F := F) c) ∗ X) (Hand.startW x hx k) Q := by
  have hk' : T c iprop(Fl V x.toNat ∗ ((Landed V n ∗ Landed V (n + 1) ∗ Sq (Fl V) (n + 2) 9) ∗ Owes (F := F) c ∗ X)) k Q := by
    refine T.pre ?_ hk
    rw [e]
    iintro ⟨HF, HL, HO, HX⟩
    isplitr [HX]
    · isplitr [HO]
      · iapply (Ring2_of n); isplitl [HF]; · iexact HF
        iexact HL
      iexact HO
    iexact HX
  refine T.pre ?_ (T.startW hk')
  rw [e]; unfold Mid
  iintro ⟨⟨⟨H1, H2, HS, HI⟩, HO⟩, HX⟩
  isplitl [HI]; · iexact HI
  isplitl [H1 H2 HS]
  · isplitl [H1]; · iexact H1
    isplitl [H2]; · iexact H2
    iexact HS
  isplitl [HO]; · iexact HO
  iexact HX
theorem T.ringGo' {n : ℕ} {X : sProp 𝕄} {w : PR F PUnit} (hw : T c (Idle V (n + 11)) w (fun _ => Fl V (n + 11))) :
    T c iprop((Mid V n ∗ Owes (F := F) c) ∗ X) w (fun _ => iprop((Ring2 V n ∗ Owes c) ∗ X)) := by
  refine T.pre ?_ ((hw.frame iprop((Landed V n ∗ Landed V (n + 1) ∗ Sq (Fl V) (n + 2) 9) ∗ Owes (F := F) c ∗ X)).post fun _ => ?_)
  · unfold Mid
    iintro ⟨⟨⟨H1, H2, HS, HI⟩, HO⟩, HX⟩
    isplitl [HI]; · iexact HI
    isplitl [H1 H2 HS]
    · isplitl [H1]; · iexact H1
      isplitl [H2]; · iexact H2
      iexact HS
    isplitl [HO]; · iexact HO
    iexact HX
  · iintro ⟨HF, HL, HO, HX⟩
    isplitr [HX]
    · isplitr [HO]
      · iapply (Ring2_of n); isplitl [HF]; · iexact HF
        iexact HL
      iexact HO
    iexact HX

/-! ### What the steps read -/
theorem srcA_ok {R : sProp 𝕄} {i : ℕ} {x : W} (h : K0 x) (e : x.toNat = i) [hr : Rd c R b16 (slotSet i) (V.HW i)] [h3 : Rd c R b3 Finset.univ (fun f => f = V.s3)] : SrcOK V R (srcA x h) i := by
  subst e
  refine ⟨rem12_eq (by have := h.lt; omega), fun kt a t b => ?_, hr⟩
  show T c R (scA x h (fun t b => 2 * t.val + b.val) (fun t b => by omega) kt a t b) _
  unfold scA
  refine T.post (T.sload (c := c) (b := b3) (h := h3) Finset.univ (by exact fun _ _ => Finset.mem_univ _)) fun y => ?_
  iintro ⟨%hy, H⟩
  isplitr
  · ipureintro; obtain ⟨f, rfl, y', rfl⟩ := hy; exact V.scA x h kt a t b y'
  · iexact H
theorem srcB_ok {R : sProp 𝕄} {i : ℕ} {x : W} (h : K1 x) (e : x.toNat = i) [hr : Rd c R b16 (slotSet i) (V.HW i)] [h3 : Rd c R b3 Finset.univ (fun f => f = V.s3)] : SrcOK V R (srcB x h) i := by
  subst e
  refine ⟨rem12_eq (by have := h.lt; omega), fun kt a t b => ?_, hr⟩
  show T c R (scA (Scalar.subi x 28#32) h.sub (fun t b => if t.val < 6 then 16 + (2 * t.val + b.val) else 0) (fun t b => by split <;> omega) kt a t b) _
  unfold scA
  refine T.post (T.sload (c := c) (b := b3) (h := h3) Finset.univ (by exact fun _ _ => Finset.mem_univ _)) fun y => ?_
  iintro ⟨%hy, H⟩
  isplitr
  · ipureintro; obtain ⟨f, rfl, y', rfl⟩ := hy; exact V.scB x h kt a t b (by split <;> omega) y'
  · iexact H
theorem srcC_ok {R : sProp 𝕄} {i : ℕ} {x : W} (h : K2 x) (e : x.toNat = i) [hr : Rd c R b16 (slotSet i) (V.HW i)] [h3 : Rd c R b7 Finset.univ (fun f => f = V.s7)] : SrcOK V R (srcC x h) i := by
  subst e
  refine ⟨rem12_eq (by have := h.lt; omega), fun kt a t b => ?_, hr⟩
  unfold srcC
  dsimp only
  refine T.post (T.sload (c := c) (b := b7) (h := h3) Finset.univ (by exact fun _ _ => Finset.mem_univ _)) fun y => ?_
  iintro ⟨%hy, H⟩
  isplitr
  · ipureintro; obtain ⟨f, rfl, y', rfl⟩ := hy; exact V.scC x h kt a t b y'
  · iexact H
theorem lhsD_okA {R : sProp 𝕄} {x : W} (h : x.toNat < 28) {n i : ℕ} (e : 2 * x.toNat = i) (hn : 4 * (x.toNat + 1) ≤ n) [hr : Rd c R b20 Finset.univ (V.HL n)] : LhsOK V R (lhsD x h) i := fun kt => by
  subst e
  refine (T.load (c := c) (b := b20) (h := hr) Finset.univ (Finset.subset_univ _)).post fun v => ?_
  iintro ⟨%hv, H⟩
  isplitr
  · ipureintro; obtain ⟨f, hf, rfl⟩ := hv; exact (V.lhD x h kt n f hf hn).1
  · iexact H
theorem lhsD_okB {R : sProp 𝕄} {x : W} (h : x.toNat < 28) {n i : ℕ} (e : 56 + 2 * x.toNat = i) (hn : 4 * (x.toNat + 1) ≤ n) [hr : Rd c R b20 Finset.univ (V.HL n)] : LhsOK V R (lhsD x h) i := fun kt => by
  subst e
  refine (T.load (c := c) (b := b20) (h := hr) Finset.univ (Finset.subset_univ _)).post fun v => ?_
  iintro ⟨%hv, H⟩
  isplitr
  · ipureintro; obtain ⟨f, hf, rfl⟩ := hv; rw [Nat.add_assoc]; exact (V.lhD x h kt n f hf hn).2
  · iexact H
theorem lhsQ_ok {R : sProp 𝕄} {x : W} (h : x.toNat < 7) {i : ℕ} (hi : 112 ≤ i) {P : Buf (Elt F) (b29.view.loc (c : Thread nD τ)) → Prop} [hr : Rd c R b29 Finset.univ P] : LhsOK V R (lhsQ x h) i := fun kt => by
  refine (T.load (c := c) (b := b29) (h := hr) Finset.univ (Finset.subset_univ _)).post fun v => ?_
  iintro ⟨%hv, H⟩
  isplitr
  · ipureintro; exact V.lhC _ _ (by omega)
  · iexact H

end Cert.KernelIdeal.Hand
-- ==== Proof.ISteps.lean ====
module

public import proofs.«01_k».proof.Proof.IRing

/-! The activations widened chunk by chunk, and the chunks of the first product. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

theorem T.seq' {α β : Type} {R R' : sProp 𝕄} {p : PR F α} {V : α → Prop} {k : α → PR F β} {Q : β → sProp 𝕄}
    (h : T c R p (fun a => iprop(⌜V a⌝ ∗ R'))) (hk : ∀ a, V a → T c R' (k a) Q) : T c R (p >>= k) Q :=
  h.bind fun a => T.fact (hk a)

variable (V : Vals F c)
/-- The accumulators before chunk `i` of a pass of four column pairs, its first tiles pushed; of three. -/
def MxA (i : ℕ) (s : Mxu F) : Prop := ∃ e, okc e (2 * i) ∧ Mx V s (fun _ => some (2 * i, 0)) (Ac e e e e)
def MxB (i : ℕ) (s : Mxu F) : Prop := ∃ e, okc e (2 * i) ∧ Mx V s (fun _ => some (2 * i, 0)) (Ac e e e none)

/-! ### The activations' copies -/
def hset (i : ℕ) : Finset S28x256x512.Idx :=
  (Rect.unit (s := S28x256x512) ![i % 28, 0, 0] S1x256x512.size (inbH (Nat.mod_lt _ (by decide)))).set
abbrev hSemI (i : ℕ) : DmaSem sig := hSem (i % 28) (Nat.mod_lt _ (by decide))
abbrev credH : ℕ := (hV 0 (by decide)).view.dmaCredit
abbrev HTk (i : ℕ) : sProp 𝕄 := iprop(b0.view.loc (c : Thread nD τ) ↦[Finset.univ]{Transfers.shareTokN fullShare (i % 28)} V.h0)
def HId (i : ℕ) : sProp 𝕄 := iprop(Any c b17 (hset i) ∗ semVal ((c : Thread nD τ), SemLoc.dma (hSemI i)) 0 ∗ HTk V i)
abbrev HLd (i : ℕ) : sProp 𝕄 := iprop(Own c b17 (hset i) fullShare (V.HH i) ∗ semVal ((c : Thread nD τ), SemLoc.dma (hSemI i)) 0 ∗ HTk V i)
def HFl (i : ℕ) : sProp 𝕄 := Fly c (.dma (hSemI i)) credH iprop(Own c b17 (hset i) fullShare (V.HH i) ∗ HTk V i)
/-- The first `k` landed, the rest on their way. -/
def HSt (k : ℕ) : sProp 𝕄 := iprop(Sq (HLd V) 0 k ∗ Sq (HFl V) k (28 - k))
abbrev B3 : sProp 𝕄 := Own c b3 Finset.univ fullShare (fun f => f = V.s3)
abbrev B7 : sProp 𝕄 := Own c b7 Finset.univ fullShare (fun f => f = V.s7)
abbrev B19 (n : ℕ) : sProp 𝕄 := Own c b19 Finset.univ fullShare (V.HR n)
abbrev B20 (n : ℕ) : sProp 𝕄 := Own c b20 Finset.univ fullShare (V.HL n)

variable {V}
theorem hV_set (s : ℕ) (h : s < 28) : (hV s h).view.set = (Rect.unit (s := S28x256x512) ![s, 0, 0] S1x256x512.size (inbH h)).set :=
  (View.set_reshape _ _).trans (View.set_slice_whole _ _)
theorem numel_posH : 0 < S256x512.numel := by decide +kernel
theorem T.goH (x : W) (h : K0 x) : T c (HId V x.toNat) (startH x h) (fun _ => HFl V x.toNat) := by
  have e : x.toNat % 28 = x.toNat := Nat.mod_eq_of_lt h
  have hset' : (hV x.toNat h).view.set ⊆ hset x.toNat := by
    refine (subset_of_eq (hV_set x.toNat h)).trans ?_
    unfold hset; simp only [e]; exact fun _ h => h
  have hsm : hSem x.toNat h = hSemI x.toNat := by unfold hSemI; simp only [e]
  unfold Hand.startH HFl
  rw [← hsm]
  refine T.pre ?_ (T.start (N := credH) (src := hSrc x h) (dst := hV x.toNat h) (fs := V.h0) (Ss := Finset.univ) (q := Transfers.shareTokN fullShare (x.toNat % 28)) (Sd := hset x.toNat) rfl numel_posH (Finset.subset_univ _) hset'
    (fun fd => sep_mono (Own_intro (b := b17) (V.hh x h fd)) .rfl))
  unfold HId
  rw [← hsm]
  iintro ⟨HA, Hv, H0⟩
  isplitl [H0]; · iexact H0
  isplitl [HA]; · iapply Any_elim; iexact HA
  iexact Hv
theorem T.waitH (x : W) (h : K0 x) : T c iprop(HFl V x.toNat ∗ Owes (F := F) c) (waitH x h) (fun _ => iprop(HLd V x.toNat ∗ Owes c)) := by
  have e : x.toNat % 28 = x.toNat := Nat.mod_eq_of_lt h
  have hsm : hSem x.toNat h = hSemI x.toNat := by unfold hSemI; simp only [e]
  unfold Hand.waitH HFl
  rw [hsm]
  refine (T.await (src := hSrc x h) (dst := hV x.toNat h) (N := credH) rfl).post fun _ => ?_
  iintro ⟨⟨⟨H1, H2⟩, H3⟩, H4⟩
  isplitr [H4]
  · isplitl [H1]; · iexact H1
    isplitl [H3]; · iexact H3
    iexact H2
  iexact H4
/-- The wait for the next of the activations' copies. -/
theorem T.waitHSt {x : W} {n : ℕ} (e : x.toNat = n) (h : K0 x) {X : sProp 𝕄} :
    T c iprop(Owes (F := F) c ∗ HSt V n ∗ X) (Hand.waitH x h) (fun _ => iprop(Owes c ∗ Sq (HLd V) 0 n ∗ HLd V n ∗ Sq (HFl V) (n + 1) (27 - n) ∗ X)) := by
  have h28 : n < 28 := e ▸ h
  have hw := T.waitH (V := V) (c := c) x h
  rw [e] at hw
  refine T.pre ?_ ((hw.frame iprop(Sq (HLd V) 0 n ∗ Sq (HFl V) (n + 1) (27 - n) ∗ X)).post fun _ => ?_)
  · unfold HSt
    rw [show 28 - n = (27 - n) + 1 by omega, Sq_cons]
    iintro ⟨HO, ⟨H1, H2, H3⟩, HX⟩
    isplitl [H2 HO]
    · isplitl [H2]; · iexact H2
      iexact HO
    isplitl [H1]; · iexact H1
    isplitl [H3]; · iexact H3
    iexact HX
  · iintro ⟨⟨HL, HO⟩, H1, H3, HX⟩
    isplitl [HO]; · iexact HO
    isplitl [H1]; · iexact H1
    isplitl [HL]; · iexact HL
    isplitl [H3]; · iexact H3
    iexact HX
theorem HSt_next {n : ℕ} (h : n < 28) : iprop(Sq (HLd V) 0 n ∗ HLd V n ∗ Sq (HFl V) (n + 1) (27 - n)) ⊢ HSt V (n + 1) := by
  unfold HSt
  rw [show 28 - (n + 1) = 27 - n by omega]
  iintro ⟨H1, H2, H3⟩
  isplitr [H3]
  · iapply (Sq_snoc (HLd V) 0 n).1
    rw [Nat.zero_add]
    isplitl [H1]; · iexact H1
    iexact H2
  iexact H3

/-! ### Widening -/
theorem hset_sub {s col : ℕ} (h : s < 28) (hc : col + 128 ≤ 512) :
    b17.view.setOn (Rect.unit (s := S28x256x512) ![s, 0, col] S1x256x128.size (inbHt h hc)).toLoadRect.set ⊆ hset s := by
  refine (subset_of_eq (setOn_whole _)).trans ?_
  unfold hset
  refine Rect.set_subset_of_span _ _ (fun _ => rfl) fun a => ?_
  have e : s % 28 = s := Nat.mod_eq_of_lt h
  fin_cases a <;> simp [e] <;> omega
theorem T.widenOne (x : W) (h : K0 x) (kt a : Fin 2) :
    T c iprop(B20 V (4 * x.toNat + 2 * kt.val + a.val) ∗ Own c b17 (hset x.toNat) fullShare (V.HH x.toNat) ∗ B19 V x.toNat) (widenOne x h kt a)
      (fun _ => iprop(B20 V (4 * x.toNat + 2 * kt.val + a.val + 1) ∗ Own c b17 (hset x.toNat) fullShare (V.HH x.toNat) ∗ B19 V x.toNat)) := by
  unfold Hand.widenOne widenHead
  refine T.seq (V := fun w => ∃ g r, V.HH x.toNat g ∧ V.HR x.toNat r ∧ w = widenVal (b17.view.readAt (Elt F) (Rect.unit (s := S28x256x512) ![x.toNat, 0, 256 * kt.val + 128 * a.val] S1x256x128.size (inbHt h (ktCol kt a))).toLoadRect g)
        (b19.view.readAt (Elt F) (Rect.unit (s := S256x128) ![0, 2 * kt.val + a.val] S256x1.size (inbHr (ka128 kt a))).toLoadRect r)) ?_ fun w hw => ?_
  · refine T.seq (T.load (c := c) (b := b17) (hset x.toNat) (hset_sub h (ktCol kt a))) fun v hv => ?_
    obtain ⟨g, hg, rfl⟩ := hv
    refine T.seq (T.load (c := c) (b := b19) Finset.univ (Finset.subset_univ _)) fun v hv => ?_
    obtain ⟨r, hr, rfl⟩ := hv
    refine T.pre ?_ (T.ret _)
    iintro H; isplitr
    · ipureintro; exact ⟨g, r, hg, hr, rfl⟩
    · iexact H
  · obtain ⟨g, r, hg, hr, rfl⟩ := hw
    refine T.seq (T.load (c := c) (b := b20) Finset.univ (Finset.subset_univ _)) fun v hv => ?_
    have hst := T.storeOwn (c := c) (b := b20) (S := Finset.univ) (P := V.HL (4 * x.toNat + 2 * kt.val + a.val)) (P' := V.HL (4 * x.toNat + 2 * kt.val + a.val + 1))
      (r := Rect.unit (s := S56x256x256) ![lhsRow x kt, 0, 128 * a.val] S1x256x128.size (inbLt (lhsRow_lt h kt) (half256 a)))
      (hx := View.stores_vmem h_S1x256x128 ((Memref.isWhole_whole _).storeExact_slice rfl _ (prLt (lhsRow_lt h kt) a)) (fun _ => rfl)) (hm := .inl rfl)
      (Finset.subset_univ _) (fun f hf => V.hl x h kt a f g r hf hg hr)
    exact hst.frame _
theorem T.widenH (x : W) (h : K0 x) :
    T c iprop(B20 V (4 * x.toNat) ∗ Own c b17 (hset x.toNat) fullShare (V.HH x.toNat) ∗ B19 V x.toNat) (widenH x h)
      (fun _ => iprop(B20 V (4 * (x.toNat + 1)) ∗ Own c b17 (hset x.toNat) fullShare (V.HH x.toNat) ∗ B19 V (x.toNat + 1))) := by
  unfold Hand.widenH
  refine (T.widenOne x h 0 0).bind fun _ => (T.widenOne x h 0 1).bind fun _ => (T.widenOne x h 1 0).bind fun _ => (T.widenOne x h 1 1).bind fun _ => ?_
  refine T.seq (T.load (c := c) (b := b19) Finset.univ (Finset.subset_univ _)) fun v hv => ?_
  obtain ⟨r, hr, rfl⟩ := hv
  refine T.seq (T.load (c := c) (b := b19) Finset.univ (Finset.subset_univ _)) fun v' _ => ?_
  have hst := (T.storeOwn (c := c) (b := b19) (S := Finset.univ) (P := V.HR x.toNat) (P' := V.HR (x.toNat + 1)) (hx := View.stores_vmem_bits_univ h_S256x128 rfl) (hm := .inl rfl)
    (r := Rect.unit (s := S256x128) ![0, 0] S256x128.size inb_S256x128_S256x128_0_0) (Finset.subset_univ _) (fun f _ => V.hrS x.toNat f r hr)).frame iprop(B20 V (4 * (x.toNat + 1)) ∗ Own c b17 (hset x.toNat) fullShare (V.HH x.toNat))
  refine T.pre ?_ (hst.post fun _ => ?_)
  · iintro ⟨H1, H2, H3⟩
    isplitl [H3]; · iexact H3
    isplitl [H1]; · iexact H1
    iexact H2
  · iintro ⟨H3, H1, H2⟩
    isplitl [H1]; · iexact H1
    isplitl [H2]; · iexact H2
    iexact H3

/-! ### The chunks -/
theorem MxA.next {i : ℕ} {s : Mxu F} (h : Mx V s (fun _ => some (2 * (i + 1), 0)) (Ac (some (2 * i + 1)) (some (2 * i + 1)) (some (2 * i + 1)) (some (2 * i + 1)))) (hi : i ≠ 27) : MxA V (i + 1) s :=
  ⟨some (2 * i + 1), ⟨by omega, by omega⟩, h⟩
theorem MxB.next {i : ℕ} {s : Mxu F} (h : Mx V s (fun _ => some (2 * (i + 1), 0)) (Ac (some (2 * i + 1)) (some (2 * i + 1)) (some (2 * i + 1)) none)) (hi : i ≠ 27) : MxB V (i + 1) s :=
  ⟨some (2 * i + 1), ⟨by omega, by omega⟩, h⟩

/-- What the first loop carries. -/
abbrev StA (V : Vals F c) (n : ℕ) : sProp 𝕄 := iprop((Ring V n ∗ Owes (F := F) c) ∗ B3 V ∗ HSt V (n + 1) ∗ B19 V (n + 1) ∗ B20 V (4 * (n + 1)))
theorem T.chunkA {x : W} {n : ℕ} (e : x.toNat = n) (h : K0 x) (h' : K0 (Scalar.addi x 1#32)) {s : Mxu F} (hM : MxA V n s) :
    T c (StA V n) (chunkA x h h' s) (fun s' => iprop(⌜MxA V (n + 1) s'⌝ ∗ StA V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hn : n + 1 < 28 := e1 ▸ h'
  have hw := T.waitA (V := V) (c := c) _ h'
  have hd := T.widenH (V := V) (c := c) _ h'
  rw [e1] at hw hd
  obtain ⟨e0, ho, hm⟩ := hM
  unfold Hand.chunkA
  refine T.pre ?_ ((T.waitHSt (V := V) e1 h' (X := iprop(Ring V n ∗ B3 V ∗ B19 V (n + 1) ∗ B20 V (4 * (n + 1))))).bind fun _ => ?_)
  · iintro ⟨⟨HR, HO⟩, H3, HS, H19, H20⟩
    isplitl [HO]; · iexact HO
    isplitl [HS]; · iexact HS
    isplitl [HR]; · iexact HR
    isplitl [H3]; · iexact H3
    isplitl [H19]; · iexact H19
    iexact H20
  refine T.pre ?_ ((T.ringWait (X := iprop(B3 V ∗ B20 V (4 * (n + 1)) ∗ Own c b17 (hset (n + 1)) fullShare (V.HH (n + 1)) ∗ B19 V (n + 1)
    ∗ (semVal ((c : Thread nD τ), SemLoc.dma (hSemI (n + 1))) 0 ∗ HTk V (n + 1)) ∗ Sq (HLd V) 0 (n + 1) ∗ Sq (HFl V) (n + 1 + 1) (27 - (n + 1)))) hw).bind fun _ => T.ringGo e11 ?_)
  · iintro ⟨HO, HL, ⟨H17, H⟩, HF, HR, H3, H19, H20⟩
    isplitl [HR HO]
    · isplitl [HR]; · iexact HR
      iexact HO
    isplitl [H3]; · iexact H3
    isplitl [H20]; · iexact H20
    isplitl [H17]; · iexact H17
    isplitl [H19]; · iexact H19
    isplitl [H]; · iexact H
    isplitl [HL]; · iexact HL
    iexact HF
  refine T.seq (T.steps4 (i := n) (i' := n + 1) (e := e0) (lhsD_okA (n := 4 * (n + 1)) h (by omega) (by omega)) (srcA_ok h e) (srcA_ok h' e1) hm ho (by omega)) fun s' hs' => ?_
  refine T.pre ?_ (((hd.frame iprop(B3 V ∗ (Ring2 V n ∗ Owes (F := F) c)
    ∗ (semVal ((c : Thread nD τ), SemLoc.dma (hSemI (n + 1))) 0 ∗ HTk V (n + 1)) ∗ Sq (HLd V) 0 (n + 1) ∗ Sq (HFl V) (n + 1 + 1) (27 - (n + 1)))).bind fun _ => T.pre ?_ (T.ret _)))
  · iintro ⟨HR, H3, H20, H17, H19, H⟩
    isplitl [H20 H17 H19]
    · isplitl [H20]; · iexact H20
      isplitl [H17]; · iexact H17
      iexact H19
    isplitl [H3]; · iexact H3
    isplitl [HR]; · iexact HR
    iexact H
  · iintro ⟨⟨H20, H17, H19⟩, H3, ⟨HR, HO⟩, H, HL, HF⟩
    isplitr
    · ipureintro; exact MxA.next hs' (by omega)
    isplitl [HR HO]
    · isplitl [HR]; · iapply (Ring_next n); iexact HR
      iexact HO
    isplitl [H3]; · iexact H3
    isplitl [H17 H HL HF]
    · iapply (HSt_next (V := V) hn)
      isplitl [HL]; · iexact HL
      isplitl [H17 H]
      · isplitl [H17]; · iexact H17
        iexact H
      iexact HF
    isplitl [H19]; · iexact H19
    iexact H20

/-- What the second carries. -/
abbrev StB (V : Vals F c) (n : ℕ) : sProp 𝕄 := iprop((Ring V n ∗ Owes (F := F) c) ∗ B3 V ∗ B20 V 112)
theorem T.chunkB {x : W} {n : ℕ} (e : x.toNat = n) (h : K1 x) (h' : K1 (Scalar.addi x 1#32)) {s : Mxu F} (hM : MxB V n s) :
    T c (StB V n) (chunkB x h h' s) (fun s' => iprop(⌜MxB V (n + 1) s'⌝ ∗ StB V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hw := T.waitB (V := V) (c := c) _ h'
  rw [e1] at hw
  have h28 : 28 ≤ n := e ▸ h.1
  have hsub : (Scalar.subi x 28#32).toNat = n - 28 := by
    rw [← e]; exact allWords 56 (fun x => 28 ≤ x.toNat → (Scalar.subi x 28#32).toNat = x.toNat - 28) (by decide +kernel) h.2 h.1
  have h56 : n < 56 := e ▸ h.2
  obtain ⟨e0, ho, hm⟩ := hM
  unfold Hand.chunkB
  refine (T.ringWait (X := iprop(B3 V ∗ B20 V 112)) hw).bind fun _ => T.ringGo e11 ?_
  refine (T.steps3 (i := n) (i' := n + 1) (e := e0) (lhsD_okB (n := 112) h.sub (by omega) (by omega)) (srcB_ok h e) (srcB_ok h' e1) hm ho (by omega)).post fun s' => ?_
  iintro ⟨%hs', ⟨HR, HO⟩, HX⟩
  isplitr
  · ipureintro; exact MxB.next hs' (by omega)
  isplitl [HR HO]
  · isplitl [HR]; · iapply (Ring_next n); iexact HR
    iexact HO
  iexact HX

theorem iv1n (t : Fin k0_t1_loop.trips) : (Scf.iv 0#32 1#32 t.val : W).toNat = t.val := by revert t; decide +kernel
theorem iv2n (t : Fin k0_t2_loop.trips) : (Scf.iv 29#32 1#32 t.val : W).toNat = 29 + t.val := by revert t; decide +kernel
theorem T.loop1 {s : Mxu F} (h : MxA V 0 s) : T c (StA V 0) (loop1 s) (fun s' => iprop(⌜MxA V 27 s'⌝ ∗ StA V 27)) := by
  unfold Hand.loop1
  refine T.pre ?_ ((loopT (fun k s' => iprop(⌜MxA V k s'⌝ ∗ StA V k)) fun k a => T.fact fun hM => T.chunkA (iv1n k) (iv1K k) (iv1K' k) hM).post fun s' => ?_)
  · iintro H; isplitr
    · ipureintro; exact h
    · iexact H
  · exact .rfl
theorem T.loop2 {s : Mxu F} (h : MxB V 29 s) : T c (StB V 29) (loop2 s) (fun s' => iprop(⌜MxB V 55 s'⌝ ∗ StB V 55)) := by
  unfold Hand.loop2
  refine T.pre ?_ ((loopT (fun k s' => iprop(⌜MxB V (29 + k) s'⌝ ∗ StB V (29 + k))) fun k a => T.fact fun hM => T.chunkB (iv2n k) (iv2K k) (iv2K' k) hM).post fun s' => ?_)
  · iintro H; isplitr
    · ipureintro; exact h
    · iexact H
  · exact .rfl

end Cert.KernelIdeal.Hand
-- ==== Proof.IDown.lean ====
module

public import proofs.«01_k».proof.Proof.ISteps

/-! A tile of the residual sum popped, written out and its squares gathered. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

def f14 (i : ℕ) : Fin 14 := ⟨i % 14, Nat.mod_lt _ (by decide)⟩
theorem f14_val (t : Fin 14) : f14 t.val = t := Fin.ext (Nat.mod_eq_of_lt t.2)
def rset (t : Fin 14) : Finset S14x256x256.Idx := (rTile t).view.set
def roset (t : Fin 14) : Finset S256x3584.Idx := (roDst t).view.set
theorem rset_eq (t : Fin 14) : rset t = (Rect.unit (s := S14x256x256) ![t.val, 0, 0] S1x256x256.size (inbX t.2)).set :=
  (View.set_reshape _ _).trans (View.set_slice_whole _ _)
abbrev cRo : ℕ := (roDst 0).view.dmaCredit

variable (V : Vals F c)
/-- What copy `t` of the result leaves. -/
abbrev Dro (t : Fin 14) : sProp 𝕄 := iprop(Own c b10 (roset t) fullShare (V.RO t) ∗ Own (F := F) c b25 (rset t) fullShare.right (fun _ => True))
/-- `j` of the result's copies started. -/
abbrev BRo (j : ℕ) : sProp 𝕄 := Transfers.Batch EC (c : Thread nD τ) (.dma (oSem 0 (by decide))) () cRo (Dro V) j 0
abbrev RTd (i : ℕ) : sProp 𝕄 := Own (F := F) c b25 (rset (f14 i)) fullShare.left (fun _ => True)
abbrev RTi (i : ℕ) : sProp 𝕄 := iprop(Any (F := F) c b25 (rset (f14 i)) ∗ Any (F := F) c b10 (roset (f14 i)))
/-- The first `t` tiles popped. -/
def PD (t : ℕ) : sProp 𝕄 := iprop((Sq (RTd (F := F) (c := c)) 0 t ∗ Sq (RTi (F := F) (c := c)) t (14 - t) ∗ BRo V t) ∗ Any (F := F) c b26 Finset.univ)

variable {V}
theorem PD_take (t : Fin 14) : PD V t.val ⊢ iprop(Any (F := F) c b25 (rset t) ∗ Any (F := F) c b10 (roset t) ∗ Sq (RTd (F := F) (c := c)) 0 t.val ∗ Sq (RTi (F := F) (c := c)) (t.val + 1) (13 - t.val) ∗ BRo V t.val ∗ Any (F := F) c b26 Finset.univ) := by
  unfold PD
  rw [show 14 - t.val = (13 - t.val) + 1 by omega, Sq_cons]
  unfold RTi
  rw [f14_val]
  iintro ⟨⟨H1, ⟨⟨H2, H3⟩, H4⟩, H5⟩, H6⟩
  isplitl [H2]; · iexact H2
  isplitl [H3]; · iexact H3
  isplitl [H1]; · iexact H1
  isplitl [H4]; · iexact H4
  isplitl [H5]; · iexact H5
  iexact H6
theorem PD_put (t : Fin 14) : iprop(Own (F := F) c b25 (rset t) fullShare.left (fun _ => True) ∗ BRo V (t.val + 1) ∗ Sq (RTd (F := F) (c := c)) 0 t.val ∗ Sq (RTi (F := F) (c := c)) (t.val + 1) (13 - t.val) ∗ Any (F := F) c b26 Finset.univ) ⊢ PD V (t.val + 1) := by
  unfold PD
  rw [show 14 - (t.val + 1) = 13 - t.val by omega]
  iintro ⟨H1, H2, H3, H4, H5⟩
  isplitr [H5]
  · isplitl [H1 H3]
    · iapply (Sq_snoc (RTd (F := F) (c := c)) 0 t.val).1
      isplitl [H3]; · iexact H3
      rw [Nat.zero_add]; unfold RTd; rw [f14_val]; iexact H1
    isplitl [H4]; · iexact H4
    iexact H2
  iexact H5

theorem T.startRo (t : Fin 14) : T c iprop(Own c b25 (rset t) fullShare (V.HRt t) ∗ Any (F := F) c b10 (roset t) ∗ BRo V t.val) (startRo t)
    (fun _ => iprop(Own (F := F) c b25 (rset t) fullShare.left (fun _ => True) ∗ BRo V (t.val + 1))) := by
  unfold Hand.startRo
  refine T.pre (P' := iprop(∃ f, ∃ fd, ⌜V.HRt t f⌝ ∗ ((b25.view.loc (c : Thread nD τ) ↦[rset t]{fullShare.right} f) ∗ (b10.view.loc (c : Thread nD τ) ↦[roset t]{fullShare} fd) ∗ BRo V t.val)
      ∗ Own (F := F) c b25 (rset t) fullShare.left (fun _ => True))) ?_ (T.ex fun f => T.ex fun fd => T.fact fun hf => ?_)
  · unfold Any Own
    iintro ⟨⟨%f, %hf, H⟩, ⟨%fd, -, Hd⟩, HB⟩
    icases (pointsTo_share (PosShare.mem_left_op_right _)).1 $$ H with ⟨Hl, Hr⟩
    iexists f, fd
    isplitr; · ipureintro; exact hf
    isplitr [Hl]
    · isplitl [Hr]; · iexact Hr
      isplitl [Hd]; · iexact Hd
      iexact HB
    iexists f; isplitr; · ipureintro; trivial
    iexact Hl
  · refine ((T.startB (src := rTile t) (dst := roDst t) (fs := f) (fd := fd) (q := fullShare.right) (D := Dro V) (j := t.val) cRo rfl t.2 ?_).frame _).post fun _ => ?_
    · exact BIClass.sep_mono (Own_intro (b := b10) (V.ro t f fd hf)) (Own_intro (b := b25) trivial)
    · iintro ⟨H1, H2⟩
      isplitl [H2]; · iexact H2
      iexact H1

theorem T.ldW {b : Memref sig .tc .vmem S256x128 .f32} {R : sProp 𝕄} {P : Buf (Elt F) (b.view.loc (c : Thread nD τ)) → Prop} [Rd c R b Finset.univ P] :
    T c R (ldW b : PR F _) (fun _ => iprop(⌜True⌝ ∗ R)) := by
  unfold Hand.ldW
  refine (T.load (c := c) (b := b) Finset.univ (Finset.subset_univ _)).post fun v => ?_
  iintro ⟨-, H⟩; isplitr; · ipureintro; trivial
  iexact H
theorem T.stW {b : Memref sig .tc .vmem S256x128 .f32} {R : sProp 𝕄} {v : FVec F S256x128 .f32} [Wr c R b Finset.univ] :
    T c R (stW b v) (fun _ => R) := by
  unfold Hand.stW
  exact T.store (c := c) (b := b) (S := Finset.univ) (Finset.subset_univ _)
theorem rset_sub (t : Fin 14) : b25.view.setOn (Rect.unit (s := S14x256x256) ![t.val, 0, 0] S1x256x256.size (inbX t.2)).toLoadRect.set ⊆ rset t := by
  rw [rset_eq]; exact subset_of_eq (setOn_whole _)
theorem rset_sub' (t : Fin 14) : (b25.access (Rect.unit (s := S14x256x256) ![t.val, 0, 0] S1x256x256.size (inbX t.2))).setOn Finset.univ ⊆ rset t := by
  rw [rset_eq]; exact subset_of_eq (View.set_slice_whole _ _)

theorem T.stRo {t : Fin 14} {tt : Fin 8} {m : ℕ} (hm : m = 55 ∧ t.val = tt.val ∨ m = 111 ∧ t.val = 8 + tt.val) {f : Buf (Elt F) (b21.view.loc (c : Thread nD τ))} (hf : V.HRes f) {r : FVec F S256x256 .f32} (hr : V.Acc m tt r) (X : sProp 𝕄) :
    T c iprop(Any (F := F) c b25 (rset t) ∗ X) (stR t (resSum (b21.view.readAt (Elt F) (Rect.unit (s := S256x3584) ![0, 256 * t.val] S256x256.size (inbRes (tc256 t))).toLoadRect f) r))
      (fun _ => iprop(Own c b25 (rset t) fullShare (V.HRt t) ∗ X)) := by
  unfold Hand.stR
  exact (T.storeOwn (c := c) (b := b25) (S := rset t) (P := fun _ => True) (P' := V.HRt t) (rset_sub' t) (fun g _ => V.rt t tt m f g r hm hf hr)).frame X

/-- Column tile `t` popped. -/
theorem T.popDown {R : sProp 𝕄} [hR : Rd c R b21 Finset.univ V.HRes] (t : Fin 14) (q : Fin 2) (j : Fin 4) {m : ℕ} (hm : m = 55 ∧ t.val = (tix j q).val ∨ m = 111 ∧ t.val = 8 + (tix j q).val)
    {s : Mxu F} {Wt A} (h : Mx V s Wt A) (hA : A q j = some m) :
    T c iprop(R ∗ PD V t.val) (popDown t q j s) (fun s' => iprop(⌜Mx V s' Wt (upA A q j none)⌝ ∗ R ∗ PD V (t.val + 1))) := by
  have hacc : V.Acc m (tix j q) (s.read q (64 * j.val) (fitsJ j)) := by
    have := h.2.2 q j; rw [hA] at this; exact this.2
  unfold Hand.popDown Hand.ldRes Hand.ldR
  refine T.pre (P' := iprop(Any (F := F) c b25 (rset t) ∗ R ∗ Any (F := F) c b10 (roset t) ∗ Sq (RTd (F := F) (c := c)) 0 t.val ∗ Sq (RTi (F := F) (c := c)) (t.val + 1) (13 - t.val) ∗ BRo V t.val ∗ Any (F := F) c b26 Finset.univ)) ?_ ?_
  · iintro ⟨HR, HP⟩
    icases (PD_take t) $$ HP with ⟨H1, H2⟩
    isplitl [H1]; · iexact H1
    isplitl [HR]; · iexact HR
    iexact H2
  refine T.seq (T.load (c := c) (b := b21) Finset.univ (Finset.subset_univ _)) fun v hv => ?_
  obtain ⟨f, hf, rfl⟩ := hv
  refine T.seq (T.load (c := c) (b := b25) (rset t) (rset_sub t)) fun v' _ => ?_
  refine (T.stRo hm hf hacc _).bind fun _ => ?_
  refine T.seq (T.ldW (b := b26)) fun _ _ => T.seq (T.ldW (b := b26)) fun _ _ => (T.stW (b := b26)).bind fun _ => ?_
  refine T.pre ?_ (((T.startRo (V := V) t).frame iprop(R ∗ Sq (RTd (F := F) (c := c)) 0 t.val ∗ Sq (RTi (F := F) (c := c)) (t.val + 1) (13 - t.val) ∗ Any (F := F) c b26 Finset.univ)).bind fun _ => T.pre ?_ (T.ret _))
  · iintro ⟨H1, HR, H2, H3, H4, H5, H6⟩
    isplitl [H1 H2 H5]
    · isplitl [H1]; · iexact H1
      isplitl [H2]; · iexact H2
      iexact H5
    isplitl [HR]; · iexact HR
    isplitl [H3]; · iexact H3
    isplitl [H4]; · iexact H4
    iexact H6
  · iintro ⟨⟨H1, H2⟩, HR, H3, H4, H6⟩
    isplitr; · ipureintro; exact h.pop q j
    isplitl [HR]; · iexact HR
    iapply (PD_put t)
    isplitl [H1]; · iexact H1
    isplitl [H2]; · iexact H2
    isplitl [H3]; · iexact H3
    isplitl [H4]; · iexact H4
    iexact H6
/-- The first, whose squares start the sum. -/
theorem T.popDown0 {R : sProp 𝕄} [hR : Rd c R b21 Finset.univ V.HRes] {s : Mxu F} {Wt A} (h : Mx V s Wt A) (hA : A 0 0 = some 55) :
    T c iprop(R ∗ PD V 0) (popDown0 s) (fun s' => iprop(⌜Mx V s' Wt (upA A 0 0 none)⌝ ∗ R ∗ PD V 1)) := by
  have hacc : V.Acc 55 (tix 0 0) (s.read 0 0 (fitsJ 0)) := by
    have := h.2.2 0 0; rw [hA] at this; exact this.2
  unfold Hand.popDown0 Hand.ldRes Hand.ldR
  refine T.pre (P' := iprop(Any (F := F) c b25 (rset 0) ∗ R ∗ Any (F := F) c b10 (roset 0) ∗ Sq (RTd (F := F) (c := c)) 0 (0 : Fin 14).val ∗ Sq (RTi (F := F) (c := c)) ((0 : Fin 14).val + 1) (13 - (0 : Fin 14).val) ∗ BRo V (0 : Fin 14).val ∗ Any (F := F) c b26 Finset.univ)) ?_ ?_
  · refine (BIClass.sep_mono (P := R) .rfl (PD_take (V := V) 0)).trans ?_
    iintro ⟨HR, H1, H2⟩
    isplitl [H1]; · iexact H1
    isplitl [HR]; · iexact HR
    iexact H2
  refine T.seq (T.load (c := c) (b := b21) Finset.univ (Finset.subset_univ _)) fun v hv => ?_
  obtain ⟨f, hf, rfl⟩ := hv
  refine T.seq (T.load (c := c) (b := b25) (rset 0) (rset_sub 0)) fun v' _ => ?_
  refine (T.stRo (t := 0) (tt := tix 0 0) (m := 55) (.inl ⟨rfl, rfl⟩) hf hacc _).bind fun _ => ?_
  refine T.seq (T.ldW (b := b26)) fun _ _ => (T.stW (b := b26)).bind fun _ => ?_
  refine T.pre ?_ (((T.startRo (V := V) 0).frame iprop(R ∗ Sq (RTd (F := F) (c := c)) 0 (0 : Fin 14).val ∗ Sq (RTi (F := F) (c := c)) ((0 : Fin 14).val + 1) (13 - (0 : Fin 14).val) ∗ Any (F := F) c b26 Finset.univ)).bind fun _ => T.pre ?_ (T.ret _))
  · iintro ⟨H1, HR, H2, H3, H4, H5, H6⟩
    isplitl [H1 H2 H5]
    · isplitl [H1]; · iexact H1
      isplitl [H2]; · iexact H2
      iexact H5
    isplitl [HR]; · iexact HR
    isplitl [H3]; · iexact H3
    isplitl [H4]; · iexact H4
    iexact H6
  · iintro ⟨⟨H1, H2⟩, HR, H3, H4, H6⟩
    isplitr; · ipureintro; exact h.pop 0 0
    isplitl [HR]; · iexact HR
    iapply (PD_put 0)
    isplitl [H1]; · iexact H1
    isplitl [H2]; · iexact H2
    isplitl [H3]; · iexact H3
    isplitl [H4]; · iexact H4
    iexact H6

end Cert.KernelIdeal.Hand
-- ==== Proof.IQuant.lean ====
module

public import proofs.«01_k».proof.Proof.IDown

/-! The quantiser, the rotary tables, and the chunks of the second product. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

theorem T.quantOne {R : sProp 𝕄} {P25 : Buf (Elt F) (b25.view.loc (c : Thread nD τ)) → Prop} {P27 : Buf (Elt F) (b27.view.loc (c : Thread nD τ)) → Prop} {P22 : Buf (Elt F) (b22.view.loc (c : Thread nD τ)) → Prop}
    {P28 : Buf (Elt F) (b28.view.loc (c : Thread nD τ)) → Prop} {P29 : Buf (Elt F) (b29.view.loc (c : Thread nD τ)) → Prop} {P30 : Buf (Elt F) (b30.view.loc (c : Thread nD τ)) → Prop}
    [h25 : Rd c R b25 Finset.univ P25] [h27 : Rd c R b27 Finset.univ P27] [h22 : Rd c R b22 Finset.univ P22] [h28 : Rd c R b28 Finset.univ P28] [w28 : Wr c R b28 Finset.univ]
    [h29 : Rd c R b29 Finset.univ P29] [w29 : Wr c R b29 Finset.univ] [h30 : Rd c R b30 Finset.univ P30] [w30 : Wr c R b30 Finset.univ] (x : W) (h : x.toNat < 14) (a : Fin 2) :
    T c R (quantOne x h a) (fun _ => R) := by
  unfold Hand.quantOne quantHead ldXs stXs
  have s28 : ∀ {r : Rect S14x256x256} {w : r.shape.Idx → Elt F .fp8e4m3} {Mk hx hm}, T c R (Prog.lift (.store b28 r w Mk hx hm)) (fun _ => R) := T.store (c := c) (b := b28) (S := Finset.univ) (h := w28) (Finset.subset_univ _)
  have s29 : ∀ {r : Rect S14x256x256} {w : r.shape.Idx → Elt F .bf16} {Mk hx hm}, T c R (Prog.lift (.store b29 r w Mk hx hm)) (fun _ => R) := T.store (c := c) (b := b29) (S := Finset.univ) (h := w29) (Finset.subset_univ _)
  have l25 : ∀ {r : LoadRect S14x256x256} {hl}, T c R (Prog.lift (.load b25 r hl)) (fun _ => iprop(⌜True⌝ ∗ R)) := (T.load (c := c) (b := b25) (h := h25) Finset.univ (Finset.subset_univ _)).post fun v => BIClass.sep_mono (Laws.pure_mono fun _ => trivial) .rfl
  have l22 : ∀ {r : LoadRect S28x128} {hl}, T c R (Prog.lift (.load b22 r hl)) (fun _ => iprop(⌜True⌝ ∗ R)) := (T.load (c := c) (b := b22) (h := h22) Finset.univ (Finset.subset_univ _)).post fun v => BIClass.sep_mono (Laws.pure_mono fun _ => trivial) .rfl
  have l28 : ∀ {r : LoadRect S14x256x256} {hl}, T c R (Prog.lift (.load b28 r hl)) (fun _ => iprop(⌜True⌝ ∗ R)) := (T.load (c := c) (b := b28) (h := h28) Finset.univ (Finset.subset_univ _)).post fun v => BIClass.sep_mono (Laws.pure_mono fun _ => trivial) .rfl
  have l29 : ∀ {r : LoadRect S14x256x256} {hl}, T c R (Prog.lift (.load b29 r hl)) (fun _ => iprop(⌜True⌝ ∗ R)) := (T.load (c := c) (b := b29) (h := h29) Finset.univ (Finset.subset_univ _)).post fun v => BIClass.sep_mono (Laws.pure_mono fun _ => trivial) .rfl
  have l30 : ∀ {r : LoadRect S256x28} {hl}, T c R (Prog.lift (.load b30 r hl)) (fun _ => iprop(⌜True⌝ ∗ R)) := (T.load (c := c) (b := b30) (h := h30) Finset.univ (Finset.subset_univ _)).post fun v => BIClass.sep_mono (Laws.pure_mono fun _ => trivial) .rfl
  refine T.seq (V := fun _ => True) ?_ fun w _ => ?_
  · refine T.seq l25 fun v1 _ => ?_
    refine T.seq (T.ldW (b := b27)) fun v2 _ => ?_
    refine T.seq l22 fun v3 _ => T.seq l28 fun v4 _ => T.bind s28 fun _ => ?_
    refine T.seq l29 fun v5 _ => T.bind s29 fun _ => ?_
    refine T.seq l30 fun v6 _ => ?_
    refine T.pre ?_ (T.ret _)
    iintro H; isplitr; · ipureintro; trivial
    iexact H
  · exact T.seq l30 fun v6 _ => T.store (c := c) (b := b30) (S := Finset.univ) (h := w30) (Finset.subset_univ _)

/-- What the quantiser reads and writes. -/
abbrev QR : sProp 𝕄 := iprop(Own (F := F) c b25 Finset.univ fullShare.left (fun _ => True) ∗ Any (F := F) c b27 Finset.univ ∗ Any (F := F) c b22 Finset.univ ∗ Any (F := F) c b28 Finset.univ ∗ Any (F := F) c b29 Finset.univ ∗ Any (F := F) c b30 Finset.univ)
theorem T.quantise (x : W) (h : x.toNat < 14) : T c (QR (F := F) (c := c)) (quantise x h) (fun _ => QR (F := F) (c := c)) := by
  unfold Hand.quantise
  exact (T.quantOne x h 0).bind fun _ => T.quantOne x h 1

theorem T.rsStage {R : sProp 𝕄} {P26 : Buf (Elt F) (b26.view.loc (c : Thread nD τ)) → Prop} {P27 : Buf (Elt F) (b27.view.loc (c : Thread nD τ)) → Prop}
    [Rd c R b26 Finset.univ P26] [Rd c R b27 Finset.univ P27] [Wr c R b27 Finset.univ] : T c R (rsStage : PR F PUnit) (fun _ => R) := by
  unfold Hand.rsStage
  exact T.seq (T.ldW (b := b26)) fun _ _ => T.seq (T.ldW (b := b27)) fun _ _ => T.stW (b := b27)

theorem T.ldHalf {b : Memref sig .tc .vmem S256x128 .f32} {R : sProp 𝕄} {P : Buf (Elt F) (b.view.loc (c : Thread nD τ)) → Prop} [Rd c R b Finset.univ P] (r : ℕ) (h : r + 128 ≤ 256) :
    T c R (ldHalf b r h : PR F _) (fun _ => iprop(⌜True⌝ ∗ R)) := by
  unfold Hand.ldHalf
  refine (T.load (c := c) (b := b) Finset.univ (Finset.subset_univ _)).post fun v => ?_
  iintro ⟨-, H⟩; isplitr; · ipureintro; trivial
  iexact H
theorem T.stHalf {b : Memref sig .tc .vmem S256x128 .f32} {R : sProp 𝕄} (r : ℕ) (h : r + 128 ≤ 256) {v : FVec F S128x128 .f32} [Wr c R b Finset.univ] :
    T c R (stHalf b r h v) (fun _ => R) := by
  unfold Hand.stHalf
  exact T.store (c := c) (b := b) (S := Finset.univ) (Finset.subset_univ _)
abbrev CS : sProp 𝕄 := iprop(Any (F := F) c b23 Finset.univ ∗ Any (F := F) c b24 Finset.univ ∗ Any (F := F) c b31 Finset.univ ∗ Any (F := F) c b32 Finset.univ ∗ Any (F := F) c b30 Finset.univ)
theorem T.cosSin : T c (CS (F := F) (c := c)) (cosSin : PR F PUnit) (fun _ => CS (F := F) (c := c)) := by
  unfold Hand.cosSin Hand.ldFreq Hand.ldXs Hand.stXs
  refine T.seq (T.load (c := c) (b := b23) Finset.univ (Finset.subset_univ _)) fun p _ => ?_
  refine T.seq (T.load (c := c) (b := b24) Finset.univ (Finset.subset_univ _)) fun f _ => ?_
  refine T.seq (T.ldHalf (b := b31) 0 (by decide)) fun _ _ => (T.stHalf (b := b31) 0 (by decide)).bind fun _ => ?_
  refine T.seq (T.ldHalf (b := b32) 0 (by decide)) fun _ _ => (T.stHalf (b := b32) 0 (by decide)).bind fun _ => ?_
  refine T.seq (T.load (c := c) (b := b24) Finset.univ (Finset.subset_univ _)) fun f' _ => ?_
  refine T.seq (T.ldHalf (b := b31) 128 (by decide)) fun _ _ => (T.stHalf (b := b31) 128 (by decide)).bind fun _ => ?_
  refine T.seq (T.ldHalf (b := b32) 128 (by decide)) fun _ _ => (T.stHalf (b := b32) 128 (by decide)).bind fun _ => ?_
  refine T.seq (T.load (c := c) (b := b30) Finset.univ (Finset.subset_univ _)) fun _ _ => ?_
  exact T.store (c := c) (b := b30) (S := Finset.univ) (Finset.subset_univ _)

variable {V : Vals F c}
/-- What the second product's first group carries. -/
abbrev StC (V : Vals F c) (n : ℕ) : sProp 𝕄 := iprop((Ring V n ∗ Owes (F := F) c) ∗ B7 V ∗ QR (F := F) (c := c))
theorem T.chunkC {x : W} {n : ℕ} (hc : x.toNat < 7) (e : (Scalar.addi 56#32 x).toNat = n) (h : K2 (Scalar.addi 56#32 x)) (h' : K2 (Scalar.addi (Scalar.addi 56#32 x) 1#32))
    (hq : ∀ kt, (qW x kt).toNat < 14) {s : Mxu F} (hM : MxA V n s) :
    T c (StC V n) (chunkC x hc h h' hq s) (fun s' => iprop(⌜MxA V (n + 1) s'⌝ ∗ StC V (n + 1))) := by
  have e1 : (Scalar.addi (Scalar.addi 56#32 x) 1#32).toNat = n + 1 := by rw [addi_lt (N := 84) _ h.lt (by decide), e]; rfl
  have e11 : (Scalar.addi (Scalar.addi 56#32 x) 11#32).toNat = n + 11 := by rw [addi_lt (N := 84) _ h.lt (by decide), e]; rfl
  have hw := T.waitC (V := V) (c := c) _ h'
  rw [e1] at hw
  have h56 : 56 ≤ n := e ▸ h.1
  obtain ⟨e0, ho, hm⟩ := hM
  unfold Hand.chunkC
  refine (T.ringWait (X := iprop(B7 V ∗ QR (F := F) (c := c))) hw).bind fun _ => T.ringGo e11 ?_
  refine T.seq (T.steps4 (i := n) (i' := n + 1) (e := e0) (lhsQ_ok hc (by omega)) (srcC_ok h e) (srcC_ok h' e1) hm ho (by omega)) fun s' hs' => ?_
  refine T.pre (P' := iprop(QR (F := F) (c := c) ∗ (Ring2 V n ∗ Owes (F := F) c) ∗ B7 V)) ?_ (((T.quantise _ (hq 0)).frame _).bind fun _ => ((T.quantise _ (hq 1)).frame _).bind fun _ => T.pre ?_ (T.ret _))
  · iintro ⟨H1, H2, H3⟩
    isplitl [H3]; · iexact H3
    isplitl [H1]; · iexact H1
    iexact H2
  · iintro ⟨HQ, ⟨HR, HO⟩, H7⟩
    isplitr
    · ipureintro; exact MxA.next hs' (by omega)
    isplitl [HR HO]
    · isplitl [HR]; · iapply (Ring_next n); iexact HR
      iexact HO
    isplitl [H7]; · iexact H7
    iexact HQ
theorem iv3n (t : Fin k0_t3_loop.trips) : (Scalar.addi 56#32 (Scf.iv 0#32 1#32 t.val) : W).toNat = 56 + t.val := by revert t; decide +kernel
theorem T.loop3 {s : Mxu F} (h : MxA V 56 s) : T c (StC V 56) (loop3 s) (fun s' => iprop(⌜MxA V 62 s'⌝ ∗ StC V 62)) := by
  unfold Hand.loop3
  refine T.pre ?_ ((loopT (fun k s' => iprop(⌜MxA V (56 + k) s'⌝ ∗ StC V (56 + k))) fun k a => T.fact fun hM => T.chunkC (iv3 k).1 (iv3n k) (iv3 k).2.1 (iv3 k).2.2.1 (iv3 k).2.2.2 hM).post fun s' => ?_)
  · iintro H; isplitr
    · ipureintro; exact h
    · iexact H
  · exact .rfl

abbrev StD (V : Vals F c) (n : ℕ) : sProp 𝕄 := iprop((Ring V n ∗ Owes (F := F) c) ∗ B7 V ∗ Any (F := F) c b29 Finset.univ)
theorem T.chunkD {x y : W} {n : ℕ} (hc : y.toNat < 7) (e : x.toNat = n) (h : K2 x) (h' : K2 (Scalar.addi x 1#32)) {s : Mxu F} (hM : MxA V n s) :
    T c (StD V n) (chunkD x y hc h h' s) (fun s' => iprop(⌜MxA V (n + 1) s'⌝ ∗ StD V (n + 1))) := by
  have e1 : (Scalar.addi x 1#32).toNat = n + 1 := by rw [addi_lt (N := 84) _ h.lt (by decide), e]; rfl
  have e11 : (Scalar.addi x 11#32).toNat = n + 11 := by rw [addi_lt (N := 84) _ h.lt (by decide), e]; rfl
  have hw := T.waitC (V := V) (c := c) _ h'
  rw [e1] at hw
  have h56 : 56 ≤ n := e ▸ h.1
  obtain ⟨e0, ho, hm⟩ := hM
  unfold Hand.chunkD
  refine (T.ringWait (X := iprop(B7 V ∗ Any (F := F) c b29 Finset.univ)) hw).bind fun _ => T.ringGo e11 ?_
  refine (T.steps4 (i := n) (i' := n + 1) (e := e0) (lhsQ_ok hc (by omega)) (srcC_ok h e) (srcC_ok h' e1) hm ho (by omega)).post fun s' => ?_
  iintro ⟨%hs', ⟨HR, HO⟩, HX⟩
  isplitr
  · ipureintro; exact MxA.next hs' (by omega)
  isplitl [HR HO]
  · isplitl [HR]; · iapply (Ring_next n); iexact HR
    iexact HO
  iexact HX
theorem iv5n (t : Fin k0_t4_loop.trips) (u : Fin k0_t5_loop.trips) : (Scalar.addi (bW (gW t.val)) (Scf.iv 1#32 1#32 u.val)).toNat = 64 + 7 * t.val + u.val := by revert t u; decide +kernel
theorem T.loop5 (t : Fin k0_t4_loop.trips) {n : ℕ} (e : n = 64 + 7 * t.val) {s : Mxu F} (h : MxA V n s) : T c (StD V n) (loop5 t s) (fun s' => iprop(⌜MxA V (n + 5) s'⌝ ∗ StD V (n + 5))) := by
  unfold Hand.loop5
  refine T.pre ?_ ((loopT (fun k s' => iprop(⌜MxA V (n + k) s'⌝ ∗ StD V (n + k))) fun k a => T.fact fun hM => T.chunkD (iv5 t k).1 (by rw [iv5n, e]) (iv5 t k).2.1 (iv5 t k).2.2 hM).post fun s' => ?_)
  · iintro H; isplitr
    · ipureintro; exact h
    · iexact H
  · exact .rfl

end Cert.KernelIdeal.Hand
-- ==== Proof.IHeads.lean ====
module

public import proofs.«01_k».proof.Proof.IQuant
public import proofs.«01_k».proof.Proof.IDown

/-! The heads rotated, packed and written out, and the groups of the second product. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

def obset (g : Fin 4) (l : Fin 2) : Finset S4x2x256x8x128.Idx := (obV g l).view.set
theorem obset_eq (g : Fin 4) (l : Fin 2) : obset g l = (Rect.unit (s := S4x2x256x8x128) ![g.val, l.val, 0, 0, 0] S1x1x256x8x128.size (inbOb g.2 l.2)).set :=
  (View.set_reshape _ _).trans (View.set_slice_whole _ _)
theorem obset_sub (g : Fin 4) (l : Fin 2) (j : Fin 4) : (Rect.unit (s := S4x2x256x8x128) ![g.val, l.val, 0, 2 * j.val, 0] S1x1x256x2x128.size (inbO g.2 l.2 (by omega))).set ⊆ obset g l := by
  rw [obset_eq]
  refine Rect.set_subset_of_span _ _ (fun _ => rfl) fun a => ?_
  fin_cases a <;> simp <;> omega

/-- Group `g`'s two places. -/
abbrev Ob (g : Fin 4) : sProp 𝕄 := iprop(Any (F := F) c b33 (obset g 0) ∗ Any (F := F) c b33 (obset g 1))
theorem T.packStore {R : sProp 𝕄} (g : ℕ) (hg : g < 4) (l : Fin 2) (j : Fin 4) (u v : FVec F S256x128 .f32) {P : Buf (Elt F) (b33.view.loc (c : Thread nD τ)) → Prop}
    [h1 : Rd c R b33 (obset ⟨g, hg⟩ l) P] [h2 : Wr c R b33 (obset ⟨g, hg⟩ l)] : T c R (packStore g hg l j u v) (fun _ => R) := by
  unfold Hand.packStore
  refine T.seq (T.load (c := c) (b := b33) (h := h1) (obset ⟨g, hg⟩ l) ((subset_of_eq (setOn_whole _)).trans (obset_sub ⟨g, hg⟩ l j))) fun _ _ => ?_
  exact T.store (c := c) (b := b33) (h := h2) ((subset_of_eq (View.set_slice_whole _ _)).trans (obset_sub ⟨g, hg⟩ l j))

variable {V : Vals F c}
theorem T.popRope {R : sProp 𝕄} (g : ℕ) (hg : g < 4) (j : Fin 4) {P31 : Buf (Elt F) (b31.view.loc (c : Thread nD τ)) → Prop} {P32 : Buf (Elt F) (b32.view.loc (c : Thread nD τ)) → Prop}
    {P Q : Buf (Elt F) (b33.view.loc (c : Thread nD τ)) → Prop} [Rd c R b31 Finset.univ P31] [Rd c R b32 Finset.univ P32]
    [Rd c R b33 (obset ⟨g, hg⟩ 0) P] [Wr c R b33 (obset ⟨g, hg⟩ 0)] [Rd c R b33 (obset ⟨g, hg⟩ 1) Q] [Wr c R b33 (obset ⟨g, hg⟩ 1)]
    {s : Mxu F} {Wt A A'} (h : Mx V s Wt A) (hA : setJ A j none = A') : T c R (popRope g hg j s) (fun s' => iprop(⌜Mx V s' Wt A'⌝ ∗ R)) := by
  subst hA
  unfold Hand.popRope
  refine T.seq (T.ldW (b := b31)) fun _ _ => T.seq (T.ldW (b := b32)) fun _ _ => T.seq (T.ldW (b := b31)) fun _ _ => T.seq (T.ldW (b := b32)) fun _ _ => ?_
  refine (T.packStore g hg 0 j _ _).bind fun _ => (T.packStore g hg 1 j _ _).bind fun _ => T.pre ?_ (T.ret _)
  iintro H; isplitr
  · ipureintro; have := (h.pop 0 j).pop 1 j; rw [upA_pair] at this; exact this
  · iexact H
theorem T.popLast {R : sProp 𝕄} (j : Fin 4) {P Q : Buf (Elt F) (b33.view.loc (c : Thread nD τ)) → Prop}
    [h1 : Rd c R b33 (obset 3 0) P] [h2 : Wr c R b33 (obset 3 0)] [h3 : Rd c R b33 (obset 3 1) Q] [h4 : Wr c R b33 (obset 3 1)]
    {s : Mxu F} {Wt A A'} (h : Mx V s Wt A) (hA : setJ A j none = A') : T c R (popLast j s) (fun s' => iprop(⌜Mx V s' Wt A'⌝ ∗ R)) := by
  subst hA
  unfold Hand.popLast
  refine (T.packStore (h1 := h1) (h2 := h2) 3 (by decide) 0 j _ _).bind fun _ => (T.packStore (h1 := h3) (h2 := h4) 3 (by decide) 1 j _ _).bind fun _ => T.pre ?_ (T.ret _)
  iintro H; isplitr
  · ipureintro; have := (h.pop 0 j).pop 1 j; rw [upA_pair] at this; exact this
  · iexact H
theorem T.steps4Pop {R : sProp 𝕄} (g : ℕ) (hg : g < 4) {P31 : Buf (Elt F) (b31.view.loc (c : Thread nD τ)) → Prop} {P32 : Buf (Elt F) (b32.view.loc (c : Thread nD τ)) → Prop}
    {P Q : Buf (Elt F) (b33.view.loc (c : Thread nD τ)) → Prop} [h31 : Rd c R b31 Finset.univ P31] [h32 : Rd c R b32 Finset.univ P32]
    [o1 : Rd c R b33 (obset ⟨g, hg⟩ 0) P] [o2 : Wr c R b33 (obset ⟨g, hg⟩ 0)] [o3 : Rd c R b33 (obset ⟨g, hg⟩ 1) Q] [o4 : Wr c R b33 (obset ⟨g, hg⟩ 1)]
    {ld : Fin 2 → PR F (Vec F S1x256x256 .bf16)} {i i' : ℕ} (hl : LhsOK V R ld (2 * i)) {S N : Src F} (hS : SrcOK V R S i) (hN : SrcOK V R N i')
    {s : Mxu F} {e : Option ℕ} (h : Mx V s (fun _ => some (2 * i, 0)) (Ac e e e e)) (hi : 56 ≤ i) :
    T c R (steps4Pop g hg ld S N s) (fun s' => iprop(⌜Mx V s' (fun _ => some (2 * i', 0)) (Ac (some (2 * i + 1)) (some (2 * i + 1)) (some (2 * i + 1)) (some (2 * i + 1)))⌝ ∗ R)) := by
  unfold Hand.steps4Pop
  have ho : okc none (2 * i) := .inr (.inr (by omega))
  have h' : okc (some (2 * i)) (2 * i + 1) := ⟨rfl, by omega⟩
  refine T.seq (T.popRope g hg 0 h (Ac0 ..)) fun s h => T.seq (T.stepP hl hS 0 0 0 1 h (fun _ => ho) (Ac0 ..)) fun s h => ?_
  refine T.seq (T.popRope g hg 1 h (Ac1 ..)) fun s h => T.seq (T.stepP hl hS 0 1 0 2 h (fun _ => ho) (Ac1 ..)) fun s h => ?_
  refine T.seq (T.popRope g hg 2 h (Ac2 ..)) fun s h => T.seq (T.stepP hl hS 0 2 0 3 h (fun _ => ho) (Ac2 ..)) fun s h => ?_
  refine T.seq (T.popRope g hg 3 h (Ac3 ..)) fun s h => T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  exact T.stepP hl hN 1 3 0 0 h (fun _ => h') (Ac3 ..)

/-! ### The copies of the heads -/
abbrev cHd (g : Fin 4) : ℕ := (hdDst g 0).view.dmaCredit
abbrev Hdst (g : Fin 4) (l : Fin 2) : sProp 𝕄 := Any (F := F) c (hdDst g l) (hdDst g l).view.set
abbrev Dh (g : Fin 4) (l : Fin 2) : sProp 𝕄 := iprop(Hdst (F := F) (c := c) g l ∗ Any (F := F) c b33 (obset g l))
abbrev BHd (g : Fin 4) (j : ℕ) : sProp 𝕄 := Transfers.Batch EC (c : Thread nD τ) (.dma (oSem (3 + g.val) (by omega))) () (cHd g) (Dh (F := F) (c := c) g) j 0
abbrev HdI (g : Fin 4) : sProp 𝕄 := iprop(Ob (F := F) (c := c) g ∗ (Hdst (F := F) (c := c) g 0 ∗ Hdst (F := F) (c := c) g 1) ∗ BHd (F := F) (c := c) g 0)
theorem cHd_eq : ∀ (g : Fin 4) (l : Fin 2), (hdDst g l).view.dmaCredit = cHd g
  | 0, _ => rfl
  | 1, _ => rfl
  | 2, _ => rfl
  | 3, _ => rfl
theorem T.startHd (g : Fin 4) (l : Fin 2) : T c iprop(Any (F := F) c b33 (obset g l) ∗ Hdst (F := F) (c := c) g l ∗ BHd (F := F) (c := c) g l.val) (startHd g l) (fun _ => BHd (F := F) (c := c) g (l.val + 1)) := by
  unfold Hand.startHd
  refine T.pre (P' := iprop(∃ f, ∃ fd, ((b33.view.loc (c : Thread nD τ) ↦[obset g l]{fullShare} f) ∗ ((hdDst g l).view.loc (c : Thread nD τ) ↦[(hdDst g l).view.set]{fullShare} fd) ∗ BHd (F := F) (c := c) g l.val))) ?_ (T.ex fun f => T.ex fun fd => ?_)
  · unfold Hdst Any Own
    iintro ⟨⟨%f, -, H⟩, ⟨%fd, -, Hd⟩, HB⟩
    iexists f, fd
    isplitl [H]; · iexact H
    isplitl [Hd]; · iexact Hd
    iexact HB
  · refine T.startB (src := obV g l) (dst := hdDst g l) (fs := f) (fd := fd) (q := fullShare) (D := Dh (F := F) (c := c) g) (j := l.val) (cHd g) (cHd_eq g l) l.2 ?_
    exact BIClass.sep_mono (Own_intro (b := hdDst g l) trivial) (Own_intro (b := b33) trivial)
theorem T.startHds (g : Fin 4) {α : Type} {k : PR F α} {X : sProp 𝕄} {Q : α → sProp 𝕄} (hk : T c iprop(BHd (F := F) (c := c) g 2 ∗ X) k Q) :
    T c iprop(HdI (F := F) (c := c) g ∗ X) (Hand.startHd g 0 >>= fun _ => Hand.startHd g 1 >>= fun _ => k) Q := by
  refine T.pre (P' := iprop((Any (F := F) c b33 (obset g 0) ∗ Hdst (F := F) (c := c) g 0 ∗ BHd (F := F) (c := c) g (0 : Fin 2).val) ∗ Any (F := F) c b33 (obset g 1) ∗ Hdst (F := F) (c := c) g 1 ∗ X)) ?_
    (((T.startHd g 0).frame _).bind fun _ => T.pre (P' := iprop((Any (F := F) c b33 (obset g 1) ∗ Hdst (F := F) (c := c) g 1 ∗ BHd (F := F) (c := c) g (1 : Fin 2).val) ∗ X)) ?_ (((T.startHd g 1).frame _).bind fun _ => hk))
  · iintro ⟨⟨⟨H1, H2⟩, ⟨H3, H4⟩, HB⟩, HX⟩
    isplitl [H1 H3 HB]
    · isplitl [H1]; · iexact H1
      isplitl [H3]; · iexact H3
      iexact HB
    isplitl [H2]; · iexact H2
    isplitl [H4]; · iexact H4
    iexact HX
  · iintro ⟨HB, H2, H4, HX⟩
    isplitr [HX]
    · isplitl [H2]; · iexact H2
      isplitl [H4]; · iexact H4
      iexact HB
    iexact HX
/-- Group `g`'s copies after `t` groups. -/
def Hs (t : ℕ) (g : Fin 4) : sProp 𝕄 := if g.val < t then BHd (F := F) (c := c) g 2 else HdI (F := F) (c := c) g
theorem ifc (t : Fin k0_t4_loop.trips) (g : Fin 3) : Scalar.cmpi .ne (Scalar.extui (Scalar.cmpi .eq (gW t.val) (BitVec.ofNat 32 g.val)) : W) 0#32 = 1#1 ↔ t.val = g.val := by
  revert t g; decide +kernel
theorem T.startIf (t : Fin k0_t4_loop.trips) (g : Fin 3) (g' : Fin 4) (e : g'.val = g.val) : T c (Hs (F := F) (c := c) t.val g') (startIf (gW t.val) (BitVec.ofNat 32 g.val) g') (fun _ => Hs (F := F) (c := c) (t.val + 1) g') := by
  unfold Hand.startIf
  by_cases h : t.val = g.val
  · rw [dif_pos ((ifc t g).2 h)]
    unfold Hs
    rw [if_neg (by omega), if_pos (by omega)]
    refine T.pre (P' := iprop(HdI (F := F) (c := c) g' ∗ emp)) ?_ (T.startHds g' (T.pre ?_ (T.ret (Q := fun _ => BHd (F := F) (c := c) g' 2) PUnit.unit)))
    · iintro H; isplitl [H]; · iexact H
      iempintro
    · iintro ⟨H, -⟩; iexact H
  · rw [dif_neg (fun hh => h ((ifc t g).1 hh))]
    have : Hs (F := F) (c := c) (t.val + 1) g' = Hs (F := F) (c := c) t.val g' := by
      unfold Hs
      by_cases h1 : g'.val < t.val
      · rw [if_pos h1, if_pos (by omega)]
      · rw [if_neg h1, if_neg (by omega)]
    rw [this]
    exact T.ret (Q := fun _ => Hs (F := F) (c := c) t.val g') PUnit.unit

abbrev H3 (t : ℕ) : sProp 𝕄 := iprop(Hs (F := F) (c := c) t 0 ∗ Hs (F := F) (c := c) t 1 ∗ Hs (F := F) (c := c) t 2)
theorem H3_take : ∀ (t : ℕ) (h : t < 4), t < 3 → H3 (F := F) (c := c) t ⊢ iprop(Ob (F := F) (c := c) ⟨t, h⟩ ∗ (Ob (F := F) (c := c) ⟨t, h⟩ -∗ H3 (F := F) (c := c) t))
  | 0, _, _ => by
    have e : Hs (F := F) (c := c) 0 0 = HdI (F := F) (c := c) 0 := by unfold Hs; exact if_neg (by decide)
    unfold H3; rw [e]
    iintro ⟨⟨HO, HX⟩, HY⟩
    isplitl [HO]; · iexact HO
    iintro HO
    isplitl [HO HX]
    · isplitl [HO]; · iexact HO
      iexact HX
    iexact HY
  | 1, _, _ => by
    have e : Hs (F := F) (c := c) 1 1 = HdI (F := F) (c := c) 1 := by unfold Hs; exact if_neg (by decide)
    unfold H3; rw [e]
    iintro ⟨HZ, ⟨HO, HX⟩, HY⟩
    isplitl [HO]; · iexact HO
    iintro HO
    isplitl [HZ]; · iexact HZ
    isplitl [HO HX]
    · isplitl [HO]; · iexact HO
      iexact HX
    iexact HY
  | 2, _, _ => by
    have e : Hs (F := F) (c := c) 2 2 = HdI (F := F) (c := c) 2 := by unfold Hs; exact if_neg (by decide)
    unfold H3; rw [e]
    iintro ⟨HZ, HY, ⟨HO, HX⟩⟩
    isplitl [HO]; · iexact HO
    iintro HO
    isplitl [HZ]; · iexact HZ
    isplitl [HY]; · iexact HY
    isplitl [HO]; · iexact HO
    iexact HX

/-! ### The groups -/
theorem iv4n (t : Fin k0_t4_loop.trips) : (gW t.val).toNat = t.val ∧ t.val < 3 ∧ (Scalar.subi (bW (gW t.val)) 1#32).toNat = 62 + 7 * t.val ∧ (Scalar.addi (Scalar.subi (bW (gW t.val)) 1#32) 1#32).toNat = 62 + 7 * t.val + 1
    ∧ (Scalar.addi (Scalar.subi (bW (gW t.val)) 1#32) 11#32).toNat = 62 + 7 * t.val + 11 ∧ (bW (gW t.val)).toNat = 62 + 7 * t.val + 1 ∧ (Scalar.addi (bW (gW t.val)) 1#32).toNat = 62 + 7 * t.val + 1 + 1 ∧ (Scalar.addi (bW (gW t.val)) 11#32).toNat = 62 + 7 * t.val + 1 + 11 := by
  revert t; decide +kernel
theorem T.waitCe {x : W} (h : K2 x) {i : ℕ} (e : x.toNat = i) : T c iprop(Fl V i ∗ Owes (F := F) c) (Hand.waitC x h) (fun _ => iprop(Landed V i ∗ Owes c)) := by
  subst e; exact T.waitC x h
abbrev St4 (V : Vals F c) (t : ℕ) : sProp 𝕄 := iprop(StD V (62 + 7 * t) ∗ (Any (F := F) c b31 Finset.univ ∗ Any (F := F) c b32 Finset.univ) ∗ H3 (F := F) (c := c) t)
set_option maxHeartbeats 1000000 in
theorem T.group (t : Fin k0_t4_loop.trips) {s : Mxu F} (hM : MxA V (62 + 7 * t.val) s) :
    T c (St4 V t.val) (group t s) (fun s' => iprop(⌜MxA V (62 + 7 * (t.val + 1)) s'⌝ ∗ St4 V (t.val + 1))) := by
  obtain ⟨eg, ht, ea, ea1, ea11, eb, eb1, eb11⟩ := iv4n t
  obtain ⟨e0, ho, hm⟩ := hM
  obtain ⟨n, hn⟩ : ∃ n, 62 + 7 * t.val = n := ⟨_, rfl⟩
  rw [hn] at ho hm ea ea1 ea11 eb eb1 eb11
  have hw1 := T.waitCe (V := V) (c := c) (iv4 t).2.2.1 ea1
  have hw2 := T.waitCe (V := V) (c := c) (iv4 t).2.2.2.2 eb1
  have hgt : (⟨(gW t.val).toNat, (iv4 t).1⟩ : Fin 4) = ⟨t.val, by omega⟩ := Fin.ext eg
  unfold Hand.group
  refine T.pre (P' := iprop((Ring V n ∗ Owes (F := F) c) ∗ (B7 V ∗ Any (F := F) c b29 Finset.univ) ∗ ((Any (F := F) c b31 Finset.univ ∗ Any (F := F) c b32 Finset.univ) ∗ (Ob (F := F) (c := c) ⟨(gW t.val).toNat, (iv4 t).1⟩)) ∗ (Ob (F := F) (c := c) ⟨t.val, by omega⟩ -∗ H3 (F := F) (c := c) t.val))) ?_
    ((T.ringWait hw1).bind fun _ => T.ringGo ea11 ?_)
  · rw [hgt]; subst hn
    iintro ⟨⟨HR, HX⟩, HC, HH⟩
    icases (H3_take t.val (by omega) ht) $$ HH with ⟨HO, HW⟩
    isplitl [HR]; · iexact HR
    isplitl [HX]; · iexact HX
    isplitl [HC HO]
    · isplitl [HC]; · iexact HC
      iexact HO
    iexact HW
  refine T.seq (T.steps4 (i := n) (i' := n + 1) (e := e0) (lhsQ_ok (by decide) (by omega)) (srcC_ok (iv4 t).2.1 ea) (srcC_ok (iv4 t).2.2.1 ea1) hm ho (by omega)) fun s1 h1 => ?_
  refine T.pre (P' := iprop((Ring V (n + 1) ∗ Owes (F := F) c) ∗ (B7 V ∗ Any (F := F) c b29 Finset.univ) ∗ ((Any (F := F) c b31 Finset.univ ∗ Any (F := F) c b32 Finset.univ) ∗ (Ob (F := F) (c := c) ⟨(gW t.val).toNat, (iv4 t).1⟩)) ∗ (Ob (F := F) (c := c) ⟨t.val, by omega⟩ -∗ H3 (F := F) (c := c) t.val))) ?_
    ((T.ringWait hw2).bind fun _ => T.ringGo eb11 ?_)
  · iintro ⟨⟨HR, HO⟩, HX⟩
    isplitr [HX]
    · isplitl [HR]; · iapply (Ring_next n); iexact HR
      iexact HO
    iexact HX
  refine T.seq (T.steps4Pop (gW t.val).toNat (iv4 t).1 (i := n + 1) (i' := n + 1 + 1) (lhsQ_ok (by decide) (by omega)) (srcC_ok (iv4 t).2.2.2.1 eb) (srcC_ok (iv4 t).2.2.2.2 eb1) h1 (by omega)) fun s2 h2 => ?_
  have h3 := MxA.next h2 (by omega)
  refine T.pre (P' := iprop(Hs (F := F) (c := c) t.val 0 ∗ Hs (F := F) (c := c) t.val 1 ∗ Hs (F := F) (c := c) t.val 2 ∗ StD V (n + 1 + 1) ∗ (Any (F := F) c b31 Finset.univ ∗ Any (F := F) c b32 Finset.univ))) ?_
    (((T.startIf t 0 0 rfl).frame _).bind fun _ => T.pre (P' := iprop(Hs (F := F) (c := c) t.val 1 ∗ Hs (F := F) (c := c) t.val 2 ∗ Hs (F := F) (c := c) (t.val + 1) 0 ∗ StD V (n + 1 + 1) ∗ (Any (F := F) c b31 Finset.univ ∗ Any (F := F) c b32 Finset.univ))) ?_
      (((T.startIf t 1 1 rfl).frame _).bind fun _ => T.pre (P' := iprop(Hs (F := F) (c := c) t.val 2 ∗ Hs (F := F) (c := c) (t.val + 1) 0 ∗ Hs (F := F) (c := c) (t.val + 1) 1 ∗ StD V (n + 1 + 1) ∗ (Any (F := F) c b31 Finset.univ ∗ Any (F := F) c b32 Finset.univ))) ?_
        (((T.startIf t 2 2 rfl).frame _).bind fun _ => T.pre (P' := iprop(StD V (n + 1 + 1) ∗ (Any (F := F) c b31 Finset.univ ∗ Any (F := F) c b32 Finset.univ) ∗ H3 (F := F) (c := c) (t.val + 1))) ?_ (((T.loop5 t (by omega) h3).frame _).post fun s' => ?_))))
  · rw [hgt]
    iintro ⟨⟨HR, HO⟩, HX, ⟨HC, HB⟩, HW⟩
    ihave HH := HW $$ HB
    icases HH with ⟨Ha, Hb, Hc⟩
    isplitl [Ha]; · iexact Ha
    isplitl [Hb]; · iexact Hb
    isplitl [Hc]; · iexact Hc
    isplitr [HC]
    · isplitl [HR HO]
      · isplitl [HR]; · iapply (Ring_next (n + 1)); iexact HR
        iexact HO
      iexact HX
    iexact HC
  · iintro ⟨H0, H1, H2, HX⟩
    isplitl [H1]; · iexact H1
    isplitl [H2]; · iexact H2
    isplitl [H0]; · iexact H0
    iexact HX
  · iintro ⟨H1, H2, H0, HX⟩
    isplitl [H2]; · iexact H2
    isplitl [H0]; · iexact H0
    isplitl [H1]; · iexact H1
    iexact HX
  · iintro ⟨H2, H0, H1, HD, HC⟩
    isplitl [HD]; · iexact HD
    isplitl [HC]; · iexact HC
    isplitl [H0]; · iexact H0
    isplitl [H1]; · iexact H1
    iexact H2
  · have en : n + 1 + 1 + 5 = 62 + 7 * (t.val + 1) := by omega
    rw [en]
    iintro ⟨⟨%h, HD⟩, HC⟩
    isplitr; · ipureintro; exact h
    isplitl [HD]; · iexact HD
    iexact HC
theorem T.loop4 {s : Mxu F} (h : MxA V 62 s) : T c (St4 V 0) (loop4 s) (fun s' => iprop(⌜MxA V 83 s'⌝ ∗ St4 V 3)) := by
  unfold Hand.loop4
  refine T.pre ?_ ((loopT (fun k s' => iprop(⌜MxA V (62 + 7 * k) s'⌝ ∗ St4 V k)) fun k a => T.fact fun hM => T.group k hM).post fun s' => ?_)
  · iintro H; isplitr
    · ipureintro; exact h
    · iexact H
  · exact .rfl

end Cert.KernelIdeal.Hand
-- ==== Proof.ISplit.lean ====
module

public import proofs.«01_k».proof.Proof.IHeads

/-! Whole buffers as their blocks, and back. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

theorem Sq_fin (n : ℕ) (f : ℕ → sProp 𝕄) : bigSep Finset.univ (fun t : Fin n => f t.val) ⊣⊢ Sq f 0 n := by
  rw [Ring.bigSep_fin_eq_range n _ f (fun _ _ => rfl)]
  induction n with
  | zero => rw [Finset.range_zero, BI.bigSep_empty]; exact ⟨.rfl, .rfl⟩
  | succ n ih =>
    rw [Finset.range_add_one, BI.bigSep_insert Finset.notMem_range_self]
    constructor
    · refine (show iprop(f n ∗ bigSep (Finset.range n) f) ⊢ _ from ?_)
      iintro ⟨H1, H2⟩
      iapply (Sq_snoc f 0 n).1
      isplitl [H2]; · iapply ih.1; iexact H2
      rw [Nat.zero_add]; iexact H1
    · refine (show _ ⊢ iprop(f n ∗ bigSep (Finset.range n) f) from ?_)
      iintro H
      icases (Sq_snoc f 0 n).2 $$ H with ⟨H1, H2⟩
      rw [Nat.zero_add]
      isplitl [H2]; · iexact H2
      iapply ih.2; iexact H1
theorem bigSep_facts {I : Type} [DecidableEq I] (S : Finset I) (φ : I → Prop) (X : I → sProp 𝕄) :
    bigSep S (fun t => iprop(⌜φ t⌝ ∗ X t)) ⊢ iprop(⌜∀ t ∈ S, φ t⌝ ∗ bigSep S X) := by
  induction S using Finset.induction_on with
  | empty =>
    rw [BI.bigSep_empty, BI.bigSep_empty]
    iintro H; isplitr
    · ipureintro; intro t ht; exact absurd ht (Finset.notMem_empty _)
    · iexact H
  | insert a S ha ih =>
    rw [BI.bigSep_insert ha, BI.bigSep_insert ha]
    refine (BIClass.sep_mono (P := iprop(⌜φ a⌝ ∗ X a)) .rfl ih).trans ?_
    refine (show _ ⊢ iprop(⌜_⌝ ∗ (X a ∗ bigSep S X)) from ?_)
    iintro ⟨⟨%h, H⟩, %h', H'⟩
    isplitr
    · ipureintro; intro t ht
      rcases Finset.mem_insert.1 ht with rfl | ht
      · exact h
      · exact h' t ht
    isplitl [H]; · iexact H
    iexact H'

section
variable {sp : Space} {s : Shape} {e : EltTy} {b : Memref sig .tc sp s e} {n : ℕ} (I : Fin n → Finset (Idx (b.view.loc (c : Thread nD τ)))) (key : Idx (b.view.loc (c : Thread nD τ)) → Fin n)
  (hk : ∀ t i, i ∈ I t ↔ key i = t) {q : PosShare TreeShare}
include hk
theorem key_disj (t t' : Fin n) (h : t ≠ t') : Disjoint (I t) (I t') :=
  Finset.disjoint_left.2 fun i hi hi' => h (((hk t i).1 hi).symm.trans ((hk t' i).1 hi'))
theorem key_cover : Finset.univ.biUnion I = Finset.univ := by
  ext i; simp only [Finset.mem_biUnion, Finset.mem_univ, true_and, iff_true]; exact ⟨key i, (hk _ _).2 rfl⟩
theorem Own_split {f : ℕ → sProp 𝕄} (hf : ∀ t : Fin n, f t.val = Own (F := F) c b (I t) q (fun _ => True)) : Own (F := F) c b Finset.univ q (fun _ => True) ⊢ Sq f 0 n := by
  refine .trans ?_ (Sq_fin n f).1
  have e : bigSep Finset.univ (fun t : Fin n => f t.val) = bigSep Finset.univ (fun t : Fin n => Own (F := F) c b (I t) q (fun _ => True)) := BI.bigSep_congr fun t _ => hf t
  rw [e]
  unfold Own
  iintro ⟨%g, -, H⟩
  have e' := Ring.pointsTo_blocks (Val := Elt F) (Ix := Unit) (Name := ℕ) (U := Pipeline.UD sig nD τ) (Lvl := ℕ) I (key_disj I key hk) (key_cover I key hk) (q := q) g
  have e'' : (b.view.loc (c : Thread nD τ) ↦{q} g : sProp 𝕄) ⊢ bigSep Finset.univ (fun t : Fin n => (b.view.loc (c : Thread nD τ) ↦[I t]{q} g : sProp 𝕄)) := by rw [← e']
  ihave H := e'' $$ H
  have hm : bigSep Finset.univ (fun t : Fin n => (b.view.loc (c : Thread nD τ) ↦[I t]{q} g : sProp 𝕄)) ⊢ bigSep Finset.univ (fun t : Fin n => iprop(∃ f, ⌜True⌝ ∗ (b.view.loc (c : Thread nD τ) ↦[I t]{q} f))) :=
    BI.bigSep_mono fun t _ => show (b.view.loc (c : Thread nD τ) ↦[I t]{q} g : sProp 𝕄) ⊢ iprop(∃ f, ⌜True⌝ ∗ (b.view.loc (c : Thread nD τ) ↦[I t]{q} f)) from by
      iintro H; iexists g; isplitr; · ipureintro; trivial
      iexact H
  iapply hm; iexact H
theorem Own_joinP (P : Fin n → Buf (Elt F) (b.view.loc (c : Thread nD τ)) → Prop) :
    bigSep Finset.univ (fun t : Fin n => Own (F := F) c b (I t) q (P t)) ⊢ Own (F := F) c b Finset.univ q (fun g => ∀ t, ∃ f, P t f ∧ ∀ i ∈ I t, g i = f i) := by
  have : Nonempty (Buf (Elt F) (b.view.loc (c : Thread nD τ))) := ⟨b.view.junk⟩
  unfold Own
  refine (Idealize.SL.BI.bigSep_exists_pi Finset.univ (fun t (f : Buf (Elt F) (b.view.loc (c : Thread nD τ))) => iprop(⌜P t f⌝ ∗ (b.view.loc (c : Thread nD τ) ↦[I t]{q} f)))).trans ?_
  iintro ⟨%fs, H⟩
  icases (bigSep_facts Finset.univ (fun t => P t (fs t)) (fun t => (b.view.loc (c : Thread nD τ) ↦[I t]{q} fs t : sProp 𝕄))) $$ H with ⟨%hP, H⟩
  icases (pointsTo_biUnion_join Finset.univ I fs b.view.junk (fun t _ t' _ h => key_disj I key hk t t' h)) $$ H with ⟨%g, %hg, H⟩
  iexists g
  isplitr; · ipureintro; exact fun t => ⟨fs t, hP t (Finset.mem_univ _), hg t (Finset.mem_univ _)⟩
  rw [key_cover I key hk]; iexact H
theorem Own_join {f : ℕ → sProp 𝕄} (hf : ∀ t : Fin n, f t.val = Own (F := F) c b (I t) q (fun _ => True)) : Sq f 0 n ⊢ Own (F := F) c b Finset.univ q (fun _ => True) := by
  refine (Sq_fin n f).2.trans ?_
  have e : bigSep Finset.univ (fun t : Fin n => f t.val) = bigSep Finset.univ (fun t : Fin n => Own (F := F) c b (I t) q (fun _ => True)) := BI.bigSep_congr fun t _ => hf t
  rw [e]
  refine (Own_joinP I key hk (fun _ _ => True)).trans ?_
  unfold Own
  iintro ⟨%g, -, H⟩; iexists g; isplitr; · ipureintro; trivial
  iexact H
end

/-! ### The blocks -/
theorem mem_lead {n a b k : ℕ} (h) (i : (⟨3, ![n, a, b]⟩ : Shape).Idx) : i ∈ (Rect.unit (s := ⟨3, ![n, a, b]⟩) ![k, 0, 0] ![1, a, b] h).set ↔ (i 0).val = k := by
  rw [Rect.mem_set_unit]
  constructor
  · intro h'
    have h0 : k ≤ (i 0).val ∧ (i 0).val < k + 1 := h' 0
    omega
  · intro h' x
    fin_cases x
    · show k ≤ (i 0).val ∧ (i 0).val < k + 1; omega
    · have : (i 1).val < a := (i 1).2
      show 0 ≤ (i 1).val ∧ (i 1).val < 0 + a; omega
    · have : (i 2).val < b := (i 2).2
      show 0 ≤ (i 2).val ∧ (i 2).val < 0 + b; omega
theorem mem_cols {n m w k : ℕ} (h) (i : (⟨2, ![n, m]⟩ : Shape).Idx) : i ∈ (Rect.unit (s := ⟨2, ![n, m]⟩) ![0, w * k] ![n, w] h).set ↔ w * k ≤ (i 1).val ∧ (i 1).val < w * k + w := by
  rw [Rect.mem_set_unit]
  constructor
  · intro h'; exact h' 1
  · intro h' x
    fin_cases x
    · have : (i 0).val < n := (i 0).2
      show 0 ≤ (i 0).val ∧ (i 0).val < 0 + n; omega
    · exact h'
theorem slot_key (t : Fin 12) (i : S12x512x2048.Idx) : i ∈ slotSet t.val ↔ (i 0 : Fin 12) = t := by
  unfold slotSet
  refine (mem_lead (n := 12) (a := 512) (b := 2048) _ i).trans ?_
  rw [Nat.mod_eq_of_lt t.2]; exact Fin.ext_iff.symm
theorem hset_key (t : Fin 28) (i : S28x256x512.Idx) : i ∈ hset t.val ↔ (i 0 : Fin 28) = t := by
  unfold hset
  refine (mem_lead (n := 28) (a := 256) (b := 512) _ i).trans ?_
  rw [Nat.mod_eq_of_lt t.2]; exact Fin.ext_iff.symm
theorem rset_key (t : Fin 14) (i : S14x256x256.Idx) : i ∈ rset t ↔ (i 0 : Fin 14) = t := by
  rw [rset_eq]
  refine (mem_lead (n := 14) (a := 256) (b := 256) _ i).trans ?_
  exact Fin.ext_iff.symm
def colKey (i : S256x3584.Idx) : Fin 14 := ⟨(i 1).val / 256, by have : (i 1).val < 3584 := (i 1).2; omega⟩
theorem colKey_iff (t : Fin 14) (i : S256x3584.Idx) : (256 * t.val ≤ (i 1).val ∧ (i 1).val < 256 * t.val + 256) ↔ colKey i = t := by
  rw [Fin.ext_iff]; show _ ↔ (i 1).val / 256 = t.val; omega
theorem roset_key (t : Fin 14) (i : S256x3584.Idx) : i ∈ roset t ↔ colKey i = t := by
  have e : roset t = (Rect.unit (s := S256x3584) ![0, 256 * t.val] S256x256.size (inbRes (tc256 t))).set := View.set_slice_whole _ _
  rw [e]
  exact (mem_cols (n := 256) (m := 3584) (w := 256) _ i).trans (colKey_iff t i)
def cset (t : Fin 14) : Finset S14x256x256.Idx := (cTile t).view.set
def xcset (t : Fin 14) : Finset S256x3584.Idx := (xcDst t).view.set
theorem cset_key (t : Fin 14) (i : S14x256x256.Idx) : i ∈ cset t ↔ (i 0 : Fin 14) = t := by
  have e : cset t = (Rect.unit (s := S14x256x256) ![t.val, 0, 0] S1x256x256.size (inbX t.2)).set := (View.set_reshape _ _).trans (View.set_slice_whole _ _)
  rw [e]
  exact (mem_lead (n := 14) (a := 256) (b := 256) _ i).trans Fin.ext_iff.symm
theorem xcset_key (t : Fin 14) (i : S256x3584.Idx) : i ∈ xcset t ↔ colKey i = t := by
  have e : xcset t = (Rect.unit (s := S256x3584) ![0, 256 * t.val] S256x256.size (inbRes (tc256 t))).set := View.set_slice_whole _ _
  rw [e]
  exact (mem_cols (n := 256) (m := 3584) (w := 256) _ i).trans (colKey_iff t i)
/-- Places `(g, l)` numbered. -/
def obN (t : Fin 8) : Finset S4x2x256x8x128.Idx := obset ⟨t.val / 2, by omega⟩ ⟨t.val % 2, by omega⟩
def obKey (i : S4x2x256x8x128.Idx) : Fin 8 := ⟨2 * (i 0).val + (i 1).val, by have : (i 0).val < 4 := (i 0).2; have : (i 1).val < 2 := (i 1).2; omega⟩
theorem ob_key (t : Fin 8) (i : S4x2x256x8x128.Idx) : i ∈ obN t ↔ obKey i = t := by
  unfold obN
  rw [obset_eq, Rect.mem_set_unit, Fin.ext_iff]
  have h1 : (i 1).val < 2 := (i 1).2
  have h2 : (i 2).val < 256 := (i 2).2
  have h3 : (i 3).val < 8 := (i 3).2
  have h4 : (i 4).val < 128 := (i 4).2
  show _ ↔ 2 * (i 0).val + (i 1).val = t.val
  constructor
  · intro h'
    have a0 : t.val / 2 ≤ (i 0).val ∧ (i 0).val < t.val / 2 + 1 := h' 0
    have a1 : t.val % 2 ≤ (i 1).val ∧ (i 1).val < t.val % 2 + 1 := h' 1
    omega
  · intro h' x
    fin_cases x
    · show t.val / 2 ≤ (i 0).val ∧ (i 0).val < t.val / 2 + 1; omega
    · show t.val % 2 ≤ (i 1).val ∧ (i 1).val < t.val % 2 + 1; omega
    · show 0 ≤ (i 2).val ∧ (i 2).val < 0 + 256; omega
    · show 0 ≤ (i 3).val ∧ (i 3).val < 0 + 8; omega
    · show 0 ≤ (i 4).val ∧ (i 4).val < 0 + 128; omega
def qSet (t : Fin 4) : Finset S256x16x256.Idx := (Rect.unit (s := S256x16x256) ![0, 8 * (t.val / 2), 128 * (t.val % 2)] S256x8x128.size (inbQ (by omega) (by omega))).set
def kSet (t : Fin 2) : Finset S256x8x256.Idx := (Rect.unit (s := S256x8x256) ![0, 0, 128 * t.val] S256x8x128.size (inbK (by omega))).set
def qKey (i : S256x16x256.Idx) : Fin 4 := ⟨2 * ((i 1).val / 8) + (i 2).val / 128, by have : (i 1).val < 16 := (i 1).2; have : (i 2).val < 256 := (i 2).2; omega⟩
def kKey (i : S256x8x256.Idx) : Fin 2 := ⟨(i 2).val / 128, by have : (i 2).val < 256 := (i 2).2; omega⟩
theorem q_key (t : Fin 4) (i : S256x16x256.Idx) : i ∈ qSet t ↔ qKey i = t := by
  unfold qSet
  rw [Rect.mem_set_unit, Fin.ext_iff]
  have h0 : (i 0).val < 256 := (i 0).2
  have h1 : (i 1).val < 16 := (i 1).2
  have h2 : (i 2).val < 256 := (i 2).2
  show _ ↔ 2 * ((i 1).val / 8) + (i 2).val / 128 = t.val
  constructor
  · intro h'
    have a1 : 8 * (t.val / 2) ≤ (i 1).val ∧ (i 1).val < 8 * (t.val / 2) + 8 := h' 1
    have a2 : 128 * (t.val % 2) ≤ (i 2).val ∧ (i 2).val < 128 * (t.val % 2) + 128 := h' 2
    omega
  · intro h' x
    fin_cases x
    · show 0 ≤ (i 0).val ∧ (i 0).val < 0 + 256; omega
    · show 8 * (t.val / 2) ≤ (i 1).val ∧ (i 1).val < 8 * (t.val / 2) + 8; omega
    · show 128 * (t.val % 2) ≤ (i 2).val ∧ (i 2).val < 128 * (t.val % 2) + 128; omega
theorem k_key (t : Fin 2) (i : S256x8x256.Idx) : i ∈ kSet t ↔ kKey i = t := by
  unfold kSet
  rw [Rect.mem_set_unit, Fin.ext_iff]
  have h0 : (i 0).val < 256 := (i 0).2
  have h1 : (i 1).val < 8 := (i 1).2
  have h2 : (i 2).val < 256 := (i 2).2
  show _ ↔ (i 2).val / 128 = t.val
  constructor
  · intro h'
    have a2 : 128 * t.val ≤ (i 2).val ∧ (i 2).val < 128 * t.val + 128 := h' 2
    omega
  · intro h' x
    fin_cases x
    · show 0 ≤ (i 0).val ∧ (i 0).val < 0 + 256; omega
    · show 0 ≤ (i 1).val ∧ (i 1).val < 0 + 8; omega
    · show 128 * t.val ≤ (i 2).val ∧ (i 2).val < 128 * t.val + 128; omega
theorem hd0_set (l : Fin 2) : (hdDst 0 l).view.set = qSet ⟨l.val, by omega⟩ := by
  refine (View.set_slice_whole _ _).trans ?_
  unfold qSet; fin_cases l <;> rfl
theorem hd1_set (l : Fin 2) : (hdDst 1 l).view.set = qSet ⟨2 + l.val, by omega⟩ := by
  refine (View.set_slice_whole _ _).trans ?_
  unfold qSet; fin_cases l <;> rfl
theorem hd2_set (l : Fin 2) : (hdDst 2 l).view.set = kSet l := View.set_slice_whole _ _
theorem hd3_set (l : Fin 2) : (hdDst 3 l).view.set = kSet l := View.set_slice_whole _ _

end Cert.KernelIdeal.Hand
-- ==== Proof.ISegA.lean ====
module

public import proofs.«01_k».proof.Proof.ISteps

/-! The copies in, and the opening of the body. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

/-- A whole buffer copied into another, on its way. -/
abbrev InF (i : ℕ) (h : i < 5) {S : Shape} {e : EltTy} (src : Memref sig .tc .hbm S e) (dst : Memref sig .tc .vmem S e)
    (f : Buf (Elt F) (src.view.loc (c : Thread nD τ))) (P : Buf (Elt F) (dst.view.loc (c : Thread nD τ)) → Prop) : sProp 𝕄 :=
  Fly c (.dma (iSem i h)) dst.view.dmaCredit iprop(Own c dst Finset.univ fullShare P ∗ Own c src Finset.univ fullShare (fun g => g = f))
theorem T.copyIn {i : ℕ} (h : i < 5) {S : Shape} {e : EltTy} {src : Memref sig .tc .hbm S e} {dst : Memref sig .tc .vmem S e} {hs : src.view.WordExact} {hd : dst.view.WordExact}
    {f : Buf (Elt F) (src.view.loc (c : Thread nD τ))} {P : Buf (Elt F) (dst.view.loc (c : Thread nD τ)) → Prop} (hN0 : 0 < S.numel)
    (hP : ∀ fd, P (dst.view.write (Elt F) fd (src.view.read (Elt F) f) Finset.univ)) :
    T c iprop(Own c src Finset.univ fullShare (fun g => g = f) ∗ Any (F := F) c dst Finset.univ ∗ semVal ((c : Thread nD τ), SemLoc.dma (iSem i h)) 0) (copyIn i h src dst hs hd)
      (fun _ => InF i h src dst f P) := by
  unfold Hand.copyIn
  refine T.pre ?_ (T.start (src := src) (dst := dst) (q := fullShare) (fs := f) (Ss := Finset.univ) (Sd := Finset.univ) rfl hN0 (Finset.subset_univ _) (Finset.subset_univ _) fun fd => ?_)
  · unfold Any Own
    iintro ⟨⟨%g, %hg, H⟩, ⟨%fd, -, Hd⟩, Hs⟩
    subst hg
    isplitl [H]; · iexact H
    isplitl [Hd]; · iexists fd; iexact Hd
    iexact Hs
  · exact BIClass.sep_mono (Own_intro (b := dst) (hP fd)) (Own_intro (b := src) rfl)
theorem T.waitIn {i : ℕ} (h : i < 5) {S : Shape} {e : EltTy} {src : Memref sig .tc .hbm S e} {dst : Memref sig .tc .vmem S e} {hs : src.view.WordExact} {hd : dst.view.WordExact}
    {f : Buf (Elt F) (src.view.loc (c : Thread nD τ))} {P : Buf (Elt F) (dst.view.loc (c : Thread nD τ)) → Prop} :
    T c iprop(InF i h src dst f P ∗ Owes (F := F) c) (waitIn i h src dst hs hd)
      (fun _ => iprop(((Own c dst Finset.univ fullShare P ∗ Own c src Finset.univ fullShare (fun g => g = f)) ∗ semVal ((c : Thread nD τ), SemLoc.dma (iSem i h)) 0) ∗ Owes c)) := by
  unfold Hand.waitIn
  exact T.await (src := src) (dst := dst) rfl

variable {V : Vals F c}
theorem nW_nat {i : ℕ} (h : i < 96) : (nW i).toNat = i := by rw [BitVec.toNat_ofNat]; omega
theorem goHe {x : W} (h : K0 x) {i : ℕ} (e : x.toNat = i) : T c (HId V i) (Hand.startH x h) (fun _ => HFl V i) := by
  subst e; exact T.goH x h
theorem goAe {x : W} (h : K0 x) {i : ℕ} (e : x.toNat = i) : T c (Idle V i) (Hand.startA x h) (fun _ => Fl V i) := by
  subst e; exact T.goA x h
theorem goBe {x : W} (h : K1 x) {i : ℕ} (e : x.toNat = i) : T c (Idle V i) (Hand.startB x h) (fun _ => Fl V i) := by
  subst e; exact T.goB x h
theorem goCe {x : W} (h : K2 x) {i : ℕ} (e : x.toNat = i) : T c (Idle V i) (Hand.startC x h) (fun _ => Fl V i) := by
  subst e; exact T.goC x h
theorem waitAe {x : W} (h : K0 x) {i : ℕ} (e : x.toNat = i) : T c iprop(Fl V i ∗ Owes (F := F) c) (Hand.waitA x h) (fun _ => iprop(Landed V i ∗ Owes c)) := by
  subst e; exact T.waitA x h
theorem waitBe {x : W} (h : K1 x) {i : ℕ} (e : x.toNat = i) : T c iprop(Fl V i ∗ Owes (F := F) c) (Hand.waitB x h) (fun _ => iprop(Landed V i ∗ Owes c)) := by
  subst e; exact T.waitB x h
theorem waitCe {x : W} (h : K2 x) {i : ℕ} (e : x.toNat = i) : T c iprop(Fl V i ∗ Owes (F := F) c) (Hand.waitC x h) (fun _ => iprop(Landed V i ∗ Owes c)) := by
  subst e; exact T.waitC x h

/-- The first `i` copies of each kind started. -/
abbrev Go (V : Vals F c) (i : ℕ) : sProp 𝕄 := iprop((Sq (HFl V) 0 i ∗ Sq (HId V) i (28 - i)) ∗ (Sq (Fl V) 0 i ∗ Sq (Idle V) i (12 - i)))
theorem Sq_move {f g : ℕ → sProp 𝕄} {i n : ℕ} (h : i < n) : iprop(Sq g 0 i ∗ Sq f i (n - i)) ⊢ iprop(f i ∗ (g i -∗ (Sq g 0 (i + 1) ∗ Sq f (i + 1) (n - (i + 1))))) := by
  rw [show n - i = (n - (i + 1)) + 1 by omega, Sq_cons]
  iintro ⟨H1, H2, H3⟩
  isplitl [H2]; · iexact H2
  iintro H
  isplitl [H1 H]
  · iapply (Sq_snoc g 0 i).1; isplitl [H1]; · iexact H1
    rw [Nat.zero_add]; iexact H
  iexact H3
theorem T.moveH {i : ℕ} (h : i < 28) {X : sProp 𝕄} : T c iprop((Sq (HFl V) 0 i ∗ Sq (HId V) i (28 - i)) ∗ X) (Hand.startH (nW i) (K0n h)) (fun _ => iprop((Sq (HFl V) 0 (i + 1) ∗ Sq (HId V) (i + 1) (28 - (i + 1))) ∗ X)) := by
  refine T.pre (BIClass.sep_mono (Sq_move h) .rfl) ?_
  refine T.pre ?_ (((goHe (V := V) (K0n h) (nW_nat (by omega))).frame iprop((HFl V i -∗ (Sq (HFl V) 0 (i + 1) ∗ Sq (HId V) (i + 1) (28 - (i + 1)))) ∗ X)).post fun _ => ?_)
  · iintro ⟨⟨H1, H2⟩, H3⟩
    isplitl [H1]; · iexact H1
    isplitl [H2]; · iexact H2
    iexact H3
  · iintro ⟨H1, H2, H3⟩
    isplitl [H1 H2]; · iapply H2; iexact H1
    iexact H3
theorem T.moveA {i : ℕ} (h : i < 12) {X : sProp 𝕄} : T c iprop((Sq (Fl V) 0 i ∗ Sq (Idle V) i (12 - i)) ∗ X) (Hand.startA (nW i) (K0n (by omega))) (fun _ => iprop((Sq (Fl V) 0 (i + 1) ∗ Sq (Idle V) (i + 1) (12 - (i + 1))) ∗ X)) := by
  refine T.pre (BIClass.sep_mono (Sq_move h) .rfl) ?_
  refine T.pre ?_ (((goAe (V := V) (K0n (by omega)) (nW_nat (by omega))).frame iprop((Fl V i -∗ (Sq (Fl V) 0 (i + 1) ∗ Sq (Idle V) (i + 1) (12 - (i + 1)))) ∗ X)).post fun _ => ?_)
  · iintro ⟨⟨H1, H2⟩, H3⟩
    isplitl [H1]; · iexact H1
    isplitl [H2]; · iexact H2
    iexact H3
  · iintro ⟨H1, H2, H3⟩
    isplitl [H1 H2]; · iapply H2; iexact H1
    iexact H3
theorem T.swap {α : Type} {A B X : sProp 𝕄} {p : PR F α} {Q : α → sProp 𝕄} (h : T c iprop(B ∗ A ∗ X) p Q) : T c iprop(A ∗ B ∗ X) p Q := by
  refine T.pre ?_ h
  iintro ⟨H1, H2, H3⟩
  isplitl [H2]; · iexact H2
  isplitl [H1]; · iexact H1
  iexact H3
theorem T.startsHW {α : Type} {k : PR F α} {X : sProp 𝕄} {Q : α → sProp 𝕄} (n i : ℕ) (h : i + n ≤ 28) (h' : i + n ≤ 12)
    (hk : T c iprop((Sq (HFl V) 0 (i + n) ∗ Sq (HId V) (i + n) (28 - (i + n))) ∗ (Sq (Fl V) 0 (i + n) ∗ Sq (Idle V) (i + n) (12 - (i + n))) ∗ X) k Q) :
    T c iprop((Sq (HFl V) 0 i ∗ Sq (HId V) i (28 - i)) ∗ (Sq (Fl V) 0 i ∗ Sq (Idle V) i (12 - i)) ∗ X) (startsHW k n i h) Q := by
  induction n generalizing i with
  | zero => exact hk
  | succ n ih =>
    unfold Hand.startsHW
    refine (T.moveH (by omega)).bind fun _ => T.swap ((T.moveA (by omega)).bind fun _ => T.swap (ih (i + 1) (by omega) (by omega) ?_))
    rw [show i + 1 + n = i + (n + 1) by omega]; exact hk
theorem T.startsH {α : Type} {k : PR F α} {X : sProp 𝕄} {Q : α → sProp 𝕄} (n i : ℕ) (h : i + n ≤ 28)
    (hk : T c iprop((Sq (HFl V) 0 (i + n) ∗ Sq (HId V) (i + n) (28 - (i + n))) ∗ X) k Q) :
    T c iprop((Sq (HFl V) 0 i ∗ Sq (HId V) i (28 - i)) ∗ X) (startsH k n i h) Q := by
  induction n generalizing i with
  | zero => exact hk
  | succ n ih =>
    unfold Hand.startsH
    refine (T.moveH (by omega)).bind fun _ => ih (i + 1) (by omega) ?_
    rw [show i + 1 + n = i + (n + 1) by omega]; exact hk

theorem T.hsRoll : T c iprop(Any (F := F) c b19 Finset.univ ∗ Own c b18 Finset.univ fullShare V.HS) (hsRoll : PR F PUnit) (fun _ => iprop(B19 V 0 ∗ Own c b18 Finset.univ fullShare V.HS)) := by
  unfold Hand.hsRoll Hand.ldW Hand.stW
  refine T.seq (T.load (c := c) (b := b19) Finset.univ (Finset.subset_univ _)) fun _ _ => T.bind (T.store (c := c) (b := b19) (S := Finset.univ) (Finset.subset_univ _)) fun _ => ?_
  refine T.seq (T.load (c := c) (b := b18) Finset.univ (Finset.subset_univ _)) fun v hv => ?_
  obtain ⟨g, hg, rfl⟩ := hv
  refine T.seq (T.load (c := c) (b := b19) Finset.univ (Finset.subset_univ _)) fun _ _ => ?_
  exact (T.storeOwn (c := c) (b := b19) (S := Finset.univ) (P := fun _ => True) (P' := V.HR 0) (hx := View.stores_vmem_bits_univ h_S256x112 rfl) (hm := .inl rfl)
    (r := Rect.unit (s := S256x128) ![0, 0] S256x112.size inb_S256x128_S256x112_0_0) (Finset.subset_univ _) (fun f _ => V.hr0 f g hg)).frame _

/-! ### The five copies in -/
abbrev In0 (V : Vals F c) : sProp 𝕄 := InF 0 (by decide) b1 b18 V.hs1 V.HS
abbrev In1 (V : Vals F c) : sProp 𝕄 := InF 1 (by decide) b4 b21 V.res4 V.HRes
abbrev In2 (V : Vals F c) : sProp 𝕄 := InF 2 (by decide) b5 b22 V.nw5 (fun _ => True)
abbrev In3 (V : Vals F c) : sProp 𝕄 := InF 3 (by decide) b8 b23 V.pos8 (fun _ => True)
abbrev In4 (V : Vals F c) : sProp 𝕄 := InF 4 (by decide) b9 b24 V.fr9 (fun _ => True)
abbrev iS (i : ℕ) (h : i < 5) : sProp 𝕄 := semVal ((c : Thread nD τ), SemLoc.dma (iSem i h)) 0
abbrev Src1 (V : Vals F c) : sProp 𝕄 := Own c b1 Finset.univ fullShare (fun g => g = V.hs1)
abbrev Src4 (V : Vals F c) : sProp 𝕄 := Own c b4 Finset.univ fullShare (fun g => g = V.res4)
abbrev Src5 (V : Vals F c) : sProp 𝕄 := Own c b5 Finset.univ fullShare (fun g => g = V.nw5)
abbrev Src8 (V : Vals F c) : sProp 𝕄 := Own c b8 Finset.univ fullShare (fun g => g = V.pos8)
abbrev Src9 (V : Vals F c) : sProp 𝕄 := Own c b9 Finset.univ fullShare (fun g => g = V.fr9)
abbrev B18 (V : Vals F c) : sProp 𝕄 := Own c b18 Finset.univ fullShare V.HS
theorem HL0 : Any (F := F) c b20 Finset.univ ⊢ B20 V (4 * 0) := by
  unfold Any B20 Own; iintro ⟨%f, -, H⟩; iexists f; isplitr; · ipureintro; exact V.hl0 f
  iexact H

/-- The buffers and counters of the five copies. -/
abbrev InsI (V : Vals F c) : sProp 𝕄 := iprop((Src1 V ∗ Any (F := F) c b18 Finset.univ ∗ iS (F := F) (c := c) 0 (by decide)) ∗ (Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide)))
theorem T.segA_end {X : sProp 𝕄} : T c iprop((Sq (HFl V) 0 28 ∗ Sq (HId V) 28 0) ∗ (Owes (F := F) c ∗ In0 V ∗ (Sq (Fl V) 0 11 ∗ Sq (Idle V) 11 1) ∗ B3 V ∗ Any (F := F) c b19 Finset.univ ∗ Any (F := F) c b20 Finset.univ ∗ X))
    (do
      Hand.waitIn 0 (by decide) b1 b18 (Memref.isWhole_whole _).wordExact (Memref.isWhole_whole _).wordExact
      Hand.hsRoll
      Hand.waitH (nW 0) (K0n (by decide))
      Hand.widenH (nW 0) (K0n (by decide))
      Hand.waitA (nW 0) (K0n (by decide))
      Hand.pushPair (srcA (nW 0) (K0n (by decide))) 0 0 Mxu.init)
    (fun s => iprop(⌜MxA V 0 s⌝ ∗ StA V 0 ∗ (B18 V ∗ Src1 V ∗ iS (F := F) (c := c) 0 (by decide)) ∗ X)) := by
  have e0 : (nW 0).toNat = 0 := nW_nat (by decide)
  have q1 : Sq (Fl V) 0 11 = iprop(Fl V 0 ∗ Sq (Fl V) 1 10) := rfl
  have q2 : Sq (Idle V) 11 1 = iprop(Idle V 11 ∗ emp) := rfl
  have hd := T.widenH (V := V) (c := c) (nW 0) (K0n (by decide))
  rw [e0] at hd
  refine T.pre (P' := iprop((In0 V ∗ Owes (F := F) c) ∗ (Any (F := F) c b19 Finset.univ ∗ Sq (HFl V) 0 28 ∗ (Sq (Fl V) 0 11 ∗ Sq (Idle V) 11 1) ∗ B3 V ∗ Any (F := F) c b20 Finset.univ ∗ X))) ?_
    (((T.waitIn (by decide)).frame _).bind fun _ => ?_)
  · iintro ⟨⟨HF, -⟩, HO, HI, HW, H3, H19, H20, HX⟩
    isplitl [HI HO]
    · isplitl [HI]; · iexact HI
      iexact HO
    isplitl [H19]; · iexact H19
    isplitl [HF]; · iexact HF
    isplitl [HW]; · iexact HW
    isplitl [H3]; · iexact H3
    isplitl [H20]; · iexact H20
    iexact HX
  refine T.pre (P' := iprop((Any (F := F) c b19 Finset.univ ∗ B18 V) ∗ (Owes (F := F) c ∗ Sq (HFl V) 0 28 ∗ (Sq (Fl V) 0 11 ∗ Sq (Idle V) 11 1) ∗ B3 V ∗ Any (F := F) c b20 Finset.univ ∗ Src1 V ∗ iS (F := F) (c := c) 0 (by decide) ∗ X))) ?_
    ((T.hsRoll.frame _).bind fun _ => ?_)
  · iintro ⟨⟨⟨⟨H18, H1⟩, HS⟩, HO⟩, H19, HF, HW, H3, H20, HX⟩
    isplitl [H19 H18]
    · isplitl [H19]; · iexact H19
      iexact H18
    isplitl [HO]; · iexact HO
    isplitl [HF]; · iexact HF
    isplitl [HW]; · iexact HW
    isplitl [H3]; · iexact H3
    isplitl [H20]; · iexact H20
    isplitl [H1]; · iexact H1
    isplitl [HS]; · iexact HS
    iexact HX
  refine T.pre (P' := iprop(Owes (F := F) c ∗ HSt V 0 ∗ ((Sq (Fl V) 0 11 ∗ Sq (Idle V) 11 1) ∗ B3 V ∗ B20 V (4 * 0) ∗ B19 V 0 ∗ (B18 V ∗ Src1 V ∗ iS (F := F) (c := c) 0 (by decide)) ∗ X))) ?_
    ((T.waitHSt (V := V) e0 (K0n (by decide))).bind fun _ => ?_)
  · iintro ⟨⟨H19, H18⟩, HO, HF, HW, H3, H20, H1, HS, HX⟩
    isplitl [HO]; · iexact HO
    isplitl [HF]
    · unfold HSt; isplitr; · iempintro
      iexact HF
    isplitl [HW]; · iexact HW
    isplitl [H3]; · iexact H3
    isplitl [H20]; · iapply (HL0 (V := V)); iexact H20
    isplitl [H19]; · iexact H19
    isplitl [H18 H1 HS]
    · isplitl [H18]; · iexact H18
      isplitl [H1]; · iexact H1
      iexact HS
    iexact HX
  refine T.pre (P' := iprop((B20 V (4 * 0) ∗ Own c b17 (hset 0) fullShare (V.HH 0) ∗ B19 V 0) ∗ (Fl V 0 ∗ Owes (F := F) c) ∗ (Sq (Fl V) 1 10 ∗ Sq (Idle V) 11 1) ∗ B3 V ∗ (semVal ((c : Thread nD τ), SemLoc.dma (hSemI 0)) 0 ∗ HTk V 0) ∗ Sq (HLd V) 0 0 ∗ Sq (HFl V) 1 27 ∗ (B18 V ∗ Src1 V ∗ iS (F := F) (c := c) 0 (by decide)) ∗ X)) ?_
    ((hd.frame _).bind fun _ => ?_)
  · rw [q1]
    iintro ⟨HO, HL, ⟨H17, Hsm, Htk⟩, HF, ⟨⟨HF0, HW⟩, HI⟩, H3, H20, H19, HR, HX⟩
    isplitl [H20 H17 H19]
    · isplitl [H20]; · iexact H20
      isplitl [H17]; · iexact H17
      iexact H19
    isplitl [HF0 HO]
    · isplitl [HF0]; · iexact HF0
      iexact HO
    isplitl [HW HI]
    · isplitl [HW]; · iexact HW
      iexact HI
    isplitl [H3]; · iexact H3
    isplitl [Hsm Htk]
    · isplitl [Hsm]; · iexact Hsm
      iexact Htk
    isplitl [HL]; · iexact HL
    isplitl [HF]; · iexact HF
    isplitl [HR]; · iexact HR
    iexact HX
  refine T.swap (((waitAe (V := V) (K0n (by decide)) e0).frame _).bind fun _ => ?_)
  refine T.pre (P' := iprop((Landed V 0 ∗ B3 V) ∗ (Owes (F := F) c ∗ (Sq (Fl V) 1 10 ∗ Sq (Idle V) 11 1) ∗ (B20 V (4 * 1) ∗ Own c b17 (hset 0) fullShare (V.HH 0) ∗ B19 V 1) ∗ (semVal ((c : Thread nD τ), SemLoc.dma (hSemI 0)) 0 ∗ HTk V 0) ∗ Sq (HLd V) 0 0 ∗ Sq (HFl V) 1 27 ∗ (B18 V ∗ Src1 V ∗ iS (F := F) (c := c) 0 (by decide)) ∗ X))) ?_
    (((T.pushPair (V := V) (srcA_ok (V := V) (K0n (by decide)) e0) 0 0 Mx.init).frame _).post fun s => ?_)
  · iintro ⟨⟨HL0, HO⟩, HB, HW, H3, HX⟩
    isplitl [HL0 H3]
    · isplitl [HL0]; · iexact HL0
      iexact H3
    isplitl [HO]; · iexact HO
    isplitl [HW]; · iexact HW
    isplitl [HB]; · iexact HB
    iexact HX
  · rw [q2]
    iintro ⟨⟨%hs, HL0, H3⟩, HO, ⟨HW, ⟨HI, -⟩⟩, ⟨H20, H17, H19⟩, ⟨Hsm, Htk⟩, HL, HF, HR, HX⟩
    isplitr
    · ipureintro
      have q3 : (Ac none none none none : Fin 2 → Fin 4 → Option ℕ) = fun _ _ => none := by funext q j; fin_cases j <;> rfl
      refine ⟨none, .inl rfl, ?_⟩
      rw [q3]; exact hs
    isplitr [HR HX]
    · isplitl [HL0 HO HW HI]
      · isplitr [HO]
        · unfold Ring
          isplitl [HL0]; · iexact HL0
          isplitl [HW]; · iexact HW
          iexact HI
        iexact HO
      isplitl [H3]; · iexact H3
      isplitl [H17 Hsm Htk HL HF]
      · iapply (HSt_next (V := V) (n := 0) (by decide))
        isplitl [HL]; · iexact HL
        isplitl [H17 Hsm Htk]
        · isplitl [H17]; · iexact H17
          isplitl [Hsm]; · iexact Hsm
          iexact Htk
        iexact HF
      isplitl [H19]; · iexact H19
      iexact H20
    isplitl [HR]; · iexact HR
    iexact HX
/-- The body's opening. -/
theorem T.segA : T c iprop(Owes (F := F) c ∗ Sq (HId V) 0 28 ∗ Sq (Idle V) 0 12 ∗ InsI V ∗ B3 V ∗ Any (F := F) c b19 Finset.univ ∗ Any (F := F) c b20 Finset.univ) (segA : PR F (Mxu F))
    (fun s => iprop(⌜MxA V 0 s⌝ ∗ StA V 0 ∗ (B18 V ∗ Src1 V ∗ iS (F := F) (c := c) 0 (by decide)) ∗ (In1 V ∗ In2 V ∗ In3 V ∗ In4 V))) := by
  unfold Hand.segA
  refine T.pre (P' := iprop((Src1 V ∗ Any (F := F) c b18 Finset.univ ∗ iS (F := F) (c := c) 0 (by decide)) ∗ (Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ Owes (F := F) c ∗ Sq (HId V) 0 28 ∗ Sq (Idle V) 0 12 ∗ B3 V ∗ Any (F := F) c b19 Finset.univ ∗ Any (F := F) c b20 Finset.univ)) ?_
    (((T.copyIn (by decide) (by decide) V.hsL).frame _).bind fun _ => ?_)
  · iintro ⟨HO, HH, HI, ⟨H0, H1, H2, H3, H4⟩, HX⟩
    isplitl [H0]; · iexact H0
    isplitl [H1]; · iexact H1
    isplitl [H2]; · iexact H2
    isplitl [H3]; · iexact H3
    isplitl [H4]; · iexact H4
    isplitl [HO]; · iexact HO
    isplitl [HH]; · iexact HH
    isplitl [HI]; · iexact HI
    iexact HX
  refine T.pre (P' := iprop((Sq (HFl V) 0 0 ∗ Sq (HId V) 0 (28 - 0)) ∗ (Sq (Fl V) 0 0 ∗ Sq (Idle V) 0 (12 - 0)) ∗ ((Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ In0 V ∗ Owes (F := F) c ∗ B3 V ∗ Any (F := F) c b19 Finset.univ ∗ Any (F := F) c b20 Finset.univ))) ?_ (T.startsHW 11 0 (by decide) (by decide) ?_)
  · iintro ⟨H0, H1, H2, H3, H4, HO, HH, HI, HX⟩
    isplitl [HH]
    · isplitr; · iempintro
      iexact HH
    isplitl [HI]
    · isplitr; · iempintro
      iexact HI
    isplitl [H1]; · iexact H1
    isplitl [H2]; · iexact H2
    isplitl [H3]; · iexact H3
    isplitl [H4]; · iexact H4
    isplitl [H0]; · iexact H0
    isplitl [HO]; · iexact HO
    iexact HX
  refine T.pre (P' := iprop((Src4 V ∗ Any (F := F) c b21 Finset.univ ∗ iS (F := F) (c := c) 1 (by decide))
  ∗ (Src5 V ∗ Any (F := F) c b22 Finset.univ ∗ iS (F := F) (c := c) 2 (by decide)) ∗ (Src8 V ∗ Any (F := F) c b23 Finset.univ ∗ iS (F := F) (c := c) 3 (by decide)) ∗ (Src9 V ∗ Any (F := F) c b24 Finset.univ ∗ iS (F := F) (c := c) 4 (by decide))
    ∗ ((Sq (HFl V) 0 11 ∗ Sq (HId V) 11 (28 - 11)) ∗ (Sq (Fl V) 0 11 ∗ Sq (Idle V) 11 1) ∗ In0 V ∗ Owes (F := F) c ∗ B3 V ∗ Any (F := F) c b19 Finset.univ ∗ Any (F := F) c b20 Finset.univ))) ?_
    (((T.copyIn (P := V.HRes) (by decide) (by decide) V.resL).frame _).bind fun _ => T.swap (((T.copyIn (P := fun _ => True) (by decide) (by decide) fun _ => trivial).frame _).bind fun _ => T.swap ?_))
  · iintro ⟨HH, HI, H1, H2, H3, H4, HX⟩
    isplitl [H1]; · iexact H1
    isplitl [H2]; · iexact H2
    isplitl [H3]; · iexact H3
    isplitl [H4]; · iexact H4
    isplitl [HH]; · iexact HH
    isplitl [HI]; · iexact HI
    iexact HX
  refine T.pre (P' := iprop((Src8 V ∗ Any (F := F) c b23 Finset.univ ∗ iS (F := F) (c := c) 3 (by decide)) ∗ (Src9 V ∗ Any (F := F) c b24 Finset.univ ∗ iS (F := F) (c := c) 4 (by decide))
    ∗ ((Sq (HFl V) 0 11 ∗ Sq (HId V) 11 (28 - 11)) ∗ (Sq (Fl V) 0 11 ∗ Sq (Idle V) 11 1) ∗ In0 V ∗ Owes (F := F) c ∗ B3 V ∗ Any (F := F) c b19 Finset.univ ∗ Any (F := F) c b20 Finset.univ) ∗ In1 V ∗ In2 V)) ?_
    (((T.copyIn (P := fun _ => True) (by decide) (by decide) fun _ => trivial).frame _).bind fun _ => T.swap (((T.copyIn (P := fun _ => True) (by decide) (by decide) fun _ => trivial).frame _).bind fun _ => ?_))
  · iintro ⟨H1, H2, H3, H4, HX⟩
    isplitl [H3]; · iexact H3
    isplitl [H4]; · iexact H4
    isplitl [HX]; · iexact HX
    isplitl [H1]; · iexact H1
    iexact H2
  refine T.pre (P' := iprop((Sq (HFl V) 0 11 ∗ Sq (HId V) 11 (28 - 11)) ∗ (Owes (F := F) c ∗ In0 V ∗ (Sq (Fl V) 0 11 ∗ Sq (Idle V) 11 1) ∗ B3 V ∗ Any (F := F) c b19 Finset.univ ∗ Any (F := F) c b20 Finset.univ ∗ (In1 V ∗ In2 V ∗ In3 V ∗ In4 V)))) ?_
    (T.startsH 17 11 (by decide) T.segA_end)
  iintro ⟨H4, H3, ⟨HH, HI, H0, HO, HB, H19, H20⟩, H1, H2⟩
  isplitl [HH]; · iexact HH
  isplitl [HO]; · iexact HO
  isplitl [H0]; · iexact H0
  isplitl [HI]; · iexact HI
  isplitl [HB]; · iexact HB
  isplitl [H19]; · iexact H19
  isplitl [H20]; · iexact H20
  isplitl [H1]; · iexact H1
  isplitl [H2]; · iexact H2
  isplitl [H3]; · iexact H3
  iexact H4

end Cert.KernelIdeal.Hand
-- ==== Proof.ISegB.lean ====
module

public import proofs.«01_k».proof.Proof.IQuant
public import proofs.«01_k».proof.Proof.ISegA

/-! The first product turned to its second pass, its first eight tiles popped, and the second pass ended. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable {V : Vals F c}
/-- Both units' tile `j` popped. -/
theorem T.pop2 {β : Type} {R : sProp 𝕄} [hR : Rd c R b21 Finset.univ V.HRes] (t t' : Fin 14) (ht : t'.val = t.val + 1) (j : Fin 4) {m : ℕ}
    (hm : m = 55 ∧ t.val = (tix j 0).val ∨ m = 111 ∧ t.val = 8 + (tix j 0).val) (hm' : m = 55 ∧ t'.val = (tix j 1).val ∨ m = 111 ∧ t'.val = 8 + (tix j 1).val)
    {s : Mxu F} {Wt A A'} (h : Mx V s Wt A) (h0 : A 0 j = some m) (h1 : upA A 0 j none 1 j = some m) (hA : setJ A j none = A') {n n' : ℕ} (hn : n = t.val) (hn' : n' = t.val + 2)
    {k : Mxu F → PR F β} {Q : β → sProp 𝕄} (hk : ∀ s', Mx V s' Wt A' → T c iprop(R ∗ PD V n') (k s') Q) :
    T c iprop(R ∗ PD V n) (Hand.popDown t 0 j s >>= fun s => Hand.popDown t' 1 j s >>= k) Q := by
  subst hn; subst hn'; subst hA
  refine T.seq' (T.popDown t 0 j hm h h0) fun s1 g1 => ?_
  rw [← ht]
  refine T.seq' (T.popDown t' 1 j hm' g1 h1) fun s2 g2 => ?_
  rw [show t'.val + 1 = t.val + 2 by omega]
  rw [upA_pair] at g2
  exact hk s2 g2
theorem T.pop2' {β : Type} {R : sProp 𝕄} [hR : Rd c R b21 Finset.univ V.HRes]
    {s : Mxu F} {Wt A A'} (h : Mx V s Wt A) (h0 : A 0 0 = some 55) (h1 : upA A 0 0 none 1 0 = some 55) (hA : setJ A 0 none = A')
    {k : Mxu F → PR F β} {Q : β → sProp 𝕄} (hk : ∀ s', Mx V s' Wt A' → T c iprop(R ∗ PD V 2) (k s') Q) :
    T c iprop(R ∗ PD V 0) (Hand.popDown0 s >>= fun s => Hand.popDown 1 1 0 s >>= k) Q := by
  subst hA
  refine T.seq' (T.popDown0 h h0) fun s1 g1 => ?_
  refine T.seq' (T.popDown (V := V) (R := R) 1 1 0 (.inl ⟨rfl, rfl⟩) g1 h1) fun s2 g2 => ?_
  rw [upA_pair] at g2
  exact hk s2 g2

abbrev InsL (V : Vals F c) : sProp 𝕄 := iprop((Src4 V ∗ iS (F := F) (c := c) 1 (by decide)) ∗ (Src5 V ∗ iS (F := F) (c := c) 2 (by decide)) ∗ (Src8 V ∗ iS (F := F) (c := c) 3 (by decide)) ∗ (Src9 V ∗ iS (F := F) (c := c) 4 (by decide)))
abbrev B21 (V : Vals F c) : sProp 𝕄 := Own c b21 Finset.univ fullShare V.HRes
abbrev CS' : sProp 𝕄 := iprop(Any (F := F) c b31 Finset.univ ∗ Any (F := F) c b32 Finset.univ ∗ Any (F := F) c b30 Finset.univ)
theorem T.waits4 {β : Type} {X : sProp 𝕄} {k : PR F β} {Q : β → sProp 𝕄} (hk : T c iprop(Owes (F := F) c ∗ InsL V ∗ B21 V ∗ Any (F := F) c b22 Finset.univ ∗ Any (F := F) c b23 Finset.univ ∗ Any (F := F) c b24 Finset.univ ∗ X) k Q) :
    T c iprop((In1 V ∗ In2 V ∗ In3 V ∗ In4 V) ∗ Owes (F := F) c ∗ X) (
      Hand.waitIn 1 (by decide) b4 b21 (Memref.isWhole_whole _).wordExact (Memref.isWhole_whole _).wordExact >>= fun _ =>
      Hand.waitIn 2 (by decide) b5 b22 (Memref.isWhole_whole _).wordExact (Memref.isWhole_whole _).wordExact >>= fun _ =>
      Hand.waitIn 3 (by decide) b8 b23 (Memref.isWhole_whole _).wordExact (Memref.isWhole_whole _).wordExact >>= fun _ =>
      Hand.waitIn 4 (by decide) b9 b24 (Memref.isWhole_whole _).wordExact (Memref.isWhole_whole _).wordExact >>= fun _ => k) Q := by
  refine T.pre (P' := iprop((In1 V ∗ Owes (F := F) c) ∗ (In2 V ∗ In3 V ∗ In4 V ∗ X))) ?_ (((T.waitIn (by decide)).frame _).bind fun _ => ?_)
  · iintro ⟨⟨H1, H2, H3, H4⟩, HO, HX⟩
    isplitl [H1 HO]
    · isplitl [H1]; · iexact H1
      iexact HO
    isplitl [H2]; · iexact H2
    isplitl [H3]; · iexact H3
    isplitl [H4]; · iexact H4
    iexact HX
  refine T.pre (P' := iprop((In2 V ∗ Owes (F := F) c) ∗ (((B21 V ∗ Src4 V) ∗ iS (F := F) (c := c) 1 (by decide)) ∗ In3 V ∗ In4 V ∗ X))) ?_ (((T.waitIn (by decide)).frame _).bind fun _ => ?_)
  · iintro ⟨⟨H1, HO⟩, H2, H3, H4, HX⟩
    isplitl [H2 HO]
    · isplitl [H2]; · iexact H2
      iexact HO
    isplitl [H1]; · iexact H1
    isplitl [H3]; · iexact H3
    isplitl [H4]; · iexact H4
    iexact HX
  refine T.pre (P' := iprop((In3 V ∗ Owes (F := F) c) ∗ (((B21 V ∗ Src4 V) ∗ iS (F := F) (c := c) 1 (by decide)) ∗ ((Any (F := F) c b22 Finset.univ ∗ Src5 V) ∗ iS (F := F) (c := c) 2 (by decide)) ∗ In4 V ∗ X))) ?_ (((T.waitIn (by decide)).frame _).bind fun _ => ?_)
  · iintro ⟨⟨H2, HO⟩, H1, H3, H4, HX⟩
    isplitl [H3 HO]
    · isplitl [H3]; · iexact H3
      iexact HO
    isplitl [H1]; · iexact H1
    isplitl [H2]; · iexact H2
    isplitl [H4]; · iexact H4
    iexact HX
  refine T.pre (P' := iprop((In4 V ∗ Owes (F := F) c) ∗ (((B21 V ∗ Src4 V) ∗ iS (F := F) (c := c) 1 (by decide)) ∗ ((Any (F := F) c b22 Finset.univ ∗ Src5 V) ∗ iS (F := F) (c := c) 2 (by decide)) ∗ ((Any (F := F) c b23 Finset.univ ∗ Src8 V) ∗ iS (F := F) (c := c) 3 (by decide)) ∗ X))) ?_
    (((T.waitIn (by decide)).frame _).bind fun _ => T.pre ?_ hk)
  · iintro ⟨⟨H3, HO⟩, H1, H2, H4, HX⟩
    isplitl [H4 HO]
    · isplitl [H4]; · iexact H4
      iexact HO
    isplitl [H1]; · iexact H1
    isplitl [H2]; · iexact H2
    isplitl [H3]; · iexact H3
    iexact HX
  · iintro ⟨⟨⟨⟨H24, H9⟩, S4⟩, HO⟩, ⟨⟨H21, H4⟩, S1⟩, ⟨⟨H22, H5⟩, S2⟩, ⟨⟨H23, H8⟩, S3⟩, HX⟩
    isplitl [HO]; · iexact HO
    isplitl [H4 H5 H8 H9 S1 S2 S3 S4]
    · isplitl [H4 S1]
      · isplitl [H4]; · iexact H4
        iexact S1
      isplitl [H5 S2]
      · isplitl [H5]; · iexact H5
        iexact S2
      isplitl [H8 S3]
      · isplitl [H8]; · iexact H8
        iexact S3
      isplitl [H9]; · iexact H9
      iexact S4
    isplitl [H21]; · iexact H21
    isplitl [H22]; · iexact H22
    isplitl [H23]; · iexact H23
    isplitl [H24]; · iexact H24
    iexact HX

theorem T.segB_mid {s : Mxu F} (h : Mx V s (fun _ => some (2 * 28, 0)) (Ac (some 55) (some 55) (some 55) (some 55))) :
    T c iprop((((Ring2 V 28 ∗ Owes (F := F) c) ∗ B3 V ∗ B20 V 112 ∗ B21 V) ∗ PD V 0) ∗ CS (F := F) (c := c)) (do
      let s ← Hand.popDown0 s
      let s ← Hand.popDown 1 1 0 s
      let s ← Hand.stepP (lhsD (nW 0) (by decide)) 0 0 (srcB (nW 28) (K1n (by decide) (by decide))) 0 1 s
      let s ← Hand.popDown 2 0 1 s
      let s ← Hand.popDown 3 1 1 s
      let s ← Hand.stepP (lhsD (nW 0) (by decide)) 0 1 (srcB (nW 28) (K1n (by decide) (by decide))) 0 2 s
      let s ← Hand.popDown 4 0 2 s
      let s ← Hand.popDown 5 1 2 s
      let s ← Hand.popDown 6 0 3 s
      let s ← Hand.popDown 7 1 3 s
      let s ← Hand.stepP (lhsD (nW 0) (by decide)) 0 2 (srcB (nW 28) (K1n (by decide) (by decide))) 1 0 s
      let s ← Hand.stepP (lhsD (nW 0) (by decide)) 1 0 (srcB (nW 28) (K1n (by decide) (by decide))) 1 1 s
      let s ← Hand.stepP (lhsD (nW 0) (by decide)) 1 1 (srcB (nW 28) (K1n (by decide) (by decide))) 1 2 s
      let s ← Hand.stepP (lhsD (nW 0) (by decide)) 1 2 (srcB (nW 29) (K1n (by decide) (by decide))) 0 0 s
      Hand.cosSin
      pure s)
    (fun s' => iprop(⌜MxB V 29 s'⌝ ∗ (((Ring2 V 28 ∗ Owes (F := F) c) ∗ B3 V ∗ B20 V 112 ∗ B21 V) ∗ PD V 8) ∗ CS (F := F) (c := c))) := by
  have e0 : (nW 0).toNat = 0 := nW_nat (by decide)
  have e28 : (nW 28).toNat = 28 := nW_nat (by decide)
  have e29 : (nW 29).toNat = 29 := nW_nat (by decide)
  have ho : okc none (2 * 28) := .inr (.inl rfl)
  have h' : okc (some (2 * 28)) (2 * 28 + 1) := ⟨rfl, by decide⟩
  have mv : ∀ {β : Type} {n : ℕ} {p : PR F β} {Q : β → sProp 𝕄}, T c iprop((((Ring2 V 28 ∗ Owes (F := F) c) ∗ B3 V ∗ B20 V 112 ∗ B21 V) ∗ CS (F := F) (c := c)) ∗ PD V n) p Q →
      T c iprop((((Ring2 V 28 ∗ Owes (F := F) c) ∗ B3 V ∗ B20 V 112 ∗ B21 V) ∗ PD V n) ∗ CS (F := F) (c := c)) p Q := fun h => T.pre (by
    iintro ⟨⟨H1, H2⟩, H3⟩
    isplitr [H2]
    · isplitl [H1]; · iexact H1
      iexact H3
    iexact H2) h
  have hl : ∀ {n : ℕ}, LhsOK V iprop((((Ring2 V 28 ∗ Owes (F := F) c) ∗ B3 V ∗ B20 V 112 ∗ B21 V) ∗ CS (F := F) (c := c)) ∗ PD V n) (lhsD (nW 0) (by decide)) (2 * 28) :=
    lhsD_okB (n := 112) (K0n (by decide)) (by rw [e0]) (by rw [e0]; decide)
  have hS : ∀ {n : ℕ}, SrcOK V iprop((((Ring2 V 28 ∗ Owes (F := F) c) ∗ B3 V ∗ B20 V 112 ∗ B21 V) ∗ CS (F := F) (c := c)) ∗ PD V n) (srcB (nW 28) (K1n (by decide) (by decide))) 28 := srcB_ok _ e28
  have hS' : ∀ {n : ℕ}, SrcOK V iprop((((Ring2 V 28 ∗ Owes (F := F) c) ∗ B3 V ∗ B20 V 112 ∗ B21 V) ∗ CS (F := F) (c := c)) ∗ PD V n) (srcB (nW 29) (K1n (by decide) (by decide))) 29 := srcB_ok _ e29
  refine mv (T.pop2' h rfl rfl (Ac0 ..) fun s h => ?_)
  refine T.seq (T.stepP hl hS 0 0 0 1 h (fun _ => ho) (Ac0 ..)) fun s h => ?_
  refine T.pop2 2 3 rfl 1 (.inl ⟨rfl, rfl⟩) (.inl ⟨rfl, rfl⟩) h rfl rfl (Ac1 ..) rfl rfl fun s h => ?_
  refine T.seq (T.stepP hl hS 0 1 0 2 h (fun _ => ho) (Ac1 ..)) fun s h => ?_
  refine T.pop2 4 5 rfl 2 (.inl ⟨rfl, rfl⟩) (.inl ⟨rfl, rfl⟩) h rfl rfl (Ac2 ..) rfl rfl fun s h => ?_
  refine T.pop2 6 7 rfl 3 (.inl ⟨rfl, rfl⟩) (.inl ⟨rfl, rfl⟩) h rfl rfl (Ac3 ..) rfl rfl fun s h => ?_
  refine T.seq (T.stepP hl hS 0 2 1 0 h (fun _ => ho) (Ac2 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS' 1 2 0 0 h (fun _ => h') (Ac2 ..)) fun s h => ?_
  refine T.pre (P' := iprop(CS (F := F) (c := c) ∗ (((Ring2 V 28 ∗ Owes (F := F) c) ∗ B3 V ∗ B20 V 112 ∗ B21 V) ∗ PD V 8))) ?_ ((T.cosSin.frame _).bind fun _ => T.pre ?_ (T.ret _))
  · iintro ⟨⟨H1, H2⟩, H3⟩
    isplitl [H2]; · iexact H2
    isplitl [H1]; · iexact H1
    iexact H3
  · iintro ⟨H1, H2⟩
    isplitr; · ipureintro; exact MxB.next (i := 28) h (by decide)
    isplitl [H2]; · iexact H2
    iexact H1

/-- From the first loop to the second. -/
theorem T.segB {s : Mxu F} (hM : MxA V 27 s) :
    T c iprop((In1 V ∗ In2 V ∗ In3 V ∗ In4 V) ∗ Owes (F := F) c ∗ Ring V 27 ∗ B3 V ∗ B20 V 112 ∗ PD V 0 ∗ CS' (F := F) (c := c)) (segB s)
      (fun s' => iprop(⌜MxB V 29 s'⌝ ∗ StB V 29 ∗ B21 V ∗ PD V 8 ∗ InsL V ∗ Any (F := F) c b22 Finset.univ ∗ CS (F := F) (c := c))) := by
  have e27 : (nW 27).toNat = 27 := nW_nat (by decide)
  have e28 : (nW 28).toNat = 28 := nW_nat (by decide)
  obtain ⟨e0, ho, hm⟩ := hM
  unfold Hand.segB
  refine T.waits4 ?_
  refine T.pre (P' := iprop((Ring V 27 ∗ Owes (F := F) c) ∗ (B3 V ∗ B20 V 112 ∗ B21 V ∗ PD V 0 ∗ CS (F := F) (c := c) ∗ InsL V ∗ Any (F := F) c b22 Finset.univ))) ?_
    ((T.ringWait (waitBe (K1n (by decide) (by decide)) e28)).bind fun _ => (T.ringGo' (goBe (K1n (by decide) (by decide)) (nW_nat (by decide)))).bind fun _ => ?_)
  · iintro ⟨HO, HL, H21, H22, H23, H24, HR, H3, H20, HP, ⟨H31, H32, H30⟩⟩
    isplitl [HR HO]
    · isplitl [HR]; · iexact HR
      iexact HO
    isplitl [H3]; · iexact H3
    isplitl [H20]; · iexact H20
    isplitl [H21]; · iexact H21
    isplitl [HP]; · iexact HP
    isplitl [H23 H24 H31 H32 H30]
    · isplitl [H23]; · iexact H23
      isplitl [H24]; · iexact H24
      isplitl [H31]; · iexact H31
      isplitl [H32]; · iexact H32
      iexact H30
    isplitl [HL]; · iexact HL
    iexact H22
  refine T.seq (T.steps4 (i := 27) (i' := 28) (e := e0) (lhsD_okA (n := 112) (K0n (by decide)) (by rw [e27]) (by rw [e27])) (srcA_ok (K0n (by decide)) e27) (srcB_ok (K1n (by decide) (by decide)) e28) hm ho (by decide)) fun s1 h1 => ?_
  refine T.pre (P' := iprop((Ring V 28 ∗ Owes (F := F) c) ∗ (B3 V ∗ B20 V 112 ∗ B21 V ∗ PD V 0 ∗ CS (F := F) (c := c) ∗ InsL V ∗ Any (F := F) c b22 Finset.univ))) ?_
    ((T.ringWait (waitBe (K1n (by decide) (by decide)) (nW_nat (by decide)))).bind fun _ => (T.ringGo' (goBe (K1n (by decide) (by decide)) (nW_nat (by decide)))).bind fun _ => ?_)
  · iintro ⟨⟨HR, HO⟩, HX⟩
    isplitl [HR HO]
    · isplitl [HR]; · iapply (Ring_next 27); iexact HR
      iexact HO
    iexact HX
  refine T.pre (P' := iprop(((((Ring2 V 28 ∗ Owes (F := F) c) ∗ B3 V ∗ B20 V 112 ∗ B21 V) ∗ PD V 0) ∗ CS (F := F) (c := c)) ∗ (InsL V ∗ Any (F := F) c b22 Finset.univ))) ?_ (((T.segB_mid h1).frame _).post fun s' => ?_)
  · iintro ⟨HR, H3, H20, H21, HP, HC, HX⟩
    isplitr [HX]
    · isplitr [HC]
      · isplitr [HP]
        · isplitl [HR]; · iexact HR
          isplitl [H3]; · iexact H3
          isplitl [H20]; · iexact H20
          iexact H21
        iexact HP
      iexact HC
    iexact HX
  · iintro ⟨⟨%h, ⟨⟨⟨HR, HO⟩, H3, H20, H21⟩, HP⟩, HC⟩, HL, H22⟩
    isplitr; · ipureintro; exact h
    isplitl [HR HO H3 H20]
    · isplitl [HR HO]
      · isplitl [HR]; · iapply (Ring_next 28); iexact HR
        iexact HO
      isplitl [H3]; · iexact H3
      iexact H20
    isplitl [H21]; · iexact H21
    isplitl [HP]; · iexact HP
    isplitl [HL]; · iexact HL
    isplitl [H22]; · iexact H22
    iexact HC

end Cert.KernelIdeal.Hand
-- ==== Proof.ISegD.lean ====
module

public import proofs.«01_k».proof.Proof.ISplit
public import proofs.«01_k».proof.Proof.ISegB

/-! From the second loop to the third, and the start of the copies of the codes. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable {V : Vals F c}
abbrev QI : sProp 𝕄 := iprop(Any (F := F) c b27 Finset.univ ∗ Any (F := F) c b22 Finset.univ ∗ Any (F := F) c b28 Finset.univ ∗ Any (F := F) c b29 Finset.univ ∗ Any (F := F) c b30 Finset.univ)
abbrev KeptD (V : Vals F c) : sProp 𝕄 := iprop(B3 V ∗ B20 V 112 ∗ B21 V ∗ BRo V 14 ∗ Any (F := F) c b26 Finset.univ)
/-- From the second loop to the third. -/
theorem T.segD {s : Mxu F} (hM : MxB V 55 s) :
    T c iprop(StB V 55 ∗ B7 V ∗ B21 V ∗ PD V 8 ∗ QI (F := F) (c := c)) (segD s)
      (fun s' => iprop(⌜MxA V 56 s'⌝ ∗ StC V 56 ∗ KeptD V)) := by
  have e27 : (nW 27).toNat = 27 := nW_nat (by decide)
  have e55 : (nW 55).toNat = 55 := nW_nat (by decide)
  have e56 : (nW 56).toNat = 56 := nW_nat (by decide)
  obtain ⟨e0, ho, hm⟩ := hM
  unfold Hand.segD
  refine T.pre (P' := iprop((Ring V 55 ∗ Owes (F := F) c) ∗ (B3 V ∗ B20 V 112 ∗ B7 V ∗ B21 V ∗ PD V 8 ∗ QI (F := F) (c := c)))) ?_
    ((T.ringWait (waitCe (K2n (by decide) (by decide)) e56)).bind fun _ => (T.ringGo' (goCe (K2n (by decide) (by decide)) (nW_nat (by decide)))).bind fun _ => ?_)
  · iintro ⟨⟨HR, H3, H20⟩, H7, H21, HP, HQ⟩
    isplitl [HR]
    · iexact HR
    isplitl [H3]
    · iexact H3
    isplitl [H20]
    · iexact H20
    isplitl [H7]
    · iexact H7
    isplitl [H21]
    · iexact H21
    isplitl [HP]
    · iexact HP
    iexact HQ
  refine T.seq (T.steps3 (i := 55) (i' := 56) (e := e0) (lhsD_okB (n := 112) (K0n (by decide)) (by rw [e27]) (by rw [e27])) (srcB_ok (K1n (by decide) (by decide)) e55) (srcC_ok (K2n (by decide) (by decide)) e56) hm ho (by decide)) fun s h => ?_
  refine T.pre (P' := iprop(((Ring2 V 55 ∗ Owes (F := F) c) ∗ B3 V ∗ B20 V 112 ∗ B7 V ∗ B21 V ∗ QI (F := F) (c := c)) ∗ PD V 8)) ?_ ?_
  · iintro ⟨HR, H3, H20, H7, H21, HP, HQ⟩
    isplitl [HR H3 H20 H7 H21 HQ]
    · isplitl [HR]
      · iexact HR
      isplitl [H3]
      · iexact H3
      isplitl [H20]
      · iexact H20
      isplitl [H7]
      · iexact H7
      isplitl [H21]
      · iexact H21
      iexact HQ
    iexact HP
  refine T.pop2 8 9 rfl 0 (.inr ⟨rfl, rfl⟩) (.inr ⟨rfl, rfl⟩) h rfl rfl (Ac0 ..) rfl rfl fun s h => ?_
  refine T.pop2 10 11 rfl 1 (.inr ⟨rfl, rfl⟩) (.inr ⟨rfl, rfl⟩) h rfl rfl (Ac1 ..) rfl rfl fun s h => ?_
  refine T.pop2 12 13 rfl 2 (.inr ⟨rfl, rfl⟩) (.inr ⟨rfl, rfl⟩) h rfl rfl (Ac2 ..) rfl rfl fun s h => ?_
  refine T.pre (P' := iprop(Any (F := F) c b26 Finset.univ ∗ QI (F := F) (c := c) ∗ Own (F := F) c b25 Finset.univ fullShare.left (fun _ => True) ∗ BRo V 14 ∗ ((Ring2 V 55 ∗ Owes (F := F) c) ∗ B3 V ∗ B20 V 112 ∗ B7 V ∗ B21 V))) ?_ ?_
  · unfold PD
    iintro ⟨⟨HR, H3, H20, H7, H21, HQ⟩, ⟨H25, -, HB⟩, H26⟩
    isplitl [H26]
    · iexact H26
    isplitl [HQ]
    · iexact HQ
    isplitl [H25]
    · iapply (Own_join (c := c) (b := b25) rset (fun i => (i 0 : Fin 14)) rset_key (q := fullShare.left) (f := RTd (F := F) (c := c)) fun t => by unfold RTd; rw [f14_val])
      iexact H25
    isplitl [HB]
    · iexact HB
    isplitl [HR]
    · iexact HR
    isplitl [H3]
    · iexact H3
    isplitl [H20]
    · iexact H20
    isplitl [H7]
    · iexact H7
    iexact H21
  refine T.rsStage.bind fun _ => ?_
  refine T.pre (P' := iprop(QR (F := F) (c := c) ∗ (Any (F := F) c b26 Finset.univ ∗ BRo V 14 ∗ ((Ring2 V 55 ∗ Owes (F := F) c) ∗ B3 V ∗ B20 V 112 ∗ B7 V ∗ B21 V)))) ?_
    (((T.quantise _ _).frame _).bind fun _ => ((T.quantise _ _).frame _).bind fun _ => T.pre ?_ (T.ret _))
  · iintro ⟨H26, HQ, H25, HX⟩
    isplitl [H25 HQ]
    · isplitl [H25]
      · iexact H25
      iexact HQ
    isplitl [H26]
    · iexact H26
    iexact HX
  · iintro ⟨HQ, H26, HB, ⟨HR, HO⟩, H3, H20, H7, H21⟩
    isplitr; · ipureintro; exact ⟨none, .inr (.inr (by decide)), h⟩
    isplitl [HR HO H7 HQ]
    · isplitl [HR HO]
      · isplitl [HR]; · iapply (Ring_next 55); iexact HR
        iexact HO
      isplitl [H7]; · iexact H7
      iexact HQ
    isplitl [H3]; · iexact H3
    isplitl [H20]; · iexact H20
    isplitl [H21]; · iexact H21
    isplitl [HB]; · iexact HB
    iexact H26

/-! ### The copies of the codes and of the scales -/
abbrev cXc : ℕ := (xcDst 0).view.dmaCredit
abbrev Dxc (t : Fin 14) : sProp 𝕄 := iprop(Any (F := F) c b14 (xcset t) ∗ Any (F := F) c b28 (cset t))
abbrev BXc (j : ℕ) : sProp 𝕄 := Transfers.Batch EC (c : Thread nD τ) (.dma (oSem 1 (by decide))) () cXc (Dxc (F := F) (c := c)) j 0
abbrev CT (t : ℕ) : sProp 𝕄 := Any (F := F) c b28 (cset (f14 t))
abbrev XT (t : ℕ) : sProp 𝕄 := Any (F := F) c b14 (xcset (f14 t))
abbrev XsD : sProp 𝕄 := iprop(Any (F := F) c b15 Finset.univ ∗ Any (F := F) c b30 Finset.univ)
abbrev oS (i : ℕ) (h : i < 7) : sProp 𝕄 := semVal ((c : Thread nD τ), SemLoc.dma (oSem i h)) 0
abbrev XsF : sProp 𝕄 := Fly c (.dma (oSem 2 (by decide))) b15.view.dmaCredit (XsD (F := F) (c := c))
theorem T.startXc (t : Fin 14) : T c iprop(Any (F := F) c b28 (cset t) ∗ Any (F := F) c b14 (xcset t) ∗ BXc (F := F) (c := c) t.val) (startXc t) (fun _ => BXc (F := F) (c := c) (t.val + 1)) := by
  unfold Hand.startXc
  refine T.pre (P' := iprop(∃ f, ∃ fd, ((b28.view.loc (c : Thread nD τ) ↦[cset t]{fullShare} f) ∗ (b14.view.loc (c : Thread nD τ) ↦[xcset t]{fullShare} fd) ∗ BXc (F := F) (c := c) t.val))) ?_ (T.ex fun f => T.ex fun fd => ?_)
  · unfold Any Own
    iintro ⟨⟨%f, -, H⟩, ⟨%fd, -, Hd⟩, HB⟩
    iexists f, fd
    isplitl [H]; · iexact H
    isplitl [Hd]; · iexact Hd
    iexact HB
  · refine T.startB (src := cTile t) (dst := xcDst t) (fs := f) (fd := fd) (q := fullShare) (D := Dxc (F := F) (c := c)) (j := t.val) cXc rfl t.2 ?_
    exact BIClass.sep_mono (Own_intro (b := b14) trivial) (Own_intro (b := b28) trivial)
theorem T.startXs : T c iprop(Any (F := F) c b30 Finset.univ ∗ Any (F := F) c b15 Finset.univ ∗ oS (F := F) (c := c) 2 (by decide)) startXs (fun _ => XsF (F := F) (c := c)) := by
  unfold Hand.startXs
  refine T.pre (P' := iprop(∃ f, ((b30.view.loc (c : Thread nD τ) ↦[Finset.univ]{fullShare} f) ∗ (∃ fd, b15.view.loc (c : Thread nD τ) ↦[Finset.univ]{fullShare} fd) ∗ oS (F := F) (c := c) 2 (by decide)))) ?_ (T.ex fun f => ?_)
  · unfold Any Own
    iintro ⟨⟨%f, -, H⟩, ⟨%fd, -, Hd⟩, HB⟩
    iexists f
    isplitl [H]; · iexact H
    isplitl [Hd]; · iexists fd; iexact Hd
    iexact HB
  · refine T.start (src := b30) (dst := b15) rfl (by decide) (Finset.subset_univ _) (Finset.subset_univ _) fun fd => ?_
    exact BIClass.sep_mono (Own_intro (b := b15) trivial) (Own_intro (b := b30) trivial)
theorem T.startsXc {β : Type} {k : PR F β} {X : sProp 𝕄} {Q : β → sProp 𝕄} (hk : T c iprop(BXc (F := F) (c := c) 14 ∗ X) k Q) :
    ∀ (n i : ℕ) (h : i + n ≤ 14), i + n = 14 → T c iprop((Sq (CT (F := F) (c := c)) i n ∗ Sq (XT (F := F) (c := c)) i n ∗ BXc (F := F) (c := c) i) ∗ X) (Hand.startsXc k n i h) Q
  | 0, i, h, e => by
    obtain rfl : i = 14 := by omega
    unfold Hand.startsXc
    refine T.pre ?_ hk
    iintro ⟨⟨-, -, HB⟩, HX⟩
    isplitl [HB]
    · iexact HB
    iexact HX
  | n + 1, i, h, e => by
    unfold Hand.startsXc
    refine T.pre (P' := iprop((Any (F := F) c b28 (cset ⟨i, by omega⟩) ∗ Any (F := F) c b14 (xcset ⟨i, by omega⟩) ∗ BXc (F := F) (c := c) i) ∗ (Sq (CT (F := F) (c := c)) (i + 1) n ∗ Sq (XT (F := F) (c := c)) (i + 1) n ∗ X))) ?_
      (((T.startXc ⟨i, by omega⟩).frame _).bind fun _ => T.pre ?_ (T.startsXc hk n (i + 1) (by omega) (by omega)))
    · rw [Sq_cons, Sq_cons]
      have ei : f14 i = ⟨i, by omega⟩ := f14_val ⟨i, by omega⟩
      unfold CT XT
      rw [ei]
      iintro ⟨⟨⟨H1, HS⟩, ⟨H2, HS2⟩, HB⟩, HX⟩
      isplitl [H1 H2 HB]
      · isplitl [H1]
        · iexact H1
        isplitl [H2]
        · iexact H2
        iexact HB
      isplitl [HS]
      · iexact HS
      isplitl [HS2]
      · iexact HS2
      iexact HX
    · iintro ⟨HB, HS, HS2, HX⟩
      isplitl [HS HS2 HB]
      · isplitl [HS]
        · iexact HS
        isplitl [HS2]
        · iexact HS2
        iexact HB
      iexact HX
/-- The copies of the codes and of the scales started. -/
theorem T.segF {s : Mxu F} : T c iprop(Any (F := F) c b28 Finset.univ ∗ Any (F := F) c b14 Finset.univ ∗ BXc (F := F) (c := c) 0 ∗ Any (F := F) c b30 Finset.univ ∗ Any (F := F) c b15 Finset.univ ∗ oS (F := F) (c := c) 2 (by decide)) (segF s)
    (fun s' => iprop(⌜s' = s⌝ ∗ BXc (F := F) (c := c) 14 ∗ XsF (F := F) (c := c))) := by
  unfold Hand.segF
  refine T.pre (P' := iprop((Any (F := F) c b30 Finset.univ ∗ Any (F := F) c b15 Finset.univ ∗ oS (F := F) (c := c) 2 (by decide)) ∗ (Any (F := F) c b28 Finset.univ ∗ Any (F := F) c b14 Finset.univ ∗ BXc (F := F) (c := c) 0))) ?_ ((T.startXs.frame _).bind fun _ => ?_)
  · iintro ⟨H1, H2, H3, HX⟩
    isplitl [HX]
    · iexact HX
    isplitl [H1]
    · iexact H1
    isplitl [H2]
    · iexact H2
    iexact H3
  refine T.pre (P' := iprop((Sq (CT (F := F) (c := c)) 0 14 ∗ Sq (XT (F := F) (c := c)) 0 14 ∗ BXc (F := F) (c := c) 0) ∗ XsF (F := F) (c := c))) ?_ (T.startsXc (X := XsF (F := F) (c := c)) (T.pre ?_ (T.ret s)) 14 0 (by decide) rfl)
  · iintro ⟨HX, H1, H2, H3⟩
    isplitl [H1 H2 H3]
    · isplitl [H1]
      · iapply (Own_split (c := c) (b := b28) cset (fun i => (i 0 : Fin 14)) cset_key (q := fullShare) (f := CT (F := F) (c := c)) fun t => by unfold CT Any; rw [f14_val])
        iexact H1
      isplitl [H2]
      · iapply (Own_split (c := c) (b := b14) xcset colKey xcset_key (q := fullShare) (f := XT (F := F) (c := c)) fun t => by unfold XT Any; rw [f14_val])
        iexact H2
      iexact H3
    iexact HX
  · iintro H; isplitr
    · ipureintro; rfl
    iexact H

end Cert.KernelIdeal.Hand
-- ==== Proof.ISegH.lean ====
module

public import proofs.«01_k».proof.Proof.ISegD
public import proofs.«01_k».proof.Proof.IHeads

/-! The last chunk, the last copies and the waits for all of them. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable {V : Vals F c}
/-- What the waits leave. -/
abbrev DoneRo (V : Vals F c) : sProp 𝕄 := iprop(bigSep Finset.univ (Dro V) ∗ oS (F := F) (c := c) 0 (by decide))
abbrev DoneXc : sProp 𝕄 := iprop(bigSep Finset.univ (Dxc (F := F) (c := c)) ∗ oS (F := F) (c := c) 1 (by decide))
abbrev DoneXs : sProp 𝕄 := iprop(XsD (F := F) (c := c) ∗ oS (F := F) (c := c) 2 (by decide))
abbrev DoneHd (g : Fin 4) : sProp 𝕄 := iprop(bigSep Finset.univ (Dh (F := F) (c := c) g) ∗ oS (F := F) (c := c) (3 + g.val) (by omega))
theorem hd_pos : ∀ g : Fin 4, 0 < cHd g := fun g => View.dmaCredit_pos _ (by decide)
theorem T.waitHds (g : Fin 4) {α : Type} {k : PR F α} {X : sProp 𝕄} {Q : α → sProp 𝕄} (hk : T c iprop(Owes (F := F) c ∗ DoneHd (F := F) (c := c) g ∗ X) k Q) :
    T c iprop(Owes (F := F) c ∗ BHd (F := F) (c := c) g 2 ∗ X) (Hand.waitHd g 0 >>= fun _ => Hand.waitHd g 1 >>= fun _ => k) Q := by
  unfold Hand.waitHd
  have hp := hd_pos g
  refine T.pre (P' := iprop((BHd (F := F) (c := c) g 2 ∗ Owes (F := F) c) ∗ X)) ?_ (((T.awaitB (src := obV g 0) (dst := hdDst g 0) (D := Dh (F := F) (c := c) g) (cHd_eq g 0) (u := 0) (by omega)).frame _).bind fun _ =>
    ((T.awaitLast (src := obV g 1) (dst := hdDst g 1) (D := Dh (F := F) (c := c) g) (cHd_eq g 1) hp (u := 0 + cHd g) (by omega)).frame _).bind fun _ => T.pre ?_ hk)
  · iintro ⟨HO, HB, HX⟩
    isplitl [HB HO]
    · isplitl [HB]
      · iexact HB
      iexact HO
    iexact HX
  · iintro ⟨⟨HB, HO⟩, HX⟩
    isplitl [HO]
    · iexact HO
    isplitl [HB]
    · iexact HB
    iexact HX
abbrev WRo (V : Vals F c) (u : ℕ) : sProp 𝕄 := Transfers.Batch EC (c : Thread nD τ) (.dma (oSem 0 (by decide))) () cRo (Dro V) 14 (cRo * u)
abbrev WXc (u : ℕ) : sProp 𝕄 := Transfers.Batch EC (c : Thread nD τ) (.dma (oSem 1 (by decide))) () cXc (Dxc (F := F) (c := c)) 14 (cXc * u)
theorem ro_pos : 0 < cRo := View.dmaCredit_pos _ (by decide)
theorem xc_pos : 0 < cXc := View.dmaCredit_pos _ (by decide)
theorem T.waitRo (t : Fin 14) (h : t.val < 13) : T c iprop(WRo V t.val ∗ Owes (F := F) c) (Hand.waitRo t) (fun _ => iprop(WRo V (t.val + 1) ∗ Owes (F := F) c)) := by
  unfold Hand.waitRo
  exact T.awaitB (src := rTile t) (dst := roDst t) (D := Dro V) (N := cRo) rfl (u := cRo * t.val) (by rw [← Nat.mul_succ]; exact Nat.mul_lt_mul_of_pos_left (by omega) ro_pos)
theorem T.waitXc (t : Fin 14) (h : t.val < 13) : T c iprop(WXc (F := F) (c := c) t.val ∗ Owes (F := F) c) (Hand.waitXc t) (fun _ => iprop(WXc (F := F) (c := c) (t.val + 1) ∗ Owes (F := F) c)) := by
  unfold Hand.waitXc
  exact T.awaitB (src := cTile t) (dst := xcDst t) (D := Dxc (F := F) (c := c)) (N := cXc) rfl (u := cXc * t.val) (by rw [← Nat.mul_succ]; exact Nat.mul_lt_mul_of_pos_left (by omega) xc_pos)
theorem T.waitRoL (t : Fin 14) (h : t.val = 13) : T c iprop(WRo V t.val ∗ Owes (F := F) c) (Hand.waitRo t) (fun _ => iprop(DoneRo V ∗ Owes (F := F) c)) := by
  unfold Hand.waitRo
  exact T.awaitLast (src := rTile t) (dst := roDst t) (D := Dro V) (N := cRo) rfl ro_pos (u := cRo * t.val) (by rw [← Nat.mul_succ, h])
theorem T.waitXcL (t : Fin 14) (h : t.val = 13) : T c iprop(WXc (F := F) (c := c) t.val ∗ Owes (F := F) c) (Hand.waitXc t) (fun _ => iprop(DoneXc (F := F) (c := c) ∗ Owes (F := F) c)) := by
  unfold Hand.waitXc
  exact T.awaitLast (src := cTile t) (dst := xcDst t) (D := Dxc (F := F) (c := c)) (N := cXc) rfl xc_pos (u := cXc * t.val) (by rw [← Nat.mul_succ, h])
theorem T.waitsRoXc {β : Type} {k : PR F β} {X : sProp 𝕄} {Q : β → sProp 𝕄} (hk : T c iprop(Owes (F := F) c ∗ DoneRo V ∗ DoneXc (F := F) (c := c) ∗ X) k Q) :
    ∀ (n i : ℕ) (h : i + (n + 1) ≤ 14), i + (n + 1) = 14 → T c iprop((WRo V i ∗ Owes (F := F) c) ∗ WXc (F := F) (c := c) i ∗ X) (Hand.waitsRoXc k (n + 1) i h) Q
  | 0, i, h, e => by
    obtain rfl : i = 13 := by omega
    unfold Hand.waitsRoXc Hand.waitsRoXc
    refine ((T.waitRoL 13 rfl).frame _).bind fun _ => T.pre (P' := iprop((WXc (F := F) (c := c) 13 ∗ Owes (F := F) c) ∗ DoneRo V ∗ X)) ?_ (((T.waitXcL 13 rfl).frame _).bind fun _ => T.pre ?_ hk)
    · iintro ⟨⟨H1, HO⟩, H2, HX⟩
      isplitl [H2 HO]
      · isplitl [H2]
        · iexact H2
        iexact HO
      isplitl [H1]
      · iexact H1
      iexact HX
    · iintro ⟨⟨H2, HO⟩, H1, HX⟩
      isplitl [HO]
      · iexact HO
      isplitl [H1]
      · iexact H1
      isplitl [H2]
      · iexact H2
      iexact HX
  | n + 1, i, h, e => by
    rw [Hand.waitsRoXc]
    refine ((T.waitRo ⟨i, by omega⟩ (show i < 13 by omega)).frame _).bind fun _ => T.pre (P' := iprop((WXc (F := F) (c := c) i ∗ Owes (F := F) c) ∗ WRo V (i + 1) ∗ X)) ?_ (((T.waitXc ⟨i, by omega⟩ (show i < 13 by omega)).frame _).bind fun _ => T.pre ?_ (T.waitsRoXc hk n (i + 1) (by omega) (by omega)))
    · iintro ⟨⟨H1, HO⟩, H2, HX⟩
      isplitl [H2 HO]
      · isplitl [H2]
        · iexact H2
        iexact HO
      isplitl [H1]
      · iexact H1
      iexact HX
    · iintro ⟨⟨H2, HO⟩, H1, HX⟩
      isplitl [H1 HO]
      · isplitl [H1]
        · iexact H1
        iexact HO
      isplitl [H2]
      · iexact H2
      iexact HX
theorem T.waitXs : T c iprop(XsF (F := F) (c := c) ∗ Owes (F := F) c) Hand.waitXs (fun _ => iprop(DoneXs (F := F) (c := c) ∗ Owes (F := F) c)) := by
  unfold Hand.waitXs
  exact T.await (src := b30) (dst := b15) rfl

abbrev Waiting (V : Vals F c) : sProp 𝕄 := iprop(BRo V 14 ∗ BXc (F := F) (c := c) 14 ∗ XsF (F := F) (c := c) ∗ BHd (F := F) (c := c) 0 2 ∗ BHd (F := F) (c := c) 1 2 ∗ BHd (F := F) (c := c) 2 2)
abbrev Done (V : Vals F c) : sProp 𝕄 := iprop(DoneRo V ∗ DoneXc (F := F) (c := c) ∗ DoneXs (F := F) (c := c) ∗ DoneHd (F := F) (c := c) 0 ∗ DoneHd (F := F) (c := c) 1 ∗ DoneHd (F := F) (c := c) 2 ∗ DoneHd (F := F) (c := c) 3)
theorem T.exit {s : Mxu F} (hd : s.Drained) {P : sProp 𝕄} : T c P (s.exit >>= fun _ => (pure ⟨⟩ : PR F PUnit)) (fun _ => P) := by
  refine T.pre (P' := P) .rfl ?_
  have h := T.ret (c := c) (F := F) (Q := fun _ => P) (PUnit.unit : PUnit)
  unfold T at h ⊢
  iintro H
  iapply (Mxu.wp_exit hd)
  iapply h; iexact H
theorem T.waitAll {s : Mxu F} (hd : s.Drained) {X : sProp 𝕄} : T c iprop((Owes (F := F) c ∗ BHd (F := F) (c := c) 3 2) ∗ Waiting V ∗ X)
    (Hand.waitsRoXc (do
    Hand.waitXs
    Hand.waitHd 0 0
    Hand.waitHd 0 1
    Hand.waitHd 1 0
    Hand.waitHd 1 1
    Hand.waitHd 2 0
    Hand.waitHd 2 1
    Hand.waitHd 3 0
    Hand.waitHd 3 1
    s.exit
    pure ⟨⟩) 14 0 (by decide) : PR F PUnit) (fun _ => iprop(Owes (F := F) c ∗ Done V ∗ X)) := by
  refine T.pre (P' := iprop((WRo V 0 ∗ Owes (F := F) c) ∗ WXc (F := F) (c := c) 0 ∗ (XsF (F := F) (c := c) ∗ BHd (F := F) (c := c) 0 2 ∗ BHd (F := F) (c := c) 1 2 ∗ BHd (F := F) (c := c) 2 2 ∗ BHd (F := F) (c := c) 3 2 ∗ X))) ?_ (T.waitsRoXc ?_ 13 0 (by decide) rfl)
  · iintro ⟨⟨HO, B3⟩, ⟨HR, HC, HS, B0, B1, B2⟩, HX⟩
    isplitl [HR HO]
    · isplitl [HR]
      · iexact HR
      iexact HO
    isplitl [HC]
    · iexact HC
    isplitl [HS]
    · iexact HS
    isplitl [B0]
    · iexact B0
    isplitl [B1]
    · iexact B1
    isplitl [B2]
    · iexact B2
    isplitl [B3]
    · iexact B3
    iexact HX
  refine T.pre (P' := iprop((XsF (F := F) (c := c) ∗ Owes (F := F) c) ∗ (BHd (F := F) (c := c) 0 2 ∗ BHd (F := F) (c := c) 1 2 ∗ BHd (F := F) (c := c) 2 2 ∗ BHd (F := F) (c := c) 3 2 ∗ DoneRo V ∗ DoneXc (F := F) (c := c) ∗ X))) ?_ ((T.waitXs.frame _).bind fun _ => ?_)
  · iintro ⟨HO, HR, HC, HS, B0, B1, B2, B3, HX⟩
    isplitl [HS HO]
    · isplitl [HS]
      · iexact HS
      iexact HO
    isplitl [B0]
    · iexact B0
    isplitl [B1]
    · iexact B1
    isplitl [B2]
    · iexact B2
    isplitl [B3]
    · iexact B3
    isplitl [HR]
    · iexact HR
    isplitl [HC]
    · iexact HC
    iexact HX
  refine T.pre (P' := iprop(Owes (F := F) c ∗ BHd (F := F) (c := c) 0 2 ∗ (BHd (F := F) (c := c) 1 2 ∗ BHd (F := F) (c := c) 2 2 ∗ BHd (F := F) (c := c) 3 2 ∗ DoneRo V ∗ DoneXc (F := F) (c := c) ∗ DoneXs (F := F) (c := c) ∗ X))) ?_ (T.waitHds 0 ?_)
  · iintro ⟨⟨HS, HO⟩, B0, B1, B2, B3, HR, HC, HX⟩
    isplitl [HO]
    · iexact HO
    isplitl [B0]
    · iexact B0
    isplitl [B1]
    · iexact B1
    isplitl [B2]
    · iexact B2
    isplitl [B3]
    · iexact B3
    isplitl [HR]
    · iexact HR
    isplitl [HC]
    · iexact HC
    isplitl [HS]
    · iexact HS
    iexact HX
  refine T.pre (P' := iprop(Owes (F := F) c ∗ BHd (F := F) (c := c) 1 2 ∗ (DoneHd (F := F) (c := c) 0 ∗ BHd (F := F) (c := c) 2 2 ∗ BHd (F := F) (c := c) 3 2 ∗ DoneRo V ∗ DoneXc (F := F) (c := c) ∗ DoneXs (F := F) (c := c) ∗ X))) ?_ (T.waitHds 1 ?_)
  · iintro ⟨HO, B0, B1, B2, HX⟩
    isplitl [HO]
    · iexact HO
    isplitl [B1]
    · iexact B1
    isplitl [B0]
    · iexact B0
    isplitl [B2]
    · iexact B2
    iexact HX
  refine T.pre (P' := iprop(Owes (F := F) c ∗ BHd (F := F) (c := c) 2 2 ∗ (DoneHd (F := F) (c := c) 1 ∗ DoneHd (F := F) (c := c) 0 ∗ BHd (F := F) (c := c) 3 2 ∗ DoneRo V ∗ DoneXc (F := F) (c := c) ∗ DoneXs (F := F) (c := c) ∗ X))) ?_ (T.waitHds 2 ?_)
  · iintro ⟨HO, B1, B0, B2, HX⟩
    isplitl [HO]
    · iexact HO
    isplitl [B2]
    · iexact B2
    isplitl [B1]
    · iexact B1
    isplitl [B0]
    · iexact B0
    iexact HX
  refine T.pre (P' := iprop(Owes (F := F) c ∗ BHd (F := F) (c := c) 3 2 ∗ (DoneHd (F := F) (c := c) 2 ∗ DoneHd (F := F) (c := c) 1 ∗ DoneHd (F := F) (c := c) 0 ∗ DoneRo V ∗ DoneXc (F := F) (c := c) ∗ DoneXs (F := F) (c := c) ∗ X))) ?_ (T.waitHds 3 ?_)
  · iintro ⟨HO, B2, B1, B0, B3, HX⟩
    isplitl [HO]
    · iexact HO
    isplitl [B3]
    · iexact B3
    isplitl [B2]
    · iexact B2
    isplitl [B1]
    · iexact B1
    isplitl [B0]
    · iexact B0
    iexact HX
  refine (T.exit hd).post fun _ => ?_
  iintro ⟨HO, B3, B2, B1, B0, HR, HC, HS, HX⟩
  isplitl [HO]
  · iexact HO
  isplitl [HR HC HS B0 B1 B2 B3]
  · isplitl [HR]
    · iexact HR
    isplitl [HC]
    · iexact HC
    isplitl [HS]
    · iexact HS
    isplitl [B0]
    · iexact B0
    isplitl [B1]
    · iexact B1
    isplitl [B2]
    · iexact B2
    iexact B3
  iexact HX
abbrev RX (V : Vals F c) : sProp 𝕄 := iprop(Sq (Fl V) (83 + 1) 10 ∗ Idle V (83 + 11))
theorem setJ_all (A : Fin 2 → Fin 4 → Option ℕ) : setJ (setJ (setJ (setJ A 0 none) 1 none) 2 none) 3 none = fun _ _ => none := by
  funext q j; fin_cases j <;> rfl
/-- From the fourth loop to the end. -/
theorem T.segH {s : Mxu F} (hM : MxA V 83 s) : T c iprop(StD V 83 ∗ HdI (F := F) (c := c) 3 ∗ Waiting V) (segH s) (fun _ => iprop(StD V 83 ∗ Done V)) := by
  have e6 : (nW 6).toNat = 6 := nW_nat (by decide)
  have e83 : (nW 83).toNat = 83 := nW_nat (by decide)
  obtain ⟨e, ho, h⟩ := hM
  have h' : okc (some (2 * 83)) (2 * 83 + 1) := ⟨rfl, by decide⟩
  have hl : LhsOK V iprop(((Landed V 83 ∗ RX V ∗ Owes (F := F) c) ∗ B7 V ∗ Any (F := F) c b29 Finset.univ) ∗ HdI (F := F) (c := c) 3 ∗ Waiting V) (lhsQ (nW 6) (by decide)) (2 * 83) :=
    lhsQ_ok (P := fun _ => True) (by rw [e6]; decide) (by decide)
  have hS : SrcOK V iprop(((Landed V 83 ∗ RX V ∗ Owes (F := F) c) ∗ B7 V ∗ Any (F := F) c b29 Finset.univ) ∗ HdI (F := F) (c := c) 3 ∗ Waiting V) (srcC (nW 83) (K2n (by decide) (by decide))) 83 := srcC_ok _ e83
  unfold Hand.segH
  refine T.pre (P' := iprop(((Landed V 83 ∗ RX V ∗ Owes (F := F) c) ∗ B7 V ∗ Any (F := F) c b29 Finset.univ) ∗ HdI (F := F) (c := c) 3 ∗ Waiting V)) ?_ ?_
  · unfold StD Ring
    iintro ⟨⟨⟨⟨HR, HS⟩, HO⟩, H7, H29⟩, HW⟩
    isplitl [HR HS HO H7 H29]
    · isplitl [HR HS HO]
      · isplitl [HR]
        · iexact HR
        isplitl [HS]
        · iexact HS
        iexact HO
      isplitl [H7]
      · iexact H7
      iexact H29
    iexact HW
  refine T.seq (T.stepP hl hS 0 0 0 1 h (fun _ => ho) (Ac0 ..)) fun s h => ?_
  refine T.seq (T.stepP hl hS 0 1 0 2 h (fun _ => ho) (Ac1 ..)) fun s h => ?_
  refine T.seq (T.stepP hl hS 0 2 0 3 h (fun _ => ho) (Ac2 ..)) fun s h => ?_
  refine T.seq (T.stepP hl hS 0 3 1 0 h (fun _ => ho) (Ac3 ..)) fun s h => ?_
  refine T.seq (T.stepP hl hS 1 0 1 1 h (fun _ => h') (Ac0 ..)) fun s h => ?_
  refine T.seq (T.stepP hl hS 1 1 1 2 h (fun _ => h') (Ac1 ..)) fun s h => ?_
  refine T.seq (T.stepP hl hS 1 2 1 3 h (fun _ => h') (Ac2 ..)) fun s h => ?_
  refine T.seq (T.accPair hl 1 3 h (fun _ => h')) fun s h => ?_
  refine T.pre (P' := iprop(Ob (F := F) (c := c) 3 ∗ ((Hdst (F := F) (c := c) 3 0 ∗ Hdst (F := F) (c := c) 3 1) ∗ BHd (F := F) (c := c) 3 0 ∗ StD V 83 ∗ Waiting V))) ?_ ?_
  · iintro ⟨⟨⟨HR, HS, HO⟩, H7, H29⟩, ⟨HB, HD, BB⟩, HW⟩
    isplitl [HB]; · iexact HB
    isplitl [HD]; · iexact HD
    isplitl [BB]; · iexact BB
    isplitl [HR HS HO H7 H29]
    · unfold StD Ring
      isplitl [HR HS HO]
      · isplitl [HR HS]
        · isplitl [HR]; · iexact HR
          iexact HS
        iexact HO
      isplitl [H7]; · iexact H7
      iexact H29
    iexact HW
  refine T.seq (T.popLast (P := fun _ => True) (Q := fun _ => True) 0 h rfl) fun s h => ?_
  refine T.seq (T.popLast (P := fun _ => True) (Q := fun _ => True) 1 h rfl) fun s h => ?_
  refine T.seq (T.popLast (P := fun _ => True) (Q := fun _ => True) 2 h rfl) fun s h => ?_
  refine T.seq (T.popLast (P := fun _ => True) (Q := fun _ => True) 3 h rfl) fun s h => ?_
  rw [setJ_all] at h
  have hd : s.Drained := Mx.drained (V := V) h
  refine T.pre (P' := iprop(HdI (F := F) (c := c) 3 ∗ (StD V 83 ∗ Waiting V))) ?_ (T.startHds 3 (T.pre (P' := iprop((Owes (F := F) c ∗ BHd (F := F) (c := c) 3 2) ∗ Waiting V ∗ (Ring V 83 ∗ B7 V ∗ Any (F := F) c b29 Finset.univ))) ?_ ((T.waitAll hd).post fun _ => ?_)))
  · iintro ⟨HB, HD, BB, HX, HW⟩
    isplitl [HB HD BB]
    · isplitl [HB]
      · iexact HB
      isplitl [HD]
      · iexact HD
      iexact BB
    isplitl [HX]
    · iexact HX
    iexact HW
  · iintro ⟨BB, ⟨⟨HR, HO⟩, H7, H29⟩, HW⟩
    isplitl [HO BB]
    · isplitl [HO]
      · iexact HO
      iexact BB
    isplitl [HW]
    · iexact HW
    isplitl [HR]
    · iexact HR
    isplitl [H7]
    · iexact H7
    iexact H29
  · iintro ⟨HO, HW, HR, H7, H29⟩
    isplitl [HR HO H7 H29]
    · isplitl [HR HO]
      · isplitl [HR]
        · iexact HR
        iexact HO
      isplitl [H7]
      · iexact H7
      iexact H29
    iexact HW

end Cert.KernelIdeal.Hand
-- ==== Proof.IWhole.lean ====
module

public import proofs.«01_k».proof.Proof.ISegH

/-! The whole body, from its blocks to its blocks. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable {V : Vals F c}
theorem T.part {α β : Type} {P P0 X R : sProp 𝕄} {p : PR F α} {φ : α → Prop} {k : α → PR F β} {Q : β → sProp 𝕄} (h : T c P p (fun a => iprop(⌜φ a⌝ ∗ R))) (hp : P0 ⊢ iprop(P ∗ X))
    (hk : ∀ a, φ a → T c iprop(R ∗ X) (k a) Q) : T c P0 (p >>= k) Q :=
  T.pre hp ((h.frame X).bind fun a => T.pre (P' := iprop(⌜φ a⌝ ∗ R ∗ X)) (by
    iintro ⟨⟨H1, H2⟩, H3⟩
    isplitl [H1]; · iexact H1
    isplitl [H2]; · iexact H2
    iexact H3) (T.fact (hk a)))
theorem H3_zero : iprop(HdI (F := F) (c := c) 0 ∗ HdI (F := F) (c := c) 1 ∗ HdI (F := F) (c := c) 2) ⊢ H3 (F := F) (c := c) 0 := by
  unfold H3 Hs
  rw [if_neg (by decide), if_neg (by decide), if_neg (by decide)]
theorem H3_three : H3 (F := F) (c := c) 3 ⊢ iprop(BHd (F := F) (c := c) 0 2 ∗ BHd (F := F) (c := c) 1 2 ∗ BHd (F := F) (c := c) 2 2) := by
  unfold H3 Hs
  rw [if_pos (by decide), if_pos (by decide), if_pos (by decide)]
abbrev K18 (V : Vals F c) : sProp 𝕄 := iprop(B18 V ∗ Src1 V ∗ iS (F := F) (c := c) 0 (by decide))
abbrev KA (V : Vals F c) : sProp 𝕄 := iprop(HSt V 28 ∗ B19 V 28 ∗ K18 V)
abbrev Y0 : sProp 𝕄 := iprop(Any (F := F) c b27 Finset.univ ∗ Any (F := F) c b28 Finset.univ ∗ Any (F := F) c b29 Finset.univ)
abbrev Z0 : sProp 𝕄 := iprop((Any (F := F) c b14 Finset.univ ∗ BXc (F := F) (c := c) 0 ∗ Any (F := F) c b15 Finset.univ ∗ oS (F := F) (c := c) 2 (by decide)) ∗ (HdI (F := F) (c := c) 0 ∗ HdI (F := F) (c := c) 1 ∗ HdI (F := F) (c := c) 2 ∗ HdI (F := F) (c := c) 3))
abbrev InsF (V : Vals F c) : sProp 𝕄 := iprop(In1 V ∗ In2 V ∗ In3 V ∗ In4 V)
/-- What the body starts with. -/
abbrev Start (V : Vals F c) : sProp 𝕄 := iprop((Owes (F := F) c ∗ Sq (HId V) 0 28 ∗ Sq (Idle V) 0 12 ∗ InsI V ∗ B3 V ∗ Any (F := F) c b19 Finset.univ ∗ Any (F := F) c b20 Finset.univ)
  ∗ B7 V ∗ PD V 0 ∗ CS' (F := F) (c := c) ∗ Y0 (F := F) (c := c) ∗ Z0 (F := F) (c := c))
/-- What it leaves. -/
abbrev End (V : Vals F c) : sProp 𝕄 := iprop((Owes (F := F) c ∗ Ring V 83 ∗ KA V) ∗ InsL V ∗ (B3 V ∗ B7 V ∗ B20 V 112 ∗ B21 V) ∗ (Any (F := F) c b26 Finset.univ ∗ Any (F := F) c b27 Finset.univ ∗ Any (F := F) c b22 Finset.univ ∗ Any (F := F) c b29 Finset.univ) ∗ (Any (F := F) c b23 Finset.univ ∗ Any (F := F) c b24 Finset.univ ∗ Any (F := F) c b31 Finset.univ ∗ Any (F := F) c b32 Finset.univ)
  ∗ Own (F := F) c b25 Finset.univ fullShare.left (fun _ => True) ∗ Done V)
theorem T.body : T c (Start V) (body : PR F PUnit) (fun _ => End V) := by
  unfold Hand.body
  refine T.part T.segA (X := iprop(B7 V ∗ PD V 0 ∗ CS' (F := F) (c := c) ∗ Y0 (F := F) (c := c) ∗ Z0 (F := F) (c := c))) .rfl fun s h => ?_
  refine T.part (T.loop1 h) (X := iprop(K18 V ∗ InsF V ∗ B7 V ∗ PD V 0 ∗ CS' (F := F) (c := c) ∗ Y0 (F := F) (c := c) ∗ Z0 (F := F) (c := c))) ?_ fun s h => ?_
  · iintro ⟨⟨HA, HK, HI⟩, HX⟩
    isplitl [HA]
    · iexact HA
    isplitl [HK]
    · iexact HK
    isplitl [HI]
    · iexact HI
    iexact HX
  refine T.part (T.segB h) (X := iprop(KA V ∗ B7 V ∗ Y0 (F := F) (c := c) ∗ Z0 (F := F) (c := c))) ?_ fun s h => ?_
  · iintro ⟨⟨⟨HR, HO⟩, H3, HH, H19, H20⟩, HK, HI, H7, HP, HC, HY, HZ⟩
    isplitl [HI HO HR H3 H20 HP HC]
    · isplitl [HI]
      · iexact HI
      isplitl [HO]
      · iexact HO
      isplitl [HR]
      · iexact HR
      isplitl [H3]
      · iexact H3
      isplitl [H20]
      · iexact H20
      isplitl [HP]
      · iexact HP
      iexact HC
    isplitl [HH H19 HK]
    · isplitl [HH]
      · iexact HH
      isplitl [H19]
      · iexact H19
      iexact HK
    isplitl [H7]
    · iexact H7
    isplitl [HY]
    · iexact HY
    iexact HZ
  refine T.part (T.loop2 h) (X := iprop(B21 V ∗ PD V 8 ∗ InsL V ∗ Any (F := F) c b22 Finset.univ ∗ CS (F := F) (c := c) ∗ KA V ∗ B7 V ∗ Y0 (F := F) (c := c) ∗ Z0 (F := F) (c := c))) ?_ fun s h => ?_
  · iintro ⟨⟨HS, H21, HP, HI, H22, HC⟩, HX⟩
    isplitl [HS]
    · iexact HS
    isplitl [H21]
    · iexact H21
    isplitl [HP]
    · iexact HP
    isplitl [HI]
    · iexact HI
    isplitl [H22]
    · iexact H22
    isplitl [HC]
    · iexact HC
    iexact HX
  refine T.part (T.segD h) (X := iprop(InsL V ∗ (Any (F := F) c b23 Finset.univ ∗ Any (F := F) c b24 Finset.univ ∗ Any (F := F) c b31 Finset.univ ∗ Any (F := F) c b32 Finset.univ) ∗ KA V ∗ Z0 (F := F) (c := c))) ?_ fun s h => ?_
  · iintro ⟨HS, H21, HP, HI, H22, ⟨H23, H24, H31, H32, H30⟩, HK, H7, ⟨H27, H28, H29⟩, HZ⟩
    isplitl [HS H7 H21 HP H27 H22 H28 H29 H30]
    · isplitl [HS]
      · iexact HS
      isplitl [H7]
      · iexact H7
      isplitl [H21]
      · iexact H21
      isplitl [HP]
      · iexact HP
      isplitl [H27]
      · iexact H27
      isplitl [H22]
      · iexact H22
      isplitl [H28]
      · iexact H28
      isplitl [H29]
      · iexact H29
      iexact H30
    isplitl [HI]
    · iexact HI
    isplitl [H23 H24 H31 H32]
    · isplitl [H23]
      · iexact H23
      isplitl [H24]
      · iexact H24
      isplitl [H31]
      · iexact H31
      iexact H32
    isplitl [HK]
    · iexact HK
    iexact HZ
  refine T.part (T.loop3 h) (X := iprop(KeptD V ∗ InsL V ∗ (Any (F := F) c b23 Finset.univ ∗ Any (F := F) c b24 Finset.univ ∗ Any (F := F) c b31 Finset.univ ∗ Any (F := F) c b32 Finset.univ) ∗ KA V ∗ Z0 (F := F) (c := c))) ?_ fun s h => ?_
  · iintro ⟨⟨HS, HK⟩, HX⟩
    isplitl [HS]
    · iexact HS
    isplitl [HK]
    · iexact HK
    iexact HX
  refine T.part T.segF (X := iprop((Ring V 62 ∗ Owes (F := F) c) ∗ B7 V ∗ (Own (F := F) c b25 Finset.univ fullShare.left (fun _ => True) ∗ Any (F := F) c b27 Finset.univ ∗ Any (F := F) c b22 Finset.univ ∗ Any (F := F) c b29 Finset.univ) ∗ KeptD V ∗ InsL V ∗ (Any (F := F) c b23 Finset.univ ∗ Any (F := F) c b24 Finset.univ ∗ Any (F := F) c b31 Finset.univ ∗ Any (F := F) c b32 Finset.univ) ∗ KA V ∗ (HdI (F := F) (c := c) 0 ∗ HdI (F := F) (c := c) 1 ∗ HdI (F := F) (c := c) 2 ∗ HdI (F := F) (c := c) 3))) ?_ fun s' e => ?_
  · iintro ⟨⟨HR, H7, H25, H27, H22, H28, H29, H30⟩, HK, HI, HC, HA, ⟨H14, HB, H15, HS⟩, HH⟩
    isplitl [H28 H14 HB H30 H15 HS]
    · isplitl [H28]
      · iexact H28
      isplitl [H14]
      · iexact H14
      isplitl [HB]
      · iexact HB
      isplitl [H30]
      · iexact H30
      isplitl [H15]
      · iexact H15
      iexact HS
    isplitl [HR]
    · iexact HR
    isplitl [H7]
    · iexact H7
    isplitl [H25 H27 H22 H29]
    · isplitl [H25]
      · iexact H25
      isplitl [H27]
      · iexact H27
      isplitl [H22]
      · iexact H22
      iexact H29
    isplitl [HK]
    · iexact HK
    isplitl [HI]
    · iexact HI
    isplitl [HC]
    · iexact HC
    isplitl [HA]
    · iexact HA
    iexact HH
  subst e
  refine T.part (T.loop4 h) (X := iprop(HdI (F := F) (c := c) 3 ∗ (BXc (F := F) (c := c) 14 ∗ XsF (F := F) (c := c)) ∗ (Own (F := F) c b25 Finset.univ fullShare.left (fun _ => True) ∗ Any (F := F) c b27 Finset.univ ∗ Any (F := F) c b22 Finset.univ) ∗ KeptD V ∗ InsL V ∗ (Any (F := F) c b23 Finset.univ ∗ Any (F := F) c b24 Finset.univ) ∗ KA V)) ?_ fun s h => ?_
  · refine .trans (Q := iprop((BXc (F := F) (c := c) 14 ∗ XsF (F := F) (c := c)) ∗ (Ring V 62 ∗ Owes (F := F) c) ∗ B7 V ∗ (Own (F := F) c b25 Finset.univ fullShare.left (fun _ => True) ∗ Any (F := F) c b27 Finset.univ ∗ Any (F := F) c b22 Finset.univ ∗ Any (F := F) c b29 Finset.univ) ∗ KeptD V ∗ InsL V ∗ (Any (F := F) c b23 Finset.univ ∗ Any (F := F) c b24 Finset.univ ∗ Any (F := F) c b31 Finset.univ ∗ Any (F := F) c b32 Finset.univ) ∗ KA V ∗ (HdI (F := F) (c := c) 0 ∗ HdI (F := F) (c := c) 1 ∗ HdI (F := F) (c := c) 2 ∗ HdI (F := F) (c := c) 3))) .rfl ?_
    iintro ⟨HX, HR, H7, ⟨H25, H27, H22, H29⟩, HK, HI, ⟨H23, H24, H31, H32⟩, HA, ⟨G0, G1, G2, G3⟩⟩
    isplitl [HR H7 H29 H31 H32 G0 G1 G2]
    · isplitl [HR H7 H29]
      · isplitl [HR]
        · iexact HR
        isplitl [H7]
        · iexact H7
        iexact H29
      isplitl [H31 H32]
      · isplitl [H31]
        · iexact H31
        iexact H32
      iapply H3_zero
      isplitl [G0]; · iexact G0
      isplitl [G1]; · iexact G1
      iexact G2
    isplitl [G3]
    · iexact G3
    isplitl [HX]
    · iexact HX
    isplitl [H25 H27 H22]
    · isplitl [H25]
      · iexact H25
      isplitl [H27]
      · iexact H27
      iexact H22
    isplitl [HK]
    · iexact HK
    isplitl [HI]
    · iexact HI
    isplitl [H23 H24]
    · isplitl [H23]
      · iexact H23
      iexact H24
    iexact HA
  refine T.pre (P' := iprop((StD V 83 ∗ HdI (F := F) (c := c) 3 ∗ Waiting V) ∗ (Any (F := F) c b31 Finset.univ ∗ Any (F := F) c b32 Finset.univ) ∗ (Own (F := F) c b25 Finset.univ fullShare.left (fun _ => True) ∗ Any (F := F) c b27 Finset.univ ∗ Any (F := F) c b22 Finset.univ) ∗ (B3 V ∗ B20 V 112 ∗ B21 V ∗ Any (F := F) c b26 Finset.univ) ∗ InsL V ∗ (Any (F := F) c b23 Finset.univ ∗ Any (F := F) c b24 Finset.univ) ∗ KA V)) ?_ (((T.segH h).frame _).post fun _ => ?_)
  · iintro ⟨⟨HS, HC, HG⟩, G3, ⟨HX, HXs⟩, HQ, ⟨H3, H20, H21, HB, H26⟩, HI, HC', HA⟩
    icases (H3_three (F := F) (c := c)) $$ HG with ⟨G0, G1, G2⟩
    isplitl [HS G3 HB HX HXs G0 G1 G2]
    · isplitl [HS]; · iexact HS
      isplitl [G3]; · iexact G3
      isplitl [HB]; · iexact HB
      isplitl [HX]; · iexact HX
      isplitl [HXs]; · iexact HXs
      isplitl [G0]; · iexact G0
      isplitl [G1]; · iexact G1
      iexact G2
    isplitl [HC]; · iexact HC
    isplitl [HQ]; · iexact HQ
    isplitl [H3 H20 H21 H26]
    · isplitl [H3]; · iexact H3
      isplitl [H20]; · iexact H20
      isplitl [H21]; · iexact H21
      iexact H26
    isplitl [HI]; · iexact HI
    isplitl [HC']; · iexact HC'
    iexact HA
  · iintro ⟨⟨⟨⟨HR, HO⟩, H7, H29⟩, HD⟩, ⟨H31, H32⟩, ⟨H25, H27, H22⟩, ⟨H3, H20, H21, H26⟩, HI, ⟨H23, H24⟩, HA⟩
    isplitl [HO HR HA]
    · isplitl [HO]
      · iexact HO
      isplitl [HR]
      · iexact HR
      iexact HA
    isplitl [HI]
    · iexact HI
    isplitl [H3 H7 H20 H21]
    · isplitl [H3]
      · iexact H3
      isplitl [H7]
      · iexact H7
      isplitl [H20]
      · iexact H20
      iexact H21
    isplitl [H26 H27 H22 H29]
    · isplitl [H26]
      · iexact H26
      isplitl [H27]
      · iexact H27
      isplitl [H22]
      · iexact H22
      iexact H29
    isplitl [H23 H24 H31 H32]
    · isplitl [H23]
      · iexact H23
      isplitl [H24]
      · iexact H24
      isplitl [H31]
      · iexact H31
      iexact H32
    isplitl [H25]
    · iexact H25
    iexact HD

end Cert.KernelIdeal.Hand
-- ==== Proof.IEnds.lean ====
module

public import proofs.«01_k».proof.Proof.IWhole

/-! The whole buffers into the blocks the body starts with, and back. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

theorem Sq_in {f g : ℕ → sProp 𝕄} (a k : ℕ) (h : ∀ i, a ≤ i → i < a + k → f i ⊢ g i) : Sq f a k ⊢ Sq g a k := by
  induction k generalizing a with
  | zero => exact .rfl
  | succ k ih =>
    rw [Sq_cons, Sq_cons]
    exact BIClass.sep_mono (h a (le_refl _) (by omega)) (ih (a + 1) fun i h1 h2 => h i (by omega) (by omega))
theorem Sq_zip (f g : ℕ → sProp 𝕄) (a k : ℕ) : iprop(Sq f a k ∗ Sq g a k) ⊣⊢ Sq (fun i => iprop(f i ∗ g i)) a k := by
  induction k generalizing a with
  | zero =>
    constructor
    · iintro ⟨-, H⟩; iexact H
    · iintro H; isplitr; · iempintro
      iexact H
  | succ k ih =>
    constructor
    · refine .trans (Q := iprop((f a ∗ g a) ∗ (Sq f (a + 1) k ∗ Sq g (a + 1) k))) ?_ (BIClass.sep_mono .rfl (ih (a + 1)).1)
      rw [Sq_cons, Sq_cons]
      iintro ⟨⟨H1, H2⟩, H3, H4⟩
      isplitl [H1 H3]
      · isplitl [H1]
        · iexact H1
        iexact H3
      isplitl [H2]
      · iexact H2
      iexact H4
    · refine .trans (Q := iprop((f a ∗ g a) ∗ (Sq f (a + 1) k ∗ Sq g (a + 1) k))) (BIClass.sep_mono .rfl (ih (a + 1)).2) ?_
      rw [Sq_cons, Sq_cons]
      iintro ⟨⟨H1, H2⟩, H3, H4⟩
      isplitl [H1 H3]
      · isplitl [H1]
        · iexact H1
        iexact H3
      isplitl [H2]
      · iexact H2
      iexact H4
theorem Sq_app (f : ℕ → sProp 𝕄) (a k l : ℕ) : iprop(Sq f a k ∗ Sq f (a + k) l) ⊣⊢ Sq f a (k + l) := by
  induction l with
  | zero =>
    constructor
    · iintro ⟨H, -⟩; iexact H
    · iintro H; isplitl; · iexact H
      iempintro
  | succ l ih =>
    constructor
    · refine .trans (Q := iprop((Sq f a k ∗ Sq f (a + k) l) ∗ f (a + k + l))) ?_ ((BIClass.sep_mono ih.1 (.rfl : f (a + k + l) ⊢ _)).trans ?_)
      · iintro ⟨H1, H2⟩
        icases (Sq_snoc f (a + k) l).2 $$ H2 with ⟨H2, H3⟩
        isplitr [H3]
        · isplitl [H1]; · iexact H1
          iexact H2
        iexact H3
      · rw [Nat.add_assoc a k l]; exact (Sq_snoc f a (k + l)).1
    · refine ((Sq_snoc f a (k + l)).2.trans ?_).trans (.trans (Q := iprop((Sq f a k ∗ Sq f (a + k) l) ∗ f (a + k + l))) (BIClass.sep_mono ih.2 .rfl) ?_)
      · rw [Nat.add_assoc a k l]
      · iintro ⟨⟨H1, H2⟩, H3⟩
        isplitl [H1]; · iexact H1
        iapply (Sq_snoc f (a + k) l).1
        isplitl [H2]; · iexact H2
        iexact H3
theorem Sq_range (f : ℕ → sProp 𝕄) (n : ℕ) : BI.bigSep (Finset.range n) f ⊣⊢ Sq f 0 n := by
  have e := Ring.bigSep_fin_eq_range n (fun t : Fin n => f t.val) f (fun _ _ => rfl)
  rw [← e]; exact Sq_fin n f
theorem sq_toks {sp : Space} {s : Shape} {e : EltTy} (b : Memref sig .tc sp s e) (f : Buf (Elt F) (b.view.loc (c : Thread nD τ))) (n : ℕ) :
    (b.view.loc (c : Thread nD τ) ↦[Finset.univ]{fullShare} f : sProp 𝕄) ⊣⊢ iprop((b.view.loc (c : Thread nD τ) ↦[Finset.univ]{Transfers.shareDrop fullShare n} f) ∗ Sq (fun i => (b.view.loc (c : Thread nD τ) ↦[Finset.univ]{Transfers.shareTokN fullShare i} f)) 0 n) :=
  ⟨(Transfers.pointsTo_toks_range fullShare n).1.trans (BIClass.sep_mono .rfl (Sq_range _ n).1), (BIClass.sep_mono .rfl (Sq_range _ n).2).trans (Transfers.pointsTo_toks_range fullShare n).2⟩
variable {V : Vals F c}
abbrev wS (i : ℕ) : sProp 𝕄 := semVal ((c : Thread nD τ), SemLoc.dma (wSemI i)) 0
abbrev hS (i : ℕ) : sProp 𝕄 := semVal ((c : Thread nD τ), SemLoc.dma (hSemI i)) 0
/-- The activations' windows. -/
theorem hEnds : iprop((b0.view.loc (c : Thread nD τ) ↦[Finset.univ]{fullShare} V.h0) ∗ Any (F := F) c b17 Finset.univ ∗ Sq (hS (F := F) (c := c)) 0 28) ⊣⊢ iprop(Sq (HId V) 0 28 ∗ (b0.view.loc (c : Thread nD τ) ↦[Finset.univ]{Transfers.shareDrop fullShare 28} V.h0)) := by
  have k1 := Own_split (F := F) (c := c) (b := b17) (fun t : Fin 28 => hset t.val) (fun i => (i 0 : Fin 28)) hset_key (q := fullShare) (f := fun i => Any (F := F) c b17 (hset i)) (fun _ => rfl)
  have k2 := Own_join (F := F) (c := c) (b := b17) (fun t : Fin 28 => hset t.val) (fun i => (i 0 : Fin 28)) hset_key (q := fullShare) (f := fun i => Any (F := F) c b17 (hset i)) (fun _ => rfl)
  have e1 : Sq (fun i => (b0.view.loc (c : Thread nD τ) ↦[Finset.univ]{Transfers.shareTokN fullShare i} V.h0 : sProp 𝕄)) 0 28 ⊢ Sq (HTk V) 0 28 := Sq_in 0 28 fun i _ h => by unfold HTk; rw [Nat.mod_eq_of_lt (by omega)]
  have e2 : Sq (HTk V) 0 28 ⊢ Sq (fun i => (b0.view.loc (c : Thread nD τ) ↦[Finset.univ]{Transfers.shareTokN fullShare i} V.h0 : sProp 𝕄)) 0 28 := Sq_in 0 28 fun i _ h => by unfold HTk; rw [Nat.mod_eq_of_lt (by omega)]
  constructor
  · iintro ⟨H0, H17, HS⟩
    icases (sq_toks b0 V.h0 28).1 $$ H0 with ⟨HR, HT⟩
    isplitr [HR]
    · iapply (Sq_mono (f := fun i => iprop(Any (F := F) c b17 (hset i) ∗ hS (F := F) (c := c) i ∗ HTk V i)) (fun i => by unfold HId; exact .rfl) 0 28)
      iapply (Sq_zip _ _ 0 28).1
      isplitl [H17]; · iapply k1; iexact H17
      iapply (Sq_zip _ _ 0 28).1
      isplitl [HS]; · iexact HS
      iapply e1; iexact HT
    iexact HR
  · iintro ⟨H, HR⟩
    have g : Sq (HId V) 0 28 ⊢ iprop(Sq (fun i => Any (F := F) c b17 (hset i)) 0 28 ∗ Sq (hS (F := F) (c := c)) 0 28 ∗ Sq (HTk V) 0 28) :=
      (Sq_mono (g := fun i => iprop(Any (F := F) c b17 (hset i) ∗ hS (F := F) (c := c) i ∗ HTk V i)) (fun i => by unfold HId; exact .rfl) 0 28).trans ((Sq_zip _ _ 0 28).2.trans (BIClass.sep_mono .rfl (Sq_zip _ _ 0 28).2))
    icases g $$ H with ⟨H17, HS, HT⟩
    isplitl [HT HR]
    · iapply (sq_toks b0 V.h0 28).2
      isplitl [HR]; · iexact HR
      iapply e2; iexact HT
    isplitl [H17]; · iapply k2; iexact H17
    iexact HS
theorem HSt_end : HSt V 28 ⊢ Sq (HId V) 0 28 := by
  unfold HSt
  refine .trans (Q := iprop(Sq (HId V) 0 28 ∗ Sq (HFl V) 28 (28 - 28))) (BIClass.sep_mono (Sq_mono (fun i => by unfold HId; exact BIClass.sep_mono Any_of .rfl) 0 28) .rfl) ?_
  iintro ⟨H, -⟩; iexact H
/-- The weights' ring. -/
abbrev TKn (V : Vals F c) (i : ℕ) : sProp 𝕄 := iprop((b2.view.loc (c : Thread nD τ) ↦[Finset.univ]{Transfers.shareTokN fullShare i} V.w2) ∗ (b6.view.loc (c : Thread nD τ) ↦[Finset.univ]{Transfers.shareTokN fullShare i} V.w6))
theorem wEnds : iprop((b2.view.loc (c : Thread nD τ) ↦[Finset.univ]{fullShare} V.w2) ∗ (b6.view.loc (c : Thread nD τ) ↦[Finset.univ]{fullShare} V.w6) ∗ Any (F := F) c b16 Finset.univ ∗ Sq (wS (F := F) (c := c)) 0 12) ⊣⊢ iprop(Sq (Idle V) 0 12 ∗ (b2.view.loc (c : Thread nD τ) ↦[Finset.univ]{Transfers.shareDrop fullShare 12} V.w2) ∗ (b6.view.loc (c : Thread nD τ) ↦[Finset.univ]{Transfers.shareDrop fullShare 12} V.w6)) := by
  have k1 := Own_split (F := F) (c := c) (b := b16) (fun t : Fin 12 => slotSet t.val) (fun i => (i 0 : Fin 12)) slot_key (q := fullShare) (f := fun i => Any (F := F) c b16 (slotSet i)) (fun _ => rfl)
  have k2 := Own_join (F := F) (c := c) (b := b16) (fun t : Fin 12 => slotSet t.val) (fun i => (i 0 : Fin 12)) slot_key (q := fullShare) (f := fun i => Any (F := F) c b16 (slotSet i)) (fun _ => rfl)
  have e1 : Sq (TKn V) 0 12 ⊢ Sq (fun i => TK V (i % 12)) 0 12 := Sq_in 0 12 fun i _ h => by rw [Nat.mod_eq_of_lt (by omega)]; unfold TK; exact .rfl
  have e2 : Sq (fun i => TK V (i % 12)) 0 12 ⊢ Sq (TKn V) 0 12 := Sq_in 0 12 fun i _ h => by rw [Nat.mod_eq_of_lt (by omega)]; unfold TK; exact .rfl
  constructor
  · iintro ⟨H2, H6, H16, HS⟩
    icases (sq_toks b2 V.w2 12).1 $$ H2 with ⟨HR2, HT2⟩
    icases (sq_toks b6 V.w6 12).1 $$ H6 with ⟨HR6, HT6⟩
    isplitr [HR2 HR6]
    · iapply (Sq_mono (f := fun i => iprop(Any (F := F) c b16 (slotSet i) ∗ wS (F := F) (c := c) i ∗ TK V (i % 12))) (fun i => by unfold Idle; exact .rfl) 0 12)
      iapply (Sq_zip _ _ 0 12).1
      isplitl [H16]; · iapply k1; iexact H16
      iapply (Sq_zip _ _ 0 12).1
      isplitl [HS]; · iexact HS
      iapply e1; iapply (Sq_zip _ _ 0 12).1
      isplitl [HT2]; · iexact HT2
      iexact HT6
    isplitl [HR2]; · iexact HR2
    iexact HR6
  · iintro ⟨H, HR2, HR6⟩
    have g : Sq (Idle V) 0 12 ⊢ iprop(Sq (fun i => Any (F := F) c b16 (slotSet i)) 0 12 ∗ Sq (wS (F := F) (c := c)) 0 12 ∗ Sq (fun i => TK V (i % 12)) 0 12) :=
      (Sq_mono (g := fun i => iprop(Any (F := F) c b16 (slotSet i) ∗ wS (F := F) (c := c) i ∗ TK V (i % 12))) (fun i => by unfold Idle; exact .rfl) 0 12).trans ((Sq_zip _ _ 0 12).2.trans (BIClass.sep_mono .rfl (Sq_zip _ _ 0 12).2))
    have g' := e2.trans (Sq_zip (fun i => (b2.view.loc (c : Thread nD τ) ↦[Finset.univ]{Transfers.shareTokN fullShare i} V.w2 : sProp 𝕄)) (fun i => (b6.view.loc (c : Thread nD τ) ↦[Finset.univ]{Transfers.shareTokN fullShare i} V.w6 : sProp 𝕄)) 0 12).2
    icases g $$ H with ⟨H16, HS, HT⟩
    icases g' $$ HT with ⟨HT2, HT6⟩
    isplitl [HT2 HR2]
    · iapply (sq_toks b2 V.w2 12).2
      isplitl [HR2]; · iexact HR2
      iexact HT2
    isplitl [HT6 HR6]
    · iapply (sq_toks b6 V.w6 12).2
      isplitl [HR6]; · iexact HR6
      iexact HT6
    isplitl [H16]; · iapply k2; iexact H16
    iexact HS
theorem Ring_end : Ring V 83 ⊢ Sq (Idle V) 0 12 := by
  unfold Ring
  have g : Sq (Fl V) (83 + 1) 10 ⊢ Sq (Idle V) 0 10 := Sq_shift (f := Fl V) (g := Idle V) 84 (fun i => by unfold Fl; rw [if_neg (by omega), Idle_congr (show (i + 84) % 12 = i % 12 by omega)]) 0 10
  have h1 : Idle V (83 + 11) ⊢ Idle V (0 + 10) := by rw [Idle_congr (show (83 + 11) % 12 = (0 + 10) % 12 by decide)]
  have h2 : Landed V 83 ⊢ Idle V (0 + 11) := (Landed_idle 83).trans (by rw [Idle_congr (show (83 + 12) % 12 = (0 + 11) % 12 by decide)])
  iintro ⟨H1, H2, H3⟩
  iapply (Sq_snoc (Idle V) 0 11).1
  isplitl [H2 H3]
  · iapply (Sq_snoc (Idle V) 0 10).1
    isplitl [H2]; · iapply g; iexact H2
    iapply h1; iexact H3
  iapply h2; iexact H1

/-! ### The batches and the blocks of the results -/
instance Own_storable {sp : Space} {s : Shape} {e : EltTy} (b : Memref sig .tc sp s e) (S) (q) (P) : Storable (upEmb : UEmb _ 𝕄) (Own (F := F) c b S q P) := by unfold Own; infer_instance
instance Any_storable {sp : Space} {s : Shape} {e : EltTy} (b : Memref sig .tc sp s e) (S) : Storable (upEmb : UEmb _ 𝕄) (Any (F := F) c b S) := by unfold Any; infer_instance
theorem ro_start : oS (F := F) (c := c) 0 (by decide) ⊢ iprop(|={Set.univ}=> BRo V 0) := Transfers.batch_alloc' EC (c : Thread nD τ) () cRo (Dro V)
theorem xc_start : oS (F := F) (c := c) 1 (by decide) ⊢ iprop(|={Set.univ}=> BXc (F := F) (c := c) 0) := Transfers.batch_alloc' EC (c : Thread nD τ) () cXc (Dxc (F := F) (c := c))
theorem hd_start (g : Fin 4) : oS (F := F) (c := c) (3 + g.val) (by omega) ⊢ iprop(|={Set.univ}=> BHd (F := F) (c := c) g 0) := Transfers.batch_alloc' EC (c : Thread nD τ) () (cHd g) (Dh (F := F) (c := c) g)
theorem PD_start : iprop(Any (F := F) c b25 Finset.univ ∗ Any (F := F) c b10 Finset.univ ∗ Any (F := F) c b26 Finset.univ ∗ BRo V 0) ⊢ PD V 0 := by
  have k1 := Own_split (F := F) (c := c) (b := b25) rset (fun i => (i 0 : Fin 14)) rset_key (q := fullShare) (f := fun i => Any (F := F) c b25 (rset (f14 i))) (fun t => by rw [f14_val])
  have k2 := Own_split (F := F) (c := c) (b := b10) roset colKey roset_key (q := fullShare) (f := fun i => Any (F := F) c b10 (roset (f14 i))) (fun t => by rw [f14_val])
  unfold PD
  iintro ⟨H25, H10, H26, HB⟩
  isplitr [H26]
  · isplitr; · iempintro
    isplitr [HB]
    · iapply (Sq_zip (fun i => Any (F := F) c b25 (rset (f14 i))) (fun i => Any (F := F) c b10 (roset (f14 i))) 0 14).1
      isplitl [H25]; · iapply k1; iexact H25
      iapply k2; iexact H10
    iexact HB
  iexact H26
theorem two {D : Fin 2 → sProp 𝕄} : bigSep Finset.univ D ⊣⊢ iprop(D 0 ∗ D 1) := by
  have e := bigSep_univ_eq_bigSepL [(0 : Fin 2), (1 : Fin 2)] (by decide) (by decide) D
  rw [e]
  exact ⟨.rfl, .rfl⟩
abbrev obF (i : ℕ) : sProp 𝕄 := Any (F := F) c b33 (obN ⟨i % 8, Nat.mod_lt _ (by decide)⟩)
abbrev Obs : sProp 𝕄 := iprop(Ob (F := F) (c := c) 0 ∗ Ob (F := F) (c := c) 1 ∗ Ob (F := F) (c := c) 2 ∗ Ob (F := F) (c := c) 3)
theorem ob_ends : Any (F := F) c b33 Finset.univ ⊣⊢ Obs (F := F) (c := c) := by
  have k1 := Own_split (F := F) (c := c) (b := b33) obN obKey ob_key (q := fullShare) (f := obF (F := F) (c := c)) (fun t => by unfold obF; rw [show (⟨t.val % 8, Nat.mod_lt _ (by decide)⟩ : Fin 8) = t from Fin.ext (Nat.mod_eq_of_lt t.2)])
  have k2 := Own_join (F := F) (c := c) (b := b33) obN obKey ob_key (q := fullShare) (f := obF (F := F) (c := c)) (fun t => by unfold obF; rw [show (⟨t.val % 8, Nat.mod_lt _ (by decide)⟩ : Fin 8) = t from Fin.ext (Nat.mod_eq_of_lt t.2)])
  have q : Sq (obF (F := F) (c := c)) 0 8 = iprop(obF (F := F) (c := c) 0 ∗ obF (F := F) (c := c) 1 ∗ obF (F := F) (c := c) 2 ∗ obF (F := F) (c := c) 3 ∗ obF (F := F) (c := c) 4 ∗ obF (F := F) (c := c) 5 ∗ obF (F := F) (c := c) 6 ∗ obF (F := F) (c := c) 7 ∗ emp) := rfl
  rw [q] at k1 k2
  constructor
  · refine k1.trans ?_
    iintro ⟨A0, A1, A2, A3, A4, A5, A6, A7, -⟩
    isplitl [A0 A1]
    · isplitl [A0]
      · iexact A0
      iexact A1
    isplitl [A2 A3]
    · isplitl [A2]
      · iexact A2
      iexact A3
    isplitl [A4 A5]
    · isplitl [A4]
      · iexact A4
      iexact A5
    isplitl [A6]
    · iexact A6
    iexact A7
  · refine .trans ?_ k2
    iintro ⟨⟨A0, A1⟩, ⟨A2, A3⟩, ⟨A4, A5⟩, A6, A7⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iempintro
abbrev qF (i : ℕ) : sProp 𝕄 := Any (F := F) c b11 (qSet ⟨i % 4, Nat.mod_lt _ (by decide)⟩)
abbrev HQ : sProp 𝕄 := iprop((Hdst (F := F) (c := c) 0 0 ∗ Hdst (F := F) (c := c) 0 1) ∗ (Hdst (F := F) (c := c) 1 0 ∗ Hdst (F := F) (c := c) 1 1))
theorem hq0 : (Hdst (F := F) (c := c) 0 0 : sProp 𝕄) = qF (F := F) (c := c) 0 := by show Any (F := F) c b11 (hdDst 0 0).view.set = _; rw [hd0_set]; rfl
theorem hq1 : (Hdst (F := F) (c := c) 0 1 : sProp 𝕄) = qF (F := F) (c := c) 1 := by show Any (F := F) c b11 (hdDst 0 1).view.set = _; rw [hd0_set]; rfl
theorem hq2 : (Hdst (F := F) (c := c) 1 0 : sProp 𝕄) = qF (F := F) (c := c) 2 := by show Any (F := F) c b11 (hdDst 1 0).view.set = _; rw [hd1_set]; rfl
theorem hq3 : (Hdst (F := F) (c := c) 1 1 : sProp 𝕄) = qF (F := F) (c := c) 3 := by show Any (F := F) c b11 (hdDst 1 1).view.set = _; rw [hd1_set]; rfl
theorem q_ends : Any (F := F) c b11 Finset.univ ⊣⊢ HQ (F := F) (c := c) := by
  have k1 := Own_split (F := F) (c := c) (b := b11) qSet qKey q_key (q := fullShare) (f := qF (F := F) (c := c)) (fun t => by unfold qF; rw [show (⟨t.val % 4, Nat.mod_lt _ (by decide)⟩ : Fin 4) = t from Fin.ext (Nat.mod_eq_of_lt t.2)])
  have k2 := Own_join (F := F) (c := c) (b := b11) qSet qKey q_key (q := fullShare) (f := qF (F := F) (c := c)) (fun t => by unfold qF; rw [show (⟨t.val % 4, Nat.mod_lt _ (by decide)⟩ : Fin 4) = t from Fin.ext (Nat.mod_eq_of_lt t.2)])
  have q : Sq (qF (F := F) (c := c)) 0 4 = iprop(qF (F := F) (c := c) 0 ∗ qF (F := F) (c := c) 1 ∗ qF (F := F) (c := c) 2 ∗ qF (F := F) (c := c) 3 ∗ emp) := rfl
  rw [q] at k1 k2
  unfold HQ
  rw [hq0, hq1, hq2, hq3]
  constructor
  · refine k1.trans ?_
    iintro ⟨A0, A1, A2, A3, -⟩
    isplitl [A0 A1]
    · isplitl [A0]
      · iexact A0
      iexact A1
    isplitl [A2]
    · iexact A2
    iexact A3
  · refine .trans ?_ k2
    iintro ⟨⟨A0, A1⟩, A2, A3⟩
    isplitl [A0]; · iexact A0
    isplitl [A1]; · iexact A1
    isplitl [A2]; · iexact A2
    isplitl [A3]; · iexact A3
    iempintro
theorem k_ends : Any (F := F) c b12 Finset.univ ⊣⊢ iprop(Hdst (F := F) (c := c) 2 0 ∗ Hdst (F := F) (c := c) 2 1) := by
  have hf : ∀ t : Fin 2, (fun i => Any (F := F) c b12 (kSet ⟨i % 2, Nat.mod_lt _ (by decide)⟩)) t.val = Own (F := F) c b12 (kSet t) fullShare (fun _ => True) := fun t => by
    show Any (F := F) c b12 (kSet ⟨t.val % 2, _⟩) = _
    rw [show (⟨t.val % 2, Nat.mod_lt _ (by decide)⟩ : Fin 2) = t from Fin.ext (Nat.mod_eq_of_lt t.2)]
  have k1 := Own_split (F := F) (c := c) (b := b12) kSet kKey k_key (q := fullShare) (f := fun i => Any (F := F) c b12 (kSet ⟨i % 2, Nat.mod_lt _ (by decide)⟩)) hf
  have k2 := Own_join (F := F) (c := c) (b := b12) kSet kKey k_key (q := fullShare) (f := fun i => Any (F := F) c b12 (kSet ⟨i % 2, Nat.mod_lt _ (by decide)⟩)) hf
  have q : Sq (fun i => Any (F := F) c b12 (kSet ⟨i % 2, Nat.mod_lt _ (by decide)⟩)) 0 2 = iprop(Any (F := F) c b12 (kSet 0) ∗ Any (F := F) c b12 (kSet 1) ∗ emp) := rfl
  rw [q] at k1 k2
  have h0 : (Hdst (F := F) (c := c) 2 0 : sProp 𝕄) = Any (F := F) c b12 (kSet 0) := by show Any (F := F) c b12 (hdDst 2 0).view.set = _; rw [hd2_set]
  have h1 : (Hdst (F := F) (c := c) 2 1 : sProp 𝕄) = Any (F := F) c b12 (kSet 1) := by show Any (F := F) c b12 (hdDst 2 1).view.set = _; rw [hd2_set]
  rw [h0, h1]
  constructor
  · refine k1.trans ?_
    iintro ⟨A0, A1, -⟩
    isplitl [A0]
    · iexact A0
    iexact A1
  · refine .trans ?_ k2
    iintro ⟨A0, A1⟩
    isplitl [A0]; · iexact A0
    isplitl [A1]; · iexact A1
    iempintro
theorem v_ends : Any (F := F) c b13 Finset.univ ⊣⊢ iprop(Hdst (F := F) (c := c) 3 0 ∗ Hdst (F := F) (c := c) 3 1) := by
  have hf : ∀ t : Fin 2, (fun i => Any (F := F) c b13 (kSet ⟨i % 2, Nat.mod_lt _ (by decide)⟩)) t.val = Own (F := F) c b13 (kSet t) fullShare (fun _ => True) := fun t => by
    show Any (F := F) c b13 (kSet ⟨t.val % 2, _⟩) = _
    rw [show (⟨t.val % 2, Nat.mod_lt _ (by decide)⟩ : Fin 2) = t from Fin.ext (Nat.mod_eq_of_lt t.2)]
  have k1 := Own_split (F := F) (c := c) (b := b13) kSet kKey k_key (q := fullShare) (f := fun i => Any (F := F) c b13 (kSet ⟨i % 2, Nat.mod_lt _ (by decide)⟩)) hf
  have k2 := Own_join (F := F) (c := c) (b := b13) kSet kKey k_key (q := fullShare) (f := fun i => Any (F := F) c b13 (kSet ⟨i % 2, Nat.mod_lt _ (by decide)⟩)) hf
  have q : Sq (fun i => Any (F := F) c b13 (kSet ⟨i % 2, Nat.mod_lt _ (by decide)⟩)) 0 2 = iprop(Any (F := F) c b13 (kSet 0) ∗ Any (F := F) c b13 (kSet 1) ∗ emp) := rfl
  rw [q] at k1 k2
  have h0 : (Hdst (F := F) (c := c) 3 0 : sProp 𝕄) = Any (F := F) c b13 (kSet 0) := by show Any (F := F) c b13 (hdDst 3 0).view.set = _; rw [hd3_set]
  have h1 : (Hdst (F := F) (c := c) 3 1 : sProp 𝕄) = Any (F := F) c b13 (kSet 1) := by show Any (F := F) c b13 (hdDst 3 1).view.set = _; rw [hd3_set]
  rw [h0, h1]
  constructor
  · refine k1.trans ?_
    iintro ⟨A0, A1, -⟩
    isplitl [A0]
    · iexact A0
    iexact A1
  · refine .trans ?_ k2
    iintro ⟨A0, A1⟩
    isplitl [A0]; · iexact A0
    isplitl [A1]; · iexact A1
    iempintro

/-- A buffer's two halves make it whole. -/
theorem halves {sp : Space} {s : Shape} {e : EltTy} {b : Memref sig .tc sp s e} : iprop(Own (F := F) c b Finset.univ fullShare.left (fun _ => True) ∗ Own (F := F) c b Finset.univ fullShare.right (fun _ => True)) ⊢ Any (F := F) c b Finset.univ := by
  unfold Any Own
  iintro ⟨⟨%f, -, H1⟩, ⟨%g, -, H2⟩⟩
  ihave %hfg := (pointsTo_agree (ℓ := b.view.loc (c : Thread nD τ)) (I := Finset.univ) (J := Finset.univ) (q₁ := fullShare.left) (q₂ := fullShare.right) (f := f) (g := g)) $$ [H1 H2]
  · isplitl [H1]; · iexact H1
    iexact H2
  have e : f = g := funext fun i => (hfg i (Finset.mem_inter.2 ⟨Finset.mem_univ _, Finset.mem_univ _⟩)).1
  subst e
  iexists f
  isplitr; · ipureintro; trivial
  iapply (pointsTo_share (PosShare.mem_left_op_right _)).2
  isplitl [H1]; · iexact H1
  iexact H2
/-- What the result holds at the end. -/
abbrev ROW (V : Vals F c) : sProp 𝕄 := Own c b10 Finset.univ fullShare (fun g => ∀ t, ∃ f, V.RO t f ∧ ∀ i ∈ roset t, g i = f i)
theorem ro_end : iprop(Own (F := F) c b25 Finset.univ fullShare.left (fun _ => True) ∗ bigSep Finset.univ (Dro V)) ⊢ iprop(ROW V ∗ Any (F := F) c b25 Finset.univ) := by
  have e : bigSep Finset.univ (Dro V) = iprop(bigSep Finset.univ (fun t => Own c b10 (roset t) fullShare (V.RO t)) ∗ bigSep Finset.univ (fun t => Own (F := F) c b25 (rset t) fullShare.right (fun _ => True))) :=
    BI.bigSep_sep Finset.univ _ _
  rw [e]
  have k1 := Own_joinP (F := F) (c := c) (b := b10) roset colKey roset_key (q := fullShare) V.RO
  have k2 := (Own_joinP (F := F) (c := c) (b := b25) rset (fun i => (i 0 : Fin 14)) rset_key (q := fullShare.right) (fun _ _ => True))
  iintro ⟨HL, H1, H2⟩
  isplitl [H1]; · iapply k1; iexact H1
  iapply (halves (F := F) (c := c) (b := b25))
  isplitl [HL]; · iexact HL
  ihave H2 := k2 $$ H2
  unfold Own
  icases H2 with ⟨%g, -, H⟩
  iexists g; isplitr; · ipureintro; trivial
  iexact H
theorem xc_end : bigSep Finset.univ (Dxc (F := F) (c := c)) ⊢ iprop(Any (F := F) c b14 Finset.univ ∗ Any (F := F) c b28 Finset.univ) := by
  have e : bigSep Finset.univ (Dxc (F := F) (c := c)) = iprop(bigSep Finset.univ (fun t => Any (F := F) c b14 (xcset t)) ∗ bigSep Finset.univ (fun t => Any (F := F) c b28 (cset t))) :=
    BI.bigSep_sep Finset.univ _ _
  rw [e]
  have w {sp : Space} {s : Shape} {e : EltTy} {b : Memref sig .tc sp s e} {P} : Own (F := F) c b Finset.univ fullShare P ⊢ Any (F := F) c b Finset.univ := Any_of
  exact BIClass.sep_mono ((Own_joinP (F := F) (c := c) (b := b14) xcset colKey xcset_key (q := fullShare) (fun _ _ => True)).trans w) ((Own_joinP (F := F) (c := c) (b := b28) cset (fun i => (i 0 : Fin 14)) cset_key (q := fullShare) (fun _ _ => True)).trans w)
theorem hd_end (g : Fin 4) : bigSep Finset.univ (Dh (F := F) (c := c) g) ⊢ iprop((Hdst (F := F) (c := c) g 0 ∗ Hdst (F := F) (c := c) g 1) ∗ Ob (F := F) (c := c) g) := by
  refine two.1.trans ?_
  iintro ⟨⟨H1, H2⟩, H3, H4⟩
  isplitl [H1 H3]
  · isplitl [H1]
    · iexact H1
    iexact H3
  isplitl [H2]
  · iexact H2
  iexact H4

end Cert.KernelIdeal.Hand
-- ==== Proof.IEnds2.lean ====
module

public import proofs.«01_k».proof.Proof.IEnds

/-! The body from the whole buffers to the whole buffers. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal
open K0.Facts₀ Shapes1.Facts₀

variable {F : FTy → Type} [FloatOps F]
local notation "𝕄" => MT nD τ sig Unit (Elt F) ℕ (Pipeline.UD sig nD τ) ℕ
variable {c : Dev nD}

variable {V : Vals F c}
abbrev Sems : sProp 𝕄 := iprop(Sq (wS (F := F) (c := c)) 0 12 ∗ Sq (hS (F := F) (c := c)) 0 28 ∗ (iS (F := F) (c := c) 0 (by decide) ∗ iS (F := F) (c := c) 1 (by decide) ∗ iS (F := F) (c := c) 2 (by decide) ∗ iS (F := F) (c := c) 3 (by decide) ∗ iS (F := F) (c := c) 4 (by decide)) ∗ (oS (F := F) (c := c) 0 (by decide) ∗ oS (F := F) (c := c) 1 (by decide) ∗ oS (F := F) (c := c) 2 (by decide) ∗ oS (F := F) (c := c) 3 (by decide) ∗ oS (F := F) (c := c) 4 (by decide) ∗ oS (F := F) (c := c) 5 (by decide) ∗ oS (F := F) (c := c) 6 (by decide)))
abbrev Args (V : Vals F c) : sProp 𝕄 := iprop((b0.view.loc (c : Thread nD τ) ↦[Finset.univ]{fullShare} V.h0) ∗ Src1 V ∗ (b2.view.loc (c : Thread nD τ) ↦[Finset.univ]{fullShare} V.w2) ∗ B3 V ∗ Src4 V ∗ Src5 V ∗ (b6.view.loc (c : Thread nD τ) ↦[Finset.univ]{fullShare} V.w6) ∗ B7 V ∗ Src8 V ∗ Src9 V)
abbrev Outs : sProp 𝕄 := iprop(Any (F := F) c b11 Finset.univ ∗ Any (F := F) c b12 Finset.univ ∗ Any (F := F) c b13 Finset.univ ∗ Any (F := F) c b14 Finset.univ ∗ Any (F := F) c b15 Finset.univ)
abbrev Scr : sProp 𝕄 := iprop(Any (F := F) c b16 Finset.univ ∗ Any (F := F) c b17 Finset.univ ∗ Any (F := F) c b18 Finset.univ ∗ Any (F := F) c b19 Finset.univ ∗ Any (F := F) c b20 Finset.univ ∗ Any (F := F) c b21 Finset.univ ∗ Any (F := F) c b22 Finset.univ ∗ Any (F := F) c b23 Finset.univ ∗ Any (F := F) c b24 Finset.univ ∗ Any (F := F) c b25 Finset.univ ∗ Any (F := F) c b26 Finset.univ ∗ Any (F := F) c b27 Finset.univ ∗ Any (F := F) c b28 Finset.univ ∗ Any (F := F) c b29 Finset.univ ∗ Any (F := F) c b30 Finset.univ ∗ Any (F := F) c b31 Finset.univ ∗ Any (F := F) c b32 Finset.univ ∗ Any (F := F) c b33 Finset.univ)
/-- Everything the body has, the first result in the state `R`. -/
abbrev All (V : Vals F c) (R : sProp 𝕄) : sProp 𝕄 := iprop(Owes (F := F) c ∗ Sems (F := F) (c := c) ∗ Args V ∗ R ∗ Outs (F := F) (c := c) ∗ Scr (F := F) (c := c))
abbrev Rem (V : Vals F c) : sProp 𝕄 := iprop((b0.view.loc (c : Thread nD τ) ↦[Finset.univ]{Transfers.shareDrop fullShare 28} V.h0) ∗ (b2.view.loc (c : Thread nD τ) ↦[Finset.univ]{Transfers.shareDrop fullShare 12} V.w2) ∗ (b6.view.loc (c : Thread nD τ) ↦[Finset.univ]{Transfers.shareDrop fullShare 12} V.w6))
abbrev R10 : sProp 𝕄 := Any (F := F) c b10 Finset.univ
set_option maxHeartbeats 2000000 in
theorem T.start_of {α : Type} {p : PR F α} {Q : α → sProp 𝕄} (hk : T c iprop(Start V ∗ Rem V) p Q) : T c (All V (R10 (F := F) (c := c))) p Q := by
  unfold T at *
  iintro ⟨HO, ⟨HWS, HHS, ⟨I0, I1, I2, I3, I4⟩, ⟨O0, O1, O2, O3, O4, O5, O6⟩⟩, ⟨A0, A1, A2, A3, A4, A5, A6, A7, A8, A9⟩, B10, ⟨B11, B12, B13, B14, B15⟩, ⟨S16, S17, S18, S19, S20, S21, S22, S23, S24, S25, S26, S27, S28, S29, S30, S31, S32, S33⟩⟩
  imod ro_start (V := V) $$ O0 with O0
  imod xc_start $$ O1 with O1
  imod hd_start 0 $$ O3 with O3
  imod hd_start 1 $$ O4 with O4
  imod hd_start 2 $$ O5 with O5
  imod hd_start 3 $$ O6 with O6
  ihave HHH := (hEnds (V := V)).1 $$ [A0 S17 HHS]
  · isplitl [A0]
    · iexact A0
    isplitl [S17]
    · iexact S17
    iexact HHS
  icases HHH with ⟨HHH, R0⟩
  ihave HWW := (wEnds (V := V)).1 $$ [A2 A6 S16 HWS]
  · isplitl [A2]
    · iexact A2
    isplitl [A6]
    · iexact A6
    isplitl [S16]
    · iexact S16
    iexact HWS
  icases HWW with ⟨HWW, R2, R6⟩
  ihave HPD := PD_start (V := V) $$ [S25 B10 S26 O0]
  · isplitl [S25]
    · iexact S25
    isplitl [B10]
    · iexact B10
    isplitl [S26]
    · iexact S26
    iexact O0
  ihave HX := ob_ends.1 $$ S33
  icases HX with ⟨X0, X1, X2, X3⟩
  ihave HX := q_ends.1 $$ B11
  icases HX with ⟨⟨Y00, Y01⟩, Y10, Y11⟩
  ihave HX := k_ends.1 $$ B12
  icases HX with ⟨Y20, Y21⟩
  ihave HX := v_ends.1 $$ B13
  icases HX with ⟨Y30, Y31⟩
  iapply hk
  unfold Start Rem InsI CS' Y0 Z0 HdI
  isplitl [HO HHH HWW A1 S18 I0 A4 S21 I1 A5 S22 I2 A8 S23 I3 A9 S24 I4 A3 S19 S20 A7 HPD S31 S32 S30 S27 S28 S29 B14 O1 B15 O2 X0 Y00 Y01 O3 X1 Y10 Y11 O4 X2 Y20 Y21 O5 X3 Y30 Y31 O6]
  · isplitl [HO HHH HWW A1 S18 I0 A4 S21 I1 A5 S22 I2 A8 S23 I3 A9 S24 I4 A3 S19 S20]
    · isplitl [HO]
      · iexact HO
      isplitl [HHH]
      · iexact HHH
      isplitl [HWW]
      · iexact HWW
      isplitl [A1 S18 I0 A4 S21 I1 A5 S22 I2 A8 S23 I3 A9 S24 I4]
      · isplitl [A1 S18 I0]
        · isplitl [A1]
          · iexact A1
          isplitl [S18]
          · iexact S18
          iexact I0
        isplitl [A4 S21 I1]
        · isplitl [A4]
          · iexact A4
          isplitl [S21]
          · iexact S21
          iexact I1
        isplitl [A5 S22 I2]
        · isplitl [A5]
          · iexact A5
          isplitl [S22]
          · iexact S22
          iexact I2
        isplitl [A8 S23 I3]
        · isplitl [A8]
          · iexact A8
          isplitl [S23]
          · iexact S23
          iexact I3
        isplitl [A9]
        · iexact A9
        isplitl [S24]
        · iexact S24
        iexact I4
      isplitl [A3]
      · iexact A3
      isplitl [S19]
      · iexact S19
      iexact S20
    isplitl [A7]
    · iexact A7
    isplitl [HPD]
    · iexact HPD
    isplitl [S31 S32 S30]
    · isplitl [S31]
      · iexact S31
      isplitl [S32]
      · iexact S32
      iexact S30
    isplitl [S27 S28 S29]
    · isplitl [S27]
      · iexact S27
      isplitl [S28]
      · iexact S28
      iexact S29
    isplitl [B14 O1 B15 O2]
    · isplitl [B14]
      · iexact B14
      isplitl [O1]
      · iexact O1
      isplitl [B15]
      · iexact B15
      iexact O2
    isplitl [X0 Y00 Y01 O3]
    · isplitl [X0]
      · iexact X0
      isplitl [Y00 Y01]
      · isplitl [Y00]
        · iexact Y00
        iexact Y01
      iexact O3
    isplitl [X1 Y10 Y11 O4]
    · isplitl [X1]
      · iexact X1
      isplitl [Y10 Y11]
      · isplitl [Y10]
        · iexact Y10
        iexact Y11
      iexact O4
    isplitl [X2 Y20 Y21 O5]
    · isplitl [X2]
      · iexact X2
      isplitl [Y20 Y21]
      · isplitl [Y20]
        · iexact Y20
        iexact Y21
      iexact O5
    isplitl [X3]
    · iexact X3
    isplitl [Y30 Y31]
    · isplitl [Y30]
      · iexact Y30
      iexact Y31
    iexact O6
  isplitl [R0]
  · iexact R0
  isplitl [R2]
  · iexact R2
  iexact R6
set_option maxHeartbeats 2000000 in
theorem finish : iprop(End V ∗ Rem V) ⊢ All V (ROW V) := by
  unfold End KA K18 InsL Done DoneRo DoneXc DoneXs XsD DoneHd Rem
  iintro ⟨⟨⟨HO, HR, HHt, S19, S18, A1, I0⟩, ⟨⟨A4, I1⟩, ⟨A5, I2⟩, ⟨A8, I3⟩, A9, I4⟩, ⟨A3, A7, S20, S21⟩, ⟨S26, S27, S22, S29⟩, ⟨S23, S24, S31, S32⟩, HL, ⟨D0, O0⟩, ⟨D1, O1⟩, ⟨⟨B15, S30⟩, O2⟩, ⟨E0, O3⟩, ⟨E1, O4⟩, ⟨E2, O5⟩, E3, O6⟩, R0, R2, R6⟩
  ihave HHt := HSt_end (V := V) $$ HHt
  ihave HR := Ring_end (V := V) $$ HR
  ihave HX := (hEnds (V := V)).2 $$ [HHt R0]
  · isplitl [HHt]
    · iexact HHt
    iexact R0
  icases HX with ⟨A0, S17, HHS⟩
  ihave HX := (wEnds (V := V)).2 $$ [HR R2 R6]
  · isplitl [HR]
    · iexact HR
    isplitl [R2]
    · iexact R2
    iexact R6
  icases HX with ⟨A2, A6, S16, HWS⟩
  ihave HX := ro_end (V := V) $$ [HL D0]
  · isplitl [HL]
    · iexact HL
    iexact D0
  icases HX with ⟨B10, S25⟩
  ihave HX := xc_end $$ D1
  icases HX with ⟨B14, S28⟩
  ihave HX := hd_end 0 $$ E0
  icases HX with ⟨E0, X0⟩
  ihave HX := hd_end 1 $$ E1
  icases HX with ⟨E1, X1⟩
  ihave HX := hd_end 2 $$ E2
  icases HX with ⟨E2, X2⟩
  ihave HX := hd_end 3 $$ E3
  icases HX with ⟨E3, X3⟩
  ihave S33 := ob_ends.2 $$ [X0 X1 X2 X3]
  · isplitl [X0]
    · iexact X0
    isplitl [X1]
    · iexact X1
    isplitl [X2]
    · iexact X2
    iexact X3
  ihave B11 := q_ends.2 $$ [E0 E1]
  · isplitl [E0]
    · iexact E0
    iexact E1
  ihave B12 := k_ends.2 $$ E2
  ihave B13 := v_ends.2 $$ E3
  isplitl [HO]
  · iexact HO
  isplitl [HWS HHS I0 I1 I2 I3 I4 O0 O1 O2 O3 O4 O5 O6]
  · isplitl [HWS]
    · iexact HWS
    isplitl [HHS]
    · iexact HHS
    isplitl [I0 I1 I2 I3 I4]
    · isplitl [I0]
      · iexact I0
      isplitl [I1]
      · iexact I1
      isplitl [I2]
      · iexact I2
      isplitl [I3]
      · iexact I3
      iexact I4
    isplitl [O0]
    · iexact O0
    isplitl [O1]
    · iexact O1
    isplitl [O2]
    · iexact O2
    isplitl [O3]
    · iexact O3
    isplitl [O4]
    · iexact O4
    isplitl [O5]
    · iexact O5
    iexact O6
  isplitl [A0 A1 A2 A3 A4 A5 A6 A7 A8 A9]
  · isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    isplitl [A7]
    · iexact A7
    isplitl [A8]
    · iexact A8
    iexact A9
  isplitl [B10]
  · iexact B10
  isplitl [B11 B12 B13 B14 B15]
  · isplitl [B11]
    · iexact B11
    isplitl [B12]
    · iexact B12
    isplitl [B13]
    · iexact B13
    isplitl [B14]
    · iexact B14
    iexact B15
  isplitl [S16]
  · iexact S16
  isplitl [S17]
  · iexact S17
  isplitl [S18]
  · iapply (Any_of (F := F) (c := c)); iexact S18
  isplitl [S19]
  · iapply (Any_of (F := F) (c := c)); iexact S19
  isplitl [S20]
  · iapply (Any_of (F := F) (c := c)); iexact S20
  isplitl [S21]
  · iapply (Any_of (F := F) (c := c)); iexact S21
  isplitl [S22]
  · iexact S22
  isplitl [S23]
  · iexact S23
  isplitl [S24]
  · iexact S24
  isplitl [S25]
  · iexact S25
  isplitl [S26]
  · iexact S26
  isplitl [S27]
  · iexact S27
  isplitl [S28]
  · iexact S28
  isplitl [S29]
  · iexact S29
  isplitl [S30]
  · iexact S30
  isplitl [S31]
  · iexact S31
  isplitl [S32]
  · iexact S32
  iexact S33
/-- The body from everything whole to everything whole. -/
theorem T.all : T c (All V (R10 (F := F) (c := c))) (Hand.body : PR F PUnit) (fun _ => All V (ROW V)) := by
  refine T.start_of ?_
  have h := (T.body (V := V)).frame (Rem V)
  unfold T at h ⊢
  exact h.trans (wp_mono _ _ _ fun _ => finish)

end Cert.KernelIdeal.Hand
-- ==== Proof.IEq.lean ====
module

public import proofs.«01_k».proof.Proof.IStages
public import Idealize.ShloMosaic.Lib.Tactic

/-! The printed parts of the kernel's loops, as the chunks of `Body` and `Stages`. -/

@[expose] public section
noncomputable section

namespace Cert.KernelIdeal.Hand
open Idealize.ShloMosaic Idealize.ShloMosaic.TcCoe
open Idealize.SL Idealize.SL.Sem
open Cert.KernelIdeal
open K0.Facts₀ Shapes1.Facts₀
variable {F : FTy → Type} [FloatOps F]
set_option maxRecDepth 100000

/-- The upper half of a tile of weights. -/
def upper (v00 v01 : FVec F S128x128 .bf16) : FVec F S128x256 .bf16 :=
  concatenate S128x256 1 [⟨S128x128, v00⟩, ⟨S128x128, v01⟩] concatenates_S128x128_S128x128_S128x256_d1

theorem forPure {α : Type} {p q : PR F α} (h : p = q) : (p >>= fun x => pure x) = q := by
  rw [h, bind_pure]
theorem assocA {α β γ δ : Type} (a : PR F α) (b : PR F β) (x : W) (hx : x.toNat < 96) (k : PR F γ) (f : γ → PR F δ) :
    (a >>= fun _ => b >>= fun _ => startW x hx k) >>= f = a >>= fun _ => b >>= fun _ => startW x hx (k >>= f) := by
  simp only [bind_assoc, startW_bind]
theorem assocB {α γ δ : Type} (a : PR F α) (x : W) (hx : x.toNat < 96) (k : PR F γ) (f : γ → PR F δ) :
    (a >>= fun _ => startW x hx k) >>= f = a >>= fun _ => startW x hx (k >>= f) := by
  simp only [bind_assoc, startW_bind]
/-- The steps of a chunk but its last push. -/
def core4 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 0 3 s
  let s ← stepP ld 0 3 S 1 0 s
  let s ← stepP ld 1 0 S 1 1 s
  let s ← stepP ld 1 1 S 1 2 s
  let s ← stepP ld 1 2 S 1 3 s
  let s ← accPair ld 1 3 s
  pushTile N 0 0 0 s
def core3 (ld : Fin 2 → PR F (Vec F S1x256x256 .bf16)) (S N : Src F) (s : Mxu F) : PR F (Mxu F) := do
  let s ← stepP ld 0 0 S 0 1 s
  let s ← stepP ld 0 1 S 0 2 s
  let s ← stepP ld 0 2 S 1 0 s
  let s ← stepP ld 1 0 S 1 1 s
  let s ← stepP ld 1 1 S 1 2 s
  let s ← accPair ld 1 2 s
  pushTile N 0 0 0 s

theorem p30_eq (t : Fin k0_t1_loop.trips) (s : Mxu F) : k0_part30 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitH (Scalar.addi (Scf.iv 0#32 1#32 t.val) 1#32) (iv1K' t) >>= fun _ =>
  waitA (Scalar.addi (Scf.iv 0#32 1#32 t.val) 1#32) (iv1K' t) >>= fun _ =>
  startW (Scalar.addi (Scf.iv 0#32 1#32 t.val) 11#32) (lt96 (iv1K t).lt) (do
    let s ← steps4 (lhsD (Scf.iv 0#32 1#32 t.val) (iv1K t)) (srcA (Scf.iv 0#32 1#32 t.val) (iv1K t)) (srcA (Scalar.addi (Scf.iv 0#32 1#32 t.val) 1#32) (iv1K' t)) s
    widenOne (Scalar.addi (Scf.iv 0#32 1#32 t.val) 1#32) (iv1K' t) 0 0
    widenOne (Scalar.addi (Scf.iv 0#32 1#32 t.val) 1#32) (iv1K' t) 0 1
    widenOne (Scalar.addi (Scf.iv 0#32 1#32 t.val) 1#32) (iv1K' t) 1 0
    let v ← widenHead (Scalar.addi (Scf.iv 0#32 1#32 t.val) 1#32) (iv1K' t) 1 1
    pure ⟨s, v⟩)) := by
  sl_kernel_rfl
theorem p221_eq (s : Mxu F) : k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop1 s := by
  unfold k0_part221 loop1
  refine congrArg (fun f => Scf.Loop.for k0_t1_loop k0_t1_ok s f) (funext fun t => funext fun s => ?_)
  refine (congrArg (fun p => p >>= _) (p30_eq t s)).trans ?_
  refine (assocA _ _ _ _ _ _).trans ?_
  sl_kernel_rfl
theorem p53_eq (t : Fin k0_t2_loop.trips) (s : Mxu F) : k0_part53 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 29#32 1#32 t s =
  (waitB (Scalar.addi (Scf.iv 29#32 1#32 t.val) 1#32) (iv2K' t) >>= fun _ =>
  startW (Scalar.addi (Scf.iv 29#32 1#32 t.val) 11#32) (lt96 (iv2K t).lt) (do
    let s ← core3 (lhsD (Scalar.subi (Scf.iv 29#32 1#32 t.val) 28#32) (iv2K t).sub) (srcB (Scf.iv 29#32 1#32 t.val) (iv2K t)) (srcB (Scalar.addi (Scf.iv 29#32 1#32 t.val) 1#32) (iv2K' t)) s
    let v00 ← blk (srcB (Scalar.addi (Scf.iv 29#32 1#32 t.val) 1#32) (iv2K' t)) 0 1 0 0
    let v01 ← blk (srcB (Scalar.addi (Scf.iv 29#32 1#32 t.val) 1#32) (iv2K' t)) 0 1 0 1
    let v10 ← blk (srcB (Scalar.addi (Scf.iv 29#32 1#32 t.val) 1#32) (iv2K' t)) 0 1 1 0
    pure ⟨s, Scalar.muli (Scalar.muli (Scalar.subi (Scalar.addi (Scf.iv 29#32 1#32 t.val) 1#32) 28#32) 2#32) 2#32, upper v00 v01, v10⟩)) := by
  sl_kernel_rfl
theorem p257_eq (s : Mxu F) : k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32 = loop2 s := by
  unfold k0_part257 loop2
  refine congrArg (fun f => Scf.Loop.for k0_t2_loop k0_t2_ok s f) (funext fun t => funext fun s => ?_)
  refine (congrArg (fun p => p >>= _) (p53_eq t s)).trans ?_
  refine (assocB _ _ _ _ _).trans ?_
  sl_kernel_rfl
theorem p94_eq (t : Fin k0_t3_loop.trips) (s : Mxu F) : k0_part94 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitC (Scalar.addi (Scalar.addi 56#32 (Scf.iv 0#32 1#32 t.val)) 1#32) (iv3 t).2.2.1 >>= fun _ =>
  startW (Scalar.addi (Scalar.addi 56#32 (Scf.iv 0#32 1#32 t.val)) 11#32) (lt96 (K2.lt (iv3 t).2.1)) (do
    let s ← steps4 (lhsQ (Scf.iv 0#32 1#32 t.val) (iv3 t).1) (srcC (Scalar.addi 56#32 (Scf.iv 0#32 1#32 t.val)) (iv3 t).2.1) (srcC (Scalar.addi (Scalar.addi 56#32 (Scf.iv 0#32 1#32 t.val)) 1#32) (iv3 t).2.2.1) s
    quantise (qW (Scf.iv 0#32 1#32 t.val) 0) ((iv3 t).2.2.2 0)
    quantOne (qW (Scf.iv 0#32 1#32 t.val) 1) ((iv3 t).2.2.2 1) 0
    let v ← quantHead (qW (Scf.iv 0#32 1#32 t.val) 1) ((iv3 t).2.2.2 1) 1
    pure ⟨s, v⟩)) := by
  sl_kernel_rfl
theorem p283_eq (s : Mxu F) : k0_part283 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop3 s := by
  unfold k0_part283 loop3
  refine congrArg (fun f => Scf.Loop.for k0_t3_loop k0_t3_ok s f) (funext fun t => funext fun s => ?_)
  refine (congrArg (fun p => p >>= _) (p94_eq t s)).trans ?_
  refine (assocB _ _ _ _ _).trans ?_
  sl_kernel_rfl
theorem p128_eq (t : Fin k0_t4_loop.trips) (u : Fin k0_t5_loop.trips) (s : Mxu F) :
  k0_part128 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) 1#32 1#32 u s =
  (waitC (Scalar.addi (Scalar.addi (bW (gW t.val)) (Scf.iv 1#32 1#32 u.val)) 1#32) (iv5 t u).2.2 >>= fun _ =>
  startW (Scalar.addi (Scalar.addi (bW (gW t.val)) (Scf.iv 1#32 1#32 u.val)) 11#32) (lt96 (K2.lt (iv5 t u).2.1)) (do
    let s ← core4 (lhsQ (Scf.iv 1#32 1#32 u.val) (iv5 t u).1) (srcC (Scalar.addi (bW (gW t.val)) (Scf.iv 1#32 1#32 u.val)) (iv5 t u).2.1) (srcC (Scalar.addi (Scalar.addi (bW (gW t.val)) (Scf.iv 1#32 1#32 u.val)) 1#32) (iv5 t u).2.2) s
    let v00 ← blk (srcC (Scalar.addi (Scalar.addi (bW (gW t.val)) (Scf.iv 1#32 1#32 u.val)) 1#32) (iv5 t u).2.2) 0 1 0 0
    let v01 ← blk (srcC (Scalar.addi (Scalar.addi (bW (gW t.val)) (Scf.iv 1#32 1#32 u.val)) 1#32) (iv5 t u).2.2) 0 1 0 1
    let v ← ringLoad (rem12 (Scalar.addi (Scalar.addi (bW (gW t.val)) (Scf.iv 1#32 1#32 u.val)) 1#32)) (rem12_lt (K2.lt (iv5 t u).2.2)) 128 256 (by decide) (by decide)
    pure ⟨Scalar.remsi (Scalar.addi (Scalar.addi (bW (gW t.val)) (Scf.iv 1#32 1#32 u.val)) 1#32) 12#32, s,
      Scalar.muli (Scalar.muli (Scalar.remsi (Scalar.subi (Scalar.addi (Scalar.addi (bW (gW t.val)) (Scf.iv 1#32 1#32 u.val)) 1#32) 56#32) 7#32) 2#32) 2#32,
      Scalar.muli (Scalar.divsi (Scalar.subi (Scalar.addi (Scalar.addi (bW (gW t.val)) (Scf.iv 1#32 1#32 u.val)) 1#32) 56#32) 7#32) 16#32,
      upper v00 v01, extf .bf16 (shapeCast S128x128 v shapeCasts_S1x128x128_S128x128) bitsLt_fp8e4m3_bf16⟩)) := by
  sl_kernel_rfl
theorem p206_eq (t : Fin k0_t4_loop.trips) (s : Mxu F) :
    k0_part206 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) s 1#32 1#32 = loop5 t s := by
  unfold k0_part206 loop5
  refine congrArg (fun f => Scf.Loop.for k0_t5_loop k0_t5_ok s f) (funext fun u => funext fun s => ?_)
  refine (congrArg (fun p => p >>= _) (p128_eq t u s)).trans ?_
  refine (assocB _ _ _ _ _).trans ?_
  sl_kernel_rfl

end Cert.KernelIdeal.Hand
-- ==== Proof.IEq2.lean ====
module

public import proofs.«01_k».proof.Proof.IEq
public import Idealize.ShloMosaic.Lib.Tactic

/-! The printed kernel as the sequence of segments and loops. -/

@[expose] public section
noncomputable section

namespace Cert.KernelIdeal.Hand
open Idealize.ShloMosaic Idealize.ShloMosaic.TcCoe
open Idealize.SL Idealize.SL.Sem
open Cert.KernelIdeal
open K0.Facts₀ Shapes1.Facts₀
variable {F : FTy → Type} [FloatOps F]
set_option maxRecDepth 100000

/-- The group's second chunk up to its sixth step. -/
def pops207 (g : ℕ) (hg : g < 4) (ld : Fin 2 → PR F (Vec F S1x256x256 .bf16)) (S : Src F) (s : Mxu F) : PR F (Mxu F) := do
  let s ← popRope g hg 0 s
  let s ← stepP ld 0 0 S 0 1 s
  let s ← popRope g hg 1 s
  let s ← stepP ld 0 1 S 0 2 s
  let s ← popRope g hg 2 s
  let s ← stepP ld 0 2 S 0 3 s
  let s ← popRope g hg 3 s
  let s ← stepP ld 0 3 S 1 0 s
  let s ← accPair ld 1 0 s
  pushTile S 1 2 0 s

theorem p207_eq (t : Fin k0_t4_loop.trips) (s : Mxu F) : k0_part207 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 0#32 1#32 t s =
  (waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) (
  steps4 (lhsQ 6#32 (by decide)) (srcC (Scalar.subi (bW (gW t.val)) 1#32) (iv4 t).2.1) (srcC (Scalar.addi (Scalar.subi (bW (gW t.val)) 1#32) 1#32) (iv4 t).2.2.1) s >>= fun s =>
  waitC (Scalar.addi (bW (gW t.val)) 1#32) (iv4 t).2.2.2.2 >>= fun _ =>
  startW (Scalar.addi (bW (gW t.val)) 11#32) (lt96 (K2.lt (iv4 t).2.2.2.1)) (do
  let s ← pops207 (gW t.val).toNat (iv4 t).1 (lhsQ 0#32 (by decide)) (srcC (bW (gW t.val)) (iv4 t).2.2.2.1) s
  let v00 ← blk (srcC (bW (gW t.val)) (iv4 t).2.2.2.1) 1 3 0 0
  let v01 ← blk (srcC (bW (gW t.val)) (iv4 t).2.2.2.1) 1 3 0 1
  let v ← ringLoad (rem12 (bW (gW t.val))) (rem12_lt (K2.lt (iv4 t).2.2.2.1)) 384 768 (by decide) (by decide)
  pure ⟨gW t.val, Scalar.addi 56#32 (Scalar.muli (gW t.val) 7#32), Scalar.remsi (Scalar.addi (bW (gW t.val)) 1#32) 12#32,
    Scalar.subi (Scalar.addi (bW (gW t.val)) 1#32) 56#32, Scalar.remsi (bW (gW t.val)) 12#32, Scalar.subi (bW (gW t.val)) 56#32,
    s, Scalar.muli (Scalar.muli (Scalar.remsi (Scalar.subi (bW (gW t.val)) 56#32) 7#32) 2#32) 2#32,
    Scalar.muli (Scalar.divsi (Scalar.subi (bW (gW t.val)) 56#32) 7#32) 16#32, upper v00 v01, shapeCast S128x128 v shapeCasts_S1x128x128_S128x128⟩))) := by
  sl_kernel_rfl
theorem assocG {α β γ δ ε : Type} (a : PR F α) (b : PR F β) (c : β → PR F γ) (x y : W) (hx : x.toNat < 96) (hy : y.toNat < 96)
    (k : β → PR F δ) (f : δ → PR F ε) :
    (a >>= fun _ => startW x hx (b >>= fun s => c s >>= fun _ => startW y hy (k s))) >>= f =
      a >>= fun _ => startW x hx (b >>= fun s => c s >>= fun _ => startW y hy (k s >>= f)) := by
  simp only [bind_assoc, startW_bind]
/-- The group with its inner loop abstract. -/
def groupG (l5 : Mxu F → PR F (Mxu F)) (t : Fin k0_t4_loop.trips) (s : Mxu F) : PR F (Mxu F) :=
  waitC (Scalar.addi (Scalar.subi (bW (gW t.val)) 1#32) 1#32) (iv4 t).2.2.1 >>= fun _ =>
  startW (Scalar.addi (Scalar.subi (bW (gW t.val)) 1#32) 11#32) (lt96 (K2.lt (iv4 t).2.1)) <|
  (steps4 (lhsQ 6#32 (by decide)) (srcC (Scalar.subi (bW (gW t.val)) 1#32) (iv4 t).2.1) (srcC (Scalar.addi (Scalar.subi (bW (gW t.val)) 1#32) 1#32) (iv4 t).2.2.1) s) >>= fun s =>
  waitC (Scalar.addi (bW (gW t.val)) 1#32) (iv4 t).2.2.2.2 >>= fun _ =>
  startW (Scalar.addi (bW (gW t.val)) 11#32) (lt96 (K2.lt (iv4 t).2.2.2.1)) <|
  steps4Pop (gW t.val).toNat (iv4 t).1 (lhsQ 0#32 (by decide)) (srcC (bW (gW t.val)) (iv4 t).2.2.2.1) (srcC (Scalar.addi (bW (gW t.val)) 1#32) (iv4 t).2.2.2.2) s >>= fun s =>
  startIf (gW t.val) 0#32 0 >>= fun _ =>
  startIf (gW t.val) 1#32 1 >>= fun _ =>
  startIf (gW t.val) 2#32 2 >>= fun _ =>
  l5 s >>= fun s => pure s
theorem groupG_eq (t : Fin k0_t4_loop.trips) (s : Mxu F) : groupG (loop5 t) t s = group t s := by
  unfold groupG group; simp only [bind_pure]
theorem p287_eq (s : Mxu F) : k0_part287 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 = loop4 s := by
  unfold k0_part287 loop4
  refine congrArg (fun f => Scf.Loop.for k0_t4_loop k0_t4_ok s f) (funext fun t => funext fun s => ?_)
  refine Eq.trans (b := groupG (fun s => k0_part206 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 t (Scalar.addi 56#32 (Scalar.muli (gW t.val) 7#32)) s 1#32 1#32) t s) ?_
    ((congrArg (fun l => groupG l t s) (funext (p206_eq (F := F) t))).trans (groupG_eq t s))
  refine (congrArg (fun p => p >>= _) (p207_eq t s)).trans ?_
  refine (assocG _ _ _ _ _ _ _ _ _).trans ?_
  sl_kernel_rfl

/-- The last chunk of the second pass up to its fifth step. -/
def segD1 {α : Type} (k : Mxu F → FVec F S128x128 .bf16 → FVec F S128x128 .bf16 → Elt F .f32 → α) (s : Mxu F) : PR F α := do
  waitC (nW 56) (K2n (by decide) (by decide))
  startC (nW 66) (K2n (by decide) (by decide))
  let s ← stepP (lhsD (nW 27) (by decide)) 0 0 (srcB (nW 55) (K1n (by decide) (by decide))) 0 1 s
  let s ← stepP (lhsD (nW 27) (by decide)) 0 1 (srcB (nW 55) (K1n (by decide) (by decide))) 0 2 s
  let s ← stepP (lhsD (nW 27) (by decide)) 0 2 (srcB (nW 55) (K1n (by decide) (by decide))) 1 0 s
  let s ← stepP (lhsD (nW 27) (by decide)) 1 0 (srcB (nW 55) (K1n (by decide) (by decide))) 1 1 s
  let s ← accPair (lhsD (nW 27) (by decide)) 1 1 s
  let s ← pushTile (srcB (nW 55) (K1n (by decide) (by decide))) 1 4 0 s
  let v ← blk (srcB (nW 55) (K1n (by decide) (by decide))) 1 5 0 0
  let w ← ringLoad (rem12 (nW 55)) (rem12_lt (K1n (n := 55) (by decide) (by decide)).lt) 256 1408 (by decide) (by decide)
  let c ← (srcB (F := F) (nW 55) (K1n (by decide) (by decide))).sc 1 0 5 1
  pure (k s v (extf .bf16 (shapeCast S128x128 w shapeCasts_S1x128x128_S128x128) bitsLt_fp8e4m3_bf16) c)
def bodyG1 {α : Type} (l1 l2 : Mxu F → PR F (Mxu F)) (k : Mxu F → FVec F S128x128 .bf16 → FVec F S128x128 .bf16 → Elt F .f32 → α) : PR F α :=
  segA >>= fun s => l1 s >>= fun s => segB s >>= fun s => l2 s >>= fun s => segD1 k s
theorem p323_eq : k0_part323 (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 =
    bodyG1 (fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32)
      (fun s v w c => ⟨Scalar.remsi 56#32 12#32, Scalar.remsi 55#32 12#32, s, v, w, c⟩) := by
  sl_kernel_rfl
theorem bodyG1_bind {α β : Type} (l1 l2 : Mxu F → PR F (Mxu F)) (k : Mxu F → FVec F S128x128 .bf16 → FVec F S128x128 .bf16 → Elt F .f32 → α)
    (f : α → PR F β) : bodyG1 l1 l2 k >>= f = segA >>= fun s => l1 s >>= fun s => segB s >>= fun s => l2 s >>= fun s => segD1 k s >>= f := by
  simp only [bodyG1, bind_assoc]
def bodyG (l1 l2 l3 l4 : Mxu F → PR F (Mxu F)) : PR F PUnit :=
  segA >>= fun s => l1 s >>= fun s => segB s >>= fun s => l2 s >>= fun s => segD s >>= fun s =>
    l3 s >>= fun s => segF s >>= fun s => l4 s >>= fun s => segH s
/-- `segD1` handing its values on. -/
def segD1c {β : Type} (k : Mxu F → FVec F S128x128 .bf16 → FVec F S128x128 .bf16 → Elt F .f32 → PR F β) (s : Mxu F) : PR F β := do
  waitC (nW 56) (K2n (by decide) (by decide))
  startC (nW 66) (K2n (by decide) (by decide))
  let s ← stepP (lhsD (nW 27) (by decide)) 0 0 (srcB (nW 55) (K1n (by decide) (by decide))) 0 1 s
  let s ← stepP (lhsD (nW 27) (by decide)) 0 1 (srcB (nW 55) (K1n (by decide) (by decide))) 0 2 s
  let s ← stepP (lhsD (nW 27) (by decide)) 0 2 (srcB (nW 55) (K1n (by decide) (by decide))) 1 0 s
  let s ← stepP (lhsD (nW 27) (by decide)) 1 0 (srcB (nW 55) (K1n (by decide) (by decide))) 1 1 s
  let s ← accPair (lhsD (nW 27) (by decide)) 1 1 s
  let s ← pushTile (srcB (nW 55) (K1n (by decide) (by decide))) 1 4 0 s
  let v ← blk (srcB (nW 55) (K1n (by decide) (by decide))) 1 5 0 0
  let w ← ringLoad (rem12 (nW 55)) (rem12_lt (K1n (n := 55) (by decide) (by decide)).lt) 256 1408 (by decide) (by decide)
  let c ← (srcB (F := F) (nW 55) (K1n (by decide) (by decide))).sc 1 0 5 1
  k s v (extf .bf16 (shapeCast S128x128 w shapeCasts_S1x128x128_S128x128) bitsLt_fp8e4m3_bf16) c
/-- The rest of the second pass's last chunk, and the tiles popped. -/
def segD2 (s : Mxu F) (v w : FVec F S128x128 .bf16) (c : Elt F .f32) : PR F (Mxu F) := do
  let v10 ← blk (srcB (nW 55) (K1n (by decide) (by decide))) 1 5 1 0
  let v11 ← blk (srcB (nW 55) (K1n (by decide) (by decide))) 1 5 1 1
  let s ← s.pushRhs 1 0 false (quad v (mulf w (truncf .bf16 (broadcast S128x128 c) bitsLt_bf16_f32)) v10 v11)
  let s ← stepP (lhsD (nW 27) (by decide)) 1 2 (srcC (nW 56) (K2n (by decide) (by decide))) 0 0 s
  let s ← popDown 8 0 0 s
  let s ← popDown 9 1 0 s
  let s ← popDown 10 0 1 s
  let s ← popDown 11 1 1 s
  let s ← popDown 12 0 2 s
  let s ← popDown 13 1 2 s
  rsStage
  quantise (nW 0) (by decide)
  quantise (nW 1) (by decide)
  pure s
/-- The last segment up to its last two waits. -/
def segH1 (s : Mxu F) : PR F (Mxu F) := do
  let s ← stepP (lhsQ (nW 6) (by decide)) 0 0 (srcC (nW 83) (K2n (by decide) (by decide))) 0 1 s
  let s ← stepP (lhsQ (nW 6) (by decide)) 0 1 (srcC (nW 83) (K2n (by decide) (by decide))) 0 2 s
  let s ← stepP (lhsQ (nW 6) (by decide)) 0 2 (srcC (nW 83) (K2n (by decide) (by decide))) 0 3 s
  let s ← stepP (lhsQ (nW 6) (by decide)) 0 3 (srcC (nW 83) (K2n (by decide) (by decide))) 1 0 s
  let s ← stepP (lhsQ (nW 6) (by decide)) 1 0 (srcC (nW 83) (K2n (by decide) (by decide))) 1 1 s
  let s ← stepP (lhsQ (nW 6) (by decide)) 1 1 (srcC (nW 83) (K2n (by decide) (by decide))) 1 2 s
  let s ← stepP (lhsQ (nW 6) (by decide)) 1 2 (srcC (nW 83) (K2n (by decide) (by decide))) 1 3 s
  let s ← accPair (lhsQ (nW 6) (by decide)) 1 3 s
  let s ← popLast 0 s
  let s ← popLast 1 s
  let s ← popLast 2 s
  let s ← popLast 3 s
  startHd 3 0
  startHd 3 1
  waitsRoXc (do
    waitXs
    waitHd 0 0
    waitHd 0 1
    waitHd 1 0
    waitHd 1 1
    waitHd 2 0
    waitHd 2 1
    pure s) 14 0 (by decide)
def tailH (s : Mxu F) : PR F PUnit := do
  waitHd 3 0
  waitHd 3 1
  s.exit
  pure ⟨⟩
def rest2 (l3 l4 : Mxu F → PR F (Mxu F)) (s : Mxu F) (v w : FVec F S128x128 .bf16) (c : Elt F .f32) : PR F (Mxu F) :=
  segD2 s v w c >>= fun s => l3 s >>= fun s => segF s >>= fun s => l4 s >>= fun s => segH1 s
theorem p324_eq (s : Mxu F) (v w : FVec F S128x128 .bf16) (c : Elt F .f32) :
    k0_part324 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 (Scalar.remsi 56#32 12#32) (Scalar.remsi 55#32 12#32) s v w c =
      rest2 (fun s => k0_part283 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part287 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) s v w c := by
  sl_kernel_rfl
theorem rest2_bind (l3 l4 : Mxu F → PR F (Mxu F)) (s : Mxu F) (v w : FVec F S128x128 .bf16) (c : Elt F .f32) :
    rest2 l3 l4 s v w c >>= tailH =
      segD2 s v w c >>= fun s => l3 s >>= fun s => segF s >>= fun s => l4 s >>= fun s => segH1 s >>= tailH := by
  simp only [rest2, bind_assoc]
theorem entry_eqG : cc0__entry (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 =
    bodyG (fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32)
      (fun s => k0_part283 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) (fun s => k0_part287 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32) := by
  unfold cc0__entry
  refine (congrArg (fun p => p >>= _) p323_eq).trans ?_
  refine (bodyG1_bind _ _ _ _).trans ?_
  refine Eq.trans (b := segA >>= fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 >>= fun s => segB s >>= fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32 >>= fun s =>
    segD1c (fun s v w c => k0_part324 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 (Scalar.remsi 56#32 12#32) (Scalar.remsi 55#32 12#32) s v w c >>= tailH) s) (by sl_kernel_rfl) ?_
  refine (congrArg (fun r : Mxu F → FVec F S128x128 .bf16 → FVec F S128x128 .bf16 → Elt F .f32 → PR F PUnit =>
    segA >>= fun s => k0_part221 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 0#32 1#32 >>= fun s => segB s >>= fun s => k0_part257 (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 s 29#32 1#32 >>= fun s => segD1c r s)
      (funext fun s => funext fun v => funext fun w => funext fun c => (congrArg (fun p => p >>= tailH) (p324_eq s v w c)).trans (rest2_bind _ _ s v w c))).trans ?_
  sl_kernel_rfl
/-- The printed kernel is `body`. -/
theorem entry_eq : cc0__entry (F := F) (Memref.whole main_v11) (Memref.isWhole_whole _) (Memref.whole main_v12) (Memref.isWhole_whole _) (Memref.whole main_arg2) (Memref.isWhole_whole _) (Memref.whole cc0_stg0_0) (Memref.isWhole_whole _) (Memref.whole main_v13) (Memref.isWhole_whole _) (Memref.whole main_v14) (Memref.isWhole_whole _) (Memref.whole main_arg6) (Memref.isWhole_whole _) (Memref.whole cc0_stg1_0) (Memref.isWhole_whole _) (Memref.whole main_arg8) (Memref.isWhole_whole _) (Memref.whole main_v15) (Memref.isWhole_whole _) (Memref.whole main_v16_0) (Memref.isWhole_whole _) (Memref.whole main_v16_1) (Memref.isWhole_whole _) (Memref.whole main_v16_2) (Memref.isWhole_whole _) (Memref.whole main_v16_3) (Memref.isWhole_whole _) (Memref.whole main_v16_4) (Memref.isWhole_whole _) (Memref.whole main_v16_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 = body := by
  rw [entry_eqG]
  unfold bodyG body
  simp only [p221_eq, p257_eq, p283_eq, p287_eq]

end Cert.KernelIdeal.Hand
-- ==== Proof.IFrame.lean ====
module

public import proofs.«01_k».proof.Proof.IEnds2
public import proofs.«01_k».proof.Proof.IEq2
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameBody

/-! The frame: the kernel terminates without a fault and changes no argument. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)
open K0.Facts₀ Shapes1.Facts₀

variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

/-- The buffers the body writes itself: the results. -/
def R0 : Finset (Ref sig .tc) := {main_v16_0, main_v16_1, main_v16_2, main_v16_3, main_v16_4, main_v16_5}
/-- The buffers its copies read. -/
def H0 : Finset (Ref sig .tc) := {main_v11, main_v12, main_arg2, main_v13, main_v14, main_arg6, main_arg8, main_v15}
set_option maxHeartbeats 800000 in
theorem hmainD (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain
theorem frame_ofD (dats : (p : Fin 1) → (c : Dev nD) → Dat τ (Elt F) Unit ℕ (Pipeline.UD sig nD τ) ℕ (cfgs p) c)
    (hA : ∀ c w, (dats 0 c).A w = Gen.V m c (Pipeline.arrRef spec0 w))
    (h : θ_run defs (onTc (τ := τ) (main (F := F))) (s₀ m ρ) (fun r => Pipeline.FramePostR cfgs dats 0 R0 (Gen.V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).1 0).trans (((dats 0 c).arrAt_in 0 rfl _).trans ((hA c 0).trans (V_main_arg3 m c))),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).1 1).trans (((dats 0 c).arrAt_in 1 rfl _).trans ((hA c 1).trans (V_main_arg7 m c))),
      ((h.1 c).2 main_arg8 (Finset.mem_sdiff.mpr ⟨Pipeline.mem_restRefs_of main_arg8 (by decide) (by decide), by decide⟩)).trans (V_main_arg8 m c)⟩, h.2⟩) h

abbrev osem0 : Fin 52 → SemLoc sig := fun j => SemLoc.dma ⟨2 + j.val, by have := j.2; show 2 + j.val < 54; omega⟩
set_option maxRecDepth 4000 in
theorem ownSemFacts0 : Pipeline.OwnSemFacts spec0 osem0 := by decide
theorem H0_sub : H0 ⊆ Pipeline.restRefs sig spec0 := by decide
theorem R0_sub : R0 ⊆ Pipeline.restRefs sig spec0 \ H0 := by decide
theorem hbmPts0_eq (c : Dev nD) :
    (bigSep H0 (fun b => ((c : Thread nD τ).loc b) ↦{fullShare} Gen.V m c b) : sProp 𝕄)
      = iprop(((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15)) := by
  rw [BI.bigSep_eq_bigSepL_of_eq [main_v11, main_v12, main_arg2, main_v13, main_v14, main_arg6, main_arg8, main_v15] (by decide) (by decide)]; rfl
theorem ownedPts0_eq (c : Dev nD) :
    (Pipeline.owned R0 c : sProp 𝕄) = iprop((∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) := by
  unfold Pipeline.owned; rw [BI.bigSep_eq_bigSepL_of_eq [main_v16_0, main_v16_1, main_v16_2, main_v16_3, main_v16_4, main_v16_5] (by decide) (by decide)]; rfl
theorem scoped_eq (c : Dev nD) :
    (Pipeline.scopedRest (Ix := Unit) (Name := ℕ) (U := Pipeline.UD sig nD τ) (Lvl := ℕ) (Val := Elt F) spec0 c : sProp 𝕄) = iprop((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) := by
  rw [scopedRest0_eq]
theorem PhiDR0_eq (c : Dev nD) :
    (Pipeline.ΦDR osem0 spec0 H0 R0 (Gen.V m) c : sProp 𝕄)
      = iprop(((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) ∗ (∃ r, prngReg c r)
          ∗ Pipeline.ownSems0 (Ix := Unit) (Name := ℕ) (U := Pipeline.UD sig nD τ) (Lvl := ℕ) (Val := Elt F) (τ := τ) osem0 c
          ∗ (((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15))
          ∗ (∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) := by
  rw [Pipeline.ΦDR_eq, scoped_eq, hbmPts0_eq, ownedPts0_eq]

/-! ### The semaphores -/
abbrev dS (c : Dev nD) (i : ℕ) : sProp 𝕄 := semVal ((c : Thread nD τ), osem0 ⟨i % 52, Nat.mod_lt _ (by decide)⟩) 0
theorem wSem_eq : ∀ i : Fin 12, SemLoc.dma (wSem i.val i.2) = osem0 ⟨i.val % 52, Nat.mod_lt _ (by decide)⟩ := by decide
theorem hSem_eq : ∀ i : Fin 28, SemLoc.dma (hSem i.val i.2) = osem0 ⟨(i.val + 12) % 52, Nat.mod_lt _ (by decide)⟩ := by decide
theorem iSem_eq : ∀ i : Fin 5, SemLoc.dma (iSem i.val i.2) = osem0 ⟨(i.val + 40) % 52, Nat.mod_lt _ (by decide)⟩ := by decide
theorem oSem_eq : ∀ i : Fin 7, SemLoc.dma (oSem i.val i.2) = osem0 ⟨(i.val + 45) % 52, Nat.mod_lt _ (by decide)⟩ := by decide
theorem wS_eq (c : Dev nD) (i : ℕ) (h : i < 12) : wS (F := F) (c := c) i = dS (F := F) c i := by
  have e := wSem_eq ⟨i, h⟩
  have : wSemI i = wSem i h := by unfold wSemI; congr 1; exact Nat.mod_eq_of_lt h
  unfold wS dS; rw [this, e]
theorem hS_eq (c : Dev nD) (i : ℕ) (h : i < 28) : hS (F := F) (c := c) i = dS (F := F) c (i + 12) := by
  have e := hSem_eq ⟨i, h⟩
  have : hSemI i = hSem i h := by unfold hSemI; congr 1; exact Nat.mod_eq_of_lt h
  unfold hS dS; rw [this, e]
theorem iS_eq (c : Dev nD) (i : ℕ) (h : i < 5) : iS (F := F) (c := c) i h = dS (F := F) c (i + 40) := by
  unfold iS dS; rw [iSem_eq ⟨i, h⟩]
theorem oS_eq (c : Dev nD) (i : ℕ) (h : i < 7) : oS (F := F) (c := c) i h = dS (F := F) c (i + 45) := by
  unfold oS dS; rw [oSem_eq ⟨i, h⟩]
theorem Sq_mv (f g : ℕ → sProp 𝕄) (a d n : ℕ) (h : ∀ i, i < n → f (i + a) ⊢ g (i + d)) : Sq f a n ⊢ Sq g d n := by
  have key : ∀ k j, j + k = n → Sq f (a + j) k ⊢ Sq g (d + j) k := by
    intro k
    induction k with
    | zero => intro j _; exact .rfl
    | succ k ih =>
      intro j e
      rw [Sq_cons, Sq_cons]
      refine BIClass.sep_mono ?_ (ih (j + 1) (by omega))
      have := h j (by omega); rwa [Nat.add_comm j a, Nat.add_comm j d] at this
  exact key n 0 (by omega)
theorem five (g : ℕ → sProp 𝕄) (a : ℕ) : Sq g a 5 ⊣⊢ iprop(g a ∗ g (a + 1) ∗ g (a + 2) ∗ g (a + 3) ∗ g (a + 4)) := by
  have q : Sq g a 5 = iprop(g a ∗ g (a + 1) ∗ g (a + 2) ∗ g (a + 3) ∗ g (a + 4) ∗ emp) := rfl
  rw [q]; constructor
  · iintro ⟨A0, A1, A2, A3, A4, -⟩
    isplitl [A0]
    · iexact A0
    isplitl [A1]
    · iexact A1
    isplitl [A2]
    · iexact A2
    isplitl [A3]
    · iexact A3
    iexact A4
  · iintro ⟨A0, A1, A2, A3, A4⟩
    isplitl [A0]
    · iexact A0
    isplitl [A1]
    · iexact A1
    isplitl [A2]
    · iexact A2
    isplitl [A3]
    · iexact A3
    isplitl [A4]
    · iexact A4
    iempintro
theorem seven (g : ℕ → sProp 𝕄) (a : ℕ) : Sq g a 7 ⊣⊢ iprop(g a ∗ g (a + 1) ∗ g (a + 2) ∗ g (a + 3) ∗ g (a + 4) ∗ g (a + 5) ∗ g (a + 6)) := by
  have q : Sq g a 7 = iprop(g a ∗ g (a + 1) ∗ g (a + 2) ∗ g (a + 3) ∗ g (a + 4) ∗ g (a + 5) ∗ g (a + 6) ∗ emp) := rfl
  rw [q]; constructor
  · iintro ⟨A0, A1, A2, A3, A4, A5, A6, -⟩
    isplitl [A0]
    · iexact A0
    isplitl [A1]
    · iexact A1
    isplitl [A2]
    · iexact A2
    isplitl [A3]
    · iexact A3
    isplitl [A4]
    · iexact A4
    isplitl [A5]
    · iexact A5
    iexact A6
  · iintro ⟨A0, A1, A2, A3, A4, A5, A6⟩
    isplitl [A0]
    · iexact A0
    isplitl [A1]
    · iexact A1
    isplitl [A2]
    · iexact A2
    isplitl [A3]
    · iexact A3
    isplitl [A4]
    · iexact A4
    isplitl [A5]
    · iexact A5
    isplitl [A6]
    · iexact A6
    iempintro
theorem sems_eq (c : Dev nD) : (Pipeline.ownSems0 (Ix := Unit) (Name := ℕ) (U := Pipeline.UD sig nD τ) (Lvl := ℕ) (Val := Elt F) (τ := τ) osem0 c : sProp 𝕄) ⊣⊢ Sems (F := F) (c := c) := by
  have e : (Pipeline.ownSems0 (Ix := Unit) (Name := ℕ) (U := Pipeline.UD sig nD τ) (Lvl := ℕ) (Val := Elt F) (τ := τ) osem0 c : sProp 𝕄) = bigSep Finset.univ (fun t : Fin 52 => dS (F := F) c t.val) := by
    unfold Pipeline.ownSems0
    refine congrArg (bigSep Finset.univ) (funext fun t => ?_)
    unfold dS; rw [show (⟨t.val % 52, Nat.mod_lt _ (by decide)⟩ : Fin 52) = t from Fin.ext (Nat.mod_eq_of_lt t.2)]
  rw [e]
  have k0 := Sq_fin 52 (dS (F := F) c)
  have k1 := Sq_app (dS (F := F) c) 0 12 40
  have k2 := Sq_app (dS (F := F) c) (0 + 12) 28 12
  have k3 := Sq_app (dS (F := F) c) (0 + 12 + 28) 5 7
  have w1 : Sq (dS (F := F) c) 0 12 ⊢ Sq (wS (F := F) (c := c)) 0 12 := Sq_in 0 12 fun i _ h => by rw [wS_eq c i (by omega)]
  have w2 : Sq (wS (F := F) (c := c)) 0 12 ⊢ Sq (dS (F := F) c) 0 12 := Sq_in 0 12 fun i _ h => by rw [wS_eq c i (by omega)]
  have h1 : Sq (dS (F := F) c) (0 + 12) 28 ⊢ Sq (hS (F := F) (c := c)) 0 28 := Sq_mv _ _ (0 + 12) 0 28 fun i h => by
    show dS (F := F) c (i + 12) ⊢ hS (F := F) (c := c) i
    rw [hS_eq c i h]
  have h2 : Sq (hS (F := F) (c := c)) 0 28 ⊢ Sq (dS (F := F) c) (0 + 12) 28 := Sq_mv _ _ 0 (0 + 12) 28 fun i h => by
    show hS (F := F) (c := c) i ⊢ dS (F := F) c (i + 12)
    rw [hS_eq c i h]
  have f5 := five (dS (F := F) c) (0 + 12 + 28)
  have f7 := seven (dS (F := F) c) (0 + 12 + 28 + 5)
  unfold Sems
  rw [iS_eq c 0, iS_eq c 1, iS_eq c 2, iS_eq c 3, iS_eq c 4, oS_eq c 0, oS_eq c 1, oS_eq c 2, oS_eq c 3, oS_eq c 4, oS_eq c 5, oS_eq c 6]
  constructor
  · refine k0.1.trans (k1.2.trans (BIClass.sep_mono w1 (k2.2.trans (BIClass.sep_mono h1 (k3.2.trans (BIClass.sep_mono f5.1 f7.1))))))
  · refine .trans (BIClass.sep_mono w2 (.trans (BIClass.sep_mono h2 (.trans (BIClass.sep_mono f5.2 f7.2) k3.1)) k2.1)) (k1.1.trans k0.2)

/-- Values of which nothing is said beyond the arguments' contents. -/
def triv (c : Dev nD) : Vals F c where
  w2 := Gen.V m c main_arg2
  w6 := Gen.V m c main_arg6
  s3 := iblk m c 0 t0_0
  s7 := iblk m c 1 t0_0
  h0 := Gen.V m c main_v11
  hs1 := Gen.V m c main_v12
  res4 := Gen.V m c main_v13
  nw5 := Gen.V m c main_v14
  pos8 := Gen.V m c main_arg8
  fr9 := Gen.V m c main_v15
  HW := fun _ _ => True
  SC := fun _ _ _ _ _ _ => True
  BK := fun _ _ _ _ _ _ => True
  Tl := fun _ _ _ => True
  LH := fun _ _ => True
  Acc := fun _ _ _ => True
  HH := fun _ _ => True
  HS := fun _ => True
  HR := fun _ _ => True
  HL := fun _ _ => True
  HRes := fun _ => True
  HRt := fun _ _ => True
  RO := fun _ _ => True
  hwA := fun _ _ _ => trivial
  hwB := fun _ _ _ => trivial
  hwC := fun _ _ _ => trivial
  scA := fun _ _ _ _ _ _ _ => trivial
  scB := fun _ _ _ _ _ _ _ _ => trivial
  scC := fun _ _ _ _ _ _ _ => trivial
  bk := fun _ _ _ _ _ _ _ _ _ _ => trivial
  tl := fun _ _ _ _ _ _ _ _ _ _ _ => trivial
  acc0 := fun _ _ _ _ _ _ _ => trivial
  accS := fun _ _ _ _ _ _ _ _ _ => trivial
  lhD := fun _ _ _ _ _ _ _ => ⟨trivial, trivial⟩
  lhC := fun _ _ _ => trivial
  hh := fun _ _ _ => trivial
  hsL := fun _ => trivial
  hr0 := fun _ _ _ => trivial
  hrS := fun _ _ _ _ => trivial
  hl := by unfold Vals0.hl'; intros; trivial
  hl0 := fun _ => trivial
  resL := fun _ => trivial
  rt := by unfold Vals0.rt'; intros; trivial
  ro := fun _ _ _ _ => trivial

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
  Φ _ := Pipeline.ΦDR osem0 spec0 H0 R0 (Gen.V m) c
  q _ := fullShare
  owed _ := 0
theorem A_eq (c : Dev nD) (w : Fin cfg0.W) : (dats m 0 c).A w = Gen.V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem point_eq (t : Fin cfg0.N) : t = t0_0 := fin_N0 t
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t))
theorem own0 (c : Dev nD) (t : Fin cfg0.N) (d) : (owns (c : Thread nD τ) (win0_0.stage (cfg0.slots t 0)) fullShare d : sProp 𝕄) = ((b3.view.loc (c : Thread nD τ)) ↦[Finset.univ]{fullShare} d) :=
  owns_whole _ _ _ _
theorem own1 (c : Dev nD) (t : Fin cfg0.N) (d) : (owns (c : Thread nD τ) (win0_1.stage (cfg0.slots t 1)) fullShare d : sProp 𝕄) = ((b7.view.loc (c : Thread nD τ)) ↦[Finset.univ]{fullShare} d) :=
  owns_whole _ _ _ _
theorem stg0 (c : Dev nD) (t : Fin cfg0.N) (d) : (owns (c : Thread nD τ) (win0_0.stage (cfg0.slots t 0)) fullShare ((dats m 0 c).before 0 t d) : sProp 𝕄) ⊢ ((b3.view.loc (c : Thread nD τ)) ↦[Finset.univ]{fullShare} (iblk m c 0 t0_0)) := by
  rw [before_0, own0, point_eq t]
theorem stg1 (c : Dev nD) (t : Fin cfg0.N) (d) : (owns (c : Thread nD τ) (win0_1.stage (cfg0.slots t 1)) fullShare ((dats m 0 c).before 1 t d) : sProp 𝕄) ⊢ ((b7.view.loc (c : Thread nD τ)) ↦[Finset.univ]{fullShare} (iblk m c 1 t0_0)) := by
  rw [before_1, own1, point_eq t]
theorem any {c : Dev nD} {sp : Space} {s : Shape} {e : EltTy} {b : Memref sig .tc sp s e} : iprop(∃ f, (b.view.loc (c : Thread nD τ) ↦[Finset.univ]{fullShare} f)) ⊢ Any (F := F) c b Finset.univ := by
  unfold Any Own
  iintro ⟨%f, H⟩; iexists f; isplitr; · ipureintro; trivial
  iexact H
theorem some' {c : Dev nD} {sp : Space} {s : Shape} {e : EltTy} {b : Memref sig .tc sp s e} {P} : Own (F := F) c b Finset.univ fullShare P ⊢ iprop(∃ f, (b.view.loc (c : Thread nD τ) ↦[Finset.univ]{fullShare} f)) := by
  unfold Own
  iintro ⟨%f, -, H⟩; iexists f; iexact H
theorem isV {c : Dev nD} {sp : Space} {s : Shape} {e : EltTy} {b : Memref sig .tc sp s e} {v} : (b.view.loc (c : Thread nD τ) ↦[Finset.univ]{fullShare} v : sProp 𝕄) ⊣⊢ Own (F := F) c b Finset.univ fullShare (fun f => f = v) := by
  unfold Own; constructor
  · iintro H; iexists v; isplitr; · ipureintro; rfl
    iexact H
  · iintro ⟨%f, %h, H⟩; subst h; iexact H

abbrev MidF (c : Dev nD) : sProp 𝕄 := iprop((((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) ∗ (∃ r, prngReg c r)
          ∗ Pipeline.ownSems0 (Ix := Unit) (Name := ℕ) (U := Pipeline.UD sig nD τ) (Lvl := ℕ) (Val := Elt F) (τ := τ) osem0 c
          ∗ (((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15))
          ∗ (∃ f, ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) ∗ Owes (F := F) c ∗ ((b3.view.loc (c : Thread nD τ)) ↦[Finset.univ]{fullShare} (iblk m c 0 t0_0)) ∗ ((b7.view.loc (c : Thread nD τ)) ↦[Finset.univ]{fullShare} (iblk m c 1 t0_0)))
set_option maxHeartbeats 1000000 in
theorem mid_in (c : Dev nD) : MidF m c ⊢ iprop(All (triv m c) (R10 (F := F) (c := c)) ∗ ∃ r, prngReg c r) := by
  unfold MidF
  iintro ⟨⟨⟨S16, S17, S18, S19, S20, S21, S22, S23, S24, S25, S26, S27, S28, S29, S30, S31, S32, S33⟩, Hg, HS, ⟨A0, A1, A2, A4, A5, A6, A8, A9⟩, B10, B11, B12, B13, B14, B15⟩, HO, A3, A7⟩
  isplitl [HO HS A0 A1 A2 A3 A4 A5 A6 A7 A8 A9 B10 B11 B12 B13 B14 B15 S16 S17 S18 S19 S20 S21 S22 S23 S24 S25 S26 S27 S28 S29 S30 S31 S32 S33]
  · isplitl [HO]
    · iexact HO
    isplitl [HS]
    · iapply (sems_eq c).1; iexact HS
    isplitl [A0 A1 A2 A3 A4 A5 A6 A7 A8 A9]
    · isplitl [A0]
      · iexact A0
      isplitl [A1]
      · iapply (isV (b := b1)).1; iexact A1
      isplitl [A2]
      · iexact A2
      isplitl [A3]
      · iapply (isV (b := b3)).1; iexact A3
      isplitl [A4]
      · iapply (isV (b := b4)).1; iexact A4
      isplitl [A5]
      · iapply (isV (b := b5)).1; iexact A5
      isplitl [A6]
      · iexact A6
      isplitl [A7]
      · iapply (isV (b := b7)).1; iexact A7
      isplitl [A8]
      · iapply (isV (b := b8)).1; iexact A8
      iapply (isV (b := b9)).1; iexact A9
    isplitl [B10]
    · iapply any; iexact B10
    isplitl [B11 B12 B13 B14 B15]
    · isplitl [B11]
      · iapply any; iexact B11
      isplitl [B12]
      · iapply any; iexact B12
      isplitl [B13]
      · iapply any; iexact B13
      isplitl [B14]
      · iapply any; iexact B14
      iapply any; iexact B15
    isplitl [S16]
    · iapply any; iexact S16
    isplitl [S17]
    · iapply any; iexact S17
    isplitl [S18]
    · iapply any; iexact S18
    isplitl [S19]
    · iapply any; iexact S19
    isplitl [S20]
    · iapply any; iexact S20
    isplitl [S21]
    · iapply any; iexact S21
    isplitl [S22]
    · iapply any; iexact S22
    isplitl [S23]
    · iapply any; iexact S23
    isplitl [S24]
    · iapply any; iexact S24
    isplitl [S25]
    · iapply any; iexact S25
    isplitl [S26]
    · iapply any; iexact S26
    isplitl [S27]
    · iapply any; iexact S27
    isplitl [S28]
    · iapply any; iexact S28
    isplitl [S29]
    · iapply any; iexact S29
    isplitl [S30]
    · iapply any; iexact S30
    isplitl [S31]
    · iapply any; iexact S31
    isplitl [S32]
    · iapply any; iexact S32
    iapply any; iexact S33
  iexact Hg
set_option maxHeartbeats 1000000 in
theorem mid_out (c : Dev nD) : iprop(All (triv m c) (ROW (triv m c)) ∗ ∃ r, prngReg c r) ⊢ MidF m c := by
  unfold All Args Outs Scr ROW
  iintro ⟨⟨HO, HS, ⟨A0, A1, A2, A3, A4, A5, A6, A7, A8, A9⟩, B10, ⟨B11, B12, B13, B14, B15⟩, S16, S17, S18, S19, S20, S21, S22, S23, S24, S25, S26, S27, S28, S29, S30, S31, S32, S33⟩, Hg⟩
  isplitl [S16 S17 S18 S19 S20 S21 S22 S23 S24 S25 S26 S27 S28 S29 S30 S31 S32 S33 Hg HS A0 A1 A2 A4 A5 A6 A8 A9 B10 B11 B12 B13 B14 B15]
  · isplitl [S16 S17 S18 S19 S20 S21 S22 S23 S24 S25 S26 S27 S28 S29 S30 S31 S32 S33]
    · isplitl [S16]
      · iapply (some' (b := b16)); iexact S16
      isplitl [S17]
      · iapply (some' (b := b17)); iexact S17
      isplitl [S18]
      · iapply (some' (b := b18)); iexact S18
      isplitl [S19]
      · iapply (some' (b := b19)); iexact S19
      isplitl [S20]
      · iapply (some' (b := b20)); iexact S20
      isplitl [S21]
      · iapply (some' (b := b21)); iexact S21
      isplitl [S22]
      · iapply (some' (b := b22)); iexact S22
      isplitl [S23]
      · iapply (some' (b := b23)); iexact S23
      isplitl [S24]
      · iapply (some' (b := b24)); iexact S24
      isplitl [S25]
      · iapply (some' (b := b25)); iexact S25
      isplitl [S26]
      · iapply (some' (b := b26)); iexact S26
      isplitl [S27]
      · iapply (some' (b := b27)); iexact S27
      isplitl [S28]
      · iapply (some' (b := b28)); iexact S28
      isplitl [S29]
      · iapply (some' (b := b29)); iexact S29
      isplitl [S30]
      · iapply (some' (b := b30)); iexact S30
      isplitl [S31]
      · iapply (some' (b := b31)); iexact S31
      isplitl [S32]
      · iapply (some' (b := b32)); iexact S32
      iapply (some' (b := b33)); iexact S33
    isplitl [Hg]
    · iexact Hg
    isplitl [HS]
    · iapply (sems_eq c).2; iexact HS
    isplitl [A0 A1 A2 A4 A5 A6 A8 A9]
    · isplitl [A0]
      · iexact A0
      isplitl [A1]
      · iapply (isV (b := b1)).2; iexact A1
      isplitl [A2]
      · iexact A2
      isplitl [A4]
      · iapply (isV (b := b4)).2; iexact A4
      isplitl [A5]
      · iapply (isV (b := b5)).2; iexact A5
      isplitl [A6]
      · iexact A6
      isplitl [A8]
      · iapply (isV (b := b8)).2; iexact A8
      iapply (isV (b := b9)).2; iexact A9
    isplitl [B10]
    · iapply (some' (b := b10)); iexact B10
    isplitl [B11]
    · iapply (some' (b := b11)); iexact B11
    isplitl [B12]
    · iapply (some' (b := b12)); iexact B12
    isplitl [B13]
    · iapply (some' (b := b13)); iexact B13
    isplitl [B14]
    · iapply (some' (b := b14)); iexact B14
    iapply (some' (b := b15)); iexact B15
  isplitl [HO]
  · iexact HO
  isplitl [A3]
  · iapply (isV (b := b3)).2; iexact A3
  iapply (isV (b := b7)).2; iexact A7
theorem body_mid (c : Dev nD) : T c (MidF m c) (Hand.body : PR F PUnit) (fun _ => MidF m c) := by
  have h := (T.all (V := triv m c)).frame iprop(∃ r, prngReg c r)
  unfold T at h ⊢
  exact (mid_in m c).trans (h.trans (wp_mono _ _ _ fun _ => mid_out m c))
theorem at_eq (t : Fin cfg0.N) : bodyAt0 (F := F) t = Hand.body := by
  unfold bodyAt0; exact entry_eq
theorem sound_body (c : Dev nD) (t : Fin cfg0.N) :
    bodyPre m c t ⊢ wp frame (wpE (defs₀ (F := F)) Variants.none c none) Set.univ (bodyAt0 t) (fun _ => bodyPost m c t) := by
  rw [at_eq]
  have h := body_mid m c
  unfold T at h
  have i : bodyPre m c t ⊢ MidF m c := by
    unfold bodyPre
    rw [show (dats m 0 c).Φ t.castSucc = Pipeline.ΦDR osem0 spec0 H0 R0 (Gen.V m) c from rfl, PhiDR0_eq]
    unfold Dat.owesAt Pipeline.owesWithin
    rw [show (dats m 0 c).owed t.castSucc = 0 from rfl]
    iintro ⟨HΦ, ⟨%W, -, HW⟩, ⟨%d, H0⟩, ⟨%d', H1⟩⟩
    unfold MidF Owes
    isplitl [HΦ]; · iexact HΦ
    isplitl [HW]
    · iexists W; iexact HW
    isplitl [H0]
    · iapply (stg0 m c t d); iexact H0
    iapply (stg1 m c t d'); iexact H1
  have o : MidF m c ⊢ bodyPost m c t := by
    unfold bodyPost
    rw [show (dats m 0 c).Φ t.succ = Pipeline.ΦDR osem0 spec0 H0 R0 (Gen.V m) c from rfl, PhiDR0_eq]
    unfold Dat.owesAt Pipeline.owesWithin
    rw [show (dats m 0 c).owed t.succ = 0 from rfl]
    rw [after_0, after_1, own0, own1, point_eq t]
    unfold MidF Owes
    iintro ⟨HΦ, ⟨%W, HW⟩, H0, H1⟩
    isplitl [HΦ]; · iexact HΦ
    isplitl [HW]
    · iexists W; isplitr; · ipureintro; exact fun _ _ => Or.inl trivial
      iexact HW
    isplitl [H0]; · iexact H0
    iexact H1
  exact i.trans (h.trans (wp_mono _ _ _ fun _ => o))
theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
set_option backward.isDefEq.respectTransparency.types false in
theorem run_main : θ_run defs (onTc (τ := τ) (main (F := F))) (s₀ m ρ) (fun r => Pipeline.FramePostR cfgs (dats m) 0 R0 (Gen.V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := Gen.V m) (hmain := hmainD m Variants.none) (hA := A_eq m)
    (hin := fun _ => .rfl) (hout := fun _ => .rfl)
/-- The kernel terminates without a fault, leaves every argument as it was and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  frame_ofD m ρ (dats m) (A_eq m) (run_main m ρ)

end Cert.KernelIdeal.Hand
-- ==== Proof.IVal.lean ====
module

public import proofs.«01_k».proof.Proof.IVals
public import proofs.«01_k».proof.Proof.ISplit
public import Idealize.ShloMosaic.Lib.MatmulPlain
public import Idealize.ShloMosaic.Lib.ValueLayout
public import Idealize.ShloMosaic.Lib.KernelVsHost
public import Idealize.ShloMosaic.PureOps.Ideal

/-! What the down projection's stages hold over the reals: the predicates, and how the kernel's windows read. -/

@[expose] public section
noncomputable section

namespace Cert.KernelIdeal.Hand
open Idealize.ShloMosaic Idealize.ShloMosaic.TcCoe
open Idealize.ShloMosaic.ValueIdx
open Cert.KernelIdeal
open K0.Facts₀ Shapes1.Facts₀

/-- An array's entry by plain coordinates, zero outside it. -/
def D2 {a b : ℕ} (f : (⟨2, ![a, b]⟩ : Shape).Idx → EReal) (k n : ℕ) : EReal :=
  if h : k < a ∧ n < b then f (ix2 ⟨k, h.1⟩ ⟨n, h.2⟩) else 0
theorem D2_at {a b : ℕ} (f : (⟨2, ![a, b]⟩ : Shape).Idx → EReal) (i : (⟨2, ![a, b]⟩ : Shape).Idx) (k n : ℕ) (hk : (i 0).val = k) (hn : (i 1).val = n) :
    f i = D2 f k n := by
  subst hk; subst hn
  unfold D2
  rw [dif_pos ⟨(i 0).isLt, (i 1).isLt⟩]
  refine congrArg f (funext fun x => ?_)
  match x with
  | ⟨0, _⟩ => rfl
  | ⟨1, _⟩ => rfl

/-- The arrays the down projection reads. -/
structure Ins where
  h : S256x14336.Idx → EReal
  hs : S256x112.Idx → EReal
  w : S14336x3584.Idx → EReal
  ws : S112x28.Idx → EReal
  res : S256x3584.Idx → EReal
variable (A : Ins)
namespace Ins
/-- A scaled activation, a scaled weight, an entry of the result. -/
def H (r k : ℕ) : EReal := D2 A.h r k * D2 A.hs r (k / 128)
def Wt (k n : ℕ) : EReal := D2 A.w k n * D2 A.ws (k / 128) (n / 128)
def Out (r n : ℕ) : EReal := D2 A.res r n + ∑ k ∈ Finset.range 14336, A.H r k * A.Wt k n

/-- Chunk `i`'s first row and column in the weight; half chunk `m`'s column. -/
def col (i : ℕ) : ℕ := if i < 28 then 0 else 2048
def colm (m : ℕ) : ℕ := if m < 56 then 0 else 2048
/-- The blocks and tiles of the down projection. -/
def okc (i : ℕ) (t : Fin 8) : Prop := i < 28 ∨ i < 56 ∧ t.val < 6
def okm (m : ℕ) (t : Fin 8) : Prop := m < 56 ∨ m < 112 ∧ t.val < 6

def pHW (i : ℕ) (f : S12x512x2048.Idx → EReal) : Prop := i < 56 → ∀ j : S12x512x2048.Idx, (j 0).val = i % 12 → (28 ≤ i → (j 2).val < 1536) →
  f j = D2 A.w (512 * (i % 28) + (j 1).val) (col i + (j 2).val)
def pSC (i : ℕ) (kt a : Fin 2) (t : Fin 8) (b : Fin 2) (y : EReal) : Prop := okc i t →
  y = D2 A.ws (4 * (i % 28) + 2 * kt.val + a.val) (col i / 128 + 2 * t.val + b.val)
def pBK (i : ℕ) (kt : Fin 2) (t : Fin 8) (a b : Fin 2) (v : S128x128.Idx → EReal) : Prop := okc i t → ∀ j : S128x128.Idx,
  v j = A.Wt (512 * (i % 28) + 256 * kt.val + 128 * a.val + (j 0).val) (col i + 256 * t.val + 128 * b.val + (j 1).val)
def pTl (m : ℕ) (t : Fin 8) (v : S256x256.Idx → EReal) : Prop := okm m t → ∀ j : S256x256.Idx,
  v j = A.Wt (256 * (m % 56) + (j 0).val) (colm m + 256 * t.val + (j 1).val)
def pLH (m : ℕ) (v : S256x256.Idx → EReal) : Prop := m < 112 → ∀ j : S256x256.Idx, v j = A.H (j 0).val (256 * (m % 56) + (j 1).val)
def pAcc (m : ℕ) (t : Fin 8) (v : S256x256.Idx → EReal) : Prop := okm m t → ∀ j : S256x256.Idx,
  v j = ∑ k ∈ Finset.range (256 * (m % 56 + 1)), A.H (j 0).val k * A.Wt k (colm m + 256 * t.val + (j 1).val)
def pHH (i : ℕ) (f : S28x256x512.Idx → EReal) : Prop := ∀ j : S28x256x512.Idx, (j 0).val = i → f j = D2 A.h (j 1).val (512 * i + (j 2).val)
def pHS (f : S256x112.Idx → EReal) : Prop := ∀ j : S256x112.Idx, f j = D2 A.hs (j 0).val (j 1).val
def pHR (i : ℕ) (f : S256x128.Idx → EReal) : Prop := ∀ j : S256x128.Idx, 4 * i + (j 1).val < 112 → f j = D2 A.hs (j 0).val (4 * i + (j 1).val)
def pHL (n : ℕ) (f : S56x256x256.Idx → EReal) : Prop := ∀ j : S56x256x256.Idx, 2 * (j 0).val + (j 2).val / 128 < n →
  f j = A.H (j 1).val (256 * (j 0).val + (j 2).val)
def pRes (f : S256x3584.Idx → EReal) : Prop := ∀ j : S256x3584.Idx, f j = D2 A.res (j 0).val (j 1).val
def pRt (t : Fin 14) (f : S14x256x256.Idx → EReal) : Prop := ∀ j : S14x256x256.Idx, (j 0).val = t.val → f j = A.Out (j 1).val (256 * t.val + (j 2).val)
def pRO (t : Fin 14) (f : S256x3584.Idx → EReal) : Prop := ∀ j : S256x3584.Idx, 256 * t.val ≤ (j 1).val → (j 1).val < 256 * t.val + 256 → f j = A.Out (j 0).val (j 1).val
end Ins

section
variable {sig : RefSig} {κ : Kind} {sp : Space} {s : Shape} {e : EltTy} {Val : EltTy → Type}
theorem wr_at (v : View sig κ sp s e) (f : v.ty.Contents Val) (w : s.Idx → Val e) (x : s.Idx) {i : v.ty.Idx} (h : v.emb x = i) :
    v.write Val f w Finset.univ i = _root_.cast (congrArg Val v.elt_eq.symm) (w x) := by
  subst h; exact View.write_emb_of_mem f w (Finset.mem_univ x)
end

theorem lift3 {a b : ℕ} (h : (⟨2, ![a, b]⟩ : Shape).numel = (⟨3, ![1, a, b]⟩ : Shape).numel) (i : (⟨2, ![a, b]⟩ : Shape).Idx) :
    Shape.reshapeEquiv h i = ix3 (n1 := a) (n2 := b) (0 : Fin 1) (i 0) (i 1) :=
  Shape.reshapeEquiv_eq_of_rowMajor h (by
    rw [Shape.rowMajor_val_three, Shape.rowMajor_val_two]
    show (0 * a + (i 0).val) * b + (i 1).val = (i 0).val * b + (i 1).val
    rw [Nat.zero_mul, Nat.zero_add])
theorem slotV_emb (s : ℕ) (h : s < 12) (x : S512x2048.Idx) : (slotV s h).view.emb x = ix3 (⟨s, h⟩ : Fin 12) (x 0) (x 1) := by
  show (Rect.unit (s := S12x512x2048) ![s, 0, 0] S1x512x2048.size (inbSlot h)).emb (Shape.reshapeEquiv _ x) = _
  rw [lift3 (a := 512) (b := 2048)]
  funext a
  match a with
  | ⟨0, _⟩ => exact Fin.ext (by show s + 1 * 0 = s; omega)
  | ⟨1, _⟩ => exact Fin.ext (by show 0 + 1 * (x 0).val = (x 0).val; omega)
  | ⟨2, _⟩ => exact Fin.ext (by show 0 + 1 * (x 1).val = (x 1).val; omega)
theorem pass_at (v w : FVec Ideal S256x256 .bf16) (j : S256x256.Idx) :
    (Mxu.Staged.pass ⟨.bf16, false, w⟩ v : FVec Ideal S256x256 .f32) j = ∑ k : Fin 256, (v (ix2 (j 0) k) * w (ix2 k (j 1)) : EReal) := by
  have h := Ideal.matmul_plain_apply (M := 256) (K := 256) (N := 256) none v w (fun _ => (0 : EReal)) (j 0) (j 1)
  rw [zero_add] at h
  refine Eq.trans ?_ h
  have e : (ix2 (j 0) (j 1) : S256x256.Idx) = j := by
    funext a
    match a with
    | ⟨0, _⟩ => rfl
    | ⟨1, _⟩ => rfl
  rw [e]
  exact (zero_add _).symm

theorem wr_off {sig : RefSig} {κ : Kind} {sp : Space} {s : Shape} {e : EltTy} {Val : EltTy → Type} (v : View sig κ sp s e) (f : v.ty.Contents Val) (w : s.Idx → Val e)
    {i : v.ty.Idx} (h : ∀ x, v.emb x ≠ i) : v.write Val f w Finset.univ i = f i :=
  View.write_of_not_mem f w _ (by
    intro hm
    obtain ⟨x, -, hx⟩ := Finset.mem_map.mp hm
    exact h x hx)

/-- The stages' contents over the reals. -/
def vls0 (c : Dev nD) (w6 : Buf (Elt Ideal) (b6.view.loc (c : Thread nD τ))) (s7 : Buf (Elt Ideal) (b7.view.loc (c : Thread nD τ)))
    (nw5 : Buf (Elt Ideal) (b5.view.loc (c : Thread nD τ))) (pos8 : Buf (Elt Ideal) (b8.view.loc (c : Thread nD τ)))
    (fr9 : Buf (Elt Ideal) (b9.view.loc (c : Thread nD τ))) : Vals0 Ideal c where
  w2 := A.w
  w6 := w6
  s3 := A.ws
  s7 := s7
  h0 := A.h
  hs1 := A.hs
  res4 := A.res
  nw5 := nw5
  pos8 := pos8
  fr9 := fr9
  HW := A.pHW
  SC := A.pSC
  BK := A.pBK
  Tl := A.pTl
  LH := A.pLH
  Acc := A.pAcc
  HH := A.pHH
  HS := A.pHS
  HR := A.pHR
  HL := A.pHL
  HRes := A.pRes
  HRt := A.pRt
  RO := A.pRO

end Cert.KernelIdeal.Hand
-- ==== Proof.IValA.lean ====
module

public import proofs.«01_k».proof.Proof.IVal

/-! The weight's chunks, scales, blocks and tiles. -/

@[expose] public section
noncomputable section

namespace Cert.KernelIdeal.Hand
open Idealize.ShloMosaic Idealize.ShloMosaic.TcCoe
open Idealize.ShloMosaic.ValueIdx
open Cert.KernelIdeal
open K0.Facts₀ Shapes1.Facts₀
variable (A : Ins) (c : Dev nD) (w6 : Buf (Elt Ideal) (b6.view.loc (c : Thread nD τ))) (s7 : Buf (Elt Ideal) (b7.view.loc (c : Thread nD τ)))
    (nw5 : Buf (Elt Ideal) (b5.view.loc (c : Thread nD τ))) (pos8 : Buf (Elt Ideal) (b8.view.loc (c : Thread nD τ)))
    (fr9 : Buf (Elt Ideal) (b9.view.loc (c : Thread nD τ)))
local notation "𝓥" => vls0 A c w6 s7 nw5 pos8 fr9

theorem slotV1_emb (s : ℕ) (h : s < 12) (x : S512x1536.Idx) (j : S12x512x2048.Idx) (h0 : (j 0).val = s) (h1 : (j 1).val = (x 0).val) (h2 : (j 2).val = (x 1).val) :
    (slotV1 s h).view.emb x = j := by
  show (Rect.unit (s := S12x512x2048) ![s, 0, 0] S1x512x1536.size (inbSlot1 h)).emb (Shape.reshapeEquiv _ x) = _
  rw [lift3 (a := 512) (b := 1536)]
  funext a
  match a with
  | ⟨0, _⟩ => exact Fin.ext (by show s + 1 * 0 = (j 0).val; omega)
  | ⟨1, _⟩ => exact Fin.ext (by show 0 + 1 * (x 0).val = (j 1).val; omega)
  | ⟨2, _⟩ => exact Fin.ext (by show 0 + 1 * (x 1).val = (j 2).val; omega)
theorem V_hwA : (𝓥).hwA' := by
  intro x h fd hi j hj hc
  have hx : x.toNat < 28 := h
  have er := rowA_eq h
  have em := rem12_eq (x := x) (by omega)
  have e0 : (slotV (rem12 x) (rem12_lt h.lt)).view.emb (ix2 (n0 := 512) (n1 := 2048) (j 1) (j 2)) = j := by
    rw [slotV_emb]
    funext a
    match a with
    | ⟨0, _⟩ => exact Fin.ext (by show rem12 x = (j 0).val; omega)
    | ⟨1, _⟩ => rfl
    | ⟨2, _⟩ => rfl
  refine (wr_at _ _ _ (ix2 (n0 := 512) (n1 := 2048) (j 1) (j 2)) e0).trans ?_
  refine D2_at A.w ((blkA x h).view.emb (ix2 (n0 := 512) (n1 := 2048) (j 1) (j 2))) _ _ ?_ ?_
  · show rowA x + 1 * (j 1).val = _
    rw [Nat.mod_eq_of_lt hx]; omega
  · show 0 + 1 * (j 2).val = _
    unfold Ins.col; rw [if_pos hx]; omega
theorem V_hwB : (𝓥).hwB' := by
  intro x h fd hi j hj hc
  have hx : 28 ≤ x.toNat ∧ x.toNat < 56 := h
  have er := rowB_eq h
  have em := rem12_eq (x := x) (by omega)
  have hc' := hc hx.1
  have e0 : (slotV1 (rem12 x) (rem12_lt h.lt)).view.emb (ix2 (n0 := 512) (n1 := 1536) (j 1) ⟨(j 2).val, hc'⟩) = j :=
    slotV1_emb _ _ _ _ (by omega) rfl rfl
  refine (wr_at _ _ _ (ix2 (n0 := 512) (n1 := 1536) (j 1) ⟨(j 2).val, hc'⟩) e0).trans ?_
  refine D2_at A.w ((blkB x h).view.emb (ix2 (n0 := 512) (n1 := 1536) (j 1) ⟨(j 2).val, hc'⟩)) _ _ ?_ ?_
  · show rowB x + 1 * (j 1).val = _
    omega
  · show 2048 + 1 * (j 2).val = _
    unfold Ins.col; rw [if_neg (by omega)]; omega
theorem V_hwC : (𝓥).hwC' := by
  intro x h fd hi
  exact absurd hi (by have := h.1; omega)
theorem V_scA : (𝓥).scA' := by
  intro x h kt a t b y hk
  have hx : x.toNat < 28 := h
  have e := rs0_eq hx kt a
  have y0 : (y 0).val < 1 := (y 0).isLt
  have y1 : (y 1).val < 1 := (y 1).isLt
  refine D2_at A.ws ((b3.access (Rect.unit (s := S112x28) ![rs0 x kt a, 2 * t.val + b.val] S1x1.size (inbS0 h kt a (sc28 t b)))).emb y) _ _ ?_ ?_
  · show rs0 x kt a + 1 * (y 0).val = _
    rw [Nat.mod_eq_of_lt hx]; omega
  · show (2 * t.val + b.val) + 1 * (y 1).val = _
    unfold Ins.col; rw [if_pos hx]; omega
theorem sub_eq {x : W} (h : K1 x) : (Scalar.subi x 28#32).toNat = x.toNat - 28 :=
  allWords 56 (fun x => 28 ≤ x.toNat → (Scalar.subi x 28#32).toNat = x.toNat - 28) (by decide +kernel) h.2 h.1
theorem V_scB : (𝓥).scB' := by
  intro x h kt a t b hc y hk
  have hx : 28 ≤ x.toNat ∧ x.toNat < 56 := h
  have e := rs0_eq h.sub kt a
  have e' := sub_eq h
  have ht : t.val < 6 := by
    rcases hk with h' | h'
    · omega
    · exact h'.2
  have y0 : (y 0).val < 1 := (y 0).isLt
  have y1 : (y 1).val < 1 := (y 1).isLt
  refine D2_at A.ws ((b3.access (Rect.unit (s := S112x28) ![rs0 (Scalar.subi x 28#32) kt a, if t.val < 6 then 16 + (2 * t.val + b.val) else 0] S1x1.size (inbS0 h.sub kt a hc))).emb y) _ _ ?_ ?_
  · show rs0 (Scalar.subi x 28#32) kt a + 1 * (y 0).val = _
    omega
  · show (if t.val < 6 then 16 + (2 * t.val + b.val) else 0) + 1 * (y 1).val = _
    have y1' : (y 1).val = 0 := by omega
    refine (congrArg₂ (fun p q : ℕ => p + 1 * q) (if_pos ht) y1').trans ?_
    unfold Ins.col; rw [if_neg (by omega)]; omega
theorem V_scC : (𝓥).scC' := by
  intro x h kt a t b y hk
  have := h.1
  rcases hk with h' | h'
  · omega
  · omega
theorem V_bk : (𝓥).bk' := by
  intro i h kt t a b f y hf hs hk j
  have j0 : (j 0).val < 128 := (j 0).isLt
  have j1 : (j 1).val < 128 := (j 1).isLt
  have hi : i < 56 := by
    rcases hk with h' | h'
    · omega
    · omega
  have e := hf hi ((Rect.unit (s := S12x512x2048) ![i % 12, 256 * kt.val + 128 * a.val, 256 * t.val + 128 * b.val] S1x128x128.size (inbTile h (krow kt a) (tcol t b))).toLoadRect.idx (ix3 (n1 := 128) (n2 := 128) (0 : Fin 1) (j 0) (j 1)))
    (by show i % 12 + 1 * 0 = _; omega)
    (by
      intro h28
      show (256 * t.val + 128 * b.val) + 1 * (j 1).val < 1536
      rcases hk with h' | h'
      · omega
      · omega)
  have hy := hs hk
  have hsc : shapeCast S128x128 (b16.view.readAt (Elt Ideal) (Rect.unit (s := S12x512x2048) ![i % 12, 256 * kt.val + 128 * a.val, 256 * t.val + 128 * b.val] S1x128x128.size (inbTile h (krow kt a) (tcol t b))).toLoadRect f) shapeCasts_S1x128x128_S128x128 j
      = b16.view.readAt (Elt Ideal) (Rect.unit (s := S12x512x2048) ![i % 12, 256 * kt.val + 128 * a.val, 256 * t.val + 128 * b.val] S1x128x128.size (inbTile h (krow kt a) (tcol t b))).toLoadRect f (ix3 (n1 := 128) (n2 := 128) (0 : Fin 1) (j 0) (j 1)) :=
    shapeCast_apply _ _ _ _ (by
      rw [Shape.rowMajor_val_three, Shape.rowMajor_val_two]
      show (0 * 128 + (j 0).val) * 128 + (j 1).val = (j 0).val * 128 + (j 1).val
      omega)
  show (shapeCast S128x128 (b16.view.readAt (Elt Ideal) (Rect.unit (s := S12x512x2048) ![i % 12, 256 * kt.val + 128 * a.val, 256 * t.val + 128 * b.val] S1x128x128.size (inbTile h (krow kt a) (tcol t b))).toLoadRect f) shapeCasts_S1x128x128_S128x128 j : EReal) * y = _
  rw [hsc]
  refine (congrArg (· * (y : EReal)) e).trans ?_
  rw [hy]
  unfold Ins.Wt
  show D2 A.w (512 * (i % 28) + (256 * kt.val + 128 * a.val + 1 * (j 0).val)) (Ins.col i + (256 * t.val + 128 * b.val + 1 * (j 1).val)) * _ = _
  have hcol : Ins.col i / 128 * 128 = Ins.col i := by unfold Ins.col; split <;> rfl
  congr 2 <;> omega
theorem quad_at (v00 v01 v10 v11 : FVec Ideal S128x128 .bf16) (j : S256x256.Idx) (P : ℕ → ℕ → EReal)
    (h00 : ∀ k : S128x128.Idx, v00 k = P (k 0).val (k 1).val) (h01 : ∀ k : S128x128.Idx, v01 k = P (k 0).val (128 + (k 1).val))
    (h10 : ∀ k : S128x128.Idx, v10 k = P (128 + (k 0).val) (k 1).val) (h11 : ∀ k : S128x128.Idx, v11 k = P (128 + (k 0).val) (128 + (k 1).val)) :
    quad v00 v01 v10 v11 j = P (j 0).val (j 1).val := by
  have j0 : (j 0).val < 256 := (j 0).isLt
  have j1 : (j 1).val < 256 := (j 1).isLt
  have row : ∀ (u v : FVec Ideal S128x128 .bf16) (r : ℕ) (k : S128x256.Idx), (∀ i : S128x128.Idx, u i = P (r + (i 0).val) (i 1).val) → (∀ i : S128x128.Idx, v i = P (r + (i 0).val) (128 + (i 1).val)) →
      concatenate S128x256 1 [⟨S128x128, u⟩, ⟨S128x128, v⟩] concatenates_S128x128_S128x128_S128x256_d1 k = P (r + (k 0).val) (k 1).val := by
    intro u v r k hu hv
    have k1 : (k 1).val < 256 := (k 1).isLt
    by_cases hk : (k 1).val < 128
    · refine (concatenate_pair_apply_left (t := S128x256) (s₁ := S128x128) (s₂ := S128x128) 1 u v _ k rfl (ix2 (n0 := 128) (n1 := 128) (k 0) ⟨(k 1).val, hk⟩) ?_).trans (hu _)
      intro b
      match b with
      | ⟨0, _⟩ => rfl
      | ⟨1, _⟩ => rfl
    · refine (concatenate_pair_apply_right (t := S128x256) (s₁ := S128x128) (s₂ := S128x128) 1 u v _ k rfl rfl (ix2 (n0 := 128) (n1 := 128) (k 0) ⟨(k 1).val - 128, by omega⟩) ?_ ?_).trans ((hv _).trans ?_)
      · intro b hb
        match b with
        | ⟨0, _⟩ => rfl
        | ⟨1, _⟩ => exact absurd rfl hb
      · show (k 1).val - 128 + 128 = (k 1).val; omega
      · show P (r + (k 0).val) (128 + ((k 1).val - 128)) = _
        congr 1; omega
  unfold quad
  by_cases hj : (j 0).val < 128
  · refine (concatenate_pair_apply_left (t := S256x256) (s₁ := S128x256) (s₂ := S128x256) 0 _ _ _ j rfl (ix2 (n0 := 128) (n1 := 256) ⟨(j 0).val, hj⟩ (j 1)) ?_).trans ((row v00 v01 0 _ (by simpa using h00) (by simpa using h01)).trans ?_)
    · intro b
      match b with
      | ⟨0, _⟩ => rfl
      | ⟨1, _⟩ => rfl
    · show P (0 + (j 0).val) (j 1).val = _
      rw [Nat.zero_add]
  · refine (concatenate_pair_apply_right (t := S256x256) (s₁ := S128x256) (s₂ := S128x256) 0 _ _ _ j rfl rfl (ix2 (n0 := 128) (n1 := 256) ⟨(j 0).val - 128, by omega⟩ (j 1)) ?_ ?_).trans ((row v10 v11 128 _ h10 h11).trans ?_)
    · intro b hb
      match b with
      | ⟨0, _⟩ => exact absurd rfl hb
      | ⟨1, _⟩ => rfl
    · show (j 0).val - 128 + 128 = (j 0).val; omega
    · show P (128 + ((j 0).val - 128)) (j 1).val = _
      congr 1; omega
theorem V_tl : (𝓥).tl' := by
  intro i kt t v00 v01 v10 v11 h00 h01 h10 h11 hm j
  have kt2 : kt.val < 2 := kt.2
  have hk : Ins.okc i t := by
    rcases hm with h' | h'
    · exact Or.inl (by omega)
    · exact if h : i < 28 then Or.inl h else Or.inr ⟨by omega, h'.2⟩
  have ec : Ins.col i = Ins.colm (2 * i + kt.val) := by
    unfold Ins.col Ins.colm
    by_cases h : i < 28
    · rw [if_pos h, if_pos (by omega)]
    · rw [if_neg h, if_neg (by omega)]
  refine quad_at v00 v01 v10 v11 j (fun r n => A.Wt (256 * ((2 * i + kt.val) % 56) + r) (Ins.colm (2 * i + kt.val) + 256 * t.val + n)) ?_ ?_ ?_ ?_
  · intro k; rw [← ec]; refine (h00 hk k).trans ?_
    show A.Wt (512 * (i % 28) + 256 * kt.val + 128 * 0 + (k 0).val) (Ins.col i + 256 * t.val + 128 * 0 + (k 1).val) = _
    congr 1 <;> omega
  · intro k; rw [← ec]; refine (h01 hk k).trans ?_
    show A.Wt (512 * (i % 28) + 256 * kt.val + 128 * 0 + (k 0).val) (Ins.col i + 256 * t.val + 128 * 1 + (k 1).val) = _
    congr 1 <;> omega
  · intro k; rw [← ec]; refine (h10 hk k).trans ?_
    show A.Wt (512 * (i % 28) + 256 * kt.val + 128 * 1 + (k 0).val) (Ins.col i + 256 * t.val + 128 * 0 + (k 1).val) = _
    congr 1 <;> omega
  · intro k; rw [← ec]; refine (h11 hk k).trans ?_
    show A.Wt (512 * (i % 28) + 256 * kt.val + 128 * 1 + (k 0).val) (Ins.col i + 256 * t.val + 128 * 1 + (k 1).val) = _
    congr 1 <;> omega

end Cert.KernelIdeal.Hand
-- ==== Proof.IValB.lean ====
module

public import proofs.«01_k».proof.Proof.IVal

/-! The accumulators. -/

@[expose] public section
noncomputable section

namespace Cert.KernelIdeal.Hand
open Idealize.ShloMosaic Idealize.ShloMosaic.TcCoe
open Idealize.ShloMosaic.ValueIdx
open Cert.KernelIdeal
open K0.Facts₀ Shapes1.Facts₀
variable (A : Ins) (c : Dev nD) (w6 : Buf (Elt Ideal) (b6.view.loc (c : Thread nD τ))) (s7 : Buf (Elt Ideal) (b7.view.loc (c : Thread nD τ)))
    (nw5 : Buf (Elt Ideal) (b5.view.loc (c : Thread nD τ))) (pos8 : Buf (Elt Ideal) (b8.view.loc (c : Thread nD τ)))
    (fr9 : Buf (Elt Ideal) (b9.view.loc (c : Thread nD τ)))
local notation "𝓥" => vls0 A c w6 s7 nw5 pos8 fr9

theorem block_sum (f : ℕ → EReal) (q : ℕ) : ∑ k ∈ Finset.range (256 * (q + 1)), f k = ∑ k ∈ Finset.range (256 * q), f k + ∑ k : Fin 256, f (256 * q + k.val) := by
  rw [show 256 * (q + 1) = 256 * q + 256 by omega, Finset.sum_range_add, Finset.sum_range (fun x => f (256 * q + x))]
theorem pass_sum (m : ℕ) (t : Fin 8) (v w : FVec Ideal S256x256 .bf16) (hm : Ins.okm m t) (hv : A.pLH m v) (hw : A.pTl m t w) (j : S256x256.Idx) :
    (Mxu.Staged.pass ⟨.bf16, false, w⟩ v : FVec Ideal S256x256 .f32) j
      = (∑ k : Fin 256, A.H (j 0).val (256 * (m % 56) + k.val) * A.Wt (256 * (m % 56) + k.val) (Ins.colm m + 256 * t.val + (j 1).val) : EReal) := by
  refine (pass_at v w j).trans (Finset.sum_congr rfl fun k _ => ?_)
  have h112 : m < 112 := by
    rcases hm with h' | h'
    · omega
    · exact h'.1
  have e1 := hv h112 (ix2 (n0 := 256) (n1 := 256) (j 0) k)
  have e2 := hw hm (ix2 (n0 := 256) (n1 := 256) k (j 1))
  exact congrArg₂ (· * ·) e1 e2
theorem V_acc0 : (𝓥).acc0' := by
  intro m t v w hf hv hw hm j
  have h112 : m < 112 := by
    rcases hm with h' | h'
    · omega
    · exact h'.1
  have e0 : m % 56 = 0 := by
    rcases hf with h' | h' | h'
    · subst h'; rfl
    · subst h'; rfl
    · omega
  refine (pass_sum A m t v w hm hv hw j).trans ?_
  rw [e0, block_sum]
  simp
theorem V_accS : (𝓥).accS' := by
  intro m t v w r hne hr hv hw hm j
  have h112 : m + 1 < 112 := by
    rcases hm with h' | h'
    · omega
    · exact h'.1
  have hm0 : Ins.okm m t := by
    rcases hm with h' | h'
    · exact Or.inl (by omega)
    · exact Or.inr ⟨by omega, h'.2⟩
  have eq : (m + 1) % 56 = m % 56 + 1 := by omega
  have ec : Ins.colm (m + 1) = Ins.colm m := by
    unfold Ins.colm
    by_cases h : m < 56
    · rw [if_pos h, if_pos (by omega)]
    · rw [if_neg h, if_neg (by omega)]
  have e1 := hr hm0 j
  have e2 := pass_sum A (m + 1) t v w hm hv hw j
  rw [block_sum]
  rw [ec, eq] at *
  exact congrArg₂ (· + ·) e1 e2
theorem V_lhC : (𝓥).lhC' := by
  intro m v h h'
  omega
theorem V_lhD : (𝓥).lhD' := by
  intro x h kt n f hf hn
  have kt2 : kt.val < 2 := kt.2
  have er := lhsRow_eq h kt
  have key : ∀ j : S256x256.Idx, (shapeCast S256x256 (b20.view.readAt (Elt Ideal) (Rect.unit (s := S56x256x256) ![lhsRow x kt, 0, 0] S1x256x256.size (inbLhs (lhsRow_lt h kt))).toLoadRect f) shapeCasts_S1x256x256_S256x256 j : EReal)
      = A.H (j 0).val (256 * (2 * x.toNat + kt.val) + (j 1).val) := by
    intro j
    have j1 : (j 1).val < 256 := (j 1).isLt
    have hsc : shapeCast S256x256 (b20.view.readAt (Elt Ideal) (Rect.unit (s := S56x256x256) ![lhsRow x kt, 0, 0] S1x256x256.size (inbLhs (lhsRow_lt h kt))).toLoadRect f) shapeCasts_S1x256x256_S256x256 j
        = b20.view.readAt (Elt Ideal) (Rect.unit (s := S56x256x256) ![lhsRow x kt, 0, 0] S1x256x256.size (inbLhs (lhsRow_lt h kt))).toLoadRect f (ix3 (n1 := 256) (n2 := 256) (0 : Fin 1) (j 0) (j 1)) :=
      shapeCast_apply _ _ _ _ (by
        rw [Shape.rowMajor_val_three, Shape.rowMajor_val_two]
        show (0 * 256 + (j 0).val) * 256 + (j 1).val = (j 0).val * 256 + (j 1).val
        omega)
    rw [hsc]
    refine (hf ((Rect.unit (s := S56x256x256) ![lhsRow x kt, 0, 0] S1x256x256.size (inbLhs (lhsRow_lt h kt))).toLoadRect.idx (ix3 (n1 := 256) (n2 := 256) (0 : Fin 1) (j 0) (j 1))) ?_).trans ?_
    · show 2 * (lhsRow x kt + 1 * 0) + (0 + 1 * (j 1).val) / 128 < n
      omega
    · show A.H (0 + 1 * (j 0).val) (256 * (lhsRow x kt + 1 * 0) + (0 + 1 * (j 1).val)) = _
      congr 1 <;> omega
  constructor
  · intro hm j
    refine (key j).trans ?_
    congr 1; omega
  · intro hm j
    refine (key j).trans ?_
    congr 1; omega

end Cert.KernelIdeal.Hand
-- ==== Proof.IValC.lean ====
module

public import proofs.«01_k».proof.Proof.IVal

/-! The activations, the residual and the result's tiles. -/

@[expose] public section
noncomputable section

namespace Cert.KernelIdeal.Hand
open Idealize.ShloMosaic Idealize.ShloMosaic.TcCoe
open Idealize.ShloMosaic.ValueIdx
open Cert.KernelIdeal
open K0.Facts₀ Shapes1.Facts₀
variable (A : Ins) (c : Dev nD) (w6 : Buf (Elt Ideal) (b6.view.loc (c : Thread nD τ))) (s7 : Buf (Elt Ideal) (b7.view.loc (c : Thread nD τ)))
    (nw5 : Buf (Elt Ideal) (b5.view.loc (c : Thread nD τ))) (pos8 : Buf (Elt Ideal) (b8.view.loc (c : Thread nD τ)))
    (fr9 : Buf (Elt Ideal) (b9.view.loc (c : Thread nD τ)))
local notation "𝓥" => vls0 A c w6 s7 nw5 pos8 fr9

theorem V_hh : (𝓥).hh' := by
  intro x h fd j hj
  have hx : x.toNat < 28 := h
  have er := rowA_eq h
  have e0 : (hV x.toNat h).view.emb (ix2 (n0 := 256) (n1 := 512) (j 1) (j 2)) = j := by
    show (Rect.unit (s := S28x256x512) ![x.toNat, 0, 0] S1x256x512.size (inbH h)).emb (Shape.reshapeEquiv _ (ix2 (n0 := 256) (n1 := 512) (j 1) (j 2))) = _
    rw [lift3 (a := 256) (b := 512)]
    funext a
    match a with
    | ⟨0, _⟩ => exact Fin.ext (by show x.toNat + 1 * 0 = (j 0).val; omega)
    | ⟨1, _⟩ => exact Fin.ext (by show 0 + 1 * (j 1).val = (j 1).val; omega)
    | ⟨2, _⟩ => exact Fin.ext (by show 0 + 1 * (j 2).val = (j 2).val; omega)
  refine (wr_at _ _ _ (ix2 (n0 := 256) (n1 := 512) (j 1) (j 2)) e0).trans ?_
  refine D2_at A.h ((hSrc x h).view.emb (ix2 (n0 := 256) (n1 := 512) (j 1) (j 2))) _ _ ?_ ?_
  · show 0 + 1 * (j 1).val = _
    omega
  · show rowA x + 1 * (j 2).val = _
    omega
theorem V_hsL : (𝓥).hsL' := by
  intro fd j
  refine (wr_at _ _ _ j rfl).trans ?_
  exact D2_at A.hs j _ _ rfl rfl
theorem V_resL : (𝓥).resL' := by
  intro fd j
  refine (wr_at _ _ _ j rfl).trans ?_
  exact D2_at A.res j _ _ rfl rfl
theorem V_hl0 : (𝓥).hl0' := by
  intro f j hj
  omega
theorem V_hr0 : (𝓥).hr0' := by
  intro f g hg j hj
  have hj' : (j 1).val < 112 := by omega
  have e0 : (b19.access (Rect.unit (s := S256x128) ![0, 0] S256x112.size inb_S256x128_S256x112_0_0)).emb (ix2 (n0 := 256) (n1 := 112) (j 0) ⟨(j 1).val, hj'⟩) = j := by
    funext a
    match a with
    | ⟨0, _⟩ => exact Fin.ext (by show 0 + 1 * (j 0).val = (j 0).val; omega)
    | ⟨1, _⟩ => exact Fin.ext (by show 0 + 1 * (j 1).val = (j 1).val; omega)
  refine (wr_at _ _ _ _ e0).trans ?_
  refine (cast_eq rfl _).trans ?_
  refine (shapeCast_apply _ _ _ (ix2 (n0 := 256) (n1 := 112) (j 0) ⟨(j 1).val, hj'⟩) rfl).trans ?_
  refine (hg ((Rect.unit (s := S256x112) ![0, 0] S256x112.size inb_S256x112_S256x112_0_0).toLoadRect.idx (ix2 (n0 := 256) (n1 := 112) (j 0) ⟨(j 1).val, hj'⟩))).trans ?_
  show D2 A.hs (0 + 1 * (j 0).val) (0 + 1 * (j 1).val) = _
  congr 1 <;> omega
theorem V_hrS : (𝓥).hrS' := by
  intro i f g hg j hj
  have j1 : (j 1).val < 128 := (j 1).isLt
  have e0 : (b19.access (Rect.unit (s := S256x128) ![0, 0] S256x128.size inb_S256x128_S256x128_0_0)).emb j = j := by
    funext a
    match a with
    | ⟨0, _⟩ => exact Fin.ext (by show 0 + 1 * (j 0).val = (j 0).val; omega)
    | ⟨1, _⟩ => exact Fin.ext (by show 0 + 1 * (j 1).val = (j 1).val; omega)
  have h4 : (j 1).val + 4 < 128 := by omega
  refine (wr_at _ _ _ _ e0).trans ?_
  refine (cast_eq rfl _).trans ?_
  refine (shapeCast_apply _ _ _ j rfl).trans ?_
  refine (dynamicRotate_apply (s := S256x128) 1 124#32 _ _ j (ix2 (n0 := 256) (n1 := 128) (j 0) ⟨(j 1).val + 4, h4⟩) ?_).trans ?_
  · intro b
    match b with
    | ⟨0, _⟩ => rfl
    | ⟨1, _⟩ =>
      show (j 1).val + 4 = ((j 1).val + 128 - 124 % 128) % 128
      omega
  refine (hg ((Rect.unit (s := S256x128) ![0, 0] S256x128.size inb_S256x128_S256x128_0_0).toLoadRect.idx (ix2 (n0 := 256) (n1 := 128) (j 0) ⟨(j 1).val + 4, h4⟩)) ?_).trans ?_
  · show 4 * i + (0 + 1 * ((j 1).val + 4)) < 112
    omega
  · show D2 A.hs (0 + 1 * (j 0).val) (4 * i + (0 + 1 * ((j 1).val + 4))) = _
    congr 1 <;> omega
theorem V_hl : (𝓥).hl' := by
  intro x h kt a f g r hf hg hr j hj
  have hx : x.toNat < 28 := h
  have kt2 : kt.val < 2 := kt.2
  have a2 : a.val < 2 := a.2
  have er := lhsRow_eq hx kt
  have j2 : (j 2).val < 256 := (j 2).isLt
  by_cases hin : (j 0).val = lhsRow x kt ∧ (j 2).val / 128 = a.val
  · have e0 : (b20.access (Rect.unit (s := S56x256x256) ![lhsRow x kt, 0, 128 * a.val] S1x256x128.size (inbLt (lhsRow_lt h kt) (half256 a)))).emb (ix3 (n1 := 256) (n2 := 128) (0 : Fin 1) (j 1) ⟨(j 2).val - 128 * a.val, by omega⟩) = j := by
      funext b
      match b with
      | ⟨0, _⟩ => exact Fin.ext (by show lhsRow x kt + 1 * 0 = (j 0).val; omega)
      | ⟨1, _⟩ => exact Fin.ext (by show 0 + 1 * (j 1).val = (j 1).val; omega)
      | ⟨2, _⟩ => exact Fin.ext (by show 128 * a.val + 1 * ((j 2).val - 128 * a.val) = (j 2).val; omega)
    refine (wr_at _ _ _ _ e0).trans ?_
    refine (cast_eq rfl _).trans ?_
    refine (shapeCast_ab_1ab_apply (a := 256) (b := 128) _ _ (0 : Fin 1) (j 1) ⟨(j 2).val - 128 * a.val, by omega⟩).trans ?_
    have hq : (j 2).val - 128 * a.val < 128 := by omega
    have e1 : (shapeCast S256x128 (b17.view.readAt (Elt Ideal) (Rect.unit (s := S28x256x512) ![x.toNat, 0, 256 * kt.val + 128 * a.val] S1x256x128.size (inbHt h (ktCol kt a))).toLoadRect g) shapeCasts_S1x256x128_S256x128 (ix2 (n0 := 256) (n1 := 128) (j 1) ⟨(j 2).val - 128 * a.val, hq⟩) : EReal)
        = D2 A.h (j 1).val (512 * x.toNat + (256 * kt.val + 128 * a.val + ((j 2).val - 128 * a.val))) := by
      refine (shapeCast_1ab_ab_apply (a := 256) (b := 128) _ _ (j 1) ⟨(j 2).val - 128 * a.val, hq⟩).trans ?_
      refine (hg ((Rect.unit (s := S28x256x512) ![x.toNat, 0, 256 * kt.val + 128 * a.val] S1x256x128.size (inbHt h (ktCol kt a))).toLoadRect.idx (ix3 (n1 := 256) (n2 := 128) (0 : Fin 1) (j 1) ⟨(j 2).val - 128 * a.val, hq⟩)) ?_).trans ?_
      · show x.toNat + 1 * 0 = x.toNat
        omega
      · show D2 A.h (0 + 1 * (j 1).val) (512 * x.toNat + (256 * kt.val + 128 * a.val + 1 * ((j 2).val - 128 * a.val))) = _
        congr 1 <;> omega
    have e2 : (broadcastTo S256x128 (shapeCast S256x1 (b19.view.readAt (Elt Ideal) (Rect.unit (s := S256x128) ![0, 2 * kt.val + a.val] S256x1.size (inbHr (ka128 kt a))).toLoadRect r) shapeCasts_S256x1_S256x1) broadcasts_S256x1_S256x128 (ix2 (n0 := 256) (n1 := 128) (j 1) ⟨(j 2).val - 128 * a.val, hq⟩) : EReal)
        = D2 A.hs (j 1).val (4 * x.toNat + (2 * kt.val + a.val)) := by
      refine (broadcastTo_apply _ _ _ (ix2 (n0 := 256) (n1 := 1) (j 1) 0) ?_).trans ?_
      · intro b
        match b with
        | ⟨0, _⟩ => rfl
        | ⟨1, _⟩ => rfl
      refine (shapeCast_apply _ _ _ (ix2 (n0 := 256) (n1 := 1) (j 1) 0) rfl).trans ?_
      refine (hr ((Rect.unit (s := S256x128) ![0, 2 * kt.val + a.val] S256x1.size (inbHr (ka128 kt a))).toLoadRect.idx (ix2 (n0 := 256) (n1 := 1) (j 1) 0)) ?_).trans ?_
      · show 4 * x.toNat + (2 * kt.val + a.val + 1 * 0) < 112
        omega
      · show D2 A.hs (0 + 1 * (j 1).val) (4 * x.toNat + (2 * kt.val + a.val + 1 * 0)) = _
        congr 1 <;> omega
    refine (congrArg₂ (fun (p q : EReal) => p * q) e1 e2).trans ?_
    unfold Ins.H
    congr 2 <;> omega
  · refine (wr_off _ _ _ ?_).trans (hf j ?_)
    · intro y hy
      have y0 : (y 0).val < 1 := (y 0).isLt
      have y2 : (y 2).val < 128 := (y 2).isLt
      have h0 : lhsRow x kt + 1 * (y 0).val = (j 0).val := congrArg (fun i : S56x256x256.Idx => (i 0).val) hy
      have h2 : 128 * a.val + 1 * (y 2).val = (j 2).val := congrArg (fun i : S56x256x256.Idx => (i 2).val) hy
      exact hin ⟨by omega, by omega⟩
    · by_contra hcon
      exact hin ⟨by omega, by omega⟩
theorem V_rt : (𝓥).rt' := by
  intro t tt m f g r hm hf hr j hj
  have e0 : (b25.access (Rect.unit (s := S14x256x256) ![t.val, 0, 0] S1x256x256.size (inbX t.2))).emb (ix3 (n1 := 256) (n2 := 256) (0 : Fin 1) (j 1) (j 2)) = j := by
    funext b
    match b with
    | ⟨0, _⟩ => exact Fin.ext (by show t.val + 1 * 0 = (j 0).val; omega)
    | ⟨1, _⟩ => exact Fin.ext (by show 0 + 1 * (j 1).val = (j 1).val; omega)
    | ⟨2, _⟩ => exact Fin.ext (by show 0 + 1 * (j 2).val = (j 2).val; omega)
  refine (wr_at _ _ _ _ e0).trans ?_
  refine (cast_eq rfl _).trans ?_
  refine (shapeCast_ab_1ab_apply (a := 256) (b := 256) _ _ (0 : Fin 1) (j 1) (j 2)).trans ?_
  have e1 : (b21.view.readAt (Elt Ideal) (Rect.unit (s := S256x3584) ![0, 256 * t.val] S256x256.size (inbRes (tc256 t))).toLoadRect f (ix2 (n0 := 256) (n1 := 256) (j 1) (j 2)) : EReal) = D2 A.res (j 1).val (256 * t.val + (j 2).val) := by
    refine (hf ((Rect.unit (s := S256x3584) ![0, 256 * t.val] S256x256.size (inbRes (tc256 t))).toLoadRect.idx (ix2 (n0 := 256) (n1 := 256) (j 1) (j 2)))).trans ?_
    show D2 A.res (0 + 1 * (j 1).val) (256 * t.val + 1 * (j 2).val) = _
    congr 1 <;> omega
  have e2 : (r (ix2 (n0 := 256) (n1 := 256) (j 1) (j 2)) : EReal) = ∑ k ∈ Finset.range 14336, A.H (j 1).val k * A.Wt k (256 * t.val + (j 2).val) := by
    rcases hm with ⟨rfl, ht⟩ | ⟨rfl, ht⟩
    · refine (hr (Or.inl (by omega)) _).trans ?_
      show ∑ k ∈ Finset.range 14336, A.H (j 1).val k * A.Wt k (0 + 256 * tt.val + (j 2).val) = _
      rw [ht, Nat.zero_add]
    · have := t.2
      refine (hr (Or.inr ⟨by omega, by omega⟩) _).trans ?_
      show ∑ k ∈ Finset.range 14336, A.H (j 1).val k * A.Wt k (2048 + 256 * tt.val + (j 2).val) = _
      rw [show 2048 + 256 * tt.val = 256 * t.val by omega]
  exact congrArg₂ (fun (p q : EReal) => p + q) e1 e2
theorem rTile_emb (t : Fin 14) (x : S256x256.Idx) : (rTile t).view.emb x = ix3 (n0 := 14) (n1 := 256) (n2 := 256) t (x 0) (x 1) := by
  show (Rect.unit (s := S14x256x256) ![t.val, 0, 0] S1x256x256.size (inbX t.2)).emb (Shape.reshapeEquiv _ x) = _
  rw [lift3 (a := 256) (b := 256)]
  funext a
  match a with
  | ⟨0, _⟩ => exact Fin.ext (by show t.val + 1 * 0 = t.val; omega)
  | ⟨1, _⟩ => exact Fin.ext (by show 0 + 1 * (x 0).val = (x 0).val; omega)
  | ⟨2, _⟩ => exact Fin.ext (by show 0 + 1 * (x 1).val = (x 1).val; omega)
theorem V_ro : (𝓥).ro' := by
  intro t f fd hf j hlo hhi
  have hq : (j 1).val - 256 * t.val < 256 := by omega
  have e0 : (roDst t).view.emb (ix2 (n0 := 256) (n1 := 256) (j 0) ⟨(j 1).val - 256 * t.val, hq⟩) = j := by
    funext a
    match a with
    | ⟨0, _⟩ => exact Fin.ext (by show 0 + 1 * (j 0).val = (j 0).val; omega)
    | ⟨1, _⟩ => exact Fin.ext (by show 256 * t.val + 1 * ((j 1).val - 256 * t.val) = (j 1).val; omega)
  refine (wr_at _ _ _ _ e0).trans ?_
  have e1 := hf ((rTile t).view.emb (ix2 (n0 := 256) (n1 := 256) (j 0) ⟨(j 1).val - 256 * t.val, hq⟩)) (by rw [rTile_emb])
  refine e1.trans ?_
  rw [rTile_emb]
  show A.Out (j 0).val (256 * t.val + ((j 1).val - 256 * t.val)) = _
  congr 1; omega

end Cert.KernelIdeal.Hand
-- ==== Proof.IValRun.lean ====
module

public import proofs.«01_k».proof.Proof.IFrame
public import proofs.«01_k».proof.Proof.IValA
public import proofs.«01_k».proof.Proof.IValB
public import proofs.«01_k».proof.Proof.IValC
public import Idealize.ShloMosaic.Lib.Pipeline.FrameValue

/-! The kernel's run over the reals: the first result is the residual plus the down projection. -/

@[expose] public section
noncomputable section

namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)
open K0.Facts₀ Shapes1.Facts₀

local notation "𝕄" => MT nD τ sig Unit (Elt Ideal) ℕ (Pipeline.UD sig nD τ) ℕ
variable (m : (ℓ : Loc nD τ sig) → Buf (Elt Ideal) ℓ) (ρ : Dev nD → PrngReg)

/-- The arrays the down projection reads, as the region finds them. -/
def insOf (c : Dev nD) : Ins where
  h := Gen.V m c main_v11
  hs := Gen.V m c main_v12
  w := Gen.V m c main_arg2
  ws := iblk m c 0 t0_0
  res := Gen.V m c main_v13

/-- The stages' values, with their laws. -/
def vls (c : Dev nD) : Vals Ideal c where
  toVals0 := vls0 (insOf m c) c (Gen.V m c main_arg6) (iblk m c 1 t0_0) (Gen.V m c main_v14) (Gen.V m c main_arg8) (Gen.V m c main_v15)
  hwA := V_hwA _ _ _ _ _ _ _
  hwB := V_hwB _ _ _ _ _ _ _
  hwC := V_hwC _ _ _ _ _ _ _
  scA := V_scA _ _ _ _ _ _ _
  scB := V_scB _ _ _ _ _ _ _
  scC := V_scC _ _ _ _ _ _ _
  bk := V_bk _ _ _ _ _ _ _
  tl := V_tl _ _ _ _ _ _ _
  acc0 := V_acc0 _ _ _ _ _ _ _
  accS := V_accS _ _ _ _ _ _ _
  lhD := V_lhD _ _ _ _ _ _ _
  lhC := V_lhC _ _ _ _ _ _ _
  hh := V_hh _ _ _ _ _ _ _
  hsL := V_hsL _ _ _ _ _ _ _
  hr0 := V_hr0 _ _ _ _ _ _ _
  hrS := V_hrS _ _ _ _ _ _ _
  hl := V_hl _ _ _ _ _ _ _
  hl0 := V_hl0 _ _ _ _ _ _ _
  resL := V_resL _ _ _ _ _ _ _
  rt := V_rt _ _ _ _ _ _ _
  ro := V_ro _ _ _ _ _ _ _

/-- The first result: the residual plus the down projection. -/
def res0 (c : Dev nD) (f : S256x3584.Idx → EReal) : Prop := ∀ j : S256x3584.Idx, f j = (insOf m c).Out (j 0).val (j 1).val
theorem row_res (c : Dev nD) : ROW (vls m c) ⊢ iprop(∃ f, ⌜res0 m c f⌝ ∗ ((b10.view.loc (c : Thread nD τ)) ↦[Finset.univ]{fullShare} f)) := by
  unfold ROW Own
  iintro ⟨%g, %hg, H⟩
  iexists g
  isplitr
  · ipureintro
    intro j
    obtain ⟨f, hf, he⟩ := hg (colKey j)
    have hk := (colKey_iff (colKey j) j).2 rfl
    exact (he j ((roset_key _ j).2 rfl)).trans (hf j hk.1 hk.2)
  · iexact H

abbrev MidV (c : Dev nD) : sProp 𝕄 := iprop((((∃ f, ((b16.view.loc (c : Thread nD τ)) ↦[Finset.univ]{fullShare} f)) ∗ (∃ f, ((b17.view.loc (c : Thread nD τ)) ↦[Finset.univ]{fullShare} f)) ∗ (∃ f, ((b18.view.loc (c : Thread nD τ)) ↦[Finset.univ]{fullShare} f)) ∗ (∃ f, ((b19.view.loc (c : Thread nD τ)) ↦[Finset.univ]{fullShare} f)) ∗ (∃ f, ((b20.view.loc (c : Thread nD τ)) ↦[Finset.univ]{fullShare} f)) ∗ (∃ f, ((b21.view.loc (c : Thread nD τ)) ↦[Finset.univ]{fullShare} f)) ∗ (∃ f, ((b22.view.loc (c : Thread nD τ)) ↦[Finset.univ]{fullShare} f)) ∗ (∃ f, ((b23.view.loc (c : Thread nD τ)) ↦[Finset.univ]{fullShare} f)) ∗ (∃ f, ((b24.view.loc (c : Thread nD τ)) ↦[Finset.univ]{fullShare} f)) ∗ (∃ f, ((b25.view.loc (c : Thread nD τ)) ↦[Finset.univ]{fullShare} f)) ∗ (∃ f, ((b26.view.loc (c : Thread nD τ)) ↦[Finset.univ]{fullShare} f)) ∗ (∃ f, ((b27.view.loc (c : Thread nD τ)) ↦[Finset.univ]{fullShare} f)) ∗ (∃ f, ((b28.view.loc (c : Thread nD τ)) ↦[Finset.univ]{fullShare} f)) ∗ (∃ f, ((b29.view.loc (c : Thread nD τ)) ↦[Finset.univ]{fullShare} f)) ∗ (∃ f, ((b30.view.loc (c : Thread nD τ)) ↦[Finset.univ]{fullShare} f)) ∗ (∃ f, ((b31.view.loc (c : Thread nD τ)) ↦[Finset.univ]{fullShare} f)) ∗ (∃ f, ((b32.view.loc (c : Thread nD τ)) ↦[Finset.univ]{fullShare} f)) ∗ (∃ f, ((b33.view.loc (c : Thread nD τ)) ↦[Finset.univ]{fullShare} f))) ∗ (∃ r, prngReg c r)
          ∗ Pipeline.ownSems0 (Ix := Unit) (Name := ℕ) (U := Pipeline.UD sig nD τ) (Lvl := ℕ) (Val := Elt Ideal) (τ := τ) osem0 c
          ∗ (((b0.view.loc (c : Thread nD τ)) ↦[Finset.univ]{fullShare} Gen.V m c main_v11) ∗ ((b1.view.loc (c : Thread nD τ)) ↦[Finset.univ]{fullShare} Gen.V m c main_v12) ∗ ((b2.view.loc (c : Thread nD τ)) ↦[Finset.univ]{fullShare} Gen.V m c main_arg2) ∗ ((b4.view.loc (c : Thread nD τ)) ↦[Finset.univ]{fullShare} Gen.V m c main_v13) ∗ ((b5.view.loc (c : Thread nD τ)) ↦[Finset.univ]{fullShare} Gen.V m c main_v14) ∗ ((b6.view.loc (c : Thread nD τ)) ↦[Finset.univ]{fullShare} Gen.V m c main_arg6) ∗ ((b8.view.loc (c : Thread nD τ)) ↦[Finset.univ]{fullShare} Gen.V m c main_arg8) ∗ ((b9.view.loc (c : Thread nD τ)) ↦[Finset.univ]{fullShare} Gen.V m c main_v15))
          ∗ (∃ f, ⌜res0 m c f⌝ ∗ ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) ∗ Owes (F := Ideal) c ∗ ((b3.view.loc (c : Thread nD τ)) ↦[Finset.univ]{fullShare} (iblk m c 0 t0_0)) ∗ ((b7.view.loc (c : Thread nD τ)) ↦[Finset.univ]{fullShare} (iblk m c 1 t0_0)))
set_option maxHeartbeats 1000000 in
theorem midv_in (c : Dev nD) : MidF m c ⊢ iprop(All (vls m c) (R10 (c := c)) ∗ ∃ r, prngReg c r) := by
  unfold MidF
  iintro ⟨⟨⟨S16, S17, S18, S19, S20, S21, S22, S23, S24, S25, S26, S27, S28, S29, S30, S31, S32, S33⟩, Hg, HS, ⟨A0, A1, A2, A4, A5, A6, A8, A9⟩, B10, B11, B12, B13, B14, B15⟩, HO, A3, A7⟩
  isplitl [HO HS A0 A1 A2 A3 A4 A5 A6 A7 A8 A9 B10 B11 B12 B13 B14 B15 S16 S17 S18 S19 S20 S21 S22 S23 S24 S25 S26 S27 S28 S29 S30 S31 S32 S33]
  · isplitl [HO]
    · iexact HO
    isplitl [HS]
    · iapply (sems_eq c).1; iexact HS
    isplitl [A0 A1 A2 A3 A4 A5 A6 A7 A8 A9]
    · isplitl [A0]
      · iexact A0
      isplitl [A1]
      · iapply (isV (b := b1)).1; iexact A1
      isplitl [A2]
      · iexact A2
      isplitl [A3]
      · iapply (isV (b := b3)).1; iexact A3
      isplitl [A4]
      · iapply (isV (b := b4)).1; iexact A4
      isplitl [A5]
      · iapply (isV (b := b5)).1; iexact A5
      isplitl [A6]
      · iexact A6
      isplitl [A7]
      · iapply (isV (b := b7)).1; iexact A7
      isplitl [A8]
      · iapply (isV (b := b8)).1; iexact A8
      iapply (isV (b := b9)).1; iexact A9
    isplitl [B10]
    · iapply any; iexact B10
    isplitl [B11 B12 B13 B14 B15]
    · isplitl [B11]
      · iapply any; iexact B11
      isplitl [B12]
      · iapply any; iexact B12
      isplitl [B13]
      · iapply any; iexact B13
      isplitl [B14]
      · iapply any; iexact B14
      iapply any; iexact B15
    isplitl [S16]
    · iapply any; iexact S16
    isplitl [S17]
    · iapply any; iexact S17
    isplitl [S18]
    · iapply any; iexact S18
    isplitl [S19]
    · iapply any; iexact S19
    isplitl [S20]
    · iapply any; iexact S20
    isplitl [S21]
    · iapply any; iexact S21
    isplitl [S22]
    · iapply any; iexact S22
    isplitl [S23]
    · iapply any; iexact S23
    isplitl [S24]
    · iapply any; iexact S24
    isplitl [S25]
    · iapply any; iexact S25
    isplitl [S26]
    · iapply any; iexact S26
    isplitl [S27]
    · iapply any; iexact S27
    isplitl [S28]
    · iapply any; iexact S28
    isplitl [S29]
    · iapply any; iexact S29
    isplitl [S30]
    · iapply any; iexact S30
    isplitl [S31]
    · iapply any; iexact S31
    isplitl [S32]
    · iapply any; iexact S32
    iapply any; iexact S33
  iexact Hg
set_option maxHeartbeats 1000000 in
theorem midv_out (c : Dev nD) : iprop(All (vls m c) (ROW (vls m c)) ∗ ∃ r, prngReg c r) ⊢ MidV m c := by
  unfold All Args Outs Scr ROW
  iintro ⟨⟨HO, HS, ⟨A0, A1, A2, A3, A4, A5, A6, A7, A8, A9⟩, B10, ⟨B11, B12, B13, B14, B15⟩, S16, S17, S18, S19, S20, S21, S22, S23, S24, S25, S26, S27, S28, S29, S30, S31, S32, S33⟩, Hg⟩
  isplitl [S16 S17 S18 S19 S20 S21 S22 S23 S24 S25 S26 S27 S28 S29 S30 S31 S32 S33 Hg HS A0 A1 A2 A4 A5 A6 A8 A9 B10 B11 B12 B13 B14 B15]
  · isplitl [S16 S17 S18 S19 S20 S21 S22 S23 S24 S25 S26 S27 S28 S29 S30 S31 S32 S33]
    · isplitl [S16]
      · iapply (some' (b := b16)); iexact S16
      isplitl [S17]
      · iapply (some' (b := b17)); iexact S17
      isplitl [S18]
      · iapply (some' (b := b18)); iexact S18
      isplitl [S19]
      · iapply (some' (b := b19)); iexact S19
      isplitl [S20]
      · iapply (some' (b := b20)); iexact S20
      isplitl [S21]
      · iapply (some' (b := b21)); iexact S21
      isplitl [S22]
      · iapply (some' (b := b22)); iexact S22
      isplitl [S23]
      · iapply (some' (b := b23)); iexact S23
      isplitl [S24]
      · iapply (some' (b := b24)); iexact S24
      isplitl [S25]
      · iapply (some' (b := b25)); iexact S25
      isplitl [S26]
      · iapply (some' (b := b26)); iexact S26
      isplitl [S27]
      · iapply (some' (b := b27)); iexact S27
      isplitl [S28]
      · iapply (some' (b := b28)); iexact S28
      isplitl [S29]
      · iapply (some' (b := b29)); iexact S29
      isplitl [S30]
      · iapply (some' (b := b30)); iexact S30
      isplitl [S31]
      · iapply (some' (b := b31)); iexact S31
      isplitl [S32]
      · iapply (some' (b := b32)); iexact S32
      iapply (some' (b := b33)); iexact S33
    isplitl [Hg]
    · iexact Hg
    isplitl [HS]
    · iapply (sems_eq c).2; iexact HS
    isplitl [A0 A1 A2 A4 A5 A6 A8 A9]
    · isplitl [A0]
      · iexact A0
      isplitl [A1]
      · iapply (isV (b := b1)).2; iexact A1
      isplitl [A2]
      · iexact A2
      isplitl [A4]
      · iapply (isV (b := b4)).2; iexact A4
      isplitl [A5]
      · iapply (isV (b := b5)).2; iexact A5
      isplitl [A6]
      · iexact A6
      isplitl [A8]
      · iapply (isV (b := b8)).2; iexact A8
      iapply (isV (b := b9)).2; iexact A9
    isplitl [B10]
    · iapply (row_res m c); iexact B10
    isplitl [B11]
    · iapply (some' (b := b11)); iexact B11
    isplitl [B12]
    · iapply (some' (b := b12)); iexact B12
    isplitl [B13]
    · iapply (some' (b := b13)); iexact B13
    isplitl [B14]
    · iapply (some' (b := b14)); iexact B14
    iapply (some' (b := b15)); iexact B15
  isplitl [HO]
  · iexact HO
  isplitl [A3]
  · iapply (isV (b := b3)).2; iexact A3
  iapply (isV (b := b7)).2; iexact A7
theorem bodyv_mid (c : Dev nD) : T c (MidF m c) (Hand.body : PR Ideal PUnit) (fun _ => MidV m c) := by
  have h := (T.all (V := vls m c)).frame iprop(∃ r, prngReg c r)
  unfold T at h ⊢
  exact (midv_in m c).trans (h.trans (wp_mono _ _ _ fun _ => midv_out m c))

theorem routed_eq (c : Dev nD) (W : (b : Ref sig .tc) → Buf (Elt Ideal) ((c.tc : Thread nD τ).loc b)) :
    (Pipeline.routed R0 c W : sProp 𝕄) = iprop(((b10.view.loc (c : Thread nD τ)) ↦[Finset.univ]{fullShare} W main_v16_0) ∗ ((b11.view.loc (c : Thread nD τ)) ↦[Finset.univ]{fullShare} W main_v16_1) ∗ ((b12.view.loc (c : Thread nD τ)) ↦[Finset.univ]{fullShare} W main_v16_2) ∗ ((b13.view.loc (c : Thread nD τ)) ↦[Finset.univ]{fullShare} W main_v16_3) ∗ ((b14.view.loc (c : Thread nD τ)) ↦[Finset.univ]{fullShare} W main_v16_4) ∗ ((b15.view.loc (c : Thread nD τ)) ↦[Finset.univ]{fullShare} W main_v16_5)) := by
  unfold Pipeline.routed; rw [BI.bigSep_eq_bigSepL_of_eq [main_v16_0, main_v16_1, main_v16_2, main_v16_3, main_v16_4, main_v16_5] (by decide) (by decide)]; rfl
theorem pick {ι : Type} [DecidableEq ι] {β : ι → Type} (w : ∀ i, β i) (i0 i1 i2 i3 i4 i5 : ι)
    (h : i0 ≠ i1 ∧ i0 ≠ i2 ∧ i0 ≠ i3 ∧ i0 ≠ i4 ∧ i0 ≠ i5 ∧ i1 ≠ i2 ∧ i1 ≠ i3 ∧ i1 ≠ i4 ∧ i1 ≠ i5 ∧ i2 ≠ i3 ∧ i2 ≠ i4 ∧ i2 ≠ i5 ∧ i3 ≠ i4 ∧ i3 ≠ i5 ∧ i4 ≠ i5)
    (f0 : β i0) (f1 : β i1) (f2 : β i2) (f3 : β i3) (f4 : β i4) (f5 : β i5) :
    ∃ W : ∀ i, β i, W i0 = f0 ∧ W i1 = f1 ∧ W i2 = f2 ∧ W i3 = f3 ∧ W i4 = f4 ∧ W i5 = f5 := by
  obtain ⟨h01, h02, h03, h04, h05, h12, h13, h14, h15, h23, h24, h25, h34, h35, h45⟩ := h
  refine ⟨Function.update (Function.update (Function.update (Function.update (Function.update (Function.update w i5 f5) i4 f4) i3 f3) i2 f2) i1 f1) i0 f0, ?_, ?_, ?_, ?_, ?_, ?_⟩
  · rw [Function.update_self]
  · rw [Function.update_of_ne h01.symm, Function.update_self]
  · rw [Function.update_of_ne h02.symm, Function.update_of_ne h12.symm, Function.update_self]
  · rw [Function.update_of_ne h03.symm, Function.update_of_ne h13.symm, Function.update_of_ne h23.symm, Function.update_self]
  · rw [Function.update_of_ne h04.symm, Function.update_of_ne h14.symm, Function.update_of_ne h24.symm, Function.update_of_ne h34.symm, Function.update_self]
  · rw [Function.update_of_ne h05.symm, Function.update_of_ne h15.symm, Function.update_of_ne h25.symm, Function.update_of_ne h35.symm, Function.update_of_ne h45.symm, Function.update_self]
abbrev PG0 (c : Dev nD) (W : (b : Ref sig .tc) → Buf (Elt Ideal) ((c.tc : Thread nD τ).loc b)) : Prop := res0 m c (W main_v16_0)
theorem sat_intro (c : Dev nD) :
    (iprop((∃ f, ⌜res0 m c f⌝ ∗ ((b10.view.loc (c : Thread nD τ)) ↦[Finset.univ]{fullShare} f)) ∗ (∃ f, ((b11.view.loc (c : Thread nD τ)) ↦[Finset.univ]{fullShare} f)) ∗ (∃ f, ((b12.view.loc (c : Thread nD τ)) ↦[Finset.univ]{fullShare} f)) ∗ (∃ f, ((b13.view.loc (c : Thread nD τ)) ↦[Finset.univ]{fullShare} f)) ∗ (∃ f, ((b14.view.loc (c : Thread nD τ)) ↦[Finset.univ]{fullShare} f)) ∗ (∃ f, ((b15.view.loc (c : Thread nD τ)) ↦[Finset.univ]{fullShare} f))) : sProp 𝕄)
      ⊢ Pipeline.routedSat R0 c (PG0 m c) := by
  unfold Pipeline.routedSat
  iintro ⟨⟨%f0, %h0, H0⟩, ⟨%f1, H1⟩, ⟨%f2, H2⟩, ⟨%f3, H3⟩, ⟨%f4, H4⟩, ⟨%f5, H5⟩⟩
  obtain ⟨W, e0, e1, e2, e3, e4, e5⟩ := pick (β := fun b : Ref sig .tc => Buf (Elt Ideal) ((c.tc : Thread nD τ).loc b)) (Gen.V m c) main_v16_0 main_v16_1 main_v16_2 main_v16_3 main_v16_4 main_v16_5 (by decide) f0 f1 f2 f3 f4 f5
  iexists W
  isplitr
  · ipureintro
    show res0 m c (W main_v16_0)
    rw [e0]; exact h0
  · rw [routed_eq, e0, e1, e2, e3, e4, e5]
    isplitl [H0]; · iexact H0
    isplitl [H1]; · iexact H1
    isplitl [H2]; · iexact H2
    isplitl [H3]; · iexact H3
    isplitl [H4]; · iexact H4
    iexact H5

/-- What is held before and after the one grid point. -/
def Phi (c : Dev nD) (n : ℕ) : sProp 𝕄 :=
  if n = 0 then Pipeline.ΦDR osem0 spec0 H0 R0 (Gen.V m) c else iprop(Pipeline.ΦD osem0 spec0 H0 (Gen.V m) c ∗ Pipeline.routedSat R0 c (PG0 m c))
theorem phi_0 (c : Dev nD) : Phi m c 0 = Pipeline.ΦDR osem0 spec0 H0 R0 (Gen.V m) c := if_pos rfl
theorem phi_n (c : Dev nD) {n : ℕ} (h : n ≠ 0) : Phi m c n = iprop(Pipeline.ΦD osem0 spec0 H0 (Gen.V m) c ∗ Pipeline.routedSat R0 c (PG0 m c)) := if_neg h
def datv (_ : Fin 1) (c : Dev nD) : Dat τ (Elt Ideal) Unit ℕ (Pipeline.UD sig nD τ) ℕ cfg0 c where
  A w := Gen.V m c (Pipeline.arrRef spec0 w)
  after w t := match w with
    | ⟨0, _⟩ => iblk m c 0 t
    | ⟨1, _⟩ => iblk m c 1 t
  Φ t := Phi m c t.val
  q _ := fullShare
  owed _ := 0
theorem Av_eq (c : Dev nD) (w : Fin cfg0.W) : (datv m 0 c).A w = Gen.V m c (Pipeline.arrRef spec0 w) := by
  dsimp only [datv]
theorem afterv_0 (c : Dev nD) (t : Fin cfg0.N) : (datv m 0 c).after 0 t = iblk m c 0 t := by dsimp only [datv]
theorem afterv_1 (c : Dev nD) (t : Fin cfg0.N) : (datv m 0 c).after 1 t = iblk m c 1 t := by dsimp only [datv]
theorem beforev_0 (c : Dev nD) (t : Fin cfg0.N) (d) : (datv m 0 c).before 0 t d = iblk m c 0 t :=
  ((datv m 0 c).before_in_eq_fetched 0 rfl (fun _ => rfl) (fun _ _ _ => rfl) (fun t => by rw [afterv_0]; unfold Dat.blockOf iblk; rw [Av_eq]; try rfl) t d).trans
    (by unfold Dat.fetched Dat.blockOf iblk; rw [Av_eq]; try rfl)
theorem beforev_1 (c : Dev nD) (t : Fin cfg0.N) (d) : (datv m 0 c).before 1 t d = iblk m c 1 t :=
  ((datv m 0 c).before_in_eq_fetched 1 rfl (fun _ => rfl) (fun _ _ _ => rfl) (fun t => by rw [afterv_1]; unfold Dat.blockOf iblk; rw [Av_eq]; try rfl) t d).trans
    (by unfold Dat.fetched Dat.blockOf iblk; rw [Av_eq]; try rfl)
def bodyPreV (c : Dev nD) (t : Fin cfg0.N) : sProp 𝕄 :=
  iprop((datv m 0 c).Φ t.castSucc ∗ (datv m 0 c).owesAt () t.castSucc
    ∗ (∃ d, owns (c : Thread nD τ) (win0_0.stage (cfg0.slots t 0)) fullShare ((datv m 0 c).before 0 t d)) ∗ (∃ d, owns (c : Thread nD τ) (win0_1.stage (cfg0.slots t 1)) fullShare ((datv m 0 c).before 1 t d)))
def bodyPostV (c : Dev nD) (t : Fin cfg0.N) : sProp 𝕄 :=
  iprop((datv m 0 c).Φ t.succ ∗ (datv m 0 c).owesAt () t.succ
    ∗ owns (c : Thread nD τ) (win0_0.stage (cfg0.slots t 0)) fullShare ((datv m 0 c).after 0 t) ∗ owns (c : Thread nD τ) (win0_1.stage (cfg0.slots t 1)) fullShare ((datv m 0 c).after 1 t))
theorem stgv0 (c : Dev nD) (t : Fin cfg0.N) (d) : (owns (c : Thread nD τ) (win0_0.stage (cfg0.slots t 0)) fullShare ((datv m 0 c).before 0 t d) : sProp 𝕄) ⊢ ((b3.view.loc (c : Thread nD τ)) ↦[Finset.univ]{fullShare} (iblk m c 0 t0_0)) := by
  rw [beforev_0, own0, point_eq t]
theorem stgv1 (c : Dev nD) (t : Fin cfg0.N) (d) : (owns (c : Thread nD τ) (win0_1.stage (cfg0.slots t 1)) fullShare ((datv m 0 c).before 1 t d) : sProp 𝕄) ⊢ ((b7.view.loc (c : Thread nD τ)) ↦[Finset.univ]{fullShare} (iblk m c 1 t0_0)) := by
  rw [beforev_1, own1, point_eq t]
theorem soundv_body (c : Dev nD) (t : Fin cfg0.N) :
    bodyPreV m c t ⊢ wp frame (wpE (defs₀ (F := Ideal)) Variants.none c none) Set.univ (bodyAt0 t) (fun _ => bodyPostV m c t) := by
  rw [at_eq]
  have h := bodyv_mid m c
  unfold T at h
  have i : bodyPreV m c t ⊢ MidF m c := by
    unfold bodyPreV
    rw [show (datv m 0 c).Φ t.castSucc = Pipeline.ΦDR osem0 spec0 H0 R0 (Gen.V m) c from by rw [point_eq t]; exact phi_0 m c, PhiDR0_eq]
    unfold Dat.owesAt Pipeline.owesWithin
    rw [show (datv m 0 c).owed t.castSucc = 0 from rfl]
    iintro ⟨HΦ, ⟨%W, -, HW⟩, ⟨%d, H0⟩, ⟨%d', H1⟩⟩
    unfold MidF Owes
    isplitl [HΦ]; · iexact HΦ
    isplitl [HW]
    · iexists W; iexact HW
    isplitl [H0]
    · iapply (stgv0 m c t d); iexact H0
    iapply (stgv1 m c t d'); iexact H1
  have o : MidV m c ⊢ bodyPostV m c t := by
    unfold bodyPostV
    rw [show (datv m 0 c).Φ t.succ = iprop(Pipeline.ΦD osem0 spec0 H0 (Gen.V m) c ∗ Pipeline.routedSat R0 c (PG0 m c)) from phi_n m c (n := t.succ.val) (Nat.succ_ne_zero _), Pipeline.ΦD_eq, scoped_eq, hbmPts0_eq]
    unfold Dat.owesAt Pipeline.owesWithin
    rw [show (datv m 0 c).owed t.succ = 0 from rfl]
    rw [afterv_0, afterv_1, own0, own1, point_eq t]
    unfold MidV Owes
    iintro ⟨⟨HS, Hg, Ho, HA, HB⟩, ⟨%W, HW⟩, H0, H1⟩
    isplitl [HS Hg Ho HA HB]
    · isplitl [HS Hg Ho HA]
      · isplitl [HS]; · iexact HS
        isplitl [Hg]; · iexact Hg
        isplitl [Ho]; · iexact Ho
        iexact HA
      iapply (sat_intro m c); iexact HB
    isplitl [HW]
    · iexists W; isplitr; · ipureintro; exact fun _ _ => Or.inl trivial
      iexact HW
    isplitl [H0]; · iexact H0
    iexact H1
  exact i.trans (h.trans (wp_mono _ _ _ fun _ => o))
theorem bodyv_obligation (c : Dev nD) : BodyObligation (datv m 0 c) (defs₀ (F := Ideal)) Variants.none () Set.univ := fun t => by
  rw [bigSep_W0, bigSep_W0, defs₀_row]
  exact triple_restated (soundv_body m c t) rfl .rfl fun _ => .rfl
theorem phi_in (c : Dev nD) : (Pipeline.ΦDRG osem0 spec0 H0 R0 (Gen.V m) (Gen.V m) c : sProp 𝕄) ⊢ (datv m 0 c).Φ 0 := by
  rw [show (datv m 0 c).Φ 0 = Pipeline.ΦDR osem0 spec0 H0 R0 (Gen.V m) c from phi_0 m c]
  exact Pipeline.ΦDRG_ΦDR osem0 spec0 H0 R0 (Gen.V m) (Gen.V m) c
theorem phi_out (c : Dev nD) : (datv m 0 c).Φ (Fin.last cfg0.N) ⊢ iprop(Pipeline.ΦD osem0 spec0 H0 (Gen.V m) c ∗ Pipeline.routedSat R0 c (PG0 m c)) := by
  rw [show (datv m 0 c).Φ (Fin.last cfg0.N) = iprop(Pipeline.ΦD osem0 spec0 H0 (Gen.V m) c ∗ Pipeline.routedSat R0 c (PG0 m c)) from phi_n m c (n := (Fin.last cfg0.N).val) (by show grid0.N ≠ 0; rw [N_0]; decide)]
set_option backward.isDefEq.respectTransparency.types false in
theorem runv : θ_run defs (onTc (τ := τ) (main (F := Ideal))) (s₀ m ρ) (fun r => Pipeline.FramePostR cfgs (datv m) 0 R0 (Gen.V m) r
    ∧ ∀ c : Dev nD, ∃ W : (b : Ref sig .tc) → Buf (Elt Ideal) ((c.tc : Thread nD τ).loc b), PG0 m c W ∧ ∀ b ∈ R0, r.2.mem ((c.tc : Thread nD τ).loc b) = W b) := by
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  exact Pipeline.RDat.θ_run_frameP_dmaRSat_shared (Q' := _) (fun q => (cfgs q).toPCfg (Val := Elt Ideal)) (fun q => (cfgs q).toPCfg_adm) (0 : Fin 1) launch0.to₀.toP osem0 defs₀ Variants.none
    (fun c => (datv m 0 c).toR) ownSemFacts0 H0 R0 (H0_sub.trans hrest) (R0_sub.trans (Finset.sdiff_subset_sdiff hrest subset_rfl)) m ρ main
    (hbody := fun c => (bodyv_obligation m c).loose.toR) (hq := fun c w h => (datv m 0 c).toR.q_eq_shareOf_of_share_full launch0.win.arr_inj ((datv m 0 c).share_full fun _ => rfl) w h)
    (howed := fun _ _ => rfl) (V := Gen.V m) (hmain := hmainD m Variants.none) (hA := Av_eq m) (hpf := fun _ k => k.elim0)
    (PG := PG0 m)
    (hin := fun c => (show _ ⊢ Pipeline.ΦDRG osem0 spec0 H0 R0 (Gen.V m) (Gen.V m) c from by iintro ⟨H, -⟩; iexact H).trans (phi_in m c)) (hout := phi_out m)
    (hQ' := fun r h => ⟨Pipeline.RDat.FramePostR.toDat cfgs (datv m) 0 R0 (Gen.V m) r h.1.1, h.1.2⟩)

end Cert.KernelIdeal.Hand
-- ==== Proof.RVal.lean ====
module

public import proofs.«01_k».proof.Proof.IVal
public import proofs.«01_k».proof.Proof.Gen.ReferenceIdeal.Value

/-! The reference's value over the reals: the residual plus the down projection. -/

@[expose] public section
noncomputable section

namespace Cert.ReferenceIdeal.Hand
open Idealize.ShloMosaic Idealize.ShloMosaic.TcCoe
open Idealize.ShloMosaic.ValueIdx
open Cert.ReferenceIdeal Cert.ReferenceIdeal.Gen
open Cert.KernelIdeal.Hand (Ins D2 D2_at)
open Idealize.ShloMosaic.Pipeline (Dat)

/-- The scaled activations. -/
def hx (x0 : Vec Ideal S256x14336 .fp8e4m3) (x1 : Vec Ideal S256x112 .f32) : FVec Ideal S256x14336 .bf16 :=
  shapeCast S256x14336 (mulf (shapeCast S256x112x128 (extf .bf16 (shapeCast S256x14336 x0 shapeCasts_S256x14336_S256x14336 : FVec Ideal S256x14336 .fp8e4m3) bitsLt_fp8e4m3_bf16 : FVec Ideal S256x14336 .bf16) shapeCasts_S256x14336_S256x112x128 : FVec Ideal S256x112x128 .bf16)
    (broadcastTo S256x112x128 (shapeCast S256x112x1 (truncf .bf16 (shapeCast S256x112 x1 shapeCasts_S256x112_S256x112 : FVec Ideal S256x112 .f32) bitsLt_bf16_f32 : FVec Ideal S256x112 .bf16) shapeCasts_S256x112_S256x112x1 : FVec Ideal S256x112x1 .bf16) broadcasts_S256x112x1_S256x112x128)) shapeCasts_S256x112x128_S256x14336
/-- The scaled weight. -/
def wx (x2 : Vec Ideal S14336x3584 .fp8e4m3) (x3 : Vec Ideal S112x28 .f32) : FVec Ideal S14336x3584 .bf16 :=
  shapeCast S14336x3584 (mulf (shapeCast S112x128x28x128 (extf .bf16 (x2 : FVec Ideal S14336x3584 .fp8e4m3) bitsLt_fp8e4m3_bf16 : FVec Ideal S14336x3584 .bf16) shapeCasts_S14336x3584_S112x128x28x128 : FVec Ideal S112x128x28x128 .bf16)
    (broadcastTo S112x128x28x128 (shapeCast S112x1x28x1 (truncf .bf16 (x3 : FVec Ideal S112x28 .f32) bitsLt_bf16_f32 : FVec Ideal S112x28 .bf16) shapeCasts_S112x28_S112x1x28x1 : FVec Ideal S112x1x28x1 .bf16) broadcasts_S112x1x28x1_S112x128x28x128)) shapeCasts_S112x128x28x128_S14336x3584

variable (x0 : Vec Ideal S256x14336 .fp8e4m3) (x1 : Vec Ideal S256x112 .f32) (x2 : Vec Ideal S14336x3584 .fp8e4m3) (x3 : Vec Ideal S112x28 .f32) (x4 : Vec Ideal S256x3584 .bf16)
def ins : Ins where
  h := x0
  hs := x1
  w := x2
  ws := x3
  res := x4
theorem hx_at (r : Fin 256) (k : Fin 14336) : (hx x0 x1 (ix2 r k) : EReal) = (ins x0 x1 x2 x3 x4).H r.val k.val := by
  have hq : k.val / 128 < 112 := by omega
  have hr : k.val % 128 < 128 := by omega
  unfold hx
  refine (shapeCast_apply _ _ _ (ix3 r (⟨k.val / 128, hq⟩ : Fin 112) (⟨k.val % 128, hr⟩ : Fin 128)) ?_).trans ?_
  · rw [Shape.rowMajor_val_three, Shape.rowMajor_val_two]
    show (r.val * 112 + k.val / 128) * 128 + k.val % 128 = r.val * 14336 + k.val
    omega
  have e1 : (shapeCast S256x112x128 (extf .bf16 (shapeCast S256x14336 x0 shapeCasts_S256x14336_S256x14336 : FVec Ideal S256x14336 .fp8e4m3) bitsLt_fp8e4m3_bf16 : FVec Ideal S256x14336 .bf16) shapeCasts_S256x14336_S256x112x128 (ix3 r (⟨k.val / 128, hq⟩ : Fin 112) (⟨k.val % 128, hr⟩ : Fin 128)) : EReal) = D2 x0 r.val k.val := by
    refine (shapeCast_apply _ _ _ (ix2 r k) ?_).trans ?_
    · rw [Shape.rowMajor_val_three, Shape.rowMajor_val_two]
      show r.val * 14336 + k.val = (r.val * 112 + k.val / 128) * 128 + k.val % 128
      omega
    exact (shapeCast_apply (s := S256x14336) (t := S256x14336) x0 _ (ix2 r k) (ix2 r k) rfl).trans (D2_at x0 (ix2 r k) _ _ rfl rfl)
  have e2 : (broadcastTo S256x112x128 (shapeCast S256x112x1 (truncf .bf16 (shapeCast S256x112 x1 shapeCasts_S256x112_S256x112 : FVec Ideal S256x112 .f32) bitsLt_bf16_f32 : FVec Ideal S256x112 .bf16) shapeCasts_S256x112_S256x112x1 : FVec Ideal S256x112x1 .bf16) broadcasts_S256x112x1_S256x112x128 (ix3 r (⟨k.val / 128, hq⟩ : Fin 112) (⟨k.val % 128, hr⟩ : Fin 128)) : EReal) = D2 x1 r.val (k.val / 128) := by
    refine (broadcastTo_apply _ _ _ (ix3 r (⟨k.val / 128, hq⟩ : Fin 112) (0 : Fin 1)) ?_).trans ?_
    · intro b
      match b with
      | ⟨0, _⟩ => rfl
      | ⟨1, _⟩ => rfl
      | ⟨2, _⟩ => rfl
    refine (shapeCast_apply _ _ _ (ix2 r (⟨k.val / 128, hq⟩ : Fin 112)) ?_).trans ?_
    · rw [Shape.rowMajor_val_three, Shape.rowMajor_val_two]
      show r.val * 112 + k.val / 128 = (r.val * 112 + k.val / 128) * 1 + 0
      omega
    exact (shapeCast_apply (s := S256x112) (t := S256x112) x1 _ (ix2 r (⟨k.val / 128, hq⟩ : Fin 112)) (ix2 r (⟨k.val / 128, hq⟩ : Fin 112)) rfl).trans (D2_at x1 (ix2 r (⟨k.val / 128, hq⟩ : Fin 112)) _ _ rfl rfl)
  exact congrArg₂ (fun (p q : EReal) => p * q) e1 e2
theorem wx_at (k : Fin 14336) (n : Fin 3584) : (wx x2 x3 (ix2 k n) : EReal) = (ins x0 x1 x2 x3 x4).Wt k.val n.val := by
  have hq : k.val / 128 < 112 := by omega
  have hr : k.val % 128 < 128 := by omega
  have nq : n.val / 128 < 28 := by omega
  have nr : n.val % 128 < 128 := by omega
  unfold wx
  refine (shapeCast_apply _ _ _ (ix4 (⟨k.val / 128, hq⟩ : Fin 112) (⟨k.val % 128, hr⟩ : Fin 128) (⟨n.val / 128, nq⟩ : Fin 28) (⟨n.val % 128, nr⟩ : Fin 128)) ?_).trans ?_
  · rw [Shape.rowMajor_val_four, Shape.rowMajor_val_two]
    show ((k.val / 128 * 128 + k.val % 128) * 28 + n.val / 128) * 128 + n.val % 128 = k.val * 3584 + n.val
    omega
  have e1 : (shapeCast S112x128x28x128 (extf .bf16 (x2 : FVec Ideal S14336x3584 .fp8e4m3) bitsLt_fp8e4m3_bf16 : FVec Ideal S14336x3584 .bf16) shapeCasts_S14336x3584_S112x128x28x128 (ix4 (⟨k.val / 128, hq⟩ : Fin 112) (⟨k.val % 128, hr⟩ : Fin 128) (⟨n.val / 128, nq⟩ : Fin 28) (⟨n.val % 128, nr⟩ : Fin 128)) : EReal) = D2 x2 k.val n.val := by
    refine (shapeCast_apply _ _ _ (ix2 k n) ?_).trans (D2_at x2 (ix2 k n) _ _ rfl rfl)
    rw [Shape.rowMajor_val_four, Shape.rowMajor_val_two]
    show k.val * 3584 + n.val = ((k.val / 128 * 128 + k.val % 128) * 28 + n.val / 128) * 128 + n.val % 128
    omega
  have e2 : (broadcastTo S112x128x28x128 (shapeCast S112x1x28x1 (truncf .bf16 (x3 : FVec Ideal S112x28 .f32) bitsLt_bf16_f32 : FVec Ideal S112x28 .bf16) shapeCasts_S112x28_S112x1x28x1 : FVec Ideal S112x1x28x1 .bf16) broadcasts_S112x1x28x1_S112x128x28x128 (ix4 (⟨k.val / 128, hq⟩ : Fin 112) (⟨k.val % 128, hr⟩ : Fin 128) (⟨n.val / 128, nq⟩ : Fin 28) (⟨n.val % 128, nr⟩ : Fin 128)) : EReal) = D2 x3 (k.val / 128) (n.val / 128) := by
    refine (broadcastTo_apply _ _ _ (ix4 (⟨k.val / 128, hq⟩ : Fin 112) (0 : Fin 1) (⟨n.val / 128, nq⟩ : Fin 28) (0 : Fin 1)) ?_).trans ?_
    · intro b
      match b with
      | ⟨0, _⟩ => rfl
      | ⟨1, _⟩ => rfl
      | ⟨2, _⟩ => rfl
      | ⟨3, _⟩ => rfl
    refine (shapeCast_apply _ _ _ (ix2 (⟨k.val / 128, hq⟩ : Fin 112) (⟨n.val / 128, nq⟩ : Fin 28)) ?_).trans (D2_at x3 (ix2 (⟨k.val / 128, hq⟩ : Fin 112) (⟨n.val / 128, nq⟩ : Fin 28)) _ _ rfl rfl)
    rw [Shape.rowMajor_val_four, Shape.rowMajor_val_two]
    show k.val / 128 * 28 + n.val / 128 = ((k.val / 128 * 1 + 0) * 28 + n.val / 128) * 1 + 0
    omega
  exact congrArg₂ (fun (p q : EReal) => p * q) e1 e2
theorem pay_at (r : Fin 256) (n : Fin 3584) : (k0_pay1 x0 x1 x2 x3 x4 (ix2 r n) : EReal) = (ins x0 x1 x2 x3 x4).Out r.val n.val := by
  have e1 : (shapeCast S256x3584 x4 shapeCasts_S256x3584_S256x3584 (ix2 r n) : EReal) = D2 x4 r.val n.val :=
    (shapeCast_apply (s := S256x3584) (t := S256x3584) x4 _ (ix2 r n) (ix2 r n) rfl).trans (D2_at x4 (ix2 r n) _ _ rfl rfl)
  have e2 : (matmul dot_S256x14336_S14336x3584_S256x3584_1_0_0_1_n_n none (hx x0 x1) (wx x2 x3) (constant S256x3584 .f32 0x00000000#32 : FVec Ideal S256x3584 .f32) (ix2 r n) : EReal)
      = ∑ k ∈ Finset.range 14336, (ins x0 x1 x2 x3 x4).H r.val k * (ins x0 x1 x2 x3 x4).Wt k n.val := by
    refine (Ideal.matmul_plain_apply (M := 256) (K := 14336) (N := 3584) none (hx x0 x1) (wx x2 x3) (constant S256x3584 .f32 0x00000000#32 : FVec Ideal S256x3584 .f32) r n).trans ?_
    rw [Finset.sum_range]
    have z : ((constant S256x3584 .f32 0x00000000#32 : FVec Ideal S256x3584 .f32) (ix2 r n) : EReal) = 0 := Ideal.ofBits_zero_f32
    refine (congrArg₂ (fun (p q : EReal) => p + q) z (Finset.sum_congr rfl fun k _ => congrArg₂ (fun (p q : EReal) => p * q) (hx_at x0 x1 x2 x3 x4 r k) (wx_at x0 x1 x2 x3 x4 k n))).trans (zero_add _)
  exact congrArg₂ (fun (p q : EReal) => p + q) e1 e2
end Cert.ReferenceIdeal.Hand

namespace Cert.ReferenceIdeal.Hand
open Idealize.ShloMosaic Idealize.ShloMosaic.TcCoe
open Idealize.ShloMosaic.ValueIdx
open Cert.ReferenceIdeal Cert.ReferenceIdeal.Gen
open Cert.KernelIdeal.Hand (Ins D2 D2_at)
open Idealize.ShloMosaic.Pipeline (Dat)
variable (m : (ℓ : Loc nD τ sig) → Buf (Elt Ideal) ℓ)
theorem iblk0 (c : Dev nD) : iblk m c 0 t0_0 = (Gen.V m c main_v0 : S256x14336.Idx → EReal) := by
  funext y
  refine congrArg (Gen.V m c main_v0) (funext fun a => Fin.ext ?_)
  show 0 * _ + 1 * (y a).val = (y a).val
  omega
theorem iblk1 (c : Dev nD) : iblk m c 1 t0_0 = (Gen.V m c main_v1 : S256x112.Idx → EReal) := by
  funext y
  refine congrArg (Gen.V m c main_v1) (funext fun a => Fin.ext ?_)
  show 0 * _ + 1 * (y a).val = (y a).val
  omega
theorem iblk2 (c : Dev nD) : iblk m c 2 t0_0 = (Gen.V m c main_arg2 : S14336x3584.Idx → EReal) := by
  funext y
  refine congrArg (Gen.V m c main_arg2) (funext fun a => Fin.ext ?_)
  show 0 * _ + 1 * (y a).val = (y a).val
  omega
theorem iblk3 (c : Dev nD) : iblk m c 3 t0_0 = (Gen.V m c main_arg3 : S112x28.Idx → EReal) := by
  funext y
  refine congrArg (Gen.V m c main_arg3) (funext fun a => Fin.ext ?_)
  show 0 * _ + 1 * (y a).val = (y a).val
  omega
theorem iblk4 (c : Dev nD) : iblk m c 4 t0_0 = (Gen.V m c main_v2 : S256x3584.Idx → EReal) := by
  funext y
  refine congrArg (Gen.V m c main_v2) (funext fun a => Fin.ext ?_)
  show 0 * _ + 1 * (y a).val = (y a).val
  omega
theorem out_at (x0 : Vec Ideal S256x14336 .fp8e4m3) (x1 : Vec Ideal S256x112 .f32) (x2 : Vec Ideal S14336x3584 .fp8e4m3) (x3 : Vec Ideal S112x28 .f32) (x4 : Vec Ideal S256x3584 .bf16) :
    out0_5 x0 x1 x2 x3 x4 = k0_pay1 x0 x1 x2 x3 x4 := by
  have z : (![0, 0] : Fin 2 → ℕ) = fun _ => 0 := by funext a; match a with | ⟨0, _⟩ => rfl | ⟨1, _⟩ => rfl
  unfold out0_5
  refine (View.canon_unit_zero (S := S256x3584) z _ _).trans ?_
  have l0 : View.ld x0 r0_0 = x0 := View.ld_unit_zero (S := S256x14336) z _ x0
  have l1 : View.ld x1 r0_1 = x1 := View.ld_unit_zero (S := S256x112) z _ x1
  have l2 : View.ld x2 r0_2 = x2 := View.ld_unit_zero (S := S14336x3584) z _ x2
  have l3 : View.ld x3 r0_3 = x3 := View.ld_unit_zero (S := S112x28) z _ x3
  have l4 : View.ld x4 r0_4 = x4 := View.ld_unit_zero (S := S256x3584) z _ x4
  rw [l0, l1, l2, l3, l4]
/-- The arrays the down projection reads. -/
def insOf (c : Dev nD) : Ins := ins (Gen.V m c main_v0) (Gen.V m c main_v1) (Gen.V m c main_arg2) (Gen.V m c main_arg3) (Gen.V m c main_v2)
theorem value (c : Dev nD) (j : S256x3584.Idx) : ((dats m 0 c).arrAt 5 cfg0.N j : EReal) = (insOf m c).Out (j 0).val (j 1).val := by
  have h := congrFun (Value.blocks5 m c t0_0 (by decide)) j
  rw [Value.flushed5] at h
  have e : ((cfg0.win 5).blk t0_0).view.emb j = j := by
    funext a
    refine Fin.ext ?_
    show 0 * _ + 1 * (j a).val = (j a).val
    omega
  have h1 : ((dats m 0 c).arrAt 5 cfg0.N j : EReal) = out0_5 (iblk m c 0 t0_0) (iblk m c 1 t0_0) (iblk m c 2 t0_0) (iblk m c 3 t0_0) (iblk m c 4 t0_0) j :=
    (congrArg ((dats m 0 c).arrAt 5 cfg0.N) e).symm.trans h
  rw [h1, out_at, iblk0, iblk1, iblk2, iblk3, iblk4]
  have ej : (ix2 (n0 := 256) (n1 := 3584) (j 0) (j 1) : S256x3584.Idx) = j := by
    funext a
    match a with
    | ⟨0, _⟩ => rfl
    | ⟨1, _⟩ => rfl
  have hp := pay_at (Gen.V m c main_v0) (Gen.V m c main_v1) (Gen.V m c main_arg2) (Gen.V m c main_arg3) (Gen.V m c main_v2) (j 0) (j 1)
  rw [ej] at hp
  exact hp

end Cert.ReferenceIdeal.Hand
-- ==== Proof.IAlg.lean ====
module

public import proofs.«01_k».proof.Proof.IValRun
public import proofs.«01_k».proof.Proof.RVal
public import proofs.«01_k».proof.Defs
public import Idealize.ShloMosaic.Lib.StableHlo.RunRead

/-! The kernel's first result and the reference's are equal over the reals. -/

@[expose] public section
noncomputable section

namespace Cert.KernelIdeal.Hand
open Idealize.ShloMosaic Idealize.ShloMosaic.TcCoe Idealize.SL.Sem
open Cert.KernelIdeal Cert.KernelIdeal.Gen
variable (m : (ℓ : Loc nD τ sig) → Buf (Elt Ideal) ℓ) (ρ : Dev nD → PrngReg)
theorem V_k0 (c : Dev nD) : (Gen.V m c main_v11 : S256x14336.Idx → EReal) = shapeCast S256x14336 (m ((c.tc : Thread nD τ).loc main_arg0) : S2x128x14336.Idx → EReal) shapeCasts_S2x128x14336_S256x14336 := by
  refine (StableHlo.after_last_write (i := 16) [main_v12, main_v13, main_v14, main_v15] rfl rfl (by decide) _).trans ?_
  refine (StableHlo.reshape_result main_arg0 main_v11 rfl shapeCasts_S2x128x14336_S256x14336 _ _ _).trans ?_
  funext i
  exact congrFun (congrArg (fun f : S2x128x14336.Idx → EReal => shapeCast S256x14336 f shapeCasts_S2x128x14336_S256x14336) (StableHlo.upto_unwritten [main_v0, main_cst, main_v1, main_v2, main_cst_0, main_v3, main_v4, main_cst_1, main_v5, main_v6, main_cst_2, main_v7, main_v8, main_cst_3, main_v9, main_v10] rfl (by decide) _)) i
theorem V_k1 (c : Dev nD) : (Gen.V m c main_v12 : S256x112.Idx → EReal) = shapeCast S256x112 (m ((c.tc : Thread nD τ).loc main_arg1) : S2x128x112.Idx → EReal) shapeCasts_S2x128x112_S256x112 := by
  refine (StableHlo.after_last_write (i := 17) [main_v13, main_v14, main_v15] rfl rfl (by decide) _).trans ?_
  refine (StableHlo.reshape_result main_arg1 main_v12 rfl shapeCasts_S2x128x112_S256x112 _ _ _).trans ?_
  funext i
  exact congrFun (congrArg (fun f : S2x128x112.Idx → EReal => shapeCast S256x112 f shapeCasts_S2x128x112_S256x112) (StableHlo.upto_unwritten [main_v0, main_cst, main_v1, main_v2, main_cst_0, main_v3, main_v4, main_cst_1, main_v5, main_v6, main_cst_2, main_v7, main_v8, main_cst_3, main_v9, main_v10, main_v11] rfl (by decide) _)) i
theorem V_k2 (c : Dev nD) : (Gen.V m c main_v13 : S256x3584.Idx → EReal) = shapeCast S256x3584 (m ((c.tc : Thread nD τ).loc main_arg4) : S2x128x3584.Idx → EReal) shapeCasts_S2x128x3584_S256x3584 := by
  refine (StableHlo.after_last_write (i := 18) [main_v14, main_v15] rfl rfl (by decide) _).trans ?_
  refine (StableHlo.reshape_result main_arg4 main_v13 rfl shapeCasts_S2x128x3584_S256x3584 _ _ _).trans ?_
  funext i
  exact congrFun (congrArg (fun f : S2x128x3584.Idx → EReal => shapeCast S256x3584 f shapeCasts_S2x128x3584_S256x3584) (StableHlo.upto_unwritten [main_v0, main_cst, main_v1, main_v2, main_cst_0, main_v3, main_v4, main_cst_1, main_v5, main_v6, main_cst_2, main_v7, main_v8, main_cst_3, main_v9, main_v10, main_v11, main_v12] rfl (by decide) _)) i
theorem iblk_ws (c : Dev nD) : (iblk m c 0 t0_0 : S112x28.Idx → EReal) = m ((c.tc : Thread nD τ).loc main_arg3) := by
  refine Eq.trans ?_ (V_main_arg3 m c)
  funext y
  refine congrArg (Gen.V m c main_arg3) (funext fun a => Fin.ext ?_)
  show 0 * _ + 1 * (y a).val = (y a).val
  omega
/-- The first result and the arguments after the run. -/
theorem run_value : θ_run defs (onTc (τ := τ) (main (F := Ideal))) ⟨m, fun _ => 0, ρ⟩ (fun r => ∀ c : Dev nD,
      r.2.mem ((c.tc : Thread nD τ).loc main_v16_0) = (fun j : S256x3584.Idx => (insOf m c).Out (j 0).val (j 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => by
    obtain ⟨h, hv⟩ := hr
    obtain ⟨W, hP, hW⟩ := hv c
    exact ⟨(hW main_v16_0 (by decide)).trans (funext hP), ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).1 0).trans (((datv m 0 c).arrAt_in 0 rfl _).trans ((Av_eq m c 0).trans (V_main_arg3 m c))),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).1 1).trans (((datv m 0 c).arrAt_in 1 rfl _).trans ((Av_eq m c 1).trans (V_main_arg7 m c))),
      ((h c).2 main_arg8 (Finset.mem_sdiff.mpr ⟨Pipeline.mem_restRefs_of main_arg8 (by decide) (by decide), by decide⟩)).trans (V_main_arg8 m c)⟩) (runv m ρ)
end Cert.KernelIdeal.Hand

namespace Cert.ReferenceIdeal.Hand
open Idealize.ShloMosaic Idealize.ShloMosaic.TcCoe Idealize.SL.Sem
open Cert.ReferenceIdeal Cert.ReferenceIdeal.Gen
variable (m : (ℓ : Loc nD τ sig) → Buf (Elt Ideal) ℓ)
theorem V_r0 (c : Dev nD) : (Gen.V m c main_v0 : S256x14336.Idx → EReal) = shapeCast S256x14336 (m ((c.tc : Thread nD τ).loc main_arg0) : S2x128x14336.Idx → EReal) shapeCasts_S2x128x14336_S256x14336 := by
  refine (StableHlo.after_last_write (i := 0) [main_v1, main_v2] rfl rfl (by decide) _).trans ?_
  refine (StableHlo.reshape_result main_arg0 main_v0 rfl shapeCasts_S2x128x14336_S256x14336 _ _ _).trans ?_
  funext i
  exact congrFun (congrArg (fun f : S2x128x14336.Idx → EReal => shapeCast S256x14336 f shapeCasts_S2x128x14336_S256x14336) (StableHlo.upto_unwritten [] rfl (by decide) _)) i
theorem V_r1 (c : Dev nD) : (Gen.V m c main_v1 : S256x112.Idx → EReal) = shapeCast S256x112 (m ((c.tc : Thread nD τ).loc main_arg1) : S2x128x112.Idx → EReal) shapeCasts_S2x128x112_S256x112 := by
  refine (StableHlo.after_last_write (i := 1) [main_v2] rfl rfl (by decide) _).trans ?_
  refine (StableHlo.reshape_result main_arg1 main_v1 rfl shapeCasts_S2x128x112_S256x112 _ _ _).trans ?_
  funext i
  exact congrFun (congrArg (fun f : S2x128x112.Idx → EReal => shapeCast S256x112 f shapeCasts_S2x128x112_S256x112) (StableHlo.upto_unwritten [main_v0] rfl (by decide) _)) i
theorem V_r2 (c : Dev nD) : (Gen.V m c main_v2 : S256x3584.Idx → EReal) = shapeCast S256x3584 (m ((c.tc : Thread nD τ).loc main_arg4) : S2x128x3584.Idx → EReal) shapeCasts_S2x128x3584_S256x3584 := by
  refine (StableHlo.after_last_write (i := 2) [] rfl rfl (by decide) _).trans ?_
  refine (StableHlo.reshape_result main_arg4 main_v2 rfl shapeCasts_S2x128x3584_S256x3584 _ _ _).trans ?_
  funext i
  exact congrFun (congrArg (fun f : S2x128x3584.Idx → EReal => shapeCast S256x3584 f shapeCasts_S2x128x3584_S256x3584) (StableHlo.upto_unwritten [main_v0, main_v1] rfl (by decide) _)) i
end Cert.ReferenceIdeal.Hand

namespace Cert.Proof
open Idealize.ShloMosaic Idealize.ShloMosaic.TcCoe Idealize.SL.Sem
/-- From equal arguments, the kernel's first result equals the reference's. -/
theorem algebraic : Cert.algebraic_KernelIdeal_ReferenceIdeal (hKernelIdeal := Cert.KernelIdeal.Gen.facts) (hReferenceIdeal := Cert.ReferenceIdeal.Gen.facts) := by
  intro m g m' g' _ hag
  refine ⟨fun c => fun j : Cert.KernelIdeal.S256x3584.Idx => (Cert.KernelIdeal.Hand.insOf m c).Out (j 0).val (j 1).val, Cert.KernelIdeal.Hand.run_value m g, ?_⟩
  refine (θ_run _ _ _).mono (fun r h c => ⟨(h c).1.trans (funext fun j => (Cert.ReferenceIdeal.Hand.value m' c j).trans ?_), (h c).2⟩) (Cert.ReferenceIdeal.Value.run_blocks m' g')
  obtain ⟨a0, a1, a2, a3, a4, -⟩ := hag c
  have e : Cert.ReferenceIdeal.Hand.insOf m' c = Cert.KernelIdeal.Hand.insOf m c := by
    unfold Cert.ReferenceIdeal.Hand.insOf Cert.ReferenceIdeal.Hand.ins Cert.KernelIdeal.Hand.insOf
    have e0 := (Cert.ReferenceIdeal.Hand.V_r0 m' c).trans ((congrArg (fun f : Cert.KernelIdeal.S2x128x14336.Idx → EReal => shapeCast Cert.KernelIdeal.S256x14336 f Cert.KernelIdeal.Gen.shapeCasts_S2x128x14336_S256x14336) a0).trans (Cert.KernelIdeal.Hand.V_k0 m c).symm)
    have e1 := (Cert.ReferenceIdeal.Hand.V_r1 m' c).trans ((congrArg (fun f : Cert.KernelIdeal.S2x128x112.Idx → EReal => shapeCast Cert.KernelIdeal.S256x112 f Cert.KernelIdeal.Gen.shapeCasts_S2x128x112_S256x112) a1).trans (Cert.KernelIdeal.Hand.V_k1 m c).symm)
    have e4 := (Cert.ReferenceIdeal.Hand.V_r2 m' c).trans ((congrArg (fun f : Cert.KernelIdeal.S2x128x3584.Idx → EReal => shapeCast Cert.KernelIdeal.S256x3584 f Cert.KernelIdeal.Gen.shapeCasts_S2x128x3584_S256x3584) a4).trans (Cert.KernelIdeal.Hand.V_k2 m c).symm)
    have e2 := (Cert.ReferenceIdeal.Gen.V_main_arg2 m' c).trans (a2.trans (Cert.KernelIdeal.Gen.V_main_arg2 m c).symm)
    have e3 := (Cert.ReferenceIdeal.Gen.V_main_arg3 m' c).trans (a3.trans (Cert.KernelIdeal.Hand.iblk_ws m c).symm)
    exact congr (congr (congr (congr (congrArg Cert.KernelIdeal.Hand.Ins.mk e0) e1) e2) e3) e4
  exact congrArg (fun A : Cert.KernelIdeal.Hand.Ins => A.Out (j 0).val (j 1).val) e
end Cert.Proof
-- ==== Proof.lean ====
module

public import proofs.«01_k».proof.Defs
public import proofs.«01_k».proof.Proof.Frame
public import proofs.«01_k».proof.Proof.IFrame
public import proofs.«01_k».proof.Proof.IAlg
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Lib.Bf16Pair

@[expose] public section

noncomputable section

namespace Cert.Proof

open Idealize.ShloMosaic Idealize.SL.Sem

/-- The kernel, as it runs on its bits. -/
theorem quiescent_kernel : quiescent_Kernel (hKernel := Cert.Kernel.Gen.facts) := fun m g _ => Cert.Kernel.Hand.frame_all m g
/-- The same over the extended reals. -/
theorem quiescent_ideal : quiescent_KernelIdeal (hKernelIdeal := Cert.KernelIdeal.Gen.facts) := fun m g _ => Cert.KernelIdeal.Hand.frame_all m g
/-- The idealization replaces words of two bf16 values by the two values, and nothing else. -/
theorem preserves : preserves_Kernel_KernelIdeal := ⟨IdealRules.bf16_pair.packStatement _, IdealRules.bf16_pair.statement _ _⟩

/-- The reference. -/
theorem quiescent_ref : quiescent_ReferenceIdeal (hReferenceIdeal := Cert.ReferenceIdeal.Gen.facts) := fun m g _ => Cert.ReferenceIdeal.Gen.frame m g

theorem claim : Cert.Claim := ⟨Cert.Kernel.Gen.facts, Cert.KernelIdeal.Gen.facts, Cert.ReferenceIdeal.Gen.facts, quiescent_kernel, quiescent_ideal, quiescent_ref, preserves, algebraic⟩

end Cert.Proof

end
